-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15)) (m ((c.tc : Thread Cert.Kernel2Ideal.nD Cert.Kernel2Ideal.τ).loc Cert.Kernel2Ideal.main_arg16))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14)) (m ((c.tc : Thread Cert.Reference2Ideal.nD Cert.Reference2Ideal.τ).loc Cert.Reference2Ideal.main_arg15)) (m ((c.tc : Thread Cert.Reference2Ideal.nD Cert.Reference2Ideal.τ).loc Cert.Reference2Ideal.main_arg16))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13)) (m ((c.tc : Thread Cert.Kernel5Ideal.nD Cert.Kernel5Ideal.τ).loc Cert.Kernel5Ideal.main_arg14)) (m ((c.tc : Thread Cert.Kernel5Ideal.nD Cert.Kernel5Ideal.τ).loc Cert.Kernel5Ideal.main_arg15)) (m ((c.tc : Thread Cert.Kernel5Ideal.nD Cert.Kernel5Ideal.τ).loc Cert.Kernel5Ideal.main_arg16)) (m ((c.tc : Thread Cert.Kernel5Ideal.nD Cert.Kernel5Ideal.τ).loc Cert.Kernel5Ideal.main_arg17)) (m ((c.tc : Thread Cert.Kernel5Ideal.nD Cert.Kernel5Ideal.τ).loc Cert.Kernel5Ideal.main_arg18))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13)) (m ((c.tc : Thread Cert.Reference5Ideal.nD Cert.Reference5Ideal.τ).loc Cert.Reference5Ideal.main_arg14)) (m ((c.tc : Thread Cert.Reference5Ideal.nD Cert.Reference5Ideal.τ).loc Cert.Reference5Ideal.main_arg15)) (m ((c.tc : Thread Cert.Reference5Ideal.nD Cert.Reference5Ideal.τ).loc Cert.Reference5Ideal.main_arg16)) (m ((c.tc : Thread Cert.Reference5Ideal.nD Cert.Reference5Ideal.τ).loc Cert.Reference5Ideal.main_arg17)) (m ((c.tc : Thread Cert.Reference5Ideal.nD Cert.Reference5Ideal.τ).loc Cert.Reference5Ideal.main_arg18))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15)
      ∧ r.2.mem ((c.tc : Thread Cert.Kernel2.nD Cert.Kernel2.τ).loc Cert.Kernel2.main_arg16) = m ((c.tc : Thread Cert.Kernel2.nD Cert.Kernel2.τ).loc Cert.Kernel2.main_arg16))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
      ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
      ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15)
      ∧ r.2.mem ((c.tc : Thread Cert.Reference2Ideal.nD Cert.Reference2Ideal.τ).loc Cert.Reference2Ideal.main_arg16) = m ((c.tc : Thread Cert.Reference2Ideal.nD Cert.Reference2Ideal.τ).loc Cert.Reference2Ideal.main_arg16))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15)
      ∧ r.2.mem ((c.tc : Thread Cert.Reference2Ideal.nD Cert.Reference2Ideal.τ).loc Cert.Reference2Ideal.main_arg16) = m ((c.tc : Thread Cert.Reference2Ideal.nD Cert.Reference2Ideal.τ).loc Cert.Reference2Ideal.main_arg16))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12)
      ∧ r.2.mem ((c.tc : Thread Cert.Kernel5.nD Cert.Kernel5.τ).loc Cert.Kernel5.main_arg13) = m ((c.tc : Thread Cert.Kernel5.nD Cert.Kernel5.τ).loc Cert.Kernel5.main_arg13)
      ∧ r.2.mem ((c.tc : Thread Cert.Kernel5.nD Cert.Kernel5.τ).loc Cert.Kernel5.main_arg14) = m ((c.tc : Thread Cert.Kernel5.nD Cert.Kernel5.τ).loc Cert.Kernel5.main_arg14)
      ∧ r.2.mem ((c.tc : Thread Cert.Kernel5.nD Cert.Kernel5.τ).loc Cert.Kernel5.main_arg15) = m ((c.tc : Thread Cert.Kernel5.nD Cert.Kernel5.τ).loc Cert.Kernel5.main_arg15)
      ∧ r.2.mem ((c.tc : Thread Cert.Kernel5.nD Cert.Kernel5.τ).loc Cert.Kernel5.main_arg16) = m ((c.tc : Thread Cert.Kernel5.nD Cert.Kernel5.τ).loc Cert.Kernel5.main_arg16)
      ∧ r.2.mem ((c.tc : Thread Cert.Kernel5.nD Cert.Kernel5.τ).loc Cert.Kernel5.main_arg17) = m ((c.tc : Thread Cert.Kernel5.nD Cert.Kernel5.τ).loc Cert.Kernel5.main_arg17)
      ∧ r.2.mem ((c.tc : Thread Cert.Kernel5.nD Cert.Kernel5.τ).loc Cert.Kernel5.main_arg18) = m ((c.tc : Thread Cert.Kernel5.nD Cert.Kernel5.τ).loc Cert.Kernel5.main_arg18))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
      ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
      ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15)
      ∧ r.2.mem ((c.tc : Thread Cert.Kernel5Ideal.nD Cert.Kernel5Ideal.τ).loc Cert.Kernel5Ideal.main_arg16) = m ((c.tc : Thread Cert.Kernel5Ideal.nD Cert.Kernel5Ideal.τ).loc Cert.Kernel5Ideal.main_arg16)
      ∧ r.2.mem ((c.tc : Thread Cert.Kernel5Ideal.nD Cert.Kernel5Ideal.τ).loc Cert.Kernel5Ideal.main_arg17) = m ((c.tc : Thread Cert.Kernel5Ideal.nD Cert.Kernel5Ideal.τ).loc Cert.Kernel5Ideal.main_arg17)
      ∧ r.2.mem ((c.tc : Thread Cert.Kernel5Ideal.nD Cert.Kernel5Ideal.τ).loc Cert.Kernel5Ideal.main_arg18) = m ((c.tc : Thread Cert.Kernel5Ideal.nD Cert.Kernel5Ideal.τ).loc Cert.Kernel5Ideal.main_arg18))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
      ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
      ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15)
      ∧ r.2.mem ((c.tc : Thread Cert.Kernel5Ideal.nD Cert.Kernel5Ideal.τ).loc Cert.Kernel5Ideal.main_arg16) = m ((c.tc : Thread Cert.Kernel5Ideal.nD Cert.Kernel5Ideal.τ).loc Cert.Kernel5Ideal.main_arg16)
      ∧ r.2.mem ((c.tc : Thread Cert.Kernel5Ideal.nD Cert.Kernel5Ideal.τ).loc Cert.Kernel5Ideal.main_arg17) = m ((c.tc : Thread Cert.Kernel5Ideal.nD Cert.Kernel5Ideal.τ).loc Cert.Kernel5Ideal.main_arg17)
      ∧ r.2.mem ((c.tc : Thread Cert.Kernel5Ideal.nD Cert.Kernel5Ideal.τ).loc Cert.Kernel5Ideal.main_arg18) = m ((c.tc : Thread Cert.Kernel5Ideal.nD Cert.Kernel5Ideal.τ).loc Cert.Kernel5Ideal.main_arg18))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13)
      ∧ r.2.mem ((c.tc : Thread Cert.Reference5Ideal.nD Cert.Reference5Ideal.τ).loc Cert.Reference5Ideal.main_arg14) = m ((c.tc : Thread Cert.Reference5Ideal.nD Cert.Reference5Ideal.τ).loc Cert.Reference5Ideal.main_arg14)
      ∧ r.2.mem ((c.tc : Thread Cert.Reference5Ideal.nD Cert.Reference5Ideal.τ).loc Cert.Reference5Ideal.main_arg15) = m ((c.tc : Thread Cert.Reference5Ideal.nD Cert.Reference5Ideal.τ).loc Cert.Reference5Ideal.main_arg15)
      ∧ r.2.mem ((c.tc : Thread Cert.Reference5Ideal.nD Cert.Reference5Ideal.τ).loc Cert.Reference5Ideal.main_arg16) = m ((c.tc : Thread Cert.Reference5Ideal.nD Cert.Reference5Ideal.τ).loc Cert.Reference5Ideal.main_arg16)
      ∧ r.2.mem ((c.tc : Thread Cert.Reference5Ideal.nD Cert.Reference5Ideal.τ).loc Cert.Reference5Ideal.main_arg17) = m ((c.tc : Thread Cert.Reference5Ideal.nD Cert.Reference5Ideal.τ).loc Cert.Reference5Ideal.main_arg17)
      ∧ r.2.mem ((c.tc : Thread Cert.Reference5Ideal.nD Cert.Reference5Ideal.τ).loc Cert.Reference5Ideal.main_arg18) = m ((c.tc : Thread Cert.Reference5Ideal.nD Cert.Reference5Ideal.τ).loc Cert.Reference5Ideal.main_arg18))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13)
      ∧ r.2.mem ((c.tc : Thread Cert.Reference5Ideal.nD Cert.Reference5Ideal.τ).loc Cert.Reference5Ideal.main_arg14) = m ((c.tc : Thread Cert.Reference5Ideal.nD Cert.Reference5Ideal.τ).loc Cert.Reference5Ideal.main_arg14)
      ∧ r.2.mem ((c.tc : Thread Cert.Reference5Ideal.nD Cert.Reference5Ideal.τ).loc Cert.Reference5Ideal.main_arg15) = m ((c.tc : Thread Cert.Reference5Ideal.nD Cert.Reference5Ideal.τ).loc Cert.Reference5Ideal.main_arg15)
      ∧ r.2.mem ((c.tc : Thread Cert.Reference5Ideal.nD Cert.Reference5Ideal.τ).loc Cert.Reference5Ideal.main_arg16) = m ((c.tc : Thread Cert.Reference5Ideal.nD Cert.Reference5Ideal.τ).loc Cert.Reference5Ideal.main_arg16)
      ∧ r.2.mem ((c.tc : Thread Cert.Reference5Ideal.nD Cert.Reference5Ideal.τ).loc Cert.Reference5Ideal.main_arg17) = m ((c.tc : Thread Cert.Reference5Ideal.nD Cert.Reference5Ideal.τ).loc Cert.Reference5Ideal.main_arg17)
      ∧ r.2.mem ((c.tc : Thread Cert.Reference5Ideal.nD Cert.Reference5Ideal.τ).loc Cert.Reference5Ideal.main_arg18) = m ((c.tc : Thread Cert.Reference5Ideal.nD Cert.Reference5Ideal.τ).loc Cert.Reference5Ideal.main_arg18))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v14)) (v2 : (c : Dev Cert.KernelIdeal.nD) → Buf (Elt Ideal) ((c.tc : Thread Cert.KernelIdeal.nD Cert.KernelIdeal.τ).loc Cert.KernelIdeal.main_v9_1)) (v3 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_v9_1) = v2 c
          ∧ r.2.mem ((c.tc : Thread Cert.KernelIdeal.nD Cert.KernelIdeal.τ).loc Cert.KernelIdeal.main_v16) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_v31) = v2 c
          ∧ r.2.mem ((c.tc : Thread Cert.ReferenceIdeal.nD Cert.ReferenceIdeal.τ).loc Cert.ReferenceIdeal.main_v38) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  IdealRules.named_const.Statement Cert.Kernel2Ideal.κ "three_c0_c1" .f32 0x3DDB33B6#32 ((241015141496493 / 2251799813685248 : ℝ) : EReal)

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)
      ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15)
      ∧ m' ((c.tc : Thread Cert.Reference2Ideal.nD Cert.Reference2Ideal.τ).loc Cert.Reference2Ideal.main_arg16) = m ((c.tc : Thread Cert.Kernel2Ideal.nD Cert.Kernel2Ideal.τ).loc Cert.Kernel2Ideal.main_arg16)) →
    ∃ (v0 : (c : Dev Cert.Kernel2Ideal.nD) → Buf (Elt Ideal) ((c.tc : Thread Cert.Kernel2Ideal.nD Cert.Kernel2Ideal.τ).loc Cert.Kernel2Ideal.main_v172)) (v1 : (c : Dev Cert.Kernel2Ideal.nD) → Buf (Elt Ideal) ((c.tc : Thread Cert.Kernel2Ideal.nD Cert.Kernel2Ideal.τ).loc Cert.Kernel2Ideal.main_v174)) (v2 : (c : Dev Cert.Kernel2Ideal.nD) → Buf (Elt Ideal) ((c.tc : Thread Cert.Kernel2Ideal.nD Cert.Kernel2Ideal.τ).loc Cert.Kernel2Ideal.main_v176)) (v3 : (c : Dev Cert.Kernel2Ideal.nD) → Buf (Elt Ideal) ((c.tc : Thread Cert.Kernel2Ideal.nD Cert.Kernel2Ideal.τ).loc Cert.Kernel2Ideal.main_v182)) (v4 : (c : Dev Cert.Kernel2Ideal.nD) → Buf (Elt Ideal) ((c.tc : Thread Cert.Kernel2Ideal.nD Cert.Kernel2Ideal.τ).loc Cert.Kernel2Ideal.main_v185)) (v5 : (c : Dev Cert.Kernel2Ideal.nD) → Buf (Elt Ideal) ((c.tc : Thread Cert.Kernel2Ideal.nD Cert.Kernel2Ideal.τ).loc Cert.Kernel2Ideal.main_v187)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v172) = v0 c
          ∧ r.2.mem ((c.tc : Thread Cert.Kernel2Ideal.nD Cert.Kernel2Ideal.τ).loc Cert.Kernel2Ideal.main_v174) = v1 c
          ∧ r.2.mem ((c.tc : Thread Cert.Kernel2Ideal.nD Cert.Kernel2Ideal.τ).loc Cert.Kernel2Ideal.main_v176) = v2 c
          ∧ r.2.mem ((c.tc : Thread Cert.Kernel2Ideal.nD Cert.Kernel2Ideal.τ).loc Cert.Kernel2Ideal.main_v182) = v3 c
          ∧ r.2.mem ((c.tc : Thread Cert.Kernel2Ideal.nD Cert.Kernel2Ideal.τ).loc Cert.Kernel2Ideal.main_v185) = v4 c
          ∧ r.2.mem ((c.tc : Thread Cert.Kernel2Ideal.nD Cert.Kernel2Ideal.τ).loc Cert.Kernel2Ideal.main_v187) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
          ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
          ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v196) = v0 c
          ∧ r.2.mem ((c.tc : Thread Cert.Reference2Ideal.nD Cert.Reference2Ideal.τ).loc Cert.Reference2Ideal.main_v142) = v1 c
          ∧ r.2.mem ((c.tc : Thread Cert.Reference2Ideal.nD Cert.Reference2Ideal.τ).loc Cert.Reference2Ideal.main_v136) = v2 c
          ∧ r.2.mem ((c.tc : Thread Cert.Reference2Ideal.nD Cert.Reference2Ideal.τ).loc Cert.Reference2Ideal.main_v132) = v3 c
          ∧ r.2.mem ((c.tc : Thread Cert.Reference2Ideal.nD Cert.Reference2Ideal.τ).loc Cert.Reference2Ideal.main_v127) = v4 c
          ∧ r.2.mem ((c.tc : Thread Cert.Reference2Ideal.nD Cert.Reference2Ideal.τ).loc Cert.Reference2Ideal.main_v338) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14)
          ∧ r.2.mem ((c.tc : Thread Cert.Reference2Ideal.nD Cert.Reference2Ideal.τ).loc Cert.Reference2Ideal.main_arg15) = m' ((c.tc : Thread Cert.Reference2Ideal.nD Cert.Reference2Ideal.τ).loc Cert.Reference2Ideal.main_arg15)
          ∧ r.2.mem ((c.tc : Thread Cert.Reference2Ideal.nD Cert.Reference2Ideal.τ).loc Cert.Reference2Ideal.main_arg16) = m' ((c.tc : Thread Cert.Reference2Ideal.nD Cert.Reference2Ideal.τ).loc Cert.Reference2Ideal.main_arg16))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v4_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_v4_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v14) = v0 c
          ∧ r.2.mem ((c.tc : Thread Cert.Reference3Ideal.nD Cert.Reference3Ideal.τ).loc Cert.Reference3Ideal.main_v13) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v6_0)) (v1 : (c : Dev Cert.Kernel4Ideal.nD) → Buf (Elt Ideal) ((c.tc : Thread Cert.Kernel4Ideal.nD Cert.Kernel4Ideal.τ).loc Cert.Kernel4Ideal.main_v6_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6_0) = v0 c
          ∧ r.2.mem ((c.tc : Thread Cert.Kernel4Ideal.nD Cert.Kernel4Ideal.τ).loc Cert.Kernel4Ideal.main_v6_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v22) = v0 c
          ∧ r.2.mem ((c.tc : Thread Cert.Reference4Ideal.nD Cert.Reference4Ideal.τ).loc Cert.Reference4Ideal.main_v25) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)
      ∧ m' ((c.tc : Thread Cert.Reference5Ideal.nD Cert.Reference5Ideal.τ).loc Cert.Reference5Ideal.main_arg13) = m ((c.tc : Thread Cert.Kernel5Ideal.nD Cert.Kernel5Ideal.τ).loc Cert.Kernel5Ideal.main_arg13)
      ∧ m' ((c.tc : Thread Cert.Reference5Ideal.nD Cert.Reference5Ideal.τ).loc Cert.Reference5Ideal.main_arg14) = m ((c.tc : Thread Cert.Kernel5Ideal.nD Cert.Kernel5Ideal.τ).loc Cert.Kernel5Ideal.main_arg14)
      ∧ m' ((c.tc : Thread Cert.Reference5Ideal.nD Cert.Reference5Ideal.τ).loc Cert.Reference5Ideal.main_arg15) = m ((c.tc : Thread Cert.Kernel5Ideal.nD Cert.Kernel5Ideal.τ).loc Cert.Kernel5Ideal.main_arg15)
      ∧ m' ((c.tc : Thread Cert.Reference5Ideal.nD Cert.Reference5Ideal.τ).loc Cert.Reference5Ideal.main_arg16) = m ((c.tc : Thread Cert.Kernel5Ideal.nD Cert.Kernel5Ideal.τ).loc Cert.Kernel5Ideal.main_arg16)
      ∧ m' ((c.tc : Thread Cert.Reference5Ideal.nD Cert.Reference5Ideal.τ).loc Cert.Reference5Ideal.main_arg17) = m ((c.tc : Thread Cert.Kernel5Ideal.nD Cert.Kernel5Ideal.τ).loc Cert.Kernel5Ideal.main_arg17)
      ∧ m' ((c.tc : Thread Cert.Reference5Ideal.nD Cert.Reference5Ideal.τ).loc Cert.Reference5Ideal.main_arg18) = m ((c.tc : Thread Cert.Kernel5Ideal.nD Cert.Kernel5Ideal.τ).loc Cert.Kernel5Ideal.main_arg18)) →
    ∃ (v0 : (c : Dev Cert.Kernel5Ideal.nD) → Buf (Elt Ideal) ((c.tc : Thread Cert.Kernel5Ideal.nD Cert.Kernel5Ideal.τ).loc Cert.Kernel5Ideal.main_v92_0)) (v1 : (c : Dev Cert.Kernel5Ideal.nD) → Buf (Elt Ideal) ((c.tc : Thread Cert.Kernel5Ideal.nD Cert.Kernel5Ideal.τ).loc Cert.Kernel5Ideal.main_v92_2)) (v2 : (c : Dev Cert.Kernel5Ideal.nD) → Buf (Elt Ideal) ((c.tc : Thread Cert.Kernel5Ideal.nD Cert.Kernel5Ideal.τ).loc Cert.Kernel5Ideal.main_v92_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v92_0) = v0 c
          ∧ r.2.mem ((c.tc : Thread Cert.Kernel5Ideal.nD Cert.Kernel5Ideal.τ).loc Cert.Kernel5Ideal.main_v92_2) = v1 c
          ∧ r.2.mem ((c.tc : Thread Cert.Kernel5Ideal.nD Cert.Kernel5Ideal.τ).loc Cert.Kernel5Ideal.main_v92_3) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
          ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
          ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
          ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15)
          ∧ r.2.mem ((c.tc : Thread Cert.Kernel5Ideal.nD Cert.Kernel5Ideal.τ).loc Cert.Kernel5Ideal.main_arg16) = m ((c.tc : Thread Cert.Kernel5Ideal.nD Cert.Kernel5Ideal.τ).loc Cert.Kernel5Ideal.main_arg16)
          ∧ r.2.mem ((c.tc : Thread Cert.Kernel5Ideal.nD Cert.Kernel5Ideal.τ).loc Cert.Kernel5Ideal.main_arg17) = m ((c.tc : Thread Cert.Kernel5Ideal.nD Cert.Kernel5Ideal.τ).loc Cert.Kernel5Ideal.main_arg17)
          ∧ r.2.mem ((c.tc : Thread Cert.Kernel5Ideal.nD Cert.Kernel5Ideal.τ).loc Cert.Kernel5Ideal.main_arg18) = m ((c.tc : Thread Cert.Kernel5Ideal.nD Cert.Kernel5Ideal.τ).loc Cert.Kernel5Ideal.main_arg18))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v132) = v0 c
          ∧ r.2.mem ((c.tc : Thread Cert.Reference5Ideal.nD Cert.Reference5Ideal.τ).loc Cert.Reference5Ideal.main_v133) = v1 c
          ∧ r.2.mem ((c.tc : Thread Cert.Reference5Ideal.nD Cert.Reference5Ideal.τ).loc Cert.Reference5Ideal.main_v134) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12)
          ∧ r.2.mem ((c.tc : Thread Cert.Reference5Ideal.nD Cert.Reference5Ideal.τ).loc Cert.Reference5Ideal.main_arg13) = m' ((c.tc : Thread Cert.Reference5Ideal.nD Cert.Reference5Ideal.τ).loc Cert.Reference5Ideal.main_arg13)
          ∧ r.2.mem ((c.tc : Thread Cert.Reference5Ideal.nD Cert.Reference5Ideal.τ).loc Cert.Reference5Ideal.main_arg14) = m' ((c.tc : Thread Cert.Reference5Ideal.nD Cert.Reference5Ideal.τ).loc Cert.Reference5Ideal.main_arg14)
          ∧ r.2.mem ((c.tc : Thread Cert.Reference5Ideal.nD Cert.Reference5Ideal.τ).loc Cert.Reference5Ideal.main_arg15) = m' ((c.tc : Thread Cert.Reference5Ideal.nD Cert.Reference5Ideal.τ).loc Cert.Reference5Ideal.main_arg15)
          ∧ r.2.mem ((c.tc : Thread Cert.Reference5Ideal.nD Cert.Reference5Ideal.τ).loc Cert.Reference5Ideal.main_arg16) = m' ((c.tc : Thread Cert.Reference5Ideal.nD Cert.Reference5Ideal.τ).loc Cert.Reference5Ideal.main_arg16)
          ∧ r.2.mem ((c.tc : Thread Cert.Reference5Ideal.nD Cert.Reference5Ideal.τ).loc Cert.Reference5Ideal.main_arg17) = m' ((c.tc : Thread Cert.Reference5Ideal.nD Cert.Reference5Ideal.τ).loc Cert.Reference5Ideal.main_arg17)
          ∧ r.2.mem ((c.tc : Thread Cert.Reference5Ideal.nD Cert.Reference5Ideal.τ).loc Cert.Reference5Ideal.main_arg18) = m' ((c.tc : Thread Cert.Reference5Ideal.nD Cert.Reference5Ideal.τ).loc Cert.Reference5Ideal.main_arg18))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_v39) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v8_0)) (v1 : (c : Dev Cert.Kernel7Ideal.nD) → Buf (Elt Ideal) ((c.tc : Thread Cert.Kernel7Ideal.nD Cert.Kernel7Ideal.τ).loc Cert.Kernel7Ideal.main_v8_1)) (v2 : (c : Dev Cert.Kernel7Ideal.nD) → Buf (Elt Ideal) ((c.tc : Thread Cert.Kernel7Ideal.nD Cert.Kernel7Ideal.τ).loc Cert.Kernel7Ideal.main_v8_2)) (v3 : (c : Dev Cert.Kernel7Ideal.nD) → Buf (Elt Ideal) ((c.tc : Thread Cert.Kernel7Ideal.nD Cert.Kernel7Ideal.τ).loc Cert.Kernel7Ideal.main_v8_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v8_0) = v0 c
          ∧ r.2.mem ((c.tc : Thread Cert.Kernel7Ideal.nD Cert.Kernel7Ideal.τ).loc Cert.Kernel7Ideal.main_v8_1) = v1 c
          ∧ r.2.mem ((c.tc : Thread Cert.Kernel7Ideal.nD Cert.Kernel7Ideal.τ).loc Cert.Kernel7Ideal.main_v8_2) = v2 c
          ∧ r.2.mem ((c.tc : Thread Cert.Kernel7Ideal.nD Cert.Kernel7Ideal.τ).loc Cert.Kernel7Ideal.main_v8_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v30) = v0 c
          ∧ r.2.mem ((c.tc : Thread Cert.Reference7Ideal.nD Cert.Reference7Ideal.τ).loc Cert.Reference7Ideal.main_v54) = v1 c
          ∧ r.2.mem ((c.tc : Thread Cert.Reference7Ideal.nD Cert.Reference7Ideal.τ).loc Cert.Reference7Ideal.main_v35) = v2 c
          ∧ r.2.mem ((c.tc : Thread Cert.Reference7Ideal.nD Cert.Reference7Ideal.τ).loc Cert.Reference7Ideal.main_v41) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_v25) = v1 c
          ∧ r.2.mem ((c.tc : Thread Cert.Reference8Ideal.nD Cert.Reference8Ideal.τ).loc Cert.Reference8Ideal.main_v6) = v2 c
          ∧ r.2.mem ((c.tc : Thread Cert.Reference8Ideal.nD Cert.Reference8Ideal.τ).loc Cert.Reference8Ideal.main_v12) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v25)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v25) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v25) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts) (hPre_finite2 : Cert.Pre_finite2.Facts) (hPre_finite3 : Cert.Pre_finite3.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite.lean ====
abbrev S1x16384x1024 : Shape := ⟨3, ![1, 16384, 1024]⟩
abbrev S1024 : Shape := ⟨1, ![1024]⟩
abbrev S1x1024 : Shape := ⟨2, ![1, 1024]⟩
abbrev S1024x3072 : Shape := ⟨2, ![1024, 3072]⟩
abbrev S1x16384x3072 : Shape := ⟨3, ![1, 16384, 3072]⟩
abbrev S_ : Shape := ⟨0, ![]⟩

class Facts : Prop where
  bcast_S_S1x16384x1024 : S_.BroadcastsInDim S1x16384x1024 (![] : Fin 0 → Fin S1x16384x1024.rank)
  reducesTo_S1x16384x1024_S_d0_1_2 : S1x16384x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1x1024 : S_.BroadcastsInDim S1x1024 (![] : Fin 0 → Fin S1x1024.rank)
  reducesTo_S1x1024_S_d0_1 : S1x1024.ReducesTo [0, 1] S_
  bcast_S_S1024x3072 : S_.BroadcastsInDim S1024x3072 (![] : Fin 0 → Fin S1024x3072.rank)
  reducesTo_S1024x3072_S_d0_1 : S1024x3072.ReducesTo [0, 1] S_
  bcast_S_S1x16384x3072 : S_.BroadcastsInDim S1x16384x3072 (![] : Fin 0 → Fin S1x16384x3072.rank)
  reducesTo_S1x16384x3072_S_d0_1_2 : S1x16384x3072.ReducesTo [0, 1, 2] S_

variable [Facts]

def fn_part1 {F : FTy → Type} [FloatOps F] (main_arg5 : FVec F S1x16384x3072 .f32) (main_v13 : IVec S_ 1) (main_v16 : IVec S1024x3072 1) : IVec S_ 1 :=
  let main_c_5 : IVec S_ 1 := constantI S_ 1 1#1
  let main_v17 : IVec S_ 1 := (fun x v => Host.reduce IntOp.andi x v reducesTo_S1024x3072_S_d0_1 h_S_) main_v16 main_c_5
  let main_v18 : IVec S_ 1 := andi main_v13 main_v17
  let main_v19 : FVec F S1x16384x3072 .f32 := Host.absf main_arg5
  let main_cst_6 : FVec F S_ .f32 := constant S_ .f32 0x7F800000#32
  let main_v20 : FVec F S1x16384x3072 .f32 := broadcastInDim S1x16384x3072 ![] bcast_S_S1x16384x3072 main_cst_6
  let main_v21 : IVec S1x16384x3072 1 := cmpf .olt main_v19 main_v20
  let main_c_7 : IVec S_ 1 := constantI S_ 1 1#1
  let main_v22 : IVec S_ 1 := (fun x v => Host.reduce IntOp.andi x v reducesTo_S1x16384x3072_S_d0_1_2 h_S_) main_v21 main_c_7
  let main_v23 : IVec S_ 1 := andi main_v18 main_v22
  main_v23

def fn {F : FTy → Type} [FloatOps F] (main_arg0 : FVec F S1x16384x1024 .f32) (main_arg1 : FVec F S1024 .f32) (main_arg2 : FVec F S1x1024 .f32) (main_arg3 : FVec F S1x1024 .f32) (main_arg4 : FVec F S1024x3072 .f32) (main_arg5 : FVec F S1x16384x3072 .f32) (main_arg6 : FVec F S1x16384x1024 .f32) : IVec S_ 1 :=
  let main_v0 : FVec F S1x16384x1024 .f32 := Host.absf main_arg0
  let main_cst : FVec F S_ .f32 := constant S_ .f32 0x7F800000#32
  let main_v1 : FVec F S1x16384x1024 .f32 := broadcastInDim S1x16384x1024 ![] bcast_S_S1x16384x1024 main_cst
  let main_v2 : IVec S1x16384x1024 1 := cmpf .olt main_v0 main_v1
  let main_c : IVec S_ 1 := constantI S_ 1 1#1
  let main_v3 : IVec S_ 1 := (fun x v => Host.reduce IntOp.andi x v reducesTo_S1x16384x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1024x3072 .f32 := Host.absf main_arg4
  let main_cst_4 : FVec F S_ .f32 := constant S_ .f32 0x7F800000#32
  let main_v15 : FVec F S1024x3072 .f32 := broadcastInDim S1024x3072 ![] bcast_S_S1024x3072 main_cst_4
  let main_v16 : IVec S1024x3072 1 := cmpf .olt main_v14 main_v15
  fn_part1 (F := F) main_arg5 main_v13 main_v16
-- ==== Pre_finite2.lean ====
abbrev S1x16384x3072 : Shape := ⟨3, ![1, 16384, 3072]⟩
abbrev S1x16384x1024 : Shape := ⟨3, ![1, 16384, 1024]⟩
abbrev S1x1024 : Shape := ⟨2, ![1, 1024]⟩
abbrev S3x256 : Shape := ⟨2, ![3, 256]⟩
abbrev S4x64x64 : Shape := ⟨3, ![4, 64, 64]⟩
abbrev S256 : Shape := ⟨1, ![256]⟩
abbrev S31x256 : Shape := ⟨2, ![31, 256]⟩
abbrev S256x256 : Shape := ⟨2, ![256, 256]⟩
abbrev S4x128x128 : Shape := ⟨3, ![4, 128, 128]⟩
abbrev S4x128 : Shape := ⟨2, ![4, 128]⟩
abbrev S1024x1024 : Shape := ⟨2, ![1024, 1024]⟩
abbrev S_ : Shape := ⟨0, ![]⟩

class Facts : Prop where
  bcast_S_S1x16384x3072 : S_.BroadcastsInDim S1x16384x3072 (![] : Fin 0 → Fin S1x16384x3072.rank)
  reducesTo_S1x16384x3072_S_d0_1_2 : S1x16384x3072.ReducesTo [0, 1, 2] S_
  h_S_ : 0 < S_.numel
  bcast_S_S1x16384x1024 : S_.BroadcastsInDim S1x16384x1024 (![] : Fin 0 → Fin S1x16384x1024.rank)
  reducesTo_S1x16384x1024_S_d0_1_2 : S1x16384x1024.ReducesTo [0, 1, 2] S_
  bcast_S_S1x1024 : S_.BroadcastsInDim S1x1024 (![] : Fin 0 → Fin S1x1024.rank)
  reducesTo_S1x1024_S_d0_1 : S1x1024.ReducesTo [0, 1] S_
  bcast_S_S256 : S_.BroadcastsInDim S256 (![] : Fin 0 → Fin S256.rank)
  reducesTo_S256_S_d0 : S256.ReducesTo [0] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_arg16 : FVec F S1024x1024 .f32) (main_v33 : IVec S_ 1) : IVec S_ 1 :=
  let main_v34 : FVec F S1024x1024 .f32 := Host.absf main_arg16
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  main_v38

def fn_part1 {F : FTy → Type} [FloatOps F] (main_arg13 : FVec F S256 .f32) (main_arg14 : FVec F S4x128x128 .f32) (main_arg15 : FVec F S4x128 .f32) (main_arg16 : FVec F S1024x1024 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg13
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S4x128x128 .f32 := Host.absf main_arg14
  let main_cst_8 : FVec F S_ .f32 := constant S_ .f32 0x7F800000#32
  let main_v25 : FVec F S4x128x128 .f32 := broadcastInDim S4x128x128 ![] bcast_S_S4x128x128 main_cst_8
  let main_v26 : IVec S4x128x128 1 := cmpf .olt main_v24 main_v25
  let main_c_9 : IVec S_ 1 := constantI S_ 1 1#1
  let main_v27 : IVec S_ 1 := (fun x v => Host.reduce IntOp.andi x v reducesTo_S4x128x128_S_d0_1_2 h_S_) main_v26 main_c_9
  let main_v28 : IVec S_ 1 := andi main_v23 main_v27
  let main_v29 : FVec F S4x128 .f32 := Host.absf main_arg15
  let main_cst_10 : FVec F S_ .f32 := constant S_ .f32 0x7F800000#32
  let main_v30 : FVec F S4x128 .f32 := broadcastInDim S4x128 ![] bcast_S_S4x128 main_cst_10
  let main_v31 : IVec S4x128 1 := cmpf .olt main_v29 main_v30
  let main_c_11 : IVec S_ 1 := constantI S_ 1 1#1
  let main_v32 : IVec S_ 1 := (fun x v => Host.reduce IntOp.andi x v reducesTo_S4x128_S_d0_1 h_S_) main_v31 main_c_11
  let main_v33 : IVec S_ 1 := andi main_v28 main_v32
  fn_part2 (F := F) main_arg16 main_v33

def fn {F : FTy → Type} [FloatOps F] (main_arg0 : FVec F S1x16384x3072 .f32) (main_arg1 : FVec F S1x16384x1024 .f32) (main_arg2 : FVec F S1x1024 .f32) (main_arg3 : FVec F S3x256 .f32) (main_arg4 : FVec F S4x64x64 .f32) (main_arg5 : FVec F S256 .f32) (main_arg6 : FVec F S31x256 .f32) (main_arg7 : FVec F S256 .f32) (main_arg8 : FVec F S256 .f32) (main_arg9 : FVec F S256 .f32) (main_arg10 : FVec F S256x256 .f32) (main_arg11 : FVec F S256 .f32) (main_arg12 : FVec F S256 .f32) (main_arg13 : FVec F S256 .f32) (main_arg14 : FVec F S4x128x128 .f32) (main_arg15 : FVec F S4x128 .f32) (main_arg16 : FVec F S1024x1024 .f32) : IVec S_ 1 :=
  let main_v0 : FVec F S1x16384x3072 .f32 := Host.absf main_arg0
  let main_cst : FVec F S_ .f32 := constant S_ .f32 0x7F800000#32
  let main_v1 : FVec F S1x16384x3072 .f32 := broadcastInDim S1x16384x3072 ![] bcast_S_S1x16384x3072 main_cst
  let main_v2 : IVec S1x16384x3072 1 := cmpf .olt main_v0 main_v1
  let main_c : IVec S_ 1 := constantI S_ 1 1#1
  let main_v3 : IVec S_ 1 := (fun x v => Host.reduce IntOp.andi x v reducesTo_S1x16384x3072_S_d0_1_2 h_S_) main_v2 main_c
  let main_v4 : FVec F S1x16384x1024 .f32 := Host.absf main_arg1
  let main_cst_0 : FVec F S_ .f32 := constant S_ .f32 0x7F800000#32
  let main_v5 : FVec F S1x16384x1024 .f32 := broadcastInDim S1x16384x1024 ![] bcast_S_S1x16384x1024 main_cst_0
  let main_v6 : IVec S1x16384x1024 1 := cmpf .olt main_v4 main_v5
  let main_c_1 : IVec S_ 1 := constantI S_ 1 1#1
  let main_v7 : IVec S_ 1 := (fun x v => Host.reduce IntOp.andi x v reducesTo_S1x16384x1024_S_d0_1_2 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S256 .f32 := Host.absf main_arg12
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg13 main_arg14 main_arg15 main_arg16 main_v13 main_v16
-- ==== Pre_finite3.lean ====
abbrev S1x16384x1024 : Shape := ⟨3, ![1, 16384, 1024]⟩
abbrev S1024x1024 : Shape := ⟨2, ![1024, 1024]⟩
abbrev S1x1024 : Shape := ⟨2, ![1, 1024]⟩
abbrev S_ : Shape := ⟨0, ![]⟩

class Facts : Prop where
  bcast_S_S1x16384x1024 : S_.BroadcastsInDim S1x16384x1024 (![] : Fin 0 → Fin S1x16384x1024.rank)
  reducesTo_S1x16384x1024_S_d0_1_2 : S1x16384x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v13 : IVec S_ 1) (main_v16 : IVec S1x16384x1024 1) : IVec S_ 1 :=
  let main_c_5 : IVec S_ 1 := constantI S_ 1 1#1
  let main_v17 : IVec S_ 1 := (fun x v => Host.reduce IntOp.andi x v reducesTo_S1x16384x1024_S_d0_1_2 h_S_) main_v16 main_c_5
  let main_v18 : IVec S_ 1 := andi main_v13 main_v17
  main_v18

def fn {F : FTy → Type} [FloatOps F] (main_arg0 : FVec F S1x16384x1024 .f32) (main_arg1 : FVec F S1024x1024 .f32) (main_arg2 : FVec F S1x1024 .f32) (main_arg3 : FVec F S1x16384x1024 .f32) : IVec S_ 1 :=
  let main_v0 : FVec F S1x16384x1024 .f32 := Host.absf main_arg0
  let main_cst : FVec F S_ .f32 := constant S_ .f32 0x7F800000#32
  let main_v1 : FVec F S1x16384x1024 .f32 := broadcastInDim S1x16384x1024 ![] bcast_S_S1x16384x1024 main_cst
  let main_v2 : IVec S1x16384x1024 1 := cmpf .olt main_v0 main_v1
  let main_c : IVec S_ 1 := constantI S_ 1 1#1
  let main_v3 : IVec S_ 1 := (fun x v => Host.reduce IntOp.andi x v reducesTo_S1x16384x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1x16384x1024 .f32 := Host.absf main_arg3
  let main_cst_4 : FVec F S_ .f32 := constant S_ .f32 0x7F800000#32
  let main_v15 : FVec F S1x16384x1024 .f32 := broadcastInDim S1x16384x1024 ![] bcast_S_S1x16384x1024 main_cst_4
  let main_v16 : IVec S1x16384x1024 1 := cmpf .olt main_v14 main_v15
  fn_part1 (F := F) main_v13 main_v16
-- ==== Pre_finite5.lean ====
abbrev S1x16384x3072 : Shape := ⟨3, ![1, 16384, 3072]⟩
abbrev S1x16384x1024 : Shape := ⟨3, ![1, 16384, 1024]⟩
abbrev S1x1024 : Shape := ⟨2, ![1, 1024]⟩
abbrev S3x256 : Shape := ⟨2, ![3, 256]⟩
abbrev S4x64x64 : Shape := ⟨3, ![4, 64, 64]⟩
abbrev S256 : Shape := ⟨1, ![256]⟩
abbrev S31x256 : Shape := ⟨2, ![31, 256]⟩
abbrev S256x256 : Shape := ⟨2, ![256, 256]⟩
abbrev S4x128x128 : Shape := ⟨3, ![4, 128, 128]⟩
abbrev S4x128 : Shape := ⟨2, ![4, 128]⟩
abbrev S256x1024 : Shape := ⟨2, ![256, 1024]⟩
abbrev S1024 : Shape := ⟨1, ![1024]⟩
abbrev S_ : Shape := ⟨0, ![]⟩

class Facts : Prop where
  bcast_S_S1x16384x3072 : S_.BroadcastsInDim S1x16384x3072 (![] : Fin 0 → Fin S1x16384x3072.rank)
  reducesTo_S1x16384x3072_S_d0_1_2 : S1x16384x3072.ReducesTo [0, 1, 2] S_
  h_S_ : 0 < S_.numel
  bcast_S_S1x16384x1024 : S_.BroadcastsInDim S1x16384x1024 (![] : Fin 0 → Fin S1x16384x1024.rank)
  reducesTo_S1x16384x1024_S_d0_1_2 : S1x16384x1024.ReducesTo [0, 1, 2] S_
  bcast_S_S1x1024 : S_.BroadcastsInDim S1x1024 (![] : Fin 0 → Fin S1x1024.rank)
  reducesTo_S1x1024_S_d0_1 : S1x1024.ReducesTo [0, 1] S_
  bcast_S_S256 : S_.BroadcastsInDim S256 (![] : Fin 0 → Fin S256.rank)
  reducesTo_S256_S_d0 : S256.ReducesTo [0] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S256x1024 : S_.BroadcastsInDim S256x1024 (![] : Fin 0 → Fin S256x1024.rank)
  reducesTo_S256x1024_S_d0_1 : S256x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg16 : FVec F S256x1024 .f32) (main_arg17 : FVec F S1024 .f32) (main_arg18 : FVec F S1x16384x1024 .f32) (main_v33 : IVec S_ 1) : IVec S_ 1 :=
  let main_v34 : FVec F S256x1024 .f32 := Host.absf main_arg16
  let main_cst_12 : FVec F S_ .f32 := constant S_ .f32 0x7F800000#32
  let main_v35 : FVec F S256x1024 .f32 := broadcastInDim S256x1024 ![] bcast_S_S256x1024 main_cst_12
  let main_v36 : IVec S256x1024 1 := cmpf .olt main_v34 main_v35
  let main_c_13 : IVec S_ 1 := constantI S_ 1 1#1
  let main_v37 : IVec S_ 1 := (fun x v => Host.reduce IntOp.andi x v reducesTo_S256x1024_S_d0_1 h_S_) main_v36 main_c_13
  let main_v38 : IVec S_ 1 := andi main_v33 main_v37
  let main_v39 : FVec F S1024 .f32 := Host.absf main_arg17
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1x16384x1024 .f32 := Host.absf main_arg18
  let main_cst_16 : FVec F S_ .f32 := constant S_ .f32 0x7F800000#32
  let main_v45 : FVec F S1x16384x1024 .f32 := broadcastInDim S1x16384x1024 ![] bcast_S_S1x16384x1024 main_cst_16
  let main_v46 : IVec S1x16384x1024 1 := cmpf .olt main_v44 main_v45
  let main_c_17 : IVec S_ 1 := constantI S_ 1 1#1
  let main_v47 : IVec S_ 1 := (fun x v => Host.reduce IntOp.andi x v reducesTo_S1x16384x1024_S_d0_1_2 h_S_) main_v46 main_c_17
  let main_v48 : IVec S_ 1 := andi main_v43 main_v47
  main_v48

def fn_part1 {F : FTy → Type} [FloatOps F] (main_arg13 : FVec F S256 .f32) (main_arg14 : FVec F S4x128x128 .f32) (main_arg15 : FVec F S4x128 .f32) (main_arg16 : FVec F S256x1024 .f32) (main_arg17 : FVec F S1024 .f32) (main_arg18 : FVec F S1x16384x1024 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg13
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S4x128x128 .f32 := Host.absf main_arg14
  let main_cst_8 : FVec F S_ .f32 := constant S_ .f32 0x7F800000#32
  let main_v25 : FVec F S4x128x128 .f32 := broadcastInDim S4x128x128 ![] bcast_S_S4x128x128 main_cst_8
  let main_v26 : IVec S4x128x128 1 := cmpf .olt main_v24 main_v25
  let main_c_9 : IVec S_ 1 := constantI S_ 1 1#1
  let main_v27 : IVec S_ 1 := (fun x v => Host.reduce IntOp.andi x v reducesTo_S4x128x128_S_d0_1_2 h_S_) main_v26 main_c_9
  let main_v28 : IVec S_ 1 := andi main_v23 main_v27
  let main_v29 : FVec F S4x128 .f32 := Host.absf main_arg15
  let main_cst_10 : FVec F S_ .f32 := constant S_ .f32 0x7F800000#32
  let main_v30 : FVec F S4x128 .f32 := broadcastInDim S4x128 ![] bcast_S_S4x128 main_cst_10
  let main_v31 : IVec S4x128 1 := cmpf .olt main_v29 main_v30
  let main_c_11 : IVec S_ 1 := constantI S_ 1 1#1
  let main_v32 : IVec S_ 1 := (fun x v => Host.reduce IntOp.andi x v reducesTo_S4x128_S_d0_1 h_S_) main_v31 main_c_11
  let main_v33 : IVec S_ 1 := andi main_v28 main_v32
  fn_part2 (F := F) main_arg16 main_arg17 main_arg18 main_v33

def fn {F : FTy → Type} [FloatOps F] (main_arg0 : FVec F S1x16384x3072 .f32) (main_arg1 : FVec F S1x16384x1024 .f32) (main_arg2 : FVec F S1x1024 .f32) (main_arg3 : FVec F S3x256 .f32) (main_arg4 : FVec F S4x64x64 .f32) (main_arg5 : FVec F S256 .f32) (main_arg6 : FVec F S31x256 .f32) (main_arg7 : FVec F S256 .f32) (main_arg8 : FVec F S256 .f32) (main_arg9 : FVec F S256 .f32) (main_arg10 : FVec F S256x256 .f32) (main_arg11 : FVec F S256 .f32) (main_arg12 : FVec F S256 .f32) (main_arg13 : FVec F S256 .f32) (main_arg14 : FVec F S4x128x128 .f32) (main_arg15 : FVec F S4x128 .f32) (main_arg16 : FVec F S256x1024 .f32) (main_arg17 : FVec F S1024 .f32) (main_arg18 : FVec F S1x16384x1024 .f32) : IVec S_ 1 :=
  let main_v0 : FVec F S1x16384x3072 .f32 := Host.absf main_arg0
  let main_cst : FVec F S_ .f32 := constant S_ .f32 0x7F800000#32
  let main_v1 : FVec F S1x16384x3072 .f32 := broadcastInDim S1x16384x3072 ![] bcast_S_S1x16384x3072 main_cst
  let main_v2 : IVec S1x16384x3072 1 := cmpf .olt main_v0 main_v1
  let main_c : IVec S_ 1 := constantI S_ 1 1#1
  let main_v3 : IVec S_ 1 := (fun x v => Host.reduce IntOp.andi x v reducesTo_S1x16384x3072_S_d0_1_2 h_S_) main_v2 main_c
  let main_v4 : FVec F S1x16384x1024 .f32 := Host.absf main_arg1
  let main_cst_0 : FVec F S_ .f32 := constant S_ .f32 0x7F800000#32
  let main_v5 : FVec F S1x16384x1024 .f32 := broadcastInDim S1x16384x1024 ![] bcast_S_S1x16384x1024 main_cst_0
  let main_v6 : IVec S1x16384x1024 1 := cmpf .olt main_v4 main_v5
  let main_c_1 : IVec S_ 1 := constantI S_ 1 1#1
  let main_v7 : IVec S_ 1 := (fun x v => Host.reduce IntOp.andi x v reducesTo_S1x16384x1024_S_d0_1_2 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S256 .f32 := Host.absf main_arg12
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg13 main_arg14 main_arg15 main_arg16 main_arg17 main_arg18 main_v13 main_v16
-- ==== Kernel.lean ====
abbrev S1x16384x1024 : Shape := ⟨3, ![1, 16384, 1024]⟩
abbrev S1024 : Shape := ⟨1, ![1024]⟩
abbrev S1x1024 : Shape := ⟨2, ![1, 1024]⟩
abbrev S1024x3072 : Shape := ⟨2, ![1024, 3072]⟩
abbrev S1x16384x3072 : Shape := ⟨3, ![1, 16384, 3072]⟩
abbrev S_ : Shape := ⟨0, ![]⟩
abbrev S16384x1024 : Shape := ⟨2, ![16384, 1024]⟩
abbrev S16384x3072 : Shape := ⟨2, ![16384, 3072]⟩
abbrev S512x1024 : Shape := ⟨2, ![512, 1024]⟩
abbrev S512x3072 : Shape := ⟨2, ![512, 3072]⟩
abbrev S2x8x1024 : Shape := ⟨3, ![2, 8, 1024]⟩
abbrev S512 : Shape := ⟨1, ![512]⟩
abbrev S512x1 : Shape := ⟨2, ![512, 1]⟩
abbrev S1x8x1024 : Shape := ⟨3, ![1, 8, 1024]⟩
abbrev S8x1024 : Shape := ⟨2, ![8, 1024]⟩

abbrev nBuf : Space → Nat
  | .hbm => 28
  | .vmem => 13
  | .smem => 0
  | _ => 0

abbrev bufTy : (tb : Table) → Fin (tcTables nBuf tb) → BufTy
  | .hbm, ⟨0, _⟩ => ⟨S1x16384x1024, .f32⟩
  | .hbm, ⟨1, _⟩ => ⟨S1024, .f32⟩
  | .hbm, ⟨2, _⟩ => ⟨S1x1024, .f32⟩
  | .hbm, ⟨3, _⟩ => ⟨S1x1024, .f32⟩
  | .hbm, ⟨4, _⟩ => ⟨S1024x3072, .f32⟩
  | .hbm, ⟨5, _⟩ => ⟨S1x16384x3072, .f32⟩
  | .hbm, ⟨6, _⟩ => ⟨S1x16384x1024, .f32⟩
  | .hbm, ⟨7, _⟩ => ⟨S1x1024, .f32⟩
  | .hbm, ⟨8, _⟩ => ⟨S_, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S16384x1024, .f32⟩
  | .hbm, ⟨13, _⟩ => ⟨S16384x3072, .f32⟩
  | .hbm, ⟨14, _⟩ => ⟨S16384x3072, .bf16⟩
  | .hbm, ⟨15, _⟩ => ⟨S16384x1024, .f32⟩
  | .hbm, ⟨16, _⟩ => ⟨S1024x3072, .bf16⟩
  | .hbm, ⟨17, _⟩ => ⟨S16384x1024, .f32⟩
  | .hbm, ⟨18, _⟩ => ⟨S1x1024, .f32⟩
  | .hbm, ⟨19, _⟩ => ⟨S1x1024, .f32⟩
  | .hbm, ⟨20, _⟩ => ⟨S1x16384x1024, .f32⟩
  | .hbm, ⟨21, _⟩ => ⟨S_, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S1024, .f32⟩
  | .hbm, ⟨26, _⟩ => ⟨S1x1024, .f32⟩
  | .hbm, ⟨27, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x3072, .bf16⟩
  | .local _ .vmem, ⟨3, _⟩ => ⟨S512x3072, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1024x3072, .bf16⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | .local _ .vmem, ⟨12, _⟩ => ⟨S2x8x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v305 : BitVec 1 := Scalar.cmpi .eq arg0 c31_i32
  let v306 : BitVec 32 := Scalar.extui v305
  let c0_i32_28 : BitVec 32 := 0#32
  let v307 : BitVec 1 := Scalar.cmpi .ne v306 c0_i32_28
  v307

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S1x16384x1024 : Shape := ⟨3, ![1, 16384, 1024]⟩
abbrev S1024 : Shape := ⟨1, ![1024]⟩
abbrev S1x1024 : Shape := ⟨2, ![1, 1024]⟩
abbrev S1024x3072 : Shape := ⟨2, ![1024, 3072]⟩
abbrev S1x16384x3072 : Shape := ⟨3, ![1, 16384, 3072]⟩
abbrev S_ : Shape := ⟨0, ![]⟩
abbrev S1x16384 : Shape := ⟨2, ![1, 16384]⟩
abbrev S1x16384x1 : Shape := ⟨3, ![1, 16384, 1]⟩
abbrev S1x1x1024 : Shape := ⟨3, ![1, 1, 1024]⟩
abbrev S3072x1024 : Shape := ⟨2, ![3072, 1024]⟩
abbrev S16384 : Shape := ⟨1, ![16384]⟩

abbrev nBuf : Space → Nat
  | .hbm => 82
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1024, .f32⟩
  | .hbm, ⟨2, _⟩ => ⟨S1x1024, .f32⟩
  | .hbm, ⟨3, _⟩ => ⟨S1x1024, .f32⟩
  | .hbm, ⟨4, _⟩ => ⟨S1024x3072, .f32⟩
  | .hbm, ⟨5, _⟩ => ⟨S1x16384x3072, .f32⟩
  | .hbm, ⟨6, _⟩ => ⟨S1x16384x1024, .f32⟩
  | .hbm, ⟨7, _⟩ => ⟨S1x16384x1024, .f32⟩
  | .hbm, ⟨8, _⟩ => ⟨S_, .f32⟩
  | .hbm, ⟨9, _⟩ => ⟨S1x16384, .f32⟩
  | .hbm, ⟨10, _⟩ => ⟨S1x16384x1, .f32⟩
  | .hbm, ⟨11, _⟩ => ⟨S_, .f32⟩
  | .hbm, ⟨12, _⟩ => ⟨S1x16384x1, .f32⟩
  | .hbm, ⟨13, _⟩ => ⟨S1x16384x1, .f32⟩
  | .hbm, ⟨14, _⟩ => ⟨S_, .f32⟩
  | .hbm, ⟨15, _⟩ => ⟨S1x16384x1, .f32⟩
  | .hbm, ⟨16, _⟩ => ⟨S1x16384x1, .f32⟩
  | .hbm, ⟨17, _⟩ => ⟨S1x16384x1, .f32⟩
  | .hbm, ⟨18, _⟩ => ⟨S1x16384x1, .f32⟩
  | .hbm, ⟨19, _⟩ => ⟨S_, .f32⟩
  | .hbm, ⟨20, _⟩ => ⟨S1x16384x1, .f32⟩
  | .hbm, ⟨21, _⟩ => ⟨S1x16384x1, .f32⟩
  | .hbm, ⟨22, _⟩ => ⟨S1x16384x1024, .f32⟩
  | .hbm, ⟨23, _⟩ => ⟨S1x16384x1024, .f32⟩
  | .hbm, ⟨24, _⟩ => ⟨S1x1x1024, .f32⟩
  | .hbm, ⟨25, _⟩ => ⟨S1x16384x1024, .f32⟩
  | .hbm, ⟨26, _⟩ => ⟨S1x16384x1024, .f32⟩
  | .hbm, ⟨27, _⟩ => ⟨S1x1x1024, .f32⟩
  | .hbm, ⟨28, _⟩ => ⟨S_, .f32⟩
  | .hbm, ⟨29, _⟩ => ⟨S1x1x1024, .f32⟩
  | .hbm, ⟨30, _⟩ => ⟨S1x1x1024, .f32⟩
  | .hbm, ⟨31, _⟩ => ⟨S1x16384x1024, .f32⟩
  | .hbm, ⟨32, _⟩ => ⟨S1x16384x1024, .f32⟩
  | .hbm, ⟨33, _⟩ => ⟨S1x1x1024, .f32⟩
  | .hbm, ⟨34, _⟩ => ⟨S1x16384x1024, .f32⟩
  | .hbm, ⟨35, _⟩ => ⟨S1x16384x1024, .f32⟩
  | .hbm, ⟨36, _⟩ => ⟨S1x16384x3072, .f32⟩
  | .hbm, ⟨37, _⟩ => ⟨S3072x1024, .f32⟩
  | .hbm, ⟨38, _⟩ => ⟨S1024x3072, .f32⟩
  | .hbm, ⟨39, _⟩ => ⟨S1x16384x1024, .f32⟩
  | .hbm, ⟨40, _⟩ => ⟨S_, .f32⟩
  | .hbm, ⟨41, _⟩ => ⟨S1x1024, .f32⟩
  | .hbm, ⟨42, _⟩ => ⟨S1x1x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S1x16384x1024, .f32⟩
  | .hbm, ⟨47, _⟩ => ⟨S_, .f32⟩
  | .hbm, ⟨48, _⟩ => ⟨S1x1024, .f32⟩
  | .hbm, ⟨49, _⟩ => ⟨S1x1x1024, .f32⟩
  | .hbm, ⟨50, _⟩ => ⟨S1x16384x1024, .f32⟩
  | .hbm, ⟨51, _⟩ => ⟨S1x16384x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S1x16384x1024, .f32⟩
  | .hbm, ⟨56, _⟩ => ⟨S_, .f32⟩
  | .hbm, ⟨57, _⟩ => ⟨S1x1024, .f32⟩
  | .hbm, ⟨58, _⟩ => ⟨S1x1x1024, .f32⟩
  | .hbm, ⟨59, _⟩ => ⟨S1x16384x1024, .f32⟩
  | .hbm, ⟨60, _⟩ => ⟨S1x16384x1024, .f32⟩
  | .hbm, ⟨61, _⟩ => ⟨S_, .f32⟩
  | .hbm, ⟨62, _⟩ => ⟨S1024, .f32⟩
  | .hbm, ⟨63, _⟩ => ⟨S1x16384x1024, .f32⟩
  | .hbm, ⟨64, _⟩ => ⟨S_, .f32⟩
  | .hbm, ⟨65, _⟩ => ⟨S1x16384, .f32⟩
  | .hbm, ⟨66, _⟩ => ⟨S1x16384x1, .f32⟩
  | .hbm, ⟨67, _⟩ => ⟨S1x16384x1024, .f32⟩
  | .hbm, ⟨68, _⟩ => ⟨S1x16384x1024, .f32⟩
  | .hbm, ⟨69, _⟩ => ⟨S1x16384x1024, .f32⟩
  | .hbm, ⟨70, _⟩ => ⟨S1x16384x1, .f32⟩
  | .hbm, ⟨71, _⟩ => ⟨S_, .f32⟩
  | .hbm, ⟨72, _⟩ => ⟨S1x16384x1, .f32⟩
  | .hbm, ⟨73, _⟩ => ⟨S1x16384x1, .f32⟩
  | .hbm, ⟨74, _⟩ => ⟨S_, .f32⟩
  | .hbm, ⟨75, _⟩ => ⟨S16384, .f32⟩
  | .hbm, ⟨76, _⟩ => ⟨S1x16384, .f32⟩
  | .hbm, ⟨77, _⟩ => ⟨S1x16384x1024, .f32⟩
  | .hbm, ⟨78, _⟩ => ⟨S1x16384x1024, .f32⟩
  | .hbm, ⟨79, _⟩ => ⟨S1x16384x1024, .f32⟩
  | .hbm, ⟨80, _⟩ => ⟨S1x16384x1024, .f32⟩
  | .hbm, ⟨81, _⟩ => ⟨S1x16384x1024, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_9 : Ref sig .tc := ⟨.hbm, 61, rfl⟩
abbrev main_v44 : Ref sig .tc := ⟨.hbm, 62, rfl⟩
abbrev main_v45 : Ref sig .tc := ⟨.hbm, 63, rfl⟩
abbrev main_cst_10 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_11 : Ref sig .tc := ⟨.hbm, 71, rfl⟩
abbrev main_v52 : Ref sig .tc := ⟨.hbm, 72, rfl⟩
abbrev main_v53 : Ref sig .tc := ⟨.hbm, 73, rfl⟩
abbrev main_cst_12 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩

abbrev nD : Nat := 1
abbrev τ : Topo := Topo.v7x

variable {F : FTy → Type} [FloatOps F]
-- ==== Kernel2.lean ====
abbrev S1x16384x3072 : Shape := ⟨3, ![1, 16384, 3072]⟩
abbrev S1x16384x1024 : Shape := ⟨3, ![1, 16384, 1024]⟩
abbrev S1x1024 : Shape := ⟨2, ![1, 1024]⟩
abbrev S3x256 : Shape := ⟨2, ![3, 256]⟩
abbrev S4x64x64 : Shape := ⟨3, ![4, 64, 64]⟩
abbrev S256 : Shape := ⟨1, ![256]⟩
abbrev S31x256 : Shape := ⟨2, ![31, 256]⟩
abbrev S256x256 : Shape := ⟨2, ![256, 256]⟩
abbrev S4x128x128 : Shape := ⟨3, ![4, 128, 128]⟩
abbrev S4x128 : Shape := ⟨2, ![4, 128]⟩
abbrev S1024x1024 : Shape := ⟨2, ![1024, 1024]⟩
abbrev S4 : Shape := ⟨1, ![4]⟩
abbrev S1x4x64x64 : Shape := ⟨4, ![1, 4, 64, 64]⟩
abbrev S1x4x128x128 : Shape := ⟨4, ![1, 4, 128, 128]⟩
abbrev S1x4x128 : Shape := ⟨3, ![1, 4, 128]⟩
abbrev S1x256 : Shape := ⟨2, ![1, 256]⟩
abbrev S1x3x256 : Shape := ⟨3, ![1, 3, 256]⟩
abbrev S1x31x256 : Shape := ⟨3, ![1, 31, 256]⟩
abbrev S3x1x256 : Shape := ⟨3, ![3, 1, 256]⟩
abbrev S31x1x256 : Shape := ⟨3, ![31, 1, 256]⟩
abbrev S4x64x1x64 : Shape := ⟨4, ![4, 64, 1, 64]⟩
abbrev S4x4 : Shape := ⟨2, ![4, 4]⟩
abbrev S_ : Shape := ⟨0, ![]⟩
abbrev S4x1x4x1 : Shape := ⟨4, ![4, 1, 4, 1]⟩
abbrev S4x64x4x64 : Shape := ⟨4, ![4, 64, 4, 64]⟩
abbrev S128x128 : Shape := ⟨2, ![128, 128]⟩
abbrev S1x128x128 : Shape := ⟨3, ![1, 128, 128]⟩
abbrev S7x256 : Shape := ⟨2, ![7, 256]⟩
abbrev S4x64 : Shape := ⟨2, ![4, 64]⟩
abbrev S128 : Shape := ⟨1, ![128]⟩
abbrev S128x1 : Shape := ⟨2, ![128, 1]⟩
abbrev S128x256 : Shape := ⟨2, ![128, 256]⟩
abbrev S128x4 : Shape := ⟨2, ![128, 4]⟩
abbrev S128x4x64 : Shape := ⟨3, ![128, 4, 64]⟩
abbrev S264x256 : Shape := ⟨2, ![264, 256]⟩
abbrev S8x256 : Shape := ⟨2, ![8, 256]⟩
abbrev S32x256 : Shape := ⟨2, ![32, 256]⟩
abbrev S16x256 : Shape := ⟨2, ![16, 256]⟩
abbrev S512x128 : Shape := ⟨2, ![512, 128]⟩
abbrev S16384x3072 : Shape := ⟨2, ![16384, 3072]⟩
abbrev S16384x256 : Shape := ⟨2, ![16384, 256]⟩
abbrev S16414x256 : Shape := ⟨2, ![16414, 256]⟩
abbrev S1x16384x256 : Shape := ⟨3, ![1, 16384, 256]⟩
abbrev S16x16384x256 : Shape := ⟨3, ![16, 16384, 256]⟩
abbrev S15x16384x256 : Shape := ⟨3, ![15, 16384, 256]⟩
abbrev S31x16384x256 : Shape := ⟨3, ![31, 16384, 256]⟩
abbrev S16384x1024 : Shape := ⟨2, ![16384, 1024]⟩
abbrev S64x256 : Shape := ⟨2, ![64, 256]⟩
abbrev S512x3072 : Shape := ⟨2, ![512, 3072]⟩
abbrev S32x3072 : Shape := ⟨2, ![32, 3072]⟩
abbrev S512x256 : Shape := ⟨2, ![512, 256]⟩
abbrev S512x1024 : Shape := ⟨2, ![512, 1024]⟩
abbrev S544x768 : Shape := ⟨2, ![544, 768]⟩
abbrev S64x8x256 : Shape := ⟨3, ![64, 8, 256]⟩
abbrev S32x768 : Shape := ⟨2, ![32, 768]⟩
abbrev S256x1024 : Shape := ⟨2, ![256, 1024]⟩
abbrev S160x256 : Shape := ⟨2, ![160, 256]⟩
abbrev S1x8x256 : Shape := ⟨3, ![1, 8, 256]⟩
abbrev S160x128 : Shape := ⟨2, ![160, 128]⟩
abbrev S16384x768 : Shape := ⟨2, ![16384, 768]⟩

abbrev nBuf : Space → Nat
  | .hbm => 247
  | .vmem => 36
  | .smem => 0
  | _ => 0

abbrev hbmTy0_0 (i : Nat) : BufTy := match i % 128 with
  | 0 => ⟨S1x16384x3072, .f32⟩
  | 1 => ⟨S1x16384x1024, .f32⟩
  | 2 => ⟨S1x1024, .f32⟩
  | 3 => ⟨S3x256, .f32⟩
  | 4 => ⟨S4x64x64, .f32⟩
  | 5 => ⟨S256, .f32⟩
  | 6 => ⟨S31x256, .f32⟩
  | 7 => ⟨S256, .f32⟩
  | 8 => ⟨S256, .f32⟩
  | 9 => ⟨S256, .f32⟩
  | 10 => ⟨S256x256, .f32⟩
  | 11 => ⟨S256, .f32⟩
  | 12 => ⟨S256, .f32⟩
  | 13 => ⟨S256, .f32⟩
  | 14 => ⟨S4x128x128, .f32⟩
  | 15 => ⟨S4x128, .f32⟩
  | 16 => ⟨S1024x1024, .f32⟩
  | 17 => ⟨S4, .f32⟩
  | 18 => ⟨S1x4x64x64, .f32⟩
  | 19 => ⟨S1x4x128x128, .f32⟩
  | 20 => ⟨S1x4x128, .f32⟩
  | 21 => ⟨S1x256, .f32⟩
  | 22 => ⟨S1x256, .f32⟩
  | 23 => ⟨S1x256, .f32⟩
  | 24 => ⟨S1x256, .f32⟩
  | 25 => ⟨S1x256, .f32⟩
  | 26 => ⟨S1x256, .f32⟩
  | 27 => ⟨S1x256, .f32⟩
  | 28 => ⟨S1024x1024, .bf16⟩
  | 29 => ⟨S1x3x256, .f32⟩
  | 30 => ⟨S1x31x256, .f32⟩
  | 31 => ⟨S3x1x256, .f32⟩
  | 32 => ⟨S3x256, .f32⟩
  | 33 => ⟨S31x1x256, .f32⟩
  | 34 => ⟨S31x256, .f32⟩
  | 35 => ⟨S4x64x64, .f32⟩
  | 36 => ⟨S4x64x1x64, .f32⟩
  | 37 => ⟨S4x4, .i32⟩
  | 38 => ⟨S4x4, .i32⟩
  | 39 => ⟨S_, .i32⟩
  | 40 => ⟨S4x4, .i32⟩
  | 41 => ⟨S4x4, .i32⟩
  | 42 => ⟨S4x4, .i1⟩
  | 43 => ⟨S4x4, .f32⟩
  | 44 => ⟨S4x1x4x1, .f32⟩
  | 45 => ⟨S4x64x4x64, .f32⟩
  | 46 => ⟨S4x64x4x64, .f32⟩
  | 47 => ⟨S4x64x4x64, .f32⟩
  | 48 => ⟨S256x256, .f32⟩
  | 49 => ⟨S4x128x128, .f32⟩
  | 50 => ⟨S_, .f32⟩
  | 51 => ⟨S128x128, .f32⟩
  | 52 => ⟨S128x128, .i32⟩
  | 53 => ⟨S_, .i32⟩
  | 54 => ⟨S128x128, .i32⟩
  | 55 => ⟨S128x128, .i32⟩
  | 56 => ⟨S128x128, .i32⟩
  | 57 => ⟨S128x128, .i1⟩
  | 58 => ⟨S_, .f32⟩
  | 59 => ⟨S128x128, .f32⟩
  | 60 => ⟨S128x128, .f32⟩
  | 61 => ⟨S1x128x128, .f32⟩
  | 62 => ⟨S4x128x128, .f32⟩
  | 63 => ⟨S4x128x128, .f32⟩
  | 64 => ⟨S256, .f32⟩
  | 65 => ⟨S256, .f32⟩
  | 66 => ⟨S256, .f32⟩
  | 67 => ⟨S256, .f32⟩
  | 68 => ⟨S256, .f32⟩
  | 69 => ⟨S256, .f32⟩
  | 70 => ⟨S256, .f32⟩
  | 71 => ⟨S1x256, .f32⟩
  | 72 => ⟨S1x256, .f32⟩
  | 73 => ⟨S1x256, .f32⟩
  | 74 => ⟨S1x256, .f32⟩
  | 75 => ⟨S1x256, .f32⟩
  | 76 => ⟨S1x256, .f32⟩
  | 77 => ⟨S1x256, .f32⟩
  | 78 => ⟨S7x256, .f32⟩
  | 79 => ⟨S4x64, .f32⟩
  | 80 => ⟨S256, .f32⟩
  | 81 => ⟨S1x256, .f32⟩
  | 82 => ⟨S128, .f32⟩
  | 83 => ⟨S_, .f32⟩
  | 84 => ⟨S128, .f32⟩
  | 85 => ⟨S128, .f32⟩
  | 86 => ⟨S128x1, .f32⟩
  | 87 => ⟨S128x256, .f32⟩
  | 88 => ⟨S128x256, .f32⟩
  | 89 => ⟨S128x256, .f32⟩
  | 90 => ⟨S4x128, .f32⟩
  | 91 => ⟨S128x4, .f32⟩
  | 92 => ⟨S128x4x64, .f32⟩
  | 93 => ⟨S128x256, .f32⟩
  | 94 => ⟨S_, .f32⟩
  | 95 => ⟨S128x256, .f32⟩
  | 96 => ⟨S128x256, .f32⟩
  | 97 => ⟨S_, .f32⟩
  | 98 => ⟨S1x256, .f32⟩
  | 99 => ⟨S1x256, .f32⟩
  | 100 => ⟨S_, .f32⟩
  | 101 => ⟨S7x256, .f32⟩
  | 102 => ⟨S264x256, .f32⟩
  | 103 => ⟨S_, .i32⟩
  | 104 => ⟨S_, .f32⟩
  | 105 => ⟨S8x256, .f32⟩
  | 106 => ⟨S_, .i32⟩
  | 107 => ⟨S_, .f32⟩
  | 108 => ⟨S32x256, .f32⟩
  | 109 => ⟨S_, .i32⟩
  | 110 => ⟨S_, .f32⟩
  | 111 => ⟨S16x256, .f32⟩
  | 112 => ⟨S256x256, .bf16⟩
  | 113 => ⟨S256x256, .bf16⟩
  | 114 => ⟨S512x128, .f32⟩
  | 115 => ⟨S512x128, .bf16⟩
  | 116 => ⟨S256x256, .f32⟩
  | 117 => ⟨S256x256, .bf16⟩
  | 118 => ⟨S256x256, .f32⟩
  | 119 => ⟨S256x256, .bf16⟩
  | 120 => ⟨S4x128x128, .f32⟩
  | 121 => ⟨S512x128, .f32⟩
  | 122 => ⟨S512x128, .bf16⟩
  | 123 => ⟨S16384x3072, .f32⟩
  | 124 => ⟨S16384x3072, .bf16⟩
  | 125 => ⟨S16384x256, .f32⟩
  | 126 => ⟨S16384x256, .f32⟩
  | 127 => ⟨S16384x256, .f32⟩
  | _ => ⟨S1x16384x3072, .f32⟩

abbrev hbmTy0_1 (i : Nat) : BufTy := match i % 128 with
  | 0 => ⟨S16384x256, .f32⟩
  | 1 => ⟨S_, .f32⟩
  | 2 => ⟨S16384x256, .f32⟩
  | 3 => ⟨S16384x256, .f32⟩
  | 4 => ⟨S_, .f32⟩
  | 5 => ⟨S16384x256, .f32⟩
  | 6 => ⟨S16384x256, .f32⟩
  | 7 => ⟨S16384x256, .f32⟩
  | 8 => ⟨S_, .i32⟩
  | 9 => ⟨S_, .f32⟩
  | 10 => ⟨S16414x256, .f32⟩
  | 11 => ⟨S16384x256, .f32⟩
  | 12 => ⟨S16384x256, .f32⟩
  | 13 => ⟨S16384x256, .f32⟩
  | 14 => ⟨S16384x256, .f32⟩
  | 15 => ⟨S16384x256, .f32⟩
  | 16 => ⟨S16384x256, .f32⟩
  | 17 => ⟨S16384x256, .f32⟩
  | 18 => ⟨S16384x256, .f32⟩
  | 19 => ⟨S16384x256, .f32⟩
  | 20 => ⟨S16384x256, .f32⟩
  | 21 => ⟨S16384x256, .f32⟩
  | 22 => ⟨S16384x256, .f32⟩
  | 23 => ⟨S16384x256, .f32⟩
  | 24 => ⟨S16384x256, .f32⟩
  | 25 => ⟨S16384x256, .f32⟩
  | 26 => ⟨S16384x256, .f32⟩
  | 27 => ⟨S16384x256, .f32⟩
  | 28 => ⟨S16384x256, .f32⟩
  | 29 => ⟨S16384x256, .f32⟩
  | 30 => ⟨S16384x256, .f32⟩
  | 31 => ⟨S16384x256, .f32⟩
  | 32 => ⟨S16384x256, .f32⟩
  | 33 => ⟨S16384x256, .f32⟩
  | 34 => ⟨S16384x256, .f32⟩
  | 35 => ⟨S16384x256, .f32⟩
  | 36 => ⟨S16384x256, .f32⟩
  | 37 => ⟨S16384x256, .f32⟩
  | 38 => ⟨S16384x256, .f32⟩
  | 39 => ⟨S16384x256, .f32⟩
  | 40 => ⟨S16384x256, .f32⟩
  | 41 => ⟨S16384x256, .f32⟩
  | 42 => ⟨S1x16384x256, .f32⟩
  | 43 => ⟨S1x16384x256, .f32⟩
  | 44 => ⟨S1x16384x256, .f32⟩
  | 45 => ⟨S1x16384x256, .f32⟩
  | 46 => ⟨S1x16384x256, .f32⟩
  | 47 => ⟨S1x16384x256, .f32⟩
  | 48 => ⟨S1x16384x256, .f32⟩
  | 49 => ⟨S1x16384x256, .f32⟩
  | 50 => ⟨S1x16384x256, .f32⟩
  | 51 => ⟨S1x16384x256, .f32⟩
  | 52 => ⟨S1x16384x256, .f32⟩
  | 53 => ⟨S1x16384x256, .f32⟩
  | 54 => ⟨S1x16384x256, .f32⟩
  | 55 => ⟨S1x16384x256, .f32⟩
  | 56 => ⟨S1x16384x256, .f32⟩
  | 57 => ⟨S1x16384x256, .f32⟩
  | 58 => ⟨S1x16384x256, .f32⟩
  | 59 => ⟨S1x16384x256, .f32⟩
  | 60 => ⟨S1x16384x256, .f32⟩
  | 61 => ⟨S1x16384x256, .f32⟩
  | 62 => ⟨S1x16384x256, .f32⟩
  | 63 => ⟨S1x16384x256, .f32⟩
  | 64 => ⟨S1x16384x256, .f32⟩
  | 65 => ⟨S1x16384x256, .f32⟩
  | 66 => ⟨S1x16384x256, .f32⟩
  | 67 => ⟨S1x16384x256, .f32⟩
  | 68 => ⟨S1x16384x256, .f32⟩
  | 69 => ⟨S1x16384x256, .f32⟩
  | 70 => ⟨S1x16384x256, .f32⟩
  | 71 => ⟨S1x16384x256, .f32⟩
  | 72 => ⟨S1x16384x256, .f32⟩
  | 73 => ⟨S16x16384x256, .f32⟩
  | 74 => ⟨S15x16384x256, .f32⟩
  | 75 => ⟨S31x16384x256, .f32⟩
  | 76 => ⟨S31x1x256, .f32⟩
  | 77 => ⟨S31x16384x256, .f32⟩
  | 78 => ⟨S31x16384x256, .f32⟩
  | 79 => ⟨S_, .f32⟩
  | 80 => ⟨S16384x256, .f32⟩
  | 81 => ⟨S1x256, .f32⟩
  | 82 => ⟨S16384x256, .f32⟩
  | 83 => ⟨S16384x256, .f32⟩
  | 84 => ⟨S16384x1024, .f32⟩
  | 85 => ⟨S16384x3072, .bf16⟩
  | 86 => ⟨S16384x1024, .bf16⟩
  | 87 => ⟨S64x256, .f32⟩
  | 88 => ⟨S256x256, .f32⟩
  | 89 => ⟨S256x256, .f32⟩
  | 90 => ⟨S512x128, .f32⟩
  | 91 => ⟨S128x256, .f32⟩
  | 92 => ⟨S16384x768, .bf16⟩
  | 93 => ⟨S16384x768, .f32⟩
  | 94 => ⟨S1x256, .f32⟩
  | 95 => ⟨S256, .f32⟩
  | 96 => ⟨S1x256, .f32⟩
  | 97 => ⟨S256, .f32⟩
  | 98 => ⟨S4x128x128, .f32⟩
  | 99 => ⟨S_, .f32⟩
  | 100 => ⟨S128x128, .f32⟩
  | 101 => ⟨S128x128, .i32⟩
  | 102 => ⟨S_, .i32⟩
  | 103 => ⟨S128x128, .i32⟩
  | 104 => ⟨S128x128, .i32⟩
  | 105 => ⟨S128x128, .i32⟩
  | 106 => ⟨S128x128, .i1⟩
  | 107 => ⟨S_, .f32⟩
  | 108 => ⟨S128x128, .f32⟩
  | 109 => ⟨S128x128, .f32⟩
  | 110 => ⟨S1x128x128, .f32⟩
  | 111 => ⟨S4x128x128, .f32⟩
  | 112 => ⟨S4x128x128, .f32⟩
  | 113 => ⟨S128x4x64, .f32⟩
  | 114 => ⟨S_, .f32⟩
  | 115 => ⟨S128x4, .f32⟩
  | 116 => ⟨S4x128, .f32⟩
  | 117 => ⟨S1x256, .f32⟩
  | 118 => ⟨S256, .f32⟩
  | _ => ⟨S1x16384x3072, .f32⟩

abbrev hbmTy (i : Nat) : BufTy := match i / 128 with
  | 0 => hbmTy0_0 i
  | 1 => hbmTy0_1 i
  | _ => ⟨S1x16384x3072, .f32⟩

abbrev bufTy : (tb : Table) → Fin (tcTables nBuf tb) → BufTy
  | .hbm, ⟨i, _⟩ => hbmTy i
  | .local _ .vmem, ⟨0, _⟩ => ⟨S512x3072, .bf16⟩
  | .local _ .vmem, ⟨1, _⟩ => ⟨S512x3072, .bf16⟩
  | .local _ .vmem, ⟨2, _⟩ => ⟨S32x3072, .bf16⟩
  | .local _ .vmem, ⟨3, _⟩ => ⟨S32x3072, .bf16⟩
  | .local _ .vmem, ⟨4, _⟩ => ⟨S512x256, .f32⟩
  | .local _ .vmem, ⟨5, _⟩ => ⟨S512x256, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S8x256, .f32⟩
  | .local _ .vmem, ⟨12, _⟩ => ⟨S32x256, .f32⟩
  | .local _ .vmem, ⟨13, _⟩ => ⟨S16x256, .f32⟩
  | .local _ .vmem, ⟨14, _⟩ => ⟨S256x256, .bf16⟩
  | .local _ .vmem, ⟨15, _⟩ => ⟨S256x256, .bf16⟩
  | .local _ .vmem, ⟨16, _⟩ => ⟨S512x128, .bf16⟩
  | .local _ .vmem, ⟨17, _⟩ => ⟨S264x256, .f32⟩
  | .local _ .vmem, ⟨18, _⟩ => ⟨S256x256, .bf16⟩
  | .local _ .vmem, ⟨19, _⟩ => ⟨S256x256, .bf16⟩
  | .local _ .vmem, ⟨20, _⟩ => ⟨S512x128, .bf16⟩
  | .local _ .vmem, ⟨21, _⟩ => ⟨S1024x1024, .bf16⟩
  | .local _ .vmem, ⟨22, _⟩ => ⟨S512x3072, .bf16⟩
  | .local _ .vmem, ⟨23, _⟩ => ⟨S512x3072, .bf16⟩
  | .local _ .vmem, ⟨24, _⟩ => ⟨S512x1024, .bf16⟩
  | .local _ .vmem, ⟨25, _⟩ => ⟨S512x1024, .bf16⟩
  | .local _ .vmem, ⟨26, _⟩ => ⟨S64x256, .f32⟩
  | .local _ .vmem, ⟨27, _⟩ => ⟨S256x256, .f32⟩
  | .local _ .vmem, ⟨28, _⟩ => ⟨S256x256, .f32⟩
  | .local _ .vmem, ⟨29, _⟩ => ⟨S512x128, .f32⟩
  | .local _ .vmem, ⟨30, _⟩ => ⟨S128x256, .f32⟩
  | .local _ .vmem, ⟨31, _⟩ => ⟨S544x768, .f32⟩
  | .local _ .vmem, ⟨32, _⟩ => ⟨S544x768, .f32⟩
  | .local _ .vmem, ⟨33, _⟩ => ⟨S512x1024, .f32⟩
  | .local _ .vmem, ⟨34, _⟩ => ⟨S512x1024, .f32⟩
  | .local _ .vmem, ⟨35, _⟩ => ⟨S64x8x256, .f32⟩
  | _, _ => ⟨S1x16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_0 : Ref sig .tc := ⟨.hbm, 50, rfl⟩
abbrev main_v31 : Ref sig .tc := ⟨.hbm, 51, rfl⟩
abbrev main_call0_v0 : Ref sig .tc := ⟨.hbm, 52, rfl⟩
abbrev main_call0_c : Ref sig .tc := ⟨.hbm, 53, rfl⟩
abbrev main_call0_v1 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_call0_cst : Ref sig .tc := ⟨.hbm, 58, rfl⟩
abbrev main_call0_v5 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_1 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_2 : Ref sig .tc := ⟨.hbm, 94, rfl⟩
abbrev main_v65 : Ref sig .tc := ⟨.hbm, 95, rfl⟩
abbrev main_v66 : Ref sig .tc := ⟨.hbm, 96, rfl⟩
abbrev main_cst_3 : Ref sig .tc := ⟨.hbm, 97, rfl⟩
abbrev main_v67 : Ref sig .tc := ⟨.hbm, 98, rfl⟩
abbrev main_v68 : Ref sig .tc := ⟨.hbm, 99, rfl⟩
abbrev main_cst_4 : Ref sig .tc := ⟨.hbm, 100, rfl⟩
abbrev main_v69 : Ref sig .tc := ⟨.hbm, 101, rfl⟩
abbrev main_v70 : Ref sig .tc := ⟨.hbm, 102, rfl⟩
abbrev main_c_5 : Ref sig .tc := ⟨.hbm, 103, rfl⟩
abbrev main_call1_v0 : Ref sig .tc := ⟨.hbm, 104, rfl⟩
abbrev main_v71 : Ref sig .tc := ⟨.hbm, 105, rfl⟩
abbrev main_c_6 : Ref sig .tc := ⟨.hbm, 106, rfl⟩
abbrev main_call2_v0 : Ref sig .tc := ⟨.hbm, 107, rfl⟩
abbrev main_v72 : Ref sig .tc := ⟨.hbm, 108, rfl⟩
abbrev main_c_7 : Ref sig .tc := ⟨.hbm, 109, rfl⟩
abbrev main_call3_v0 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_cst_8 : Ref sig .tc := ⟨.hbm, 129, rfl⟩
abbrev main_v91 : Ref sig .tc := ⟨.hbm, 130, rfl⟩
abbrev main_v92 : Ref sig .tc := ⟨.hbm, 131, rfl⟩
abbrev main_cst_9 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_c_10 : Ref sig .tc := ⟨.hbm, 136, rfl⟩
abbrev main_call4_v0 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_cst_11 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170_0 : Ref sig .tc := ⟨.hbm, 213, rfl⟩
abbrev main_v170_1 : Ref sig .tc := ⟨.hbm, 214, rfl⟩
abbrev main_v170_2 : Ref sig .tc := ⟨.hbm, 215, rfl⟩
abbrev main_v170_3 : Ref sig .tc := ⟨.hbm, 216, rfl⟩
abbrev main_v170_4 : Ref sig .tc := ⟨.hbm, 217, rfl⟩
abbrev main_v170_5 : Ref sig .tc := ⟨.hbm, 218, rfl⟩
abbrev main_v170_6 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩
abbrev main_v177 : Ref sig .tc := ⟨.hbm, 226, rfl⟩
abbrev main_cst_12 : Ref sig .tc := ⟨.hbm, 227, rfl⟩
abbrev main_v178 : Ref sig .tc := ⟨.hbm, 228, rfl⟩
abbrev main_call5_v0 : Ref sig .tc := ⟨.hbm, 229, rfl⟩
abbrev main_call5_c : Ref sig .tc := ⟨.hbm, 230, rfl⟩
abbrev main_call5_v1 : Ref sig .tc := ⟨.hbm, 231, rfl⟩
abbrev main_call5_v2 : Ref sig .tc := ⟨.hbm, 232, rfl⟩
abbrev main_call5_v3 : Ref sig .tc := ⟨.hbm, 233, rfl⟩
abbrev main_call5_v4 : Ref sig .tc := ⟨.hbm, 234, rfl⟩
abbrev main_call5_cst : Ref sig .tc := ⟨.hbm, 235, rfl⟩
abbrev main_call5_v5 : Ref sig .tc := ⟨.hbm, 236, rfl⟩
abbrev main_v179 : Ref sig .tc := ⟨.hbm, 237, rfl⟩
abbrev main_v180 : Ref sig .tc := ⟨.hbm, 238, rfl⟩
abbrev main_v181 : Ref sig .tc := ⟨.hbm, 239, rfl⟩
abbrev main_v182 : Ref sig .tc := ⟨.hbm, 240, rfl⟩
abbrev main_v183 : Ref sig .tc := ⟨.hbm, 241, rfl⟩
abbrev main_cst_13 : Ref sig .tc := ⟨.hbm, 242, rfl⟩
abbrev main_v184 : Ref sig .tc := ⟨.hbm, 243, rfl⟩
abbrev main_v185 : Ref sig .tc := ⟨.hbm, 244, rfl⟩
abbrev main_v186 : Ref sig .tc := ⟨.hbm, 245, rfl⟩
abbrev main_v187 : Ref sig .tc := ⟨.hbm, 246, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg20_0 : Ref sig .tc := ⟨.vmem, 27, rfl⟩
abbrev cc0_stg21_0 : Ref sig .tc := ⟨.vmem, 28, rfl⟩
abbrev cc0_stg22_0 : Ref sig .tc := ⟨.vmem, 29, rfl⟩
abbrev cc0_stg23_0 : Ref sig .tc := ⟨.vmem, 30, rfl⟩
abbrev cc0_scratch0 : Ref sig .tc := ⟨.vmem, 31, rfl⟩
abbrev cc0_scratch1 : Ref sig .tc := ⟨.vmem, 32, rfl⟩
abbrev cc0_scratch2 : Ref sig .tc := ⟨.vmem, 33, rfl⟩
abbrev cc0_scratch3 : Ref sig .tc := ⟨.vmem, 34, rfl⟩
abbrev cc0_scratch4 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem20_0 : DmaSem sig := 27
abbrev cc0_sem21_0 : DmaSem sig := 28
abbrev cc0_sem22_0 : DmaSem sig := 29
abbrev cc0_sem23_0 : DmaSem sig := 30

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_14 : BitVec 32 := 0#32
  let c4_i32 : BitVec 32 := 4#32
  let v38 : BitVec 32 := Scalar.addi c0_i32_14 c4_i32
  let c1_i32 : BitVec 32 := 1#32
  ⟨c0_i32_14, v38, c1_i32⟩
def k0_mult1 (k0_t1 : Fin k0_t1_loop.trips) : BitVec 32 :=
  let c0_i32_14 : BitVec 32 := 0#32
  let c1_i32 : BitVec 32 := 1#32
  let arg30 : BitVec 32 := Scf.iv c0_i32_14 c1_i32 k0_t1
  let c128_i32_2356 : BitVec 32 := 128#32
  let v9468 : BitVec 32 := Scalar.muli arg30 c128_i32_2356
  v9468
def k0_off1 (k0_t1 : Fin k0_t1_loop.trips) : Fin 2 → Nat :=
  let c0_i32_14 : BitVec 32 := 0#32
  let c1_i32 : BitVec 32 := 1#32
  let arg30 : BitVec 32 := Scf.iv c0_i32_14 c1_i32 k0_t1
  let c128_i32_2356 : BitVec 32 := 128#32
  let v9468 : BitVec 32 := Scalar.muli arg30 c128_i32_2356
  let v9469 : BitVec 32 := v9468
  let v9470 : Index := Scalar.indexCast v9469
  let c256_2357 : Index := 256#32
  ![v9470.toNat, 256]
def k0_off2 (k0_t1 : Fin k0_t1_loop.trips) : Fin 2 → Nat :=
  let c0_i32_14 : BitVec 32 := 0#32
  let c1_i32 : BitVec 32 := 1#32
  let arg30 : BitVec 32 := Scf.iv c0_i32_14 c1_i32 k0_t1
  let c128_i32_2356 : BitVec 32 := 128#32
  let v9468 : BitVec 32 := Scalar.muli arg30 c128_i32_2356
  let v9469 : BitVec 32 := v9468
  let v9474 : Index := Scalar.indexCast v9469
  let c512_2358 : Index := 512#32
  ![v9474.toNat, 512]
def k0_off3 (k0_t1 : Fin k0_t1_loop.trips) : Fin 2 → Nat :=
  let c0_i32_14 : BitVec 32 := 0#32
  let c1_i32 : BitVec 32 := 1#32
  let arg30 : BitVec 32 := Scf.iv c0_i32_14 c1_i32 k0_t1
  let c128_i32_2356 : BitVec 32 := 128#32
  let v9468 : BitVec 32 := Scalar.muli arg30 c128_i32_2356
  let v9469 : BitVec 32 := v9468
  let v9479 : Index := Scalar.indexCast v9469
  let c1024_2359 : Index := 1024#32
  ![v9479.toNat, 1024]
def k0_off4 (k0_t1 : Fin k0_t1_loop.trips) : Fin 2 → Nat :=
  let c0_i32_14 : BitVec 32 := 0#32
  let c1_i32 : BitVec 32 := 1#32
  let arg30 : BitVec 32 := Scf.iv c0_i32_14 c1_i32 k0_t1
  let c128_i32_2356 : BitVec 32 := 128#32
  let v9468 : BitVec 32 := Scalar.muli arg30 c128_i32_2356
  let v9469 : BitVec 32 := v9468
  let v9483 : Index := Scalar.indexCast v9469
  let c1536_2360 : Index := 1536#32
  ![v9483.toNat, 1536]
def k0_off5 (k0_t1 : Fin k0_t1_loop.trips) : Fin 2 → Nat :=
  let c0_i32_14 : BitVec 32 := 0#32
  let c1_i32 : BitVec 32 := 1#32
  let arg30 : BitVec 32 := Scf.iv c0_i32_14 c1_i32 k0_t1
  let c128_i32_2356 : BitVec 32 := 128#32
  let v9468 : BitVec 32 := Scalar.muli arg30 c128_i32_2356
  let v9469 : BitVec 32 := v9468
  let v9487 : Index := Scalar.indexCast v9469
  let c1792_2361 : Index := 1792#32
  ![v9487.toNat, 1792]
def k0_off6 (k0_t1 : Fin k0_t1_loop.trips) : Fin 2 → Nat :=
  let c0_i32_14 : BitVec 32 := 0#32
  let c1_i32 : BitVec 32 := 1#32
  let arg30 : BitVec 32 := Scf.iv c0_i32_14 c1_i32 k0_t1
  let c128_i32_2356 : BitVec 32 := 128#32
  let v9468 : BitVec 32 := Scalar.muli arg30 c128_i32_2356
  let v9469 : BitVec 32 := v9468
  let c32_i32 : BitVec 32 := 32#32
  let v9493 : BitVec 32 := Scalar.addi v9469 c32_i32
  let v9494 : Index := Scalar.indexCast v9493
  let c0_2362 : Index := 0#32
  ![v9494.toNat, 0]
def k0_off7 (k0_t1 : Fin k0_t1_loop.trips) : Fin 2 → Nat :=
  let c0_i32_14 : BitVec 32 := 0#32
  let c1_i32 : BitVec 32 := 1#32
  let arg30 : BitVec 32 := Scf.iv c0_i32_14 c1_i32 k0_t1
  let c128_i32_2356 : BitVec 32 := 128#32
  let v9468 : BitVec 32 := Scalar.muli arg30 c128_i32_2356
  let v9469 : BitVec 32 := v9468
  let c32_i32_2363 : BitVec 32 := 32#32
  let v9498 : BitVec 32 := Scalar.addi v9469 c32_i32_2363
  let v9499 : Index := Scalar.indexCast v9498
  let c256_2364 : Index := 256#32
  ![v9499.toNat, 256]
def k0_off8 (k0_t1 : Fin k0_t1_loop.trips) : Fin 2 → Nat :=
  let c0_i32_14 : BitVec 32 := 0#32
  let c1_i32 : BitVec 32 := 1#32
  let arg30 : BitVec 32 := Scf.iv c0_i32_14 c1_i32 k0_t1
  let c128_i32_2356 : BitVec 32 := 128#32
  let v9468 : BitVec 32 := Scalar.muli arg30 c128_i32_2356
  let v9469 : BitVec 32 := v9468
  let c32_i32_2365 : BitVec 32 := 32#32
  let v9503 : BitVec 32 := Scalar.addi v9469 c32_i32_2365
  let v9504 : Index := Scalar.indexCast v9503
  let c512_2366 : Index := 512#32
  ![v9504.toNat, 512]
def k0_cond2 (i : grid0.Coords) : BitVec 1 :=
  let arg0 : BitVec 32 := BitVec.ofNat 32 (i 0).val
  let c31_i32_2354 : BitVec 32 := 31#32
  let v9465 : BitVec 1 := Scalar.cmpi .eq arg0 c31_i32_2354
  let v9466 : BitVec 32 := Scalar.extui v9465
  let c0_i32_2355 : BitVec 32 := 0#32
  let v9467 : BitVec 1 := Scalar.cmpi .ne v9466 c0_i32_2355
  v9467

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c30_i32 : BitVec 32 := 30#32
  let v0 : BitVec 32 := Scalar.subi c30_i32 arg0
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_18 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S264x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S512x3072 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S64x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S256x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S256x256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S512x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S128x256 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]
-- ==== Kernel2Ideal.lean ====
variable {F : FTy → Type} [FloatOps F] [Named F]
def κ : String → Option EReal := fun
  | "three_c0_c1" => some ((241015141496493 / 2251799813685248 : ℝ) : EReal)
  | _ => none
-- ==== Reference2Ideal.lean ====
abbrev S1x16384x3072 : Shape := ⟨3, ![1, 16384, 3072]⟩
abbrev S1x16384x1024 : Shape := ⟨3, ![1, 16384, 1024]⟩
abbrev S1x1024 : Shape := ⟨2, ![1, 1024]⟩
abbrev S3x256 : Shape := ⟨2, ![3, 256]⟩
abbrev S4x64x64 : Shape := ⟨3, ![4, 64, 64]⟩
abbrev S256 : Shape := ⟨1, ![256]⟩
abbrev S31x256 : Shape := ⟨2, ![31, 256]⟩
abbrev S256x256 : Shape := ⟨2, ![256, 256]⟩
abbrev S4x128x128 : Shape := ⟨3, ![4, 128, 128]⟩
abbrev S4x128 : Shape := ⟨2, ![4, 128]⟩
abbrev S1024x1024 : Shape := ⟨2, ![1024, 1024]⟩
abbrev S1x16384x768 : Shape := ⟨3, ![1, 16384, 768]⟩
abbrev S1x16384x256 : Shape := ⟨3, ![1, 16384, 256]⟩
abbrev S_ : Shape := ⟨0, ![]⟩
abbrev S1x16384 : Shape := ⟨2, ![1, 16384]⟩
abbrev S1x16384x1 : Shape := ⟨3, ![1, 16384, 1]⟩
abbrev S1x1x256 : Shape := ⟨3, ![1, 1, 256]⟩
abbrev S1x128x128x4x64 : Shape := ⟨5, ![1, 128, 128, 4, 64]⟩
abbrev S128x128 : Shape := ⟨2, ![128, 128]⟩
abbrev S1x128x128 : Shape := ⟨3, ![1, 128, 128]⟩
abbrev S4x1x128x64x128 : Shape := ⟨5, ![4, 1, 128, 64, 128]⟩
abbrev S128x4 : Shape := ⟨2, ![128, 4]⟩
abbrev S1x1x128x4x1 : Shape := ⟨5, ![1, 1, 128, 4, 1]⟩
abbrev S1x1x1024 : Shape := ⟨3, ![1, 1, 1024]⟩
abbrev S256x1024 : Shape := ⟨2, ![256, 1024]⟩
abbrev S1024x256 : Shape := ⟨2, ![1024, 256]⟩
abbrev S1024 : Shape := ⟨1, ![1024]⟩
abbrev S1x128x4 : Shape := ⟨3, ![1, 128, 4]⟩
abbrev S1x256 : Shape := ⟨2, ![1, 256]⟩
abbrev S16384 : Shape := ⟨1, ![16384]⟩
abbrev S16384x768 : Shape := ⟨2, ![16384, 768]⟩
abbrev S16384x3072 : Shape := ⟨2, ![16384, 3072]⟩
abbrev S16384x256 : Shape := ⟨2, ![16384, 256]⟩
abbrev S16414x256 : Shape := ⟨2, ![16414, 256]⟩
abbrev S16x16384x256 : Shape := ⟨3, ![16, 16384, 256]⟩
abbrev S15x16384x256 : Shape := ⟨3, ![15, 16384, 256]⟩
abbrev S31x16384x256 : Shape := ⟨3, ![31, 16384, 256]⟩
abbrev S31x1x256 : Shape := ⟨3, ![31, 1, 256]⟩
abbrev S16384x1 : Shape := ⟨2, ![16384, 1]⟩

abbrev nBuf : Space → Nat
  | .hbm => 437
  | .vmem => 0
  | .smem => 0
  | _ => 0

abbrev hbmTy0_0 (i : Nat) : BufTy := match i % 128 with
  | 0 => ⟨S1x16384x3072, .f32⟩
  | 1 => ⟨S1x16384x1024, .f32⟩
  | 2 => ⟨S1x1024, .f32⟩
  | 3 => ⟨S3x256, .f32⟩
  | 4 => ⟨S4x64x64, .f32⟩
  | 5 => ⟨S256, .f32⟩
  | 6 => ⟨S31x256, .f32⟩
  | 7 => ⟨S256, .f32⟩
  | 8 => ⟨S256, .f32⟩
  | 9 => ⟨S256, .f32⟩
  | 10 => ⟨S256x256, .f32⟩
  | 11 => ⟨S256, .f32⟩
  | 12 => ⟨S256, .f32⟩
  | 13 => ⟨S256, .f32⟩
  | 14 => ⟨S4x128x128, .f32⟩
  | 15 => ⟨S4x128, .f32⟩
  | 16 => ⟨S1024x1024, .f32⟩
  | 17 => ⟨S1x16384x768, .f32⟩
  | 18 => ⟨S1x16384x256, .f32⟩
  | 19 => ⟨S1x16384x256, .f32⟩
  | 20 => ⟨S1x16384x256, .f32⟩
  | 21 => ⟨S1x16384x256, .f32⟩
  | 22 => ⟨S1x16384x256, .f32⟩
  | 23 => ⟨S1x16384x256, .f32⟩
  | 24 => ⟨S_, .f32⟩
  | 25 => ⟨S1x16384x256, .f32⟩
  | 26 => ⟨S1x16384x256, .f32⟩
  | 27 => ⟨S_, .f32⟩
  | 28 => ⟨S1x16384x256, .f32⟩
  | 29 => ⟨S1x16384x256, .f32⟩
  | 30 => ⟨S1x16384x256, .f32⟩
  | 31 => ⟨S_, .f32⟩
  | 32 => ⟨S1x16384x256, .f32⟩
  | 33 => ⟨S1x16384x256, .f32⟩
  | 34 => ⟨S1x16384x256, .f32⟩
  | 35 => ⟨S_, .f32⟩
  | 36 => ⟨S1x16384x256, .f32⟩
  | 37 => ⟨S1x16384x256, .f32⟩
  | 38 => ⟨S_, .f32⟩
  | 39 => ⟨S1x16384x256, .f32⟩
  | 40 => ⟨S1x16384x256, .f32⟩
  | 41 => ⟨S1x16384x256, .f32⟩
  | 42 => ⟨S_, .f32⟩
  | 43 => ⟨S1x16384x256, .f32⟩
  | 44 => ⟨S1x16384x256, .f32⟩
  | 45 => ⟨S_, .f32⟩
  | 46 => ⟨S1x16384x256, .f32⟩
  | 47 => ⟨S1x16384x256, .f32⟩
  | 48 => ⟨S1x16384x256, .f32⟩
  | 49 => ⟨S1x16384x256, .f32⟩
  | 50 => ⟨S1x16384x256, .f32⟩
  | 51 => ⟨S1x16384x256, .f32⟩
  | 52 => ⟨S_, .f32⟩
  | 53 => ⟨S1x16384x256, .f32⟩
  | 54 => ⟨S1x16384x256, .f32⟩
  | 55 => ⟨S_, .f32⟩
  | 56 => ⟨S1x16384x256, .f32⟩
  | 57 => ⟨S1x16384x256, .f32⟩
  | 58 => ⟨S1x16384x256, .f32⟩
  | 59 => ⟨S_, .f32⟩
  | 60 => ⟨S1x16384x256, .f32⟩
  | 61 => ⟨S1x16384x256, .f32⟩
  | 62 => ⟨S1x16384x256, .f32⟩
  | 63 => ⟨S_, .f32⟩
  | 64 => ⟨S1x16384x256, .f32⟩
  | 65 => ⟨S1x16384x256, .f32⟩
  | 66 => ⟨S_, .f32⟩
  | 67 => ⟨S1x16384x256, .f32⟩
  | 68 => ⟨S1x16384x256, .f32⟩
  | 69 => ⟨S1x16384x256, .f32⟩
  | 70 => ⟨S_, .f32⟩
  | 71 => ⟨S1x16384x256, .f32⟩
  | 72 => ⟨S1x16384x256, .f32⟩
  | 73 => ⟨S_, .f32⟩
  | 74 => ⟨S1x16384x256, .f32⟩
  | 75 => ⟨S1x16384x256, .f32⟩
  | 76 => ⟨S1x16384x256, .f32⟩
  | 77 => ⟨S_, .f32⟩
  | 78 => ⟨S1x16384, .f32⟩
  | 79 => ⟨S1x16384x1, .f32⟩
  | 80 => ⟨S_, .f32⟩
  | 81 => ⟨S1x16384x1, .f32⟩
  | 82 => ⟨S1x16384x1, .f32⟩
  | 83 => ⟨S1x16384x256, .f32⟩
  | 84 => ⟨S1x16384x256, .f32⟩
  | 85 => ⟨S1x16384x256, .f32⟩
  | 86 => ⟨S_, .f32⟩
  | 87 => ⟨S1x16384x256, .f32⟩
  | 88 => ⟨S1x16384x256, .f32⟩
  | 89 => ⟨S_, .f32⟩
  | 90 => ⟨S1x16384, .f32⟩
  | 91 => ⟨S1x16384x1, .f32⟩
  | 92 => ⟨S_, .f32⟩
  | 93 => ⟨S1x16384x1, .f32⟩
  | 94 => ⟨S1x16384x1, .f32⟩
  | 95 => ⟨S1x16384x256, .f32⟩
  | 96 => ⟨S1x16384x256, .f32⟩
  | 97 => ⟨S_, .f32⟩
  | 98 => ⟨S1x16384x1, .f32⟩
  | 99 => ⟨S1x16384x1, .f32⟩
  | 100 => ⟨S1x16384x1, .f32⟩
  | 101 => ⟨S1x16384x1, .f32⟩
  | 102 => ⟨S_, .f32⟩
  | 103 => ⟨S1x16384x1, .f32⟩
  | 104 => ⟨S1x16384x1, .f32⟩
  | 105 => ⟨S1x16384x256, .f32⟩
  | 106 => ⟨S1x16384x256, .f32⟩
  | 107 => ⟨S1x1x256, .f32⟩
  | 108 => ⟨S1x16384x256, .f32⟩
  | 109 => ⟨S1x16384x256, .f32⟩
  | 110 => ⟨S1x1x256, .f32⟩
  | 111 => ⟨S1x16384x256, .f32⟩
  | 112 => ⟨S1x16384x256, .f32⟩
  | 113 => ⟨S1x128x128x4x64, .f32⟩
  | 114 => ⟨S_, .i1⟩
  | 115 => ⟨S128x128, .i1⟩
  | 116 => ⟨S128x128, .i32⟩
  | 117 => ⟨S_, .i32⟩
  | 118 => ⟨S128x128, .i32⟩
  | 119 => ⟨S128x128, .i32⟩
  | 120 => ⟨S128x128, .i32⟩
  | 121 => ⟨S128x128, .i1⟩
  | 122 => ⟨S_, .i1⟩
  | 123 => ⟨S128x128, .i1⟩
  | 124 => ⟨S128x128, .i1⟩
  | 125 => ⟨S1x128x128, .i1⟩
  | 126 => ⟨S_, .i32⟩
  | 127 => ⟨S_, .f32⟩
  | _ => ⟨S1x16384x3072, .f32⟩

abbrev hbmTy0_1 (i : Nat) : BufTy := match i % 128 with
  | 0 => ⟨S4x128x128, .i1⟩
  | 1 => ⟨S4x128x128, .f32⟩
  | 2 => ⟨S4x128x128, .f32⟩
  | 3 => ⟨S_, .f32⟩
  | 4 => ⟨S4x128x128, .f32⟩
  | 5 => ⟨S4x1x128x64x128, .f32⟩
  | 6 => ⟨S1x128x128x4x64, .f32⟩
  | 7 => ⟨S128x4, .f32⟩
  | 8 => ⟨S1x1x128x4x1, .f32⟩
  | 9 => ⟨S1x128x128x4x64, .f32⟩
  | 10 => ⟨S1x128x128x4x64, .f32⟩
  | 11 => ⟨S1x16384x256, .f32⟩
  | 12 => ⟨S1x16384x256, .f32⟩
  | 13 => ⟨S1x16384x256, .f32⟩
  | 14 => ⟨S1x16384x256, .f32⟩
  | 15 => ⟨S_, .f32⟩
  | 16 => ⟨S1x16384x256, .f32⟩
  | 17 => ⟨S1x16384x256, .f32⟩
  | 18 => ⟨S_, .f32⟩
  | 19 => ⟨S1x16384x256, .f32⟩
  | 20 => ⟨S1x16384x256, .f32⟩
  | 21 => ⟨S_, .f32⟩
  | 22 => ⟨S1x16384x256, .f32⟩
  | 23 => ⟨S1x16384x256, .f32⟩
  | 24 => ⟨S1x16384x256, .f32⟩
  | 25 => ⟨S1x16384x256, .f32⟩
  | 26 => ⟨S1x16384x256, .f32⟩
  | 27 => ⟨S1x1x1024, .f32⟩
  | 28 => ⟨S256x1024, .f32⟩
  | 29 => ⟨S1x16384x1024, .f32⟩
  | 30 => ⟨S1x16384x1024, .f32⟩
  | 31 => ⟨S1x16384x1024, .f32⟩
  | 32 => ⟨S1x16384x1024, .f32⟩
  | 33 => ⟨S1x16384x1024, .f32⟩
  | 34 => ⟨S1x16384x1024, .f32⟩
  | 35 => ⟨S_, .f32⟩
  | 36 => ⟨S1x1024, .f32⟩
  | 37 => ⟨S1x1x1024, .f32⟩
  | 38 => ⟨S1024x256, .f32⟩
  | 39 => ⟨S256x1024, .f32⟩
  | 40 => ⟨S1x16384x256, .f32⟩
  | 41 => ⟨S_, .f32⟩
  | 42 => ⟨S1024x1024, .f32⟩
  | 43 => ⟨S_, .f32⟩
  | 44 => ⟨S1024, .f32⟩
  | 45 => ⟨S1x1024, .f32⟩
  | 46 => ⟨S1x16384x256, .f32⟩
  | 47 => ⟨S1x16384x256, .f32⟩
  | 48 => ⟨S1x16384x256, .f32⟩
  | 49 => ⟨S1x16384x256, .f32⟩
  | 50 => ⟨S1x16384x256, .f32⟩
  | 51 => ⟨S1x16384x256, .f32⟩
  | 52 => ⟨S1x16384x256, .f32⟩
  | 53 => ⟨S1x16384x256, .f32⟩
  | 54 => ⟨S1x128x128x4x64, .f32⟩
  | 55 => ⟨S_, .f32⟩
  | 56 => ⟨S1x128x4, .f32⟩
  | 57 => ⟨S1x1x128x4x1, .f32⟩
  | 58 => ⟨S_, .f32⟩
  | 59 => ⟨S128x4, .f32⟩
  | 60 => ⟨S4x128, .f32⟩
  | 61 => ⟨S4x1x128x64x128, .f32⟩
  | 62 => ⟨S4x128x128, .f32⟩
  | 63 => ⟨S4x1x128x64x128, .f32⟩
  | 64 => ⟨S1x128x128x4x64, .f32⟩
  | 65 => ⟨S_, .f32⟩
  | 66 => ⟨S4x128x128, .f32⟩
  | 67 => ⟨S4x128x128, .f32⟩
  | 68 => ⟨S1x16384x256, .f32⟩
  | 69 => ⟨S_, .f32⟩
  | 70 => ⟨S1x256, .f32⟩
  | 71 => ⟨S1x1x256, .f32⟩
  | 72 => ⟨S_, .f32⟩
  | 73 => ⟨S256, .f32⟩
  | 74 => ⟨S1x16384x256, .f32⟩
  | 75 => ⟨S_, .f32⟩
  | 76 => ⟨S1x256, .f32⟩
  | 77 => ⟨S1x1x256, .f32⟩
  | 78 => ⟨S1x16384x256, .f32⟩
  | 79 => ⟨S1x16384x256, .f32⟩
  | 80 => ⟨S_, .f32⟩
  | 81 => ⟨S256, .f32⟩
  | 82 => ⟨S1x16384x256, .f32⟩
  | 83 => ⟨S_, .f32⟩
  | 84 => ⟨S1x16384, .f32⟩
  | 85 => ⟨S1x16384x1, .f32⟩
  | 86 => ⟨S1x16384x256, .f32⟩
  | 87 => ⟨S1x16384x256, .f32⟩
  | 88 => ⟨S1x16384x1, .f32⟩
  | 89 => ⟨S1x16384x256, .f32⟩
  | 90 => ⟨S_, .f32⟩
  | 91 => ⟨S1x16384, .f32⟩
  | 92 => ⟨S1x16384x1, .f32⟩
  | 93 => ⟨S_, .f32⟩
  | 94 => ⟨S1x16384x1, .f32⟩
  | 95 => ⟨S1x16384x1, .f32⟩
  | 96 => ⟨S_, .f32⟩
  | 97 => ⟨S16384, .f32⟩
  | 98 => ⟨S1x16384, .f32⟩
  | 99 => ⟨S1x16384x256, .f32⟩
  | 100 => ⟨S1x16384x256, .f32⟩
  | 101 => ⟨S1x16384x256, .f32⟩
  | 102 => ⟨S_, .f32⟩
  | 103 => ⟨S1x16384, .f32⟩
  | 104 => ⟨S1x16384x1, .f32⟩
  | 105 => ⟨S1x16384x256, .f32⟩
  | 106 => ⟨S1x16384x1, .f32⟩
  | 107 => ⟨S_, .f32⟩
  | 108 => ⟨S1x16384x1, .f32⟩
  | 109 => ⟨S1x16384x1, .f32⟩
  | 110 => ⟨S_, .f32⟩
  | 111 => ⟨S16384, .f32⟩
  | 112 => ⟨S1x16384, .f32⟩
  | 113 => ⟨S1x16384x256, .f32⟩
  | 114 => ⟨S1x16384x256, .f32⟩
  | 115 => ⟨S1x16384x256, .f32⟩
  | 116 => ⟨S1x16384x256, .f32⟩
  | 117 => ⟨S_, .f32⟩
  | 118 => ⟨S1x16384x256, .f32⟩
  | 119 => ⟨S1x16384x256, .f32⟩
  | 120 => ⟨S1x16384x256, .f32⟩
  | 121 => ⟨S_, .f32⟩
  | 122 => ⟨S1x16384x256, .f32⟩
  | 123 => ⟨S1x16384x256, .f32⟩
  | 124 => ⟨S1x16384x256, .f32⟩
  | 125 => ⟨S_, .f32⟩
  | 126 => ⟨S1x16384x256, .f32⟩
  | 127 => ⟨S1x16384x256, .f32⟩
  | _ => ⟨S1x16384x3072, .f32⟩

abbrev hbmTy0_2 (i : Nat) : BufTy := match i % 128 with
  | 0 => ⟨S1x16384x256, .f32⟩
  | 1 => ⟨S1x16384x256, .f32⟩
  | 2 => ⟨S1x16384x256, .f32⟩
  | 3 => ⟨S1x16384x256, .f32⟩
  | 4 => ⟨S_, .f32⟩
  | 5 => ⟨S1x16384x256, .f32⟩
  | 6 => ⟨S1x16384x256, .f32⟩
  | 7 => ⟨S1x16384x256, .f32⟩
  | 8 => ⟨S_, .f32⟩
  | 9 => ⟨S1x16384x256, .f32⟩
  | 10 => ⟨S1x16384x256, .f32⟩
  | 11 => ⟨S1x16384x256, .f32⟩
  | 12 => ⟨S_, .f32⟩
  | 13 => ⟨S1x16384x256, .f32⟩
  | 14 => ⟨S1x16384x256, .f32⟩
  | 15 => ⟨S1x16384x256, .f32⟩
  | 16 => ⟨S1x16384x256, .f32⟩
  | 17 => ⟨S1x16384x768, .f32⟩
  | 18 => ⟨S_, .f32⟩
  | 19 => ⟨S1x16384x3072, .f32⟩
  | 20 => ⟨S1x16384x768, .f32⟩
  | 21 => ⟨S16384x768, .f32⟩
  | 22 => ⟨S16384x3072, .f32⟩
  | 23 => ⟨S16384x256, .f32⟩
  | 24 => ⟨S16384x256, .f32⟩
  | 25 => ⟨S16384x256, .f32⟩
  | 26 => ⟨S16384x256, .f32⟩
  | 27 => ⟨S_, .f32⟩
  | 28 => ⟨S16384x256, .f32⟩
  | 29 => ⟨S16384x256, .f32⟩
  | 30 => ⟨S_, .f32⟩
  | 31 => ⟨S16384x256, .f32⟩
  | 32 => ⟨S16384x256, .f32⟩
  | 33 => ⟨S16384x256, .f32⟩
  | 34 => ⟨S_, .i32⟩
  | 35 => ⟨S_, .f32⟩
  | 36 => ⟨S16414x256, .f32⟩
  | 37 => ⟨S16384x256, .f32⟩
  | 38 => ⟨S16384x256, .f32⟩
  | 39 => ⟨S16384x256, .f32⟩
  | 40 => ⟨S16384x256, .f32⟩
  | 41 => ⟨S16384x256, .f32⟩
  | 42 => ⟨S16384x256, .f32⟩
  | 43 => ⟨S16384x256, .f32⟩
  | 44 => ⟨S16384x256, .f32⟩
  | 45 => ⟨S16384x256, .f32⟩
  | 46 => ⟨S16384x256, .f32⟩
  | 47 => ⟨S16384x256, .f32⟩
  | 48 => ⟨S16384x256, .f32⟩
  | 49 => ⟨S16384x256, .f32⟩
  | 50 => ⟨S16384x256, .f32⟩
  | 51 => ⟨S16384x256, .f32⟩
  | 52 => ⟨S16384x256, .f32⟩
  | 53 => ⟨S16384x256, .f32⟩
  | 54 => ⟨S16384x256, .f32⟩
  | 55 => ⟨S16384x256, .f32⟩
  | 56 => ⟨S16384x256, .f32⟩
  | 57 => ⟨S16384x256, .f32⟩
  | 58 => ⟨S16384x256, .f32⟩
  | 59 => ⟨S16384x256, .f32⟩
  | 60 => ⟨S16384x256, .f32⟩
  | 61 => ⟨S16384x256, .f32⟩
  | 62 => ⟨S16384x256, .f32⟩
  | 63 => ⟨S16384x256, .f32⟩
  | 64 => ⟨S16384x256, .f32⟩
  | 65 => ⟨S16384x256, .f32⟩
  | 66 => ⟨S16384x256, .f32⟩
  | 67 => ⟨S16384x256, .f32⟩
  | 68 => ⟨S1x16384x256, .f32⟩
  | 69 => ⟨S1x16384x256, .f32⟩
  | 70 => ⟨S1x16384x256, .f32⟩
  | 71 => ⟨S1x16384x256, .f32⟩
  | 72 => ⟨S1x16384x256, .f32⟩
  | 73 => ⟨S1x16384x256, .f32⟩
  | 74 => ⟨S1x16384x256, .f32⟩
  | 75 => ⟨S1x16384x256, .f32⟩
  | 76 => ⟨S1x16384x256, .f32⟩
  | 77 => ⟨S1x16384x256, .f32⟩
  | 78 => ⟨S1x16384x256, .f32⟩
  | 79 => ⟨S1x16384x256, .f32⟩
  | 80 => ⟨S1x16384x256, .f32⟩
  | 81 => ⟨S1x16384x256, .f32⟩
  | 82 => ⟨S1x16384x256, .f32⟩
  | 83 => ⟨S1x16384x256, .f32⟩
  | 84 => ⟨S1x16384x256, .f32⟩
  | 85 => ⟨S1x16384x256, .f32⟩
  | 86 => ⟨S1x16384x256, .f32⟩
  | 87 => ⟨S1x16384x256, .f32⟩
  | 88 => ⟨S1x16384x256, .f32⟩
  | 89 => ⟨S1x16384x256, .f32⟩
  | 90 => ⟨S1x16384x256, .f32⟩
  | 91 => ⟨S1x16384x256, .f32⟩
  | 92 => ⟨S1x16384x256, .f32⟩
  | 93 => ⟨S1x16384x256, .f32⟩
  | 94 => ⟨S1x16384x256, .f32⟩
  | 95 => ⟨S1x16384x256, .f32⟩
  | 96 => ⟨S1x16384x256, .f32⟩
  | 97 => ⟨S1x16384x256, .f32⟩
  | 98 => ⟨S1x16384x256, .f32⟩
  | 99 => ⟨S16x16384x256, .f32⟩
  | 100 => ⟨S15x16384x256, .f32⟩
  | 101 => ⟨S31x16384x256, .f32⟩
  | 102 => ⟨S31x1x256, .f32⟩
  | 103 => ⟨S31x16384x256, .f32⟩
  | 104 => ⟨S31x16384x256, .f32⟩
  | 105 => ⟨S_, .f32⟩
  | 106 => ⟨S16384x256, .f32⟩
  | 107 => ⟨S1x256, .f32⟩
  | 108 => ⟨S16384x256, .f32⟩
  | 109 => ⟨S16384x256, .f32⟩
  | 110 => ⟨S_, .f32⟩
  | 111 => ⟨S16384, .f32⟩
  | 112 => ⟨S16384x1, .f32⟩
  | 113 => ⟨S_, .f32⟩
  | 114 => ⟨S16384x1, .f32⟩
  | 115 => ⟨S16384x1, .f32⟩
  | 116 => ⟨S16384x256, .f32⟩
  | 117 => ⟨S16384x256, .f32⟩
  | 118 => ⟨S16384x256, .f32⟩
  | 119 => ⟨S_, .f32⟩
  | 120 => ⟨S16384, .f32⟩
  | 121 => ⟨S16384x1, .f32⟩
  | 122 => ⟨S_, .f32⟩
  | 123 => ⟨S16384x1, .f32⟩
  | 124 => ⟨S16384x1, .f32⟩
  | 125 => ⟨S16384x256, .f32⟩
  | 126 => ⟨S16384x256, .f32⟩
  | 127 => ⟨S_, .f32⟩
  | _ => ⟨S1x16384x3072, .f32⟩

abbrev hbmTy0_3 (i : Nat) : BufTy := match i % 128 with
  | 0 => ⟨S16384x1, .f32⟩
  | 1 => ⟨S16384x1, .f32⟩
  | 2 => ⟨S16384x1, .f32⟩
  | 3 => ⟨S16384x256, .f32⟩
  | 4 => ⟨S16384x256, .f32⟩
  | 5 => ⟨S1x256, .f32⟩
  | 6 => ⟨S16384x256, .f32⟩
  | 7 => ⟨S16384x256, .f32⟩
  | 8 => ⟨S1x256, .f32⟩
  | 9 => ⟨S16384x256, .f32⟩
  | 10 => ⟨S16384x256, .f32⟩
  | 11 => ⟨S16384x256, .f32⟩
  | 12 => ⟨S16384x256, .f32⟩
  | 13 => ⟨S_, .f32⟩
  | 14 => ⟨S16384x256, .f32⟩
  | 15 => ⟨S16384x256, .f32⟩
  | 16 => ⟨S_, .f32⟩
  | 17 => ⟨S16384x256, .f32⟩
  | 18 => ⟨S16384x256, .f32⟩
  | 19 => ⟨S16384x256, .f32⟩
  | 20 => ⟨S16384x256, .f32⟩
  | 21 => ⟨S1x256, .f32⟩
  | 22 => ⟨S16384x256, .f32⟩
  | 23 => ⟨S16384x256, .f32⟩
  | 24 => ⟨S1x16384x256, .f32⟩
  | 25 => ⟨S16384x256, .f32⟩
  | 26 => ⟨S16384x256, .f32⟩
  | 27 => ⟨S16384x256, .f32⟩
  | 28 => ⟨S_, .f32⟩
  | 29 => ⟨S16384x256, .f32⟩
  | 30 => ⟨S16384x256, .f32⟩
  | 31 => ⟨S_, .f32⟩
  | 32 => ⟨S16384x256, .f32⟩
  | 33 => ⟨S16384x256, .f32⟩
  | 34 => ⟨S16384x256, .f32⟩
  | 35 => ⟨S16384x256, .f32⟩
  | 36 => ⟨S1x16384x256, .f32⟩
  | 37 => ⟨S1x1x1024, .f32⟩
  | 38 => ⟨S256x1024, .f32⟩
  | 39 => ⟨S1x16384x1024, .f32⟩
  | 40 => ⟨S1x16384x1024, .f32⟩
  | 41 => ⟨S1x16384x1024, .f32⟩
  | 42 => ⟨S1x16384x1024, .f32⟩
  | 43 => ⟨S1x16384x1024, .f32⟩
  | 44 => ⟨S1x16384x256, .f32⟩
  | 45 => ⟨S_, .f32⟩
  | 46 => ⟨S16384x256, .f32⟩
  | 47 => ⟨S16384x256, .f32⟩
  | 48 => ⟨S_, .f32⟩
  | 49 => ⟨S256, .f32⟩
  | 50 => ⟨S1x256, .f32⟩
  | 51 => ⟨S_, .f32⟩
  | 52 => ⟨S256, .f32⟩
  | _ => ⟨S1x16384x3072, .f32⟩

abbrev hbmTy (i : Nat) : BufTy := match i / 128 with
  | 0 => hbmTy0_0 i
  | 1 => hbmTy0_1 i
  | 2 => hbmTy0_2 i
  | 3 => hbmTy0_3 i
  | _ => ⟨S1x16384x3072, .f32⟩

abbrev bufTy : (tb : Table) → Fin (tcTables nBuf tb) → BufTy
  | .hbm, ⟨i, _⟩ => hbmTy i
  | _, _ => ⟨S1x16384x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_v8 : Ref sig .tc := ⟨.hbm, 26, rfl⟩
abbrev main_cst_0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_1 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_2 : Ref sig .tc := ⟨.hbm, 35, rfl⟩
abbrev main_v15 : Ref sig .tc := ⟨.hbm, 36, rfl⟩
abbrev main_v16 : Ref sig .tc := ⟨.hbm, 37, rfl⟩
abbrev main_cst_3 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_4 : Ref sig .tc := ⟨.hbm, 42, rfl⟩
abbrev main_v20 : Ref sig .tc := ⟨.hbm, 43, rfl⟩
abbrev main_v21 : Ref sig .tc := ⟨.hbm, 44, rfl⟩
abbrev main_cst_5 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_6 : Ref sig .tc := ⟨.hbm, 52, rfl⟩
abbrev main_v28 : Ref sig .tc := ⟨.hbm, 53, rfl⟩
abbrev main_v29 : Ref sig .tc := ⟨.hbm, 54, rfl⟩
abbrev main_cst_7 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_8 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_9 : Ref sig .tc := ⟨.hbm, 63, rfl⟩
abbrev main_v36 : Ref sig .tc := ⟨.hbm, 64, rfl⟩
abbrev main_v37 : Ref sig .tc := ⟨.hbm, 65, rfl⟩
abbrev main_cst_10 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_11 : Ref sig .tc := ⟨.hbm, 70, rfl⟩
abbrev main_v41 : Ref sig .tc := ⟨.hbm, 71, rfl⟩
abbrev main_v42 : Ref sig .tc := ⟨.hbm, 72, rfl⟩
abbrev main_cst_12 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_13 : Ref sig .tc := ⟨.hbm, 77, rfl⟩
abbrev main_v46 : Ref sig .tc := ⟨.hbm, 78, rfl⟩
abbrev main_v47 : Ref sig .tc := ⟨.hbm, 79, rfl⟩
abbrev main_cst_14 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_cst_15 : Ref sig .tc := ⟨.hbm, 86, rfl⟩
abbrev main_v53 : Ref sig .tc := ⟨.hbm, 87, rfl⟩
abbrev main_v54 : Ref sig .tc := ⟨.hbm, 88, rfl⟩
abbrev main_cst_16 : Ref sig .tc := ⟨.hbm, 89, rfl⟩
abbrev main_v55 : Ref sig .tc := ⟨.hbm, 90, rfl⟩
abbrev main_v56 : Ref sig .tc := ⟨.hbm, 91, rfl⟩
abbrev main_cst_17 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_cst_18 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_cst_19 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_c : Ref sig .tc := ⟨.hbm, 114, rfl⟩
abbrev main_v76 : Ref sig .tc := ⟨.hbm, 115, rfl⟩
abbrev main_call0_v0 : Ref sig .tc := ⟨.hbm, 116, rfl⟩
abbrev main_call0_c : Ref sig .tc := ⟨.hbm, 117, rfl⟩
abbrev main_call0_v1 : Ref sig .tc := ⟨.hbm, 118, rfl⟩
abbrev main_call0_v2 : Ref sig .tc := ⟨.hbm, 119, rfl⟩
abbrev main_call0_v3 : Ref sig .tc := ⟨.hbm, 120, rfl⟩
abbrev main_call0_v4 : Ref sig .tc := ⟨.hbm, 121, rfl⟩
abbrev main_call0_c_0 : Ref sig .tc := ⟨.hbm, 122, rfl⟩
abbrev main_call0_v5 : Ref sig .tc := ⟨.hbm, 123, rfl⟩
abbrev main_v77 : Ref sig .tc := ⟨.hbm, 124, rfl⟩
abbrev main_v78 : Ref sig .tc := ⟨.hbm, 125, rfl⟩
abbrev main_c_20 : Ref sig .tc := ⟨.hbm, 126, rfl⟩
abbrev main_call1_v0 : Ref sig .tc := ⟨.hbm, 127, rfl⟩
abbrev main_v79_1 : Ref sig .tc := ⟨.hbm, 128, rfl⟩
abbrev main_call1_v2 : Ref sig .tc := ⟨.hbm, 129, rfl⟩
abbrev main_v79_0 : Ref sig .tc := ⟨.hbm, 130, rfl⟩
abbrev main_call1_cst : Ref sig .tc := ⟨.hbm, 131, rfl⟩
abbrev main_v79_2 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_cst_21 : Ref sig .tc := ⟨.hbm, 143, rfl⟩
abbrev main_v90 : Ref sig .tc := ⟨.hbm, 144, rfl⟩
abbrev main_v91 : Ref sig .tc := ⟨.hbm, 145, rfl⟩
abbrev main_cst_22 : Ref sig .tc := ⟨.hbm, 146, rfl⟩
abbrev main_v92 : Ref sig .tc := ⟨.hbm, 147, rfl⟩
abbrev main_v93 : Ref sig .tc := ⟨.hbm, 148, rfl⟩
abbrev main_cst_23 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_cst_24 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_cst_25 : Ref sig .tc := ⟨.hbm, 169, rfl⟩
abbrev main_v112 : Ref sig .tc := ⟨.hbm, 170, rfl⟩
abbrev main_cst_26 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_cst_27 : Ref sig .tc := ⟨.hbm, 183, rfl⟩
abbrev main_v124 : Ref sig .tc := ⟨.hbm, 184, rfl⟩
abbrev main_v125 : Ref sig .tc := ⟨.hbm, 185, rfl⟩
abbrev main_cst_28 : Ref sig .tc := ⟨.hbm, 186, rfl⟩
abbrev main_v126 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_call2_cst : Ref sig .tc := ⟨.hbm, 193, rfl⟩
abbrev main_call2_v0 : Ref sig .tc := ⟨.hbm, 194, rfl⟩
abbrev main_v132 : Ref sig .tc := ⟨.hbm, 195, rfl⟩
abbrev main_v133 : Ref sig .tc := ⟨.hbm, 196, rfl⟩
abbrev main_cst_29 : Ref sig .tc := ⟨.hbm, 197, rfl⟩
abbrev main_v134 : Ref sig .tc := ⟨.hbm, 198, rfl⟩
abbrev main_v135 : Ref sig .tc := ⟨.hbm, 199, rfl⟩
abbrev main_cst_30 : Ref sig .tc := ⟨.hbm, 200, rfl⟩
abbrev main_v136 : Ref sig .tc := ⟨.hbm, 201, rfl⟩
abbrev main_v137 : Ref sig .tc := ⟨.hbm, 202, rfl⟩
abbrev main_cst_31 : Ref sig .tc := ⟨.hbm, 203, rfl⟩
abbrev main_v138 : Ref sig .tc := ⟨.hbm, 204, rfl⟩
abbrev main_v139 : Ref sig .tc := ⟨.hbm, 205, rfl⟩
abbrev main_v140 : Ref sig .tc := ⟨.hbm, 206, rfl⟩
abbrev main_v141 : Ref sig .tc := ⟨.hbm, 207, rfl⟩
abbrev main_cst_32 : Ref sig .tc := ⟨.hbm, 208, rfl⟩
abbrev main_v142 : Ref sig .tc := ⟨.hbm, 209, rfl⟩
abbrev main_v143 : Ref sig .tc := ⟨.hbm, 210, rfl⟩
abbrev main_cst_33 : Ref sig .tc := ⟨.hbm, 211, rfl⟩
abbrev main_v144 : Ref sig .tc := ⟨.hbm, 212, rfl⟩
abbrev main_v145 : Ref sig .tc := ⟨.hbm, 213, rfl⟩
abbrev main_v146 : Ref sig .tc := ⟨.hbm, 214, rfl⟩
abbrev main_v147 : Ref sig .tc := ⟨.hbm, 215, rfl⟩
abbrev main_v148 : Ref sig .tc := ⟨.hbm, 216, rfl⟩
abbrev main_v149 : Ref sig .tc := ⟨.hbm, 217, rfl⟩
abbrev main_cst_34 : Ref sig .tc := ⟨.hbm, 218, rfl⟩
abbrev main_v150 : Ref sig .tc := ⟨.hbm, 219, rfl⟩
abbrev main_v151 : Ref sig .tc := ⟨.hbm, 220, rfl⟩
abbrev main_cst_35 : Ref sig .tc := ⟨.hbm, 221, rfl⟩
abbrev main_v152 : Ref sig .tc := ⟨.hbm, 222, rfl⟩
abbrev main_v153 : Ref sig .tc := ⟨.hbm, 223, rfl⟩
abbrev main_cst_36 : Ref sig .tc := ⟨.hbm, 224, rfl⟩
abbrev main_v154 : Ref sig .tc := ⟨.hbm, 225, rfl⟩
abbrev main_v155 : Ref sig .tc := ⟨.hbm, 226, rfl⟩
abbrev main_v156 : Ref sig .tc := ⟨.hbm, 227, rfl⟩
abbrev main_v157 : Ref sig .tc := ⟨.hbm, 228, rfl⟩
abbrev main_v158 : Ref sig .tc := ⟨.hbm, 229, rfl⟩
abbrev main_cst_37 : Ref sig .tc := ⟨.hbm, 230, rfl⟩
abbrev main_v159 : Ref sig .tc := ⟨.hbm, 231, rfl⟩
abbrev main_v160 : Ref sig .tc := ⟨.hbm, 232, rfl⟩
abbrev main_v161 : Ref sig .tc := ⟨.hbm, 233, rfl⟩
abbrev main_v162 : Ref sig .tc := ⟨.hbm, 234, rfl⟩
abbrev main_cst_38 : Ref sig .tc := ⟨.hbm, 235, rfl⟩
abbrev main_v163 : Ref sig .tc := ⟨.hbm, 236, rfl⟩
abbrev main_v164 : Ref sig .tc := ⟨.hbm, 237, rfl⟩
abbrev main_cst_39 : Ref sig .tc := ⟨.hbm, 238, rfl⟩
abbrev main_v165 : Ref sig .tc := ⟨.hbm, 239, rfl⟩
abbrev main_v166 : Ref sig .tc := ⟨.hbm, 240, rfl⟩
abbrev main_v167 : Ref sig .tc := ⟨.hbm, 241, rfl⟩
abbrev main_v168 : Ref sig .tc := ⟨.hbm, 242, rfl⟩
abbrev main_v169 : Ref sig .tc := ⟨.hbm, 243, rfl⟩
abbrev main_v170 : Ref sig .tc := ⟨.hbm, 244, rfl⟩
abbrev main_cst_40 : Ref sig .tc := ⟨.hbm, 245, rfl⟩
abbrev main_v171 : Ref sig .tc := ⟨.hbm, 246, rfl⟩
abbrev main_v172 : Ref sig .tc := ⟨.hbm, 247, rfl⟩
abbrev main_v173 : Ref sig .tc := ⟨.hbm, 248, rfl⟩
abbrev main_cst_41 : Ref sig .tc := ⟨.hbm, 249, rfl⟩
abbrev main_v174 : Ref sig .tc := ⟨.hbm, 250, rfl⟩
abbrev main_v175 : Ref sig .tc := ⟨.hbm, 251, rfl⟩
abbrev main_v176 : Ref sig .tc := ⟨.hbm, 252, rfl⟩
abbrev main_cst_42 : Ref sig .tc := ⟨.hbm, 253, rfl⟩
abbrev main_v177 : Ref sig .tc := ⟨.hbm, 254, rfl⟩
abbrev main_v178 : Ref sig .tc := ⟨.hbm, 255, rfl⟩
abbrev main_v179 : Ref sig .tc := ⟨.hbm, 256, rfl⟩
abbrev main_v180 : Ref sig .tc := ⟨.hbm, 257, rfl⟩
abbrev main_v181 : Ref sig .tc := ⟨.hbm, 258, rfl⟩
abbrev main_v182 : Ref sig .tc := ⟨.hbm, 259, rfl⟩
abbrev main_cst_43 : Ref sig .tc := ⟨.hbm, 260, rfl⟩
abbrev main_v183 : Ref sig .tc := ⟨.hbm, 261, rfl⟩
abbrev main_v184 : Ref sig .tc := ⟨.hbm, 262, rfl⟩
abbrev main_v185 : Ref sig .tc := ⟨.hbm, 263, rfl⟩
abbrev main_cst_44 : Ref sig .tc := ⟨.hbm, 264, rfl⟩
abbrev main_v186 : Ref sig .tc := ⟨.hbm, 265, rfl⟩
abbrev main_v187 : Ref sig .tc := ⟨.hbm, 266, rfl⟩
abbrev main_v188 : Ref sig .tc := ⟨.hbm, 267, rfl⟩
abbrev main_cst_45 : Ref sig .tc := ⟨.hbm, 268, rfl⟩
abbrev main_v189 : Ref sig .tc := ⟨.hbm, 269, rfl⟩
abbrev main_v190 : Ref sig .tc := ⟨.hbm, 270, rfl⟩
abbrev main_v191 : Ref sig .tc := ⟨.hbm, 271, rfl⟩
abbrev main_v192 : Ref sig .tc := ⟨.hbm, 272, rfl⟩
abbrev main_v193 : Ref sig .tc := ⟨.hbm, 273, rfl⟩
abbrev main_cst_46 : Ref sig .tc := ⟨.hbm, 274, rfl⟩
abbrev main_v194 : Ref sig .tc := ⟨.hbm, 275, rfl⟩
abbrev main_v195 : Ref sig .tc := ⟨.hbm, 276, rfl⟩
abbrev main_v196 : Ref sig .tc := ⟨.hbm, 277, rfl⟩
abbrev main_v197 : Ref sig .tc := ⟨.hbm, 278, rfl⟩
abbrev main_v198 : Ref sig .tc := ⟨.hbm, 279, rfl⟩
abbrev main_v199 : Ref sig .tc := ⟨.hbm, 280, rfl⟩
abbrev main_v200 : Ref sig .tc := ⟨.hbm, 281, rfl⟩
abbrev main_v201 : Ref sig .tc := ⟨.hbm, 282, rfl⟩
abbrev main_cst_47 : Ref sig .tc := ⟨.hbm, 283, rfl⟩
abbrev main_v202 : Ref sig .tc := ⟨.hbm, 284, rfl⟩
abbrev main_v203 : Ref sig .tc := ⟨.hbm, 285, rfl⟩
abbrev main_cst_48 : Ref sig .tc := ⟨.hbm, 286, rfl⟩
abbrev main_v204 : Ref sig .tc := ⟨.hbm, 287, rfl⟩
abbrev main_v205 : Ref sig .tc := ⟨.hbm, 288, rfl⟩
abbrev main_v206 : Ref sig .tc := ⟨.hbm, 289, rfl⟩
abbrev main_c_49 : Ref sig .tc := ⟨.hbm, 290, rfl⟩
abbrev main_call3_v0 : Ref sig .tc := ⟨.hbm, 291, rfl⟩
abbrev main_v207 : Ref sig .tc := ⟨.hbm, 292, rfl⟩
abbrev main_v208 : Ref sig .tc := ⟨.hbm, 293, rfl⟩
abbrev main_v209 : Ref sig .tc := ⟨.hbm, 294, rfl⟩
abbrev main_v210 : Ref sig .tc := ⟨.hbm, 295, rfl⟩
abbrev main_v211 : Ref sig .tc := ⟨.hbm, 296, rfl⟩
abbrev main_v212 : Ref sig .tc := ⟨.hbm, 297, rfl⟩
abbrev main_v213 : Ref sig .tc := ⟨.hbm, 298, rfl⟩
abbrev main_v214 : Ref sig .tc := ⟨.hbm, 299, rfl⟩
abbrev main_v215 : Ref sig .tc := ⟨.hbm, 300, rfl⟩
abbrev main_v216 : Ref sig .tc := ⟨.hbm, 301, rfl⟩
abbrev main_v217 : Ref sig .tc := ⟨.hbm, 302, rfl⟩
abbrev main_v218 : Ref sig .tc := ⟨.hbm, 303, rfl⟩
abbrev main_v219 : Ref sig .tc := ⟨.hbm, 304, rfl⟩
abbrev main_v220 : Ref sig .tc := ⟨.hbm, 305, rfl⟩
abbrev main_v221 : Ref sig .tc := ⟨.hbm, 306, rfl⟩
abbrev main_v222 : Ref sig .tc := ⟨.hbm, 307, rfl⟩
abbrev main_v223 : Ref sig .tc := ⟨.hbm, 308, rfl⟩
abbrev main_v224 : Ref sig .tc := ⟨.hbm, 309, rfl⟩
abbrev main_v225 : Ref sig .tc := ⟨.hbm, 310, rfl⟩
abbrev main_v226 : Ref sig .tc := ⟨.hbm, 311, rfl⟩
abbrev main_v227 : Ref sig .tc := ⟨.hbm, 312, rfl⟩
abbrev main_v228 : Ref sig .tc := ⟨.hbm, 313, rfl⟩
abbrev main_v229 : Ref sig .tc := ⟨.hbm, 314, rfl⟩
abbrev main_v230 : Ref sig .tc := ⟨.hbm, 315, rfl⟩
abbrev main_v231 : Ref sig .tc := ⟨.hbm, 316, rfl⟩
abbrev main_v232 : Ref sig .tc := ⟨.hbm, 317, rfl⟩
abbrev main_v233 : Ref sig .tc := ⟨.hbm, 318, rfl⟩
abbrev main_v234 : Ref sig .tc := ⟨.hbm, 319, rfl⟩
abbrev main_v235 : Ref sig .tc := ⟨.hbm, 320, rfl⟩
abbrev main_v236 : Ref sig .tc := ⟨.hbm, 321, rfl⟩
abbrev main_v237 : Ref sig .tc := ⟨.hbm, 322, rfl⟩
abbrev main_v238 : Ref sig .tc := ⟨.hbm, 323, rfl⟩
abbrev main_v239 : Ref sig .tc := ⟨.hbm, 324, rfl⟩
abbrev main_v240 : Ref sig .tc := ⟨.hbm, 325, rfl⟩
abbrev main_v241 : Ref sig .tc := ⟨.hbm, 326, rfl⟩
abbrev main_v242 : Ref sig .tc := ⟨.hbm, 327, rfl⟩
abbrev main_v243 : Ref sig .tc := ⟨.hbm, 328, rfl⟩
abbrev main_v244 : Ref sig .tc := ⟨.hbm, 329, rfl⟩
abbrev main_v245 : Ref sig .tc := ⟨.hbm, 330, rfl⟩
abbrev main_v246 : Ref sig .tc := ⟨.hbm, 331, rfl⟩
abbrev main_v247 : Ref sig .tc := ⟨.hbm, 332, rfl⟩
abbrev main_v248 : Ref sig .tc := ⟨.hbm, 333, rfl⟩
abbrev main_v249 : Ref sig .tc := ⟨.hbm, 334, rfl⟩
abbrev main_v250 : Ref sig .tc := ⟨.hbm, 335, rfl⟩
abbrev main_v251 : Ref sig .tc := ⟨.hbm, 336, rfl⟩
abbrev main_v252 : Ref sig .tc := ⟨.hbm, 337, rfl⟩
abbrev main_v253 : Ref sig .tc := ⟨.hbm, 338, rfl⟩
abbrev main_v254 : Ref sig .tc := ⟨.hbm, 339, rfl⟩
abbrev main_v255 : Ref sig .tc := ⟨.hbm, 340, rfl⟩
abbrev main_v256 : Ref sig .tc := ⟨.hbm, 341, rfl⟩
abbrev main_v257 : Ref sig .tc := ⟨.hbm, 342, rfl⟩
abbrev main_v258 : Ref sig .tc := ⟨.hbm, 343, rfl⟩
abbrev main_v259 : Ref sig .tc := ⟨.hbm, 344, rfl⟩
abbrev main_v260 : Ref sig .tc := ⟨.hbm, 345, rfl⟩
abbrev main_v261 : Ref sig .tc := ⟨.hbm, 346, rfl⟩
abbrev main_v262 : Ref sig .tc := ⟨.hbm, 347, rfl⟩
abbrev main_v263 : Ref sig .tc := ⟨.hbm, 348, rfl⟩
abbrev main_v264 : Ref sig .tc := ⟨.hbm, 349, rfl⟩
abbrev main_v265 : Ref sig .tc := ⟨.hbm, 350, rfl⟩
abbrev main_v266 : Ref sig .tc := ⟨.hbm, 351, rfl⟩
abbrev main_v267 : Ref sig .tc := ⟨.hbm, 352, rfl⟩
abbrev main_v268 : Ref sig .tc := ⟨.hbm, 353, rfl⟩
abbrev main_v269 : Ref sig .tc := ⟨.hbm, 354, rfl⟩
abbrev main_v270 : Ref sig .tc := ⟨.hbm, 355, rfl⟩
abbrev main_v271 : Ref sig .tc := ⟨.hbm, 356, rfl⟩
abbrev main_v272 : Ref sig .tc := ⟨.hbm, 357, rfl⟩
abbrev main_v273 : Ref sig .tc := ⟨.hbm, 358, rfl⟩
abbrev main_v274 : Ref sig .tc := ⟨.hbm, 359, rfl⟩
abbrev main_v275 : Ref sig .tc := ⟨.hbm, 360, rfl⟩
abbrev main_cst_50 : Ref sig .tc := ⟨.hbm, 361, rfl⟩
abbrev main_v276 : Ref sig .tc := ⟨.hbm, 362, rfl⟩
abbrev main_v277 : Ref sig .tc := ⟨.hbm, 363, rfl⟩
abbrev main_v278 : Ref sig .tc := ⟨.hbm, 364, rfl⟩
abbrev main_v279 : Ref sig .tc := ⟨.hbm, 365, rfl⟩
abbrev main_cst_51 : Ref sig .tc := ⟨.hbm, 366, rfl⟩
abbrev main_v280 : Ref sig .tc := ⟨.hbm, 367, rfl⟩
abbrev main_v281 : Ref sig .tc := ⟨.hbm, 368, rfl⟩
abbrev main_cst_52 : Ref sig .tc := ⟨.hbm, 369, rfl⟩
abbrev main_v282 : Ref sig .tc := ⟨.hbm, 370, rfl⟩
abbrev main_v283 : Ref sig .tc := ⟨.hbm, 371, rfl⟩
abbrev main_v284 : Ref sig .tc := ⟨.hbm, 372, rfl⟩
abbrev main_v285 : Ref sig .tc := ⟨.hbm, 373, rfl⟩
abbrev main_v286 : Ref sig .tc := ⟨.hbm, 374, rfl⟩
abbrev main_cst_53 : Ref sig .tc := ⟨.hbm, 375, rfl⟩
abbrev main_v287 : Ref sig .tc := ⟨.hbm, 376, rfl⟩
abbrev main_v288 : Ref sig .tc := ⟨.hbm, 377, rfl⟩
abbrev main_cst_54 : Ref sig .tc := ⟨.hbm, 378, rfl⟩
abbrev main_v289 : Ref sig .tc := ⟨.hbm, 379, rfl⟩
abbrev main_v290 : Ref sig .tc := ⟨.hbm, 380, rfl⟩
abbrev main_v291 : Ref sig .tc := ⟨.hbm, 381, rfl⟩
abbrev main_v292 : Ref sig .tc := ⟨.hbm, 382, rfl⟩
abbrev main_cst_55 : Ref sig .tc := ⟨.hbm, 383, rfl⟩
abbrev main_v293 : Ref sig .tc := ⟨.hbm, 384, rfl⟩
abbrev main_v294 : Ref sig .tc := ⟨.hbm, 385, rfl⟩
abbrev main_v295 : Ref sig .tc := ⟨.hbm, 386, rfl⟩
abbrev main_v296 : Ref sig .tc := ⟨.hbm, 387, rfl⟩
abbrev main_v297 : Ref sig .tc := ⟨.hbm, 388, rfl⟩
abbrev main_v298 : Ref sig .tc := ⟨.hbm, 389, rfl⟩
abbrev main_v299 : Ref sig .tc := ⟨.hbm, 390, rfl⟩
abbrev main_v300 : Ref sig .tc := ⟨.hbm, 391, rfl⟩
abbrev main_v301 : Ref sig .tc := ⟨.hbm, 392, rfl⟩
abbrev main_v302 : Ref sig .tc := ⟨.hbm, 393, rfl⟩
abbrev main_v303 : Ref sig .tc := ⟨.hbm, 394, rfl⟩
abbrev main_v304 : Ref sig .tc := ⟨.hbm, 395, rfl⟩
abbrev main_v305 : Ref sig .tc := ⟨.hbm, 396, rfl⟩
abbrev main_cst_56 : Ref sig .tc := ⟨.hbm, 397, rfl⟩
abbrev main_v306 : Ref sig .tc := ⟨.hbm, 398, rfl⟩
abbrev main_v307 : Ref sig .tc := ⟨.hbm, 399, rfl⟩
abbrev main_cst_57 : Ref sig .tc := ⟨.hbm, 400, rfl⟩
abbrev main_v308 : Ref sig .tc := ⟨.hbm, 401, rfl⟩
abbrev main_v309 : Ref sig .tc := ⟨.hbm, 402, rfl⟩
abbrev main_v310 : Ref sig .tc := ⟨.hbm, 403, rfl⟩
abbrev main_v311 : Ref sig .tc := ⟨.hbm, 404, rfl⟩
abbrev main_v312 : Ref sig .tc := ⟨.hbm, 405, rfl⟩
abbrev main_v313 : Ref sig .tc := ⟨.hbm, 406, rfl⟩
abbrev main_v314 : Ref sig .tc := ⟨.hbm, 407, rfl⟩
abbrev main_v315 : Ref sig .tc := ⟨.hbm, 408, rfl⟩
abbrev main_v316 : Ref sig .tc := ⟨.hbm, 409, rfl⟩
abbrev main_v317 : Ref sig .tc := ⟨.hbm, 410, rfl⟩
abbrev main_v318 : Ref sig .tc := ⟨.hbm, 411, rfl⟩
abbrev main_cst_58 : Ref sig .tc := ⟨.hbm, 412, rfl⟩
abbrev main_v319 : Ref sig .tc := ⟨.hbm, 413, rfl⟩
abbrev main_v320 : Ref sig .tc := ⟨.hbm, 414, rfl⟩
abbrev main_cst_59 : Ref sig .tc := ⟨.hbm, 415, rfl⟩
abbrev main_v321 : Ref sig .tc := ⟨.hbm, 416, rfl⟩
abbrev main_v322 : Ref sig .tc := ⟨.hbm, 417, rfl⟩
abbrev main_v323 : Ref sig .tc := ⟨.hbm, 418, rfl⟩
abbrev main_v324 : Ref sig .tc := ⟨.hbm, 419, rfl⟩
abbrev main_v325 : Ref sig .tc := ⟨.hbm, 420, rfl⟩
abbrev main_v326 : Ref sig .tc := ⟨.hbm, 421, rfl⟩
abbrev main_v327 : Ref sig .tc := ⟨.hbm, 422, rfl⟩
abbrev main_v328 : Ref sig .tc := ⟨.hbm, 423, rfl⟩
abbrev main_v329 : Ref sig .tc := ⟨.hbm, 424, rfl⟩
abbrev main_v330 : Ref sig .tc := ⟨.hbm, 425, rfl⟩
abbrev main_v331 : Ref sig .tc := ⟨.hbm, 426, rfl⟩
abbrev main_v332 : Ref sig .tc := ⟨.hbm, 427, rfl⟩
abbrev main_v333 : Ref sig .tc := ⟨.hbm, 428, rfl⟩
abbrev main_cst_60 : Ref sig .tc := ⟨.hbm, 429, rfl⟩
abbrev main_v334 : Ref sig .tc := ⟨.hbm, 430, rfl⟩
abbrev main_v335 : Ref sig .tc := ⟨.hbm, 431, rfl⟩
abbrev main_cst_61 : Ref sig .tc := ⟨.hbm, 432, rfl⟩
abbrev main_v336 : Ref sig .tc := ⟨.hbm, 433, rfl⟩
abbrev main_v337 : Ref sig .tc := ⟨.hbm, 434, rfl⟩
abbrev main_cst_62 : Ref sig .tc := ⟨.hbm, 435, rfl⟩
abbrev main_v338 : Ref sig .tc := ⟨.hbm, 436, rfl⟩

abbrev nD : Nat := 1
abbrev τ : Topo := Topo.v7x

variable {F : FTy → Type} [FloatOps F]
-- ==== Kernel3.lean ====
abbrev S1x16384x1024 : Shape := ⟨3, ![1, 16384, 1024]⟩
abbrev S1024x1024 : Shape := ⟨2, ![1024, 1024]⟩
abbrev S1x1024 : Shape := ⟨2, ![1, 1024]⟩
abbrev S16384x1024 : Shape := ⟨2, ![16384, 1024]⟩
abbrev S2048x1024 : Shape := ⟨2, ![2048, 1024]⟩
abbrev S1024 : Shape := ⟨1, ![1024]⟩

abbrev nBuf : Space → Nat
  | .hbm => 10
  | .vmem => 9
  | .smem => 0
  | _ => 0

abbrev bufTy : (tb : Table) → Fin (tcTables nBuf tb) → BufTy
  | .hbm, ⟨0, _⟩ => ⟨S1x16384x1024, .f32⟩
  | .hbm, ⟨1, _⟩ => ⟨S1024x1024, .f32⟩
  | .hbm, ⟨2, _⟩ => ⟨S1x1024, .f32⟩
  | .hbm, ⟨3, _⟩ => ⟨S1x16384x1024, .f32⟩
  | .hbm, ⟨4, _⟩ => ⟨S16384x1024, .f32⟩
  | .hbm, ⟨5, _⟩ => ⟨S16384x1024, .bf16⟩
  | .hbm, ⟨6, _⟩ => ⟨S16384x1024, .f32⟩
  | .hbm, ⟨7, _⟩ => ⟨S1024x1024, .bf16⟩
  | .hbm, ⟨8, _⟩ => ⟨S1024x1024, .bf16⟩
  | .hbm, ⟨9, _⟩ => ⟨S1x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S1024x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== Reference3Ideal.lean ====
abbrev S1x16384x1024 : Shape := ⟨3, ![1, 16384, 1024]⟩
abbrev S1024x1024 : Shape := ⟨2, ![1024, 1024]⟩
abbrev S1x1024 : Shape := ⟨2, ![1, 1024]⟩
abbrev S1x1x1024 : Shape := ⟨3, ![1, 1, 1024]⟩
abbrev S_ : Shape := ⟨0, ![]⟩
abbrev S1024 : Shape := ⟨1, ![1024]⟩

abbrev nBuf : Space → Nat
  | .hbm => 21
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1024x1024, .f32⟩
  | .hbm, ⟨2, _⟩ => ⟨S1x1024, .f32⟩
  | .hbm, ⟨3, _⟩ => ⟨S1x16384x1024, .f32⟩
  | .hbm, ⟨4, _⟩ => ⟨S1x1x1024, .f32⟩
  | .hbm, ⟨5, _⟩ => ⟨S1x16384x1024, .f32⟩
  | .hbm, ⟨6, _⟩ => ⟨S1x16384x1024, .f32⟩
  | .hbm, ⟨7, _⟩ => ⟨S1x16384x1024, .f32⟩
  | .hbm, ⟨8, _⟩ => ⟨S1x16384x1024, .f32⟩
  | .hbm, ⟨9, _⟩ => ⟨S1x16384x1024, .f32⟩
  | .hbm, ⟨10, _⟩ => ⟨S1x16384x1024, .f32⟩
  | .hbm, ⟨11, _⟩ => ⟨S_, .f32⟩
  | .hbm, ⟨12, _⟩ => ⟨S1x1024, .f32⟩
  | .hbm, ⟨13, _⟩ => ⟨S1x1x1024, .f32⟩
  | .hbm, ⟨14, _⟩ => ⟨S1024x1024, .f32⟩
  | .hbm, ⟨15, _⟩ => ⟨S1024x1024, .f32⟩
  | .hbm, ⟨16, _⟩ => ⟨S1x16384x1024, .f32⟩
  | .hbm, ⟨17, _⟩ => ⟨S_, .f32⟩
  | .hbm, ⟨18, _⟩ => ⟨S1024, .f32⟩
  | .hbm, ⟨19, _⟩ => ⟨S1x1024, .f32⟩
  | .hbm, ⟨20, _⟩ => ⟨S1024x1024, .bf16⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel4.lean ====
abbrev S1x16384x1024 : Shape := ⟨3, ![1, 16384, 1024]⟩
abbrev S1024 : Shape := ⟨1, ![1024]⟩
abbrev S1x1024 : Shape := ⟨2, ![1, 1024]⟩
abbrev S1024x3072 : Shape := ⟨2, ![1024, 3072]⟩
abbrev S_ : Shape := ⟨0, ![]⟩
abbrev S16384x1024 : Shape := ⟨2, ![16384, 1024]⟩
abbrev S16384x3072 : Shape := ⟨2, ![16384, 3072]⟩
abbrev S1024x1024 : Shape := ⟨2, ![1024, 1024]⟩
abbrev S1024x1 : Shape := ⟨2, ![1024, 1]⟩

abbrev nBuf : Space → Nat
  | .hbm => 14
  | .vmem => 9
  | .smem => 0
  | _ => 0

abbrev bufTy : (tb : Table) → Fin (tcTables nBuf tb) → BufTy
  | .hbm, ⟨0, _⟩ => ⟨S1x16384x1024, .f32⟩
  | .hbm, ⟨1, _⟩ => ⟨S1024, .f32⟩
  | .hbm, ⟨2, _⟩ => ⟨S1x1024, .f32⟩
  | .hbm, ⟨3, _⟩ => ⟨S1x1024, .f32⟩
  | .hbm, ⟨4, _⟩ => ⟨S1024x3072, .f32⟩
  | .hbm, ⟨5, _⟩ => ⟨S1x1024, .f32⟩
  | .hbm, ⟨6, _⟩ => ⟨S_, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S16384x1024, .f32⟩
  | .hbm, ⟨11, _⟩ => ⟨S1024x3072, .bf16⟩
  | .hbm, ⟨12, _⟩ => ⟨S16384x1024, .bf16⟩
  | .hbm, ⟨13, _⟩ => ⟨S16384x3072, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1024x3072, .bf16⟩
  | .local _ .vmem, ⟨5, _⟩ => ⟨S1024x1024, .bf16⟩
  | .local _ .vmem, ⟨6, _⟩ => ⟨S1024x1024, .bf16⟩
  | .local _ .vmem, ⟨7, _⟩ => ⟨S1024x3072, .bf16⟩
  | .local _ .vmem, ⟨8, _⟩ => ⟨S1024x3072, .bf16⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S1x16384x1024 : Shape := ⟨3, ![1, 16384, 1024]⟩
abbrev S1024 : Shape := ⟨1, ![1024]⟩
abbrev S1x1024 : Shape := ⟨2, ![1, 1024]⟩
abbrev S1024x3072 : Shape := ⟨2, ![1024, 3072]⟩
abbrev S_ : Shape := ⟨0, ![]⟩
abbrev S1x16384 : Shape := ⟨2, ![1, 16384]⟩
abbrev S1x16384x1 : Shape := ⟨3, ![1, 16384, 1]⟩
abbrev S1x1x1024 : Shape := ⟨3, ![1, 1, 1024]⟩
abbrev S16384x1024 : Shape := ⟨2, ![16384, 1024]⟩
abbrev S1x16384x3072 : Shape := ⟨3, ![1, 16384, 3072]⟩
abbrev S16384x3072 : Shape := ⟨2, ![16384, 3072]⟩

abbrev nBuf : Space → Nat
  | .hbm => 35
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1024, .f32⟩
  | .hbm, ⟨2, _⟩ => ⟨S1x1024, .f32⟩
  | .hbm, ⟨3, _⟩ => ⟨S1x1024, .f32⟩
  | .hbm, ⟨4, _⟩ => ⟨S1024x3072, .f32⟩
  | .hbm, ⟨5, _⟩ => ⟨S1x16384x1024, .f32⟩
  | .hbm, ⟨6, _⟩ => ⟨S_, .f32⟩
  | .hbm, ⟨7, _⟩ => ⟨S1x16384, .f32⟩
  | .hbm, ⟨8, _⟩ => ⟨S1x16384x1, .f32⟩
  | .hbm, ⟨9, _⟩ => ⟨S_, .f32⟩
  | .hbm, ⟨10, _⟩ => ⟨S1x16384x1, .f32⟩
  | .hbm, ⟨11, _⟩ => ⟨S1x16384x1, .f32⟩
  | .hbm, ⟨12, _⟩ => ⟨S_, .f32⟩
  | .hbm, ⟨13, _⟩ => ⟨S1x16384x1, .f32⟩
  | .hbm, ⟨14, _⟩ => ⟨S1x16384x1, .f32⟩
  | .hbm, ⟨15, _⟩ => ⟨S1x16384x1, .f32⟩
  | .hbm, ⟨16, _⟩ => ⟨S1x16384x1024, .f32⟩
  | .hbm, ⟨17, _⟩ => ⟨S1x16384x1024, .f32⟩
  | .hbm, ⟨18, _⟩ => ⟨S1x1x1024, .f32⟩
  | .hbm, ⟨19, _⟩ => ⟨S1x16384x1024, .f32⟩
  | .hbm, ⟨20, _⟩ => ⟨S1x16384x1024, .f32⟩
  | .hbm, ⟨21, _⟩ => ⟨S1x1x1024, .f32⟩
  | .hbm, ⟨22, _⟩ => ⟨S_, .f32⟩
  | .hbm, ⟨23, _⟩ => ⟨S1x1x1024, .f32⟩
  | .hbm, ⟨24, _⟩ => ⟨S1x1x1024, .f32⟩
  | .hbm, ⟨25, _⟩ => ⟨S1x16384x1024, .f32⟩
  | .hbm, ⟨26, _⟩ => ⟨S1x16384x1024, .f32⟩
  | .hbm, ⟨27, _⟩ => ⟨S1x1x1024, .f32⟩
  | .hbm, ⟨28, _⟩ => ⟨S1x16384x1024, .f32⟩
  | .hbm, ⟨29, _⟩ => ⟨S1x16384x1024, .f32⟩
  | .hbm, ⟨30, _⟩ => ⟨S16384x1024, .f32⟩
  | .hbm, ⟨31, _⟩ => ⟨S16384x1024, .bf16⟩
  | .hbm, ⟨32, _⟩ => ⟨S1x16384x3072, .f32⟩
  | .hbm, ⟨33, _⟩ => ⟨S16384x3072, .f32⟩
  | .hbm, ⟨34, _⟩ => ⟨S16384x3072, .bf16⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Kernel5.lean ====
abbrev S1x16384x3072 : Shape := ⟨3, ![1, 16384, 3072]⟩
abbrev S1x16384x1024 : Shape := ⟨3, ![1, 16384, 1024]⟩
abbrev S1x1024 : Shape := ⟨2, ![1, 1024]⟩
abbrev S3x256 : Shape := ⟨2, ![3, 256]⟩
abbrev S4x64x64 : Shape := ⟨3, ![4, 64, 64]⟩
abbrev S256 : Shape := ⟨1, ![256]⟩
abbrev S31x256 : Shape := ⟨2, ![31, 256]⟩
abbrev S256x256 : Shape := ⟨2, ![256, 256]⟩
abbrev S4x128x128 : Shape := ⟨3, ![4, 128, 128]⟩
abbrev S4x128 : Shape := ⟨2, ![4, 128]⟩
abbrev S256x1024 : Shape := ⟨2, ![256, 1024]⟩
abbrev S1024 : Shape := ⟨1, ![1024]⟩
abbrev S4 : Shape := ⟨1, ![4]⟩
abbrev S1x4x64x64 : Shape := ⟨4, ![1, 4, 64, 64]⟩
abbrev S1x4x128x128 : Shape := ⟨4, ![1, 4, 128, 128]⟩
abbrev S1x4x128 : Shape := ⟨3, ![1, 4, 128]⟩
abbrev S1x256 : Shape := ⟨2, ![1, 256]⟩
abbrev S_ : Shape := ⟨0, ![]⟩
abbrev S768x1024 : Shape := ⟨2, ![768, 1024]⟩
abbrev S1024x1024 : Shape := ⟨2, ![1024, 1024]⟩
abbrev S1x3x256 : Shape := ⟨3, ![1, 3, 256]⟩
abbrev S1x31x256 : Shape := ⟨3, ![1, 31, 256]⟩
abbrev S3x1x256 : Shape := ⟨3, ![3, 1, 256]⟩
abbrev S31x1x256 : Shape := ⟨3, ![31, 1, 256]⟩
abbrev S4x64x1x64 : Shape := ⟨4, ![4, 64, 1, 64]⟩
abbrev S4x4 : Shape := ⟨2, ![4, 4]⟩
abbrev S4x1x4x1 : Shape := ⟨4, ![4, 1, 4, 1]⟩
abbrev S4x64x4x64 : Shape := ⟨4, ![4, 64, 4, 64]⟩
abbrev S128x128 : Shape := ⟨2, ![128, 128]⟩
abbrev S1x128x128 : Shape := ⟨3, ![1, 128, 128]⟩
abbrev S7x256 : Shape := ⟨2, ![7, 256]⟩
abbrev S4x64 : Shape := ⟨2, ![4, 64]⟩
abbrev S128 : Shape := ⟨1, ![128]⟩
abbrev S128x1 : Shape := ⟨2, ![128, 1]⟩
abbrev S128x256 : Shape := ⟨2, ![128, 256]⟩
abbrev S128x4 : Shape := ⟨2, ![128, 4]⟩
abbrev S128x4x64 : Shape := ⟨3, ![128, 4, 64]⟩
abbrev S264x256 : Shape := ⟨2, ![264, 256]⟩
abbrev S8x256 : Shape := ⟨2, ![8, 256]⟩
abbrev S32x256 : Shape := ⟨2, ![32, 256]⟩
abbrev S16x256 : Shape := ⟨2, ![16, 256]⟩
abbrev S512x128 : Shape := ⟨2, ![512, 128]⟩
abbrev S16384x3072 : Shape := ⟨2, ![16384, 3072]⟩
abbrev S16384x1024 : Shape := ⟨2, ![16384, 1024]⟩
abbrev S16384x256 : Shape := ⟨2, ![16384, 256]⟩
abbrev S8x128 : Shape := ⟨2, ![8, 128]⟩
abbrev S512x3072 : Shape := ⟨2, ![512, 3072]⟩
abbrev S32x3072 : Shape := ⟨2, ![32, 3072]⟩
abbrev S512x1024 : Shape := ⟨2, ![512, 1024]⟩
abbrev S512x256 : Shape := ⟨2, ![512, 256]⟩
abbrev S544x768 : Shape := ⟨2, ![544, 768]⟩
abbrev S2x8x1024 : Shape := ⟨3, ![2, 8, 1024]⟩
abbrev S1024x256 : Shape := ⟨2, ![1024, 256]⟩
abbrev S160x256 : Shape := ⟨2, ![160, 256]⟩
abbrev S160x128 : Shape := ⟨2, ![160, 128]⟩
abbrev S512 : Shape := ⟨1, ![512]⟩
abbrev S512x1 : Shape := ⟨2, ![512, 1]⟩
abbrev S1x8x1024 : Shape := ⟨3, ![1, 8, 1024]⟩
abbrev S8x1024 : Shape := ⟨2, ![8, 1024]⟩
abbrev S1 : Shape := ⟨1, ![1]⟩
abbrev S1x1x1 : Shape := ⟨3, ![1, 1, 1]⟩

abbrev nBuf : Space → Nat
  | .hbm => 137
  | .vmem => 29
  | .smem => 0
  | _ => 0

abbrev hbmTy0_0 (i : Nat) : BufTy := match i % 128 with
  | 0 => ⟨S1x16384x3072, .f32⟩
  | 1 => ⟨S1x16384x1024, .f32⟩
  | 2 => ⟨S1x1024, .f32⟩
  | 3 => ⟨S3x256, .f32⟩
  | 4 => ⟨S4x64x64, .f32⟩
  | 5 => ⟨S256, .f32⟩
  | 6 => ⟨S31x256, .f32⟩
  | 7 => ⟨S256, .f32⟩
  | 8 => ⟨S256, .f32⟩
  | 9 => ⟨S256, .f32⟩
  | 10 => ⟨S256x256, .f32⟩
  | 11 => ⟨S256, .f32⟩
  | 12 => ⟨S256, .f32⟩
  | 13 => ⟨S256, .f32⟩
  | 14 => ⟨S4x128x128, .f32⟩
  | 15 => ⟨S4x128, .f32⟩
  | 16 => ⟨S256x1024, .f32⟩
  | 17 => ⟨S1024, .f32⟩
  | 18 => ⟨S1x16384x1024, .f32⟩
  | 19 => ⟨S4, .f32⟩
  | 20 => ⟨S1x4x64x64, .f32⟩
  | 21 => ⟨S1x4x128x128, .f32⟩
  | 22 => ⟨S1x4x128, .f32⟩
  | 23 => ⟨S1x256, .f32⟩
  | 24 => ⟨S1x256, .f32⟩
  | 25 => ⟨S1x256, .f32⟩
  | 26 => ⟨S1x256, .f32⟩
  | 27 => ⟨S1x256, .f32⟩
  | 28 => ⟨S1x256, .f32⟩
  | 29 => ⟨S1x256, .f32⟩
  | 30 => ⟨S_, .f32⟩
  | 31 => ⟨S768x1024, .f32⟩
  | 32 => ⟨S1024x1024, .f32⟩
  | 33 => ⟨S1024x1024, .bf16⟩
  | 34 => ⟨S1x3x256, .f32⟩
  | 35 => ⟨S1x31x256, .f32⟩
  | 36 => ⟨S3x1x256, .f32⟩
  | 37 => ⟨S3x256, .f32⟩
  | 38 => ⟨S31x1x256, .f32⟩
  | 39 => ⟨S31x256, .f32⟩
  | 40 => ⟨S4x64x64, .f32⟩
  | 41 => ⟨S4x64x1x64, .f32⟩
  | 42 => ⟨S4x4, .i32⟩
  | 43 => ⟨S4x4, .i32⟩
  | 44 => ⟨S_, .i32⟩
  | 45 => ⟨S4x4, .i32⟩
  | 46 => ⟨S4x4, .i32⟩
  | 47 => ⟨S4x4, .i1⟩
  | 48 => ⟨S4x4, .f32⟩
  | 49 => ⟨S4x1x4x1, .f32⟩
  | 50 => ⟨S4x64x4x64, .f32⟩
  | 51 => ⟨S4x64x4x64, .f32⟩
  | 52 => ⟨S4x64x4x64, .f32⟩
  | 53 => ⟨S256x256, .f32⟩
  | 54 => ⟨S4x128x128, .f32⟩
  | 55 => ⟨S_, .f32⟩
  | 56 => ⟨S128x128, .f32⟩
  | 57 => ⟨S128x128, .i32⟩
  | 58 => ⟨S_, .i32⟩
  | 59 => ⟨S128x128, .i32⟩
  | 60 => ⟨S128x128, .i32⟩
  | 61 => ⟨S128x128, .i32⟩
  | 62 => ⟨S128x128, .i1⟩
  | 63 => ⟨S_, .f32⟩
  | 64 => ⟨S128x128, .f32⟩
  | 65 => ⟨S128x128, .f32⟩
  | 66 => ⟨S1x128x128, .f32⟩
  | 67 => ⟨S4x128x128, .f32⟩
  | 68 => ⟨S4x128x128, .f32⟩
  | 69 => ⟨S256, .f32⟩
  | 70 => ⟨S256, .f32⟩
  | 71 => ⟨S256, .f32⟩
  | 72 => ⟨S256, .f32⟩
  | 73 => ⟨S256, .f32⟩
  | 74 => ⟨S256, .f32⟩
  | 75 => ⟨S256, .f32⟩
  | 76 => ⟨S1x256, .f32⟩
  | 77 => ⟨S1x256, .f32⟩
  | 78 => ⟨S1x256, .f32⟩
  | 79 => ⟨S1x256, .f32⟩
  | 80 => ⟨S1x256, .f32⟩
  | 81 => ⟨S1x256, .f32⟩
  | 82 => ⟨S1x256, .f32⟩
  | 83 => ⟨S7x256, .f32⟩
  | 84 => ⟨S4x64, .f32⟩
  | 85 => ⟨S256, .f32⟩
  | 86 => ⟨S1x256, .f32⟩
  | 87 => ⟨S128, .f32⟩
  | 88 => ⟨S_, .f32⟩
  | 89 => ⟨S128, .f32⟩
  | 90 => ⟨S128, .f32⟩
  | 91 => ⟨S128x1, .f32⟩
  | 92 => ⟨S128x256, .f32⟩
  | 93 => ⟨S128x256, .f32⟩
  | 94 => ⟨S128x256, .f32⟩
  | 95 => ⟨S4x128, .f32⟩
  | 96 => ⟨S128x4, .f32⟩
  | 97 => ⟨S128x4x64, .f32⟩
  | 98 => ⟨S128x256, .f32⟩
  | 99 => ⟨S_, .f32⟩
  | 100 => ⟨S128x256, .f32⟩
  | 101 => ⟨S128x256, .f32⟩
  | 102 => ⟨S_, .f32⟩
  | 103 => ⟨S1x256, .f32⟩
  | 104 => ⟨S1x256, .f32⟩
  | 105 => ⟨S_, .f32⟩
  | 106 => ⟨S7x256, .f32⟩
  | 107 => ⟨S264x256, .f32⟩
  | 108 => ⟨S_, .i32⟩
  | 109 => ⟨S_, .f32⟩
  | 110 => ⟨S8x256, .f32⟩
  | 111 => ⟨S_, .i32⟩
  | 112 => ⟨S_, .f32⟩
  | 113 => ⟨S32x256, .f32⟩
  | 114 => ⟨S_, .i32⟩
  | 115 => ⟨S_, .f32⟩
  | 116 => ⟨S16x256, .f32⟩
  | 117 => ⟨S256x256, .bf16⟩
  | 118 => ⟨S256x256, .bf16⟩
  | 119 => ⟨S512x128, .f32⟩
  | 120 => ⟨S512x128, .bf16⟩
  | 121 => ⟨S256x256, .f32⟩
  | 122 => ⟨S256x256, .bf16⟩
  | 123 => ⟨S256x256, .f32⟩
  | 124 => ⟨S256x256, .bf16⟩
  | 125 => ⟨S4x128x128, .f32⟩
  | 126 => ⟨S512x128, .f32⟩
  | 127 => ⟨S512x128, .bf16⟩
  | _ => ⟨S1x16384x3072, .f32⟩

abbrev hbmTy0_1 (i : Nat) : BufTy := match i % 128 with
  | 0 => ⟨S16384x3072, .f32⟩
  | 1 => ⟨S16384x3072, .bf16⟩
  | 2 => ⟨S16384x1024, .f32⟩
  | 3 => ⟨S1x1024, .f32⟩
  | 4 => ⟨S16384x1024, .f32⟩
  | 5 => ⟨S16384x1024, .f32⟩
  | 6 => ⟨S16384x256, .f32⟩
  | 7 => ⟨S8x128, .f32⟩
  | 8 => ⟨S1x1024, .f32⟩
  | _ => ⟨S1x16384x3072, .f32⟩

abbrev hbmTy (i : Nat) : BufTy := match i / 128 with
  | 0 => hbmTy0_0 i
  | 1 => hbmTy0_1 i
  | _ => ⟨S1x16384x3072, .f32⟩

abbrev bufTy : (tb : Table) → Fin (tcTables nBuf tb) → BufTy
  | .hbm, ⟨i, _⟩ => hbmTy i
  | .local _ .vmem, ⟨0, _⟩ => ⟨S512x3072, .bf16⟩
  | .local _ .vmem, ⟨1, _⟩ => ⟨S512x3072, .bf16⟩
  | .local _ .vmem, ⟨2, _⟩ => ⟨S32x3072, .bf16⟩
  | .local _ .vmem, ⟨3, _⟩ => ⟨S32x3072, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S8x256, .f32⟩
  | .local _ .vmem, ⟨8, _⟩ => ⟨S32x256, .f32⟩
  | .local _ .vmem, ⟨9, _⟩ => ⟨S16x256, .f32⟩
  | .local _ .vmem, ⟨10, _⟩ => ⟨S256x256, .bf16⟩
  | .local _ .vmem, ⟨11, _⟩ => ⟨S256x256, .bf16⟩
  | .local _ .vmem, ⟨12, _⟩ => ⟨S512x128, .bf16⟩
  | .local _ .vmem, ⟨13, _⟩ => ⟨S264x256, .f32⟩
  | .local _ .vmem, ⟨14, _⟩ => ⟨S1024x1024, .bf16⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x256, .f32⟩
  | .local _ .vmem, ⟨21, _⟩ => ⟨S512x256, .f32⟩
  | .local _ .vmem, ⟨22, _⟩ => ⟨S8x128, .f32⟩
  | .local _ .vmem, ⟨23, _⟩ => ⟨S1x1024, .f32⟩
  | .local _ .vmem, ⟨24, _⟩ => ⟨S544x768, .f32⟩
  | .local _ .vmem, ⟨25, _⟩ => ⟨S512x1024, .bf16⟩
  | .local _ .vmem, ⟨26, _⟩ => ⟨S512x1024, .bf16⟩
  | .local _ .vmem, ⟨27, _⟩ => ⟨S512x1024, .f32⟩
  | .local _ .vmem, ⟨28, _⟩ => ⟨S2x8x1024, .f32⟩
  | _, _ => ⟨S1x16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst_0 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_1 : Ref sig .tc := ⟨.hbm, 55, rfl⟩
abbrev main_v33 : Ref sig .tc := ⟨.hbm, 56, rfl⟩
abbrev main_call0_v0 : Ref sig .tc := ⟨.hbm, 57, rfl⟩
abbrev main_call0_c : Ref sig .tc := ⟨.hbm, 58, rfl⟩
abbrev main_call0_v1 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_call0_cst : Ref sig .tc := ⟨.hbm, 63, rfl⟩
abbrev main_call0_v5 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_2 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_3 : Ref sig .tc := ⟨.hbm, 99, rfl⟩
abbrev main_v67 : Ref sig .tc := ⟨.hbm, 100, rfl⟩
abbrev main_v68 : Ref sig .tc := ⟨.hbm, 101, rfl⟩
abbrev main_cst_4 : Ref sig .tc := ⟨.hbm, 102, rfl⟩
abbrev main_v69 : Ref sig .tc := ⟨.hbm, 103, rfl⟩
abbrev main_v70 : Ref sig .tc := ⟨.hbm, 104, rfl⟩
abbrev main_cst_5 : Ref sig .tc := ⟨.hbm, 105, rfl⟩
abbrev main_v71 : Ref sig .tc := ⟨.hbm, 106, rfl⟩
abbrev main_v72 : Ref sig .tc := ⟨.hbm, 107, rfl⟩
abbrev main_c_6 : Ref sig .tc := ⟨.hbm, 108, rfl⟩
abbrev main_call1_v0 : Ref sig .tc := ⟨.hbm, 109, rfl⟩
abbrev main_v73 : Ref sig .tc := ⟨.hbm, 110, rfl⟩
abbrev main_c_7 : Ref sig .tc := ⟨.hbm, 111, rfl⟩
abbrev main_call2_v0 : Ref sig .tc := ⟨.hbm, 112, rfl⟩
abbrev main_v74 : Ref sig .tc := ⟨.hbm, 113, rfl⟩
abbrev main_c_8 : Ref sig .tc := ⟨.hbm, 114, rfl⟩
abbrev main_call3_v0 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92_0 : Ref sig .tc := ⟨.hbm, 133, rfl⟩
abbrev main_v92_1 : Ref sig .tc := ⟨.hbm, 134, rfl⟩
abbrev main_v92_2 : Ref sig .tc := ⟨.hbm, 135, rfl⟩
abbrev main_v92_3 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg17_0 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem17_0 : DmaSem sig := 23

abbrev nD : Nat := 1
abbrev τ : Topo := Topo.v7x

variable {F : FTy → Type} [FloatOps F]

abbrev grid0 : Pipeline.Grid := ⟨1, ![33], ![false]⟩

@[reducible] def k0_t1_loop : Scf.Loop 32 :=
  let c0_i32_14 : BitVec 32 := 0#32
  let c4_i32 : BitVec 32 := 4#32
  let v38 : BitVec 32 := Scalar.addi c0_i32_14 c4_i32
  let c1_i32 : BitVec 32 := 1#32
  ⟨c0_i32_14, v38, c1_i32⟩
def k0_mult1 (k0_t1 : Fin k0_t1_loop.trips) : BitVec 32 :=
  let c0_i32_14 : BitVec 32 := 0#32
  let c1_i32 : BitVec 32 := 1#32
  let arg24 : BitVec 32 := Scf.iv c0_i32_14 c1_i32 k0_t1
  let c128_i32_786 : BitVec 32 := 128#32
  let v2185 : BitVec 32 := Scalar.muli arg24 c128_i32_786
  v2185
def k0_off1 (k0_t1 : Fin k0_t1_loop.trips) : Fin 2 → Nat :=
  let c0_i32_14 : BitVec 32 := 0#32
  let c1_i32 : BitVec 32 := 1#32
  let arg24 : BitVec 32 := Scf.iv c0_i32_14 c1_i32 k0_t1
  let c128_i32_786 : BitVec 32 := 128#32
  let v2185 : BitVec 32 := Scalar.muli arg24 c128_i32_786
  let v2186 : BitVec 32 := v2185
  let v2187 : Index := Scalar.indexCast v2186
  let c256_787 : Index := 256#32
  ![v2187.toNat, 256]
def k0_off2 (k0_t1 : Fin k0_t1_loop.trips) : Fin 2 → Nat :=
  let c0_i32_14 : BitVec 32 := 0#32
  let c1_i32 : BitVec 32 := 1#32
  let arg24 : BitVec 32 := Scf.iv c0_i32_14 c1_i32 k0_t1
  let c128_i32_786 : BitVec 32 := 128#32
  let v2185 : BitVec 32 := Scalar.muli arg24 c128_i32_786
  let v2186 : BitVec 32 := v2185
  let v2191 : Index := Scalar.indexCast v2186
  let c512_788 : Index := 512#32
  ![v2191.toNat, 512]
def k0_off3 (k0_t1 : Fin k0_t1_loop.trips) : Fin 2 → Nat :=
  let c0_i32_14 : BitVec 32 := 0#32
  let c1_i32 : BitVec 32 := 1#32
  let arg24 : BitVec 32 := Scf.iv c0_i32_14 c1_i32 k0_t1
  let c128_i32_786 : BitVec 32 := 128#32
  let v2185 : BitVec 32 := Scalar.muli arg24 c128_i32_786
  let v2186 : BitVec 32 := v2185
  let v2196 : Index := Scalar.indexCast v2186
  let c1024_789 : Index := 1024#32
  ![v2196.toNat, 1024]
def k0_off4 (k0_t1 : Fin k0_t1_loop.trips) : Fin 2 → Nat :=
  let c0_i32_14 : BitVec 32 := 0#32
  let c1_i32 : BitVec 32 := 1#32
  let arg24 : BitVec 32 := Scf.iv c0_i32_14 c1_i32 k0_t1
  let c128_i32_786 : BitVec 32 := 128#32
  let v2185 : BitVec 32 := Scalar.muli arg24 c128_i32_786
  let v2186 : BitVec 32 := v2185
  let v2200 : Index := Scalar.indexCast v2186
  let c1536_790 : Index := 1536#32
  ![v2200.toNat, 1536]
def k0_off5 (k0_t1 : Fin k0_t1_loop.trips) : Fin 2 → Nat :=
  let c0_i32_14 : BitVec 32 := 0#32
  let c1_i32 : BitVec 32 := 1#32
  let arg24 : BitVec 32 := Scf.iv c0_i32_14 c1_i32 k0_t1
  let c128_i32_786 : BitVec 32 := 128#32
  let v2185 : BitVec 32 := Scalar.muli arg24 c128_i32_786
  let v2186 : BitVec 32 := v2185
  let v2204 : Index := Scalar.indexCast v2186
  let c1792_791 : Index := 1792#32
  ![v2204.toNat, 1792]
def k0_off6 (k0_t1 : Fin k0_t1_loop.trips) : Fin 2 → Nat :=
  let c0_i32_14 : BitVec 32 := 0#32
  let c1_i32 : BitVec 32 := 1#32
  let arg24 : BitVec 32 := Scf.iv c0_i32_14 c1_i32 k0_t1
  let c128_i32_786 : BitVec 32 := 128#32
  let v2185 : BitVec 32 := Scalar.muli arg24 c128_i32_786
  let v2186 : BitVec 32 := v2185
  let c32_i32_792 : BitVec 32 := 32#32
  let v2210 : BitVec 32 := Scalar.addi v2186 c32_i32_792
  let v2211 : Index := Scalar.indexCast v2210
  let c0_793 : Index := 0#32
  ![v2211.toNat, 0]
def k0_off7 (k0_t1 : Fin k0_t1_loop.trips) : Fin 2 → Nat :=
  let c0_i32_14 : BitVec 32 := 0#32
  let c1_i32 : BitVec 32 := 1#32
  let arg24 : BitVec 32 := Scf.iv c0_i32_14 c1_i32 k0_t1
  let c128_i32_786 : BitVec 32 := 128#32
  let v2185 : BitVec 32 := Scalar.muli arg24 c128_i32_786
  let v2186 : BitVec 32 := v2185
  let c32_i32_794 : BitVec 32 := 32#32
  let v2215 : BitVec 32 := Scalar.addi v2186 c32_i32_794
  let v2216 : Index := Scalar.indexCast v2215
  let c256_795 : Index := 256#32
  ![v2216.toNat, 256]
def k0_off8 (k0_t1 : Fin k0_t1_loop.trips) : Fin 2 → Nat :=
  let c0_i32_14 : BitVec 32 := 0#32
  let c1_i32 : BitVec 32 := 1#32
  let arg24 : BitVec 32 := Scf.iv c0_i32_14 c1_i32 k0_t1
  let c128_i32_786 : BitVec 32 := 128#32
  let v2185 : BitVec 32 := Scalar.muli arg24 c128_i32_786
  let v2186 : BitVec 32 := v2185
  let c32_i32_796 : BitVec 32 := 32#32
  let v2220 : BitVec 32 := Scalar.addi v2186 c32_i32_796
  let v2221 : Index := Scalar.indexCast v2220
  let c512_797 : Index := 512#32
  ![v2221.toNat, 512]
def k0_cond2 (i : grid0.Coords) : BitVec 1 :=
  let arg0 : BitVec 32 := BitVec.ofNat 32 (i 0).val
  let c32_i32 : BitVec 32 := 32#32
  let v2182 : BitVec 1 := Scalar.cmpi .eq arg0 c32_i32
  let v2183 : BitVec 32 := Scalar.extui v2182
  let c0_i32_785 : BitVec 32 := 0#32
  let v2184 : BitVec 1 := Scalar.cmpi .ne v2183 c0_i32_785
  v2184

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_14 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_15 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S264x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S8x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== Reference5Ideal.lean ====
abbrev S1x16384x3072 : Shape := ⟨3, ![1, 16384, 3072]⟩
abbrev S1x16384x1024 : Shape := ⟨3, ![1, 16384, 1024]⟩
abbrev S1x1024 : Shape := ⟨2, ![1, 1024]⟩
abbrev S3x256 : Shape := ⟨2, ![3, 256]⟩
abbrev S4x64x64 : Shape := ⟨3, ![4, 64, 64]⟩
abbrev S256 : Shape := ⟨1, ![256]⟩
abbrev S31x256 : Shape := ⟨2, ![31, 256]⟩
abbrev S256x256 : Shape := ⟨2, ![256, 256]⟩
abbrev S4x128x128 : Shape := ⟨3, ![4, 128, 128]⟩
abbrev S4x128 : Shape := ⟨2, ![4, 128]⟩
abbrev S256x1024 : Shape := ⟨2, ![256, 1024]⟩
abbrev S1024 : Shape := ⟨1, ![1024]⟩
abbrev S1x16384x768 : Shape := ⟨3, ![1, 16384, 768]⟩
abbrev S1x16384x256 : Shape := ⟨3, ![1, 16384, 256]⟩
abbrev S_ : Shape := ⟨0, ![]⟩
abbrev S1x16384 : Shape := ⟨2, ![1, 16384]⟩
abbrev S1x16384x1 : Shape := ⟨3, ![1, 16384, 1]⟩
abbrev S1x1x256 : Shape := ⟨3, ![1, 1, 256]⟩
abbrev S1x128x128x4x64 : Shape := ⟨5, ![1, 128, 128, 4, 64]⟩
abbrev S128x128 : Shape := ⟨2, ![128, 128]⟩
abbrev S1x128x128 : Shape := ⟨3, ![1, 128, 128]⟩
abbrev S4x1x128x64x128 : Shape := ⟨5, ![4, 1, 128, 64, 128]⟩
abbrev S128x4 : Shape := ⟨2, ![128, 4]⟩
abbrev S1x1x128x4x1 : Shape := ⟨5, ![1, 1, 128, 4, 1]⟩
abbrev S1x1x1024 : Shape := ⟨3, ![1, 1, 1024]⟩
abbrev S16384 : Shape := ⟨1, ![16384]⟩
abbrev S16384x1024 : Shape := ⟨2, ![16384, 1024]⟩
abbrev S8x128 : Shape := ⟨2, ![8, 128]⟩

abbrev nBuf : Space → Nat
  | .hbm => 199
  | .vmem => 0
  | .smem => 0
  | _ => 0

abbrev hbmTy0_0 (i : Nat) : BufTy := match i % 128 with
  | 0 => ⟨S1x16384x3072, .f32⟩
  | 1 => ⟨S1x16384x1024, .f32⟩
  | 2 => ⟨S1x1024, .f32⟩
  | 3 => ⟨S3x256, .f32⟩
  | 4 => ⟨S4x64x64, .f32⟩
  | 5 => ⟨S256, .f32⟩
  | 6 => ⟨S31x256, .f32⟩
  | 7 => ⟨S256, .f32⟩
  | 8 => ⟨S256, .f32⟩
  | 9 => ⟨S256, .f32⟩
  | 10 => ⟨S256x256, .f32⟩
  | 11 => ⟨S256, .f32⟩
  | 12 => ⟨S256, .f32⟩
  | 13 => ⟨S256, .f32⟩
  | 14 => ⟨S4x128x128, .f32⟩
  | 15 => ⟨S4x128, .f32⟩
  | 16 => ⟨S256x1024, .f32⟩
  | 17 => ⟨S1024, .f32⟩
  | 18 => ⟨S1x16384x1024, .f32⟩
  | 19 => ⟨S1x16384x768, .f32⟩
  | 20 => ⟨S1x16384x256, .f32⟩
  | 21 => ⟨S1x16384x256, .f32⟩
  | 22 => ⟨S1x16384x256, .f32⟩
  | 23 => ⟨S1x16384x256, .f32⟩
  | 24 => ⟨S1x16384x256, .f32⟩
  | 25 => ⟨S_, .f32⟩
  | 26 => ⟨S1x16384x256, .f32⟩
  | 27 => ⟨S1x16384x256, .f32⟩
  | 28 => ⟨S1x16384x256, .f32⟩
  | 29 => ⟨S_, .f32⟩
  | 30 => ⟨S1x16384x256, .f32⟩
  | 31 => ⟨S1x16384x256, .f32⟩
  | 32 => ⟨S1x16384x256, .f32⟩
  | 33 => ⟨S_, .f32⟩
  | 34 => ⟨S1x16384x256, .f32⟩
  | 35 => ⟨S1x16384x256, .f32⟩
  | 36 => ⟨S_, .f32⟩
  | 37 => ⟨S1x16384x256, .f32⟩
  | 38 => ⟨S1x16384x256, .f32⟩
  | 39 => ⟨S1x16384x256, .f32⟩
  | 40 => ⟨S1x16384x256, .f32⟩
  | 41 => ⟨S1x16384x256, .f32⟩
  | 42 => ⟨S_, .f32⟩
  | 43 => ⟨S1x16384x256, .f32⟩
  | 44 => ⟨S1x16384x256, .f32⟩
  | 45 => ⟨S1x16384x256, .f32⟩
  | 46 => ⟨S_, .f32⟩
  | 47 => ⟨S1x16384x256, .f32⟩
  | 48 => ⟨S1x16384x256, .f32⟩
  | 49 => ⟨S1x16384x256, .f32⟩
  | 50 => ⟨S_, .f32⟩
  | 51 => ⟨S1x16384x256, .f32⟩
  | 52 => ⟨S1x16384x256, .f32⟩
  | 53 => ⟨S_, .f32⟩
  | 54 => ⟨S1x16384x256, .f32⟩
  | 55 => ⟨S1x16384x256, .f32⟩
  | 56 => ⟨S1x16384x256, .f32⟩
  | 57 => ⟨S_, .f32⟩
  | 58 => ⟨S1x16384, .f32⟩
  | 59 => ⟨S1x16384x1, .f32⟩
  | 60 => ⟨S_, .f32⟩
  | 61 => ⟨S1x16384x1, .f32⟩
  | 62 => ⟨S1x16384x1, .f32⟩
  | 63 => ⟨S1x16384x256, .f32⟩
  | 64 => ⟨S1x16384x256, .f32⟩
  | 65 => ⟨S1x16384x256, .f32⟩
  | 66 => ⟨S_, .f32⟩
  | 67 => ⟨S1x16384, .f32⟩
  | 68 => ⟨S1x16384x1, .f32⟩
  | 69 => ⟨S_, .f32⟩
  | 70 => ⟨S1x16384x1, .f32⟩
  | 71 => ⟨S1x16384x1, .f32⟩
  | 72 => ⟨S1x16384x256, .f32⟩
  | 73 => ⟨S1x16384x256, .f32⟩
  | 74 => ⟨S_, .f32⟩
  | 75 => ⟨S1x16384x1, .f32⟩
  | 76 => ⟨S1x16384x1, .f32⟩
  | 77 => ⟨S1x16384x1, .f32⟩
  | 78 => ⟨S1x16384x256, .f32⟩
  | 79 => ⟨S1x16384x256, .f32⟩
  | 80 => ⟨S1x1x256, .f32⟩
  | 81 => ⟨S1x16384x256, .f32⟩
  | 82 => ⟨S1x16384x256, .f32⟩
  | 83 => ⟨S1x1x256, .f32⟩
  | 84 => ⟨S1x16384x256, .f32⟩
  | 85 => ⟨S1x16384x256, .f32⟩
  | 86 => ⟨S1x128x128x4x64, .f32⟩
  | 87 => ⟨S_, .i1⟩
  | 88 => ⟨S128x128, .i1⟩
  | 89 => ⟨S128x128, .i32⟩
  | 90 => ⟨S_, .i32⟩
  | 91 => ⟨S128x128, .i32⟩
  | 92 => ⟨S128x128, .i32⟩
  | 93 => ⟨S128x128, .i32⟩
  | 94 => ⟨S128x128, .i1⟩
  | 95 => ⟨S_, .i1⟩
  | 96 => ⟨S128x128, .i1⟩
  | 97 => ⟨S128x128, .i1⟩
  | 98 => ⟨S1x128x128, .i1⟩
  | 99 => ⟨S_, .i32⟩
  | 100 => ⟨S_, .f32⟩
  | 101 => ⟨S4x128x128, .i1⟩
  | 102 => ⟨S4x128x128, .f32⟩
  | 103 => ⟨S4x128x128, .f32⟩
  | 104 => ⟨S4x1x128x64x128, .f32⟩
  | 105 => ⟨S1x128x128x4x64, .f32⟩
  | 106 => ⟨S128x4, .f32⟩
  | 107 => ⟨S1x1x128x4x1, .f32⟩
  | 108 => ⟨S1x128x128x4x64, .f32⟩
  | 109 => ⟨S1x128x128x4x64, .f32⟩
  | 110 => ⟨S1x16384x256, .f32⟩
  | 111 => ⟨S1x16384x256, .f32⟩
  | 112 => ⟨S1x16384x256, .f32⟩
  | 113 => ⟨S1x16384x256, .f32⟩
  | 114 => ⟨S_, .f32⟩
  | 115 => ⟨S1x16384x256, .f32⟩
  | 116 => ⟨S1x16384x256, .f32⟩
  | 117 => ⟨S_, .f32⟩
  | 118 => ⟨S1x16384x256, .f32⟩
  | 119 => ⟨S1x16384x256, .f32⟩
  | 120 => ⟨S1x16384x256, .f32⟩
  | 121 => ⟨S1x16384x256, .f32⟩
  | 122 => ⟨S1x1x1024, .f32⟩
  | 123 => ⟨S1x16384x1024, .f32⟩
  | 124 => ⟨S1x16384x1024, .f32⟩
  | 125 => ⟨S1x16384x1024, .f32⟩
  | 126 => ⟨S1x16384x1024, .f32⟩
  | 127 => ⟨S1x16384x1024, .f32⟩
  | _ => ⟨S1x16384x3072, .f32⟩

abbrev hbmTy0_1 (i : Nat) : BufTy := match i % 128 with
  | 0 => ⟨S_, .f32⟩
  | 1 => ⟨S1x16384, .f32⟩
  | 2 => ⟨S1x16384x1, .f32⟩
  | 3 => ⟨S_, .f32⟩
  | 4 => ⟨S1x16384x1, .f32⟩
  | 5 => ⟨S1x16384x1, .f32⟩
  | 6 => ⟨S_, .f32⟩
  | 7 => ⟨S1x16384x1, .f32⟩
  | 8 => ⟨S1x16384x1, .f32⟩
  | 9 => ⟨S1x16384x1, .f32⟩
  | 10 => ⟨S1x16384x1, .f32⟩
  | 11 => ⟨S_, .f32⟩
  | 12 => ⟨S1x16384x1, .f32⟩
  | 13 => ⟨S1x16384x1, .f32⟩
  | 14 => ⟨S1x16384x1024, .f32⟩
  | 15 => ⟨S1x16384x1024, .f32⟩
  | 16 => ⟨S1x1x1024, .f32⟩
  | 17 => ⟨S1x16384x1024, .f32⟩
  | 18 => ⟨S1x16384x1024, .f32⟩
  | 19 => ⟨S1x16384x1024, .f32⟩
  | 20 => ⟨S1x16384x1024, .f32⟩
  | 21 => ⟨S_, .f32⟩
  | 22 => ⟨S1x16384x1024, .f32⟩
  | 23 => ⟨S1x16384x1024, .f32⟩
  | 24 => ⟨S_, .f32⟩
  | 25 => ⟨S1x16384, .f32⟩
  | 26 => ⟨S_, .f32⟩
  | 27 => ⟨S1x16384, .f32⟩
  | 28 => ⟨S1x16384, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S1x16384, .f32⟩
  | 37 => ⟨S_, .f32⟩
  | 38 => ⟨S1x16384, .f32⟩
  | 39 => ⟨S1x16384, .f32⟩
  | 40 => ⟨S1x16384x1024, .f32⟩
  | 41 => ⟨S1x16384x1024, .f32⟩
  | 42 => ⟨S1x16384x1024, .f32⟩
  | 43 => ⟨S_, .f32⟩
  | 44 => ⟨S1x1024, .f32⟩
  | 45 => ⟨S1x1x1024, .f32⟩
  | 46 => ⟨S1x16384x1024, .f32⟩
  | 47 => ⟨S1x16384x1024, .f32⟩
  | 48 => ⟨S_, .f32⟩
  | 49 => ⟨S1024, .f32⟩
  | 50 => ⟨S1x16384x1024, .f32⟩
  | 51 => ⟨S_, .f32⟩
  | 52 => ⟨S1x16384, .f32⟩
  | 53 => ⟨S1x16384x1, .f32⟩
  | 54 => ⟨S1x16384x1024, .f32⟩
  | 55 => ⟨S1x16384x1024, .f32⟩
  | 56 => ⟨S1x16384x1, .f32⟩
  | 57 => ⟨S_, .f32⟩
  | 58 => ⟨S1x16384x1, .f32⟩
  | 59 => ⟨S1x16384x1, .f32⟩
  | 60 => ⟨S_, .f32⟩
  | 61 => ⟨S16384, .f32⟩
  | 62 => ⟨S1x16384, .f32⟩
  | 63 => ⟨S1x16384x1024, .f32⟩
  | 64 => ⟨S1x16384x1024, .f32⟩
  | 65 => ⟨S1x16384x1024, .f32⟩
  | 66 => ⟨S1x16384x1024, .f32⟩
  | 67 => ⟨S1x16384x1024, .f32⟩
  | 68 => ⟨S16384x1024, .f32⟩
  | 69 => ⟨S8x128, .f32⟩
  | 70 => ⟨S1x1024, .f32⟩
  | _ => ⟨S1x16384x3072, .f32⟩

abbrev hbmTy (i : Nat) : BufTy := match i / 128 with
  | 0 => hbmTy0_0 i
  | 1 => hbmTy0_1 i
  | _ => ⟨S1x16384x3072, .f32⟩

abbrev bufTy : (tb : Table) → Fin (tcTables nBuf tb) → BufTy
  | .hbm, ⟨i, _⟩ => hbmTy i
  | _, _ => ⟨S1x16384x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_cst : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_cst_0 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst_1 : Ref sig .tc := ⟨.hbm, 33, rfl⟩
abbrev main_v12 : Ref sig .tc := ⟨.hbm, 34, rfl⟩
abbrev main_v13 : Ref sig .tc := ⟨.hbm, 35, rfl⟩
abbrev main_cst_2 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_3 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_4 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_cst_5 : Ref sig .tc := ⟨.hbm, 50, rfl⟩
abbrev main_v25 : Ref sig .tc := ⟨.hbm, 51, rfl⟩
abbrev main_v26 : Ref sig .tc := ⟨.hbm, 52, rfl⟩
abbrev main_cst_6 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_cst_7 : Ref sig .tc := ⟨.hbm, 57, rfl⟩
abbrev main_v30 : Ref sig .tc := ⟨.hbm, 58, rfl⟩
abbrev main_v31 : Ref sig .tc := ⟨.hbm, 59, rfl⟩
abbrev main_cst_8 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_cst_9 : Ref sig .tc := ⟨.hbm, 66, rfl⟩
abbrev main_v37 : Ref sig .tc := ⟨.hbm, 67, rfl⟩
abbrev main_v38 : Ref sig .tc := ⟨.hbm, 68, rfl⟩
abbrev main_cst_10 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_cst_11 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_c : Ref sig .tc := ⟨.hbm, 87, rfl⟩
abbrev main_v55 : Ref sig .tc := ⟨.hbm, 88, rfl⟩
abbrev main_call0_v0 : Ref sig .tc := ⟨.hbm, 89, rfl⟩
abbrev main_call0_c : Ref sig .tc := ⟨.hbm, 90, rfl⟩
abbrev main_call0_v1 : Ref sig .tc := ⟨.hbm, 91, rfl⟩
abbrev main_call0_v2 : Ref sig .tc := ⟨.hbm, 92, rfl⟩
abbrev main_call0_v3 : Ref sig .tc := ⟨.hbm, 93, rfl⟩
abbrev main_call0_v4 : Ref sig .tc := ⟨.hbm, 94, rfl⟩
abbrev main_call0_c_0 : Ref sig .tc := ⟨.hbm, 95, rfl⟩
abbrev main_call0_v5 : Ref sig .tc := ⟨.hbm, 96, rfl⟩
abbrev main_v56 : Ref sig .tc := ⟨.hbm, 97, rfl⟩
abbrev main_v57 : Ref sig .tc := ⟨.hbm, 98, rfl⟩
abbrev main_c_12 : Ref sig .tc := ⟨.hbm, 99, rfl⟩
abbrev main_call1_v0 : Ref sig .tc := ⟨.hbm, 100, rfl⟩
abbrev main_call1_v1 : Ref sig .tc := ⟨.hbm, 101, rfl⟩
abbrev main_call1_v2 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_cst_13 : Ref sig .tc := ⟨.hbm, 114, rfl⟩
abbrev main_v69 : Ref sig .tc := ⟨.hbm, 115, rfl⟩
abbrev main_v70 : Ref sig .tc := ⟨.hbm, 116, rfl⟩
abbrev main_cst_14 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_cst_15 : Ref sig .tc := ⟨.hbm, 128, rfl⟩
abbrev main_v81 : Ref sig .tc := ⟨.hbm, 129, rfl⟩
abbrev main_v82 : Ref sig .tc := ⟨.hbm, 130, rfl⟩
abbrev main_cst_16 : Ref sig .tc := ⟨.hbm, 131, rfl⟩
abbrev main_v83 : Ref sig .tc := ⟨.hbm, 132, rfl⟩
abbrev main_v84 : Ref sig .tc := ⟨.hbm, 133, rfl⟩
abbrev main_cst_17 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_cst_18 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_cst_19 : Ref sig .tc := ⟨.hbm, 149, rfl⟩
abbrev main_v98 : Ref sig .tc := ⟨.hbm, 150, rfl⟩
abbrev main_v99 : Ref sig .tc := ⟨.hbm, 151, rfl⟩
abbrev main_cst_20 : Ref sig .tc := ⟨.hbm, 152, rfl⟩
abbrev main_v100 : Ref sig .tc := ⟨.hbm, 153, rfl⟩
abbrev main_cst_21 : Ref sig .tc := ⟨.hbm, 154, rfl⟩
abbrev main_v101 : Ref sig .tc := ⟨.hbm, 155, rfl⟩
abbrev main_v102 : Ref sig .tc := ⟨.hbm, 156, rfl⟩
abbrev main_cst_22 : Ref sig .tc := ⟨.hbm, 157, rfl⟩
abbrev main_v103 : Ref sig .tc := ⟨.hbm, 158, rfl⟩
abbrev main_cst_23 : Ref sig .tc := ⟨.hbm, 159, rfl⟩
abbrev main_v104 : Ref sig .tc := ⟨.hbm, 160, rfl⟩
abbrev main_cst_24 : Ref sig .tc := ⟨.hbm, 161, rfl⟩
abbrev main_cst_25 : Ref sig .tc := ⟨.hbm, 162, rfl⟩
abbrev main_v105 : Ref sig .tc := ⟨.hbm, 163, rfl⟩
abbrev main_v106 : Ref sig .tc := ⟨.hbm, 164, rfl⟩
abbrev main_cst_26 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_cst_27 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_cst_28 : Ref sig .tc := ⟨.hbm, 176, rfl⟩
abbrev main_v116 : Ref sig .tc := ⟨.hbm, 177, rfl⟩
abbrev main_v117 : Ref sig .tc := ⟨.hbm, 178, rfl⟩
abbrev main_cst_29 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_cst_30 : Ref sig .tc := ⟨.hbm, 185, rfl⟩
abbrev main_v123 : Ref sig .tc := ⟨.hbm, 186, rfl⟩
abbrev main_v124 : Ref sig .tc := ⟨.hbm, 187, rfl⟩
abbrev main_cst_31 : Ref sig .tc := ⟨.hbm, 188, rfl⟩
abbrev main_v125 : Ref sig .tc := ⟨.hbm, 189, rfl⟩
abbrev main_v126 : Ref sig .tc := ⟨.hbm, 190, rfl⟩
abbrev main_v127 : Ref sig .tc := ⟨.hbm, 191, rfl⟩
abbrev main_v128 : Ref sig .tc := ⟨.hbm, 192, rfl⟩
abbrev main_v129 : Ref sig .tc := ⟨.hbm, 193, rfl⟩
abbrev main_v130 : Ref sig .tc := ⟨.hbm, 194, rfl⟩
abbrev main_v131 : Ref sig .tc := ⟨.hbm, 195, rfl⟩
abbrev main_v132 : Ref sig .tc := ⟨.hbm, 196, rfl⟩
abbrev main_v133 : Ref sig .tc := ⟨.hbm, 197, rfl⟩
abbrev main_v134 : Ref sig .tc := ⟨.hbm, 198, rfl⟩

abbrev nD : Nat := 1
abbrev τ : Topo := Topo.v7x

variable {F : FTy → Type} [FloatOps F]
-- ==== Kernel6.lean ====
abbrev S8x1024 : Shape := ⟨2, ![8, 1024]⟩
abbrev S2x1024x384 : Shape := ⟨3, ![2, 1024, 384]⟩
abbrev S2x384 : Shape := ⟨2, ![2, 384]⟩
abbrev S2x8x384 : Shape := ⟨3, ![2, 8, 384]⟩
abbrev S1x1024x384 : Shape := ⟨3, ![1, 1024, 384]⟩
abbrev S1024x384 : Shape := ⟨2, ![1024, 384]⟩
abbrev S8x384 : Shape := ⟨2, ![8, 384]⟩
abbrev S1x384 : Shape := ⟨2, ![1, 384]⟩
abbrev S1x8x384 : Shape := ⟨3, ![1, 8, 384]⟩

abbrev nBuf : Space → Nat
  | .hbm => 5
  | .vmem => 5
  | .smem => 0
  | _ => 0

abbrev bufTy : (tb : Table) → Fin (tcTables nBuf tb) → BufTy
  | .hbm, ⟨0, _⟩ => ⟨S8x1024, .f32⟩
  | .hbm, ⟨1, _⟩ => ⟨S2x1024x384, .f32⟩
  | .hbm, ⟨2, _⟩ => ⟨S2x384, .f32⟩
  | .hbm, ⟨3, _⟩ => ⟨S8x1024, .f32⟩
  | .hbm, ⟨4, _⟩ => ⟨S2x8x384, .f32⟩
  | .local _ .vmem, ⟨0, _⟩ => ⟨S8x1024, .f32⟩
  | .local _ .vmem, ⟨1, _⟩ => ⟨S2x1024x384, .f32⟩
  | .local _ .vmem, ⟨2, _⟩ => ⟨S2x384, .f32⟩
  | .local _ .vmem, ⟨3, _⟩ => ⟨S8x1024, .f32⟩
  | .local _ .vmem, ⟨4, _⟩ => ⟨S2x8x384, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x8x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Reference6Ideal.lean ====
abbrev S8x1024 : Shape := ⟨2, ![8, 1024]⟩
abbrev S2x1024x384 : Shape := ⟨3, ![2, 1024, 384]⟩
abbrev S2x384 : Shape := ⟨2, ![2, 384]⟩
abbrev S_ : Shape := ⟨0, ![]⟩
abbrev S1x1024x384 : Shape := ⟨3, ![1, 1024, 384]⟩
abbrev S1024x384 : Shape := ⟨2, ![1024, 384]⟩
abbrev S8x384 : Shape := ⟨2, ![8, 384]⟩
abbrev S1x384 : Shape := ⟨2, ![1, 384]⟩
abbrev S384 : Shape := ⟨1, ![384]⟩
abbrev S1x8x384 : Shape := ⟨3, ![1, 8, 384]⟩
abbrev S2x8x384 : Shape := ⟨3, ![2, 8, 384]⟩

abbrev nBuf : Space → Nat
  | .hbm => 49
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x384, .f32⟩
  | .hbm, ⟨2, _⟩ => ⟨S2x384, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S_, .f32⟩
  | .hbm, ⟨15, _⟩ => ⟨S8x1024, .f32⟩
  | .hbm, ⟨16, _⟩ => ⟨S8x1024, .f32⟩
  | .hbm, ⟨17, _⟩ => ⟨S_, .f32⟩
  | .hbm, ⟨18, _⟩ => ⟨S8x1024, .f32⟩
  | .hbm, ⟨19, _⟩ => ⟨S8x1024, .f32⟩
  | .hbm, ⟨20, _⟩ => ⟨S8x1024, .f32⟩
  | .hbm, ⟨21, _⟩ => ⟨S1x1024x384, .f32⟩
  | .hbm, ⟨22, _⟩ => ⟨S1024x384, .f32⟩
  | .hbm, ⟨23, _⟩ => ⟨S8x384, .f32⟩
  | .hbm, ⟨24, _⟩ => ⟨S1x384, .f32⟩
  | .hbm, ⟨25, _⟩ => ⟨S384, .f32⟩
  | .hbm, ⟨26, _⟩ => ⟨S1x384, .f32⟩
  | .hbm, ⟨27, _⟩ => ⟨S8x384, .f32⟩
  | .hbm, ⟨28, _⟩ => ⟨S8x384, .f32⟩
  | .hbm, ⟨29, _⟩ => ⟨S8x1024, .f32⟩
  | .hbm, ⟨30, _⟩ => ⟨S8x1024, .f32⟩
  | .hbm, ⟨31, _⟩ => ⟨S_, .f32⟩
  | .hbm, ⟨32, _⟩ => ⟨S8x1024, .f32⟩
  | .hbm, ⟨33, _⟩ => ⟨S8x1024, .f32⟩
  | .hbm, ⟨34, _⟩ => ⟨S_, .f32⟩
  | .hbm, ⟨35, _⟩ => ⟨S8x1024, .f32⟩
  | .hbm, ⟨36, _⟩ => ⟨S8x1024, .f32⟩
  | .hbm, ⟨37, _⟩ => ⟨S8x1024, .f32⟩
  | .hbm, ⟨38, _⟩ => ⟨S1x1024x384, .f32⟩
  | .hbm, ⟨39, _⟩ => ⟨S1024x384, .f32⟩
  | .hbm, ⟨40, _⟩ => ⟨S8x384, .f32⟩
  | .hbm, ⟨41, _⟩ => ⟨S1x384, .f32⟩
  | .hbm, ⟨42, _⟩ => ⟨S384, .f32⟩
  | .hbm, ⟨43, _⟩ => ⟨S1x384, .f32⟩
  | .hbm, ⟨44, _⟩ => ⟨S8x384, .f32⟩
  | .hbm, ⟨45, _⟩ => ⟨S8x384, .f32⟩
  | .hbm, ⟨46, _⟩ => ⟨S1x8x384, .f32⟩
  | .hbm, ⟨47, _⟩ => ⟨S1x8x384, .f32⟩
  | .hbm, ⟨48, _⟩ => ⟨S2x8x384, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩

abbrev nD : Nat := 1
abbrev τ : Topo := Topo.v7x

variable {F : FTy → Type} [FloatOps F]
-- ==== Kernel7.lean ====
abbrev S8x1024 : Shape := ⟨2, ![8, 1024]⟩
abbrev S2x8x384 : Shape := ⟨3, ![2, 8, 384]⟩
abbrev S2x1024x384 : Shape := ⟨3, ![2, 1024, 384]⟩
abbrev S_ : Shape := ⟨0, ![]⟩
abbrev S1024x8 : Shape := ⟨2, ![1024, 8]⟩
abbrev S1x8x384 : Shape := ⟨3, ![1, 8, 384]⟩
abbrev S1x1024x384 : Shape := ⟨3, ![1, 1024, 384]⟩
abbrev S1024x1 : Shape := ⟨2, ![1024, 1]⟩
abbrev S1x1x384 : Shape := ⟨3, ![1, 1, 384]⟩
abbrev S1x384 : Shape := ⟨2, ![1, 384]⟩
abbrev S1024x384 : Shape := ⟨2, ![1024, 384]⟩

abbrev nBuf : Space → Nat
  | .hbm => 19
  | .vmem => 17
  | .smem => 0
  | _ => 0

abbrev bufTy : (tb : Table) → Fin (tcTables nBuf tb) → BufTy
  | .hbm, ⟨0, _⟩ => ⟨S8x1024, .f32⟩
  | .hbm, ⟨1, _⟩ => ⟨S2x8x384, .f32⟩
  | .hbm, ⟨2, _⟩ => ⟨S2x1024x384, .f32⟩
  | .hbm, ⟨3, _⟩ => ⟨S2x1024x384, .f32⟩
  | .hbm, ⟨4, _⟩ => ⟨S2x1024x384, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S1024x8, .f32⟩
  | .hbm, ⟨15, _⟩ => ⟨S2x1024x384, .f32⟩
  | .hbm, ⟨16, _⟩ => ⟨S2x1024x384, .f32⟩
  | .hbm, ⟨17, _⟩ => ⟨S2x1024x384, .f32⟩
  | .hbm, ⟨18, _⟩ => ⟨S2x1024x384, .f32⟩
  | .local _ .vmem, ⟨0, _⟩ => ⟨S1024x8, .f32⟩
  | .local _ .vmem, ⟨1, _⟩ => ⟨S1x8x384, .f32⟩
  | .local _ .vmem, ⟨2, _⟩ => ⟨S1x8x384, .f32⟩
  | .local _ .vmem, ⟨3, _⟩ => ⟨S1x1024x384, .f32⟩
  | .local _ .vmem, ⟨4, _⟩ => ⟨S1x1024x384, .f32⟩
  | .local _ .vmem, ⟨5, _⟩ => ⟨S1x1024x384, .f32⟩
  | .local _ .vmem, ⟨6, _⟩ => ⟨S1x1024x384, .f32⟩
  | .local _ .vmem, ⟨7, _⟩ => ⟨S1x1024x384, .f32⟩
  | .local _ .vmem, ⟨8, _⟩ => ⟨S1x1024x384, .f32⟩
  | .local _ .vmem, ⟨9, _⟩ => ⟨S1x1024x384, .f32⟩
  | .local _ .vmem, ⟨10, _⟩ => ⟨S1x1024x384, .f32⟩
  | .local _ .vmem, ⟨11, _⟩ => ⟨S1x1024x384, .f32⟩
  | .local _ .vmem, ⟨12, _⟩ => ⟨S1x1024x384, .f32⟩
  | .local _ .vmem, ⟨13, _⟩ => ⟨S1x1024x384, .f32⟩
  | .local _ .vmem, ⟨14, _⟩ => ⟨S1x1024x384, .f32⟩
  | .local _ .vmem, ⟨15, _⟩ => ⟨S1x1024x384, .f32⟩
  | .local _ .vmem, ⟨16, _⟩ => ⟨S1x1024x384, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1024x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x8x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1024x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1024x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference7Ideal.lean ====
abbrev S8x1024 : Shape := ⟨2, ![8, 1024]⟩
abbrev S2x8x384 : Shape := ⟨3, ![2, 8, 384]⟩
abbrev S2x1024x384 : Shape := ⟨3, ![2, 1024, 384]⟩
abbrev S1x1024x384 : Shape := ⟨3, ![1, 1024, 384]⟩
abbrev S1024x384 : Shape := ⟨2, ![1024, 384]⟩
abbrev S_ : Shape := ⟨0, ![]⟩
abbrev S8x384 : Shape := ⟨2, ![8, 384]⟩
abbrev S1x8x384 : Shape := ⟨3, ![1, 8, 384]⟩
abbrev S384x1024 : Shape := ⟨2, ![384, 1024]⟩

abbrev nBuf : Space → Nat
  | .hbm => 73
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x8x384, .f32⟩
  | .hbm, ⟨2, _⟩ => ⟨S2x1024x384, .f32⟩
  | .hbm, ⟨3, _⟩ => ⟨S2x1024x384, .f32⟩
  | .hbm, ⟨4, _⟩ => ⟨S2x1024x384, .f32⟩
  | .hbm, ⟨5, _⟩ => ⟨S1x1024x384, .f32⟩
  | .hbm, ⟨6, _⟩ => ⟨S1024x384, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S_, .f32⟩
  | .hbm, ⟨13, _⟩ => ⟨S8x1024, .f32⟩
  | .hbm, ⟨14, _⟩ => ⟨S8x1024, .f32⟩
  | .hbm, ⟨15, _⟩ => ⟨S8x1024, .f32⟩
  | .hbm, ⟨16, _⟩ => ⟨S8x384, .f32⟩
  | .hbm, ⟨17, _⟩ => ⟨S1x8x384, .f32⟩
  | .hbm, ⟨18, _⟩ => ⟨S8x384, .f32⟩
  | .hbm, ⟨19, _⟩ => ⟨S384x1024, .f32⟩
  | .hbm, ⟨20, _⟩ => ⟨S1024x384, .f32⟩
  | .hbm, ⟨21, _⟩ => ⟨S1x1024x384, .f32⟩
  | .hbm, ⟨22, _⟩ => ⟨S1024x384, .f32⟩
  | .hbm, ⟨23, _⟩ => ⟨S8x1024, .f32⟩
  | .hbm, ⟨24, _⟩ => ⟨S8x1024, .f32⟩
  | .hbm, ⟨25, _⟩ => ⟨S_, .f32⟩
  | .hbm, ⟨26, _⟩ => ⟨S8x1024, .f32⟩
  | .hbm, ⟨27, _⟩ => ⟨S8x1024, .f32⟩
  | .hbm, ⟨28, _⟩ => ⟨S_, .f32⟩
  | .hbm, ⟨29, _⟩ => ⟨S8x1024, .f32⟩
  | .hbm, ⟨30, _⟩ => ⟨S8x1024, .f32⟩
  | .hbm, ⟨31, _⟩ => ⟨S8x1024, .f32⟩
  | .hbm, ⟨32, _⟩ => ⟨S8x384, .f32⟩
  | .hbm, ⟨33, _⟩ => ⟨S1x8x384, .f32⟩
  | .hbm, ⟨34, _⟩ => ⟨S8x384, .f32⟩
  | .hbm, ⟨35, _⟩ => ⟨S384x1024, .f32⟩
  | .hbm, ⟨36, _⟩ => ⟨S1024x384, .f32⟩
  | .hbm, ⟨37, _⟩ => ⟨S1x1024x384, .f32⟩
  | .hbm, ⟨38, _⟩ => ⟨S1x1024x384, .f32⟩
  | .hbm, ⟨39, _⟩ => ⟨S2x1024x384, .f32⟩
  | .hbm, ⟨40, _⟩ => ⟨S_, .f32⟩
  | .hbm, ⟨41, _⟩ => ⟨S2x1024x384, .f32⟩
  | .hbm, ⟨42, _⟩ => ⟨S2x1024x384, .f32⟩
  | .hbm, ⟨43, _⟩ => ⟨S_, .f32⟩
  | .hbm, ⟨44, _⟩ => ⟨S2x1024x384, .f32⟩
  | .hbm, ⟨45, _⟩ => ⟨S2x1024x384, .f32⟩
  | .hbm, ⟨46, _⟩ => ⟨S2x1024x384, .f32⟩
  | .hbm, ⟨47, _⟩ => ⟨S_, .f32⟩
  | .hbm, ⟨48, _⟩ => ⟨S2x1024x384, .f32⟩
  | .hbm, ⟨49, _⟩ => ⟨S2x1024x384, .f32⟩
  | .hbm, ⟨50, _⟩ => ⟨S2x1024x384, .f32⟩
  | .hbm, ⟨51, _⟩ => ⟨S_, .f32⟩
  | .hbm, ⟨52, _⟩ => ⟨S2x1024x384, .f32⟩
  | .hbm, ⟨53, _⟩ => ⟨S2x1024x384, .f32⟩
  | .hbm, ⟨54, _⟩ => ⟨S2x1024x384, .f32⟩
  | .hbm, ⟨55, _⟩ => ⟨S_, .f32⟩
  | .hbm, ⟨56, _⟩ => ⟨S2x1024x384, .f32⟩
  | .hbm, ⟨57, _⟩ => ⟨S2x1024x384, .f32⟩
  | .hbm, ⟨58, _⟩ => ⟨S_, .f32⟩
  | .hbm, ⟨59, _⟩ => ⟨S2x1024x384, .f32⟩
  | .hbm, ⟨60, _⟩ => ⟨S2x1024x384, .f32⟩
  | .hbm, ⟨61, _⟩ => ⟨S2x1024x384, .f32⟩
  | .hbm, ⟨62, _⟩ => ⟨S_, .f32⟩
  | .hbm, ⟨63, _⟩ => ⟨S2x1024x384, .f32⟩
  | .hbm, ⟨64, _⟩ => ⟨S2x1024x384, .f32⟩
  | .hbm, ⟨65, _⟩ => ⟨S2x1024x384, .f32⟩
  | .hbm, ⟨66, _⟩ => ⟨S_, .f32⟩
  | .hbm, ⟨67, _⟩ => ⟨S2x1024x384, .f32⟩
  | .hbm, ⟨68, _⟩ => ⟨S2x1024x384, .f32⟩
  | .hbm, ⟨69, _⟩ => ⟨S2x1024x384, .f32⟩
  | .hbm, ⟨70, _⟩ => ⟨S_, .f32⟩
  | .hbm, ⟨71, _⟩ => ⟨S2x1024x384, .f32⟩
  | .hbm, ⟨72, _⟩ => ⟨S2x1024x384, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_cst_8 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_9 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_10 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_11 : Ref sig .tc := ⟨.hbm, 70, rfl⟩
abbrev main_v53 : Ref sig .tc := ⟨.hbm, 71, rfl⟩
abbrev main_v54 : Ref sig .tc := ⟨.hbm, 72, rfl⟩

abbrev nD : Nat := 1
abbrev τ : Topo := Topo.v7x

variable {F : FTy → Type} [FloatOps F]
-- ==== Kernel8.lean ====
abbrev S128x1024 : Shape := ⟨2, ![128, 1024]⟩
abbrev S8x128x1024 : Shape := ⟨3, ![8, 128, 1024]⟩
abbrev S64x1024 : Shape := ⟨2, ![64, 1024]⟩
abbrev S8x64x1024 : Shape := ⟨3, ![8, 64, 1024]⟩
abbrev S1x64x1024 : Shape := ⟨3, ![1, 64, 1024]⟩

abbrev nBuf : Space → Nat
  | .hbm => 8
  | .vmem => 16
  | .smem => 0
  | _ => 0

abbrev bufTy : (tb : Table) → Fin (tcTables nBuf tb) → BufTy
  | .hbm, ⟨0, _⟩ => ⟨S128x1024, .f32⟩
  | .hbm, ⟨1, _⟩ => ⟨S8x128x1024, .bf16⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S64x1024, .f32⟩
  | .local _ .vmem, ⟨1, _⟩ => ⟨S64x1024, .f32⟩
  | .local _ .vmem, ⟨2, _⟩ => ⟨S8x64x1024, .bf16⟩
  | .local _ .vmem, ⟨3, _⟩ => ⟨S8x64x1024, .bf16⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference8Ideal.lean ====
abbrev S128x1024 : Shape := ⟨2, ![128, 1024]⟩
abbrev S8x128x1024 : Shape := ⟨3, ![8, 128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S8x128x1024, .bf16⟩
  | .hbm, ⟨2, _⟩ => ⟨S128x1024, .f32⟩
  | .hbm, ⟨3, _⟩ => ⟨S128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel9.lean ====
abbrev S1x16384x1024 : Shape := ⟨3, ![1, 16384, 1024]⟩
abbrev S1024 : Shape := ⟨1, ![1024]⟩
abbrev S1x1024 : Shape := ⟨2, ![1, 1024]⟩
abbrev S1x16384x3072 : Shape := ⟨3, ![1, 16384, 3072]⟩
abbrev S_ : Shape := ⟨0, ![]⟩
abbrev S1x16384 : Shape := ⟨2, ![1, 16384]⟩
abbrev S1x16384x1 : Shape := ⟨3, ![1, 16384, 1]⟩
abbrev S1x1x1024 : Shape := ⟨3, ![1, 1, 1024]⟩
abbrev S16384x1024 : Shape := ⟨2, ![16384, 1024]⟩
abbrev S16384x3072 : Shape := ⟨2, ![16384, 3072]⟩
abbrev S1024x3072 : Shape := ⟨2, ![1024, 3072]⟩
abbrev S4096x1024 : Shape := ⟨2, ![4096, 1024]⟩
abbrev S1024x1024 : Shape := ⟨2, ![1024, 1024]⟩

abbrev nBuf : Space → Nat
  | .hbm => 35
  | .vmem => 7
  | .smem => 0
  | _ => 0

abbrev bufTy : (tb : Table) → Fin (tcTables nBuf tb) → BufTy
  | .hbm, ⟨0, _⟩ => ⟨S1x16384x1024, .f32⟩
  | .hbm, ⟨1, _⟩ => ⟨S1024, .f32⟩
  | .hbm, ⟨2, _⟩ => ⟨S1x1024, .f32⟩
  | .hbm, ⟨3, _⟩ => ⟨S1x1024, .f32⟩
  | .hbm, ⟨4, _⟩ => ⟨S1x16384x3072, .f32⟩
  | .hbm, ⟨5, _⟩ => ⟨S1x16384x1024, .f32⟩
  | .hbm, ⟨6, _⟩ => ⟨S_, .f32⟩
  | .hbm, ⟨7, _⟩ => ⟨S1x16384, .f32⟩
  | .hbm, ⟨8, _⟩ => ⟨S1x16384x1, .f32⟩
  | .hbm, ⟨9, _⟩ => ⟨S_, .f32⟩
  | .hbm, ⟨10, _⟩ => ⟨S1x16384x1, .f32⟩
  | .hbm, ⟨11, _⟩ => ⟨S1x16384x1, .f32⟩
  | .hbm, ⟨12, _⟩ => ⟨S_, .f32⟩
  | .hbm, ⟨13, _⟩ => ⟨S1x16384x1, .f32⟩
  | .hbm, ⟨14, _⟩ => ⟨S1x16384x1, .f32⟩
  | .hbm, ⟨15, _⟩ => ⟨S1x16384x1, .f32⟩
  | .hbm, ⟨16, _⟩ => ⟨S1x16384x1024, .f32⟩
  | .hbm, ⟨17, _⟩ => ⟨S1x16384x1024, .f32⟩
  | .hbm, ⟨18, _⟩ => ⟨S1x1x1024, .f32⟩
  | .hbm, ⟨19, _⟩ => ⟨S1x16384x1024, .f32⟩
  | .hbm, ⟨20, _⟩ => ⟨S1x16384x1024, .f32⟩
  | .hbm, ⟨21, _⟩ => ⟨S1x1x1024, .f32⟩
  | .hbm, ⟨22, _⟩ => ⟨S_, .f32⟩
  | .hbm, ⟨23, _⟩ => ⟨S1x1x1024, .f32⟩
  | .hbm, ⟨24, _⟩ => ⟨S1x1x1024, .f32⟩
  | .hbm, ⟨25, _⟩ => ⟨S1x16384x1024, .f32⟩
  | .hbm, ⟨26, _⟩ => ⟨S1x16384x1024, .f32⟩
  | .hbm, ⟨27, _⟩ => ⟨S1x1x1024, .f32⟩
  | .hbm, ⟨28, _⟩ => ⟨S1x16384x1024, .f32⟩
  | .hbm, ⟨29, _⟩ => ⟨S1x16384x1024, .f32⟩
  | .hbm, ⟨30, _⟩ => ⟨S16384x1024, .f32⟩
  | .hbm, ⟨31, _⟩ => ⟨S16384x1024, .bf16⟩
  | .hbm, ⟨32, _⟩ => ⟨S16384x3072, .f32⟩
  | .hbm, ⟨33, _⟩ => ⟨S16384x3072, .bf16⟩
  | .hbm, ⟨34, _⟩ => ⟨S1024x3072, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference9Ideal.lean ====
abbrev S1x16384x1024 : Shape := ⟨3, ![1, 16384, 1024]⟩
abbrev S1024 : Shape := ⟨1, ![1024]⟩
abbrev S1x1024 : Shape := ⟨2, ![1, 1024]⟩
abbrev S1x16384x3072 : Shape := ⟨3, ![1, 16384, 3072]⟩
abbrev S_ : Shape := ⟨0, ![]⟩
abbrev S1x16384 : Shape := ⟨2, ![1, 16384]⟩
abbrev S1x16384x1 : Shape := ⟨3, ![1, 16384, 1]⟩
abbrev S1x1x1024 : Shape := ⟨3, ![1, 1, 1024]⟩
abbrev S1024x3072 : Shape := ⟨2, ![1024, 3072]⟩
abbrev S3072x1024 : Shape := ⟨2, ![3072, 1024]⟩

abbrev nBuf : Space → Nat
  | .hbm => 36
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1024, .f32⟩
  | .hbm, ⟨2, _⟩ => ⟨S1x1024, .f32⟩
  | .hbm, ⟨3, _⟩ => ⟨S1x1024, .f32⟩
  | .hbm, ⟨4, _⟩ => ⟨S1x16384x3072, .f32⟩
  | .hbm, ⟨5, _⟩ => ⟨S1x16384x1024, .f32⟩
  | .hbm, ⟨6, _⟩ => ⟨S_, .f32⟩
  | .hbm, ⟨7, _⟩ => ⟨S1x16384, .f32⟩
  | .hbm, ⟨8, _⟩ => ⟨S1x16384x1, .f32⟩
  | .hbm, ⟨9, _⟩ => ⟨S_, .f32⟩
  | .hbm, ⟨10, _⟩ => ⟨S1x16384x1, .f32⟩
  | .hbm, ⟨11, _⟩ => ⟨S1x16384x1, .f32⟩
  | .hbm, ⟨12, _⟩ => ⟨S_, .f32⟩
  | .hbm, ⟨13, _⟩ => ⟨S1x16384x1, .f32⟩
  | .hbm, ⟨14, _⟩ => ⟨S1x16384x1, .f32⟩
  | .hbm, ⟨15, _⟩ => ⟨S1x16384x1, .f32⟩
  | .hbm, ⟨16, _⟩ => ⟨S1x16384x1024, .f32⟩
  | .hbm, ⟨17, _⟩ => ⟨S1x16384x1024, .f32⟩
  | .hbm, ⟨18, _⟩ => ⟨S1x1x1024, .f32⟩
  | .hbm, ⟨19, _⟩ => ⟨S1x16384x1024, .f32⟩
  | .hbm, ⟨20, _⟩ => ⟨S1x16384x1024, .f32⟩
  | .hbm, ⟨21, _⟩ => ⟨S1x1x1024, .f32⟩
  | .hbm, ⟨22, _⟩ => ⟨S_, .f32⟩
  | .hbm, ⟨23, _⟩ => ⟨S1x1x1024, .f32⟩
  | .hbm, ⟨24, _⟩ => ⟨S1x1x1024, .f32⟩
  | .hbm, ⟨25, _⟩ => ⟨S1x16384x1024, .f32⟩
  | .hbm, ⟨26, _⟩ => ⟨S1x16384x1024, .f32⟩
  | .hbm, ⟨27, _⟩ => ⟨S1x1x1024, .f32⟩
  | .hbm, ⟨28, _⟩ => ⟨S1x16384x1024, .f32⟩
  | .hbm, ⟨29, _⟩ => ⟨S1x16384x1024, .f32⟩
  | .hbm, ⟨30, _⟩ => ⟨S_, .f32⟩
  | .hbm, ⟨31, _⟩ => ⟨S1024x3072, .f32⟩
  | .hbm, ⟨32, _⟩ => ⟨S1x16384x3072, .f32⟩
  | .hbm, ⟨33, _⟩ => ⟨S3072x1024, .f32⟩
  | .hbm, ⟨34, _⟩ => ⟨S1024x3072, .f32⟩
  | .hbm, ⟨35, _⟩ => ⟨S1024x3072, .bf16⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Proof.NormBwd.Payloads.lean ====
module

public import proofs.«01_k».proof.Proof.Gen.KernelIdeal.Frame
public import Idealize.ShloMosaic.Lib.Pipeline.Value
public import Idealize.ShloMosaic.Lib.Pointwise
public import Idealize.ShloMosaic.Lib.Tactic

/-! # The body's stored values, read at an index

Each value that the body of the norm-backward kernel stores, as sums and products of the block's entries. -/

@[expose] public section

set_option maxRecDepth 16384

noncomputable section

open Idealize.ShloMosaic Idealize.ShloMosaic.TcCoe Idealize.SL.Sem
open Idealize.ShloMosaic.Pipeline (Dat)

namespace Cert.KernelIdeal.NormBwd

open Cert.KernelIdeal Cert.KernelIdeal.Gen

theorem pay6_apply (x1 : Vec Ideal S512x3072 .bf16) (x4 : Vec Ideal S1024x3072 .bf16) (r : Fin 512) (j : Fin 1024) :
    k0_pay6 (F := Ideal) x1 x4 (ix2 r j) = ∑ k : Fin 3072, x1 (ix2 r k) * x4 (ix2 j k) := by
  pointwise [k0_pay6]

/-- The reciprocal root of a row: one over the root of the row's mean square plus epsilon. -/
theorem pay8_apply (x0 : Vec Ideal S512x1024 .f32) (r : Fin 512) :
    k0_pay8 (F := Ideal) x0 (ix2 r 0) =
      Ideal.rsqrt (Ideal.div (∑ x : Fin 1024, x0 (ix2 r x) * x0 (ix2 r x)) (Ideal.ofBits FTy.f32 1149239296#32)
        + Ideal.ofBits FTy.f32 897988541#32) := by
  pointwise [k0_pay8, k0_pay7]

theorem pay9_apply (x0 : Vec Ideal S512x1024 .f32) (r : Fin 512) (j : Fin 1024) :
    k0_pay9 (F := Ideal) x0 (ix2 r j) = x0 (ix2 r j) * k0_pay8 (F := Ideal) x0 (ix2 r 0) := by
  pointwise [k0_pay9, k0_pay7]

theorem pay2_apply (v7 : FVec Ideal S512x1024 .f32) (v17 : FVec Ideal S512x1 .f32) (v19 : FVec Ideal S512x1024 .f32) (v287 : Vec Ideal S1x1024 .f32) (v291 : Vec Ideal S512x1024 .f32) (r : Fin 512) (j : Fin 1024) :
    k0_pay2 (F := Ideal) v7 v17 v19 v287 v291 (ix2 r j) =
      v291 (ix2 r j) + v17 (ix2 r 0) * (v7 (ix2 r j) * v287 (ix2 0 j)
        - v19 (ix2 r j) * Ideal.div (∑ x : Fin 1024, v7 (ix2 r x) * v287 (ix2 0 x) * v19 (ix2 r x))
            (Ideal.ofBits FTy.f32 1149239296#32)) := by
  pointwise [k0_pay2]

theorem pay3_apply (v : Vec Ideal S1x8x1024 .f32) (j : Fin 1024) :
    k0_pay3 (F := Ideal) v (ix2 0 j) = ∑ s : Fin 8, v (ix3 0 s j) := by
  pointwise [k0_pay3]

theorem pay4_apply (v : Vec Ideal S1x8x1024 .f32) (j : Fin 1024) :
    k0_pay4 (F := Ideal) v (ix2 0 j) = ∑ s : Fin 8, v (ix3 0 s j) := by
  pointwise [k0_pay4]

/-- Row `n + s` of a block at column `j`, zero past the block's end. -/
def at8 (v : FVec Ideal S512x1024 .f32) (s : Fin 8) (j : Fin 1024) (n : ℕ) : EReal :=
  if h : n + s.val < 512 then v (ix2 ⟨n + s.val, h⟩ j) else 0

theorem at8_eq (v : FVec Ideal S512x1024 .f32) (s : Fin 8) (j : Fin 1024) (n : ℕ) (h : n + s.val < 512) :
    v (ix2 ⟨n + s.val, h⟩ j) = at8 v s j n := by
  unfold at8; rw [dif_pos h]

theorem at8_zero (v : FVec Ideal S512x1024 .f32) (s : Fin 8) (j : Fin 1024) (h : s.val < 512) :
    v (ix2 ⟨s.val, h⟩ j) = at8 v s j 0 := by
  rw [← at8_eq v s j 0 (by omega)]; simp

/-- The sum over the 64 groups of eight rows, as a sum over a range. -/
theorem sum_groups (v : FVec Ideal S512x1024 .f32) (s : Fin 8) (j : Fin 1024) :
    (∑ q : Fin 64, v (ix2 ⟨8 * q.val + s.val, by omega⟩ j)) = ∑ q ∈ Finset.range 64, at8 v s j (8 * q) := by
  rw [Finset.sum_range]
  exact Finset.sum_congr rfl fun q _ => at8_eq v s j (8 * q.val) (by omega)

/-- Row 0 of the accumulator's new contents: the old row plus the rows of `dh` that fall on sublane `s`. -/
theorem chain0 (x1 : Vec Ideal S512x3072 .bf16) (x4 : Vec Ideal S1024x3072 .bf16) (acc : FVec Ideal S8x1024 .f32) (s : Fin 8) (j : Fin 1024) :
    k0_pay13 (F := Ideal) (k0_pay6 x1 x4) acc (k0_pay12 (k0_pay6 x1 x4) (k0_pay11 x1 x4)) (ix3 0 s j)
      = acc (ix2 s j) + ∑ q : Fin 64, (k0_pay6 x1 x4) (ix2 ⟨8 * q.val + s.val, by omega⟩ j) := by
  unfold k0_pay11
  generalize k0_pay6 (F := Ideal) x1 x4 = v
  pointwise [k0_pay13, k0_pay12]
  rw [sum_groups]
  simp only [at8_eq, at8_zero, Finset.sum_range_succ, Finset.sum_range_zero, zero_add, Nat.reduceMul]

/-- Row 1 likewise, of the products of `dh` with the normalised rows. -/
theorem chain1 (v : FVec Ideal S512x1024 .f32) (acc : FVec Ideal S8x1024 .f32) (s : Fin 8) (j : Fin 1024) :
    k0_pay1 (F := Ideal) acc v (k0_pay18 v (k0_pay16 v) (k0_pay17 v)) (k0_pay19 v) (ix3 0 s j)
      = acc (ix2 s j) + ∑ q : Fin 64, v (ix2 ⟨8 * q.val + s.val, by omega⟩ j) := by
  pointwise [k0_pay1, k0_pay18, k0_pay16, k0_pay17, k0_pay19]
  rw [sum_groups]
  simp only [at8_eq, at8_zero, Finset.sum_range_succ, Finset.sum_range_zero, zero_add, Nat.reduceMul]

end Cert.KernelIdeal.NormBwd
-- ==== Proof.NormBwd.Run.lean ====
module

public import proofs.«01_k».proof.Proof.NormBwd.Payloads
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.NormBwd

open Cert.KernelIdeal Cert.KernelIdeal.Gen

/-! ## The accumulator's two rows: what a store to one row leaves in each -/

/-- Row 0 of the accumulator. -/
abbrev R0 : Rect S2x8x1024 := Rect.unit (s := S2x8x1024) ![0, 0, 0] S1x8x1024.size inb_S2x8x1024_S1x8x1024_0_0_0
/-- Row 1 of the accumulator. -/
abbrev R1 : Rect S2x8x1024 := Rect.unit (s := S2x8x1024) ![1, 0, 0] S1x8x1024.size inb_S2x8x1024_S1x8x1024_1_0_0

theorem emb_R0 (s : Fin 8) (j : Fin 1024) : R0.emb (ix3 0 s j) = (ix3 0 s j : S2x8x1024.Idx) := by
  funext a; apply Fin.ext
  rw [Rect.emb_apply]
  fin_cases a <;> simp [Rect.unit, ix3]

theorem emb_R1 (s : Fin 8) (j : Fin 1024) : R1.emb (ix3 0 s j) = (ix3 1 s j : S2x8x1024.Idx) := by
  funext a; apply Fin.ext
  rw [Rect.emb_apply]
  fin_cases a <;> simp [Rect.unit, ix3]

theorem not_mem_R1 (s : Fin 8) (j : Fin 1024) : (ix3 0 s j : S2x8x1024.Idx) ∉ R1.set := by
  rw [Rect.mem_set_unit]
  intro h
  have := (h 0).1
  simp [ix3] at this

theorem not_mem_R0 (s : Fin 8) (j : Fin 1024) : (ix3 1 s j : S2x8x1024.Idx) ∉ R0.set := by
  rw [Rect.mem_set_unit]
  intro h
  have := (h 0).2
  simp [ix3] at this

variable (p : Vec Ideal S1x8x1024 .f32) (L : List (View.Piece (Elt Ideal) S2x8x1024 .f32)) (s : Fin 8) (j : Fin 1024)

theorem canon_R1_1 : View.canon ((⟨R1, p⟩ : View.Piece (Elt Ideal) S2x8x1024 .f32) :: L) (ix3 1 s j) = p (ix3 0 s j) := by
  rw [← emb_R1]; exact View.canon_cons_emb R1 p L _

theorem canon_R1_0 : View.canon ((⟨R1, p⟩ : View.Piece (Elt Ideal) S2x8x1024 .f32) :: L) (ix3 0 s j) = View.canon L (ix3 0 s j) :=
  View.canon_cons_of_not_mem _ L (not_mem_R1 s j)

theorem canon_R0_0 : View.canon ((⟨R0, p⟩ : View.Piece (Elt Ideal) S2x8x1024 .f32) :: L) (ix3 0 s j) = p (ix3 0 s j) := by
  rw [← emb_R0]; exact View.canon_cons_emb R0 p L _

theorem canon_R0_1 : View.canon ((⟨R0, p⟩ : View.Piece (Elt Ideal) S2x8x1024 .f32) :: L) (ix3 1 s j) = View.canon L (ix3 1 s j) :=
  View.canon_cons_of_not_mem _ L (not_mem_R0 s j)

theorem load_R0 (v : View sig .tc .vmem S2x8x1024 .f32) : v.readCov L R0.toLoadRect (ix3 0 s j) = View.canon L (ix3 0 s j) := by
  rw [View.readCov_eq_canon']
  exact congrArg _ (emb_R0 s j)

theorem load_R1 (v : View sig .tc .vmem S2x8x1024 .f32) : v.readCov L R1.toLoadRect (ix3 0 s j) = View.canon L (ix3 1 s j) := by
  rw [View.readCov_eq_canon']
  exact congrArg _ (emb_R1 s j)

theorem ld_R0 (X : Vec Ideal S2x8x1024 .f32) : View.ld (Val := Elt Ideal) (e' := .f32) X R0 (ix3 0 s j) = X (ix3 0 s j) :=
  congrArg X (emb_R0 s j)

theorem ld_R1 (X : Vec Ideal S2x8x1024 .f32) : View.ld (Val := Elt Ideal) (e' := .f32) X R1 (ix3 0 s j) = X (ix3 1 s j) :=
  congrArg X (emb_R1 s j)

theorem pay10_apply (v : Vec Ideal S1x8x1024 .f32) : k0_pay10 (F := Ideal) v (ix2 s j) = v (ix3 0 s j) := by
  pointwise [k0_pay10]

theorem pay14_apply (v : Vec Ideal S1x8x1024 .f32) : k0_pay14 (F := Ideal) v (ix2 s j) = v (ix3 0 s j) := by
  pointwise [k0_pay14]

theorem pay5_apply (i : S2x8x1024.Idx) : k0_pay5 (F := Ideal) i = 0 := by
  pointwise [k0_pay5]

theorem canon_zero (r : Fin 2) : View.canon [(⟨Rect.unit (s := S2x8x1024) ![0, 0, 0] S2x8x1024.size inb_S2x8x1024_S2x8x1024_0_0_0,
    k0_pay5 (F := Ideal)⟩ : View.Piece (Elt Ideal) S2x8x1024 .f32)] (ix3 r s j) = 0 := by
  rw [View.canon_cons_unit_lit' (S := S2x8x1024) _ _ _ (by decide), pay5_apply]

variable (m : (ℓ : Loc nD τ sig) → Buf (Elt Ideal) ℓ)

/-- What point `t` adds to row 0 of the accumulator. -/
def term0 (c : Dev nD) (t : Fin cfg0.N) (s : Fin 8) (j : Fin 1024) : EReal :=
  ∑ q : Fin 64, k0_pay6 (F := Ideal) (iblk m c 1 t) (iblk m c 4 t) (ix2 ⟨8 * q.val + s.val, by omega⟩ j)

/-- What point `t` adds to row 1. -/
def term1 (c : Dev nD) (t : Fin cfg0.N) (s : Fin 8) (j : Fin 1024) : EReal :=
  ∑ q : Fin 64, k0_pay15 (F := Ideal) (k0_pay6 (F := Ideal) (iblk m c 1 t) (iblk m c 4 t)) (k0_pay9 (F := Ideal) (iblk m c 0 t))
    (ix2 ⟨8 * q.val + s.val, by omega⟩ j)

theorem acc0_first (c : Dev nD) (t : Fin cfg0.N) (h : t.val % 32 = 0) :
    (outsAt0 m c t.val t.isLt).2.2.2 (ix3 0 s j) = 0 + term0 m c t s j := by
  rw [outsAt0_A m c t h (by omega)]
  frame_out
  rw [canon_R1_0, canon_R0_0, chain0, pay10_apply, load_R0, canon_zero]
  rfl

theorem acc1_first (c : Dev nD) (t : Fin cfg0.N) (h : t.val % 32 = 0) :
    (outsAt0 m c t.val t.isLt).2.2.2 (ix3 1 s j) = 0 + term1 m c t s j := by
  rw [outsAt0_A m c t h (by omega)]
  frame_out
  rw [canon_R1_1, chain1, pay14_apply, load_R1, canon_R0_1, canon_zero]
  rfl

theorem acc0_step (c : Dev nD) (t : Fin cfg0.N) (h : ¬ t.val % 32 = 0) :
    (outsAt0 m c t.val t.isLt).2.2.2 (ix3 0 s j)
      = (outsAt0 m c (t.val - 1) (Nat.lt_of_le_of_lt (Nat.sub_le _ _) t.isLt)).2.2.2 (ix3 0 s j) + term0 m c t s j := by
  by_cases h1 : t.val % 32 = 31
  · rw [outsAt0_C m c t h h1]
    frame_out
    rw [canon_R1_0, canon_R0_0, chain0, pay10_apply, (Memref.isWhole_whole _).read_unread, ld_R0]
    rfl
  · rw [outsAt0_B m c t h h1]
    frame_out
    rw [canon_R1_0, canon_R0_0, chain0, pay10_apply, (Memref.isWhole_whole _).read_unread, ld_R0]
    rfl

theorem acc1_step (c : Dev nD) (t : Fin cfg0.N) (h : ¬ t.val % 32 = 0) :
    (outsAt0 m c t.val t.isLt).2.2.2 (ix3 1 s j)
      = (outsAt0 m c (t.val - 1) (Nat.lt_of_le_of_lt (Nat.sub_le _ _) t.isLt)).2.2.2 (ix3 1 s j) + term1 m c t s j := by
  by_cases h1 : t.val % 32 = 31
  · rw [outsAt0_C m c t h h1]
    frame_out
    rw [canon_R1_1, chain1, pay14_apply, (Memref.isWhole_whole _).read_unread, ld_R1]
    rfl
  · rw [outsAt0_B m c t h h1]
    frame_out
    rw [canon_R1_1, chain1, pay14_apply, (Memref.isWhole_whole _).read_unread, ld_R1]
    rfl

/-- The last point leaves in the shift's block the column sums of row 0 of the accumulator, -/
theorem out6_last (c : Dev nD) (t : Fin cfg0.N) (h : t.val % 32 = 31) :
    (outsAt0 m c t.val t.isLt).2.1 (ix2 0 j) = ∑ s : Fin 8, (outsAt0 m c t.val t.isLt).2.2.2 (ix3 0 s j) := by
  rw [outsAt0_C m c t (by omega) h]
  frame_out
  rw [pay3_apply]
  refine Finset.sum_congr rfl fun s _ => ?_
  rw [load_R0]

/-- and in the gain's block those of row 1. -/
theorem out7_last (c : Dev nD) (t : Fin cfg0.N) (h : t.val % 32 = 31) :
    (outsAt0 m c t.val t.isLt).2.2.1 (ix2 0 j) = ∑ s : Fin 8, (outsAt0 m c t.val t.isLt).2.2.2 (ix3 1 s j) := by
  rw [outsAt0_C m c t (by omega) h]
  frame_out
  rw [pay4_apply]
  refine Finset.sum_congr rfl fun s _ => ?_
  rw [load_R1]

/-- Every point leaves in the token gradient's block the norm's backward formula over its input blocks. -/
theorem out5 (c : Dev nD) (t : Fin cfg0.N) :
    (outsAt0 m c t.val t.isLt).1 = k0_pay2 (F := Ideal) (k0_pay6 (iblk m c 1 t) (iblk m c 4 t)) (k0_pay8 (iblk m c 0 t))
      (k0_pay9 (iblk m c 0 t)) (iblk m c 3 t) (iblk m c 2 t) := by
  by_cases h : t.val % 32 = 0
  · rw [outsAt0_A m c t h (by omega)]; frame_out
  · by_cases h1 : t.val % 32 = 31
    · rw [outsAt0_C m c t h h1]; frame_out
    · rw [outsAt0_B m c t h h1]; frame_out

end Cert.KernelIdeal.NormBwd
-- ==== Proof.NormBwd.Arrays.lean ====
module

public import proofs.«01_k».proof.Proof.NormBwd.Run

@[expose] public section

set_option maxRecDepth 16384

noncomputable section

open Idealize.ShloMosaic Idealize.ShloMosaic.TcCoe Idealize.SL.Sem
open Idealize.ShloMosaic.Pipeline (Dat)

namespace Cert.KernelIdeal.NormBwd

open Cert.KernelIdeal Cert.KernelIdeal.Gen

/-! ## The three result arrays as functions of the arguments -/

/-- The gradient at the projection's input. -/
def dh (x4 : Vec Ideal S1024x3072 .f32) (x5 : Vec Ideal S1x16384x3072 .f32) (n : Fin 16384) (j : Fin 1024) : EReal :=
  ∑ k : Fin 3072, x5 (ix3 0 n k) * x4 (ix2 j k)

/-- The reciprocal root mean square of a token. -/
def rr (x0 : Vec Ideal S1x16384x1024 .f32) (n : Fin 16384) : EReal :=
  Ideal.rsqrt (Ideal.div (∑ a : Fin 1024, x0 (ix3 0 n a) * x0 (ix3 0 n a)) (Ideal.ofBits FTy.f32 1149239296#32)
    + Ideal.ofBits FTy.f32 897988541#32)

/-- The gain times one plus the scale. -/
def gs (x1 : Vec Ideal S1024 .f32) (x3 : Vec Ideal S1x1024 .f32) (j : Fin 1024) : EReal :=
  x1 (ix1 j) * (Ideal.ofBits FTy.f32 1065353216#32 + x3 (ix2 0 j))

/-- The gradient at the tokens. -/
def dx (x0 : Vec Ideal S1x16384x1024 .f32) (x1 : Vec Ideal S1024 .f32) (x3 : Vec Ideal S1x1024 .f32)
    (x4 : Vec Ideal S1024x3072 .f32) (x5 : Vec Ideal S1x16384x3072 .f32) (x6 : Vec Ideal S1x16384x1024 .f32)
    (n : Fin 16384) (j : Fin 1024) : EReal :=
  x6 (ix3 0 n j) + rr x0 n * (dh x4 x5 n j * gs x1 x3 j
    - x0 (ix3 0 n j) * rr x0 n * Ideal.div (∑ a : Fin 1024, dh x4 x5 n a * gs x1 x3 a * (x0 (ix3 0 n a) * rr x0 n))
        (Ideal.ofBits FTy.f32 1149239296#32))

variable (m : (ℓ : Loc nD τ sig) → Buf (Elt Ideal) ℓ)

theorem entry_v4 (c : Dev nD) (n : Fin 16384) (j : Fin 1024) :
    V m c main_v4 (ix2 n j) = m ((c : Thread nD τ).loc main_arg0) (ix3 0 n j) := by
  (unfold V V0; simp only [List.flatten_cons, List.flatten_nil, List.append_nil]; after_results); pointwise

theorem entry_v6 (c : Dev nD) (n : Fin 16384) (j : Fin 3072) :
    V m c main_v6 (ix2 n j) = m ((c : Thread nD τ).loc main_arg5) (ix3 0 n j) := by
  (unfold V V0; simp only [List.flatten_cons, List.flatten_nil, List.append_nil]; after_results); pointwise

theorem entry_v7 (c : Dev nD) (n : Fin 16384) (j : Fin 1024) :
    V m c main_v7 (ix2 n j) = m ((c : Thread nD τ).loc main_arg6) (ix3 0 n j) := by
  (unfold V V0; simp only [List.flatten_cons, List.flatten_nil, List.append_nil]; after_results); pointwise

theorem entry_v8 (c : Dev nD) (n : Fin 1024) (j : Fin 3072) :
    V m c main_v8 (ix2 n j) = m ((c : Thread nD τ).loc main_arg4) (ix2 n j) := by
  (unfold V V0; simp only [List.flatten_cons, List.flatten_nil, List.append_nil]; after_results); pointwise

theorem entry_v3 (c : Dev nD) (j : Fin 1024) :
    V m c main_v3 (ix2 0 j) = gs (m ((c : Thread nD τ).loc main_arg1)) (m ((c : Thread nD τ).loc main_arg3)) j := by
  (unfold V V0; simp only [List.flatten_cons, List.flatten_nil, List.append_nil]; after_results); pointwise [gs]

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val, 0] := (by decide +kernel : ∀ t : Fin grid0.N, _)

/-- Row `r` of tile `t`, as a row of the array. -/
def row (t : Fin cfg0.N) (r : Fin 512) : Fin 16384 :=
  ⟨t.val * 512 + r.val, by have := lt_of_lt_of_eq t.isLt N_0; omega⟩

theorem blk0 (c : Dev nD) (t : Fin cfg0.N) (r : Fin 512) (j : Fin 1024) :
    (iblk m c 0 t : Vec Ideal S512x1024 .f32) (ix2 r j) = m ((c : Thread nD τ).loc main_arg0) (ix3 0 (row t r) j) := by
  rw [← entry_v4 m]
  blk_ext! [iblk, V, idx0 t, row]

theorem blk1 (c : Dev nD) (t : Fin cfg0.N) (r : Fin 512) (j : Fin 3072) :
    (iblk m c 1 t : Vec Ideal S512x3072 .bf16) (ix2 r j) = m ((c : Thread nD τ).loc main_arg5) (ix3 0 (row t r) j) := by
  rw [← entry_v6 m]
  blk_ext! [iblk, V, idx1 t, row]

theorem blk2 (c : Dev nD) (t : Fin cfg0.N) (r : Fin 512) (j : Fin 1024) :
    (iblk m c 2 t : Vec Ideal S512x1024 .f32) (ix2 r j) = m ((c : Thread nD τ).loc main_arg6) (ix3 0 (row t r) j) := by
  rw [← entry_v7 m]
  blk_ext! [iblk, V, idx2 t, row]

theorem blk3 (c : Dev nD) (t : Fin cfg0.N) (j : Fin 1024) :
    (iblk m c 3 t : Vec Ideal S1x1024 .f32) (ix2 0 j) = gs (m ((c : Thread nD τ).loc main_arg1)) (m ((c : Thread nD τ).loc main_arg3)) j := by
  rw [← entry_v3 m]
  blk_ext! [iblk, V, idx3 t]

theorem blk4 (c : Dev nD) (t : Fin cfg0.N) (n : Fin 1024) (j : Fin 3072) :
    (iblk m c 4 t : Vec Ideal S1024x3072 .bf16) (ix2 n j) = m ((c : Thread nD τ).loc main_arg4) (ix2 n j) := by
  rw [← entry_v8 m]
  blk_ext! [iblk, V, idx4 t]

end Cert.KernelIdeal.NormBwd
-- ==== Proof.NormBwd.Final.lean ====
module

public import proofs.«01_k».proof.Proof.NormBwd.Arrays

/-! # The arrays after the last tile

The token gradient covers its array tile by tile; the two column sums are complete at the last tile. -/

@[expose] public section

set_option maxRecDepth 16384

noncomputable section

open Idealize.ShloMosaic Idealize.ShloMosaic.TcCoe Idealize.SL.Sem
open Idealize.ShloMosaic.Pipeline (Dat)

namespace Cert.KernelIdeal.NormBwd

open Cert.KernelIdeal Cert.KernelIdeal.Gen

variable (m : (ℓ : Loc nD τ sig) → Buf (Elt Ideal) ℓ) (ρ : Dev nD → PrngReg)

/-- A sum over tiles, sublanes and groups of eight rows is the sum over all rows. -/
theorem sum_rows (f : Fin 16384 → EReal) :
    (∑ s : Fin 8, ∑ t : Fin cfg0.N, ∑ q : Fin 64, f (row t ⟨8 * q.val + s.val, by omega⟩)) = ∑ n : Fin 16384, f n := by
  have h1 : (∑ n : Fin 16384, f n) = ∑ t : Fin cfg0.N, ∑ r : Fin 512, f (row t r) :=
    (Fin.sum_mul_add_fin (S := cfg0.N) (n := 512) (f := f) (hL := by rw [show cfg0.N = 32 from N_0])).symm
  rw [h1, Finset.sum_comm]
  refine Finset.sum_congr rfl fun t _ => ?_
  rw [Finset.sum_comm]
  have h2 := Fin.sum_mul_add_fin (S := 64) (n := 8) (L := 512) (f := fun r => f (row t r)) (hL := rfl)
  rw [← h2]
  refine Finset.sum_congr rfl fun q _ => Finset.sum_congr rfl fun s _ => ?_
  exact congrArg (fun r => f (row t r)) (Fin.ext (show 8 * q.val + s.val = q.val * 8 + s.val by omega))

/-- The argument arrays. -/
abbrev a0 (c : Dev nD) : Vec Ideal S1x16384x1024 .f32 := m ((c : Thread nD τ).loc main_arg0)
abbrev a1 (c : Dev nD) : Vec Ideal S1024 .f32 := m ((c : Thread nD τ).loc main_arg1)
abbrev a3 (c : Dev nD) : Vec Ideal S1x1024 .f32 := m ((c : Thread nD τ).loc main_arg3)
abbrev a4 (c : Dev nD) : Vec Ideal S1024x3072 .f32 := m ((c : Thread nD τ).loc main_arg4)
abbrev a5 (c : Dev nD) : Vec Ideal S1x16384x3072 .f32 := m ((c : Thread nD τ).loc main_arg5)
abbrev a6 (c : Dev nD) : Vec Ideal S1x16384x1024 .f32 := m ((c : Thread nD τ).loc main_arg6)

theorem dh_blk (c : Dev nD) (t : Fin cfg0.N) (r : Fin 512) (j : Fin 1024) :
    k0_pay6 (F := Ideal) (iblk m c 1 t) (iblk m c 4 t) (ix2 r j) = dh (a4 m c) (a5 m c) (row t r) j := by
  rw [pay6_apply]
  exact Finset.sum_congr rfl fun k _ => by rw [blk1, blk4]

theorem rr_blk (c : Dev nD) (t : Fin cfg0.N) (r : Fin 512) :
    k0_pay8 (F := Ideal) (iblk m c 0 t) (ix2 r 0) = rr (a0 m c) (row t r) := by
  rw [pay8_apply]
  unfold rr
  simp only [blk0]

theorem xn_blk (c : Dev nD) (t : Fin cfg0.N) (r : Fin 512) (j : Fin 1024) :
    k0_pay9 (F := Ideal) (iblk m c 0 t) (ix2 r j) = a0 m c (ix3 0 (row t r) j) * rr (a0 m c) (row t r) := by
  rw [pay9_apply, rr_blk, blk0]

theorem dx_blk (c : Dev nD) (t : Fin cfg0.N) (r : Fin 512) (j : Fin 1024) :
    (outsAt0 m c t.val t.isLt).1 (ix2 r j)
      = dx (a0 m c) (a1 m c) (a3 m c) (a4 m c) (a5 m c) (a6 m c) (row t r) j := by
  rw [out5, pay2_apply]
  simp only [dh_blk, rr_blk, xn_blk, blk2, blk3]
  rfl

/-- The token gradient's array. -/
theorem final5 (c : Dev nD) : (dats m 0 c).arrAt 5 cfg0.N
    = fun i : S16384x1024.Idx => dx (a0 m c) (a1 m c) (a3 m c) (a4 m c) (a5 m c) (a6 m c) (i 0) (i 1) := by
  refine (dats m 0 c).arrAt_eq_of_covers 5 _ (by decide +kernel) fun t hf y => ?_
  blk_simp
  rw [after0_5]
  have hy : y = (ix2 (y 0) (y 1) : S512x1024.Idx) := by idx_ext
  rw [hy]
  refine (dx_blk m c t (y 0) (y 1)).trans ?_
  have e1 : ∀ (n : Fin 16384) (z : Fin 1024), n = row t (y 0) → z = y 1 →
      dx (a0 m c) (a1 m c) (a3 m c) (a4 m c) (a5 m c) (a6 m c) n z
        = dx (a0 m c) (a1 m c) (a3 m c) (a4 m c) (a5 m c) (a6 m c) (row t (y 0)) (y 1) := fun n z h h' => by rw [h, h']
  exact (e1 _ _ (by apply Fin.ext; blk_simp [idx5 t, row]) (by apply Fin.ext; blk_simp [idx5 t])).symm

theorem acc0_last (c : Dev nD) (t : Fin cfg0.N) (ht : t.val + 1 = cfg0.N) (s : Fin 8) (j : Fin 1024) :
    (outsAt0 m c t.val t.isLt).2.2.2 (ix3 0 s j)
      = ∑ t : Fin cfg0.N, ∑ q : Fin 64, dh (a4 m c) (a5 m c) (row t ⟨8 * q.val + s.val, by omega⟩) j := by
  rw [Pipeline.eq_sum_fin_of_reset_step_last (fun n h => (outsAt0 m c n h).2.2.2 (ix3 0 s j)) 32 0
    (fun t => term0 m c t s j) (fun t h => acc0_first s j m c t h) (fun t h => acc0_step s j m c t h) (le_of_eq N_0) t ht, zero_add]
  refine Finset.sum_congr rfl fun t _ => Finset.sum_congr rfl fun q _ => ?_
  exact dh_blk m c t _ j

theorem acc1_last (c : Dev nD) (t : Fin cfg0.N) (ht : t.val + 1 = cfg0.N) (s : Fin 8) (j : Fin 1024) :
    (outsAt0 m c t.val t.isLt).2.2.2 (ix3 1 s j)
      = ∑ t : Fin cfg0.N, ∑ q : Fin 64, (fun n => dh (a4 m c) (a5 m c) n j * (a0 m c (ix3 0 n j) * rr (a0 m c) n))
          (row t ⟨8 * q.val + s.val, by omega⟩) := by
  rw [Pipeline.eq_sum_fin_of_reset_step_last (fun n h => (outsAt0 m c n h).2.2.2 (ix3 1 s j)) 32 0
    (fun t => term1 m c t s j) (fun t h => acc1_first s j m c t h) (fun t h => acc1_step s j m c t h) (le_of_eq N_0) t ht, zero_add]
  refine Finset.sum_congr rfl fun t _ => Finset.sum_congr rfl fun q _ => ?_
  show k0_pay6 (F := Ideal) (iblk m c 1 t) (iblk m c 4 t) _ * k0_pay9 (F := Ideal) (iblk m c 0 t) _ = _
  rw [dh_blk, xn_blk]

theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)

/-- The shift's gradient: the column sums of `dh` over all tokens. -/
def dshift (c : Dev nD) (j : Fin 1024) : EReal := ∑ n : Fin 16384, dh (a4 m c) (a5 m c) n j

/-- The gradient at the combined gain: the column sums of `dh` times the normalised tokens. -/
def dgs (c : Dev nD) (j : Fin 1024) : EReal :=
  ∑ n : Fin 16384, dh (a4 m c) (a5 m c) n j * (a0 m c (ix3 0 n j) * rr (a0 m c) n)

theorem final6 (c : Dev nD) : (dats m 0 c).arrAt 6 cfg0.N = fun i : S1x1024.Idx => dshift m c (i 1) := by
  refine (dats m 0 c).arrAt_eq_of_covers 6 _ (by decide +kernel) fun t hf y => ?_
  have h31 := (flush0_6 t).mp hf
  have hN : cfg0.N = 32 := N_0
  have hlt := t.isLt
  blk_simp
  rw [after0_6]
  have hy : y = (ix2 0 (y 1) : S1x1024.Idx) := by idx_ext
  rw [hy]
  refine (out6_last (y 1) m c t h31).trans ?_
  have e1 : ∀ z : Fin 1024, z = y 1 → dshift m c z = dshift m c (y 1) := fun z h => by rw [h]
  refine Eq.trans ?_ (e1 _ (by apply Fin.ext; blk_simp [idx6 t])).symm
  unfold dshift
  rw [← sum_rows]
  exact Finset.sum_congr rfl fun s _ => acc0_last m c t (by omega) s (y 1)

theorem final7 (c : Dev nD) : (dats m 0 c).arrAt 7 cfg0.N = fun i : S1x1024.Idx => dgs m c (i 1) := by
  refine (dats m 0 c).arrAt_eq_of_covers 7 _ (by decide +kernel) fun t hf y => ?_
  have h31 := (flush0_7 t).mp hf
  have hN : cfg0.N = 32 := N_0
  have hlt := t.isLt
  blk_simp
  rw [after0_7]
  have hy : y = (ix2 0 (y 1) : S1x1024.Idx) := by idx_ext
  rw [hy]
  refine (out7_last (y 1) m c t h31).trans ?_
  have e1 : ∀ z : Fin 1024, z = y 1 → dgs m c z = dgs m c (y 1) := fun z h => by rw [h]
  refine Eq.trans ?_ (e1 _ (by apply Fin.ext; blk_simp [idx7 t])).symm
  unfold dgs
  rw [← sum_rows]
  exact Finset.sum_congr rfl fun s _ => acc1_last m c t (by omega) s (y 1)

end Cert.KernelIdeal.NormBwd
-- ==== Proof.NormBwd.Kernel.lean ====
module

public import proofs.«01_k».proof.Proof.NormBwd.Final

/-! # What the norm-backward program returns

The lines after the call reshape and scale what the call wrote. -/

@[expose] public section

set_option maxRecDepth 16384

noncomputable section

open Idealize.ShloMosaic Idealize.ShloMosaic.TcCoe Idealize.SL.Sem
open Idealize.ShloMosaic.Pipeline (Dat)

namespace Cert.KernelIdeal.NormBwd

open Cert.KernelIdeal Cert.KernelIdeal.Gen

variable (m : (ℓ : Loc nD τ sig) → Buf (Elt Ideal) ℓ) (ρ : Dev nD → PrngReg)

theorem arr5 (c : Dev nD) : Pipeline.withArrays (cfgs 0).spec c (V0 m c) (fun w => (dats m 0 c).arrAt w (cfgs 0).N) (Proc.tc.devRef main_v9_0)
    = fun i : S16384x1024.Idx => dx (a0 m c) (a1 m c) (a3 m c) (a4 m c) (a5 m c) (a6 m c) (i 0) (i 1) :=
  (Pipeline.withArrays_arr (cfgs 0).spec (by decide : Function.Injective (Pipeline.arrRef spec0)) c (V0 m c) _ 5).trans (final5 m c)

theorem arr7 (c : Dev nD) : Pipeline.withArrays (cfgs 0).spec c (V0 m c) (fun w => (dats m 0 c).arrAt w (cfgs 0).N) (Proc.tc.devRef main_v9_2)
    = fun i : S1x1024.Idx => dgs m c (i 1) :=
  (Pipeline.withArrays_arr (cfgs 0).spec (by decide : Function.Injective (Pipeline.arrRef spec0)) c (V0 m c) _ 7).trans (final7 m c)

theorem arg1 (c : Dev nD) : Pipeline.withArrays (cfgs 0).spec c (V0 m c) (fun w => (dats m 0 c).arrAt w (cfgs 0).N) (Proc.tc.devRef main_arg1)
    = a1 m c :=
  (Pipeline.withArrays_of_ne _ c (V0 m c) _ main_arg1 (by exact (by decide : ∀ w, Pipeline.arrRef spec0 w ≠ main_arg1))).trans (V_main_arg1 m c)

theorem arg3 (c : Dev nD) : Pipeline.withArrays (cfgs 0).spec c (V0 m c) (fun w => (dats m 0 c).arrAt w (cfgs 0).N) (Proc.tc.devRef main_arg3)
    = a3 m c :=
  (Pipeline.withArrays_of_ne _ c (V0 m c) _ main_arg3 (by exact (by decide : ∀ w, Pipeline.arrRef spec0 w ≠ main_arg3))).trans (V_main_arg3 m c)

/-- The four results: the gradients at the tokens, at the gain, at the shift and at the scale. -/
def resX (c : Dev nD) : Vec Ideal S1x16384x1024 .f32 :=
  fun i => dx (a0 m c) (a1 m c) (a3 m c) (a4 m c) (a5 m c) (a6 m c) (i 1) (i 2)
def resG (c : Dev nD) : Vec Ideal S1024 .f32 := fun i => dgs m c (i 0) * (1 + a3 m c (ix2 0 (i 0)))
def resShift (c : Dev nD) : Vec Ideal S1x1024 .f32 := fun i => dshift m c (i 1)
def resScale (c : Dev nD) : Vec Ideal S1x1024 .f32 := fun i => dgs m c (i 1) * a1 m c (ix1 (i 1))

theorem tail10 (c : Dev nD) : Pipeline.afterTail₀ cfgs (dats m) 0 (V0 m) [hostOps1] c main_v10 = resX m c := by
  unfold Pipeline.afterTail₀
  simp only [List.flatten_cons, List.flatten_nil, List.append_nil]
  after_results
  funext i
  have hi : i = (ix3 0 (i 1) (i 2) : S1x16384x1024.Idx) := by idx_ext
  rw [hi]
  dsimp only
  rw [arr5]
  pointwise [resX]

theorem tail14 (c : Dev nD) : Pipeline.afterTail₀ cfgs (dats m) 0 (V0 m) [hostOps1] c main_v14 = resG m c := by
  unfold Pipeline.afterTail₀
  simp only [List.flatten_cons, List.flatten_nil, List.append_nil]
  after_results
  funext i
  have hi : i = (ix1 (i 0) : S1024.Idx) := by idx_ext
  rw [hi]
  dsimp only
  rw [arr7, arg3]
  pointwise [resG]

theorem tail16 (c : Dev nD) : Pipeline.afterTail₀ cfgs (dats m) 0 (V0 m) [hostOps1] c main_v16 = resScale m c := by
  unfold Pipeline.afterTail₀
  simp only [List.flatten_cons, List.flatten_nil, List.append_nil]
  after_results
  funext i
  have hi : i = (ix2 0 (i 1) : S1x1024.Idx) := by idx_ext
  rw [hi]
  rw [arr7, arg1]
  pointwise [resScale]

/-- The program runs and returns the four results. -/
theorem run : θ_run defs (onTc (τ := τ) (main (F := Ideal))) ⟨m, fun _ => 0, ρ⟩ (fun r => ∀ c : Dev nD,
    r.2.mem ((c.tc : Thread nD τ).loc main_v10) = resX m c
    ∧ r.2.mem ((c.tc : Thread nD τ).loc main_v14) = resG m c
    ∧ r.2.mem ((c.tc : Thread nD τ).loc main_v9_1) = resShift m c
    ∧ r.2.mem ((c.tc : Thread nD τ).loc main_v16) = resScale m c) :=
  (θ_run defs _ _).mono (fun _ h c => ⟨
    ((h c).2 main_v10 (Pipeline.mem_restRefs_of main_v10 (by decide) (by decide))).trans (tail10 m c),
    ((h c).2 main_v14 (Pipeline.mem_restRefs_of main_v14 (by decide) (by decide))).trans (tail14 m c),
    ((h c).1 6).trans (final6 m c),
    ((h c).2 main_v16 (Pipeline.mem_restRefs_of main_v16 (by decide) (by decide))).trans (tail16 m c)⟩) (run_main (F := Ideal) m ρ)

end Cert.KernelIdeal.NormBwd
-- ==== Proof.Common.Finite.lean ====
module

public import Idealize.ShloMosaic.Lib.Pipeline.ValueKit
public import Idealize.ShloMosaic.Lib.Pointwise

/-! # Finite arrays, and reductions over axes of extent one

What the precondition says of an array at the extended reals: every entry is a real number. And the two sums over axes of extent
one that a derivative of a broadcast is written with. -/

@[expose] public section

noncomputable section

open Idealize.ShloMosaic

namespace Cert.Common

/-- A conjunction of bits that comes out one has only ones in it. -/
theorem foldl_andi_one {α : Type} (f : α → BitVec 1) : ∀ (l : List α) (a : BitVec 1),
    l.foldl (fun r n => IntOp.andi r (f n)) a = 1#1 → a = 1#1 ∧ ∀ n ∈ l, f n = 1#1
  | [], a, h => ⟨h, by simp⟩
  | b :: l, a, h => by
      obtain ⟨h1, h2⟩ := foldl_andi_one f l _ h
      have key : ∀ p q : BitVec 1, IntOp.andi p q = 1#1 → p = 1#1 ∧ q = 1#1 := by decide
      obtain ⟨ha, hb⟩ := key _ _ h1
      exact ⟨ha, by simpa [hb] using h2⟩

/-- So a host reduction by `and` into one scalar that comes out one has only ones in it. -/
theorem reduce_andi_one {s u : Shape} {axes : List (Fin s.rank)} (x : IVec s 1) (v : u.Idx → BitVec 1)
    (h : s.ReducesTo axes ⟨0, ![]⟩) (hu : 0 < u.numel) (j : (⟨0, ![]⟩ : Shape).Idx)
    (e : Host.reduce IntOp.andi x v h hu j = 1#1) (i : s.Idx) : x i = 1#1 := by
  have h1 := (foldl_andi_one (fun n => x (s.rowMajor.symm n)) _ _ e).2 (s.rowMajor i)
    (by simp only [List.mem_filter, List.mem_finRange, true_and, decide_eq_true_eq]; funext b; exact b.elim0)
  simpa using h1

/-- An extended real whose absolute value is below infinity is a real. -/
theorem real_of_abs_lt (x : EReal) (h : Ideal.cmp .olt (FloatOps.absf (F := Ideal) (φ := .f32) x) (Ideal.ofBits .f32 0x7F800000#32) = 1#1) :
    ∃ r : ℝ, x = (r : EReal) := by
  induction x with
  | coe r => exact ⟨r, rfl⟩
  | bot => exact absurd h (by simp [Ideal.cmp, Ideal.ofBits, Ideal.ieee, FloatOps.absf])
  | top => exact absurd h (by simp [Ideal.cmp, Ideal.ofBits, Ideal.ieee, FloatOps.absf])

/-- The reading of one conjunct of the precondition. -/
theorem reals_of_pre {s u : Shape} {axes : List (Fin s.rank)} (x : FVec Ideal s .f32) (v : u.Idx → BitVec 1)
    {dims : Fin (⟨0, ![]⟩ : Shape).rank → Fin s.rank} (hb : (⟨0, ![]⟩ : Shape).BroadcastsInDim s dims)
    (h : s.ReducesTo axes ⟨0, ![]⟩) (hu : 0 < u.numel) (j : (⟨0, ![]⟩ : Shape).Idx)
    (e : Host.reduce IntOp.andi (cmpf .olt (Host.absf x) (broadcastInDim s dims hb (constant ⟨0, ![]⟩ .f32 0x7F800000#32))) v h hu j = 1#1) :
    ∃ X : s.Idx → ℝ, x = fun i => (X i : EReal) := by
  have h1 : ∀ i, ∃ r : ℝ, x i = (r : EReal) := fun i => real_of_abs_lt _ (reduce_andi_one _ v h hu j e i)
  choose X hX using h1
  exact ⟨X, funext hX⟩

/-- A finite sum of reals, taken in the extended reals. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The sum over two leading axes of extent one. -/
theorem reduce_unit01 {n : Nat} (h : (⟨3, ![1, 1, n]⟩ : Shape).ReducesTo [0, 1] ⟨1, ![n]⟩) (v : (⟨3, ![1, 1, n]⟩ : Shape).Idx → EReal)
    (init : EReal) (j : Fin n) : Ideal.hostReduceAdd h v init (ix1 j) = init + v (ix3 0 0 j) := by
  unfold Ideal.hostReduceAdd
  congr 1
  refine (Finset.sum_eq_single (ix3 0 0 j : (⟨3, ![1, 1, n]⟩ : Shape).Idx) (fun i hi hne => absurd ?_ hne) fun hn => absurd ?_ hn)
  · have e := congrFun (Finset.mem_filter.mp hi).2 0
    have e2 : i 2 = j := Fin.ext (congrArg Fin.val e)
    rw [← e2]; funext a; apply Fin.ext
    match a with
    | ⟨0, _⟩ => exact Nat.lt_one_iff.mp (i 0).isLt
    | ⟨1, _⟩ => exact Nat.lt_one_iff.mp (i 1).isLt
    | ⟨2, _⟩ => rfl
  · refine Finset.mem_filter.mpr ⟨Finset.mem_univ _, ?_⟩
    funext b; apply Fin.ext
    match b with
    | ⟨0, _⟩ => rfl

/-- The sum over a first and a last axis of extent one. -/
theorem reduce_unit02 {n : Nat} (h : (⟨3, ![1, n, 1]⟩ : Shape).ReducesTo [0, 2] ⟨1, ![n]⟩) (v : (⟨3, ![1, n, 1]⟩ : Shape).Idx → EReal)
    (init : EReal) (j : Fin n) : Ideal.hostReduceAdd h v init (ix1 j) = init + v (ix3 0 j 0) := by
  unfold Ideal.hostReduceAdd
  congr 1
  refine (Finset.sum_eq_single (ix3 0 j 0 : (⟨3, ![1, n, 1]⟩ : Shape).Idx) (fun i hi hne => absurd ?_ hne) fun hn => absurd ?_ hn)
  · have e := congrFun (Finset.mem_filter.mp hi).2 0
    have e2 : i 1 = j := Fin.ext (congrArg Fin.val e)
    rw [← e2]; funext a; apply Fin.ext
    match a with
    | ⟨0, _⟩ => exact Nat.lt_one_iff.mp (i 0).isLt
    | ⟨1, _⟩ => rfl
    | ⟨2, _⟩ => exact Nat.lt_one_iff.mp (i 2).isLt
  · refine Finset.mem_filter.mpr ⟨Finset.mem_univ _, ?_⟩
    funext b; apply Fin.ext
    match b with
    | ⟨0, _⟩ => rfl

end Cert.Common
-- ==== Proof.NormBwd.Reference.lean ====
module
public import proofs.«01_k».proof.Proof.Gen.ReferenceIdeal.Read
public import proofs.«01_k».proof.Proof.NormBwd.Arrays
public import proofs.«01_k».proof.Proof.Common.Finite

/-! # The reference's gradients, read at an index -/

@[expose] public section
set_option maxRecDepth 16384
noncomputable section
open Idealize.ShloMosaic Idealize.ShloMosaic.TcCoe Idealize.SL.Sem
namespace Cert.ReferenceIdeal.NormBwd
open Cert.ReferenceIdeal Cert.ReferenceIdeal.Gen Cert.ReferenceIdeal.Read Cert.Common
open Cert.KernelIdeal.NormBwd (dh rr gs dx)

variable (x0 : Vec Ideal S1x16384x1024 .f32) (x1 : Vec Ideal S1024 .f32) (x3 : Vec Ideal S1x1024 .f32)
    (x4 : Vec Ideal S1024x3072 .f32) (x5 : Vec Ideal S1x16384x3072 .f32) (x6 : Vec Ideal S1x16384x1024 .f32)

theorem read7 (n : Fin 16384) : val_main_v7 (F := Ideal) x0 (ix3 0 n 0) = rr x0 n := by
  unfold val_main_v7 val_main_v6 val_main_v4 val_main_v2 val_main_v1 val_main_v0 val_main_v3 val_main_v5 val_main_cst val_main_cst_0 val_main_cst_1
  pointwise [rr]
  try rfl
theorem read27 (n : Fin 16384) (j : Fin 1024) : val_main_v27 (F := Ideal) x4 x5 (ix3 0 n j) = dh x4 x5 n j := by
  unfold val_main_v27
  pointwise [dh]
theorem read31 (j : Fin 1024) : val_main_v31 (F := Ideal) x4 x5 (ix2 0 j) = ∑ n : Fin 16384, dh x4 x5 n j := by
  unfold val_main_v31 val_main_v30 val_main_v29 val_main_v28 val_main_cst_5 val_main_cst_4
  pointwise
  rw [reduce_unit01]
  pointwise
  simp only [read27]

/-- The mean square of a token, plus the small constant. -/
def vv (n : Fin 16384) : EReal :=
  Ideal.div (∑ a : Fin 1024, x0 (ix3 0 n a) * x0 (ix3 0 n a)) (Ideal.ofBits FTy.f32 1149239296#32) + Ideal.ofBits FTy.f32 897988541#32

theorem read6 (n : Fin 16384) : val_main_v6 (F := Ideal) x0 (ix3 0 n 0) = vv x0 n := by
  unfold val_main_v6 val_main_v4 val_main_v2 val_main_v1 val_main_v0 val_main_v3 val_main_v5 val_main_cst val_main_cst_0 val_main_cst_1
  pointwise [vv]
theorem read12 (n : Fin 16384) (j : Fin 1024) : val_main_v12 (F := Ideal) x0 (ix3 0 n j) = x0 (ix3 0 n j) * rr x0 n := by
  unfold val_main_v12 val_main_v11
  pointwise [read7]
theorem read36 (n : Fin 16384) (j : Fin 1024) : val_main_v36 (F := Ideal) x3 x4 x5 (ix3 0 n j) = dh x4 x5 n j * (1 + x3 (ix2 0 j)) := by
  unfold val_main_v36 val_main_v35 val_main_v18 val_main_v17 val_main_v16 val_main_cst_3
  pointwise [read27]
theorem read43 (n : Fin 16384) (j : Fin 1024) : val_main_v43 (F := Ideal) x1 x3 x4 x5 (ix3 0 n j) = dh x4 x5 n j * (1 + x3 (ix2 0 j)) * x1 (ix1 j) := by
  unfold val_main_v43 val_main_v42 val_main_v13
  pointwise [read36]
theorem read38 (j : Fin 1024) : val_main_v38 (F := Ideal) x0 x1 x4 x5 (ix2 0 j)
    = ∑ n : Fin 16384, x0 (ix3 0 n j) * rr x0 n * x1 (ix1 j) * dh x4 x5 n j := by
  unfold val_main_v38 val_main_v37 val_main_v34 val_main_v33 val_main_v32 val_main_v15 val_main_v14 val_main_v13 val_main_cst_6 val_main_cst_7
  pointwise
  rw [reduce_unit01]
  pointwise [read12, read27]
theorem read44 (j : Fin 1024) : val_main_v44 (F := Ideal) x0 x3 x4 x5 (ix1 j)
    = ∑ n : Fin 16384, x0 (ix3 0 n j) * rr x0 n * (dh x4 x5 n j * (1 + x3 (ix2 0 j))) := by
  unfold val_main_v44 val_main_v41 val_main_v40 val_main_v39 val_main_cst_8 val_main_cst_9
  pointwise
  rw [reduce_unit01]
  pointwise [read12, read36]

/-- What the derivative of the mean square sends to each entry of a token, before the factor two. -/
def ss (n : Fin 16384) : EReal :=
  Ideal.div ((∑ a : Fin 1024, x0 (ix3 0 n a) * (dh x4 x5 n a * (1 + x3 (ix2 0 a)) * x1 (ix1 a)))
    * (Ideal.ofBits FTy.f32 3204448256#32 * Ideal.div (rr x0 n) (vv x0 n))) (Ideal.ofBits FTy.f32 1149239296#32)

theorem read56 (n : Fin 16384) (j : Fin 1024) : val_main_v56 (F := Ideal) x0 x1 x3 x4 x5 (ix3 0 n j) = ss x0 x1 x3 x4 x5 n := by
  unfold val_main_v56 val_main_v55 val_main_v54 val_main_v53 val_main_v52 val_main_v51 val_main_v47 val_main_v46 val_main_v45 val_main_v10 val_main_v9 val_main_v8
    val_main_cst_12 val_main_cst_11 val_main_cst_10 val_main_cst_2
  pointwise
  rw [reduce_unit02]
  pointwise [read6, read7, read43, ss]
theorem read60 (n : Fin 16384) (j : Fin 1024) : val_main_v60 (F := Ideal) x0 x1 x3 x4 x5 x6 (ix3 0 n j)
    = x6 (ix3 0 n j) + dh x4 x5 n j * (1 + x3 (ix2 0 j)) * x1 (ix1 j) * rr x0 n
      + x0 (ix3 0 n j) * ss x0 x1 x3 x4 x5 n + ss x0 x1 x3 x4 x5 n * x0 (ix3 0 n j) := by
  unfold val_main_v60 val_main_v59 val_main_v58 val_main_v57 val_main_v50 val_main_v49 val_main_v48
  pointwise [read7, read43, read56]

end Cert.ReferenceIdeal.NormBwd
-- ==== Proof.NormBwd.Algebra.lean ====
module
public import proofs.«01_k».proof.Proof.NormBwd.Reference

/-! # The two gradients agree on finite arguments

The kernel writes the gradient of the normalisation with the normalised token and one mean; the derivative of the plain lines sends
the mean square's part back through the square. Over the reals the two are one number, since the square of the reciprocal root is
the reciprocal. -/

@[expose] public section
set_option maxRecDepth 16384
noncomputable section
open Idealize.ShloMosaic Idealize.ShloMosaic.TcCoe Idealize.SL.Sem
namespace Cert.ReferenceIdeal.NormBwd
open Cert.ReferenceIdeal Cert.ReferenceIdeal.Gen Cert.ReferenceIdeal.Read Cert.Common
open Cert.KernelIdeal.NormBwd (dh rr gs dx)

theorem c1024 : Ideal.ofBits FTy.f32 1149239296#32 = ((1024 : ℝ) : EReal) := by
  simp [Ideal.ofBits, Ideal.ieee, -EReal.coe_mul]; norm_num
theorem c1 : Ideal.ofBits FTy.f32 1065353216#32 = ((1 : ℝ) : EReal) := by
  rw [EReal.coe_one]; exact Ideal.ofBits_one_f32
theorem chalf : Ideal.ofBits FTy.f32 3204448256#32 = ((-(1/2) : ℝ) : EReal) := by
  simp [Ideal.ofBits, Ideal.ieee, -EReal.coe_mul, -EReal.coe_neg]; norm_num
theorem ceps : ∃ e : ℝ, 0 < e ∧ Ideal.ofBits FTy.f32 897988541#32 = (e : EReal) :=
  ⟨8796093 * 2 ^ (-43 : ℤ), by positivity, by simp [Ideal.ofBits, Ideal.ieee, -EReal.coe_mul]⟩

variable (X0 : S1x16384x1024.Idx → ℝ) (X1 : S1024.Idx → ℝ) (X3 : S1x1024.Idx → ℝ) (X4 : S1024x3072.Idx → ℝ) (X5 : S1x16384x3072.Idx → ℝ)

theorem dh_coe (n : Fin 16384) (j : Fin 1024) :
    dh (fun i => ((X4 i : ℝ) : EReal)) (fun i => ((X5 i : ℝ) : EReal)) n j = ((∑ k : Fin 3072, X5 (ix3 0 n k) * X4 (ix2 j k) : ℝ) : EReal) := by
  unfold dh
  simp only [← EReal.coe_mul, coe_sum]

/-- The mean square is a positive real, and the reciprocal root is one too, whose square is the reciprocal. -/
theorem vv_coe (n : Fin 16384) : ∃ v : ℝ, 0 < v ∧ vv (fun i => ((X0 i : ℝ) : EReal)) n = (v : EReal) := by
  obtain ⟨e, he, hc⟩ := ceps
  refine ⟨(∑ a : Fin 1024, X0 (ix3 0 n a) * X0 (ix3 0 n a)) * (1 / 1024) + e, ?_, ?_⟩
  · have : 0 ≤ ∑ a : Fin 1024, X0 (ix3 0 n a) * X0 (ix3 0 n a) := Finset.sum_nonneg fun a _ => mul_self_nonneg _
    positivity
  · unfold vv
    rw [c1024, hc, Ideal.div_coe (by norm_num)]
    simp only [← EReal.coe_mul, coe_sum, ← EReal.coe_add]

theorem rr_coe (n : Fin 16384) : ∃ v r : ℝ, 0 < v ∧ r * r = 1 / v ∧ vv (fun i => ((X0 i : ℝ) : EReal)) n = (v : EReal)
    ∧ rr (fun i => ((X0 i : ℝ) : EReal)) n = (r : EReal) := by
  obtain ⟨v, hv, e⟩ := vv_coe X0 n
  refine ⟨v, (Real.sqrt v)⁻¹, hv, ?_, e, ?_⟩
  · rw [← mul_inv, Real.mul_self_sqrt hv.le, one_div]
  · change Ideal.rsqrt (vv (fun i => ((X0 i : ℝ) : EReal)) n) = _
    rw [e, Ideal.rsqrt_coe, if_neg (by linarith), if_neg hv.ne']

theorem dx_eq (x6 : Vec Ideal S1x16384x1024 .f32) (n : Fin 16384) (j : Fin 1024) :
    dx (fun i => ((X0 i : ℝ) : EReal)) (fun i => ((X1 i : ℝ) : EReal)) (fun i => ((X3 i : ℝ) : EReal))
      (fun i => ((X4 i : ℝ) : EReal)) (fun i => ((X5 i : ℝ) : EReal)) x6 n j
    = val_main_v60 (F := Ideal) (fun i => ((X0 i : ℝ) : EReal)) (fun i => ((X1 i : ℝ) : EReal)) (fun i => ((X3 i : ℝ) : EReal))
      (fun i => ((X4 i : ℝ) : EReal)) (fun i => ((X5 i : ℝ) : EReal)) x6 (ix3 0 n j) := by
  rw [read60]
  unfold dx ss gs
  obtain ⟨v, r, hv, hr, ev, er⟩ := rr_coe X0 n
  simp only [ev, er, dh_coe, c1, c1024, chalf, ← EReal.coe_one, ← EReal.coe_add, ← EReal.coe_mul, ← EReal.coe_sub, coe_sum,
    Ideal.div_coe hv.ne', Ideal.div_coe (show (1024 : ℝ) ≠ 0 by norm_num), add_assoc]
  congr 2
  have e1 : ∀ D : Fin 1024 → ℝ, ∑ a : Fin 1024, D a * (X1 (ix1 a) * (1 + X3 (ix2 0 a))) * (X0 (ix3 0 n a) * r)
      = (∑ a : Fin 1024, X0 (ix3 0 n a) * (D a * (1 + X3 (ix2 0 a)) * X1 (ix1 a))) * r := fun D => by
    rw [Finset.sum_mul]; exact Finset.sum_congr rfl fun a _ => by ring
  rw [e1 (fun a => ∑ k : Fin 3072, X5 (ix3 0 n k) * X4 (ix2 a k))]
  generalize (∑ a : Fin 1024, X0 (ix3 0 n a) * ((∑ k : Fin 3072, X5 (ix3 0 n k) * X4 (ix2 a k)) * (1 + X3 (ix2 0 a)) * X1 (ix1 a))) = S
  generalize (∑ k : Fin 3072, X5 (ix3 0 n k) * X4 (ix2 j k)) = D
  rw [← hr]
  ring

theorem dg_eq (j : Fin 1024) :
    (∑ n : Fin 16384, dh (fun i => ((X4 i : ℝ) : EReal)) (fun i => ((X5 i : ℝ) : EReal)) n j
        * (((X0 (ix3 0 n j) : ℝ) : EReal) * rr (fun i => ((X0 i : ℝ) : EReal)) n)) * (1 + ((X3 (ix2 0 j) : ℝ) : EReal))
    = val_main_v44 (F := Ideal) (fun i => ((X0 i : ℝ) : EReal)) (fun i => ((X3 i : ℝ) : EReal))
      (fun i => ((X4 i : ℝ) : EReal)) (fun i => ((X5 i : ℝ) : EReal)) (ix1 j) := by
  rw [read44]
  choose v r hv hr ev er using rr_coe X0
  simp only [er, dh_coe, ← EReal.coe_one, ← EReal.coe_add, ← EReal.coe_mul, coe_sum]
  refine congrArg (fun z : ℝ => (z : EReal)) ?_
  rw [Finset.sum_mul]; exact Finset.sum_congr rfl fun a _ => by ring

theorem dscale_eq (j : Fin 1024) :
    (∑ n : Fin 16384, dh (fun i => ((X4 i : ℝ) : EReal)) (fun i => ((X5 i : ℝ) : EReal)) n j
        * (((X0 (ix3 0 n j) : ℝ) : EReal) * rr (fun i => ((X0 i : ℝ) : EReal)) n)) * ((X1 (ix1 j) : ℝ) : EReal)
    = val_main_v38 (F := Ideal) (fun i => ((X0 i : ℝ) : EReal)) (fun i => ((X1 i : ℝ) : EReal))
      (fun i => ((X4 i : ℝ) : EReal)) (fun i => ((X5 i : ℝ) : EReal)) (ix2 0 j) := by
  rw [read38]
  choose v r hv hr ev er using rr_coe X0
  simp only [er, dh_coe, ← EReal.coe_mul, coe_sum]
  refine congrArg (fun z : ℝ => (z : EReal)) ?_
  rw [Finset.sum_mul]; exact Finset.sum_congr rfl fun a _ => by ring

end Cert.ReferenceIdeal.NormBwd
-- ==== Proof.NormBwd.Claim.lean ====
module
public import proofs.«01_k».proof.Defs
public import proofs.«01_k».proof.Proof.Gen.KernelIdeal.Frame
public import proofs.«01_k».proof.Proof.Gen.ReferenceIdeal.Run
public import proofs.«01_k».proof.Proof.Gen.Pre_finite
public import proofs.«01_k».proof.Proof.NormBwd.Kernel
public import proofs.«01_k».proof.Proof.NormBwd.Algebra
public import Idealize.ShloMosaic.Lib.Claim

/-! # The value claim of the norm-backward call

From finite arguments the program and the derivative of the plain lines return the same four gradients. -/

@[expose] public section
set_option maxRecDepth 16384
noncomputable section
open Idealize.ShloMosaic Idealize.ShloMosaic.TcCoe Idealize.SL.Sem
namespace Cert.Proof.NormBwd
open Cert.Common Cert.KernelIdeal.NormBwd Cert.ReferenceIdeal.NormBwd

/-- The precondition: five of the arguments hold real numbers. -/
theorem reals (m : (ℓ : Loc Cert.KernelIdeal.nD Cert.KernelIdeal.τ Cert.KernelIdeal.sig) → Buf (Elt Ideal) ℓ)
    (h : Cert.Pre_KernelIdeal_finite m) (c : Dev Cert.KernelIdeal.nD) :
    (∃ X : Cert.KernelIdeal.S1x16384x1024.Idx → ℝ, a0 m c = fun i => ((X i : ℝ) : EReal)) ∧ (∃ X : Cert.KernelIdeal.S1024.Idx → ℝ, a1 m c = fun i => ((X i : ℝ) : EReal)) ∧ (∃ X : Cert.KernelIdeal.S1x1024.Idx → ℝ, a3 m c = fun i => ((X i : ℝ) : EReal))
    ∧ (∃ X : Cert.KernelIdeal.S1024x3072.Idx → ℝ, a4 m c = fun i => ((X i : ℝ) : EReal)) ∧ ∃ X : Cert.KernelIdeal.S1x16384x3072.Idx → ℝ, a5 m c = fun i => ((X i : ℝ) : EReal) := by
  have key : ∀ p q : BitVec 1, IntOp.andi p q = 1#1 → p = 1#1 ∧ q = 1#1 := by decide
  have e := congrFun (h c) (fun b => b.elim0)
  obtain ⟨e, e5⟩ := key _ _ e
  obtain ⟨e, e4⟩ := key _ _ e
  obtain ⟨e, e3⟩ := key _ _ e
  obtain ⟨e0, e1⟩ := key _ _ e
  exact ⟨reals_of_pre _ _ _ _ _ _ e0, reals_of_pre _ _ _ _ _ _ e1, reals_of_pre _ _ _ _ _ _ e3,
    reals_of_pre _ _ _ _ _ _ e4, reals_of_pre _ _ _ _ _ _ e5⟩

/-- The reference's run leaves its arguments, and no counter of it moves. -/
theorem frame_reference : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

theorem frame_reference_finite : Cert.quiescent_ReferenceIdeal_pre_finite := fun m ρ _ => frame_reference m ρ trivial

open Cert.ReferenceIdeal.Read Cert.ReferenceIdeal in
theorem value : Cert.algebraic_KernelIdeal_ReferenceIdeal_pre_finite := by
  intro m g m' g' hpre hagree
  refine ⟨resX m, resG m, resShift m, resScale m, ?_, ?_⟩
  · refine (θ_run Cert.KernelIdeal.defs _ _).mono (fun r h c => ?_)
      (θ_run_and (run m g) (Cert.KernelIdeal.Gen.unchanged (F := Ideal) m g))
    exact ⟨(h.1 c).1, (h.1 c).2.1, (h.1 c).2.2.1, (h.1 c).2.2.2, h.2 c⟩
  · refine (θ_run Cert.ReferenceIdeal.defs _ _).mono (fun r h c => ?_) (Cert.ReferenceIdeal.Value.run (F := Ideal) m' g')
    obtain ⟨⟨X0, h0⟩, ⟨X1, h1⟩, ⟨X3, h3⟩, ⟨X4, h4⟩, ⟨X5, h5⟩⟩ := reals m hpre c
    obtain ⟨g0, g1, g2, g3, g4, g5, g6⟩ := hagree c
    obtain ⟨r0, r1, r2, r3, hrest⟩ := h c
    refine ⟨r0.trans ?_, r1.trans ?_, r2.trans ?_, r3.trans ?_, hrest⟩
    · rw [val_main_v60_eq, g0, g1, g3, g4, g5, g6]
      funext i
      have hi : i = (ix3 0 (i 1) (i 2) : S1x16384x1024.Idx) := by idx_ext
      have key := dx_eq X0 X1 X3 X4 X5 (a6 m c) (i 1) (i 2)
      rw [← h0, ← h1, ← h3, ← h4, ← h5] at key
      exact (congrArg _ hi).trans key.symm
    · rw [val_main_v44_eq, g0, g3, g4, g5]
      funext i
      have hi : i = (ix1 (i 0) : S1024.Idx) := by idx_ext
      have key := dg_eq X0 X3 X4 X5 (i 0)
      rw [← h0, ← h3, ← h4, ← h5, ← congrFun h3 (ix2 0 (i 0))] at key
      simp only [← congrFun h0 (ix3 0 _ (i 0))] at key
      exact (congrArg _ hi).trans key.symm
    · rw [val_main_v31_eq, g4, g5]
      funext i
      have hi : i = (ix2 0 (i 1) : S1x1024.Idx) := by idx_ext
      exact (congrArg _ hi).trans (read31 (a4 m c) (a5 m c) (i 1))
    · rw [val_main_v38_eq, g0, g1, g4, g5]
      funext i
      have hi : i = (ix2 0 (i 1) : S1x1024.Idx) := by idx_ext
      have key := dscale_eq X0 X1 X4 X5 (i 1)
      rw [← h0, ← h1, ← h4, ← h5, ← congrFun h1 (ix1 (i 1))] at key
      simp only [← congrFun h0 (ix3 0 _ (i 1))] at key
      exact (congrArg _ hi).trans key.symm

end Cert.Proof.NormBwd
-- ==== Proof.MixBwd.Run.lean ====
module

public import proofs.«01_k».proof.Proof.Gen.Kernel2Ideal.Skeleton
public import proofs.«01_k».proof.Proof.Gen.Kernel2Ideal.Frame

/-!
# One visit of the mixer's backward pass

What the body leaves in each buffer, found by running it.  The buffers of a visit are bundled (`Refs`), the contents
of its inputs are bundled (`Blocks`), and so are the contents it leaves (`State`).  A visit is of one of three kinds:
the first (which clears the running sums), a middle one, and the last (which also folds the column sums).  Everything
is stated over any number system, so that one run serves the printed kernel and its ideal reading.
-/

@[expose] public section

set_option maxRecDepth 16384

noncomputable section

namespace Cert.MixBwd

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The buffers a visit works on: seventeen inputs, seven outputs and five buffers the kernel keeps for itself. -/
structure Refs where
  zm : Memref sig .tc .vmem S512x3072 .bf16
  zh : Memref sig .tc .vmem S32x3072 .bf16
  oc : Memref sig .tc .vmem S512x256 .f32
  dx : Memref sig .tc .vmem S512x1024 .f32
  dxNext : Memref sig .tc .vmem S512x1024 .f32
  gate : Memref sig .tc .vmem S1x1024 .f32
  wConv : Memref sig .tc .vmem S8x256 .f32
  wDw : Memref sig .tc .vmem S32x256 .f32
  vec : Memref sig .tc .vmem S16x256 .f32
  wPool : Memref sig .tc .vmem S256x256 .bf16
  wPw : Memref sig .tc .vmem S256x256 .bf16
  wS : Memref sig .tc .vmem S512x128 .bf16
  bS : Memref sig .tc .vmem S264x256 .f32
  wPoolT : Memref sig .tc .vmem S256x256 .bf16
  wPwT : Memref sig .tc .vmem S256x256 .bf16
  wST : Memref sig .tc .vmem S512x128 .bf16
  wOut : Memref sig .tc .vmem S1024x1024 .bf16
  dz : Memref sig .tc .vmem S512x3072 .bf16
  ycat : Memref sig .tc .vmem S512x1024 .bf16
  sums : Memref sig .tc .vmem S64x256 .f32
  dwp : Memref sig .tc .vmem S256x256 .f32
  dw2 : Memref sig .tc .vmem S256x256 .f32
  dws : Memref sig .tc .vmem S512x128 .f32
  dbs : Memref sig .tc .vmem S128x256 .f32
  past : Memref sig .tc .vmem S544x768 .f32
  future : Memref sig .tc .vmem S544x768 .f32
  dy : Memref sig .tc .vmem S512x1024 .f32
  dyNext : Memref sig .tc .vmem S512x1024 .f32
  acc : Memref sig .tc .vmem S64x8x256 .f32

/-- All of them are whole buffers. -/
structure Refs.Whole (R : Refs) : Prop where
  zm : R.zm.IsWhole
  zh : R.zh.IsWhole
  oc : R.oc.IsWhole
  dx : R.dx.IsWhole
  dxNext : R.dxNext.IsWhole
  gate : R.gate.IsWhole
  wConv : R.wConv.IsWhole
  wDw : R.wDw.IsWhole
  vec : R.vec.IsWhole
  wPool : R.wPool.IsWhole
  wPw : R.wPw.IsWhole
  wS : R.wS.IsWhole
  bS : R.bS.IsWhole
  wPoolT : R.wPoolT.IsWhole
  wPwT : R.wPwT.IsWhole
  wST : R.wST.IsWhole
  wOut : R.wOut.IsWhole
  dz : R.dz.IsWhole
  ycat : R.ycat.IsWhole
  sums : R.sums.IsWhole
  dwp : R.dwp.IsWhole
  dw2 : R.dw2.IsWhole
  dws : R.dws.IsWhole
  dbs : R.dbs.IsWhole
  past : R.past.IsWhole
  future : R.future.IsWhole
  dy : R.dy.IsWhole
  dyNext : R.dyNext.IsWhole
  acc : R.acc.IsWhole

/-- The contents of the inputs at a visit. -/
structure Blocks (F : FTy → Type) [FloatOps F] where
  zm : Vec F S512x3072 .bf16
  zh : Vec F S32x3072 .bf16
  oc : Vec F S512x256 .f32
  dx : Vec F S512x1024 .f32
  dxNext : Vec F S512x1024 .f32
  gate : Vec F S1x1024 .f32
  wConv : Vec F S8x256 .f32
  wDw : Vec F S32x256 .f32
  vec : Vec F S16x256 .f32
  wPool : Vec F S256x256 .bf16
  wPw : Vec F S256x256 .bf16
  wS : Vec F S512x128 .bf16
  bS : Vec F S264x256 .f32
  wPoolT : Vec F S256x256 .bf16
  wPwT : Vec F S256x256 .bf16
  wST : Vec F S512x128 .bf16
  wOut : Vec F S1024x1024 .bf16

/-- The contents a visit leaves: its outputs, and the three of its own buffers that the next visit reads. -/
structure State (F : FTy → Type) [FloatOps F] where
  dz : Vec F S512x3072 .bf16
  ycat : Vec F S512x1024 .bf16
  sums : Vec F S64x256 .f32
  dwp : Vec F S256x256 .f32
  dw2 : Vec F S256x256 .f32
  dws : Vec F S512x128 .f32
  dbs : Vec F S128x256 .f32
  future : Vec F S544x768 .f32
  dy : Vec F S512x1024 .f32
  acc : Vec F S64x8x256 .f32

/-- The stores of a visit into each buffer, the last first. -/
structure Stores (F : FTy → Type) [FloatOps F] where
  dz : List (View.Piece (Elt F) S512x3072 .bf16)
  ycat : List (View.Piece (Elt F) S512x1024 .bf16)
  sums : List (View.Piece (Elt F) S64x256 .f32)
  dwp : List (View.Piece (Elt F) S256x256 .f32)
  dw2 : List (View.Piece (Elt F) S256x256 .f32)
  dws : List (View.Piece (Elt F) S512x128 .f32)
  dbs : List (View.Piece (Elt F) S128x256 .f32)
  past : List (View.Piece (Elt F) S544x768 .f32)
  future : List (View.Piece (Elt F) S544x768 .f32)
  dy : List (View.Piece (Elt F) S512x1024 .f32)
  dyNext : List (View.Piece (Elt F) S512x1024 .f32)
  acc : List (View.Piece (Elt F) S64x8x256 .f32)

/-- The body on bundled buffers. -/
abbrev body (F : FTy → Type) [FloatOps F] [Named F] (i : grid0.Coords) (R : Refs) (W : R.Whole) :
    Prog (TpuEff nD τ sig (Elt F) Λ₀ .tc) PUnit :=
  cc0_mix_bwd i R.zm W.zm R.zh W.zh R.oc W.oc R.dx W.dx R.dxNext W.dxNext R.gate W.gate R.wConv W.wConv R.wDw W.wDw
    R.vec W.vec R.wPool W.wPool R.wPw W.wPw R.wS W.wS R.bS W.bS R.wPoolT W.wPoolT R.wPwT W.wPwT R.wST W.wST R.wOut
    W.wOut R.dz W.dz R.ycat W.ycat R.sums W.sums R.dwp W.dwp R.dw2 W.dw2 R.dws W.dws R.dbs W.dbs R.past W.past
    R.future W.future R.dy W.dy R.dyNext W.dyNext R.acc W.acc

/-- The body's first conditional is taken. -/
abbrev first (i : grid0.Coords) : Prop :=
  (Scalar.cmpi .ne (Scalar.extui (Scalar.cmpi .eq (BitVec.ofNat 32 (i 0).val) 0#32)) 0#32) = 1#1

/-- The body's last conditional is taken. -/
abbrev last (i : grid0.Coords) : Prop := k0_cond2 i = 1#1

/-- The inputs' buffers hold the blocks. -/
def inputs (c : Dev nD) (R : Refs) (x : Blocks F) : sProp 𝕄 :=
  iprop(owns (c : Thread nD τ) R.zm fullShare x.zm
    ∗ owns (c : Thread nD τ) R.zh fullShare x.zh
    ∗ owns (c : Thread nD τ) R.oc fullShare x.oc
    ∗ owns (c : Thread nD τ) R.dx fullShare x.dx
    ∗ owns (c : Thread nD τ) R.dxNext fullShare x.dxNext
    ∗ owns (c : Thread nD τ) R.gate fullShare x.gate
    ∗ owns (c : Thread nD τ) R.wConv fullShare x.wConv
    ∗ owns (c : Thread nD τ) R.wDw fullShare x.wDw
    ∗ owns (c : Thread nD τ) R.vec fullShare x.vec
    ∗ owns (c : Thread nD τ) R.wPool fullShare x.wPool
    ∗ owns (c : Thread nD τ) R.wPw fullShare x.wPw
    ∗ owns (c : Thread nD τ) R.wS fullShare x.wS
    ∗ owns (c : Thread nD τ) R.bS fullShare x.bS
    ∗ owns (c : Thread nD τ) R.wPoolT fullShare x.wPoolT
    ∗ owns (c : Thread nD τ) R.wPwT fullShare x.wPwT
    ∗ owns (c : Thread nD τ) R.wST fullShare x.wST
    ∗ owns (c : Thread nD τ) R.wOut fullShare x.wOut)

set_option maxHeartbeats 8000000 in
/-- The stores of the first visit: it finds anything in its buffers, and leaves the column sums untouched. -/
def runA (c : Dev nD) (i : grid0.Coords) (R : Refs) (W : R.Whole) (h0 : first i) (h1 : ¬last i)
    (x : Blocks F) :
    { L : Stores F // ∀ (d : Vec F S64x256 .f32) (E : Set ℕ) (K : PUnit → sProp 𝕄),
        iprop(inputs c R x ∗ (∃ d, owns (c : Thread nD τ) R.dz fullShare d)
          ∗ (∃ d, owns (c : Thread nD τ) R.ycat fullShare d)
          ∗ owns (c : Thread nD τ) R.sums fullShare d
          ∗ (∃ d, owns (c : Thread nD τ) R.dwp fullShare d)
          ∗ (∃ d, owns (c : Thread nD τ) R.dw2 fullShare d)
          ∗ (∃ d, owns (c : Thread nD τ) R.dws fullShare d)
          ∗ (∃ d, owns (c : Thread nD τ) R.dbs fullShare d)
          ∗ (∃ d, owns (c : Thread nD τ) R.past fullShare d)
          ∗ (∃ d, owns (c : Thread nD τ) R.future fullShare d)
          ∗ (∃ d, owns (c : Thread nD τ) R.dy fullShare d)
          ∗ (∃ d, owns (c : Thread nD τ) R.dyNext fullShare d)
          ∗ (∃ d, owns (c : Thread nD τ) R.acc fullShare d)
          ∗ (iprop(inputs c R x ∗ (∃ f, R.dz.view.loc (c : Thread nD τ) ↦[R.dz.view.set]{fullShare} R.dz.view.writes (Elt F) f L.dz)
            ∗ (∃ f, R.ycat.view.loc (c : Thread nD τ) ↦[R.ycat.view.set]{fullShare} R.ycat.view.writes (Elt F) f L.ycat)
            ∗ owns (c : Thread nD τ) R.sums fullShare d
            ∗ (∃ f, R.dwp.view.loc (c : Thread nD τ) ↦[R.dwp.view.set]{fullShare} R.dwp.view.writes (Elt F) f L.dwp)
            ∗ (∃ f, R.dw2.view.loc (c : Thread nD τ) ↦[R.dw2.view.set]{fullShare} R.dw2.view.writes (Elt F) f L.dw2)
            ∗ (∃ f, R.dws.view.loc (c : Thread nD τ) ↦[R.dws.view.set]{fullShare} R.dws.view.writes (Elt F) f L.dws)
            ∗ (∃ f, R.dbs.view.loc (c : Thread nD τ) ↦[R.dbs.view.set]{fullShare} R.dbs.view.writes (Elt F) f L.dbs)
            ∗ (∃ f, R.past.view.loc (c : Thread nD τ) ↦[R.past.view.set]{fullShare} R.past.view.writes (Elt F) f L.past)
            ∗ (∃ f, R.future.view.loc (c : Thread nD τ) ↦[R.future.view.set]{fullShare} R.future.view.writes (Elt F) f L.future)
            ∗ (∃ f, R.dy.view.loc (c : Thread nD τ) ↦[R.dy.view.set]{fullShare} R.dy.view.writes (Elt F) f L.dy)
            ∗ (∃ f, R.dyNext.view.loc (c : Thread nD τ) ↦[R.dyNext.view.set]{fullShare} R.dyNext.view.writes (Elt F) f L.dyNext)
            ∗ (∃ f, R.acc.view.loc (c : Thread nD τ) ↦[R.acc.view.set]{fullShare} R.acc.view.writes (Elt F) f L.acc)) -∗ K ⟨⟩))
        ⊢ wp frame (wpE (defs₀ (F := F)) Variants.none c none) E (body F i R W) K } := by
  refine ⟨⟨?_, ?_, [], ?_, ?_, ?_, ?_, ?_, ?_, ?_, ?_, ?_⟩, fun d E K => ?run⟩
  case run =>
    unfold inputs owns
    iintro ⟨⟨⟨%f0, %e0, H0⟩, ⟨%f1, %e1, H1⟩, ⟨%f2, %e2, H2⟩, ⟨%f3, %e3, H3⟩, ⟨%f4, %e4, H4⟩, ⟨%f5, %e5, H5⟩, ⟨%f6,
      %e6, H6⟩, ⟨%f7, %e7, H7⟩, ⟨%f8, %e8, H8⟩, ⟨%f9, %e9, H9⟩, ⟨%f10, %e10, H10⟩, ⟨%f11, %e11, H11⟩, ⟨%f12, %e12,
      H12⟩, ⟨%f13, %e13, H13⟩, ⟨%f14, %e14, H14⟩, ⟨%f15, %e15, H15⟩, ⟨%f16, %e16, H16⟩⟩, ⟨%d17, %f17, -, H17⟩,
      ⟨%d18, %f18, -, H18⟩, ⟨%f19, %e19, H19⟩, ⟨%d20, %f20, -, H20⟩, ⟨%d21, %f21, -, H21⟩, ⟨%d22, %f22, -, H22⟩,
      ⟨%d23, %f23, -, H23⟩, ⟨%d24, %f24, -, H24⟩, ⟨%d25, %f25, -, H25⟩, ⟨%d26, %f26, -, H26⟩, ⟨%d27, %f27, -, H27⟩,
      ⟨%d28, %f28, -, H28⟩, Hk⟩
    obtain rfl := W.zm.eq_unread e0; obtain rfl := W.zh.eq_unread e1; obtain rfl := W.oc.eq_unread e2
    obtain rfl := W.dx.eq_unread e3; obtain rfl := W.dxNext.eq_unread e4; obtain rfl := W.gate.eq_unread e5
    obtain rfl := W.wConv.eq_unread e6; obtain rfl := W.wDw.eq_unread e7; obtain rfl := W.vec.eq_unread e8
    obtain rfl := W.wPool.eq_unread e9; obtain rfl := W.wPw.eq_unread e10; obtain rfl := W.wS.eq_unread e11
    obtain rfl := W.bS.eq_unread e12; obtain rfl := W.wPoolT.eq_unread e13; obtain rfl := W.wPwT.eq_unread e14
    obtain rfl := W.wST.eq_unread e15; obtain rfl := W.wOut.eq_unread e16; obtain rfl := W.sums.eq_unread e19
    dsimp only [body]
    simp only [cc0_mix_bwd_eq_skeleton]
    unfold cc0_mix_bwd_skel
    simp only [
      k0_part1_eq_skeleton, k0_part2_eq_skeleton, k0_part3_eq_skeleton, k0_part4_eq_skeleton,
      k0_part5_eq_skeleton, k0_part6_eq_skeleton, k0_part7_eq_skeleton, k0_part8_eq_skeleton,
      k0_part9_eq_skeleton, k0_part10_eq_skeleton, k0_part11_eq_skeleton, k0_part12_eq_skeleton,
      k0_part13_eq_skeleton, k0_part14_eq_skeleton, k0_part15_eq_skeleton, k0_part16_eq_skeleton,
      k0_part17_eq_skeleton, k0_part18_eq_skeleton, k0_part19_eq_skeleton, k0_part20_eq_skeleton,
      k0_part21_eq_skeleton, k0_part22_eq_skeleton, k0_part23_eq_skeleton, k0_part24_eq_skeleton,
      k0_part25_eq_skeleton, k0_part26_eq_skeleton, k0_part27_eq_skeleton, k0_part28_eq_skeleton,
      k0_part29_eq_skeleton, k0_part30_eq_skeleton, k0_part31_eq_skeleton, k0_part32_eq_skeleton,
      k0_part33_eq_skeleton, k0_part34_eq_skeleton, k0_part35_eq_skeleton, k0_part36_eq_skeleton,
      k0_part37_eq_skeleton, k0_part38_eq_skeleton, k0_part39_eq_skeleton, k0_part40_eq_skeleton,
      k0_part41_eq_skeleton, k0_part42_eq_skeleton, k0_part43_eq_skeleton, k0_part44_eq_skeleton,
      k0_part45_eq_skeleton, k0_part46_eq_skeleton, k0_part47_eq_skeleton, k0_part48_eq_skeleton,
      k0_part49_eq_skeleton, k0_part50_eq_skeleton, k0_part51_eq_skeleton, k0_part52_eq_skeleton,
      k0_part53_eq_skeleton, k0_part54_eq_skeleton, k0_part55_eq_skeleton, k0_part56_eq_skeleton,
      k0_part57_eq_skeleton, k0_part58_eq_skeleton, k0_part59_eq_skeleton, k0_part60_eq_skeleton,
      k0_part61_eq_skeleton, k0_part62_eq_skeleton, k0_part63_eq_skeleton, k0_part64_eq_skeleton,
      k0_part65_eq_skeleton, k0_part66_eq_skeleton, k0_part67_eq_skeleton, k0_part68_eq_skeleton,
      k0_part69_eq_skeleton, k0_part70_eq_skeleton, k0_part71_eq_skeleton, k0_part72_eq_skeleton,
      k0_part73_eq_skeleton, k0_part74_eq_skeleton, k0_part75_eq_skeleton, k0_part76_eq_skeleton,
      k0_part77_eq_skeleton, k0_part78_eq_skeleton, k0_part79_eq_skeleton, k0_part80_eq_skeleton,
      k0_part81_eq_skeleton, k0_part82_eq_skeleton, k0_part83_eq_skeleton, k0_part84_eq_skeleton,
      k0_part85_eq_skeleton, k0_part86_eq_skeleton, k0_part87_eq_skeleton, k0_part88_eq_skeleton,
      k0_part89_eq_skeleton, k0_part90_eq_skeleton, k0_part91_eq_skeleton, k0_part92_eq_skeleton,
      k0_part93_eq_skeleton, k0_part94_eq_skeleton, k0_part95_eq_skeleton, k0_part96_eq_skeleton,
      k0_part97_eq_skeleton, k0_part98_eq_skeleton, k0_part99_eq_skeleton, k0_part100_eq_skeleton,
      k0_part101_eq_skeleton, k0_part102_eq_skeleton, k0_part103_eq_skeleton, k0_part104_eq_skeleton,
      k0_part105_eq_skeleton, k0_part106_eq_skeleton, k0_part107_eq_skeleton, k0_part108_eq_skeleton,
      k0_part109_eq_skeleton, k0_part110_eq_skeleton, k0_part111_eq_skeleton, k0_part112_eq_skeleton,
      k0_part113_eq_skeleton, k0_part114_eq_skeleton, k0_part115_eq_skeleton, k0_part116_eq_skeleton,
      k0_part117_eq_skeleton, k0_part118_eq_skeleton, k0_part119_eq_skeleton, k0_part120_eq_skeleton,
      k0_part121_eq_skeleton, k0_part122_eq_skeleton, k0_part123_eq_skeleton, k0_part124_eq_skeleton,
      k0_part125_eq_skeleton, k0_part126_eq_skeleton, k0_part127_eq_skeleton, k0_part128_eq_skeleton,
      k0_part129_eq_skeleton, k0_part130_eq_skeleton, k0_part131_eq_skeleton, k0_part132_eq_skeleton,
      k0_part133_eq_skeleton, k0_part134_eq_skeleton, k0_part135_eq_skeleton, k0_part136_eq_skeleton,
      k0_part137_eq_skeleton, k0_part138_eq_skeleton, k0_part139_eq_skeleton, k0_part140_eq_skeleton,
      k0_part141_eq_skeleton, k0_part142_eq_skeleton, k0_part143_eq_skeleton, k0_part144_eq_skeleton,
      k0_part145_eq_skeleton, k0_part146_eq_skeleton, k0_part147_eq_skeleton, k0_part148_eq_skeleton,
      k0_part149_eq_skeleton, k0_part150_eq_skeleton, k0_part151_eq_skeleton, k0_part152_eq_skeleton,
      k0_part153_eq_skeleton, k0_part154_eq_skeleton, k0_part155_eq_skeleton, k0_part156_eq_skeleton,
      k0_part157_eq_skeleton, k0_part158_eq_skeleton, k0_part159_eq_skeleton, k0_part160_eq_skeleton,
      k0_part161_eq_skeleton, k0_part162_eq_skeleton, k0_part163_eq_skeleton, k0_part164_eq_skeleton,
      k0_part165_eq_skeleton, k0_part166_eq_skeleton, k0_part167_eq_skeleton, k0_part168_eq_skeleton,
      k0_part169_eq_skeleton, k0_part170_eq_skeleton, k0_part171_eq_skeleton, k0_part172_eq_skeleton,
      k0_part173_eq_skeleton, k0_part174_eq_skeleton, k0_part175_eq_skeleton, k0_part176_eq_skeleton,
      k0_part177_eq_skeleton, k0_part178_eq_skeleton, k0_part179_eq_skeleton, k0_part180_eq_skeleton,
      k0_part181_eq_skeleton, k0_part182_eq_skeleton, k0_part183_eq_skeleton, k0_part184_eq_skeleton,
      k0_part185_eq_skeleton, k0_part186_eq_skeleton, k0_part187_eq_skeleton, k0_part188_eq_skeleton,
      k0_part189_eq_skeleton, k0_part190_eq_skeleton, k0_part191_eq_skeleton, k0_part192_eq_skeleton,
      k0_part193_eq_skeleton, k0_part194_eq_skeleton, k0_part195_eq_skeleton, k0_part196_eq_skeleton,
      k0_part197_eq_skeleton, k0_part198_eq_skeleton, k0_part199_eq_skeleton, k0_part200_eq_skeleton,
      k0_part201_eq_skeleton, k0_part202_eq_skeleton, k0_part203_eq_skeleton, k0_part204_eq_skeleton,
      k0_part205_eq_skeleton, k0_part206_eq_skeleton, k0_part207_eq_skeleton, k0_part208_eq_skeleton,
      k0_part209_eq_skeleton, k0_part210_eq_skeleton, k0_part211_eq_skeleton, k0_part212_eq_skeleton,
      k0_part213_eq_skeleton, k0_part214_eq_skeleton, k0_part215_eq_skeleton, k0_part216_eq_skeleton,
      k0_part217_eq_skeleton, k0_part218_eq_skeleton, k0_part219_eq_skeleton, k0_part220_eq_skeleton,
      k0_part221_eq_skeleton]
    sl_exec (disch := first | sl_exact h0 | sl_exact h1)
    sl_unroll (rfl : k0_t1_loop.trips = 4)
    sl_exec (disch := first | sl_exact h0 | sl_exact h1)
    sl_step
    iapply Hk
    isplitl [H0 H1 H2 H3 H4 H5 H6 H7 H8 H9 H10 H11 H12 H13 H14 H15 H16]
    · isplitl [H0]; · (iexists _; isplitr; (· ipureintro; exact W.zm.read_unread _); iexact H0)
      isplitl [H1]; · (iexists _; isplitr; (· ipureintro; exact W.zh.read_unread _); iexact H1)
      isplitl [H2]; · (iexists _; isplitr; (· ipureintro; exact W.oc.read_unread _); iexact H2)
      isplitl [H3]; · (iexists _; isplitr; (· ipureintro; exact W.dx.read_unread _); iexact H3)
      isplitl [H4]; · (iexists _; isplitr; (· ipureintro; exact W.dxNext.read_unread _); iexact H4)
      isplitl [H5]; · (iexists _; isplitr; (· ipureintro; exact W.gate.read_unread _); iexact H5)
      isplitl [H6]; · (iexists _; isplitr; (· ipureintro; exact W.wConv.read_unread _); iexact H6)
      isplitl [H7]; · (iexists _; isplitr; (· ipureintro; exact W.wDw.read_unread _); iexact H7)
      isplitl [H8]; · (iexists _; isplitr; (· ipureintro; exact W.vec.read_unread _); iexact H8)
      isplitl [H9]; · (iexists _; isplitr; (· ipureintro; exact W.wPool.read_unread _); iexact H9)
      isplitl [H10]; · (iexists _; isplitr; (· ipureintro; exact W.wPw.read_unread _); iexact H10)
      isplitl [H11]; · (iexists _; isplitr; (· ipureintro; exact W.wS.read_unread _); iexact H11)
      isplitl [H12]; · (iexists _; isplitr; (· ipureintro; exact W.bS.read_unread _); iexact H12)
      isplitl [H13]; · (iexists _; isplitr; (· ipureintro; exact W.wPoolT.read_unread _); iexact H13)
      isplitl [H14]; · (iexists _; isplitr; (· ipureintro; exact W.wPwT.read_unread _); iexact H14)
      isplitl [H15]; · (iexists _; isplitr; (· ipureintro; exact W.wST.read_unread _); iexact H15)
      iexists _; isplitr; (· ipureintro; exact W.wOut.read_unread _)
      iexact H16
    isplitl [H17]; · iexists _; iexact H17
    isplitl [H18]; · iexists _; iexact H18
    isplitl [H19]
    · iexists _; isplitr; · (ipureintro; exact W.sums.read_unread _)
      iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    iexists _; iexact H28

set_option maxHeartbeats 8000000 in
/-- The stores of a middle visit: it finds the running sums and what the visit before kept, and leaves the column sums untouched. -/
def runB (c : Dev nD) (i : grid0.Coords) (R : Refs) (W : R.Whole) (h0 : ¬first i) (h1 : ¬last i)
    (x : Blocks F) (s : State F) :
    { L : Stores F // ∀ (d : Vec F S64x256 .f32) (E : Set ℕ) (K : PUnit → sProp 𝕄),
        iprop(inputs c R x ∗ (∃ d, owns (c : Thread nD τ) R.dz fullShare d)
          ∗ (∃ d, owns (c : Thread nD τ) R.ycat fullShare d)
          ∗ owns (c : Thread nD τ) R.sums fullShare d
          ∗ owns (c : Thread nD τ) R.dwp fullShare s.dwp
          ∗ owns (c : Thread nD τ) R.dw2 fullShare s.dw2
          ∗ owns (c : Thread nD τ) R.dws fullShare s.dws
          ∗ owns (c : Thread nD τ) R.dbs fullShare s.dbs
          ∗ (∃ d, owns (c : Thread nD τ) R.past fullShare d)
          ∗ owns (c : Thread nD τ) R.future fullShare s.future
          ∗ owns (c : Thread nD τ) R.dy fullShare s.dy
          ∗ (∃ d, owns (c : Thread nD τ) R.dyNext fullShare d)
          ∗ owns (c : Thread nD τ) R.acc fullShare s.acc
          ∗ (iprop(inputs c R x ∗ (∃ f, R.dz.view.loc (c : Thread nD τ) ↦[R.dz.view.set]{fullShare} R.dz.view.writes (Elt F) f L.dz)
            ∗ (∃ f, R.ycat.view.loc (c : Thread nD τ) ↦[R.ycat.view.set]{fullShare} R.ycat.view.writes (Elt F) f L.ycat)
            ∗ owns (c : Thread nD τ) R.sums fullShare d
            ∗ (∃ f, R.dwp.view.loc (c : Thread nD τ) ↦[R.dwp.view.set]{fullShare} R.dwp.view.writes (Elt F) f L.dwp)
            ∗ (∃ f, R.dw2.view.loc (c : Thread nD τ) ↦[R.dw2.view.set]{fullShare} R.dw2.view.writes (Elt F) f L.dw2)
            ∗ (∃ f, R.dws.view.loc (c : Thread nD τ) ↦[R.dws.view.set]{fullShare} R.dws.view.writes (Elt F) f L.dws)
            ∗ (∃ f, R.dbs.view.loc (c : Thread nD τ) ↦[R.dbs.view.set]{fullShare} R.dbs.view.writes (Elt F) f L.dbs)
            ∗ (∃ f, R.past.view.loc (c : Thread nD τ) ↦[R.past.view.set]{fullShare} R.past.view.writes (Elt F) f L.past)
            ∗ (∃ f, R.future.view.loc (c : Thread nD τ) ↦[R.future.view.set]{fullShare} R.future.view.writes (Elt F) f L.future)
            ∗ (∃ f, R.dy.view.loc (c : Thread nD τ) ↦[R.dy.view.set]{fullShare} R.dy.view.writes (Elt F) f L.dy)
            ∗ (∃ f, R.dyNext.view.loc (c : Thread nD τ) ↦[R.dyNext.view.set]{fullShare} R.dyNext.view.writes (Elt F) f L.dyNext)
            ∗ (R.acc.view.loc (c : Thread nD τ) ↦[R.acc.view.set]{fullShare} R.acc.view.writes (Elt F) (W.acc.unread s.acc) L.acc)) -∗ K ⟨⟩))
        ⊢ wp frame (wpE (defs₀ (F := F)) Variants.none c none) E (body F i R W) K } := by
  refine ⟨⟨?_, ?_, [], ?_, ?_, ?_, ?_, ?_, ?_, ?_, ?_, ?_⟩, fun d E K => ?run⟩
  case run =>
    unfold inputs owns
    iintro ⟨⟨⟨%f0, %e0, H0⟩, ⟨%f1, %e1, H1⟩, ⟨%f2, %e2, H2⟩, ⟨%f3, %e3, H3⟩, ⟨%f4, %e4, H4⟩, ⟨%f5, %e5, H5⟩, ⟨%f6,
      %e6, H6⟩, ⟨%f7, %e7, H7⟩, ⟨%f8, %e8, H8⟩, ⟨%f9, %e9, H9⟩, ⟨%f10, %e10, H10⟩, ⟨%f11, %e11, H11⟩, ⟨%f12, %e12,
      H12⟩, ⟨%f13, %e13, H13⟩, ⟨%f14, %e14, H14⟩, ⟨%f15, %e15, H15⟩, ⟨%f16, %e16, H16⟩⟩, ⟨%d17, %f17, -, H17⟩,
      ⟨%d18, %f18, -, H18⟩, ⟨%f19, %e19, H19⟩, ⟨%f20, %e20, H20⟩, ⟨%f21, %e21, H21⟩, ⟨%f22, %e22, H22⟩, ⟨%f23, %e23,
      H23⟩, ⟨%d24, %f24, -, H24⟩, ⟨%f25, %e25, H25⟩, ⟨%f26, %e26, H26⟩, ⟨%d27, %f27, -, H27⟩, ⟨%f28, %e28, H28⟩, Hk⟩
    obtain rfl := W.zm.eq_unread e0; obtain rfl := W.zh.eq_unread e1; obtain rfl := W.oc.eq_unread e2
    obtain rfl := W.dx.eq_unread e3; obtain rfl := W.dxNext.eq_unread e4; obtain rfl := W.gate.eq_unread e5
    obtain rfl := W.wConv.eq_unread e6; obtain rfl := W.wDw.eq_unread e7; obtain rfl := W.vec.eq_unread e8
    obtain rfl := W.wPool.eq_unread e9; obtain rfl := W.wPw.eq_unread e10; obtain rfl := W.wS.eq_unread e11
    obtain rfl := W.bS.eq_unread e12; obtain rfl := W.wPoolT.eq_unread e13; obtain rfl := W.wPwT.eq_unread e14
    obtain rfl := W.wST.eq_unread e15; obtain rfl := W.wOut.eq_unread e16; obtain rfl := W.sums.eq_unread e19
    obtain rfl := W.dwp.eq_unread e20; obtain rfl := W.dw2.eq_unread e21; obtain rfl := W.dws.eq_unread e22
    obtain rfl := W.dbs.eq_unread e23; obtain rfl := W.future.eq_unread e25; obtain rfl := W.dy.eq_unread e26
    obtain rfl := W.acc.eq_unread e28
    dsimp only [body]
    simp only [cc0_mix_bwd_eq_skeleton]
    unfold cc0_mix_bwd_skel
    simp only [
      k0_part1_eq_skeleton, k0_part2_eq_skeleton, k0_part3_eq_skeleton, k0_part4_eq_skeleton,
      k0_part5_eq_skeleton, k0_part6_eq_skeleton, k0_part7_eq_skeleton, k0_part8_eq_skeleton,
      k0_part9_eq_skeleton, k0_part10_eq_skeleton, k0_part11_eq_skeleton, k0_part12_eq_skeleton,
      k0_part13_eq_skeleton, k0_part14_eq_skeleton, k0_part15_eq_skeleton, k0_part16_eq_skeleton,
      k0_part17_eq_skeleton, k0_part18_eq_skeleton, k0_part19_eq_skeleton, k0_part20_eq_skeleton,
      k0_part21_eq_skeleton, k0_part22_eq_skeleton, k0_part23_eq_skeleton, k0_part24_eq_skeleton,
      k0_part25_eq_skeleton, k0_part26_eq_skeleton, k0_part27_eq_skeleton, k0_part28_eq_skeleton,
      k0_part29_eq_skeleton, k0_part30_eq_skeleton, k0_part31_eq_skeleton, k0_part32_eq_skeleton,
      k0_part33_eq_skeleton, k0_part34_eq_skeleton, k0_part35_eq_skeleton, k0_part36_eq_skeleton,
      k0_part37_eq_skeleton, k0_part38_eq_skeleton, k0_part39_eq_skeleton, k0_part40_eq_skeleton,
      k0_part41_eq_skeleton, k0_part42_eq_skeleton, k0_part43_eq_skeleton, k0_part44_eq_skeleton,
      k0_part45_eq_skeleton, k0_part46_eq_skeleton, k0_part47_eq_skeleton, k0_part48_eq_skeleton,
      k0_part49_eq_skeleton, k0_part50_eq_skeleton, k0_part51_eq_skeleton, k0_part52_eq_skeleton,
      k0_part53_eq_skeleton, k0_part54_eq_skeleton, k0_part55_eq_skeleton, k0_part56_eq_skeleton,
      k0_part57_eq_skeleton, k0_part58_eq_skeleton, k0_part59_eq_skeleton, k0_part60_eq_skeleton,
      k0_part61_eq_skeleton, k0_part62_eq_skeleton, k0_part63_eq_skeleton, k0_part64_eq_skeleton,
      k0_part65_eq_skeleton, k0_part66_eq_skeleton, k0_part67_eq_skeleton, k0_part68_eq_skeleton,
      k0_part69_eq_skeleton, k0_part70_eq_skeleton, k0_part71_eq_skeleton, k0_part72_eq_skeleton,
      k0_part73_eq_skeleton, k0_part74_eq_skeleton, k0_part75_eq_skeleton, k0_part76_eq_skeleton,
      k0_part77_eq_skeleton, k0_part78_eq_skeleton, k0_part79_eq_skeleton, k0_part80_eq_skeleton,
      k0_part81_eq_skeleton, k0_part82_eq_skeleton, k0_part83_eq_skeleton, k0_part84_eq_skeleton,
      k0_part85_eq_skeleton, k0_part86_eq_skeleton, k0_part87_eq_skeleton, k0_part88_eq_skeleton,
      k0_part89_eq_skeleton, k0_part90_eq_skeleton, k0_part91_eq_skeleton, k0_part92_eq_skeleton,
      k0_part93_eq_skeleton, k0_part94_eq_skeleton, k0_part95_eq_skeleton, k0_part96_eq_skeleton,
      k0_part97_eq_skeleton, k0_part98_eq_skeleton, k0_part99_eq_skeleton, k0_part100_eq_skeleton,
      k0_part101_eq_skeleton, k0_part102_eq_skeleton, k0_part103_eq_skeleton, k0_part104_eq_skeleton,
      k0_part105_eq_skeleton, k0_part106_eq_skeleton, k0_part107_eq_skeleton, k0_part108_eq_skeleton,
      k0_part109_eq_skeleton, k0_part110_eq_skeleton, k0_part111_eq_skeleton, k0_part112_eq_skeleton,
      k0_part113_eq_skeleton, k0_part114_eq_skeleton, k0_part115_eq_skeleton, k0_part116_eq_skeleton,
      k0_part117_eq_skeleton, k0_part118_eq_skeleton, k0_part119_eq_skeleton, k0_part120_eq_skeleton,
      k0_part121_eq_skeleton, k0_part122_eq_skeleton, k0_part123_eq_skeleton, k0_part124_eq_skeleton,
      k0_part125_eq_skeleton, k0_part126_eq_skeleton, k0_part127_eq_skeleton, k0_part128_eq_skeleton,
      k0_part129_eq_skeleton, k0_part130_eq_skeleton, k0_part131_eq_skeleton, k0_part132_eq_skeleton,
      k0_part133_eq_skeleton, k0_part134_eq_skeleton, k0_part135_eq_skeleton, k0_part136_eq_skeleton,
      k0_part137_eq_skeleton, k0_part138_eq_skeleton, k0_part139_eq_skeleton, k0_part140_eq_skeleton,
      k0_part141_eq_skeleton, k0_part142_eq_skeleton, k0_part143_eq_skeleton, k0_part144_eq_skeleton,
      k0_part145_eq_skeleton, k0_part146_eq_skeleton, k0_part147_eq_skeleton, k0_part148_eq_skeleton,
      k0_part149_eq_skeleton, k0_part150_eq_skeleton, k0_part151_eq_skeleton, k0_part152_eq_skeleton,
      k0_part153_eq_skeleton, k0_part154_eq_skeleton, k0_part155_eq_skeleton, k0_part156_eq_skeleton,
      k0_part157_eq_skeleton, k0_part158_eq_skeleton, k0_part159_eq_skeleton, k0_part160_eq_skeleton,
      k0_part161_eq_skeleton, k0_part162_eq_skeleton, k0_part163_eq_skeleton, k0_part164_eq_skeleton,
      k0_part165_eq_skeleton, k0_part166_eq_skeleton, k0_part167_eq_skeleton, k0_part168_eq_skeleton,
      k0_part169_eq_skeleton, k0_part170_eq_skeleton, k0_part171_eq_skeleton, k0_part172_eq_skeleton,
      k0_part173_eq_skeleton, k0_part174_eq_skeleton, k0_part175_eq_skeleton, k0_part176_eq_skeleton,
      k0_part177_eq_skeleton, k0_part178_eq_skeleton, k0_part179_eq_skeleton, k0_part180_eq_skeleton,
      k0_part181_eq_skeleton, k0_part182_eq_skeleton, k0_part183_eq_skeleton, k0_part184_eq_skeleton,
      k0_part185_eq_skeleton, k0_part186_eq_skeleton, k0_part187_eq_skeleton, k0_part188_eq_skeleton,
      k0_part189_eq_skeleton, k0_part190_eq_skeleton, k0_part191_eq_skeleton, k0_part192_eq_skeleton,
      k0_part193_eq_skeleton, k0_part194_eq_skeleton, k0_part195_eq_skeleton, k0_part196_eq_skeleton,
      k0_part197_eq_skeleton, k0_part198_eq_skeleton, k0_part199_eq_skeleton, k0_part200_eq_skeleton,
      k0_part201_eq_skeleton, k0_part202_eq_skeleton, k0_part203_eq_skeleton, k0_part204_eq_skeleton,
      k0_part205_eq_skeleton, k0_part206_eq_skeleton, k0_part207_eq_skeleton, k0_part208_eq_skeleton,
      k0_part209_eq_skeleton, k0_part210_eq_skeleton, k0_part211_eq_skeleton, k0_part212_eq_skeleton,
      k0_part213_eq_skeleton, k0_part214_eq_skeleton, k0_part215_eq_skeleton, k0_part216_eq_skeleton,
      k0_part217_eq_skeleton, k0_part218_eq_skeleton, k0_part219_eq_skeleton, k0_part220_eq_skeleton,
      k0_part221_eq_skeleton]
    sl_exec (disch := first | sl_exact h0 | sl_exact h1)
    sl_unroll (rfl : k0_t1_loop.trips = 4)
    sl_exec (disch := first | sl_exact h0 | sl_exact h1)
    sl_step
    iapply Hk
    isplitl [H0 H1 H2 H3 H4 H5 H6 H7 H8 H9 H10 H11 H12 H13 H14 H15 H16]
    · isplitl [H0]; · (iexists _; isplitr; (· ipureintro; exact W.zm.read_unread _); iexact H0)
      isplitl [H1]; · (iexists _; isplitr; (· ipureintro; exact W.zh.read_unread _); iexact H1)
      isplitl [H2]; · (iexists _; isplitr; (· ipureintro; exact W.oc.read_unread _); iexact H2)
      isplitl [H3]; · (iexists _; isplitr; (· ipureintro; exact W.dx.read_unread _); iexact H3)
      isplitl [H4]; · (iexists _; isplitr; (· ipureintro; exact W.dxNext.read_unread _); iexact H4)
      isplitl [H5]; · (iexists _; isplitr; (· ipureintro; exact W.gate.read_unread _); iexact H5)
      isplitl [H6]; · (iexists _; isplitr; (· ipureintro; exact W.wConv.read_unread _); iexact H6)
      isplitl [H7]; · (iexists _; isplitr; (· ipureintro; exact W.wDw.read_unread _); iexact H7)
      isplitl [H8]; · (iexists _; isplitr; (· ipureintro; exact W.vec.read_unread _); iexact H8)
      isplitl [H9]; · (iexists _; isplitr; (· ipureintro; exact W.wPool.read_unread _); iexact H9)
      isplitl [H10]; · (iexists _; isplitr; (· ipureintro; exact W.wPw.read_unread _); iexact H10)
      isplitl [H11]; · (iexists _; isplitr; (· ipureintro; exact W.wS.read_unread _); iexact H11)
      isplitl [H12]; · (iexists _; isplitr; (· ipureintro; exact W.bS.read_unread _); iexact H12)
      isplitl [H13]; · (iexists _; isplitr; (· ipureintro; exact W.wPoolT.read_unread _); iexact H13)
      isplitl [H14]; · (iexists _; isplitr; (· ipureintro; exact W.wPwT.read_unread _); iexact H14)
      isplitl [H15]; · (iexists _; isplitr; (· ipureintro; exact W.wST.read_unread _); iexact H15)
      iexists _; isplitr; (· ipureintro; exact W.wOut.read_unread _)
      iexact H16
    isplitl [H17]; · iexists _; iexact H17
    isplitl [H18]; · iexists _; iexact H18
    isplitl [H19]
    · iexists _; isplitr; · (ipureintro; exact W.sums.read_unread _)
      iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    iexact H28

set_option maxHeartbeats 9000000 in
/-- The stores of the last visit: it finds the running sums and what the visit before kept, and writes the column sums too. -/
def runC (c : Dev nD) (i : grid0.Coords) (R : Refs) (W : R.Whole) (h0 : ¬first i) (h1 : last i)
    (x : Blocks F) (s : State F) :
    { L : Stores F // ∀ (E : Set ℕ) (K : PUnit → sProp 𝕄),
        iprop(inputs c R x ∗ (∃ d, owns (c : Thread nD τ) R.dz fullShare d)
          ∗ (∃ d, owns (c : Thread nD τ) R.ycat fullShare d)
          ∗ (∃ d, owns (c : Thread nD τ) R.sums fullShare d)
          ∗ owns (c : Thread nD τ) R.dwp fullShare s.dwp
          ∗ owns (c : Thread nD τ) R.dw2 fullShare s.dw2
          ∗ owns (c : Thread nD τ) R.dws fullShare s.dws
          ∗ owns (c : Thread nD τ) R.dbs fullShare s.dbs
          ∗ (∃ d, owns (c : Thread nD τ) R.past fullShare d)
          ∗ owns (c : Thread nD τ) R.future fullShare s.future
          ∗ owns (c : Thread nD τ) R.dy fullShare s.dy
          ∗ (∃ d, owns (c : Thread nD τ) R.dyNext fullShare d)
          ∗ owns (c : Thread nD τ) R.acc fullShare s.acc
          ∗ (iprop(inputs c R x ∗ (∃ f, R.dz.view.loc (c : Thread nD τ) ↦[R.dz.view.set]{fullShare} R.dz.view.writes (Elt F) f L.dz)
            ∗ (∃ f, R.ycat.view.loc (c : Thread nD τ) ↦[R.ycat.view.set]{fullShare} R.ycat.view.writes (Elt F) f L.ycat)
            ∗ (∃ f, R.sums.view.loc (c : Thread nD τ) ↦[R.sums.view.set]{fullShare} R.sums.view.writes (Elt F) f L.sums)
            ∗ (∃ f, R.dwp.view.loc (c : Thread nD τ) ↦[R.dwp.view.set]{fullShare} R.dwp.view.writes (Elt F) f L.dwp)
            ∗ (∃ f, R.dw2.view.loc (c : Thread nD τ) ↦[R.dw2.view.set]{fullShare} R.dw2.view.writes (Elt F) f L.dw2)
            ∗ (∃ f, R.dws.view.loc (c : Thread nD τ) ↦[R.dws.view.set]{fullShare} R.dws.view.writes (Elt F) f L.dws)
            ∗ (∃ f, R.dbs.view.loc (c : Thread nD τ) ↦[R.dbs.view.set]{fullShare} R.dbs.view.writes (Elt F) f L.dbs)
            ∗ (∃ f, R.past.view.loc (c : Thread nD τ) ↦[R.past.view.set]{fullShare} R.past.view.writes (Elt F) f L.past)
            ∗ (∃ f, R.future.view.loc (c : Thread nD τ) ↦[R.future.view.set]{fullShare} R.future.view.writes (Elt F) f L.future)
            ∗ (∃ f, R.dy.view.loc (c : Thread nD τ) ↦[R.dy.view.set]{fullShare} R.dy.view.writes (Elt F) f L.dy)
            ∗ (∃ f, R.dyNext.view.loc (c : Thread nD τ) ↦[R.dyNext.view.set]{fullShare} R.dyNext.view.writes (Elt F) f L.dyNext)
            ∗ (R.acc.view.loc (c : Thread nD τ) ↦[R.acc.view.set]{fullShare} R.acc.view.writes (Elt F) (W.acc.unread s.acc) L.acc)) -∗ K ⟨⟩))
        ⊢ wp frame (wpE (defs₀ (F := F)) Variants.none c none) E (body F i R W) K } := by
  refine ⟨⟨?_, ?_, ?_, ?_, ?_, ?_, ?_, ?_, ?_, ?_, ?_, ?_⟩, fun E K => ?run⟩
  case run =>
    unfold inputs owns
    iintro ⟨⟨⟨%f0, %e0, H0⟩, ⟨%f1, %e1, H1⟩, ⟨%f2, %e2, H2⟩, ⟨%f3, %e3, H3⟩, ⟨%f4, %e4, H4⟩, ⟨%f5, %e5, H5⟩, ⟨%f6,
      %e6, H6⟩, ⟨%f7, %e7, H7⟩, ⟨%f8, %e8, H8⟩, ⟨%f9, %e9, H9⟩, ⟨%f10, %e10, H10⟩, ⟨%f11, %e11, H11⟩, ⟨%f12, %e12,
      H12⟩, ⟨%f13, %e13, H13⟩, ⟨%f14, %e14, H14⟩, ⟨%f15, %e15, H15⟩, ⟨%f16, %e16, H16⟩⟩, ⟨%d17, %f17, -, H17⟩,
      ⟨%d18, %f18, -, H18⟩, ⟨%d19, %f19, -, H19⟩, ⟨%f20, %e20, H20⟩, ⟨%f21, %e21, H21⟩, ⟨%f22, %e22, H22⟩, ⟨%f23,
      %e23, H23⟩, ⟨%d24, %f24, -, H24⟩, ⟨%f25, %e25, H25⟩, ⟨%f26, %e26, H26⟩, ⟨%d27, %f27, -, H27⟩, ⟨%f28, %e28,
      H28⟩, Hk⟩
    obtain rfl := W.zm.eq_unread e0; obtain rfl := W.zh.eq_unread e1; obtain rfl := W.oc.eq_unread e2
    obtain rfl := W.dx.eq_unread e3; obtain rfl := W.dxNext.eq_unread e4; obtain rfl := W.gate.eq_unread e5
    obtain rfl := W.wConv.eq_unread e6; obtain rfl := W.wDw.eq_unread e7; obtain rfl := W.vec.eq_unread e8
    obtain rfl := W.wPool.eq_unread e9; obtain rfl := W.wPw.eq_unread e10; obtain rfl := W.wS.eq_unread e11
    obtain rfl := W.bS.eq_unread e12; obtain rfl := W.wPoolT.eq_unread e13; obtain rfl := W.wPwT.eq_unread e14
    obtain rfl := W.wST.eq_unread e15; obtain rfl := W.wOut.eq_unread e16; obtain rfl := W.dwp.eq_unread e20
    obtain rfl := W.dw2.eq_unread e21; obtain rfl := W.dws.eq_unread e22; obtain rfl := W.dbs.eq_unread e23
    obtain rfl := W.future.eq_unread e25; obtain rfl := W.dy.eq_unread e26; obtain rfl := W.acc.eq_unread e28
    dsimp only [body]
    simp only [cc0_mix_bwd_eq_skeleton]
    unfold cc0_mix_bwd_skel
    simp only [
      k0_part1_eq_skeleton, k0_part2_eq_skeleton, k0_part3_eq_skeleton, k0_part4_eq_skeleton,
      k0_part5_eq_skeleton, k0_part6_eq_skeleton, k0_part7_eq_skeleton, k0_part8_eq_skeleton,
      k0_part9_eq_skeleton, k0_part10_eq_skeleton, k0_part11_eq_skeleton, k0_part12_eq_skeleton,
      k0_part13_eq_skeleton, k0_part14_eq_skeleton, k0_part15_eq_skeleton, k0_part16_eq_skeleton,
      k0_part17_eq_skeleton, k0_part18_eq_skeleton, k0_part19_eq_skeleton, k0_part20_eq_skeleton,
      k0_part21_eq_skeleton, k0_part22_eq_skeleton, k0_part23_eq_skeleton, k0_part24_eq_skeleton,
      k0_part25_eq_skeleton, k0_part26_eq_skeleton, k0_part27_eq_skeleton, k0_part28_eq_skeleton,
      k0_part29_eq_skeleton, k0_part30_eq_skeleton, k0_part31_eq_skeleton, k0_part32_eq_skeleton,
      k0_part33_eq_skeleton, k0_part34_eq_skeleton, k0_part35_eq_skeleton, k0_part36_eq_skeleton,
      k0_part37_eq_skeleton, k0_part38_eq_skeleton, k0_part39_eq_skeleton, k0_part40_eq_skeleton,
      k0_part41_eq_skeleton, k0_part42_eq_skeleton, k0_part43_eq_skeleton, k0_part44_eq_skeleton,
      k0_part45_eq_skeleton, k0_part46_eq_skeleton, k0_part47_eq_skeleton, k0_part48_eq_skeleton,
      k0_part49_eq_skeleton, k0_part50_eq_skeleton, k0_part51_eq_skeleton, k0_part52_eq_skeleton,
      k0_part53_eq_skeleton, k0_part54_eq_skeleton, k0_part55_eq_skeleton, k0_part56_eq_skeleton,
      k0_part57_eq_skeleton, k0_part58_eq_skeleton, k0_part59_eq_skeleton, k0_part60_eq_skeleton,
      k0_part61_eq_skeleton, k0_part62_eq_skeleton, k0_part63_eq_skeleton, k0_part64_eq_skeleton,
      k0_part65_eq_skeleton, k0_part66_eq_skeleton, k0_part67_eq_skeleton, k0_part68_eq_skeleton,
      k0_part69_eq_skeleton, k0_part70_eq_skeleton, k0_part71_eq_skeleton, k0_part72_eq_skeleton,
      k0_part73_eq_skeleton, k0_part74_eq_skeleton, k0_part75_eq_skeleton, k0_part76_eq_skeleton,
      k0_part77_eq_skeleton, k0_part78_eq_skeleton, k0_part79_eq_skeleton, k0_part80_eq_skeleton,
      k0_part81_eq_skeleton, k0_part82_eq_skeleton, k0_part83_eq_skeleton, k0_part84_eq_skeleton,
      k0_part85_eq_skeleton, k0_part86_eq_skeleton, k0_part87_eq_skeleton, k0_part88_eq_skeleton,
      k0_part89_eq_skeleton, k0_part90_eq_skeleton, k0_part91_eq_skeleton, k0_part92_eq_skeleton,
      k0_part93_eq_skeleton, k0_part94_eq_skeleton, k0_part95_eq_skeleton, k0_part96_eq_skeleton,
      k0_part97_eq_skeleton, k0_part98_eq_skeleton, k0_part99_eq_skeleton, k0_part100_eq_skeleton,
      k0_part101_eq_skeleton, k0_part102_eq_skeleton, k0_part103_eq_skeleton, k0_part104_eq_skeleton,
      k0_part105_eq_skeleton, k0_part106_eq_skeleton, k0_part107_eq_skeleton, k0_part108_eq_skeleton,
      k0_part109_eq_skeleton, k0_part110_eq_skeleton, k0_part111_eq_skeleton, k0_part112_eq_skeleton,
      k0_part113_eq_skeleton, k0_part114_eq_skeleton, k0_part115_eq_skeleton, k0_part116_eq_skeleton,
      k0_part117_eq_skeleton, k0_part118_eq_skeleton, k0_part119_eq_skeleton, k0_part120_eq_skeleton,
      k0_part121_eq_skeleton, k0_part122_eq_skeleton, k0_part123_eq_skeleton, k0_part124_eq_skeleton,
      k0_part125_eq_skeleton, k0_part126_eq_skeleton, k0_part127_eq_skeleton, k0_part128_eq_skeleton,
      k0_part129_eq_skeleton, k0_part130_eq_skeleton, k0_part131_eq_skeleton, k0_part132_eq_skeleton,
      k0_part133_eq_skeleton, k0_part134_eq_skeleton, k0_part135_eq_skeleton, k0_part136_eq_skeleton,
      k0_part137_eq_skeleton, k0_part138_eq_skeleton, k0_part139_eq_skeleton, k0_part140_eq_skeleton,
      k0_part141_eq_skeleton, k0_part142_eq_skeleton, k0_part143_eq_skeleton, k0_part144_eq_skeleton,
      k0_part145_eq_skeleton, k0_part146_eq_skeleton, k0_part147_eq_skeleton, k0_part148_eq_skeleton,
      k0_part149_eq_skeleton, k0_part150_eq_skeleton, k0_part151_eq_skeleton, k0_part152_eq_skeleton,
      k0_part153_eq_skeleton, k0_part154_eq_skeleton, k0_part155_eq_skeleton, k0_part156_eq_skeleton,
      k0_part157_eq_skeleton, k0_part158_eq_skeleton, k0_part159_eq_skeleton, k0_part160_eq_skeleton,
      k0_part161_eq_skeleton, k0_part162_eq_skeleton, k0_part163_eq_skeleton, k0_part164_eq_skeleton,
      k0_part165_eq_skeleton, k0_part166_eq_skeleton, k0_part167_eq_skeleton, k0_part168_eq_skeleton,
      k0_part169_eq_skeleton, k0_part170_eq_skeleton, k0_part171_eq_skeleton, k0_part172_eq_skeleton,
      k0_part173_eq_skeleton, k0_part174_eq_skeleton, k0_part175_eq_skeleton, k0_part176_eq_skeleton,
      k0_part177_eq_skeleton, k0_part178_eq_skeleton, k0_part179_eq_skeleton, k0_part180_eq_skeleton,
      k0_part181_eq_skeleton, k0_part182_eq_skeleton, k0_part183_eq_skeleton, k0_part184_eq_skeleton,
      k0_part185_eq_skeleton, k0_part186_eq_skeleton, k0_part187_eq_skeleton, k0_part188_eq_skeleton,
      k0_part189_eq_skeleton, k0_part190_eq_skeleton, k0_part191_eq_skeleton, k0_part192_eq_skeleton,
      k0_part193_eq_skeleton, k0_part194_eq_skeleton, k0_part195_eq_skeleton, k0_part196_eq_skeleton,
      k0_part197_eq_skeleton, k0_part198_eq_skeleton, k0_part199_eq_skeleton, k0_part200_eq_skeleton,
      k0_part201_eq_skeleton, k0_part202_eq_skeleton, k0_part203_eq_skeleton, k0_part204_eq_skeleton,
      k0_part205_eq_skeleton, k0_part206_eq_skeleton, k0_part207_eq_skeleton, k0_part208_eq_skeleton,
      k0_part209_eq_skeleton, k0_part210_eq_skeleton, k0_part211_eq_skeleton, k0_part212_eq_skeleton,
      k0_part213_eq_skeleton, k0_part214_eq_skeleton, k0_part215_eq_skeleton, k0_part216_eq_skeleton,
      k0_part217_eq_skeleton, k0_part218_eq_skeleton, k0_part219_eq_skeleton, k0_part220_eq_skeleton,
      k0_part221_eq_skeleton]
    sl_exec (disch := first | sl_exact h0 | sl_exact h1)
    sl_unroll (rfl : k0_t1_loop.trips = 4)
    sl_exec (disch := first | sl_exact h0 | sl_exact h1)
    sl_step
    iapply Hk
    isplitl [H0 H1 H2 H3 H4 H5 H6 H7 H8 H9 H10 H11 H12 H13 H14 H15 H16]
    · isplitl [H0]; · (iexists _; isplitr; (· ipureintro; exact W.zm.read_unread _); iexact H0)
      isplitl [H1]; · (iexists _; isplitr; (· ipureintro; exact W.zh.read_unread _); iexact H1)
      isplitl [H2]; · (iexists _; isplitr; (· ipureintro; exact W.oc.read_unread _); iexact H2)
      isplitl [H3]; · (iexists _; isplitr; (· ipureintro; exact W.dx.read_unread _); iexact H3)
      isplitl [H4]; · (iexists _; isplitr; (· ipureintro; exact W.dxNext.read_unread _); iexact H4)
      isplitl [H5]; · (iexists _; isplitr; (· ipureintro; exact W.gate.read_unread _); iexact H5)
      isplitl [H6]; · (iexists _; isplitr; (· ipureintro; exact W.wConv.read_unread _); iexact H6)
      isplitl [H7]; · (iexists _; isplitr; (· ipureintro; exact W.wDw.read_unread _); iexact H7)
      isplitl [H8]; · (iexists _; isplitr; (· ipureintro; exact W.vec.read_unread _); iexact H8)
      isplitl [H9]; · (iexists _; isplitr; (· ipureintro; exact W.wPool.read_unread _); iexact H9)
      isplitl [H10]; · (iexists _; isplitr; (· ipureintro; exact W.wPw.read_unread _); iexact H10)
      isplitl [H11]; · (iexists _; isplitr; (· ipureintro; exact W.wS.read_unread _); iexact H11)
      isplitl [H12]; · (iexists _; isplitr; (· ipureintro; exact W.bS.read_unread _); iexact H12)
      isplitl [H13]; · (iexists _; isplitr; (· ipureintro; exact W.wPoolT.read_unread _); iexact H13)
      isplitl [H14]; · (iexists _; isplitr; (· ipureintro; exact W.wPwT.read_unread _); iexact H14)
      isplitl [H15]; · (iexists _; isplitr; (· ipureintro; exact W.wST.read_unread _); iexact H15)
      iexists _; isplitr; (· ipureintro; exact W.wOut.read_unread _)
      iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    iexact H28

end Cert.MixBwd
-- ==== Proof.MixBwd.Visit.lean ====
module

public import proofs.«01_k».proof.Proof.MixBwd.Run

/-!
# What a visit leaves

The stores of a visit cover each output, so what an output holds afterwards is a function of the visit's inputs and
of what the visit before left; the buffers a visit updates in place are read back over what they held.
-/

@[expose] public section

set_option maxRecDepth 16384

noncomputable section

namespace Cert.MixBwd

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The stores cover every buffer that is written afresh. -/
structure Covers (L : Stores F) : Prop where
  dz : ∀ y, ∃ p ∈ L.dz, y ∈ p.1.set
  ycat : ∀ y, ∃ p ∈ L.ycat, y ∈ p.1.set
  dwp : ∀ y, ∃ p ∈ L.dwp, y ∈ p.1.set
  dw2 : ∀ y, ∃ p ∈ L.dw2, y ∈ p.1.set
  dws : ∀ y, ∃ p ∈ L.dws, y ∈ p.1.set
  dbs : ∀ y, ∃ p ∈ L.dbs, y ∈ p.1.set
  future : ∀ y, ∃ p ∈ L.future, y ∈ p.1.set
  dy : ∀ y, ∃ p ∈ L.dy, y ∈ p.1.set

/-- The contents after the stores `L`, the column sums and the running rows given. -/
def after (L : Stores F) (sums : Vec F S64x256 .f32) (acc : Vec F S64x8x256 .f32) : State F where
  dz := View.canon L.dz
  ycat := View.canon L.ycat
  dwp := View.canon L.dwp
  dw2 := View.canon L.dw2
  dws := View.canon L.dws
  dbs := View.canon L.dbs
  future := View.canon L.future
  dy := View.canon L.dy
  sums := sums
  acc := acc

/-- The running rows after the stores `L`, made over `a`. -/
def rows (R : Refs) (W : R.Whole) (L : Stores F) (a : Vec F S64x8x256 .f32) : Vec F S64x8x256 .f32 :=
  R.acc.view.read (Elt F) (R.acc.view.writes (Elt F) (W.acc.unread a) L.acc)

theorem coversA (c : Dev nD) (i : grid0.Coords) (R : Refs) (W : R.Whole) (h0 : first i) (h1 : ¬last i) (x : Blocks F) :
    Covers (runA c i R W h0 h1 x).1 where
  dz := View.cover_of_tiledL _ S128x256.size (by sl_kernel_rfl)
  ycat := View.cover_of_tiledL _ S128x256.size (by sl_kernel_rfl)
  dwp := View.cover_of_tiledL _ S256x256.size (by sl_kernel_rfl)
  dw2 := View.cover_of_tiledL _ S256x256.size (by sl_kernel_rfl)
  dws := View.cover_of_tiledL _ S512x128.size (by sl_kernel_rfl)
  dbs := View.cover_of_tiledL _ S128x256.size (by sl_kernel_rfl)
  future := View.cover_of_tiledBy _ ![32, 256] (by sl_kernel_rfl)
  dy := View.cover_of_tiledL _ S512x1024.size (by sl_kernel_rfl)

theorem coversA_acc (c : Dev nD) (i : grid0.Coords) (R : Refs) (W : R.Whole) (h0 : first i) (h1 : ¬last i) (x : Blocks F) (y : S64x8x256.Idx) :
    ∃ p ∈ (runA c i R W h0 h1 x).1.acc, y ∈ p.1.set :=
  View.cover_of_wholeMem _ (by sl_whole_mem) y

/-- What the first visit leaves. -/
def atFirst (c : Dev nD) (i : grid0.Coords) (R : Refs) (W : R.Whole) (h0 : first i) (h1 : ¬last i) (x : Blocks F) : State F :=
  after (runA c i R W h0 h1 x).1 (View.canon []) (View.canon (runA c i R W h0 h1 x).1.acc)

theorem coversB (c : Dev nD) (i : grid0.Coords) (R : Refs) (W : R.Whole) (h0 : ¬first i) (h1 : ¬last i) (x : Blocks F) (s : State F) :
    Covers (runB c i R W h0 h1 x s).1 where
  dz := View.cover_of_tiledL _ S128x256.size (by sl_kernel_rfl)
  ycat := View.cover_of_tiledL _ S128x256.size (by sl_kernel_rfl)
  dwp := View.cover_of_tiledL _ S256x256.size (by sl_kernel_rfl)
  dw2 := View.cover_of_tiledL _ S256x256.size (by sl_kernel_rfl)
  dws := View.cover_of_tiledL _ S512x128.size (by sl_kernel_rfl)
  dbs := View.cover_of_tiledL _ S128x256.size (by sl_kernel_rfl)
  future := View.cover_of_tiledBy _ ![32, 256] (by sl_kernel_rfl)
  dy := View.cover_of_tiledL _ S512x1024.size (by sl_kernel_rfl)

/-- What a middle visit leaves. -/
def atMiddle (c : Dev nD) (i : grid0.Coords) (R : Refs) (W : R.Whole) (h0 : ¬first i) (h1 : ¬last i) (x : Blocks F) (s : State F) : State F :=
  after (runB c i R W h0 h1 x s).1 (View.canon []) (rows R W (runB c i R W h0 h1 x s).1 s.acc)

theorem coversC (c : Dev nD) (i : grid0.Coords) (R : Refs) (W : R.Whole) (h0 : ¬first i) (h1 : last i) (x : Blocks F) (s : State F) :
    Covers (runC c i R W h0 h1 x s).1 where
  dz := View.cover_of_tiledL _ S128x256.size (by sl_kernel_rfl)
  ycat := View.cover_of_tiledL _ S128x256.size (by sl_kernel_rfl)
  dwp := View.cover_of_tiledL _ S256x256.size (by sl_kernel_rfl)
  dw2 := View.cover_of_tiledL _ S256x256.size (by sl_kernel_rfl)
  dws := View.cover_of_tiledL _ S512x128.size (by sl_kernel_rfl)
  dbs := View.cover_of_tiledL _ S128x256.size (by sl_kernel_rfl)
  future := View.cover_of_tiledBy _ ![32, 256] (by sl_kernel_rfl)
  dy := View.cover_of_tiledL _ S512x1024.size (by sl_kernel_rfl)

theorem coversC_sums (c : Dev nD) (i : grid0.Coords) (R : Refs) (W : R.Whole) (h0 : ¬first i) (h1 : last i) (x : Blocks F) (s : State F)
    (y : S64x256.Idx) : ∃ p ∈ (runC c i R W h0 h1 x s).1.sums, y ∈ p.1.set :=
  View.cover_of_tiledL (runC c i R W h0 h1 x s).1.sums S1x256.size (by sl_kernel_rfl) y

/-- What the last visit leaves. -/
def atLast (c : Dev nD) (i : grid0.Coords) (R : Refs) (W : R.Whole) (h0 : ¬first i) (h1 : last i) (x : Blocks F) (s : State F) : State F :=
  after (runC c i R W h0 h1 x s).1 (View.canon (runC c i R W h0 h1 x s).1.sums) (rows R W (runC c i R W h0 h1 x s).1 s.acc)

/-- The buffers a visit may find at anything. -/
def loose (c : Dev nD) (R : Refs) : sProp 𝕄 :=
  iprop((∃ d, owns (c : Thread nD τ) R.dz fullShare d) ∗ (∃ d, owns (c : Thread nD τ) R.ycat fullShare d))

/-- The running outputs and the kernel's own buffers, as the state says. -/
def held (c : Dev nD) (R : Refs) (s : State F) : sProp 𝕄 :=
  iprop(owns (c : Thread nD τ) R.dwp fullShare s.dwp
    ∗ owns (c : Thread nD τ) R.dw2 fullShare s.dw2
    ∗ owns (c : Thread nD τ) R.dws fullShare s.dws
    ∗ owns (c : Thread nD τ) R.dbs fullShare s.dbs
    ∗ (∃ d, owns (c : Thread nD τ) R.past fullShare d)
    ∗ owns (c : Thread nD τ) R.future fullShare s.future
    ∗ owns (c : Thread nD τ) R.dy fullShare s.dy
    ∗ (∃ d, owns (c : Thread nD τ) R.dyNext fullShare d)
    ∗ owns (c : Thread nD τ) R.acc fullShare s.acc)

/-- The same buffers at anything. -/
def anyHeld (c : Dev nD) (R : Refs) : sProp 𝕄 :=
  iprop((∃ d, owns (c : Thread nD τ) R.dwp fullShare d)
    ∗ (∃ d, owns (c : Thread nD τ) R.dw2 fullShare d)
    ∗ (∃ d, owns (c : Thread nD τ) R.dws fullShare d)
    ∗ (∃ d, owns (c : Thread nD τ) R.dbs fullShare d)
    ∗ (∃ d, owns (c : Thread nD τ) R.past fullShare d)
    ∗ (∃ d, owns (c : Thread nD τ) R.future fullShare d)
    ∗ (∃ d, owns (c : Thread nD τ) R.dy fullShare d)
    ∗ (∃ d, owns (c : Thread nD τ) R.dyNext fullShare d)
    ∗ (∃ d, owns (c : Thread nD τ) R.acc fullShare d))

/-- What a visit writes afresh and what it hands on. -/
def left (c : Dev nD) (R : Refs) (s : State F) : sProp 𝕄 :=
  iprop(owns (c : Thread nD τ) R.dz fullShare s.dz ∗ owns (c : Thread nD τ) R.ycat fullShare s.ycat ∗ held c R s)

attribute [local irreducible] runA runB runC

/-- A buffer whose stores cover it holds what they say. -/
theorem owns_canon {S : Shape} {e : EltTy} (c : Dev nD) (M : Memref sig .tc .vmem S e) (L : List (View.Piece (Elt F) S e))
    (h : ∀ y, ∃ p ∈ L, y ∈ p.1.set) :
    iprop(∃ f, M.view.loc (c : Thread nD τ) ↦[M.view.set]{fullShare} M.view.writes (Elt F) f L)
      ⊢ (owns (c : Thread nD τ) M fullShare (View.canon L) : sProp 𝕄) := by
  iintro ⟨%f, H⟩
  unfold owns
  iexists _; isplitr
  swap; · iexact H
  ipureintro; exact View.read_writes_eq_canon _ _ _ h

set_option maxHeartbeats 4000000 in
/-- The first visit, from what it finds to what it leaves. -/
theorem visitFirst (c : Dev nD) (i : grid0.Coords) (R : Refs) (W : R.Whole) (h0 : first i) (h1 : ¬last i) (x : Blocks F)
    (d : Vec F S64x256 .f32) (E : Set ℕ) (K : PUnit → sProp 𝕄) :
    iprop(inputs c R x ∗ loose c R ∗ owns (c : Thread nD τ) R.sums fullShare d ∗ anyHeld c R
        ∗ (iprop(inputs c R x ∗ owns (c : Thread nD τ) R.sums fullShare d ∗ left c R (atFirst c i R W h0 h1 x)) -∗ K ⟨⟩))
      ⊢ wp frame (wpE (defs₀ (F := F)) Variants.none c none) E (body F i R W) K := by
  unfold loose anyHeld
  iintro ⟨HI, ⟨H17, H18⟩, H19, ⟨H20, H21, H22, H23, HS0, HS1, HS2, HS3, HS4⟩, Hk⟩
  iapply ((runA c i R W h0 h1 x).2 d E K)
  isplitl [HI]; · iexact HI
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [HS0]; · iexact HS0
  isplitl [HS1]; · iexact HS1
  isplitl [HS2]; · iexact HS2
  isplitl [HS3]; · iexact HS3
  isplitl [HS4]; · iexact HS4
  iintro ⟨HI, H17, H18, H19, H20, H21, H22, H23, ⟨%g0, HS0⟩, HS1, HS2, ⟨%g3, HS3⟩, HS4⟩
  iapply Hk
  isplitl [HI]; · iexact HI
  isplitl [H19]; · iexact H19
  unfold left held
  dsimp only [atFirst, after]
  isplitl [H17]; · iapply (owns_canon c R.dz _ (coversA c i R W h0 h1 x).dz); iexact H17
  isplitl [H18]; · iapply (owns_canon c R.ycat _ (coversA c i R W h0 h1 x).ycat); iexact H18
  isplitl [H20]; · iapply (owns_canon c R.dwp _ (coversA c i R W h0 h1 x).dwp); iexact H20
  isplitl [H21]; · iapply (owns_canon c R.dw2 _ (coversA c i R W h0 h1 x).dw2); iexact H21
  isplitl [H22]; · iapply (owns_canon c R.dws _ (coversA c i R W h0 h1 x).dws); iexact H22
  isplitl [H23]; · iapply (owns_canon c R.dbs _ (coversA c i R W h0 h1 x).dbs); iexact H23
  isplitl [HS0]; · iexists _; unfold owns; iexists _; isplitr; swap; iexact HS0; ipureintro; rfl
  isplitl [HS1]; · iapply (owns_canon c R.future _ (coversA c i R W h0 h1 x).future); iexact HS1
  isplitl [HS2]; · iapply (owns_canon c R.dy _ (coversA c i R W h0 h1 x).dy); iexact HS2
  isplitl [HS3]; · iexists _; unfold owns; iexists _; isplitr; swap; iexact HS3; ipureintro; rfl
  iapply (owns_canon c R.acc _ (coversA_acc c i R W h0 h1 x)); iexact HS4

set_option maxHeartbeats 4000000 in
/-- A middle visit, from what it finds to what it leaves. -/
theorem visitMiddle (c : Dev nD) (i : grid0.Coords) (R : Refs) (W : R.Whole) (h0 : ¬first i) (h1 : ¬last i) (x : Blocks F) (s : State F)
    (d : Vec F S64x256 .f32) (E : Set ℕ) (K : PUnit → sProp 𝕄) :
    iprop(inputs c R x ∗ loose c R ∗ owns (c : Thread nD τ) R.sums fullShare d ∗ held c R s
        ∗ (iprop(inputs c R x ∗ owns (c : Thread nD τ) R.sums fullShare d ∗ left c R (atMiddle c i R W h0 h1 x s)) -∗ K ⟨⟩))
      ⊢ wp frame (wpE (defs₀ (F := F)) Variants.none c none) E (body F i R W) K := by
  unfold loose held
  iintro ⟨HI, ⟨H17, H18⟩, H19, ⟨H20, H21, H22, H23, HS0, HS1, HS2, HS3, HS4⟩, Hk⟩
  iapply ((runB c i R W h0 h1 x s).2 d E K)
  isplitl [HI]; · iexact HI
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [HS0]; · iexact HS0
  isplitl [HS1]; · iexact HS1
  isplitl [HS2]; · iexact HS2
  isplitl [HS3]; · iexact HS3
  isplitl [HS4]; · iexact HS4
  iintro ⟨HI, H17, H18, H19, H20, H21, H22, H23, ⟨%g0, HS0⟩, HS1, HS2, ⟨%g3, HS3⟩, HS4⟩
  iapply Hk
  isplitl [HI]; · iexact HI
  isplitl [H19]; · iexact H19
  unfold left held
  dsimp only [atMiddle, after]
  isplitl [H17]; · iapply (owns_canon c R.dz _ (coversB c i R W h0 h1 x s).dz); iexact H17
  isplitl [H18]; · iapply (owns_canon c R.ycat _ (coversB c i R W h0 h1 x s).ycat); iexact H18
  isplitl [H20]; · iapply (owns_canon c R.dwp _ (coversB c i R W h0 h1 x s).dwp); iexact H20
  isplitl [H21]; · iapply (owns_canon c R.dw2 _ (coversB c i R W h0 h1 x s).dw2); iexact H21
  isplitl [H22]; · iapply (owns_canon c R.dws _ (coversB c i R W h0 h1 x s).dws); iexact H22
  isplitl [H23]; · iapply (owns_canon c R.dbs _ (coversB c i R W h0 h1 x s).dbs); iexact H23
  isplitl [HS0]; · iexists _; unfold owns; iexists _; isplitr; swap; iexact HS0; ipureintro; rfl
  isplitl [HS1]; · iapply (owns_canon c R.future _ (coversB c i R W h0 h1 x s).future); iexact HS1
  isplitl [HS2]; · iapply (owns_canon c R.dy _ (coversB c i R W h0 h1 x s).dy); iexact HS2
  isplitl [HS3]; · iexists _; unfold owns; iexists _; isplitr; swap; iexact HS3; ipureintro; rfl
  unfold owns; iexists _; isplitr; swap; · iexact HS4
  ipureintro; rfl

set_option maxHeartbeats 4000000 in
/-- The last visit, from what it finds to what it leaves. -/
theorem visitLast (c : Dev nD) (i : grid0.Coords) (R : Refs) (W : R.Whole) (h0 : ¬first i) (h1 : last i) (x : Blocks F) (s : State F)
    (E : Set ℕ) (K : PUnit → sProp 𝕄) :
    iprop(inputs c R x ∗ loose c R ∗ (∃ d, owns (c : Thread nD τ) R.sums fullShare d) ∗ held c R s
        ∗ (iprop(inputs c R x ∗ owns (c : Thread nD τ) R.sums fullShare (atLast c i R W h0 h1 x s).sums ∗ left c R (atLast c i R W h0 h1 x s)) -∗ K ⟨⟩))
      ⊢ wp frame (wpE (defs₀ (F := F)) Variants.none c none) E (body F i R W) K := by
  unfold loose held
  iintro ⟨HI, ⟨H17, H18⟩, H19, ⟨H20, H21, H22, H23, HS0, HS1, HS2, HS3, HS4⟩, Hk⟩
  iapply ((runC c i R W h0 h1 x s).2 E K)
  isplitl [HI]; · iexact HI
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [HS0]; · iexact HS0
  isplitl [HS1]; · iexact HS1
  isplitl [HS2]; · iexact HS2
  isplitl [HS3]; · iexact HS3
  isplitl [HS4]; · iexact HS4
  iintro ⟨HI, H17, H18, H19, H20, H21, H22, H23, ⟨%g0, HS0⟩, HS1, HS2, ⟨%g3, HS3⟩, HS4⟩
  iapply Hk
  isplitl [HI]; · iexact HI
  isplitl [H19]; · iapply (owns_canon c R.sums _ (coversC_sums c i R W h0 h1 x s)); iexact H19
  unfold left held
  dsimp only [atLast, after]
  isplitl [H17]; · iapply (owns_canon c R.dz _ (coversC c i R W h0 h1 x s).dz); iexact H17
  isplitl [H18]; · iapply (owns_canon c R.ycat _ (coversC c i R W h0 h1 x s).ycat); iexact H18
  isplitl [H20]; · iapply (owns_canon c R.dwp _ (coversC c i R W h0 h1 x s).dwp); iexact H20
  isplitl [H21]; · iapply (owns_canon c R.dw2 _ (coversC c i R W h0 h1 x s).dw2); iexact H21
  isplitl [H22]; · iapply (owns_canon c R.dws _ (coversC c i R W h0 h1 x s).dws); iexact H22
  isplitl [H23]; · iapply (owns_canon c R.dbs _ (coversC c i R W h0 h1 x s).dbs); iexact H23
  isplitl [HS0]; · iexists _; unfold owns; iexists _; isplitr; swap; iexact HS0; ipureintro; rfl
  isplitl [HS1]; · iapply (owns_canon c R.future _ (coversC c i R W h0 h1 x s).future); iexact HS1
  isplitl [HS2]; · iapply (owns_canon c R.dy _ (coversC c i R W h0 h1 x s).dy); iexact HS2
  isplitl [HS3]; · iexists _; unfold owns; iexists _; isplitr; swap; iexact HS3; ipureintro; rfl
  unfold owns; iexists _; isplitr; swap; · iexact HS4
  ipureintro; rfl

end Cert.MixBwd
-- ==== Proof.MixBwd.Frame.lean ====
module

public import proofs.«01_k».proof.Proof.MixBwd.Visit
public import Idealize.ShloMosaic.Lib.Claim

/-!
# The frame of the mixer's backward pass

The visits of the grid put together: the buffers of each visit, what each leaves, and the launch around them.
-/

@[expose] public section

set_option maxRecDepth 16384

noncomputable section

namespace Cert.MixBwd

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (a : Loc nD τ sig) → Buf (Elt F) a) (ρ : Dev nD → PrngReg)

/-- The kernel's first conditional is taken at the first visit only. -/
theorem first_iff : ∀ t : Fin cfg0.N, first (grid0.coords t) ↔ t.val = 0 :=
  (fun t => by
    have ht : t.val < 32 := Nat.lt_of_lt_of_eq t.isLt N_0
    have e0 : (grid0.coords t 0).val = t.val / 1 % 32 := Pipeline.Grid.coords_val t 0 (by decide) rfl
    have e1 : t.val = 0 ↔ t.val % 32 = 0 := by omega
    rw [e1]
    simp only [first, e0]
    word_cmp
   : ∀ t : Fin grid0.N, first (grid0.coords t) ↔ t.val = 0)

/-- The kernel's last conditional is taken at the last visit only. -/
theorem last_iff : ∀ t : Fin cfg0.N, last (grid0.coords t) ↔ t.val = 31 :=
  (fun t => by
    have ht : t.val < 32 := Nat.lt_of_lt_of_eq t.isLt N_0
    have e0 : (grid0.coords t 0).val = t.val / 1 % 32 := Pipeline.Grid.coords_val t 0 (by decide) rfl
    have e1 : t.val = 31 ↔ t.val % 32 = 31 := by omega
    rw [e1]
    simp only [last, k0_cond2, e0]
    word_cmp
   : ∀ t : Fin grid0.N, last (grid0.coords t) ↔ t.val = 31)

/-- The column sums are untouched before the last visit. -/
theorem idle_sums : ∀ t : Fin cfg0.N, ¬last (grid0.coords t) → cfg0.idle 19 (grid0.coords t) = true := by decide +kernel

/-- The last visit writes the column sums. -/
theorem live_sums : ∀ t : Fin cfg0.N, last (grid0.coords t) → cfg0.idle 19 (grid0.coords t) = false := by decide +kernel

/-- The buffers of the visit `t`. -/
abbrev refs (t : Fin cfg0.N) : Refs where
  zm := win0_0.stage (cfg0.slots t 0)
  zh := win0_1.stage (cfg0.slots t 1)
  oc := win0_2.stage (cfg0.slots t 2)
  dx := win0_3.stage (cfg0.slots t 3)
  dxNext := win0_4.stage (cfg0.slots t 4)
  gate := win0_5.stage (cfg0.slots t 5)
  wConv := win0_6.stage (cfg0.slots t 6)
  wDw := win0_7.stage (cfg0.slots t 7)
  vec := win0_8.stage (cfg0.slots t 8)
  wPool := win0_9.stage (cfg0.slots t 9)
  wPw := win0_10.stage (cfg0.slots t 10)
  wS := win0_11.stage (cfg0.slots t 11)
  bS := win0_12.stage (cfg0.slots t 12)
  wPoolT := win0_13.stage (cfg0.slots t 13)
  wPwT := win0_14.stage (cfg0.slots t 14)
  wST := win0_15.stage (cfg0.slots t 15)
  wOut := win0_16.stage (cfg0.slots t 16)
  dz := win0_17.stage (cfg0.slots t 17)
  ycat := win0_18.stage (cfg0.slots t 18)
  sums := win0_19.stage (cfg0.slots t 19)
  dwp := win0_20.stage (cfg0.slots t 20)
  dw2 := win0_21.stage (cfg0.slots t 21)
  dws := win0_22.stage (cfg0.slots t 22)
  dbs := win0_23.stage (cfg0.slots t 23)
  past := Memref.whole cc0_scratch0
  future := Memref.whole cc0_scratch1
  dy := Memref.whole cc0_scratch2
  dyNext := Memref.whole cc0_scratch3
  acc := Memref.whole cc0_scratch4

theorem whole (t : Fin cfg0.N) : (refs t).Whole where
  zm := hstage0_0 ((cfg0.slots t 0).cast nbuf0_0)
  zh := hstage0_1 ((cfg0.slots t 1).cast nbuf0_1)
  oc := hstage0_2 ((cfg0.slots t 2).cast nbuf0_2)
  dx := hstage0_3 ((cfg0.slots t 3).cast nbuf0_3)
  dxNext := hstage0_4 ((cfg0.slots t 4).cast nbuf0_4)
  gate := hstage0_5 ((cfg0.slots t 5).cast nbuf0_5)
  wConv := hstage0_6 ((cfg0.slots t 6).cast nbuf0_6)
  wDw := hstage0_7 ((cfg0.slots t 7).cast nbuf0_7)
  vec := hstage0_8 ((cfg0.slots t 8).cast nbuf0_8)
  wPool := hstage0_9 ((cfg0.slots t 9).cast nbuf0_9)
  wPw := hstage0_10 ((cfg0.slots t 10).cast nbuf0_10)
  wS := hstage0_11 ((cfg0.slots t 11).cast nbuf0_11)
  bS := hstage0_12 ((cfg0.slots t 12).cast nbuf0_12)
  wPoolT := hstage0_13 ((cfg0.slots t 13).cast nbuf0_13)
  wPwT := hstage0_14 ((cfg0.slots t 14).cast nbuf0_14)
  wST := hstage0_15 ((cfg0.slots t 15).cast nbuf0_15)
  wOut := hstage0_16 ((cfg0.slots t 16).cast nbuf0_16)
  dz := hstage0_17 ((cfg0.slots t 17).cast nbuf0_17)
  ycat := hstage0_18 ((cfg0.slots t 18).cast nbuf0_18)
  sums := hstage0_19 ((cfg0.slots t 19).cast nbuf0_19)
  dwp := hstage0_20 ((cfg0.slots t 20).cast nbuf0_20)
  dw2 := hstage0_21 ((cfg0.slots t 21).cast nbuf0_21)
  dws := hstage0_22 ((cfg0.slots t 22).cast nbuf0_22)
  dbs := hstage0_23 ((cfg0.slots t 23).cast nbuf0_23)
  past := Memref.isWhole_whole _
  future := Memref.isWhole_whole _
  dy := Memref.isWhole_whole _
  dyNext := Memref.isWhole_whole _
  acc := Memref.isWhole_whole _

/-- The blocks of the inputs at the visit `t`. -/
abbrev blocks (c : Dev nD) (t : Fin cfg0.N) : Blocks F where
  zm := iblk m c 0 t
  zh := iblk m c 1 t
  oc := iblk m c 2 t
  dx := iblk m c 3 t
  dxNext := iblk m c 4 t
  gate := iblk m c 5 t
  wConv := iblk m c 6 t
  wDw := iblk m c 7 t
  vec := iblk m c 8 t
  wPool := iblk m c 9 t
  wPw := iblk m c 10 t
  wS := iblk m c 11 t
  bS := iblk m c 12 t
  wPoolT := iblk m c 13 t
  wPwT := iblk m c 14 t
  wST := iblk m c 15 t
  wOut := iblk m c 16 t

/-- What the visit `n` leaves. -/
def leftAt (c : Dev nD) : (n : ℕ) → n < cfg0.N → State F
  | 0, h => atFirst c (grid0.coords ⟨0, h⟩) (refs ⟨0, h⟩) (whole ⟨0, h⟩) ((first_iff ⟨0, h⟩).mpr rfl)
      (fun e => Nat.noConfusion ((last_iff ⟨0, h⟩).mp e)) (blocks m c ⟨0, h⟩)
  | n + 1, h =>
    if e : n + 1 = 31 then
      atLast c (grid0.coords ⟨n + 1, h⟩) (refs ⟨n + 1, h⟩) (whole ⟨n + 1, h⟩)
        (fun e => absurd ((first_iff ⟨n + 1, h⟩).mp e) (Nat.succ_ne_zero n)) ((last_iff ⟨n + 1, h⟩).mpr e)
        (blocks m c ⟨n + 1, h⟩) (leftAt c n (Nat.lt_of_succ_lt h))
    else
      atMiddle c (grid0.coords ⟨n + 1, h⟩) (refs ⟨n + 1, h⟩) (whole ⟨n + 1, h⟩)
        (fun e => absurd ((first_iff ⟨n + 1, h⟩).mp e) (Nat.succ_ne_zero n)) (fun e' => e ((last_iff ⟨n + 1, h⟩).mp e'))
        (blocks m c ⟨n + 1, h⟩) (leftAt c n (Nat.lt_of_succ_lt h))

/-- What the visit before `t` leaves. -/
abbrev leftBefore (c : Dev nD) (t : Fin cfg0.N) : State F := leftAt m c (t.val - 1) (Nat.lt_of_le_of_lt (Nat.sub_le _ _) t.isLt)

theorem leftAt_first (c : Dev nD) (t : Fin cfg0.N) (h0 : first (grid0.coords t)) (h1 : ¬last (grid0.coords t)) :
    leftAt m c t.val t.isLt = atFirst c (grid0.coords t) (refs t) (whole t) h0 h1 (blocks m c t) := by
  have h := (first_iff t).mp h0
  obtain ⟨n, hn⟩ := t
  obtain rfl : n = 0 := h
  rfl

theorem leftAt_middle (c : Dev nD) (t : Fin cfg0.N) (h0 : ¬first (grid0.coords t)) (h1 : ¬last (grid0.coords t)) :
    leftAt m c t.val t.isLt = atMiddle c (grid0.coords t) (refs t) (whole t) h0 h1 (blocks m c t) (leftBefore m c t) := by
  have h := (first_iff t).not.mp h0
  have h' := (last_iff t).not.mp h1
  obtain ⟨n, hn⟩ := t
  cases n with
  | zero => exact absurd rfl h
  | succ n => exact dif_neg h'

theorem leftAt_last (c : Dev nD) (t : Fin cfg0.N) (h0 : ¬first (grid0.coords t)) (h1 : last (grid0.coords t)) :
    leftAt m c t.val t.isLt = atLast c (grid0.coords t) (refs t) (whole t) h0 h1 (blocks m c t) (leftBefore m c t) := by
  have h := (first_iff t).not.mp h0
  have h' := (last_iff t).mp h1
  obtain ⟨n, hn⟩ := t
  cases n with
  | zero => exact absurd rfl h
  | succ n => exact dif_pos h'

/-- The kernel's own buffers, as the state says. -/
def kept (c : Dev nD) (s : State F) : sProp 𝕄 :=
  iprop(iprop((∃ d, owns (c : Thread nD τ) (Memref.whole cc0_scratch0) fullShare d)
    ∗ owns (c : Thread nD τ) (Memref.whole cc0_scratch1) fullShare s.future
    ∗ owns (c : Thread nD τ) (Memref.whole cc0_scratch2) fullShare s.dy
    ∗ (∃ d, owns (c : Thread nD τ) (Memref.whole cc0_scratch3) fullShare d)
    ∗ owns (c : Thread nD τ) (Memref.whole cc0_scratch4) fullShare s.acc)
    ∗ (∃ r, prngReg c r))

/-- What holds between the visits. -/
def between (c : Dev nD) : (n : ℕ) → n ≤ cfg0.N → sProp 𝕄
  | 0, _ => Pipeline.ΦA spec0 c
  | n + 1, h => kept c (leftAt m c n h)

theorem between_first (c : Dev nD) (n : ℕ) (h : n ≤ cfg0.N) (e : n = 0) : between m c n h = Pipeline.ΦA spec0 c := by
  subst e; rfl

theorem between_later (c : Dev nD) (n : ℕ) (h : n ≤ cfg0.N) (e : n ≠ 0) :
    between m c n h = kept c (leftAt m c (n - 1) (by omega)) := by
  cases n with
  | zero => exact absurd rfl e
  | succ n => rfl

theorem scratch_eq (c : Dev nD) : (Pipeline.ΦA spec0 c : sProp 𝕄)
    = iprop(iprop((∃ d, owns (c : Thread nD τ) (Memref.whole cc0_scratch0) fullShare d)
      ∗ (∃ d, owns (c : Thread nD τ) (Memref.whole cc0_scratch1) fullShare d)
      ∗ (∃ d, owns (c : Thread nD τ) (Memref.whole cc0_scratch2) fullShare d)
      ∗ (∃ d, owns (c : Thread nD τ) (Memref.whole cc0_scratch3) fullShare d)
      ∗ (∃ d, owns (c : Thread nD τ) (Memref.whole cc0_scratch4) fullShare d))
      ∗ (∃ r, prngReg c r)) := by
  unfold Pipeline.ΦA; rw [scopedRest0_eq]; simp only [owns_whole]; try rfl

/-- The data of the launch. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => (leftAt m c t.val t.isLt).dz
    | ⟨18, _⟩ => (leftAt m c t.val t.isLt).ycat
    | ⟨19, _⟩ => (leftAt m c t.val t.isLt).sums
    | ⟨20, _⟩ => (leftAt m c t.val t.isLt).dwp
    | ⟨21, _⟩ => (leftAt m c t.val t.isLt).dw2
    | ⟨22, _⟩ => (leftAt m c t.val t.isLt).dws
    | ⟨23, _⟩ => (leftAt m c t.val t.isLt).dbs
    | ⟨_ + 24, h⟩ => absurd h (Nat.not_lt.2 (Nat.le_add_left _ _))
  Φ t := between m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem Φ_castSucc (c : Dev nD) (t : Fin cfg0.N) :
    (dats m 0 c).Φ t.castSucc = between m c t.val (Nat.le_of_lt t.isLt) := by
  dsimp only [dats]; exact Pipeline.Dat.Φ_castSucc (between m c) t

/-- A buffer that is not written back after the visit before still holds what that visit left. -/
theorem before_kept (c : Dev nD) (w : Fin cfg0.W) (hw : (cfg0.win w).isOut = true)
    (hf : ∀ t : Fin cfg0.N, (cfg0.win w).flush t = true ↔ t.val % 32 = 31) (hl : ∀ i, cfg0.idle w i = false)
    (hc : ∀ (i : cfg0.grid.Coords) a, (cfg0.win w).clip i a = none) (t : Fin cfg0.N) (h : t.val ≠ 0) (d) :
    (dats m 0 c).before w t d = (dats m 0 c).after w ⟨t.val - 1, Nat.lt_of_le_of_lt (Nat.sub_le _ _) t.isLt⟩ :=
  Dat.before_out_kept _ w hw t h (Bool.eq_false_iff.mpr fun e => by
    have := (hf _).mp e
    have hN : t.val < 32 := Nat.lt_of_lt_of_eq t.isLt N_0
    dsimp only at this; omega) hl hc d

theorem leaves_live (c : Dev nD) (w : Fin cfg0.W) (t : Fin cfg0.N) (h : cfg0.idle w (grid0.coords t) = false) :
    (dats m 0 c).leavesExact w t
      = owns (c : Thread nD τ) ((cfg0.win w).stage (cfg0.slots t w)) fullShare ((dats m 0 c).after w t) := by
  unfold Dat.leavesExact; rw [h]

/-- What a visit is given, window by window. -/
def given (c : Dev nD) (t : Fin cfg0.N) : sProp 𝕄 :=
  iprop((dats m 0 c).Φ t.castSucc ∗ (dats m 0 c).owesAt () t.castSucc
    ∗ (∃ d, owns (c : Thread nD τ) (refs t).zm fullShare ((dats m 0 c).before 0 t d))
    ∗ (∃ d, owns (c : Thread nD τ) (refs t).zh fullShare ((dats m 0 c).before 1 t d))
    ∗ (∃ d, owns (c : Thread nD τ) (refs t).oc fullShare ((dats m 0 c).before 2 t d))
    ∗ (∃ d, owns (c : Thread nD τ) (refs t).dx fullShare ((dats m 0 c).before 3 t d))
    ∗ (∃ d, owns (c : Thread nD τ) (refs t).dxNext fullShare ((dats m 0 c).before 4 t d))
    ∗ (∃ d, owns (c : Thread nD τ) (refs t).gate fullShare ((dats m 0 c).before 5 t d))
    ∗ (∃ d, owns (c : Thread nD τ) (refs t).wConv fullShare ((dats m 0 c).before 6 t d))
    ∗ (∃ d, owns (c : Thread nD τ) (refs t).wDw fullShare ((dats m 0 c).before 7 t d))
    ∗ (∃ d, owns (c : Thread nD τ) (refs t).vec fullShare ((dats m 0 c).before 8 t d))
    ∗ (∃ d, owns (c : Thread nD τ) (refs t).wPool fullShare ((dats m 0 c).before 9 t d))
    ∗ (∃ d, owns (c : Thread nD τ) (refs t).wPw fullShare ((dats m 0 c).before 10 t d))
    ∗ (∃ d, owns (c : Thread nD τ) (refs t).wS fullShare ((dats m 0 c).before 11 t d))
    ∗ (∃ d, owns (c : Thread nD τ) (refs t).bS fullShare ((dats m 0 c).before 12 t d))
    ∗ (∃ d, owns (c : Thread nD τ) (refs t).wPoolT fullShare ((dats m 0 c).before 13 t d))
    ∗ (∃ d, owns (c : Thread nD τ) (refs t).wPwT fullShare ((dats m 0 c).before 14 t d))
    ∗ (∃ d, owns (c : Thread nD τ) (refs t).wST fullShare ((dats m 0 c).before 15 t d))
    ∗ (∃ d, owns (c : Thread nD τ) (refs t).wOut fullShare ((dats m 0 c).before 16 t d))
    ∗ (∃ d, owns (c : Thread nD τ) (refs t).dz fullShare ((dats m 0 c).before 17 t d))
    ∗ (∃ d, owns (c : Thread nD τ) (refs t).ycat fullShare ((dats m 0 c).before 18 t d))
    ∗ (∃ d, owns (c : Thread nD τ) (refs t).sums fullShare ((dats m 0 c).before 19 t d))
    ∗ (∃ d, owns (c : Thread nD τ) (refs t).dwp fullShare ((dats m 0 c).before 20 t d))
    ∗ (∃ d, owns (c : Thread nD τ) (refs t).dw2 fullShare ((dats m 0 c).before 21 t d))
    ∗ (∃ d, owns (c : Thread nD τ) (refs t).dws fullShare ((dats m 0 c).before 22 t d))
    ∗ (∃ d, owns (c : Thread nD τ) (refs t).dbs fullShare ((dats m 0 c).before 23 t d)))

/-- What a visit returns, window by window. -/
def returned (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t
    ∗ (dats m 0 c).leavesExact 23 t)

/-- The windows taken apart: the inputs hold their blocks. -/
theorem given_open (c : Dev nD) (t : Fin cfg0.N) :
    given m c t ⊢ iprop(between m c t.val (Nat.le_of_lt t.isLt) ∗ (dats m 0 c).owesAt () t.castSucc
      ∗ inputs c (refs t) (blocks m c t)
      ∗ (∃ d, owns (c : Thread nD τ) (refs t).dz fullShare ((dats m 0 c).before 17 t d))
      ∗ (∃ d, owns (c : Thread nD τ) (refs t).ycat fullShare ((dats m 0 c).before 18 t d))
      ∗ (∃ d, owns (c : Thread nD τ) (refs t).sums fullShare ((dats m 0 c).before 19 t d))
      ∗ (∃ d, owns (c : Thread nD τ) (refs t).dwp fullShare ((dats m 0 c).before 20 t d))
      ∗ (∃ d, owns (c : Thread nD τ) (refs t).dw2 fullShare ((dats m 0 c).before 21 t d))
      ∗ (∃ d, owns (c : Thread nD τ) (refs t).dws fullShare ((dats m 0 c).before 22 t d))
      ∗ (∃ d, owns (c : Thread nD τ) (refs t).dbs fullShare ((dats m 0 c).before 23 t d))) := by
  unfold given inputs
  rw [Φ_castSucc]
  simp only [before0_0_of m (dats m 0 c) (A_eq m c 0) (fun t => by dsimp only [dats]),
    before0_1_of m (dats m 0 c) (A_eq m c 1) (fun t => by dsimp only [dats]),
    before0_2_of m (dats m 0 c) (A_eq m c 2) (fun t => by dsimp only [dats]),
    before0_3_of m (dats m 0 c) (A_eq m c 3) (fun t => by dsimp only [dats]),
    before0_4_of m (dats m 0 c) (A_eq m c 4) (fun t => by dsimp only [dats]),
    before0_5_of m (dats m 0 c) (A_eq m c 5) (fun t => by dsimp only [dats]),
    before0_6_of m (dats m 0 c) (A_eq m c 6) (fun t => by dsimp only [dats]),
    before0_7_of m (dats m 0 c) (A_eq m c 7) (fun t => by dsimp only [dats]),
    before0_8_of m (dats m 0 c) (A_eq m c 8) (fun t => by dsimp only [dats]),
    before0_9_of m (dats m 0 c) (A_eq m c 9) (fun t => by dsimp only [dats]),
    before0_10_of m (dats m 0 c) (A_eq m c 10) (fun t => by dsimp only [dats]),
    before0_11_of m (dats m 0 c) (A_eq m c 11) (fun t => by dsimp only [dats]),
    before0_12_of m (dats m 0 c) (A_eq m c 12) (fun t => by dsimp only [dats]),
    before0_13_of m (dats m 0 c) (A_eq m c 13) (fun t => by dsimp only [dats]),
    before0_14_of m (dats m 0 c) (A_eq m c 14) (fun t => by dsimp only [dats]),
    before0_15_of m (dats m 0 c) (A_eq m c 15) (fun t => by dsimp only [dats]),
    before0_16_of m (dats m 0 c) (A_eq m c 16) (fun t => by dsimp only [dats])]
  iintro ⟨Hb, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, Hrest⟩
  isplitl [Hb]; · iexact Hb
  isplitl [Ho]; · iexact Ho
  isplitl [H0 H1 H2 H3 H4 H5 H6 H7 H8 H9 H10 H11 H12 H13 H14 H15 H16]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  iexact Hrest

/-- What a visit leaves, given back window by window. -/
theorem returned_close (c : Dev nD) (t : Fin cfg0.N) :
    iprop((dats m 0 c).owesAt () t.castSucc ∗ inputs c (refs t) (blocks m c t)
      ∗ left c (refs t) (leftAt m c t.val t.isLt) ∗ (dats m 0 c).leavesExact 19 t ∗ (∃ r, prngReg c r)) ⊢ returned m c t := by
  unfold returned inputs left held
  rw [show (dats m 0 c).owesAt () t.succ = (dats m 0 c).owesAt () t.castSucc from rfl,
    show (dats m 0 c).Φ t.succ = kept c (leftAt m c t.val t.isLt) from rfl,
    leaves_live m c 0 t rfl, leaves_live m c 1 t rfl, leaves_live m c 2 t rfl, leaves_live m c 3 t rfl, leaves_live m c 4 t rfl, leaves_live m c 5 t rfl, leaves_live m c 6 t rfl, leaves_live m c 7 t rfl, leaves_live m c 8 t rfl, leaves_live m c 9 t rfl, leaves_live m c 10 t rfl, leaves_live m c 11 t rfl, leaves_live m c 12 t rfl, leaves_live m c 13 t rfl, leaves_live m c 14 t rfl, leaves_live m c 15 t rfl, leaves_live m c 16 t rfl, leaves_live m c 17 t rfl, leaves_live m c 18 t rfl, leaves_live m c 20 t rfl, leaves_live m c 21 t rfl, leaves_live m c 22 t rfl, leaves_live m c 23 t rfl]
  unfold kept
  iintro ⟨Ho, ⟨H0, H1, H2, H3, H4, H5, H6, H7, H8, H9, H10, H11, H12, H13, H14, H15, H16⟩, ⟨H17, H18, H20, H21, H22, H23, HS0, HS1, HS2, HS3, HS4⟩, H19, Hg⟩
  isplitl [HS0 HS1 HS2 HS3 HS4 Hg]
  · isplitr [Hg]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iexact H23

set_option maxHeartbeats 4000000 in
theorem visit_first (c : Dev nD) (t : Fin cfg0.N) (h0 : first (grid0.coords t)) (h1 : ¬last (grid0.coords t)) :
    given m c t ⊢ wp frame (wpE (defs₀ (F := F)) Variants.none c none) Set.univ (bodyAt0 t) (fun _ => returned m c t) := by
  refine (given_open m c t).trans ?_
  rw [between_first m c _ _ ((first_iff t).mp h0), scratch_eq]
  iintro ⟨⟨⟨HS0, HS1, HS2, HS3, HS4⟩, Hg⟩, Ho, HI, ⟨%d17, H17⟩, ⟨%d18, H18⟩, ⟨%d19, H19⟩, ⟨%d20, H20⟩, ⟨%d21, H21⟩, ⟨%d22, H22⟩, ⟨%d23, H23⟩⟩
  iapply (visitFirst c (grid0.coords t) (refs t) (whole t) h0 h1 (blocks m c t) ((dats m 0 c).before 19 t d19) Set.univ
    (fun _ => returned m c t))
  isplitl [HI]; · iexact HI
  isplitl [H17 H18]
  · unfold loose
    isplitl [H17]; · iexists _; iexact H17
    iexists _; iexact H18
  isplitl [H19]; · iexact H19
  isplitl [H20 H21 H22 H23 HS0 HS1 HS2 HS3 HS4]
  · unfold anyHeld
    isplitl [H20]; · iexists _; iexact H20
    isplitl [H21]; · iexists _; iexact H21
    isplitl [H22]; · iexists _; iexact H22
    isplitl [H23]; · iexists _; iexact H23
    isplitl [HS0]; · iexact HS0
    isplitl [HS1]; · iexact HS1
    isplitl [HS2]; · iexact HS2
    isplitl [HS3]; · iexact HS3
    iexact HS4
  iintro ⟨HI, H19, HL⟩
  iapply (returned_close m c t)
  isplitl [Ho]; · iexact Ho
  isplitl [HI]; · iexact HI
  isplitl [HL]; · rw [leftAt_first m c t h0 h1]; iexact HL
  isplitl [H19]
  · rw [Dat.leavesExact_idle (dats m 0 c) 19 t (idle_sums t h1) (Bool.eq_false_iff.mpr fun e =>
      h1 ((last_iff t).mpr (by have := (flush0_19 t).mp e; have hN : t.val < 32 := Nat.lt_of_lt_of_eq t.isLt N_0; omega)))]
    iexists _; iexact H19
  iexact Hg

set_option maxHeartbeats 4000000 in
theorem visit_middle (c : Dev nD) (t : Fin cfg0.N) (h0 : ¬first (grid0.coords t)) (h1 : ¬last (grid0.coords t)) :
    given m c t ⊢ wp frame (wpE (defs₀ (F := F)) Variants.none c none) Set.univ (bodyAt0 t) (fun _ => returned m c t) := by
  refine (given_open m c t).trans ?_
  have e := (first_iff t).not.mp h0
  rw [between_later m c _ _ e]
  unfold kept
  iintro ⟨⟨⟨HS0, HS1, HS2, HS3, HS4⟩, Hg⟩, Ho, HI, ⟨%d17, H17⟩, ⟨%d18, H18⟩, ⟨%d19, H19⟩, ⟨%d20, H20⟩, ⟨%d21, H21⟩, ⟨%d22, H22⟩, ⟨%d23, H23⟩⟩
  rw [before_kept m c 20 rfl flush0_20 (fun _ => rfl) (fun _ _ => rfl) t e, before_kept m c 21 rfl flush0_21 (fun _ => rfl) (fun _ _ => rfl) t e,
    before_kept m c 22 rfl flush0_22 (fun _ => rfl) (fun _ _ => rfl) t e, before_kept m c 23 rfl flush0_23 (fun _ => rfl) (fun _ _ => rfl) t e]
  iapply (visitMiddle c (grid0.coords t) (refs t) (whole t) h0 h1 (blocks m c t) (leftBefore m c t) ((dats m 0 c).before 19 t d19) Set.univ
    (fun _ => returned m c t))
  isplitl [HI]; · iexact HI
  isplitl [H17 H18]
  · unfold loose
    isplitl [H17]; · iexists _; iexact H17
    iexists _; iexact H18
  isplitl [H19]; · iexact H19
  isplitl [H20 H21 H22 H23 HS0 HS1 HS2 HS3 HS4]
  · unfold held
    isplitl [H20]; · iexact H20
    isplitl [H21]; · iexact H21
    isplitl [H22]; · iexact H22
    isplitl [H23]; · iexact H23
    isplitl [HS0]; · iexact HS0
    isplitl [HS1]; · iexact HS1
    isplitl [HS2]; · iexact HS2
    isplitl [HS3]; · iexact HS3
    iexact HS4
  iintro ⟨HI, H19, HL⟩
  iapply (returned_close m c t)
  isplitl [Ho]; · iexact Ho
  isplitl [HI]; · iexact HI
  isplitl [HL]; · rw [leftAt_middle m c t h0 h1]; iexact HL
  isplitl [H19]
  · rw [Dat.leavesExact_idle (dats m 0 c) 19 t (idle_sums t h1) (Bool.eq_false_iff.mpr fun e =>
      h1 ((last_iff t).mpr (by have := (flush0_19 t).mp e; have hN : t.val < 32 := Nat.lt_of_lt_of_eq t.isLt N_0; omega)))]
    iexists _; iexact H19
  iexact Hg

set_option maxHeartbeats 4000000 in
theorem visit_last (c : Dev nD) (t : Fin cfg0.N) (h0 : ¬first (grid0.coords t)) (h1 : last (grid0.coords t)) :
    given m c t ⊢ wp frame (wpE (defs₀ (F := F)) Variants.none c none) Set.univ (bodyAt0 t) (fun _ => returned m c t) := by
  refine (given_open m c t).trans ?_
  have e := (first_iff t).not.mp h0
  rw [between_later m c _ _ e]
  unfold kept
  iintro ⟨⟨⟨HS0, HS1, HS2, HS3, HS4⟩, Hg⟩, Ho, HI, ⟨%d17, H17⟩, ⟨%d18, H18⟩, ⟨%d19, H19⟩, ⟨%d20, H20⟩, ⟨%d21, H21⟩, ⟨%d22, H22⟩, ⟨%d23, H23⟩⟩
  rw [before_kept m c 20 rfl flush0_20 (fun _ => rfl) (fun _ _ => rfl) t e, before_kept m c 21 rfl flush0_21 (fun _ => rfl) (fun _ _ => rfl) t e,
    before_kept m c 22 rfl flush0_22 (fun _ => rfl) (fun _ _ => rfl) t e, before_kept m c 23 rfl flush0_23 (fun _ => rfl) (fun _ _ => rfl) t e]
  iapply (visitLast c (grid0.coords t) (refs t) (whole t) h0 h1 (blocks m c t) (leftBefore m c t) Set.univ
    (fun _ => returned m c t))
  isplitl [HI]; · iexact HI
  isplitl [H17 H18]
  · unfold loose
    isplitl [H17]; · iexists _; iexact H17
    iexists _; iexact H18
  isplitl [H19]; · iexists _; iexact H19
  isplitl [H20 H21 H22 H23 HS0 HS1 HS2 HS3 HS4]
  · unfold held
    isplitl [H20]; · iexact H20
    isplitl [H21]; · iexact H21
    isplitl [H22]; · iexact H22
    isplitl [H23]; · iexact H23
    isplitl [HS0]; · iexact HS0
    isplitl [HS1]; · iexact HS1
    isplitl [HS2]; · iexact HS2
    isplitl [HS3]; · iexact HS3
    iexact HS4
  iintro ⟨HI, H19, HL⟩
  iapply (returned_close m c t)
  isplitl [Ho]; · iexact Ho
  isplitl [HI]; · iexact HI
  isplitl [HL]; · rw [leftAt_last m c t h0 h1]; iexact HL
  isplitl [H19]
  · rw [leaves_live m c 19 t (live_sums t h1), show (dats m 0 c).after 19 t = (leftAt m c t.val t.isLt).sums from rfl,
      leftAt_last m c t h0 h1]
    iexact H19
  iexact Hg

theorem visit_any (c : Dev nD) (t : Fin cfg0.N) :
    given m c t ⊢ wp frame (wpE (defs₀ (F := F)) Variants.none c none) Set.univ (bodyAt0 t) (fun _ => returned m c t) := by
  by_cases h0 : first (grid0.coords t)
  · exact visit_first m c t h0 fun h1 => by
      have a := (first_iff t).mp h0
      have b := (last_iff t).mp h1
      omega
  · by_cases h1 : last (grid0.coords t)
    · exact visit_last m c t h0 h1
    · exact visit_middle m c t h0 h1

theorem proc_row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, proc_row]
  exact triple_restated (visit_any m c t) rfl .rfl fun _ => .rfl

theorem at_start (c : Dev nD) : Pipeline.ΦA spec0 c ⊢ (dats m 0 c).Φ 0 := by
  rw [show (dats m 0 c).Φ 0 = between m c 0 (Nat.zero_le _) from rfl, between_first m c 0 _ rfl]
  try exact Idealize.SL.BI.Entails.refl _

theorem at_end (c : Dev nD) : (dats m 0 c).Φ (Fin.last cfg0.N) ⊢ Pipeline.ΦA spec0 c := by
  rw [show (dats m 0 c).Φ (Fin.last cfg0.N) = between m c (Fin.last cfg0.N).val (Nat.le_of_lt_succ (Fin.last cfg0.N).isLt) from rfl,
    between_later m c _ _ (by rw [Fin.val_last]; have : cfg0.N = 32 := N_0; omega), scratch_eq]
  unfold kept
  iintro ⟨⟨HS0, HS1, HS2, HS3, HS4⟩, Hg⟩
  isplitl [HS0 HS1 HS2 HS3 HS4]
  · isplitl [HS0]; · iexact HS0
    isplitl [HS1]; · iexists _; iexact HS1
    isplitl [HS2]; · iexists _; iexact HS2
    isplitl [HS3]; · iexact HS3
    iexists _; iexact HS4
  iexact Hg

set_option backward.isDefEq.respectTransparency.types false in
set_option maxHeartbeats 800000 in
/-- The launch: what the arrays hold at the end, every counter at zero. -/
theorem run_quiescent : θ_run defs (onTc (τ := τ) (main (F := F))) (s₀ m ρ) (fun r =>
    (Pipeline.FramePost cfgs (dats m) 0 (Pipeline.afterTail₀ cfgs (dats m) 0 (V0 m) [hostOps1, hostOps1_1, hostOps1_2])) r
      ∧ r.2.sem = fun _ => 0) :=
  Pipeline.θ_run_frame_around_track_shared (Q' := _) cfgs (dats m) (0 : Fin 1) launch₀0 defs₀ Variants.none m ρ main
    (hbody := fun c => (obligation m c).loose) (hq := fun _ _ _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eq m) (hin := at_start m) (hout := at_end m)

/-- What the arrays hold at the end. -/
theorem run_main : θ_run defs (onTc (τ := τ) (main (F := F))) (s₀ m ρ)
    (Pipeline.FramePost cfgs (dats m) 0 (Pipeline.afterTail₀ cfgs (dats m) 0 (V0 m) [hostOps1, hostOps1_1, hostOps1_2])) :=
  (θ_run defs _ _).mono (fun _ h => h.1) (run_quiescent m ρ)

/-- The frame: the arguments end unchanged, every counter at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9) ∧
      r.2.mem ((c.tc : Thread nD τ).loc main_arg10) = m ((c.tc : Thread nD τ).loc main_arg10) ∧
      r.2.mem ((c.tc : Thread nD τ).loc main_arg11) = m ((c.tc : Thread nD τ).loc main_arg11) ∧
      r.2.mem ((c.tc : Thread nD τ).loc main_arg12) = m ((c.tc : Thread nD τ).loc main_arg12) ∧
      r.2.mem ((c.tc : Thread nD τ).loc main_arg13) = m ((c.tc : Thread nD τ).loc main_arg13) ∧
      r.2.mem ((c.tc : Thread nD τ).loc main_arg14) = m ((c.tc : Thread nD τ).loc main_arg14) ∧
      r.2.mem ((c.tc : Thread nD τ).loc main_arg15) = m ((c.tc : Thread nD τ).loc main_arg15) ∧
      r.2.mem ((c.tc : Thread nD τ).loc main_arg16) = m ((c.tc : Thread nD τ).loc main_arg16)) ∧ r.2.sem = fun _ => 0) :=
  θ_run_and (frame_of m ρ (dats m) (A_eq m) (run_main m ρ)) ((θ_run defs _ _).mono (fun _ h => h.2) (run_quiescent m ρ))

end Cert.MixBwd
-- ==== Proof.MixBwd.Frames.lean ====
module

public import proofs.«01_k».proof.Proof.MixBwd.Frame
public import proofs.«01_k».proof.Proof.Gen.Kernel2.Frame
public import proofs.«01_k».proof.Defs

@[expose] public section

set_option maxRecDepth 16384

noncomputable section

namespace Cert.MixBwd
open Idealize.ShloMosaic Idealize.ShloMosaic.Tactic

variable {F : FTy → Type} [FloatOps F]

/-- Every constant read as its pattern. -/
abbrev literal (F : FTy → Type) [FloatOps F] : Named F := ⟨fun _ _ _ bits => FloatOps.ofBits _ bits⟩

/-- The printed kernel's frame: it is the ideal kernel with every constant read as its pattern. -/
theorem frame_kernel : Cert.quiescent_Kernel2 := fun m ρ _ => by
  refine Eq.mp ?_ (@frame_any Bits _ (literal Bits) m ρ)
  sl_kernel_rfl

theorem frame_ideal : Cert.quiescent_Kernel2Ideal := fun m ρ _ => frame_any m ρ

end Cert.MixBwd
-- ==== Proof.MixBwd.Chunk.lean ====
module

public import proofs.«01_k».proof.Proof.MixBwd.Run
public import Idealize.ShloMosaic.Lib.Pipeline.ReadBack

/-!
# One chunk of the gating mixer

A visit treats its tile in four chunks of 128 rows.  What a chunk of the gating mixer stores is a function of the
blocks it reads: its three columns of the projection, its cotangent, and the small arrays.
-/

@[expose] public section

set_option maxRecDepth 16384

noncomputable section

namespace Cert.MixBwd

open Cert.Kernel2Ideal Cert.Kernel2Ideal.Gen
open Idealize.ShloMosaic Idealize.ShloMosaic.TcCoe Idealize.ShloMosaic.Tactic
open Idealize.SL.Sem

variable {F : FTy → Type} [FloatOps F] [Named F]

/-- What a chunk reads: its columns of the projection before the two products and the gate, its cotangent, the scale
and shift of the layer norm, the mixing matrices and their transposes, and the bias. -/
structure Part (F : FTy → Type) [FloatOps F] where
  u : Vec F S128x256 .bf16
  v : Vec F S128x256 .bf16
  g : Vec F S128x256 .bf16
  dy : Vec F S128x256 .f32
  scale : Vec F S1x256 .f32
  shift : Vec F S1x256 .f32
  wS : Vec F S512x128 .bf16
  wST : Vec F S512x128 .bf16
  bS : Vec F S128x256 .f32

/-- The number of each column. -/
abbrev lane : IVec S128x256 32 := iota .tc S128x256 32 [1] iota_S128x256_d1_w32

namespace Part

variable (P : Part F)

abbrev au : FVec F S128x256 .f32 := k0_pay279 P.u
abbrev av : FVec F S128x256 .f32 := k0_pay280 P.v
abbrev ag : FVec F S128x256 .f32 := k0_pay281 P.g

/-- The cotangent of the gate's column. -/
abbrev dG : FVec F S128x256 .bf16 :=
  k0_pay301 lane P.ag (k0_pay285 P.u) (k0_pay293 P.av P.scale P.shift P.wS) (k0_pay294 P.av P.scale P.shift P.wS)
    (k0_pay295 P.av P.scale P.shift P.wS) (k0_pay296 P.av P.scale P.shift P.wS) P.bS P.dy

/-- The cotangent of the first factor's column. -/
abbrev dU : FVec F S128x256 .bf16 :=
  k0_pay304 (k0_pay284 P.u)
    (k0_pay302 lane P.ag (k0_pay293 P.av P.scale P.shift P.wS) (k0_pay294 P.av P.scale P.shift P.wS)
      (k0_pay295 P.av P.scale P.shift P.wS) (k0_pay296 P.av P.scale P.shift P.wS) P.bS P.dy)
    (k0_pay303 P.au (k0_pay282 P.u) (k0_pay283 P.u))

/-- The cotangent of the mixed rows. -/
abbrev dMixed : FVec F S128x256 .f32 := k0_pay305 (k0_pay285 P.u) (k0_pay299 P.ag) P.dy

/-- The mixing matrices' gradient after the chunk. -/
abbrev dws (a : Vec F S512x128 .f32) : FVec F S512x128 .f32 :=
  k0_pay308 (k0_pay292 P.av P.scale P.shift) (k0_pay307 lane (k0_pay285 P.u) (k0_pay299 P.ag) P.dy) a

/-- The bias' gradient after the chunk. -/
abbrev dbs (a : Vec F S128x256 .f32) : FVec F S128x256 .f32 := k0_pay306 (k0_pay285 P.u) (k0_pay299 P.ag) P.dy a

/-- The cotangent of the layer norm's output. -/
abbrev dNorm : FVec F S128x256 .f32 := k0_pay309 lane P.dMixed P.wST

/-- The running rows of the scale's gradient after the chunk. -/
abbrev dScale (a : Vec F S1x8x256 .f32) : FVec F S1x8x256 .f32 :=
  k0_pay314 (k0_pay310 lane (k0_pay291 P.av) P.dMixed P.wST) (k0_pay311 a) (k0_pay312 lane (k0_pay291 P.av) P.dMixed P.wST)
    (k0_pay313 lane (k0_pay291 P.av) P.dMixed P.wST)

/-- The running rows of the shift's gradient after the chunk. -/
abbrev dShift (a : Vec F S1x8x256 .f32) : FVec F S1x8x256 .f32 := k0_pay316 (k0_pay315 P.dNorm a)

/-- The cotangent of the second factor's column. -/
abbrev dV : FVec F S128x256 .bf16 :=
  k0_pay317 P.av (k0_pay286 P.av) (k0_pay287 P.av) (k0_pay288 P.av) (k0_pay290 P.av) (k0_pay291 P.av) P.dNorm P.scale

end Part

theorem fits (o k : ℕ) (ho : o + 128 ≤ 512) (hk : k + 256 ≤ 3072) : ∀ a, ![o, k] a + S128x256.size a ≤ S512x3072.size a :=
  fun a => by
    refine Fin.cases ?_ (fun b => ?_) a
    · exact ho
    · refine Fin.cases ?_ (fun b => b.elim0) b
      exact hk

theorem fitsDy (o : ℕ) (ho : o + 128 ≤ 512) : ∀ a, ![o, 768] a + S128x256.size a ≤ S512x1024.size a :=
  fun a => by
    refine Fin.cases ?_ (fun b => ?_) a
    · exact ho
    · refine Fin.cases ?_ (fun b => b.elim0) b
      exact (by decide : 768 + 256 ≤ 1024)

/-- The chunk at row `o` of a visit's tile, with cotangent `dy`. -/
def part (x : Blocks F) (dy : Vec F S512x1024 .f32) (o : ℕ) (ho : o + 128 ≤ 512) : Part F where
  u := View.ld x.zm (Rect.unit (s := S512x3072) ![o, 2304] S128x256.size (fits o 2304 ho (by decide)))
  v := View.ld x.zm (Rect.unit (s := S512x3072) ![o, 2560] S128x256.size (fits o 2560 ho (by decide)))
  g := View.ld x.zm (Rect.unit (s := S512x3072) ![o, 2816] S128x256.size (fits o 2816 ho (by decide)))
  dy := View.ld dy (Rect.unit (s := S512x1024) ![o, 768] S128x256.size (fitsDy o ho))
  scale := View.ld x.vec (Rect.unit (s := S16x256) ![5, 0] S1x256.size (by decide))
  shift := View.ld x.vec (Rect.unit (s := S16x256) ![6, 0] S1x256.size (by decide))
  wS := View.ld x.wS (Rect.unit (s := S512x128) ![0, 0] S512x128.size (by decide))
  wST := View.ld x.wST (Rect.unit (s := S512x128) ![0, 0] S512x128.size (by decide))
  bS := View.ld x.bS (Rect.unit (s := S264x256) ![0, 0] S128x256.size (by decide))

/-- The same chunk as the body reads it, through the buffers; its cotangent given. -/
def rawPart (R : Refs) (W : R.Whole) (x : Blocks F) (dy : Vec F S128x256 .f32) (o : ℕ) (ho : o + 128 ≤ 512) : Part F where
  u := View.readAt (Elt F) R.zm.view (Rect.unit (s := S512x3072) ![o, 2304] S128x256.size (fits o 2304 ho (by decide))).toLoadRect (W.zm.unread x.zm)
  v := View.readAt (Elt F) R.zm.view (Rect.unit (s := S512x3072) ![o, 2560] S128x256.size (fits o 2560 ho (by decide))).toLoadRect (W.zm.unread x.zm)
  g := View.readAt (Elt F) R.zm.view (Rect.unit (s := S512x3072) ![o, 2816] S128x256.size (fits o 2816 ho (by decide))).toLoadRect (W.zm.unread x.zm)
  dy := dy
  scale := View.readAt (Elt F) R.vec.view (Rect.unit (s := S16x256) ![5, 0] S1x256.size (by decide)).toLoadRect (W.vec.unread x.vec)
  shift := View.readAt (Elt F) R.vec.view (Rect.unit (s := S16x256) ![6, 0] S1x256.size (by decide)).toLoadRect (W.vec.unread x.vec)
  wS := View.readAt (Elt F) R.wS.view (Rect.unit (s := S512x128) ![0, 0] S512x128.size (by decide)).toLoadRect (W.wS.unread x.wS)
  wST := View.readAt (Elt F) R.wST.view (Rect.unit (s := S512x128) ![0, 0] S512x128.size (by decide)).toLoadRect (W.wST.unread x.wST)
  bS := View.readAt (Elt F) R.bS.view (Rect.unit (s := S264x256) ![0, 0] S128x256.size (by decide)).toLoadRect (W.bS.unread x.bS)

/-- What a middle or the last visit reads of its cotangent. -/
abbrev dyRead (R : Refs) (W : R.Whole) (dy : Vec F S512x1024 .f32) (o : ℕ) (ho : o + 128 ≤ 512) : Vec F S128x256 .f32 :=
  View.readAt (Elt F) R.dy.view (Rect.unit (s := S512x1024) ![o, 768] S128x256.size (fitsDy o ho)).toLoadRect (W.dy.unread dy)

theorem rawPart_eq (R : Refs) (W : R.Whole) (x : Blocks F) (dy : Vec F S512x1024 .f32) (o : ℕ) (ho : o + 128 ≤ 512) :
    rawPart R W x (dyRead R W dy o ho) o ho = part x dy o ho := by
  unfold rawPart part dyRead
  simp only [View.readAt_eq_ld, Memref.IsWhole.read_unread]

end Cert.MixBwd

end
-- ==== Proof.MixBwd.Stores.lean ====
module

public import proofs.«01_k».proof.Proof.MixBwd.Visit
public import proofs.«01_k».proof.Proof.MixBwd.Chunk
public import Idealize.ShloMosaic.Lib.Pipeline.ValueKit

/-!
# What a visit leaves of the gating mixer

The stores of a visit read back: the columns of the projection's cotangent, the running gradients of the mixing
matrices and the bias, and the running rows of the layer norm's gradients.
-/

@[expose] public section

set_option maxRecDepth 16384

noncomputable section

namespace Cert.MixBwd

open Cert.Kernel2Ideal Cert.Kernel2Ideal.Gen
open Idealize.ShloMosaic Idealize.ShloMosaic.TcCoe Idealize.ShloMosaic.Tactic
open Idealize.SL.Sem

variable {F : FTy → Type} [FloatOps F] [Named F]

section Reads

variable {S : Shape} {e : EltTy}

/-- A load of a box that the last store does not touch reads the earlier stores. -/
theorem ld_skip (r : Rect S) (w : r.shape.Idx → Elt F e) (L : List (View.Piece (Elt F) S e)) (B : Rect S)
    (h : LoadRect.disj r B.toLoadRect = true) :
    View.ld (View.canon (Val := Elt F) (⟨r, w⟩ :: L)) B = View.ld (View.canon L) B :=
  funext fun j => View.canon_cons_of_not_mem ⟨r, w⟩ L (LoadRect.idx_not_mem_of_disj h j)

/-- A load of the last store's box reads what it stored. -/
theorem ld_hit (r : Rect S) (w : r.shape.Idx → Elt F e) (L : List (View.Piece (Elt F) S e)) :
    View.ld (View.canon (Val := Elt F) (⟨r, w⟩ :: L)) r = w :=
  funext fun j => View.canon_cons_emb r w L j

/-- The same two readings over contents the stores need not cover. -/
theorem read_skip {κ : Kind} {sp : Space} (v : View sig κ sp S e) (f : v.ty.Contents (Elt F)) (r : Rect S)
    (w : r.shape.Idx → Elt F e) (L : List (View.Piece (Elt F) S e)) (B : Rect S)
    (h : LoadRect.disj r B.toLoadRect = true) :
    View.ld (v.read (Elt F) (v.writes (Elt F) f (⟨r, w⟩ :: L))) B = View.ld (v.read (Elt F) (v.writes (Elt F) f L)) B :=
  funext fun j => by
    have hy : B.idx j ∉ Finset.univ.map r.emb := by
      rw [Rect.map_emb_univ]; exact LoadRect.idx_not_mem_of_disj h j
    show v.read (Elt F) (v.writes (Elt F) f (⟨r, w⟩ :: L)) (B.idx j) = v.read (Elt F) (v.writes (Elt F) f L) (B.idx j)
    rw [View.writes_cons, View.read_slice_write_of_not_mem r _ _ _ hy]

theorem read_hit {κ : Kind} {sp : Space} (v : View sig κ sp S e) (f : v.ty.Contents (Elt F)) (r : Rect S)
    (w : r.shape.Idx → Elt F e) (L : List (View.Piece (Elt F) S e)) :
    View.ld (v.read (Elt F) (v.writes (Elt F) f (⟨r, w⟩ :: L))) r = w :=
  funext fun j => View.read_writes_cons_emb v f r w L j

/-- A load through a buffer held at `X` reads `X`. -/
theorem readAt_ld {κ : Kind} {sp : Space} {m : Memref sig κ sp S e} (h : m.IsWhole) (X : S.Idx → Elt F e) (r : Rect S) :
    View.readAt (Elt F) m.view r.toLoadRect (h.unread X) = View.ld X r := by
  rw [View.readAt_eq_ld, Memref.IsWhole.read_unread]

end Reads

/-- Row `n` of the running rows. -/
abbrev row (n : ℕ) (hn : n < 64) : Rect S64x8x256 :=
  Rect.unit (s := S64x8x256) ![n, 0, 0] S1x8x256.size fun a => by
    refine Fin.cases ?_ (fun b => ?_) a
    · exact hn
    · refine Fin.cases ?_ (fun b => ?_) b
      · exact le_refl 8
      · refine Fin.cases ?_ (fun b => b.elim0) b
        exact le_refl 256

/-- The chunk's columns of a tile of the projection's cotangent hold what the chunk stores. -/
structure Columns (P : Part F) (o : ℕ) (ho : o + 128 ≤ 512) (dz : Vec F S512x3072 .bf16) : Prop where
  u : View.ld dz (Rect.unit (s := S512x3072) ![o, 2304] S128x256.size (fits o 2304 ho (by decide))) = P.dU
  v : View.ld dz (Rect.unit (s := S512x3072) ![o, 2560] S128x256.size (fits o 2560 ho (by decide))) = P.dV
  g : View.ld dz (Rect.unit (s := S512x3072) ![o, 2816] S128x256.size (fits o 2816 ho (by decide))) = P.dG

/-- A whole small array. -/
abbrev allWs : Rect S512x128 := Rect.unit (s := S512x128) ![0, 0] S512x128.size (by decide)
abbrev allBs : Rect S128x256 := Rect.unit (s := S128x256) ![0, 0] S128x256.size (by decide)
abbrev allDy : Rect S512x1024 := Rect.unit (s := S512x1024) ![0, 0] S512x1024.size (by decide)

theorem ld_allWs (X : Vec F S512x128 .f32) : View.ld X allWs = X := View.ld_unit_lit _ X (by decide)
theorem ld_allBs (X : Vec F S128x256 .f32) : View.ld X allBs = X := View.ld_unit_lit _ X (by decide)
theorem ld_allDy (X : Vec F S512x1024 .f32) : View.ld X allDy = X := View.ld_unit_lit _ X (by decide)

/-- The last group's columns of a tile's cotangent. -/
abbrev quarter : Rect S512x1024 := Rect.unit (s := S512x1024) ![0, 768] S512x256.size (by decide)

/-- The cotangent of the tile that the next visit takes, in the last group's columns. -/
def dyNext (x : Blocks F) : FVec F S512x256 .f32 :=
  k0_pay767 (k0_pay80 (View.ld x.dxNext (Rect.unit (s := S512x1024) ![0, 0] S512x1024.size (by decide)))
      (View.ld x.gate (Rect.unit (s := S1x1024) ![0, 0] S1x1024.size (by decide))))
    (View.ld x.wOut (Rect.unit (s := S1024x1024) ![768, 0] S256x1024.size (by decide)))

/-- What a visit leaves of the gating mixer, its cotangent and what it found in the running sums given. -/
structure Leaves (x : Blocks F) (dy : Vec F S512x1024 .f32) (ws : Vec F S512x128 .f32) (bs : Vec F S128x256 .f32)
    (acc : Vec F S64x8x256 .f32) (s : State F) : Prop where
  dz3 : Columns (part x dy 384 (by decide)) 384 (by decide) s.dz
  dz2 : Columns (part x dy 256 (by decide)) 256 (by decide) s.dz
  dz1 : Columns (part x dy 128 (by decide)) 128 (by decide) s.dz
  dz0 : Columns (part x dy 0 (by decide)) 0 (by decide) s.dz
  ws : s.dws = (part x dy 0 (by decide)).dws ((part x dy 128 (by decide)).dws ((part x dy 256 (by decide)).dws
    ((part x dy 384 (by decide)).dws ws)))
  bs : s.dbs = (part x dy 0 (by decide)).dbs ((part x dy 128 (by decide)).dbs ((part x dy 256 (by decide)).dbs
    ((part x dy 384 (by decide)).dbs bs)))
  scale : View.ld s.acc (row 8 (by decide)) = (part x dy 0 (by decide)).dScale ((part x dy 128 (by decide)).dScale
    ((part x dy 256 (by decide)).dScale ((part x dy 384 (by decide)).dScale (View.ld acc (row 8 (by decide))))))
  shift : View.ld s.acc (row 9 (by decide)) = (part x dy 0 (by decide)).dShift ((part x dy 128 (by decide)).dShift
    ((part x dy 256 (by decide)).dShift ((part x dy 384 (by decide)).dShift (View.ld acc (row 9 (by decide))))))

end Cert.MixBwd

end
-- ==== Proof.MixBwd.First.lean ====
module

public import proofs.«01_k».proof.Proof.MixBwd.Stores

/-! # What the first visit leaves of the gating mixer -/

@[expose] public section

set_option maxRecDepth 16384

noncomputable section

namespace Cert.MixBwd

open Cert.Kernel2Ideal Cert.Kernel2Ideal.Gen
open Idealize.ShloMosaic Idealize.ShloMosaic.TcCoe Idealize.ShloMosaic.Tactic
open Idealize.SL.Sem

variable {F : FTy → Type} [FloatOps F] [Named F]

namespace First

variable (c : Dev nD) (i : grid0.Coords) (R : Refs) (W : R.Whole) (h0 : first i) (h1 : ¬last i) (x : Blocks F)

/-- The chunk at row `o`, as the first visit reads it. -/
abbrev raw (o : ℕ) (ho : o + 128 ≤ 512) : Part F :=
  rawPart R W x (R.dy.view.readCov (runA.sl.H26_1 R W x) (Rect.unit (s := S512x1024) ![o, 768] S128x256.size (fitsDy o ho)).toLoadRect) o ho

/-- The cotangent of the first visit's own tile. -/
def dyOwn (x : Blocks F) : FVec F S512x1024 .f32 :=
  k0_pay72 (k0_pay7 (View.ld x.dx (Rect.unit (s := S512x1024) ![0, 0] S512x1024.size (by decide)))
      (View.ld x.gate (Rect.unit (s := S1x1024) ![0, 0] S1x1024.size (by decide)))
    (View.ld x.wOut (Rect.unit (s := S1024x1024) ![0, 0] S1024x1024.size (by decide))))

theorem raw_eq (o : ℕ) (ho : o + 128 ≤ 512) : raw R W x o ho = part x (dyOwn x) o ho := by
  rw [← rawPart_eq (R := R) (W := W)]
  unfold raw
  refine congrArg (fun d => rawPart R W x d o ho) ?_
  refine (View.readCov_fill _ _ _ _ (Rect.unit (s := S512x1024) ![o, 768] S128x256.size (fitsDy o ho)) (by decide)).trans ?_
  unfold dyRead
  rw [readAt_ld]
  refine congrArg (fun d => View.ld d _) ?_
  unfold dyOwn
  rw [← readAt_ld W.dx, ← readAt_ld W.gate, ← readAt_ld W.wOut]
  sl_kernel_rfl

theorem columns3 : Columns (raw R W x 384 (by decide)) 384 (by decide) (View.canon (runA c i R W h0 h1 x).1.dz) := by
  constructor
  all_goals
    repeat refine (ld_skip _ _ _ _ (by rfl)).trans ?_
    exact (ld_hit _ _ _).trans (by sl_kernel_rfl)

theorem columns2 : Columns (raw R W x 256 (by decide)) 256 (by decide) (View.canon (runA c i R W h0 h1 x).1.dz) := by
  constructor
  all_goals
    repeat refine (ld_skip _ _ _ _ (by rfl)).trans ?_
    exact (ld_hit _ _ _).trans (by sl_kernel_rfl)

theorem columns1 : Columns (raw R W x 128 (by decide)) 128 (by decide) (View.canon (runA c i R W h0 h1 x).1.dz) := by
  constructor
  all_goals
    repeat refine (ld_skip _ _ _ _ (by rfl)).trans ?_
    exact (ld_hit _ _ _).trans (by sl_kernel_rfl)

theorem columns0 : Columns (raw R W x 0 (by decide)) 0 (by decide) (View.canon (runA c i R W h0 h1 x).1.dz) := by
  constructor
  all_goals
    repeat refine (ld_skip _ _ _ _ (by rfl)).trans ?_
    exact (ld_hit _ _ _).trans (by sl_kernel_rfl)

theorem ws : View.canon (runA c i R W h0 h1 x).1.dws = (raw R W x 0 (by decide)).dws ((raw R W x 128 (by decide)).dws
    ((raw R W x 256 (by decide)).dws ((raw R W x 384 (by decide)).dws k0_pay4))) := by
  refine (ld_allWs _).symm.trans ((ld_hit allWs _ _).trans ?_)
  refine Eq.trans (b := (raw R W x 0 (by decide)).dws (R.dws.view.readCov (runA.sl.H22_4 R W x) allWs.toLoadRect)) (by sl_kernel_rfl)
    (congrArg (raw R W x 0 (by decide)).dws ((View.readCov_cons_toLoadRect _ allWs _ _).trans ?_))
  refine Eq.trans (b := (raw R W x 128 (by decide)).dws (R.dws.view.readCov (runA.sl.H22_3 R W x) allWs.toLoadRect)) (by sl_kernel_rfl)
    (congrArg (raw R W x 128 (by decide)).dws ((View.readCov_cons_toLoadRect _ allWs _ _).trans ?_))
  refine Eq.trans (b := (raw R W x 256 (by decide)).dws (R.dws.view.readCov (runA.sl.H22_2 R W x) allWs.toLoadRect)) (by sl_kernel_rfl)
    (congrArg (raw R W x 256 (by decide)).dws ((View.readCov_cons_toLoadRect _ allWs _ _).trans ?_))
  exact Eq.trans (b := (raw R W x 384 (by decide)).dws (R.dws.view.readCov runA.sl.H22_1 allWs.toLoadRect)) (by sl_kernel_rfl)
    (congrArg (raw R W x 384 (by decide)).dws (View.readCov_cons_toLoadRect _ allWs _ _))

theorem bs : View.canon (runA c i R W h0 h1 x).1.dbs = (raw R W x 0 (by decide)).dbs ((raw R W x 128 (by decide)).dbs
    ((raw R W x 256 (by decide)).dbs ((raw R W x 384 (by decide)).dbs k0_pay5))) := by
  refine (ld_allBs _).symm.trans ((ld_hit allBs _ _).trans ?_)
  refine Eq.trans (b := (raw R W x 0 (by decide)).dbs (R.dbs.view.readCov (runA.sl.H23_4 R W x) allBs.toLoadRect)) (by sl_kernel_rfl)
    (congrArg (raw R W x 0 (by decide)).dbs ((View.readCov_cons_toLoadRect _ allBs _ _).trans ?_))
  refine Eq.trans (b := (raw R W x 128 (by decide)).dbs (R.dbs.view.readCov (runA.sl.H23_3 R W x) allBs.toLoadRect)) (by sl_kernel_rfl)
    (congrArg (raw R W x 128 (by decide)).dbs ((View.readCov_cons_toLoadRect _ allBs _ _).trans ?_))
  refine Eq.trans (b := (raw R W x 256 (by decide)).dbs (R.dbs.view.readCov (runA.sl.H23_2 R W x) allBs.toLoadRect)) (by sl_kernel_rfl)
    (congrArg (raw R W x 256 (by decide)).dbs ((View.readCov_cons_toLoadRect _ allBs _ _).trans ?_))
  exact Eq.trans (b := (raw R W x 384 (by decide)).dbs (R.dbs.view.readCov runA.sl.H23_1 allBs.toLoadRect)) (by sl_kernel_rfl)
    (congrArg (raw R W x 384 (by decide)).dbs (View.readCov_cons_toLoadRect _ allBs _ _))

theorem scale : View.ld (View.canon (runA c i R W h0 h1 x).1.acc) (row 8 (by decide))
    = (raw R W x 0 (by decide)).dScale ((raw R W x 128 (by decide)).dScale ((raw R W x 256 (by decide)).dScale
      ((raw R W x 384 (by decide)).dScale (View.ld k0_pay1 (row 8 (by decide)))))) := by
  repeat refine (ld_skip _ _ _ _ (by rfl)).trans ?_
  refine (ld_hit _ _ _).trans ?_
  refine Eq.trans (b := (raw R W x 0 (by decide)).dScale (runA.sl.v9348 i R W x)) (by sl_kernel_rfl)
    (congrArg (raw R W x 0 (by decide)).dScale ?_)
  repeat refine (View.readCov_skip _ _ _ _ _ (by rfl)).trans ?_
  refine (View.readCov_cons_toLoadRect _ _ _ _).trans ?_
  refine Eq.trans (b := (raw R W x 128 (by decide)).dScale (runA.sl.v6995 i R W x)) (by sl_kernel_rfl)
    (congrArg (raw R W x 128 (by decide)).dScale ?_)
  repeat refine (View.readCov_skip _ _ _ _ _ (by rfl)).trans ?_
  refine (View.readCov_cons_toLoadRect _ _ _ _).trans ?_
  refine Eq.trans (b := (raw R W x 256 (by decide)).dScale (runA.sl.v4642 i R W x)) (by sl_kernel_rfl)
    (congrArg (raw R W x 256 (by decide)).dScale ?_)
  repeat refine (View.readCov_skip _ _ _ _ _ (by rfl)).trans ?_
  refine (View.readCov_cons_toLoadRect _ _ _ _).trans ?_
  refine Eq.trans (b := (raw R W x 384 (by decide)).dScale (runA.sl.v2289 i R W x)) (by sl_kernel_rfl) (congrArg (raw R W x 384 (by decide)).dScale ?_)
  repeat refine (View.readCov_skip _ _ _ _ _ (by rfl)).trans ?_
  exact View.readCov_fill _ _ _ _ (row 8 (by decide)) (by decide)

theorem shift : View.ld (View.canon (runA c i R W h0 h1 x).1.acc) (row 9 (by decide))
    = (raw R W x 0 (by decide)).dShift ((raw R W x 128 (by decide)).dShift ((raw R W x 256 (by decide)).dShift
      ((raw R W x 384 (by decide)).dShift (View.ld k0_pay1 (row 9 (by decide)))))) := by
  repeat refine (ld_skip _ _ _ _ (by rfl)).trans ?_
  refine (ld_hit _ _ _).trans ?_
  refine Eq.trans (b := (raw R W x 0 (by decide)).dShift (runA.sl.v9385 i R W x)) (by sl_kernel_rfl)
    (congrArg (raw R W x 0 (by decide)).dShift ?_)
  repeat refine (View.readCov_skip _ _ _ _ _ (by rfl)).trans ?_
  refine (View.readCov_cons_toLoadRect _ _ _ _).trans ?_
  refine Eq.trans (b := (raw R W x 128 (by decide)).dShift (runA.sl.v7032 i R W x)) (by sl_kernel_rfl)
    (congrArg (raw R W x 128 (by decide)).dShift ?_)
  repeat refine (View.readCov_skip _ _ _ _ _ (by rfl)).trans ?_
  refine (View.readCov_cons_toLoadRect _ _ _ _).trans ?_
  refine Eq.trans (b := (raw R W x 256 (by decide)).dShift (runA.sl.v4679 i R W x)) (by sl_kernel_rfl)
    (congrArg (raw R W x 256 (by decide)).dShift ?_)
  repeat refine (View.readCov_skip _ _ _ _ _ (by rfl)).trans ?_
  refine (View.readCov_cons_toLoadRect _ _ _ _).trans ?_
  refine Eq.trans (b := (raw R W x 384 (by decide)).dShift (runA.sl.v2326 i R W x)) (by sl_kernel_rfl) (congrArg (raw R W x 384 (by decide)).dShift ?_)
  repeat refine (View.readCov_skip _ _ _ _ _ (by rfl)).trans ?_
  exact View.readCov_fill _ _ _ _ (row 9 (by decide)) (by decide)

theorem dy : View.ld (View.canon (runA c i R W h0 h1 x).1.dy) quarter = dyNext x := by
  refine (congrArg (fun X => View.ld X quarter) ((ld_allDy _).symm.trans (ld_hit allDy _ _))).trans ?_
  refine Eq.trans (b := View.ld (k0_pay996 (R.dyNext.view.readCov (runA.sl.H27_4 R W x) allDy.toLoadRect)) quarter) (by sl_kernel_rfl) ?_
  unfold k0_pay996
  dsimp only
  rw [shapeCast_self, View.readCov_eq_canon']
  refine (congrArg (fun X => View.ld X quarter) (ld_allDy (View.canon (runA.sl.H27_4 R W x)))).trans ?_
  refine (ld_hit _ _ _).trans ?_
  unfold dyNext
  rw [← readAt_ld W.dxNext, ← readAt_ld W.gate, ← readAt_ld W.wOut]
  sl_kernel_rfl

attribute [local irreducible] runA

theorem leaves : Leaves x (dyOwn x) k0_pay4 k0_pay5 k0_pay1 (atFirst c i R W h0 h1 x) where
  dz3 := by simp only [← raw_eq R W x]; exact columns3 c i R W h0 h1 x
  dz2 := by simp only [← raw_eq R W x]; exact columns2 c i R W h0 h1 x
  dz1 := by simp only [← raw_eq R W x]; exact columns1 c i R W h0 h1 x
  dz0 := by simp only [← raw_eq R W x]; exact columns0 c i R W h0 h1 x
  ws := by simp only [← raw_eq R W x]; exact ws c i R W h0 h1 x
  bs := by simp only [← raw_eq R W x]; exact bs c i R W h0 h1 x
  scale := by simp only [← raw_eq R W x]; exact scale c i R W h0 h1 x
  shift := by simp only [← raw_eq R W x]; exact shift c i R W h0 h1 x

end First

end Cert.MixBwd

end
-- ==== Proof.MixBwd.Middle.lean ====
module

public import proofs.«01_k».proof.Proof.MixBwd.Stores

/-! # What a middle visit leaves of the gating mixer -/

@[expose] public section

set_option maxRecDepth 16384

noncomputable section

namespace Cert.MixBwd

open Cert.Kernel2Ideal Cert.Kernel2Ideal.Gen
open Idealize.ShloMosaic Idealize.ShloMosaic.TcCoe Idealize.ShloMosaic.Tactic
open Idealize.SL.Sem

variable {F : FTy → Type} [FloatOps F] [Named F]

namespace Middle

variable (c : Dev nD) (i : grid0.Coords) (R : Refs) (W : R.Whole) (h0 : ¬first i) (h1 : ¬last i) (x : Blocks F) (s : State F)

/-- The chunk at row `o`, as a middle visit reads it. -/
abbrev raw (o : ℕ) (ho : o + 128 ≤ 512) : Part F := rawPart R W x (dyRead R W s.dy o ho) o ho

theorem columns3 : Columns (raw R W x s 384 (by decide)) 384 (by decide) (View.canon (runB c i R W h0 h1 x s).1.dz) := by
  constructor
  all_goals
    repeat refine (ld_skip _ _ _ _ (by rfl)).trans ?_
    exact (ld_hit _ _ _).trans (by sl_kernel_rfl)

theorem columns2 : Columns (raw R W x s 256 (by decide)) 256 (by decide) (View.canon (runB c i R W h0 h1 x s).1.dz) := by
  constructor
  all_goals
    repeat refine (ld_skip _ _ _ _ (by rfl)).trans ?_
    exact (ld_hit _ _ _).trans (by sl_kernel_rfl)

theorem columns1 : Columns (raw R W x s 128 (by decide)) 128 (by decide) (View.canon (runB c i R W h0 h1 x s).1.dz) := by
  constructor
  all_goals
    repeat refine (ld_skip _ _ _ _ (by rfl)).trans ?_
    exact (ld_hit _ _ _).trans (by sl_kernel_rfl)

theorem columns0 : Columns (raw R W x s 0 (by decide)) 0 (by decide) (View.canon (runB c i R W h0 h1 x s).1.dz) := by
  constructor
  all_goals
    repeat refine (ld_skip _ _ _ _ (by rfl)).trans ?_
    exact (ld_hit _ _ _).trans (by sl_kernel_rfl)

theorem ws : View.canon (runB c i R W h0 h1 x s).1.dws = (raw R W x s 0 (by decide)).dws ((raw R W x s 128 (by decide)).dws
    ((raw R W x s 256 (by decide)).dws ((raw R W x s 384 (by decide)).dws s.dws))) := by
  refine (ld_allWs _).symm.trans ((ld_hit allWs _ _).trans ?_)
  refine Eq.trans (b := (raw R W x s 0 (by decide)).dws (R.dws.view.readCov (runB.sl.H22_3 R W x s) allWs.toLoadRect)) (by sl_kernel_rfl)
    (congrArg (raw R W x s 0 (by decide)).dws ((View.readCov_cons_toLoadRect _ allWs _ _).trans ?_))
  refine Eq.trans (b := (raw R W x s 128 (by decide)).dws (R.dws.view.readCov (runB.sl.H22_2 R W x s) allWs.toLoadRect)) (by sl_kernel_rfl)
    (congrArg (raw R W x s 128 (by decide)).dws ((View.readCov_cons_toLoadRect _ allWs _ _).trans ?_))
  refine Eq.trans (b := (raw R W x s 256 (by decide)).dws (R.dws.view.readCov (runB.sl.H22_1 R W x s) allWs.toLoadRect)) (by sl_kernel_rfl)
    (congrArg (raw R W x s 256 (by decide)).dws ((View.readCov_cons_toLoadRect _ allWs _ _).trans ?_))
  exact Eq.trans (b := (raw R W x s 384 (by decide)).dws (View.readAt (Elt F) R.dws.view allWs.toLoadRect (W.dws.unread s.dws))) (by sl_kernel_rfl)
    (congrArg (raw R W x s 384 (by decide)).dws ((readAt_ld W.dws s.dws allWs).trans (ld_allWs _)))

theorem bs : View.canon (runB c i R W h0 h1 x s).1.dbs = (raw R W x s 0 (by decide)).dbs ((raw R W x s 128 (by decide)).dbs
    ((raw R W x s 256 (by decide)).dbs ((raw R W x s 384 (by decide)).dbs s.dbs))) := by
  refine (ld_allBs _).symm.trans ((ld_hit allBs _ _).trans ?_)
  refine Eq.trans (b := (raw R W x s 0 (by decide)).dbs (R.dbs.view.readCov (runB.sl.H23_3 R W x s) allBs.toLoadRect)) (by sl_kernel_rfl)
    (congrArg (raw R W x s 0 (by decide)).dbs ((View.readCov_cons_toLoadRect _ allBs _ _).trans ?_))
  refine Eq.trans (b := (raw R W x s 128 (by decide)).dbs (R.dbs.view.readCov (runB.sl.H23_2 R W x s) allBs.toLoadRect)) (by sl_kernel_rfl)
    (congrArg (raw R W x s 128 (by decide)).dbs ((View.readCov_cons_toLoadRect _ allBs _ _).trans ?_))
  refine Eq.trans (b := (raw R W x s 256 (by decide)).dbs (R.dbs.view.readCov (runB.sl.H23_1 R W x s) allBs.toLoadRect)) (by sl_kernel_rfl)
    (congrArg (raw R W x s 256 (by decide)).dbs ((View.readCov_cons_toLoadRect _ allBs _ _).trans ?_))
  exact Eq.trans (b := (raw R W x s 384 (by decide)).dbs (View.readAt (Elt F) R.dbs.view allBs.toLoadRect (W.dbs.unread s.dbs))) (by sl_kernel_rfl)
    (congrArg (raw R W x s 384 (by decide)).dbs ((readAt_ld W.dbs s.dbs allBs).trans (ld_allBs _)))

theorem scale : View.ld (rows R W (runB c i R W h0 h1 x s).1 s.acc) (row 8 (by decide))
    = (raw R W x s 0 (by decide)).dScale ((raw R W x s 128 (by decide)).dScale ((raw R W x s 256 (by decide)).dScale
      ((raw R W x s 384 (by decide)).dScale (View.ld s.acc (row 8 (by decide)))))) := by
  repeat refine (read_skip _ _ _ _ _ _ (by rfl)).trans ?_
  refine (read_hit _ _ _ _ _).trans ?_
  refine Eq.trans (b := (raw R W x s 0 (by decide)).dScale (runB.sl.v9348 i R W x s)) (by sl_kernel_rfl)
    (congrArg (raw R W x s 0 (by decide)).dScale ?_)
  repeat refine (View.readCov_skip _ _ _ _ _ (by rfl)).trans ?_
  refine (View.readCov_cons_toLoadRect _ _ _ _).trans ?_
  refine Eq.trans (b := (raw R W x s 128 (by decide)).dScale (runB.sl.v6995 i R W x s)) (by sl_kernel_rfl)
    (congrArg (raw R W x s 128 (by decide)).dScale ?_)
  repeat refine (View.readCov_skip _ _ _ _ _ (by rfl)).trans ?_
  refine (View.readCov_cons_toLoadRect _ _ _ _).trans ?_
  refine Eq.trans (b := (raw R W x s 256 (by decide)).dScale (runB.sl.v4642 i R W x s)) (by sl_kernel_rfl)
    (congrArg (raw R W x s 256 (by decide)).dScale ?_)
  repeat refine (View.readCov_skip _ _ _ _ _ (by rfl)).trans ?_
  refine (View.readCov_cons_toLoadRect _ _ _ _).trans ?_
  exact Eq.trans (b := (raw R W x s 384 (by decide)).dScale (runB.sl.v2289 R W s)) (by sl_kernel_rfl)
    (congrArg (raw R W x s 384 (by decide)).dScale (readAt_ld W.acc s.acc (row 8 (by decide))))

theorem shift : View.ld (rows R W (runB c i R W h0 h1 x s).1 s.acc) (row 9 (by decide))
    = (raw R W x s 0 (by decide)).dShift ((raw R W x s 128 (by decide)).dShift ((raw R W x s 256 (by decide)).dShift
      ((raw R W x s 384 (by decide)).dShift (View.ld s.acc (row 9 (by decide)))))) := by
  repeat refine (read_skip _ _ _ _ _ _ (by rfl)).trans ?_
  refine (read_hit _ _ _ _ _).trans ?_
  refine Eq.trans (b := (raw R W x s 0 (by decide)).dShift (runB.sl.v9385 i R W x s)) (by sl_kernel_rfl)
    (congrArg (raw R W x s 0 (by decide)).dShift ?_)
  repeat refine (View.readCov_skip _ _ _ _ _ (by rfl)).trans ?_
  refine (View.readCov_cons_toLoadRect _ _ _ _).trans ?_
  refine Eq.trans (b := (raw R W x s 128 (by decide)).dShift (runB.sl.v7032 i R W x s)) (by sl_kernel_rfl)
    (congrArg (raw R W x s 128 (by decide)).dShift ?_)
  repeat refine (View.readCov_skip _ _ _ _ _ (by rfl)).trans ?_
  refine (View.readCov_cons_toLoadRect _ _ _ _).trans ?_
  refine Eq.trans (b := (raw R W x s 256 (by decide)).dShift (runB.sl.v4679 i R W x s)) (by sl_kernel_rfl)
    (congrArg (raw R W x s 256 (by decide)).dShift ?_)
  repeat refine (View.readCov_skip _ _ _ _ _ (by rfl)).trans ?_
  refine (View.readCov_cons_toLoadRect _ _ _ _).trans ?_
  exact Eq.trans (b := (raw R W x s 384 (by decide)).dShift (runB.sl.v2326 R W s)) (by sl_kernel_rfl)
    (congrArg (raw R W x s 384 (by decide)).dShift (readAt_ld W.acc s.acc (row 9 (by decide))))

theorem dy : View.ld (View.canon (runB c i R W h0 h1 x s).1.dy) quarter = dyNext x := by
  refine (congrArg (fun X => View.ld X quarter) ((ld_allDy _).symm.trans (ld_hit allDy _ _))).trans ?_
  refine Eq.trans (b := View.ld (k0_pay996 (R.dyNext.view.readCov (runB.sl.H27_4 R W x) allDy.toLoadRect)) quarter) (by sl_kernel_rfl) ?_
  unfold k0_pay996
  dsimp only
  rw [shapeCast_self, View.readCov_eq_canon']
  refine (congrArg (fun X => View.ld X quarter) (ld_allDy (View.canon (runB.sl.H27_4 R W x)))).trans ?_
  refine (ld_hit _ _ _).trans ?_
  unfold dyNext
  rw [← readAt_ld W.dxNext, ← readAt_ld W.gate, ← readAt_ld W.wOut]
  sl_kernel_rfl

attribute [local irreducible] runB

theorem leaves : Leaves x s.dy s.dws s.dbs s.acc (atMiddle c i R W h0 h1 x s) where
  dz3 := by simp only [← rawPart_eq R W]; exact columns3 c i R W h0 h1 x s
  dz2 := by simp only [← rawPart_eq R W]; exact columns2 c i R W h0 h1 x s
  dz1 := by simp only [← rawPart_eq R W]; exact columns1 c i R W h0 h1 x s
  dz0 := by simp only [← rawPart_eq R W]; exact columns0 c i R W h0 h1 x s
  ws := by simp only [← rawPart_eq R W]; exact ws c i R W h0 h1 x s
  bs := by simp only [← rawPart_eq R W]; exact bs c i R W h0 h1 x s
  scale := by simp only [← rawPart_eq R W]; exact scale c i R W h0 h1 x s
  shift := by simp only [← rawPart_eq R W]; exact shift c i R W h0 h1 x s

end Middle

end Cert.MixBwd

end
-- ==== Proof.MixBwd.Last.lean ====
module

public import proofs.«01_k».proof.Proof.MixBwd.Stores

/-! # What the last visit leaves of the gating mixer -/

@[expose] public section

set_option maxRecDepth 16384

noncomputable section

namespace Cert.MixBwd

open Cert.Kernel2Ideal Cert.Kernel2Ideal.Gen
open Idealize.ShloMosaic Idealize.ShloMosaic.TcCoe Idealize.ShloMosaic.Tactic
open Idealize.SL.Sem

variable {F : FTy → Type} [FloatOps F] [Named F]

namespace Last

variable (c : Dev nD) (i : grid0.Coords) (R : Refs) (W : R.Whole) (h0 : ¬first i) (h1 : last i) (x : Blocks F) (s : State F)

/-- The chunk at row `o`, as the last visit reads it. -/
abbrev raw (o : ℕ) (ho : o + 128 ≤ 512) : Part F := rawPart R W x (dyRead R W s.dy o ho) o ho

theorem columns3 : Columns (raw R W x s 384 (by decide)) 384 (by decide) (View.canon (runC c i R W h0 h1 x s).1.dz) := by
  constructor
  all_goals
    repeat refine (ld_skip _ _ _ _ (by rfl)).trans ?_
    exact (ld_hit _ _ _).trans (by sl_kernel_rfl)

theorem columns2 : Columns (raw R W x s 256 (by decide)) 256 (by decide) (View.canon (runC c i R W h0 h1 x s).1.dz) := by
  constructor
  all_goals
    repeat refine (ld_skip _ _ _ _ (by rfl)).trans ?_
    exact (ld_hit _ _ _).trans (by sl_kernel_rfl)

theorem columns1 : Columns (raw R W x s 128 (by decide)) 128 (by decide) (View.canon (runC c i R W h0 h1 x s).1.dz) := by
  constructor
  all_goals
    repeat refine (ld_skip _ _ _ _ (by rfl)).trans ?_
    exact (ld_hit _ _ _).trans (by sl_kernel_rfl)

theorem columns0 : Columns (raw R W x s 0 (by decide)) 0 (by decide) (View.canon (runC c i R W h0 h1 x s).1.dz) := by
  constructor
  all_goals
    repeat refine (ld_skip _ _ _ _ (by rfl)).trans ?_
    exact (ld_hit _ _ _).trans (by sl_kernel_rfl)

theorem ws : View.canon (runC c i R W h0 h1 x s).1.dws = (raw R W x s 0 (by decide)).dws ((raw R W x s 128 (by decide)).dws
    ((raw R W x s 256 (by decide)).dws ((raw R W x s 384 (by decide)).dws s.dws))) := by
  refine (ld_allWs _).symm.trans ((ld_hit allWs _ _).trans ?_)
  refine Eq.trans (b := (raw R W x s 0 (by decide)).dws (R.dws.view.readCov (runC.sl.H22_3 R W x s) allWs.toLoadRect)) (by sl_kernel_rfl)
    (congrArg (raw R W x s 0 (by decide)).dws ((View.readCov_cons_toLoadRect _ allWs _ _).trans ?_))
  refine Eq.trans (b := (raw R W x s 128 (by decide)).dws (R.dws.view.readCov (runC.sl.H22_2 R W x s) allWs.toLoadRect)) (by sl_kernel_rfl)
    (congrArg (raw R W x s 128 (by decide)).dws ((View.readCov_cons_toLoadRect _ allWs _ _).trans ?_))
  refine Eq.trans (b := (raw R W x s 256 (by decide)).dws (R.dws.view.readCov (runC.sl.H22_1 R W x s) allWs.toLoadRect)) (by sl_kernel_rfl)
    (congrArg (raw R W x s 256 (by decide)).dws ((View.readCov_cons_toLoadRect _ allWs _ _).trans ?_))
  exact Eq.trans (b := (raw R W x s 384 (by decide)).dws (View.readAt (Elt F) R.dws.view allWs.toLoadRect (W.dws.unread s.dws))) (by sl_kernel_rfl)
    (congrArg (raw R W x s 384 (by decide)).dws ((readAt_ld W.dws s.dws allWs).trans (ld_allWs _)))

theorem bs : View.canon (runC c i R W h0 h1 x s).1.dbs = (raw R W x s 0 (by decide)).dbs ((raw R W x s 128 (by decide)).dbs
    ((raw R W x s 256 (by decide)).dbs ((raw R W x s 384 (by decide)).dbs s.dbs))) := by
  refine (ld_allBs _).symm.trans ((ld_hit allBs _ _).trans ?_)
  refine Eq.trans (b := (raw R W x s 0 (by decide)).dbs (R.dbs.view.readCov (runC.sl.H23_3 R W x s) allBs.toLoadRect)) (by sl_kernel_rfl)
    (congrArg (raw R W x s 0 (by decide)).dbs ((View.readCov_cons_toLoadRect _ allBs _ _).trans ?_))
  refine Eq.trans (b := (raw R W x s 128 (by decide)).dbs (R.dbs.view.readCov (runC.sl.H23_2 R W x s) allBs.toLoadRect)) (by sl_kernel_rfl)
    (congrArg (raw R W x s 128 (by decide)).dbs ((View.readCov_cons_toLoadRect _ allBs _ _).trans ?_))
  refine Eq.trans (b := (raw R W x s 256 (by decide)).dbs (R.dbs.view.readCov (runC.sl.H23_1 R W x s) allBs.toLoadRect)) (by sl_kernel_rfl)
    (congrArg (raw R W x s 256 (by decide)).dbs ((View.readCov_cons_toLoadRect _ allBs _ _).trans ?_))
  exact Eq.trans (b := (raw R W x s 384 (by decide)).dbs (View.readAt (Elt F) R.dbs.view allBs.toLoadRect (W.dbs.unread s.dbs))) (by sl_kernel_rfl)
    (congrArg (raw R W x s 384 (by decide)).dbs ((readAt_ld W.dbs s.dbs allBs).trans (ld_allBs _)))

theorem scale : View.ld (rows R W (runC c i R W h0 h1 x s).1 s.acc) (row 8 (by decide))
    = (raw R W x s 0 (by decide)).dScale ((raw R W x s 128 (by decide)).dScale ((raw R W x s 256 (by decide)).dScale
      ((raw R W x s 384 (by decide)).dScale (View.ld s.acc (row 8 (by decide)))))) := by
  repeat refine (read_skip _ _ _ _ _ _ (by rfl)).trans ?_
  refine (read_hit _ _ _ _ _).trans ?_
  refine Eq.trans (b := (raw R W x s 0 (by decide)).dScale (runC.sl.v9348 i R W x s)) (by sl_kernel_rfl)
    (congrArg (raw R W x s 0 (by decide)).dScale ?_)
  repeat refine (View.readCov_skip _ _ _ _ _ (by rfl)).trans ?_
  refine (View.readCov_cons_toLoadRect _ _ _ _).trans ?_
  refine Eq.trans (b := (raw R W x s 128 (by decide)).dScale (runC.sl.v6995 i R W x s)) (by sl_kernel_rfl)
    (congrArg (raw R W x s 128 (by decide)).dScale ?_)
  repeat refine (View.readCov_skip _ _ _ _ _ (by rfl)).trans ?_
  refine (View.readCov_cons_toLoadRect _ _ _ _).trans ?_
  refine Eq.trans (b := (raw R W x s 256 (by decide)).dScale (runC.sl.v4642 i R W x s)) (by sl_kernel_rfl)
    (congrArg (raw R W x s 256 (by decide)).dScale ?_)
  repeat refine (View.readCov_skip _ _ _ _ _ (by rfl)).trans ?_
  refine (View.readCov_cons_toLoadRect _ _ _ _).trans ?_
  exact Eq.trans (b := (raw R W x s 384 (by decide)).dScale (runC.sl.v2289 R W s)) (by sl_kernel_rfl)
    (congrArg (raw R W x s 384 (by decide)).dScale (readAt_ld W.acc s.acc (row 8 (by decide))))

theorem shift : View.ld (rows R W (runC c i R W h0 h1 x s).1 s.acc) (row 9 (by decide))
    = (raw R W x s 0 (by decide)).dShift ((raw R W x s 128 (by decide)).dShift ((raw R W x s 256 (by decide)).dShift
      ((raw R W x s 384 (by decide)).dShift (View.ld s.acc (row 9 (by decide)))))) := by
  repeat refine (read_skip _ _ _ _ _ _ (by rfl)).trans ?_
  refine (read_hit _ _ _ _ _).trans ?_
  refine Eq.trans (b := (raw R W x s 0 (by decide)).dShift (runC.sl.v9385 i R W x s)) (by sl_kernel_rfl)
    (congrArg (raw R W x s 0 (by decide)).dShift ?_)
  repeat refine (View.readCov_skip _ _ _ _ _ (by rfl)).trans ?_
  refine (View.readCov_cons_toLoadRect _ _ _ _).trans ?_
  refine Eq.trans (b := (raw R W x s 128 (by decide)).dShift (runC.sl.v7032 i R W x s)) (by sl_kernel_rfl)
    (congrArg (raw R W x s 128 (by decide)).dShift ?_)
  repeat refine (View.readCov_skip _ _ _ _ _ (by rfl)).trans ?_
  refine (View.readCov_cons_toLoadRect _ _ _ _).trans ?_
  refine Eq.trans (b := (raw R W x s 256 (by decide)).dShift (runC.sl.v4679 i R W x s)) (by sl_kernel_rfl)
    (congrArg (raw R W x s 256 (by decide)).dShift ?_)
  repeat refine (View.readCov_skip _ _ _ _ _ (by rfl)).trans ?_
  refine (View.readCov_cons_toLoadRect _ _ _ _).trans ?_
  exact Eq.trans (b := (raw R W x s 384 (by decide)).dShift (runC.sl.v2326 R W s)) (by sl_kernel_rfl)
    (congrArg (raw R W x s 384 (by decide)).dShift (readAt_ld W.acc s.acc (row 9 (by decide))))

/-- The sums' row of the scale. -/
theorem sums8 : View.ld (View.canon (runC c i R W h0 h1 x s).1.sums) (Rect.unit (s := S64x256) ![8, 0] S1x256.size (by decide))
    = k0_pay8 (View.ld (rows R W (runC c i R W h0 h1 x s).1 s.acc) (row 8 (by decide))) := by
  repeat refine (ld_skip _ _ _ _ (by rfl)).trans ?_
  refine (ld_hit _ _ _).trans ?_
  refine Eq.trans (b := k0_pay8 (runC.sl.v9508 i R W x s)) (by sl_kernel_rfl) (congrArg k0_pay8 ?_)
  symm
  repeat refine (read_skip _ _ _ _ _ _ (by rfl)).trans ?_
  refine (read_hit _ _ _ _ _).trans ?_
  symm
  repeat refine (View.readCov_skip _ _ _ _ _ (by rfl)).trans ?_
  exact View.readCov_cons_toLoadRect _ _ _ _

/-- The sums' row of the shift. -/
theorem sums9 : View.ld (View.canon (runC c i R W h0 h1 x s).1.sums) (Rect.unit (s := S64x256) ![9, 0] S1x256.size (by decide))
    = k0_pay8 (View.ld (rows R W (runC c i R W h0 h1 x s).1 s.acc) (row 9 (by decide))) := by
  repeat refine (ld_skip _ _ _ _ (by rfl)).trans ?_
  refine (ld_hit _ _ _).trans ?_
  refine Eq.trans (b := k0_pay8 (runC.sl.v9513 i R W x s)) (by sl_kernel_rfl) (congrArg k0_pay8 ?_)
  symm
  repeat refine (read_skip _ _ _ _ _ _ (by rfl)).trans ?_
  refine (read_hit _ _ _ _ _).trans ?_
  symm
  repeat refine (View.readCov_skip _ _ _ _ _ (by rfl)).trans ?_
  exact View.readCov_cons_toLoadRect _ _ _ _

attribute [local irreducible] runC

theorem leaves : Leaves x s.dy s.dws s.dbs s.acc (atLast c i R W h0 h1 x s) where
  dz3 := by simp only [← rawPart_eq R W]; exact columns3 c i R W h0 h1 x s
  dz2 := by simp only [← rawPart_eq R W]; exact columns2 c i R W h0 h1 x s
  dz1 := by simp only [← rawPart_eq R W]; exact columns1 c i R W h0 h1 x s
  dz0 := by simp only [← rawPart_eq R W]; exact columns0 c i R W h0 h1 x s
  ws := by simp only [← rawPart_eq R W]; exact ws c i R W h0 h1 x s
  bs := by simp only [← rawPart_eq R W]; exact bs c i R W h0 h1 x s
  scale := by simp only [← rawPart_eq R W]; exact scale c i R W h0 h1 x s
  shift := by simp only [← rawPart_eq R W]; exact shift c i R W h0 h1 x s

end Last

end Cert.MixBwd

end
-- ==== Proof.MixBwd.Bias.lean ====
module

public import proofs.«01_k».proof.Proof.MixBwd.First
public import proofs.«01_k».proof.Proof.MixBwd.Middle
public import proofs.«01_k».proof.Proof.MixBwd.Last

/-!
# The running row of the conformer's bias

The bias is added just before the conformer's gate, so its gradient sums the cotangent of the third group's columns
times the gate.  A visit adds its four chunks to row 7 of the running rows.
-/

@[expose] public section

set_option maxRecDepth 16384

noncomputable section

namespace Cert.MixBwd

open Cert.Kernel2Ideal Cert.Kernel2Ideal.Gen
open Idealize.ShloMosaic Idealize.ShloMosaic.TcCoe Idealize.ShloMosaic.Tactic
open Idealize.SL.Sem

variable {F : FTy → Type} [FloatOps F] [Named F]

theorem fitsThird (o : ℕ) (ho : o + 128 ≤ 512) : ∀ a, ![o, 512] a + S128x256.size a ≤ S512x1024.size a :=
  fun a => by
    refine Fin.cases ?_ (fun b => ?_) a
    · exact ho
    · refine Fin.cases ?_ (fun b => b.elim0) b
      exact (by decide : 512 + 256 ≤ 1024)

/-- A chunk's box in the third group's columns of the cotangent, and in the gate's columns of the projection. -/
abbrev thirdBox (o : ℕ) (ho : o + 128 ≤ 512) : Rect S512x1024 := Rect.unit (s := S512x1024) ![o, 512] S128x256.size (fitsThird o ho)
abbrev gateBox (o : ℕ) (ho : o + 128 ≤ 512) : Rect S512x3072 :=
  Rect.unit (s := S512x3072) ![o, 2048] S128x256.size (fits o 2048 ho (by decide))

/-- The running row after a chunk with gate columns `g` and cotangent `dy`. -/
abbrev addBias (g : Vec F S128x256 .bf16) (dy : Vec F S128x256 .f32) (a : Vec F S1x8x256 .f32) : FVec F S1x8x256 .f32 :=
  k0_pay147 (k0_pay141 g) dy a

/-- The running row after the chunk at row `o`. -/
def dBias (x : Blocks F) (dy : Vec F S512x1024 .f32) (o : ℕ) (ho : o + 128 ≤ 512) (a : Vec F S1x8x256 .f32) : FVec F S1x8x256 .f32 :=
  addBias (View.ld x.zm (gateBox o ho)) (View.ld dy (thirdBox o ho)) a

/-- The same as the body reads it, the chunk's cotangent given. -/
abbrev rawBias (R : Refs) (W : R.Whole) (x : Blocks F) (o : ℕ) (ho : o + 128 ≤ 512) (dy : Vec F S128x256 .f32)
    (a : Vec F S1x8x256 .f32) : FVec F S1x8x256 .f32 :=
  addBias (View.readAt (Elt F) R.zm.view (gateBox o ho).toLoadRect (W.zm.unread x.zm)) dy a

theorem rawBias_eq (R : Refs) (W : R.Whole) (x : Blocks F) (o : ℕ) (ho : o + 128 ≤ 512) (dy : Vec F S128x256 .f32)
    (d : Vec F S512x1024 .f32) (e : dy = View.ld d (thirdBox o ho)) (a : Vec F S1x8x256 .f32) :
    rawBias R W x o ho dy a = dBias x d o ho a := by
  unfold rawBias dBias
  rw [e, readAt_ld]

/-- The third group's columns of a tile's cotangent. -/
abbrev third : Rect S512x1024 := Rect.unit (s := S512x1024) ![0, 512] S512x256.size (by decide)

/-- The cotangent of the tile that the next visit takes, in the third group's columns. -/
def dyThird (x : Blocks F) : FVec F S512x256 .f32 :=
  k0_pay547 (k0_pay80 (View.ld x.dxNext (Rect.unit (s := S512x1024) ![0, 0] S512x1024.size (by decide)))
      (View.ld x.gate (Rect.unit (s := S1x1024) ![0, 0] S1x1024.size (by decide))))
    (View.ld x.wOut (Rect.unit (s := S1024x1024) ![512, 0] S256x1024.size (by decide)))

/-- What a visit leaves in the running row of the bias. -/
abbrev BiasRow (x : Blocks F) (dy : Vec F S512x1024 .f32) (acc : Vec F S64x8x256 .f32) (s : State F) : Prop :=
  View.ld s.acc (row 7 (by decide)) = dBias x dy 0 (by decide) (dBias x dy 128 (by decide) (dBias x dy 256 (by decide)
    (dBias x dy 384 (by decide) (View.ld acc (row 7 (by decide))))))

namespace First

variable (c : Dev nD) (i : grid0.Coords) (R : Refs) (W : R.Whole) (h0 : first i) (h1 : ¬last i) (x : Blocks F)

/-- What the first visit reads of its cotangent. -/
abbrev thirdRead (o : ℕ) (ho : o + 128 ≤ 512) : Vec F S128x256 .f32 :=
  R.dy.view.readCov (runA.sl.H26_1 R W x) (thirdBox o ho).toLoadRect

theorem thirdRead_eq (o : ℕ) (ho : o + 128 ≤ 512) : thirdRead R W x o ho = View.ld (dyOwn x) (thirdBox o ho) := by
  refine (View.readCov_fill _ _ _ _ (thirdBox o ho) (by decide)).trans ?_
  refine congrArg (fun d => View.ld d _) ?_
  unfold dyOwn
  rw [← readAt_ld W.dx, ← readAt_ld W.gate, ← readAt_ld W.wOut]
  sl_kernel_rfl

theorem bias_raw : View.ld (View.canon (runA c i R W h0 h1 x).1.acc) (row 7 (by decide))
    = rawBias R W x 0 (by decide) (thirdRead R W x 0 (by decide)) (rawBias R W x 128 (by decide) (thirdRead R W x 128 (by decide))
      (rawBias R W x 256 (by decide) (thirdRead R W x 256 (by decide)) (rawBias R W x 384 (by decide) (thirdRead R W x 384 (by decide))
        (View.ld k0_pay1 (row 7 (by decide)))))) := by
  repeat refine (ld_skip _ _ _ _ (by rfl)).trans ?_
  refine (ld_hit _ _ _).trans ?_
  refine Eq.trans (b := rawBias R W x 0 (by decide) (thirdRead R W x 0 (by decide)) (runA.sl.v7518 i R W x)) (by sl_kernel_rfl)
    (congrArg (rawBias R W x 0 (by decide) _) ?_)
  repeat refine (View.readCov_skip _ _ _ _ _ (by rfl)).trans ?_
  refine (View.readCov_cons_toLoadRect _ _ _ _).trans ?_
  refine Eq.trans (b := rawBias R W x 128 (by decide) (thirdRead R W x 128 (by decide)) (runA.sl.v5165 i R W x)) (by sl_kernel_rfl)
    (congrArg (rawBias R W x 128 (by decide) _) ?_)
  repeat refine (View.readCov_skip _ _ _ _ _ (by rfl)).trans ?_
  refine (View.readCov_cons_toLoadRect _ _ _ _).trans ?_
  refine Eq.trans (b := rawBias R W x 256 (by decide) (thirdRead R W x 256 (by decide)) (runA.sl.v2812 i R W x)) (by sl_kernel_rfl)
    (congrArg (rawBias R W x 256 (by decide) _) ?_)
  repeat refine (View.readCov_skip _ _ _ _ _ (by rfl)).trans ?_
  refine (View.readCov_cons_toLoadRect _ _ _ _).trans ?_
  refine Eq.trans (b := rawBias R W x 384 (by decide) (thirdRead R W x 384 (by decide)) (runA.sl.v459 i R W x)) (by sl_kernel_rfl)
    (congrArg (rawBias R W x 384 (by decide) _) ?_)
  repeat refine (View.readCov_skip _ _ _ _ _ (by rfl)).trans ?_
  exact View.readCov_fill _ _ _ _ (row 7 (by decide)) (by decide)

theorem dyThird_eq : View.ld (View.canon (runA c i R W h0 h1 x).1.dy) third = dyThird x := by
  refine (congrArg (fun X => View.ld X third) ((ld_allDy _).symm.trans (ld_hit allDy _ _))).trans ?_
  refine Eq.trans (b := View.ld (k0_pay996 (R.dyNext.view.readCov (runA.sl.H27_4 R W x) allDy.toLoadRect)) third) (by sl_kernel_rfl) ?_
  unfold k0_pay996
  dsimp only
  rw [shapeCast_self, View.readCov_eq_canon']
  refine (congrArg (fun X => View.ld X third) (ld_allDy (View.canon (runA.sl.H27_4 R W x)))).trans ?_
  refine (ld_skip _ _ _ _ (by rfl)).trans ?_
  refine (ld_hit _ _ _).trans ?_
  unfold dyThird
  rw [← readAt_ld W.dxNext, ← readAt_ld W.gate, ← readAt_ld W.wOut]
  sl_kernel_rfl

attribute [local irreducible] runA

theorem bias : BiasRow x (dyOwn x) k0_pay1 (atFirst c i R W h0 h1 x) := by
  refine (bias_raw c i R W h0 h1 x).trans ?_
  simp only [rawBias_eq _ _ _ _ _ _ _ (thirdRead_eq R W x _ _)]

end First

namespace Middle

variable (c : Dev nD) (i : grid0.Coords) (R : Refs) (W : R.Whole) (h0 : ¬first i) (h1 : ¬last i) (x : Blocks F) (s : State F)

/-- What the visit reads of its cotangent. -/
abbrev thirdRead (o : ℕ) (ho : o + 128 ≤ 512) : Vec F S128x256 .f32 :=
  View.readAt (Elt F) R.dy.view (thirdBox o ho).toLoadRect (W.dy.unread s.dy)

theorem bias_raw : View.ld (rows R W (runB c i R W h0 h1 x s).1 s.acc) (row 7 (by decide))
    = rawBias R W x 0 (by decide) (thirdRead R W s 0 (by decide)) (rawBias R W x 128 (by decide) (thirdRead R W s 128 (by decide))
      (rawBias R W x 256 (by decide) (thirdRead R W s 256 (by decide)) (rawBias R W x 384 (by decide) (thirdRead R W s 384 (by decide))
        (View.ld s.acc (row 7 (by decide)))))) := by
  repeat refine (read_skip _ _ _ _ _ _ (by rfl)).trans ?_
  refine (read_hit _ _ _ _ _).trans ?_
  refine Eq.trans (b := rawBias R W x 0 (by decide) (thirdRead R W s 0 (by decide)) (runB.sl.v7518 i R W x s)) (by sl_kernel_rfl)
    (congrArg (rawBias R W x 0 (by decide) _) ?_)
  repeat refine (View.readCov_skip _ _ _ _ _ (by rfl)).trans ?_
  refine (View.readCov_cons_toLoadRect _ _ _ _).trans ?_
  refine Eq.trans (b := rawBias R W x 128 (by decide) (thirdRead R W s 128 (by decide)) (runB.sl.v5165 i R W x s)) (by sl_kernel_rfl)
    (congrArg (rawBias R W x 128 (by decide) _) ?_)
  repeat refine (View.readCov_skip _ _ _ _ _ (by rfl)).trans ?_
  refine (View.readCov_cons_toLoadRect _ _ _ _).trans ?_
  refine Eq.trans (b := rawBias R W x 256 (by decide) (thirdRead R W s 256 (by decide)) (runB.sl.v2812 i R W x s)) (by sl_kernel_rfl)
    (congrArg (rawBias R W x 256 (by decide) _) ?_)
  repeat refine (View.readCov_skip _ _ _ _ _ (by rfl)).trans ?_
  refine (View.readCov_cons_toLoadRect _ _ _ _).trans ?_
  exact Eq.trans (b := rawBias R W x 384 (by decide) (thirdRead R W s 384 (by decide)) (runB.sl.v459 R W s)) (by sl_kernel_rfl)
    (congrArg (rawBias R W x 384 (by decide) _) (readAt_ld W.acc s.acc (row 7 (by decide))))

theorem dyThird_eq : View.ld (View.canon (runB c i R W h0 h1 x s).1.dy) third = dyThird x := by
  refine (congrArg (fun X => View.ld X third) ((ld_allDy _).symm.trans (ld_hit allDy _ _))).trans ?_
  refine Eq.trans (b := View.ld (k0_pay996 (R.dyNext.view.readCov (runB.sl.H27_4 R W x) allDy.toLoadRect)) third) (by sl_kernel_rfl) ?_
  unfold k0_pay996
  dsimp only
  rw [shapeCast_self, View.readCov_eq_canon']
  refine (congrArg (fun X => View.ld X third) (ld_allDy (View.canon (runB.sl.H27_4 R W x)))).trans ?_
  refine (ld_skip _ _ _ _ (by rfl)).trans ?_
  refine (ld_hit _ _ _).trans ?_
  unfold dyThird
  rw [← readAt_ld W.dxNext, ← readAt_ld W.gate, ← readAt_ld W.wOut]
  sl_kernel_rfl

attribute [local irreducible] runB

theorem bias : BiasRow x s.dy s.acc (atMiddle c i R W h0 h1 x s) := by
  refine (bias_raw c i R W h0 h1 x s).trans ?_
  simp only [rawBias_eq _ _ _ _ _ _ _ (readAt_ld W.dy s.dy (thirdBox _ _))]

end Middle

namespace Last

variable (c : Dev nD) (i : grid0.Coords) (R : Refs) (W : R.Whole) (h0 : ¬first i) (h1 : last i) (x : Blocks F) (s : State F)

/-- What the visit reads of its cotangent. -/
abbrev thirdRead (o : ℕ) (ho : o + 128 ≤ 512) : Vec F S128x256 .f32 :=
  View.readAt (Elt F) R.dy.view (thirdBox o ho).toLoadRect (W.dy.unread s.dy)

theorem bias_raw : View.ld (rows R W (runC c i R W h0 h1 x s).1 s.acc) (row 7 (by decide))
    = rawBias R W x 0 (by decide) (thirdRead R W s 0 (by decide)) (rawBias R W x 128 (by decide) (thirdRead R W s 128 (by decide))
      (rawBias R W x 256 (by decide) (thirdRead R W s 256 (by decide)) (rawBias R W x 384 (by decide) (thirdRead R W s 384 (by decide))
        (View.ld s.acc (row 7 (by decide)))))) := by
  repeat refine (read_skip _ _ _ _ _ _ (by rfl)).trans ?_
  refine (read_hit _ _ _ _ _).trans ?_
  refine Eq.trans (b := rawBias R W x 0 (by decide) (thirdRead R W s 0 (by decide)) (runC.sl.v7518 i R W x s)) (by sl_kernel_rfl)
    (congrArg (rawBias R W x 0 (by decide) _) ?_)
  repeat refine (View.readCov_skip _ _ _ _ _ (by rfl)).trans ?_
  refine (View.readCov_cons_toLoadRect _ _ _ _).trans ?_
  refine Eq.trans (b := rawBias R W x 128 (by decide) (thirdRead R W s 128 (by decide)) (runC.sl.v5165 i R W x s)) (by sl_kernel_rfl)
    (congrArg (rawBias R W x 128 (by decide) _) ?_)
  repeat refine (View.readCov_skip _ _ _ _ _ (by rfl)).trans ?_
  refine (View.readCov_cons_toLoadRect _ _ _ _).trans ?_
  refine Eq.trans (b := rawBias R W x 256 (by decide) (thirdRead R W s 256 (by decide)) (runC.sl.v2812 i R W x s)) (by sl_kernel_rfl)
    (congrArg (rawBias R W x 256 (by decide) _) ?_)
  repeat refine (View.readCov_skip _ _ _ _ _ (by rfl)).trans ?_
  refine (View.readCov_cons_toLoadRect _ _ _ _).trans ?_
  exact Eq.trans (b := rawBias R W x 384 (by decide) (thirdRead R W s 384 (by decide)) (runC.sl.v459 R W s)) (by sl_kernel_rfl)
    (congrArg (rawBias R W x 384 (by decide) _) (readAt_ld W.acc s.acc (row 7 (by decide))))

/-- The sums' row of the bias. -/
theorem sums7 : View.ld (View.canon (runC c i R W h0 h1 x s).1.sums) (Rect.unit (s := S64x256) ![7, 0] S1x256.size (by decide))
    = k0_pay8 (View.ld (rows R W (runC c i R W h0 h1 x s).1 s.acc) (row 7 (by decide))) := by
  repeat refine (ld_skip _ _ _ _ (by rfl)).trans ?_
  refine (ld_hit _ _ _).trans ?_
  refine Eq.trans (b := k0_pay8 (runC.sl.v9503 i R W x s)) (by sl_kernel_rfl) (congrArg k0_pay8 ?_)
  symm
  repeat refine (read_skip _ _ _ _ _ _ (by rfl)).trans ?_
  refine (read_hit _ _ _ _ _).trans ?_
  symm
  repeat refine (View.readCov_skip _ _ _ _ _ (by rfl)).trans ?_
  exact View.readCov_cons_toLoadRect _ _ _ _

attribute [local irreducible] runC

theorem bias : BiasRow x s.dy s.acc (atLast c i R W h0 h1 x s) := by
  refine (bias_raw c i R W h0 h1 x s).trans ?_
  simp only [rawBias_eq _ _ _ _ _ _ _ (readAt_ld W.dy s.dy (thirdBox _ _))]

end Last

end Cert.MixBwd

end
-- ==== Proof.MixBwd.Rows.lean ====
module

public import Idealize.ShloMosaic.Lib.Pipeline.ValueKit

/-!
# The gating mixer on real numbers

The functions that the mixer and its gradients are made of, on the 128 rows of one chunk.
-/

@[expose] public section

noncomputable section

namespace Cert.MixBwd

/-- The two constants of the activation, and the small number under the root. -/
def c0 : ℝ := 13386282 / 16777216
def k0 : ℝ := 12003091 / 268435456
def e0 : ℝ := 8796093 * 2 ^ (-43 : ℤ)

def th (x : ℝ) : ℝ := Real.tanh (c0 * (x + k0 * (x * (x * x))))
def phi (x : ℝ) : ℝ := 1 / 2 + 1 / 2 * th x
/-- The activation and its derivative. -/
def gel (x : ℝ) : ℝ := x * phi x
def slope (x : ℝ) : ℝ := phi x + 1 / 2 * x * (1 - th x * th x) * (c0 + 3 * c0 * k0 * (x * x))
def sgm (x : ℝ) : ℝ := (1 + Real.exp (-x))⁻¹

/-- The normalisation of one row, and its transpose. -/
def mean (a : Fin 256 → ℝ) : ℝ := (∑ c, a c) * (1 / 256)
def cen (a : Fin 256 → ℝ) (c : Fin 256) : ℝ := a c - mean a
def vari (a : Fin 256 → ℝ) : ℝ := mean (fun c => cen a c * cen a c) + e0
def inv (a : Fin 256 → ℝ) : ℝ := (Real.sqrt (vari a))⁻¹
def nrm (a : Fin 256 → ℝ) (c : Fin 256) : ℝ := cen a c * inv a
def back (a d : Fin 256 → ℝ) (c : Fin 256) : ℝ := inv a * (d c - mean d - nrm a c * mean (fun c => d c * nrm a c))

theorem vari_pos (a : Fin 256 → ℝ) : 0 < vari a := by
  have h : 0 ≤ ∑ c : Fin 256, cen a c * cen a c := Finset.sum_nonneg fun c _ => mul_self_nonneg _
  unfold vari mean e0
  positivity

theorem inv_sq (a : Fin 256 → ℝ) : inv a * inv a = 1 / vari a := by
  unfold inv
  rw [← mul_inv, Real.mul_self_sqrt (vari_pos a).le, one_div]

/-- The head of a column. -/
def head (c : Fin 256) : Fin 4 := ⟨c.val / 64, by omega⟩

/-- What a chunk reads, as real numbers. -/
structure Rows where
  u : Fin 128 → Fin 256 → ℝ
  v : Fin 128 → Fin 256 → ℝ
  g : Fin 128 → Fin 256 → ℝ
  dy : Fin 128 → Fin 256 → ℝ
  scale : Fin 256 → ℝ
  shift : Fin 256 → ℝ
  w : Fin 4 → Fin 128 → Fin 128 → ℝ
  b : Fin 4 → Fin 128 → ℝ

namespace Rows

variable (X : Rows)

def a (r : Fin 128) (c : Fin 256) : ℝ := gel (X.v r c)
def n (r : Fin 128) (c : Fin 256) : ℝ := nrm (X.a r) c
def y (r : Fin 128) (c : Fin 256) : ℝ := X.n r c * X.scale c + X.shift c
def mix (r : Fin 128) (c : Fin 256) : ℝ := (∑ t, X.w (head c) r t * X.y t c) + X.b (head c) r
def gate (r : Fin 128) (c : Fin 256) : ℝ := X.g r c * sgm (X.g r c)
def dM (r : Fin 128) (c : Fin 256) : ℝ := X.dy r c * gel (X.u r c) * X.gate r c
def dU (r : Fin 128) (c : Fin 256) : ℝ := X.dy r c * X.mix r c * X.gate r c * slope (X.u r c)
def dG (r : Fin 128) (c : Fin 256) : ℝ :=
  X.dy r c * gel (X.u r c) * X.mix r c * (sgm (X.g r c) + X.gate r c * (1 - sgm (X.g r c)))
def dN (r : Fin 128) (c : Fin 256) : ℝ := ∑ t, X.w (head c) t r * X.dM t c
def dV (r : Fin 128) (c : Fin 256) : ℝ := back (X.a r) (fun c => X.dN r c * X.scale c) c * slope (X.v r c)
/-- The chunk's part of the mixing matrices' gradient. -/
def dW (h : Fin 4) (s t : Fin 128) : ℝ := ∑ c : Fin 256, (if head c = h then X.dM s c else 0) * X.y t c

end Rows

end Cert.MixBwd
-- ==== Proof.MixBwd.Value.lean ====
module

public import proofs.«01_k».proof.Proof.MixBwd.Chunk
public import proofs.«01_k».proof.Proof.MixBwd.Rows
public import proofs.«01_k».proof.Proof.Common.Finite
public import Idealize.ShloMosaic.Lib.Pointwise

/-!
# A chunk's stores at the extended reals

On real arguments each store of a chunk is the real number that the plain formulas give.
-/

@[expose] public section

set_option maxRecDepth 16384

noncomputable section

namespace Cert.MixBwd

open Cert.Kernel2Ideal Cert.Kernel2Ideal.Gen Cert.Common
open Idealize.ShloMosaic Idealize.ShloMosaic.TcCoe Idealize.ShloMosaic.Tactic
open Idealize.SL.Sem

theorem const_half : Ideal.ofBits FTy.f32 1056964608#32 = ((1 / 2 : ℝ) : EReal) := by
  simp [Ideal.ofBits, Ideal.ieee, -EReal.coe_mul]; norm_num
theorem const_c0 : Ideal.ofBits FTy.f32 1061962282#32 = (c0 : EReal) := by
  unfold c0; simp [Ideal.ofBits, Ideal.ieee, -EReal.coe_mul]; norm_num
theorem const_k0 : Ideal.ofBits FTy.f32 1027024659#32 = (k0 : EReal) := by
  unfold k0; simp [Ideal.ofBits, Ideal.ieee, -EReal.coe_mul]; norm_num
theorem const_e0 : Ideal.ofBits FTy.f32 897988541#32 = (e0 : EReal) := by
  unfold e0; simp [Ideal.ofBits, Ideal.ieee, -EReal.coe_mul]
theorem const_256 : Ideal.ofBits FTy.f32 1132462080#32 = ((256 : ℝ) : EReal) := by
  simp [Ideal.ofBits, Ideal.ieee, -EReal.coe_mul]; norm_num

theorem const_named : Named.named (F := Ideal) (φ := .f32) κ "three_c0_c1" 1037775798#32 = ((3 * c0 * k0 : ℝ) : EReal) := by
  refine (IdealRules.named_const.ideal_named_scalar _ _ _ _ rfl).trans ?_
  refine congrArg (fun z : ℝ => (z : EReal)) ?_
  unfold c0 k0; norm_num

/-- The real rows as a chunk. -/
def ofRows (X : Rows) : Part Ideal where
  u := fun i => ((X.u (i 0) (i 1) : ℝ) : EReal)
  v := fun i => ((X.v (i 0) (i 1) : ℝ) : EReal)
  g := fun i => ((X.g (i 0) (i 1) : ℝ) : EReal)
  dy := fun i => ((X.dy (i 0) (i 1) : ℝ) : EReal)
  scale := fun i => ((X.scale (i 1) : ℝ) : EReal)
  shift := fun i => ((X.shift (i 1) : ℝ) : EReal)
  wS := fun i => ((X.w ⟨(i 0).val / 128, by have := (i 0).isLt; change _ < 512 at this; omega⟩ ⟨(i 0).val % 128, Nat.mod_lt _ (by decide)⟩ (i 1) : ℝ) : EReal)
  wST := fun i => ((X.w ⟨(i 0).val / 128, by have := (i 0).isLt; change _ < 512 at this; omega⟩ (i 1) ⟨(i 0).val % 128, Nat.mod_lt _ (by decide)⟩ : ℝ) : EReal)
  bS := fun i => ((X.b (head (i 1)) (i 0) : ℝ) : EReal)

variable (X : Rows)

theorem slt64 : ∀ c : Fin 256, IntOp.cmpi .slt (BitVec.ofNat 32 c.val) 64#32 = if c.val < 64 then 1#1 else 0#1 := by decide +kernel
theorem slt128 : ∀ c : Fin 256, IntOp.cmpi .slt (BitVec.ofNat 32 c.val) 128#32 = if c.val < 128 then 1#1 else 0#1 := by decide +kernel
theorem slt192 : ∀ c : Fin 256, IntOp.cmpi .slt (BitVec.ofNat 32 c.val) 192#32 = if c.val < 192 then 1#1 else 0#1 := by decide +kernel

/-- The nested selections pick the value of the column's head. -/
theorem select_head (c : Fin 256) (f : Fin 4 → EReal) :
    Scalar.select (IntOp.cmpi .slt (BitVec.ofNat 32 c.val) 64#32) (f 0) (Scalar.select (IntOp.cmpi .slt (BitVec.ofNat 32 c.val) 128#32) (f 1)
      (Scalar.select (IntOp.cmpi .slt (BitVec.ofNat 32 c.val) 192#32) (f 2) (f 3))) = f (head c) := by
  rw [slt64, slt128, slt192]
  by_cases h1 : c.val < 64
  · rw [if_pos h1, show head c = 0 from Fin.ext (show c.val / 64 = 0 by omega)]; rfl
  by_cases h2 : c.val < 128
  · rw [if_neg h1, if_pos h2, show head c = 1 from Fin.ext (show c.val / 64 = 1 by omega)]; rfl
  by_cases h3 : c.val < 192
  · rw [if_neg h1, if_neg h2, if_pos h3, show head c = 2 from Fin.ext (show c.val / 64 = 2 by omega)]; rfl
  · rw [if_neg h1, if_neg h2, if_neg h3, show head c = 3 from Fin.ext (show c.val / 64 = 3 by omega)]; rfl

section Reads
variable (r t : Fin 128) (c : Fin 256)
theorem u_at : (ofRows X).u (ix2 r c) = (X.u r c : EReal) := rfl
theorem v_at : (ofRows X).v (ix2 r c) = (X.v r c : EReal) := rfl
theorem g_at : (ofRows X).g (ix2 r c) = (X.g r c : EReal) := rfl
theorem dy_at : (ofRows X).dy (ix2 r c) = (X.dy r c : EReal) := rfl
theorem scale_at : (ofRows X).scale (ix2 0 c) = (X.scale c : EReal) := rfl
theorem shift_at : (ofRows X).shift (ix2 0 c) = (X.shift c : EReal) := rfl
theorem bS_at : (ofRows X).bS (ix2 r c) = (X.b (head c) r : EReal) := rfl
theorem w_at (k : ℕ) (h : Fin 4) (r' : Fin 128) (hk : k < 512) (e : k = 128 * h.val + r'.val) :
    (ofRows X).wS (ix2 ⟨k, hk⟩ t) = (X.w h r' t : EReal) ∧ (ofRows X).wST (ix2 ⟨k, hk⟩ t) = (X.w h t r' : EReal) := by
  have e1 : (⟨k / 128, by omega⟩ : Fin 4) = h := Fin.ext (show k / 128 = h.val by omega)
  have e2 : (⟨k % 128, Nat.mod_lt _ (by decide)⟩ : Fin 128) = r' := Fin.ext (show k % 128 = r'.val by omega)
  constructor
  · show ((X.w ⟨k / 128, _⟩ ⟨k % 128, _⟩ t : ℝ) : EReal) = _
    rw [e1, e2]
  · show ((X.w ⟨k / 128, _⟩ t ⟨k % 128, _⟩ : ℝ) : EReal) = _
    rw [e1, e2]
theorem wS0 (hk : r.val < 512) : (ofRows X).wS (ix2 ⟨r.val, hk⟩ t) = (X.w 0 r t : EReal) := (w_at X t _ 0 r hk (by simp)).1
theorem wS1 (hk : 128 + r.val < 512) : (ofRows X).wS (ix2 ⟨128 + r.val, hk⟩ t) = (X.w 1 r t : EReal) := (w_at X t _ 1 r hk (by simp)).1
theorem wS2 (hk : 256 + r.val < 512) : (ofRows X).wS (ix2 ⟨256 + r.val, hk⟩ t) = (X.w 2 r t : EReal) := (w_at X t _ 2 r hk (by simp)).1
theorem wS3 (hk : 384 + r.val < 512) : (ofRows X).wS (ix2 ⟨384 + r.val, hk⟩ t) = (X.w 3 r t : EReal) := (w_at X t _ 3 r hk (by simp)).1
theorem wST0 (hk : r.val < 512) : (ofRows X).wST (ix2 ⟨r.val, hk⟩ t) = (X.w 0 t r : EReal) := (w_at X t _ 0 r hk (by simp)).2
theorem wST1 (hk : 128 + r.val < 512) : (ofRows X).wST (ix2 ⟨128 + r.val, hk⟩ t) = (X.w 1 t r : EReal) := (w_at X t _ 1 r hk (by simp)).2
theorem wST2 (hk : 256 + r.val < 512) : (ofRows X).wST (ix2 ⟨256 + r.val, hk⟩ t) = (X.w 2 t r : EReal) := (w_at X t _ 2 r hk (by simp)).2
theorem wST3 (hk : 384 + r.val < 512) : (ofRows X).wST (ix2 ⟨384 + r.val, hk⟩ t) = (X.w 3 t r : EReal) := (w_at X t _ 3 r hk (by simp)).2
end Reads

section Activation
variable (r : Fin 128) (c : Fin 256)

theorem au_at : (ofRows X).au (ix2 r c) = (X.u r c : EReal) := by pointwise [k0_pay279, u_at]
theorem av_at : (ofRows X).av (ix2 r c) = (X.v r c : EReal) := by pointwise [k0_pay280, v_at]
theorem ag_at : (ofRows X).ag (ix2 r c) = (X.g r c : EReal) := by pointwise [k0_pay281, g_at]

theorem pay282 : k0_pay282 (F := Ideal) (ofRows X).u (ix2 r c) = ((X.u r c * X.u r c : ℝ) : EReal) := by
  pointwise [k0_pay282, k0_pay279, u_at]
  rw [EReal.coe_mul]
theorem pay283 : k0_pay283 (F := Ideal) (ofRows X).u (ix2 r c) = (th (X.u r c) : EReal) := by
  pointwise [k0_pay283, k0_pay282, k0_pay279, u_at]
  simp only [const_c0, const_k0, ← EReal.coe_mul, ← EReal.coe_add, Ideal.tanh_coe]
  rfl
theorem pay284 : k0_pay284 (F := Ideal) (ofRows X).u (ix2 r c) = (phi (X.u r c) : EReal) := by
  pointwise [k0_pay284, pay283]
  simp only [const_half, ← EReal.coe_mul, ← EReal.coe_add]
  rfl
theorem pay285 : k0_pay285 (F := Ideal) (ofRows X).u (ix2 r c) = (gel (X.u r c) : EReal) := by
  pointwise [k0_pay285, k0_pay279, pay284, u_at]
  simp only [← EReal.coe_mul]
  rfl
theorem pay286 : k0_pay286 (F := Ideal) (ofRows X).av (ix2 r c) = ((X.v r c * X.v r c : ℝ) : EReal) := by
  pointwise [k0_pay286, av_at]
  rw [EReal.coe_mul]
theorem pay287 : k0_pay287 (F := Ideal) (ofRows X).av (ix2 r c) = (th (X.v r c) : EReal) := by
  pointwise [k0_pay287, k0_pay286, av_at]
  simp only [const_c0, const_k0, ← EReal.coe_mul, ← EReal.coe_add, Ideal.tanh_coe]
  rfl
theorem pay288 : k0_pay288 (F := Ideal) (ofRows X).av (ix2 r c) = (phi (X.v r c) : EReal) := by
  pointwise [k0_pay288, pay287]
  simp only [const_half, ← EReal.coe_mul, ← EReal.coe_add]
  rfl
theorem pay289 : k0_pay289 (F := Ideal) (ofRows X).av (ix2 r c) = (cen (X.a r) c : EReal) := by
  pointwise [k0_pay289, pay288, av_at]
  simp only [const_256, Ideal.div_coe (show (256 : ℝ) ≠ 0 by norm_num), ← EReal.coe_mul, coe_sum, ← EReal.coe_sub]
  rfl
theorem pay290 : k0_pay290 (F := Ideal) (ofRows X).av (ix2 r 0) = (inv (X.a r) : EReal) := by
  pointwise [k0_pay290, pay289]
  simp only [const_256, const_e0, Ideal.div_coe (show (256 : ℝ) ≠ 0 by norm_num), ← EReal.coe_mul, coe_sum, ← EReal.coe_add]
  have h := vari_pos (X.a r)
  refine Eq.trans (b := Ideal.rsqrt (vari (X.a r) : EReal)) rfl ?_
  rw [Ideal.rsqrt_coe, if_neg (by linarith), if_neg h.ne']
  rfl
theorem pay291 : k0_pay291 (F := Ideal) (ofRows X).av (ix2 r c) = (X.n r c : EReal) := by
  pointwise [k0_pay291, pay289, pay290]
  simp only [← EReal.coe_mul]
  rfl
theorem pay292 : k0_pay292 (F := Ideal) (ofRows X).av (ofRows X).scale (ofRows X).shift (ix2 r c) = (X.y r c : EReal) := by
  pointwise [k0_pay292, pay291, scale_at, shift_at]
  simp only [← EReal.coe_mul, ← EReal.coe_add]
  rfl
theorem pay297 :
    k0_pay297 (F := Ideal) lane (k0_pay293 (ofRows X).av (ofRows X).scale (ofRows X).shift (ofRows X).wS)
      (k0_pay294 (ofRows X).av (ofRows X).scale (ofRows X).shift (ofRows X).wS) (k0_pay295 (ofRows X).av (ofRows X).scale (ofRows X).shift (ofRows X).wS)
      (k0_pay296 (ofRows X).av (ofRows X).scale (ofRows X).shift (ofRows X).wS) (ofRows X).bS (ix2 r c) = (X.mix r c : EReal) := by
  pointwise [k0_pay297, k0_pay296, k0_pay295, k0_pay294, k0_pay293, pay292, wS0, wS1, wS2, wS3, bS_at]
  simp only [← EReal.coe_mul, coe_sum]
  rw [select_head c (fun h => ((∑ t : Fin 128, X.w h r t * X.y t c : ℝ) : EReal)), ← EReal.coe_add]
  rfl
theorem pay298 : k0_pay298 (F := Ideal) (ofRows X).ag (ix2 r c) = (sgm (X.g r c) : EReal) := by
  pointwise [k0_pay298, ag_at]
  rw [Ideal.logistic_coe]
  rfl
theorem pay299 : k0_pay299 (F := Ideal) (ofRows X).ag (ix2 r c) = (X.gate r c : EReal) := by
  pointwise [k0_pay299, pay298, ag_at]
  rw [← EReal.coe_mul]
  rfl

theorem dG_at : (ofRows X).dG (ix2 r c) = (X.dG r c : EReal) := by
  unfold Part.dG
  pointwise [k0_pay301, pay297, pay298, pay299, pay285, dy_at]
  simp only [← EReal.coe_one, ← EReal.coe_mul, ← EReal.coe_add, ← EReal.coe_sub]
  rfl
theorem dU_at : (ofRows X).dU (ix2 r c) = (X.dU r c : EReal) := by
  unfold Part.dU
  pointwise [k0_pay304, k0_pay302, k0_pay303, pay297, pay299, pay284, pay283, pay282, dy_at, au_at]
  simp only [const_named, const_half, const_c0, ← EReal.coe_one, ← EReal.coe_mul, ← EReal.coe_add, ← EReal.coe_sub]
  rfl
theorem dM_at : (ofRows X).dMixed (ix2 r c) = (X.dM r c : EReal) := by
  unfold Part.dMixed
  pointwise [k0_pay305, pay285, pay299, dy_at]
  simp only [← EReal.coe_mul]
  rfl
theorem dbs_at (a : Vec Ideal S128x256 .f32) : (ofRows X).dbs a (ix2 r c) = a (ix2 r c) + (X.dM r c : EReal) := by
  unfold Part.dbs
  pointwise [k0_pay306, dM_at]
theorem dN_at : (ofRows X).dNorm (ix2 r c) = (X.dN r c : EReal) := by
  unfold Part.dNorm
  pointwise [k0_pay309, dM_at, wST0, wST1, wST2, wST3]
  simp only [← EReal.coe_mul, coe_sum]
  rw [select_head c (fun h => ((∑ t : Fin 128, X.w h t r * X.dM t c : ℝ) : EReal))]
  rfl
theorem dV_at : (ofRows X).dV (ix2 r c) = (X.dV r c : EReal) := by
  unfold Part.dV
  pointwise [k0_pay317, pay291, pay290, pay288, pay287, pay286, dN_at, av_at, scale_at]
  simp only [const_named, const_half, const_c0, const_256, Ideal.div_coe (show (256 : ℝ) ≠ 0 by norm_num), coe_sum, ← EReal.coe_one, ← EReal.coe_mul, ← EReal.coe_add, ← EReal.coe_sub]
  rfl
end Activation

theorem mask0 : ∀ c : Fin 256, IntOp.andi (IntOp.cmpi .sge (BitVec.ofNat 32 c.val) 0#32) (IntOp.cmpi .slt (BitVec.ofNat 32 c.val) 64#32)
    = if head c = 0 then 1#1 else 0#1 := by decide +kernel
theorem mask1 : ∀ c : Fin 256, IntOp.andi (IntOp.cmpi .sge (BitVec.ofNat 32 c.val) 64#32) (IntOp.cmpi .slt (BitVec.ofNat 32 c.val) 128#32)
    = if head c = 1 then 1#1 else 0#1 := by decide +kernel
theorem mask2 : ∀ c : Fin 256, IntOp.andi (IntOp.cmpi .sge (BitVec.ofNat 32 c.val) 128#32) (IntOp.cmpi .slt (BitVec.ofNat 32 c.val) 192#32)
    = if head c = 2 then 1#1 else 0#1 := by decide +kernel
theorem mask3 : ∀ c : Fin 256, IntOp.andi (IntOp.cmpi .sge (BitVec.ofNat 32 c.val) 192#32) (IntOp.cmpi .slt (BitVec.ofNat 32 c.val) 256#32)
    = if head c = 3 then 1#1 else 0#1 := by decide +kernel

theorem select_mask (p : Prop) [Decidable p] (x y : ℝ) :
    Scalar.select (if p then 1#1 else 0#1) ((x : EReal) * (y : EReal)) (0 : EReal) = (((if p then x else 0) * y : ℝ) : EReal) := by
  by_cases h : p
  · rw [if_pos h, if_pos h, EReal.coe_mul]; rfl
  · rw [if_neg h, if_neg h, zero_mul]; rfl

variable (a : Vec Ideal S512x128 .f32) (s t : Fin 128)

theorem dM_at' (r : Fin 128) (c : Fin 256) :
    k0_pay305 (F := Ideal) (k0_pay285 (ofRows X).u) (k0_pay299 (ofRows X).ag) (ofRows X).dy (ix2 r c) = (X.dM r c : EReal) := dM_at X r c
/-- Four stacked blocks, read in the third one and in the last one. -/
theorem concat_third (x0 x1 x2 x3 : S128x256.Idx → EReal)
    (h : Shape.Concatenates (([⟨S128x256, x0⟩, ⟨S128x256, x1⟩, ⟨S128x256, x2⟩, ⟨S128x256, x3⟩] : List ((s : Shape) × (s.Idx → EReal))).map (·.1)) S512x256 0)
    (s : Fin 128) (c : Fin 256) :
    concatenate S512x256 0 [⟨S128x256, x0⟩, ⟨S128x256, x1⟩, ⟨S128x256, x2⟩, ⟨S128x256, x3⟩] h (ix2 ⟨256 + s.val, by omega⟩ c) = x2 (ix2 s c) := by
  refine concatenate_apply_piece (t := S512x256) 0 _ _ _ 2 (by simp) S128x256 x2 rfl rfl 256 rfl (ix2 s c) (fun b hb => ?_) rfl
  match b with
  | ⟨0, _⟩ => exact absurd rfl hb
  | ⟨1, _⟩ => rfl
theorem concat_last (x0 x1 x2 x3 : S128x256.Idx → EReal)
    (h : Shape.Concatenates (([⟨S128x256, x0⟩, ⟨S128x256, x1⟩, ⟨S128x256, x2⟩, ⟨S128x256, x3⟩] : List ((s : Shape) × (s.Idx → EReal))).map (·.1)) S512x256 0)
    (s : Fin 128) (c : Fin 256) :
    concatenate S512x256 0 [⟨S128x256, x0⟩, ⟨S128x256, x1⟩, ⟨S128x256, x2⟩, ⟨S128x256, x3⟩] h (ix2 ⟨384 + s.val, by omega⟩ c) = x3 (ix2 s c) := by
  refine concatenate_apply_piece (t := S512x256) 0 _ _ _ 3 (by simp) S128x256 x3 rfl rfl 384 rfl (ix2 s c) (fun b hb => ?_) rfl
  match b with
  | ⟨0, _⟩ => exact absurd rfl hb
  | ⟨1, _⟩ => rfl
theorem stack_third (u w dy : FVec Ideal S128x256 .f32) (s : Fin 128) (c : Fin 256) :
    k0_pay307 (F := Ideal) lane u w dy (ix2 ⟨256 + s.val, by omega⟩ c)
      = Scalar.select (IntOp.andi (IntOp.cmpi .sge (BitVec.ofNat 32 c.val) 128#32) (IntOp.cmpi .slt (BitVec.ofNat 32 c.val) 192#32))
        (k0_pay305 (F := Ideal) u w dy (ix2 s c)) 0 := by
  refine Eq.trans (concat_third _ _ _ _ concatenates_S128x256_S128x256_S128x256_S128x256_S512x256_d0 s c) ?_
  pointwise
theorem stack_last (u w dy : FVec Ideal S128x256 .f32) (s : Fin 128) (c : Fin 256) :
    k0_pay307 (F := Ideal) lane u w dy (ix2 ⟨384 + s.val, by omega⟩ c)
      = Scalar.select (IntOp.andi (IntOp.cmpi .sge (BitVec.ofNat 32 c.val) 192#32) (IntOp.cmpi .slt (BitVec.ofNat 32 c.val) 256#32))
        (k0_pay305 (F := Ideal) u w dy (ix2 s c)) 0 := by
  refine Eq.trans (concat_last _ _ _ _ concatenates_S128x256_S128x256_S128x256_S128x256_S512x256_d0 s c) ?_
  pointwise
theorem dws0 : (ofRows X).dws a (ix2 ⟨s.val, by omega⟩ t) = a (ix2 ⟨s.val, by omega⟩ t) + (X.dW 0 s t : EReal) := by
  unfold Part.dws
  pointwise [k0_pay308, k0_pay307, pay292, dM_at', mask0]
  simp only [select_mask, coe_sum]
  rfl
theorem dws1 : (ofRows X).dws a (ix2 ⟨128 + s.val, by omega⟩ t) = a (ix2 ⟨128 + s.val, by omega⟩ t) + (X.dW 1 s t : EReal) := by
  unfold Part.dws
  pointwise [k0_pay308, k0_pay307, pay292, dM_at', mask1]
  simp only [select_mask, coe_sum]
  rfl
theorem dws2 : (ofRows X).dws a (ix2 ⟨256 + s.val, by omega⟩ t) = a (ix2 ⟨256 + s.val, by omega⟩ t) + (X.dW 2 s t : EReal) := by
  unfold Part.dws
  pointwise [k0_pay308, pay292, stack_third, dM_at', mask2]
  simp only [select_mask, coe_sum]
  rfl
theorem dws3 : (ofRows X).dws a (ix2 ⟨384 + s.val, by omega⟩ t) = a (ix2 ⟨384 + s.val, by omega⟩ t) + (X.dW 3 s t : EReal) := by
  unfold Part.dws
  pointwise [k0_pay308, pay292, stack_last, dM_at', mask3]
  simp only [select_mask, coe_sum]
  rfl
/-- The row of the stacked matrices that holds row `s` of head `h`. -/
def stack (h : Fin 4) (s : Fin 128) : Fin 512 := ⟨128 * h.val + s.val, by omega⟩
theorem dws_at (h : Fin 4) : (ofRows X).dws a (ix2 (stack h s) t) = a (ix2 (stack h s) t) + (X.dW h s t : EReal) := by
  unfold stack
  match h with
  | ⟨0, _⟩ => simpa using dws0 X a s t
  | ⟨1, _⟩ => exact dws1 X a s t
  | ⟨2, _⟩ => exact dws2 X a s t
  | ⟨3, _⟩ => exact dws3 X a s t

/-- Row `n` of a family over the chunk's rows, zero past the end. -/
def atRow (f : Fin 128 → EReal) (n : ℕ) : EReal := if h : n < 128 then f ⟨n, h⟩ else 0
theorem atRow_eq (f : Fin 128 → EReal) (n : ℕ) (h : n < 128) : f ⟨n, h⟩ = atRow f n := by unfold atRow; rw [dif_pos h]
theorem atRow_first (f : Fin 128 → EReal) (s : Fin 8) (h : s.val < 128) : f ⟨s.val, h⟩ = atRow f (0 + s.val) := by
  rw [← atRow_eq f (0 + s.val) (by omega)]; simp
theorem sum_rows (f : Fin 128 → EReal) (s : Fin 8) :
    (∑ q : Fin 16, f ⟨8 * q.val + s.val, by omega⟩) = ∑ q ∈ Finset.range 16, atRow f (8 * q + s.val) := by
  rw [Finset.sum_range]
  exact Finset.sum_congr rfl fun q _ => atRow_eq f (8 * q.val + s.val) (by omega)

theorem groups (v : FVec Ideal S128x256 .f32) (f : Fin 128 → EReal) (s : Fin 8) (c : Fin 256) (b : Vec Ideal S1x8x256 .f32) (hv : ∀ r, v (ix2 r c) = f r) :
    k0_pay316 (F := Ideal) (k0_pay315 v b) (ix3 0 s c) = b (ix3 0 s c) + ∑ q : Fin 16, f ⟨8 * q.val + s.val, by omega⟩ := by
  pointwise [k0_pay316, k0_pay315, hv]
  rw [sum_rows]
  simp only [atRow_eq, atRow_first, Finset.sum_range_succ, Finset.sum_range_zero, zero_add, Nat.reduceMul]

theorem dShift_at (b : Vec Ideal S1x8x256 .f32) (s : Fin 8) (c : Fin 256) : (ofRows X).dShift b (ix3 0 s c)
    = b (ix3 0 s c) + ∑ q : Fin 16, (X.dN ⟨8 * q.val + s.val, by omega⟩ c : EReal) :=
  groups (ofRows X).dNorm (fun r => (X.dN r c : EReal)) s c b fun r => dN_at X r c

theorem groupsA (f : Fin 128 → EReal) (b : Vec Ideal S1x8x256 .f32) (s : Fin 8) (c : Fin 256)
    (hv : ∀ r, k0_pay310 (F := Ideal) lane (k0_pay291 (ofRows X).av) (ofRows X).dMixed (ofRows X).wST (ix2 r c) = f r) :
    (ofRows X).dScale b (ix3 0 s c) = b (ix3 0 s c) + ∑ q : Fin 16, f ⟨8 * q.val + s.val, by omega⟩ := by
  unfold Part.dScale
  pointwise [k0_pay314, k0_pay313, k0_pay312, k0_pay311, hv]
  rw [sum_rows]
  simp only [atRow_eq, atRow_first, Finset.sum_range_succ, Finset.sum_range_zero, zero_add, Nat.reduceMul]

theorem dScale_at (b : Vec Ideal S1x8x256 .f32) (s : Fin 8) (c : Fin 256) : (ofRows X).dScale b (ix3 0 s c)
    = b (ix3 0 s c) + ∑ q : Fin 16, ((X.dN ⟨8 * q.val + s.val, by omega⟩ c * X.n ⟨8 * q.val + s.val, by omega⟩ c : ℝ) : EReal) :=
  groupsA X (fun r => ((X.dN r c * X.n r c : ℝ) : EReal)) b s c fun r => by
    pointwise [k0_pay310, pay291, dN_at]
    rw [EReal.coe_mul]

end Cert.MixBwd
-- ==== Proof.MixBwd.Entry.lean ====
module

public import proofs.«01_k».proof.Proof.Gen.Kernel2Ideal.Frame
public import proofs.«01_k».proof.Proof.MixBwd.Value
public import Idealize.ShloMosaic.Lib.Pipeline.Value
public import Idealize.ShloMosaic.Lib.Tactic
public import Idealize.ShloMosaic.Lib.StableHlo.RunRead

/-!
# The arrays that the visits read

What the lines before the call prepare from the arguments, at an index.
-/

@[expose] public section

set_option maxRecDepth 16384

noncomputable section

namespace Cert.MixBwd

open Cert.Kernel2Ideal Cert.Kernel2Ideal.Gen Cert.Common
open Idealize.ShloMosaic Idealize.ShloMosaic.TcCoe Idealize.ShloMosaic.Tactic
open Idealize.SL.Sem

variable (m : (ℓ : Loc nD τ sig) → Buf (Elt Ideal) ℓ) (c : Dev nD)

theorem entry_z (n : Fin 16384) (k : Fin 3072) :
    V m c main_v86 (ix2 n k) = m ((c : Thread nD τ).loc main_arg0) (ix3 0 n k) := by
  (unfold V V0; simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]; after_reads_simp); pointwise
theorem entry_dx (n : Fin 16384) (k : Fin 1024) :
    V m c main_v169 (ix2 n k) = m ((c : Thread nD τ).loc main_arg1) (ix3 0 n k) := by
  (unfold V V0; simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]; after_reads_simp); pointwise
theorem entry_out (n k : Fin 1024) :
    V m c main_v10 (ix2 n k) = m ((c : Thread nD τ).loc main_arg16) (ix2 n k) := by
  (unfold V V0; simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]; after_reads_simp); pointwise
theorem entry_scale (k : Fin 256) :
    V m c main_v73 (ix2 5 k) = m ((c : Thread nD τ).loc main_arg12) (ix1 k) := by
  (unfold V V0; simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]; after_reads_simp)
  simp -implicitDefEqProofs only [StableHlo.TRef.toBuf, StableHlo.TRef.ofBuf, cast_cast, cast_eq]
  pointwise
  after_reads_simp
  pointwise
theorem entry_shift (k : Fin 256) :
    V m c main_v73 (ix2 6 k) = m ((c : Thread nD τ).loc main_arg13) (ix1 k) := by
  (unfold V V0; simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]; after_reads_simp)
  simp -implicitDefEqProofs only [StableHlo.TRef.toBuf, StableHlo.TRef.ofBuf, cast_cast, cast_eq]
  pointwise
  after_reads_simp
  pointwise
theorem entry_bias (r : Fin 128) (k : Fin 256) :
    V m c main_v70 (ix2 ⟨r.val, by omega⟩ k) = m ((c : Thread nD τ).loc main_arg15) (ix2 (head k) r) := by
  (unfold V V0; simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]; after_reads_simp); pointwise
  after_reads_simp
  pointwise
  rfl
/-- The entries on and below the diagonal. -/
def below : IVec S128x128 1 :=
  cmpi CmpIPredicate.sge (addi (iotaInDim S128x128 32 0) (broadcastInDim S128x128 ![] bcast_S_S128x128 (constantI S_ 32 0#32)))
    (iotaInDim S128x128 32 1)

theorem below_at : ∀ r t : Fin 128, below (ix2 r t) = if t.val ≤ r.val then 1#1 else 0#1 := by decide +kernel

/-- One on and below the diagonal, zero above it. -/
def ones : FVec Ideal S128x128 .f32 :=
  select below (broadcastInDim S128x128 ![] bcast_S_S128x128 (constant S_ FTy.f32 1065353216#32))
    (broadcastInDim S128x128 ![] bcast_S_S128x128 (constant S_ FTy.f32 0#32))

theorem ones_at (r t : Fin 128) : ones (ix2 r t) = ((if t.val ≤ r.val then 1 else 0 : ℝ) : EReal) := by
  unfold ones
  pointwise [below_at]
  split <;> simp [Scalar.select]

/-- The mixing matrices among the arguments. -/
abbrev mixing (h : Fin 4) (r t : Fin 128) : EReal := m ((c : Thread nD τ).loc main_arg14) (ix3 h r t)

theorem entry_w (h : Fin 4) (r t : Fin 128) :
    (V m c main_v77 (ix2 (stack h r) t) : EReal) = mixing m c h r t * ((if t.val ≤ r.val then 1 else 0 : ℝ) : EReal) := by
  (unfold V V0; simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]; after_reads_simp)
  pointwise [stack]
  rw [← ones_at]
  have e1 : (128 * h.val + r.val) / 128 = h.val := by omega
  have e2 : (128 * h.val + r.val) % 128 = r.val := by omega
  simp only [e1, e2]
  rfl
theorem entry_wT (h : Fin 4) (r t : Fin 128) :
    (V m c main_v84 (ix2 (stack h r) t) : EReal) = mixing m c h t r * ((if r.val ≤ t.val then 1 else 0 : ℝ) : EReal) := by
  (unfold V V0; simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]; after_reads_simp)
  pointwise [stack]
  rw [← ones_at]
  have e1 : (128 * h.val + r.val) / 128 = h.val := by omega
  have e2 : (128 * h.val + r.val) % 128 = r.val := by omega
  simp only [e1, e2]
  rfl

end Cert.MixBwd
-- ==== Proof.MixBwd.Tokens.lean ====
module

public import proofs.«01_k».proof.Proof.MixBwd.Entry
public import proofs.«01_k».proof.Proof.MixBwd.Frame
public import proofs.«01_k».proof.Proof.MixBwd.First

/-!
# The chunks of the sequence

The arguments as real arrays, the rows of each chunk of 128 tokens, and the chunks that a visit treats.
-/

@[expose] public section

set_option maxRecDepth 16384

noncomputable section

namespace Cert.MixBwd

open Cert.Kernel2Ideal Cert.Kernel2Ideal.Gen Cert.Common
open Idealize.ShloMosaic Idealize.ShloMosaic.TcCoe Idealize.ShloMosaic.Tactic
open Idealize.SL.Sem

/-- The arguments as real arrays. -/
structure Data where
  z : Fin 16384 → Fin 3072 → ℝ
  dx : Fin 16384 → Fin 1024 → ℝ
  gate : Fin 1024 → ℝ
  scale : Fin 256 → ℝ
  shift : Fin 256 → ℝ
  w : Fin 4 → Fin 128 → Fin 128 → ℝ
  b : Fin 4 → Fin 128 → ℝ
  out : Fin 1024 → Fin 1024 → ℝ

namespace Data

variable (X : Data)

/-- The cotangent of the mixer's output in the last group's columns. -/
def dy (n : Fin 16384) (c : Fin 256) : ℝ := ∑ k, X.dx n k * X.gate k * X.out ⟨768 + c.val, by omega⟩ k

/-- Token `r` of chunk `j`. -/
def tok (j : ℕ) (r : Fin 128) : Fin 16384 := ⟨(128 * j + r.val) % 16384, Nat.mod_lt _ (by decide)⟩

/-- The rows of chunk `j`. -/
def rows (j : ℕ) : Rows where
  u r c := X.z (tok j r) ⟨2304 + c.val, by omega⟩
  v r c := X.z (tok j r) ⟨2560 + c.val, by omega⟩
  g r c := X.z (tok j r) ⟨2816 + c.val, by omega⟩
  dy r c := X.dy (tok j r) c
  scale := X.scale
  shift := X.shift
  w h r t := if t.val ≤ r.val then X.w h r t else 0
  b := X.b

end Data

/-- The arguments hold the real arrays. -/
structure Holds (m : (ℓ : Loc nD τ sig) → Buf (Elt Ideal) ℓ) (c : Dev nD) (X : Data) : Prop where
  z : ∀ n k, (m ((c : Thread nD τ).loc main_arg0) (ix3 0 n k) : EReal) = (X.z n k : EReal)
  dx : ∀ n k, (m ((c : Thread nD τ).loc main_arg1) (ix3 0 n k) : EReal) = (X.dx n k : EReal)
  gate : ∀ k, (m ((c : Thread nD τ).loc main_arg2) (ix2 0 k) : EReal) = (X.gate k : EReal)
  scale : ∀ k, (m ((c : Thread nD τ).loc main_arg12) (ix1 k) : EReal) = (X.scale k : EReal)
  shift : ∀ k, (m ((c : Thread nD τ).loc main_arg13) (ix1 k) : EReal) = (X.shift k : EReal)
  w : ∀ h r t, mixing m c h r t = (X.w h r t : EReal)
  b : ∀ h r, (m ((c : Thread nD τ).loc main_arg15) (ix2 h r) : EReal) = (X.b h r : EReal)
  out : ∀ n k, (m ((c : Thread nD τ).loc main_arg16) (ix2 n k) : EReal) = (X.out n k : EReal)

variable (m : (ℓ : Loc nD τ sig) → Buf (Elt Ideal) ℓ) (c : Dev nD)

theorem idx0 : ∀ t : Fin cfg0.N, win0_0.index t = ![31 - t.val, 0] := (by decide +kernel : ∀ t : Fin grid0.N, _)
theorem idx3 : ∀ t : Fin cfg0.N, win0_3.index t = ![31 - t.val, 0] := (by decide +kernel : ∀ t : Fin grid0.N, _)
theorem idx4 : ∀ t : Fin cfg0.N, win0_4.index t = ![30 - t.val, 0] := (by decide +kernel : ∀ t : Fin grid0.N, _)
theorem idx5 : ∀ t : Fin cfg0.N, win0_5.index t = ![0, 0] := (by decide +kernel : ∀ t : Fin grid0.N, _)
theorem idx8 : ∀ t : Fin cfg0.N, win0_8.index t = ![0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![0, 0] := (by decide +kernel : ∀ t : Fin grid0.N, _)
theorem idx15 : ∀ t : Fin cfg0.N, win0_15.index t = ![0, 0] := (by decide +kernel : ∀ t : Fin grid0.N, _)
theorem idx16 : ∀ t : Fin cfg0.N, win0_16.index t = ![0, 0] := (by decide +kernel : ∀ t : Fin grid0.N, _)

/-- Row `r` of tile `i`, as a row of the array. -/
def line (i : ℕ) (r : Fin 512) : Fin 16384 := ⟨(512 * i + r.val) % 16384, Nat.mod_lt _ (by decide)⟩

section Blocks
theorem read0 (A : Buf (Elt Ideal) ((c : Thread nD τ).loc main_v86)) (t : Fin cfg0.N) (r : Fin 512) (k : Fin 3072) :
    (((cfg0.win 0).blk t).view.read (Elt Ideal) A (ix2 r k) : EReal) = A (ix2 (line (31 - t.val) r) k) := by
  have ht := lt_of_lt_of_eq t.isLt N_0
  blk_ext! [idx0 t, line]
theorem blk0 (t : Fin cfg0.N) (r : Fin 512) (k : Fin 3072) : ((blocks m c t).zm (ix2 r k) : EReal) = V m c main_v86 (ix2 (line (31 - t.val) r) k) :=
  read0 c (V m c main_v86) t r k
theorem read3 (A : Buf (Elt Ideal) ((c : Thread nD τ).loc main_v169)) (t : Fin cfg0.N) (r : Fin 512) (k : Fin 1024) :
    (((cfg0.win 3).blk t).view.read (Elt Ideal) A (ix2 r k) : EReal) = A (ix2 (line (31 - t.val) r) k) := by
  have ht := lt_of_lt_of_eq t.isLt N_0
  blk_ext! [idx3 t, line]
theorem blk3 (t : Fin cfg0.N) (r : Fin 512) (k : Fin 1024) : ((blocks m c t).dx (ix2 r k) : EReal) = V m c main_v169 (ix2 (line (31 - t.val) r) k) :=
  read3 c (V m c main_v169) t r k
theorem read4 (A : Buf (Elt Ideal) ((c : Thread nD τ).loc main_v169)) (t : Fin cfg0.N) (r : Fin 512) (k : Fin 1024) :
    (((cfg0.win 4).blk t).view.read (Elt Ideal) A (ix2 r k) : EReal) = A (ix2 (line (30 - t.val) r) k) := by
  have ht := lt_of_lt_of_eq t.isLt N_0
  blk_ext! [idx4 t, line]
theorem blk4 (t : Fin cfg0.N) (r : Fin 512) (k : Fin 1024) : ((blocks m c t).dxNext (ix2 r k) : EReal) = V m c main_v169 (ix2 (line (30 - t.val) r) k) :=
  read4 c (V m c main_v169) t r k
theorem read5 (A : Buf (Elt Ideal) ((c : Thread nD τ).loc main_arg2)) (t : Fin cfg0.N) (r : Fin 1) (k : Fin 1024) :
    (((cfg0.win 5).blk t).view.read (Elt Ideal) A (ix2 r k) : EReal) = A (ix2 (r) k) := by
  blk_ext! [idx5 t]
theorem blk5 (t : Fin cfg0.N) (r : Fin 1) (k : Fin 1024) : ((blocks m c t).gate (ix2 r k) : EReal) = V m c main_arg2 (ix2 (r) k) :=
  read5 c (V m c main_arg2) t r k
theorem read8 (A : Buf (Elt Ideal) ((c : Thread nD τ).loc main_v73)) (t : Fin cfg0.N) (r : Fin 16) (k : Fin 256) :
    (((cfg0.win 8).blk t).view.read (Elt Ideal) A (ix2 r k) : EReal) = A (ix2 (r) k) := by
  blk_ext! [idx8 t]
theorem blk8 (t : Fin cfg0.N) (r : Fin 16) (k : Fin 256) : ((blocks m c t).vec (ix2 r k) : EReal) = V m c main_v73 (ix2 (r) k) :=
  read8 c (V m c main_v73) t r k
theorem read11 (A : Buf (Elt Ideal) ((c : Thread nD τ).loc main_v77)) (t : Fin cfg0.N) (r : Fin 512) (k : Fin 128) :
    (((cfg0.win 11).blk t).view.read (Elt Ideal) A (ix2 r k) : EReal) = A (ix2 (r) k) := by
  blk_ext! [idx11 t]
theorem blk11 (t : Fin cfg0.N) (r : Fin 512) (k : Fin 128) : ((blocks m c t).wS (ix2 r k) : EReal) = V m c main_v77 (ix2 (r) k) :=
  read11 c (V m c main_v77) t r k
theorem read12 (A : Buf (Elt Ideal) ((c : Thread nD τ).loc main_v70)) (t : Fin cfg0.N) (r : Fin 264) (k : Fin 256) :
    (((cfg0.win 12).blk t).view.read (Elt Ideal) A (ix2 r k) : EReal) = A (ix2 (r) k) := by
  blk_ext! [idx12 t]
theorem blk12 (t : Fin cfg0.N) (r : Fin 264) (k : Fin 256) : ((blocks m c t).bS (ix2 r k) : EReal) = V m c main_v70 (ix2 (r) k) :=
  read12 c (V m c main_v70) t r k
theorem read15 (A : Buf (Elt Ideal) ((c : Thread nD τ).loc main_v84)) (t : Fin cfg0.N) (r : Fin 512) (k : Fin 128) :
    (((cfg0.win 15).blk t).view.read (Elt Ideal) A (ix2 r k) : EReal) = A (ix2 (r) k) := by
  blk_ext! [idx15 t]
theorem blk15 (t : Fin cfg0.N) (r : Fin 512) (k : Fin 128) : ((blocks m c t).wST (ix2 r k) : EReal) = V m c main_v84 (ix2 (r) k) :=
  read15 c (V m c main_v84) t r k
theorem read16 (A : Buf (Elt Ideal) ((c : Thread nD τ).loc main_v10)) (t : Fin cfg0.N) (r : Fin 1024) (k : Fin 1024) :
    (((cfg0.win 16).blk t).view.read (Elt Ideal) A (ix2 r k) : EReal) = A (ix2 (r) k) := by
  blk_ext! [idx16 t]
theorem blk16 (t : Fin cfg0.N) (r : Fin 1024) (k : Fin 1024) : ((blocks m c t).wOut (ix2 r k) : EReal) = V m c main_v10 (ix2 (r) k) :=
  read16 c (V m c main_v10) t r k
end Blocks

end Cert.MixBwd
-- ==== Proof.MixBwd.Visits.lean ====
module

public import proofs.«01_k».proof.Proof.MixBwd.Tokens
public import proofs.«01_k».proof.Proof.MixBwd.Middle
public import proofs.«01_k».proof.Proof.MixBwd.Last

/-!
# The visits on real numbers

What each chunk of a visit reads, and what the visits have summed.
-/

@[expose] public section

set_option maxRecDepth 16384

noncomputable section

namespace Cert.MixBwd

open Cert.Kernel2Ideal Cert.Kernel2Ideal.Gen Cert.Common
open Idealize.ShloMosaic Idealize.ShloMosaic.TcCoe Idealize.ShloMosaic.Tactic
open Idealize.SL.Sem

variable {m : (ℓ : Loc nD τ sig) → Buf (Elt Ideal) ℓ} {c : Dev nD} {X : Data} (H : Holds m c X)

theorem ld_z (x : Vec Ideal S512x3072 .bf16) (o k : ℕ) (ho : o + 128 ≤ 512) (hk : k + 256 ≤ 3072) (r : Fin 128) (a : Fin 256) :
    View.ld x (Rect.unit (s := S512x3072) ![o, k] S128x256.size (fits o k ho hk)) (ix2 r a) = x (ix2 ⟨o + r.val, by omega⟩ ⟨k + a.val, by omega⟩) := by
  pointwise

theorem ld_dy (x : Vec Ideal S512x1024 .f32) (o : ℕ) (ho : o + 128 ≤ 512) (r : Fin 128) (a : Fin 256) :
    View.ld x (Rect.unit (s := S512x1024) ![o, 768] S128x256.size (fitsDy o ho)) (ix2 r a) = x (ix2 ⟨o + r.val, by omega⟩ ⟨768 + a.val, by omega⟩) := by
  pointwise

/-- A tile's cotangent in the last group's columns. -/
def Cotangent (X : Data) (i : ℕ) (dy : Vec Ideal S512x1024 .f32) : Prop :=
  ∀ (r : Fin 512) (a : Fin 256), dy (ix2 r ⟨768 + a.val, by omega⟩) = (X.dy (line i r) a : EReal)

theorem line_tok (i q : ℕ) (r : Fin 128) (h : 128 * q + r.val < 512) : line i ⟨128 * q + r.val, h⟩ = Data.tok (4 * i + q) r :=
  Fin.ext (show (512 * i + (128 * q + r.val)) % 16384 = (128 * (4 * i + q) + r.val) % 16384 by
    rw [show 512 * i + (128 * q + r.val) = 128 * (4 * i + q) + r.val by ring])

theorem coe_mask (x : ℝ) (p : Prop) [Decidable p] : (x : EReal) * ((if p then 1 else 0 : ℝ) : EReal) = ((if p then x else 0 : ℝ) : EReal) := by
  rw [← EReal.coe_mul]
  split <;> simp

theorem ld_vec (x : Vec Ideal S16x256 .f32) (n : ℕ) (hn : ∀ a, ![n, 0] a + S1x256.size a ≤ S16x256.size a) (a : Fin 256) (r : Fin 1) :
    View.ld x (Rect.unit (s := S16x256) ![n, 0] S1x256.size hn) (ix2 r a) = x (ix2 ⟨n, by have := hn 0; change n + 1 ≤ 16 at this; omega⟩ a) := by
  pointwise

theorem ld_bias (x : Vec Ideal S264x256 .f32) (r : Fin 128) (a : Fin 256) :
    View.ld x (Rect.unit (s := S264x256) ![0, 0] S128x256.size (by decide)) (ix2 r a) = x (ix2 ⟨r.val, by omega⟩ a) := by
  pointwise

theorem stack_eq (n : Fin 512) : n = stack ⟨n.val / 128, by omega⟩ ⟨n.val % 128, Nat.mod_lt _ (by decide)⟩ :=
  Fin.ext (show n.val = 128 * (n.val / 128) + n.val % 128 by omega)

include H in
theorem stacked_w (n : Fin 512) (a : Fin 128) : V m c main_v77 (ix2 n a)
    = (((X.rows 0).w ⟨n.val / 128, by omega⟩ ⟨n.val % 128, Nat.mod_lt _ (by decide)⟩ a : ℝ) : EReal) := by
  refine (congrArg (fun n => (V m c main_v77 (ix2 n a) : EReal)) (stack_eq n)).trans ?_
  exact (entry_w m c _ _ _).trans ((congrArg (· * _) (H.w _ _ _)).trans (coe_mask _ _))

include H in
theorem stacked_wT (n : Fin 512) (a : Fin 128) : V m c main_v84 (ix2 n a)
    = (((X.rows 0).w ⟨n.val / 128, by omega⟩ a ⟨n.val % 128, Nat.mod_lt _ (by decide)⟩ : ℝ) : EReal) := by
  refine (congrArg (fun n => (V m c main_v84 (ix2 n a) : EReal)) (stack_eq n)).trans ?_
  exact (entry_wT m c _ _ _).trans ((congrArg (· * _) (H.w _ _ _)).trans (coe_mask _ _))

include H in
theorem part_eq (t : Fin cfg0.N) (dy : Vec Ideal S512x1024 .f32) (hdy : Cotangent X (31 - t.val) dy) (q : ℕ) (ho : 128 * q + 128 ≤ 512) :
    part (blocks m c t) dy (128 * q) ho = ofRows (X.rows (4 * (31 - t.val) + q)) := by
  have hz : ∀ (k : ℕ) (hk : k + 256 ≤ 3072) (r : Fin 128) (a : Fin 256),
      View.ld (blocks m c t).zm (Rect.unit (s := S512x3072) ![128 * q, k] S128x256.size (fits (128 * q) k ho hk)) (ix2 r a)
        = (X.z (Data.tok (4 * (31 - t.val) + q) r) ⟨k + a.val, by omega⟩ : EReal) := fun k hk r a =>
    (ld_z _ _ _ ho hk r a).trans (by rw [blk0, entry_z, H.z, line_tok])
  unfold part ofRows
  congr 1
  · funext i; obtain ⟨r, a, rfl⟩ : ∃ r a, i = ix2 r a := ⟨i 0, i 1, eq_ix2 i⟩; exact hz 2304 (by decide) r a
  · funext i; obtain ⟨r, a, rfl⟩ : ∃ r a, i = ix2 r a := ⟨i 0, i 1, eq_ix2 i⟩; exact hz 2560 (by decide) r a
  · funext i; obtain ⟨r, a, rfl⟩ : ∃ r a, i = ix2 r a := ⟨i 0, i 1, eq_ix2 i⟩; exact hz 2816 (by decide) r a
  · funext i; obtain ⟨r, a, rfl⟩ : ∃ r a, i = ix2 r a := ⟨i 0, i 1, eq_ix2 i⟩; exact (ld_dy _ _ ho r a).trans ((hdy _ a).trans (by rw [line_tok]; rfl))
  · funext i; obtain ⟨r, a, rfl⟩ : ∃ r a, i = ix2 r a := ⟨i 0, i 1, eq_ix2 i⟩; exact (ld_vec _ 5 (by decide) a r).trans ((blk8 m c t 5 a).trans ((entry_scale m c a).trans (H.scale a)))
  · funext i; obtain ⟨r, a, rfl⟩ : ∃ r a, i = ix2 r a := ⟨i 0, i 1, eq_ix2 i⟩; exact (ld_vec _ 6 (by decide) a r).trans ((blk8 m c t 6 a).trans ((entry_shift m c a).trans (H.shift a)))
  · funext i; obtain ⟨r, a, rfl⟩ : ∃ r a, i = ix2 r a := ⟨i 0, i 1, eq_ix2 i⟩; exact (congrFun (View.ld_unit_lit _ _ (by decide)) _).trans ((blk11 m c t r a).trans (stacked_w H r a))
  · funext i; obtain ⟨r, a, rfl⟩ : ∃ r a, i = ix2 r a := ⟨i 0, i 1, eq_ix2 i⟩; exact (congrFun (View.ld_unit_lit _ _ (by decide)) _).trans ((blk15 m c t r a).trans (stacked_wT H r a))
  · funext i; obtain ⟨r, a, rfl⟩ : ∃ r a, i = ix2 r a := ⟨i 0, i 1, eq_ix2 i⟩; exact (ld_bias _ r a).trans ((blk12 m c t _ a).trans ((entry_bias m c r a).trans (H.b _ _)))

/-- What a visit adds to a sum over the chunks. -/
def four (f : ℕ → ℝ) (i : ℕ) : ℝ := f (4 * i + 3) + f (4 * i + 2) + f (4 * i + 1) + f (4 * i)

/-- The visit's chunks are those of tile `i`. -/
structure Chunks (X : Data) (i : ℕ) (x : Blocks Ideal) (dy : Vec Ideal S512x1024 .f32) : Prop where
  p3 : part x dy 384 (by decide) = ofRows (X.rows (4 * i + 3))
  p2 : part x dy 256 (by decide) = ofRows (X.rows (4 * i + 2))
  p1 : part x dy 128 (by decide) = ofRows (X.rows (4 * i + 1))
  p0 : part x dy 0 (by decide) = ofRows (X.rows (4 * i))

include H in
theorem chunks (t : Fin cfg0.N) (dy : Vec Ideal S512x1024 .f32) (hdy : Cotangent X (31 - t.val) dy) :
    Chunks X (31 - t.val) (blocks m c t) dy where
  p3 := part_eq H t dy hdy 3 (by decide)
  p2 := part_eq H t dy hdy 2 (by decide)
  p1 := part_eq H t dy hdy 1 (by decide)
  p0 := part_eq H t dy hdy 0 (by decide)

section Sums

variable {i : ℕ} {x : Blocks Ideal} {dy : Vec Ideal S512x1024 .f32} {ws : Vec Ideal S512x128 .f32} {bs : Vec Ideal S128x256 .f32}
  {acc : Vec Ideal S64x8x256 .f32} {s : State Ideal} (L : Leaves x dy ws bs acc s) (C : Chunks X i x dy)

include L C

theorem visit_ws (h : Fin 4) (a b : Fin 128) :
    s.dws (ix2 (stack h a) b) = ws (ix2 (stack h a) b) + (four (fun j => (X.rows j).dW h a b) i : EReal) := by
  rw [L.ws, C.p0, C.p1, C.p2, C.p3, dws_at, dws_at, dws_at, dws_at]
  simp only [four, EReal.coe_add, add_assoc]

theorem visit_bs (r : Fin 128) (a : Fin 256) :
    s.dbs (ix2 r a) = bs (ix2 r a) + (four (fun j => (X.rows j).dM r a) i : EReal) := by
  rw [L.bs, C.p0, C.p1, C.p2, C.p3, dbs_at, dbs_at, dbs_at, dbs_at]
  simp only [four, EReal.coe_add, add_assoc]

theorem visit_shift (g : Fin 8) (a : Fin 256) :
    View.ld s.acc (row 9 (by decide)) (ix3 0 g a) = View.ld acc (row 9 (by decide)) (ix3 0 g a)
      + (four (fun j => ∑ q : Fin 16, (X.rows j).dN ⟨8 * q.val + g.val, by omega⟩ a) i : EReal) := by
  rw [L.shift, C.p0, C.p1, C.p2, C.p3, dShift_at, dShift_at, dShift_at, dShift_at]
  simp only [four, EReal.coe_add, add_assoc, coe_sum]

theorem visit_scale (g : Fin 8) (a : Fin 256) :
    View.ld s.acc (row 8 (by decide)) (ix3 0 g a) = View.ld acc (row 8 (by decide)) (ix3 0 g a)
      + (four (fun j => ∑ q : Fin 16, (X.rows j).dN ⟨8 * q.val + g.val, by omega⟩ a * (X.rows j).n ⟨8 * q.val + g.val, by omega⟩ a) i : EReal) := by
  rw [L.scale, C.p0, C.p1, C.p2, C.p3, dScale_at, dScale_at, dScale_at, dScale_at]
  simp only [four, EReal.coe_add, add_assoc, coe_sum]

end Sums

end Cert.MixBwd
-- ==== Proof.MixBwd.Sums.lean ====
module

public import proofs.«01_k».proof.Proof.MixBwd.Visits

/-!
# What the visits have summed

By induction over the visits: the running gradients after visit `n` are the sums over the tiles treated so far, and
the cotangent that a visit leaves is that of the next visit's tile.
-/

@[expose] public section

set_option maxRecDepth 16384

noncomputable section

namespace Cert.MixBwd

open Cert.Kernel2Ideal Cert.Kernel2Ideal.Gen Cert.Common
open Idealize.ShloMosaic Idealize.ShloMosaic.TcCoe Idealize.ShloMosaic.Tactic
open Idealize.SL.Sem

theorem dyOwn_at (x : Blocks Ideal) (r : Fin 512) (a : Fin 1024) :
    First.dyOwn x (ix2 r a) = ∑ k : Fin 1024, x.dx (ix2 r k) * x.gate (ix2 0 k) * x.wOut (ix2 a k) := by
  pointwise [First.dyOwn, k0_pay72, k0_pay7]

theorem dyNext_at (x : Blocks Ideal) (r : Fin 512) (a : Fin 256) :
    dyNext x (ix2 r a) = ∑ k : Fin 1024, x.dxNext (ix2 r k) * x.gate (ix2 0 k) * x.wOut (ix2 ⟨768 + a.val, by omega⟩ k) := by
  pointwise [dyNext, k0_pay767, k0_pay80]

theorem zero_ws (i : S512x128.Idx) : k0_pay4 (F := Ideal) i = 0 := by pointwise [k0_pay4]
theorem zero_bs (i : S128x256.Idx) : k0_pay5 (F := Ideal) i = 0 := by pointwise [k0_pay5]
theorem zero_acc (x : Vec Ideal S64x8x256 .f32) (h : x = k0_pay1 (F := Ideal)) (n : ℕ) (hn : n < 64) (i : S1x8x256.Idx) : View.ld x (row n hn) i = 0 := by
  subst h
  show k0_pay1 (F := Ideal) _ = 0
  pointwise [k0_pay1]

variable {m : (ℓ : Loc nD τ sig) → Buf (Elt Ideal) ℓ} {c : Dev nD} {X : Data} (H : Holds m c X)

include H in
theorem cotangent_own (t : Fin cfg0.N) : Cotangent X (31 - t.val) (First.dyOwn (blocks m c t)) := fun r a => by
  rw [dyOwn_at]
  refine (Finset.sum_congr rfl fun k _ => congrArg₂ (· * ·) (congrArg₂ (· * ·)
    ((blk3 m c t r k).trans ((entry_dx m c _ k).trans (H.dx _ k)))
    ((blk5 m c t 0 k).trans ((congrFun (V_main_arg2 m c) _).trans (H.gate k))))
    ((blk16 m c t _ k).trans ((entry_out m c _ k).trans (H.out _ k)))).trans ?_
  simp only [← EReal.coe_mul, coe_sum]
  rfl

include H in
theorem cotangent_next (t : Fin cfg0.N) (dy : Vec Ideal S512x1024 .f32) (h : View.ld dy quarter = dyNext (blocks m c t)) :
    Cotangent X (30 - t.val) dy := fun r a => by
  have e : dy (ix2 r ⟨768 + a.val, by omega⟩) = View.ld dy quarter (ix2 r a) := by
    symm; pointwise
  rw [e, h, dyNext_at]
  refine (Finset.sum_congr rfl fun k _ => congrArg₂ (· * ·) (congrArg₂ (· * ·)
    ((blk4 m c t r k).trans ((entry_dx m c _ k).trans (H.dx _ k)))
    ((blk5 m c t 0 k).trans ((congrFun (V_main_arg2 m c) _).trans (H.gate k))))
    ((blk16 m c t _ k).trans ((entry_out m c _ k).trans (H.out _ k)))).trans ?_
  simp only [← EReal.coe_mul, coe_sum]
  rfl

/-- The sum over the tiles that the visits up to `n` treat. -/
def upTo (f : ℕ → ℝ) (n : ℕ) : ℝ := ∑ k ∈ Finset.range (n + 1), four f (31 - k)

theorem upTo_zero (f : ℕ → ℝ) : upTo f 0 = four f 31 := by unfold upTo; simp
theorem upTo_succ (f : ℕ → ℝ) (n : ℕ) : upTo f (n + 1) = upTo f n + four f (31 - (n + 1)) := Finset.sum_range_succ _ _

/-- What the state after visit `n` holds. -/
structure Total (X : Data) (n : ℕ) (s : State Ideal) : Prop where
  next : n < 31 → Cotangent X (30 - n) s.dy
  ws : ∀ h a b, s.dws (ix2 (stack h a) b) = (upTo (fun j => (X.rows j).dW h a b) n : EReal)
  bs : ∀ r a, s.dbs (ix2 r a) = (upTo (fun j => (X.rows j).dM r a) n : EReal)
  shift : ∀ (g : Fin 8) a, View.ld s.acc (row 9 (by decide)) (ix3 0 g a)
    = (upTo (fun j => ∑ q : Fin 16, (X.rows j).dN ⟨8 * q.val + g.val, by omega⟩ a) n : EReal)
  scale : ∀ (g : Fin 8) a, View.ld s.acc (row 8 (by decide)) (ix3 0 g a)
    = (upTo (fun j => ∑ q : Fin 16, (X.rows j).dN ⟨8 * q.val + g.val, by omega⟩ a * (X.rows j).n ⟨8 * q.val + g.val, by omega⟩ a) n : EReal)

/-- The columns of a tile's cotangent. -/
structure Tile (X : Data) (i : ℕ) (dz : Vec Ideal S512x3072 .bf16) : Prop where
  c3 : Columns (ofRows (X.rows (4 * i + 3))) 384 (by decide) dz
  c2 : Columns (ofRows (X.rows (4 * i + 2))) 256 (by decide) dz
  c1 : Columns (ofRows (X.rows (4 * i + 1))) 128 (by decide) dz
  c0 : Columns (ofRows (X.rows (4 * i))) 0 (by decide) dz

theorem tile_of {i : ℕ} {x : Blocks Ideal} {dy : Vec Ideal S512x1024 .f32} {ws : Vec Ideal S512x128 .f32} {bs : Vec Ideal S128x256 .f32}
    {acc : Vec Ideal S64x8x256 .f32} {s : State Ideal} (L : Leaves x dy ws bs acc s) (C : Chunks X i x dy) : Tile X i s.dz where
  c3 := C.p3 ▸ L.dz3
  c2 := C.p2 ▸ L.dz2
  c1 := C.p1 ▸ L.dz1
  c0 := C.p0 ▸ L.dz0

theorem total_first {x : Blocks Ideal} {dy : Vec Ideal S512x1024 .f32} {s : State Ideal}
    (L : Leaves x dy (k0_pay4 (F := Ideal)) (k0_pay5 (F := Ideal)) (k0_pay1 (F := Ideal)) s) (C : Chunks X 31 x dy) (hn : Cotangent X 30 s.dy) : Total X 0 s where
  next _ := hn
  ws h a b := by rw [visit_ws L C, zero_ws, zero_add, upTo_zero]
  bs r a := by rw [visit_bs L C, zero_bs, zero_add, upTo_zero]
  shift g a := by rw [visit_shift L C, zero_acc _ rfl, zero_add, upTo_zero]
  scale g a := by rw [visit_scale L C, zero_acc _ rfl, zero_add, upTo_zero]

theorem total_later {n : ℕ} {x : Blocks Ideal} {s' s : State Ideal} (T : Total X n s')
    (L : Leaves x s'.dy s'.dws s'.dbs s'.acc s) (C : Chunks X (31 - (n + 1)) x s'.dy)
    (hn : n + 1 < 31 → Cotangent X (30 - (n + 1)) s.dy) : Total X (n + 1) s where
  next := hn
  ws h a b := by rw [visit_ws L C, T.ws, ← EReal.coe_add, ← upTo_succ]
  bs r a := by rw [visit_bs L C, T.bs, ← EReal.coe_add, ← upTo_succ]
  shift g a := by rw [visit_shift L C, T.shift, ← EReal.coe_add, ← upTo_succ]
  scale g a := by rw [visit_scale L C, T.scale, ← EReal.coe_add, ← upTo_succ]

attribute [local irreducible] runA runB runC

include H in
/-- After every visit. -/
theorem total : ∀ (n : ℕ) (h : n < cfg0.N), Total X n (leftAt m c n h) ∧ Tile X (31 - n) (leftAt m c n h).dz := by
  intro n
  induction n with
  | zero =>
    intro h
    have h0 : first (grid0.coords ⟨0, h⟩) := (first_iff ⟨0, h⟩).mpr rfl
    have h1 : ¬last (grid0.coords ⟨0, h⟩) := fun e => Nat.noConfusion ((last_iff ⟨0, h⟩).mp e)
    have e := leftAt_first m c ⟨0, h⟩ h0 h1
    have L := First.leaves c (grid0.coords ⟨0, h⟩) (refs ⟨0, h⟩) (whole ⟨0, h⟩) h0 h1 (blocks m c ⟨0, h⟩)
    have D := First.dy c (grid0.coords ⟨0, h⟩) (refs ⟨0, h⟩) (whole ⟨0, h⟩) h0 h1 (blocks m c ⟨0, h⟩)
    have C : Chunks X 31 (blocks m c ⟨0, h⟩) (First.dyOwn (blocks m c ⟨0, h⟩)) := chunks H ⟨0, h⟩ _ (cotangent_own H ⟨0, h⟩)
    rw [show leftAt m c 0 h = _ from e]
    exact ⟨total_first L C (cotangent_next H ⟨0, h⟩ _ D), tile_of L C⟩
  | succ n ih =>
    intro h
    have hN : n + 1 < 32 := lt_of_lt_of_eq h N_0
    obtain ⟨T, -⟩ := ih (by omega)
    have h0 : ¬first (grid0.coords ⟨n + 1, h⟩) := fun e => Nat.succ_ne_zero n ((first_iff ⟨n + 1, h⟩).mp e)
    have K : Cotangent X (31 - (n + 1)) (leftAt m c n (by omega)).dy := by
      have := T.next (by omega)
      rwa [show 31 - (n + 1) = 30 - n by omega]
    have C := chunks H ⟨n + 1, h⟩ _ K
    by_cases h1 : last (grid0.coords ⟨n + 1, h⟩)
    · have e := leftAt_last m c ⟨n + 1, h⟩ h0 h1
      have L := Last.leaves c (grid0.coords ⟨n + 1, h⟩) (refs ⟨n + 1, h⟩) (whole ⟨n + 1, h⟩) h0 h1 (blocks m c ⟨n + 1, h⟩) (leftAt m c n (by omega))
      rw [show leftAt m c (n + 1) h = _ from e]
      exact ⟨total_later T L C fun k => absurd ((last_iff ⟨n + 1, h⟩).mp h1) (by show ¬ n + 1 = 31; omega), tile_of L C⟩
    · have e := leftAt_middle m c ⟨n + 1, h⟩ h0 h1
      have L := Middle.leaves c (grid0.coords ⟨n + 1, h⟩) (refs ⟨n + 1, h⟩) (whole ⟨n + 1, h⟩) h0 h1 (blocks m c ⟨n + 1, h⟩) (leftAt m c n (by omega))
      have D := Middle.dy c (grid0.coords ⟨n + 1, h⟩) (refs ⟨n + 1, h⟩) (whole ⟨n + 1, h⟩) h0 h1 (blocks m c ⟨n + 1, h⟩) (leftAt m c n (by omega))
      rw [show leftAt m c (n + 1) h = _ from e]
      exact ⟨total_later T L C fun _ => cotangent_next H ⟨n + 1, h⟩ _ D, tile_of L C⟩

end Cert.MixBwd
-- ==== Proof.MixBwd.Final.lean ====
module

public import proofs.«01_k».proof.Proof.MixBwd.Sums

/-!
# The arrays after the last visit
-/

@[expose] public section

set_option maxRecDepth 16384

noncomputable section

namespace Cert.MixBwd

open Cert.Kernel2Ideal Cert.Kernel2Ideal.Gen Cert.Common
open Idealize.ShloMosaic Idealize.ShloMosaic.TcCoe Idealize.ShloMosaic.Tactic
open Idealize.SL.Sem
open Idealize.ShloMosaic.Pipeline (Dat)

variable (m : (ℓ : Loc nD τ sig) → Buf (Elt Ideal) ℓ) (c : Dev nD)

theorem idx17 : ∀ t : Fin cfg0.N, win0_17.index t = ![31 - t.val, 0] := (by decide +kernel : ∀ t : Fin grid0.N, _)
theorem idx19 : ∀ t : Fin cfg0.N, win0_19.index t = ![0, 0] := (by decide +kernel : ∀ t : Fin grid0.N, _)
theorem idx22 : ∀ t : Fin cfg0.N, win0_22.index t = ![0, 0] := (by decide +kernel : ∀ t : Fin grid0.N, _)
theorem idx23 : ∀ t : Fin cfg0.N, win0_23.index t = ![0, 0] := (by decide +kernel : ∀ t : Fin grid0.N, _)

/-- The last visit. -/
abbrev lastState : State Ideal := leftAt m c 31 (lt_of_lt_of_eq (by decide) N_0.symm)

theorem leftAt_congr (n n' : ℕ) (h : n < cfg0.N) (h' : n' < cfg0.N) (e : n = n') : leftAt m c n h = leftAt m c n' h' := by
  subst e; rfl

attribute [local irreducible] leftAt

theorem final19 : (dats m 0 c).arrAt 19 cfg0.N = fun i : S64x256.Idx => (lastState m c).sums (ix2 (i 0) (i 1)) := by
  refine (dats m 0 c).arrAt_eq_of_covers 19 _ (by decide +kernel) fun t hf y => ?_
  have h31 : t.val = 31 := by
    have := (flush0_19 t).mp hf
    have := lt_of_lt_of_eq t.isLt N_0
    omega
  blk_simp
  have hA : (dats m 0 c).after 19 t = (leftAt m c t.val t.isLt).sums := rfl
  rw [hA, leftAt_congr m c t.val 31 t.isLt (lt_of_lt_of_eq (by decide) N_0.symm) h31]
  have hy : y = (ix2 (y 0) (y 1) : S64x256.Idx) := by idx_ext
  have e1 : ∀ (n : Fin 64) (z : Fin 256), n = y 0 → z = y 1 → (lastState m c).sums (ix2 n z) = (lastState m c).sums (ix2 (y 0) (y 1)) :=
    fun n z h h' => by rw [h, h']
  refine (congrArg (lastState m c).sums hy).trans (e1 _ _ (by apply Fin.ext; blk_simp [idx19 t]) (by apply Fin.ext; blk_simp [idx19 t])).symm

theorem final22 : (dats m 0 c).arrAt 22 cfg0.N = fun i : S512x128.Idx => (lastState m c).dws (ix2 (i 0) (i 1)) := by
  refine (dats m 0 c).arrAt_eq_of_covers 22 _ (by decide +kernel) fun t hf y => ?_
  have h31 : t.val = 31 := by
    have := (flush0_22 t).mp hf
    have := lt_of_lt_of_eq t.isLt N_0
    omega
  blk_simp
  have hA : (dats m 0 c).after 22 t = (leftAt m c t.val t.isLt).dws := rfl
  rw [hA, leftAt_congr m c t.val 31 t.isLt (lt_of_lt_of_eq (by decide) N_0.symm) h31]
  have hy : y = (ix2 (y 0) (y 1) : S512x128.Idx) := by idx_ext
  have e1 : ∀ (n : Fin 512) (z : Fin 128), n = y 0 → z = y 1 → (lastState m c).dws (ix2 n z) = (lastState m c).dws (ix2 (y 0) (y 1)) :=
    fun n z h h' => by rw [h, h']
  refine (congrArg (lastState m c).dws hy).trans (e1 _ _ (by apply Fin.ext; blk_simp [idx22 t]) (by apply Fin.ext; blk_simp [idx22 t])).symm

theorem final23 : (dats m 0 c).arrAt 23 cfg0.N = fun i : S128x256.Idx => (lastState m c).dbs (ix2 (i 0) (i 1)) := by
  refine (dats m 0 c).arrAt_eq_of_covers 23 _ (by decide +kernel) fun t hf y => ?_
  have h31 : t.val = 31 := by
    have := (flush0_23 t).mp hf
    have := lt_of_lt_of_eq t.isLt N_0
    omega
  blk_simp
  have hA : (dats m 0 c).after 23 t = (leftAt m c t.val t.isLt).dbs := rfl
  rw [hA, leftAt_congr m c t.val 31 t.isLt (lt_of_lt_of_eq (by decide) N_0.symm) h31]
  have hy : y = (ix2 (y 0) (y 1) : S128x256.Idx) := by idx_ext
  have e1 : ∀ (n : Fin 128) (z : Fin 256), n = y 0 → z = y 1 → (lastState m c).dbs (ix2 n z) = (lastState m c).dbs (ix2 (y 0) (y 1)) :=
    fun n z h h' => by rw [h, h']
  refine (congrArg (lastState m c).dbs hy).trans (e1 _ _ (by apply Fin.ext; blk_simp [idx23 t]) (by apply Fin.ext; blk_simp [idx23 t])).symm

/-- Row `n` of the projection's cotangent, as the visit that treats its tile leaves it. -/
def dzAt (n : Fin 16384) (k : Fin 3072) : EReal :=
  (leftAt m c (31 - n.val / 512) (lt_of_lt_of_eq (show 31 - n.val / 512 < 32 by omega) N_0.symm)).dz (ix2 ⟨n.val % 512, Nat.mod_lt _ (by decide)⟩ k)

theorem final17 : (dats m 0 c).arrAt 17 cfg0.N = fun i : S16384x3072.Idx => dzAt m c (i 0) (i 1) := by
  refine (dats m 0 c).arrAt_eq_of_covers 17 _ (by decide +kernel) fun t hf y => ?_
  have ht := lt_of_lt_of_eq t.isLt N_0
  blk_simp
  have hA : (dats m 0 c).after 17 t = (leftAt m c t.val t.isLt).dz := rfl
  rw [hA]
  have hy : y = (ix2 (y 0) (y 1) : S512x3072.Idx) := by idx_ext
  have hy0 : (y 0).val < 512 := (y 0).isLt
  have e1 : ∀ (n : Fin 16384) (z : Fin 3072), n.val = (31 - t.val) * 512 + (y 0).val → z = y 1 → dzAt m c n z = (leftAt m c t.val t.isLt).dz (ix2 (y 0) (y 1)) :=
    fun n z h h' => by
      have hn : 31 - n.val / 512 = t.val := by omega
      have hr : (⟨n.val % 512, Nat.mod_lt _ (by decide)⟩ : Fin 512) = y 0 := Fin.ext (by show n.val % 512 = (y 0).val; omega)
      unfold dzAt
      rw [leftAt_congr m c _ t.val _ t.isLt hn, hr, h']
  refine (congrArg (leftAt m c t.val t.isLt).dz hy).trans (e1 _ _ (by blk_simp [idx17 t]) (by apply Fin.ext; blk_simp [idx17 t])).symm

end Cert.MixBwd
-- ==== Proof.MixBwd.Kernel.lean ====
module

public import proofs.«01_k».proof.Proof.MixBwd.Final

/-!
# What the mixer's backward program returns

The lines after the call cut the results out of what the call wrote.
-/

@[expose] public section

set_option maxRecDepth 16384

noncomputable section

namespace Cert.MixBwd

open Cert.Kernel2Ideal Cert.Kernel2Ideal.Gen Cert.Common
open Idealize.ShloMosaic Idealize.ShloMosaic.TcCoe Idealize.ShloMosaic.Tactic
open Idealize.SL.Sem
open Idealize.ShloMosaic.Pipeline (Dat)

/-! ## The sums regrouped -/

theorem four_sum (f : ℕ → ℝ) (n : ℕ) : ∑ k ∈ Finset.range n, four f k = ∑ j ∈ Finset.range (4 * n), f j := by
  induction n with
  | zero => rfl
  | succ n ih =>
    rw [Finset.sum_range_succ, ih, show 4 * (n + 1) = 4 * n + 1 + 1 + 1 + 1 by ring, Finset.sum_range_succ, Finset.sum_range_succ,
      Finset.sum_range_succ, Finset.sum_range_succ]
    unfold four
    ring

theorem upTo_last (f : ℕ → ℝ) : upTo f 31 = ∑ j ∈ Finset.range 128, f j := by
  unfold upTo
  exact (Finset.sum_range_reflect (fun k => four f k) 32).trans (four_sum f 32)

theorem upTo_rows (f : ℕ → Fin 128 → ℝ) :
    (∑ g : Fin 8, upTo (fun j => ∑ q : Fin 16, f j ⟨8 * q.val + g.val, by omega⟩) 31) = ∑ j ∈ Finset.range 128, ∑ r : Fin 128, f j r := by
  simp only [upTo_last]
  rw [Finset.sum_comm]
  refine Finset.sum_congr rfl fun j _ => ?_
  rw [Finset.sum_comm, ← Fin.sum_mul_add_fin (S := 16) (n := 8) (L := 128) (f := f j) (hL := rfl)]
  refine Finset.sum_congr rfl fun q _ => Finset.sum_congr rfl fun s _ => ?_
  exact congrArg (f j) (Fin.ext (show 8 * q.val + s.val = q.val * 8 + s.val by omega))

/-! ## The results as real arrays -/

namespace Data

variable (X : Data)

/-- The rows of the chunk that holds token `n`. -/
abbrev at' (n : Fin 16384) : Rows := X.rows (n.val / 128)
/-- A token's row in its chunk. -/
abbrev pos (n : Fin 16384) : Fin 128 := ⟨n.val % 128, Nat.mod_lt _ (by decide)⟩

def dU (n : Fin 16384) (a : Fin 256) : ℝ := (X.at' n).dU (pos n) a
def dV (n : Fin 16384) (a : Fin 256) : ℝ := (X.at' n).dV (pos n) a
def dG (n : Fin 16384) (a : Fin 256) : ℝ := (X.at' n).dG (pos n) a
def dScale (a : Fin 256) : ℝ := ∑ j ∈ Finset.range 128, ∑ r : Fin 128, (X.rows j).dN r a * (X.rows j).n r a
def dShift (a : Fin 256) : ℝ := ∑ j ∈ Finset.range 128, ∑ r : Fin 128, (X.rows j).dN r a
def dW (h : Fin 4) (a b : Fin 128) : ℝ := if b.val ≤ a.val then ∑ j ∈ Finset.range 128, (X.rows j).dW h a b else 0
def dB (h : Fin 4) (r : Fin 128) : ℝ := ∑ d : Fin 64, ∑ j ∈ Finset.range 128, (X.rows j).dM r ⟨h.val * 64 + d.val, by omega⟩

end Data

variable {m : (ℓ : Loc nD τ sig) → Buf (Elt Ideal) ℓ} {c : Dev nD} {X : Data} (H : Holds m c X)

/-! ## A tile's columns -/

section Tile

variable {i : ℕ} {dz : Vec Ideal S512x3072 .bf16}

theorem column {P : Part Ideal} {o : ℕ} {ho : o + 128 ≤ 512} (C : Columns P o ho dz) (r : Fin 128) (a : Fin 256) :
    dz (ix2 ⟨o + r.val, by omega⟩ ⟨2304 + a.val, by omega⟩) = P.dU (ix2 r a)
    ∧ dz (ix2 ⟨o + r.val, by omega⟩ ⟨2560 + a.val, by omega⟩) = P.dV (ix2 r a)
    ∧ dz (ix2 ⟨o + r.val, by omega⟩ ⟨2816 + a.val, by omega⟩) = P.dG (ix2 r a) :=
  ⟨(ld_z dz o 2304 ho (by decide) r a).symm.trans (congrFun C.u _), (ld_z dz o 2560 ho (by decide) r a).symm.trans (congrFun C.v _),
    (ld_z dz o 2816 ho (by decide) r a).symm.trans (congrFun C.g _)⟩

/-- A row of the tile. -/
def Good (X : Data) (dz : Vec Ideal S512x3072 .bf16) (R : Fin 512) (j : ℕ) (r : Fin 128) : Prop := ∀ a : Fin 256,
  dz (ix2 R ⟨2304 + a.val, by omega⟩) = ((X.rows j).dU r a : EReal)
  ∧ dz (ix2 R ⟨2560 + a.val, by omega⟩) = ((X.rows j).dV r a : EReal)
  ∧ dz (ix2 R ⟨2816 + a.val, by omega⟩) = ((X.rows j).dG r a : EReal)

theorem good {o : ℕ} {ho : o + 128 ≤ 512} (j : ℕ) (C : Columns (ofRows (X.rows j)) o ho dz) (R : Fin 512) (r : Fin 128) (h : o + r.val = R.val) :
    Good X dz R j r := fun a => by
  have e : (⟨o + r.val, by omega⟩ : Fin 512) = R := Fin.ext h
  obtain ⟨h1, h2, h3⟩ := column C r a
  rw [e] at h1 h2 h3
  exact ⟨h1.trans (dU_at _ r a), h2.trans (dV_at _ r a), h3.trans (dG_at _ r a)⟩

theorem tile_at (T : Tile X i dz) (R : Fin 512) : Good X dz R (4 * i + R.val / 128) ⟨R.val % 128, Nat.mod_lt _ (by decide)⟩ := by
  have hR := R.isLt
  obtain h | h | h | h : R.val / 128 = 3 ∨ R.val / 128 = 2 ∨ R.val / 128 = 1 ∨ R.val / 128 = 0 := by omega
  · rw [h]; exact good _ T.c3 R _ (by show 384 + R.val % 128 = R.val; omega)
  · rw [h]; exact good _ T.c2 R _ (by show 256 + R.val % 128 = R.val; omega)
  · rw [h]; exact good _ T.c1 R _ (by show 128 + R.val % 128 = R.val; omega)
  · rw [h]; exact good _ T.c0 R _ (by show 0 + R.val % 128 = R.val; omega)

end Tile

include H in
theorem dz_at (n : Fin 16384) (a : Fin 256) : dzAt m c n ⟨2304 + a.val, by omega⟩ = (X.dU n a : EReal)
    ∧ dzAt m c n ⟨2560 + a.val, by omega⟩ = (X.dV n a : EReal) ∧ dzAt m c n ⟨2816 + a.val, by omega⟩ = (X.dG n a : EReal) := by
  have T := (total H (31 - n.val / 512) (lt_of_lt_of_eq (show 31 - n.val / 512 < 32 by omega) N_0.symm)).2
  have G := tile_at T ⟨n.val % 512, Nat.mod_lt _ (by decide)⟩ a
  have e1 : 4 * (31 - (31 - n.val / 512)) + n.val % 512 / 128 = n.val / 128 := by omega
  have e2 : n.val % 512 % 128 = n.val % 128 := by omega
  simp only [e1, e2] at G
  exact G

/-! ## The small arrays -/

theorem column_sum (x : Vec Ideal S1x8x256 .f32) (a : Fin 256) : k0_pay8 (F := Ideal) x (ix2 0 a) = ∑ g : Fin 8, x (ix3 0 g a) := by
  pointwise [k0_pay8]

theorem ld_sums (x : Vec Ideal S64x256 .f32) (n : ℕ) (hn : ∀ a, ![n, 0] a + S1x256.size a ≤ S64x256.size a) (a : Fin 256) :
    View.ld x (Rect.unit (s := S64x256) ![n, 0] S1x256.size hn) (ix2 0 a) = x (ix2 ⟨n, by have := hn 0; change n + 1 ≤ 64 at this; omega⟩ a) := by
  pointwise

attribute [local irreducible] runA runB runC

theorem last_sums : View.ld (lastState m c).sums (Rect.unit (s := S64x256) ![8, 0] S1x256.size (by decide)) = k0_pay8 (View.ld (lastState m c).acc (row 8 (by decide)))
    ∧ View.ld (lastState m c).sums (Rect.unit (s := S64x256) ![9, 0] S1x256.size (by decide)) = k0_pay8 (View.ld (lastState m c).acc (row 9 (by decide))) := by
  have hN : 31 < cfg0.N := lt_of_lt_of_eq (by decide) N_0.symm
  have h1 : last (grid0.coords ⟨31, hN⟩) := (last_iff ⟨31, hN⟩).mpr rfl
  have h0 : ¬first (grid0.coords ⟨31, hN⟩) := fun e => absurd ((first_iff ⟨31, hN⟩).mp e) (by decide : ¬ 31 = 0)
  have e := leftAt_last m c ⟨31, hN⟩ h0 h1
  rw [show lastState m c = _ from e]
  exact ⟨Last.sums8 c _ _ _ h0 h1 _ _, Last.sums9 c _ _ _ h0 h1 _ _⟩

include H in
theorem sums_scale (a : Fin 256) : (lastState m c).sums (ix2 8 a) = (X.dScale a : EReal) := by
  have T := (total H 31 (lt_of_lt_of_eq (by decide) N_0.symm)).1
  refine (ld_sums _ 8 (by decide) a).symm.trans ((congrFun (last_sums (m := m) (c := c)).1 _).trans ((column_sum _ a).trans ?_))
  simp only [T.scale, coe_sum]
  exact congrArg (fun z : ℝ => (z : EReal)) (upTo_rows fun j r => (X.rows j).dN r a * (X.rows j).n r a)

include H in
theorem sums_shift (a : Fin 256) : (lastState m c).sums (ix2 9 a) = (X.dShift a : EReal) := by
  have T := (total H 31 (lt_of_lt_of_eq (by decide) N_0.symm)).1
  refine (ld_sums _ 9 (by decide) a).symm.trans ((congrFun (last_sums (m := m) (c := c)).2 _).trans ((column_sum _ a).trans ?_))
  simp only [T.shift, coe_sum]
  exact congrArg (fun z : ℝ => (z : EReal)) (upTo_rows fun j r => (X.rows j).dN r a)

include H in
theorem sums_w (h : Fin 4) (a b : Fin 128) : (lastState m c).dws (ix2 (stack h a) b) = ((∑ j ∈ Finset.range 128, (X.rows j).dW h a b : ℝ) : EReal) := by
  have T := (total H 31 (lt_of_lt_of_eq (by decide) N_0.symm)).1
  rw [T.ws, upTo_last]

include H in
theorem sums_b (r : Fin 128) (a : Fin 256) : (lastState m c).dbs (ix2 r a) = ((∑ j ∈ Finset.range 128, (X.rows j).dM r a : ℝ) : EReal) := by
  have T := (total H 31 (lt_of_lt_of_eq (by decide) N_0.symm)).1
  rw [T.bs, upTo_last]

/-! ## The lines after the call -/

section Tail

theorem arr17 : Pipeline.withArrays (cfgs 0).spec c (V0 m c) (fun w => (dats m 0 c).arrAt w (cfgs 0).N) (Proc.tc.devRef main_v170_0)
    = fun i : S16384x3072.Idx => dzAt m c (i 0) (i 1) :=
  ((dats m 0 c).withArrays_arrAt (by decide) (V0 m c) (A_eq m c) 17).trans (final17 m c)
theorem arr19 : Pipeline.withArrays (cfgs 0).spec c (V0 m c) (fun w => (dats m 0 c).arrAt w (cfgs 0).N) (Proc.tc.devRef main_v170_2)
    = fun i : S64x256.Idx => (lastState m c).sums (ix2 (i 0) (i 1)) :=
  ((dats m 0 c).withArrays_arrAt (by decide) (V0 m c) (A_eq m c) 19).trans (final19 m c)
theorem arr22 : Pipeline.withArrays (cfgs 0).spec c (V0 m c) (fun w => (dats m 0 c).arrAt w (cfgs 0).N) (Proc.tc.devRef main_v170_5)
    = fun i : S512x128.Idx => (lastState m c).dws (ix2 (i 0) (i 1)) :=
  ((dats m 0 c).withArrays_arrAt (by decide) (V0 m c) (A_eq m c) 22).trans (final22 m c)
theorem arr23 : Pipeline.withArrays (cfgs 0).spec c (V0 m c) (fun w => (dats m 0 c).arrAt w (cfgs 0).N) (Proc.tc.devRef main_v170_6)
    = fun i : S128x256.Idx => (lastState m c).dbs (ix2 (i 0) (i 1)) :=
  ((dats m 0 c).withArrays_arrAt (by decide) (V0 m c) (A_eq m c) 23).trans (final23 m c)

attribute [local irreducible] dzAt leftAt

theorem tail172 (n : Fin 16384) (k : Fin 768) : (Pipeline.afterTail₀ cfgs (dats m) 0 (V0 m) [hostOps1, hostOps1_1, hostOps1_2] c main_v172 (ix2 n k) : EReal)
    = dzAt m c n ⟨2304 + k.val, by omega⟩ := by
  unfold Pipeline.afterTail₀
  simp only [hostOps1, hostOps1_1, hostOps1_2, List.flatten_cons, List.flatten_nil, List.append_nil, List.cons_append, List.nil_append]
  after_reads_simp
  rw [arr17]
  pointwise

theorem tail174 (a : Fin 256) : (Pipeline.afterTail₀ cfgs (dats m) 0 (V0 m) [hostOps1, hostOps1_1, hostOps1_2] c main_v174 (ix1 a) : EReal)
    = (lastState m c).sums (ix2 8 a) := by
  unfold Pipeline.afterTail₀
  simp only [hostOps1, hostOps1_1, hostOps1_2, List.flatten_cons, List.flatten_nil, List.append_nil, List.cons_append, List.nil_append]
  after_reads_simp
  rw [arr19]
  pointwise

theorem tail176 (a : Fin 256) : (Pipeline.afterTail₀ cfgs (dats m) 0 (V0 m) [hostOps1, hostOps1_1, hostOps1_2] c main_v176 (ix1 a) : EReal)
    = (lastState m c).sums (ix2 9 a) := by
  unfold Pipeline.afterTail₀
  simp only [hostOps1, hostOps1_1, hostOps1_2, List.flatten_cons, List.flatten_nil, List.append_nil, List.cons_append, List.nil_append]
  after_reads_simp
  rw [arr19]
  pointwise

theorem tail185 (h : Fin 4) (r : Fin 128) : (Pipeline.afterTail₀ cfgs (dats m) 0 (V0 m) [hostOps1, hostOps1_1, hostOps1_2] c main_v185 (ix2 h r) : EReal)
    = ∑ d : Fin 64, (lastState m c).dbs (ix2 r ⟨h.val * 64 + d.val, by omega⟩) := by
  unfold Pipeline.afterTail₀
  simp only [hostOps1, hostOps1_1, hostOps1_2, List.flatten_cons, List.flatten_nil, List.append_nil, List.cons_append, List.nil_append]
  after_reads_simp
  rw [arr23]
  pointwise

theorem tail182 (h : Fin 4) (a b : Fin 128) : (Pipeline.afterTail₀ cfgs (dats m) 0 (V0 m) [hostOps1, hostOps1_1, hostOps1_2] c main_v182 (ix3 h a b) : EReal)
    = (lastState m c).dws (ix2 (stack h a) b) * ((if b.val ≤ a.val then 1 else 0 : ℝ) : EReal) := by
  unfold Pipeline.afterTail₀
  simp only [hostOps1, hostOps1_1, hostOps1_2, List.flatten_cons, List.flatten_nil, List.append_nil, List.cons_append, List.nil_append]
  after_reads_simp
  rw [arr22]
  pointwise
  rw [← ones_at]
  have e : (⟨h.val * 128 + a.val, by omega⟩ : Fin 512) = stack h a := Fin.ext (show h.val * 128 + a.val = 128 * h.val + a.val by omega)
  exact congrArg₂ (fun (x y : EReal) => x * y) (congrArg (fun n => (lastState m c).dws (ix2 n b)) e) rfl

end Tail

end Cert.MixBwd
-- ==== Proof.MixBwd.Reference.lean ====
module

public import proofs.«01_k».proof.Proof.Gen.Reference2Ideal.Read
public import proofs.«01_k».proof.Proof.MixBwd.Kernel

/-!
# The derivative of the plain lines, read at an index

On real arguments each intermediate value of the reference is a real number.
-/

@[expose] public section

set_option maxRecDepth 16384

noncomputable section

namespace Cert.MixBwd

open Cert.Reference2Ideal Cert.Reference2Ideal.Gen Cert.Reference2Ideal.Read Cert.Common
open Idealize.ShloMosaic Idealize.ShloMosaic.TcCoe Idealize.ShloMosaic.Tactic
open Idealize.SL.Sem

/-- The reference's arguments hold the real arrays. -/
structure Given (x0 : Vec Ideal S1x16384x3072 .f32) (x1 : Vec Ideal S1x16384x1024 .f32) (x2 : Vec Ideal S1x1024 .f32)
    (x12 x13 : Vec Ideal S256 .f32) (x14 : Vec Ideal S4x128x128 .f32) (x15 : Vec Ideal S4x128 .f32) (x16 : Vec Ideal S1024x1024 .f32)
    (X : Data) : Prop where
  z : ∀ n k, x0 (ix3 0 n k) = (X.z n k : EReal)
  dx : ∀ n k, x1 (ix3 0 n k) = (X.dx n k : EReal)
  gate : ∀ k, x2 (ix2 0 k) = (X.gate k : EReal)
  scale : ∀ k, x12 (ix1 k) = (X.scale k : EReal)
  shift : ∀ k, x13 (ix1 k) = (X.shift k : EReal)
  w : ∀ h r t, x14 (ix3 h r t) = (X.w h r t : EReal)
  b : ∀ h r, x15 (ix2 h r) = (X.b h r : EReal)
  out : ∀ n k, x16 (ix2 n k) = (X.out n k : EReal)

theorem const_three : Ideal.ofBits FTy.f32 1077936128#32 = ((3 : ℝ) : EReal) := by
  simp [Ideal.ofBits, Ideal.ieee, -EReal.coe_mul]; norm_num
theorem const_two : Ideal.ofBits FTy.f32 1073741824#32 = ((2 : ℝ) : EReal) := by
  simp [Ideal.ofBits, Ideal.ieee, -EReal.coe_mul]; norm_num
theorem const_neg_half : Ideal.ofBits FTy.f32 3204448256#32 = ((-(1 / 2) : ℝ) : EReal) := by
  simp [Ideal.ofBits, Ideal.ieee, -EReal.coe_mul, -EReal.coe_neg]; norm_num

namespace Data
variable (X : Data) (n : Fin 16384) (a : Fin 256)
/-- The three blocks of the last group's columns. -/
abbrev zu : ℝ := X.z n ⟨2304 + a.val, by omega⟩
abbrev zv : ℝ := X.z n ⟨2560 + a.val, by omega⟩
abbrev zg : ℝ := X.z n ⟨2816 + a.val, by omega⟩
abbrev act : Fin 256 → ℝ := fun a => gel (X.zv n a)
end Data

variable {x0 : Vec Ideal S1x16384x3072 .f32} {x1 : Vec Ideal S1x16384x1024 .f32} {x2 : Vec Ideal S1x1024 .f32}
    {x12 x13 : Vec Ideal S256 .f32} {x14 : Vec Ideal S4x128x128 .f32} {x15 : Vec Ideal S4x128 .f32} {x16 : Vec Ideal S1024x1024 .f32}
    {X : Data} (G : Given x0 x1 x2 x12 x13 x14 x15 x16 X)
    (n : Fin 16384) (a : Fin 256)

include G

theorem ref1 : val_main_v1 (F := Ideal) x0 (ix3 0 n a) = (X.zu n a : EReal) := by
  unfold val_main_v1 val_main_v0
  pointwise [G.z]
theorem ref2 : val_main_v2 (F := Ideal) x0 (ix3 0 n a) = (X.zv n a : EReal) := by
  unfold val_main_v2 val_main_v0
  pointwise [G.z]
  simp only [← Nat.add_assoc]
theorem ref3 : val_main_v3 (F := Ideal) x0 (ix3 0 n a) = (X.zg n a : EReal) := by
  unfold val_main_v3 val_main_v0
  pointwise [G.z]
  simp only [← Nat.add_assoc]
theorem ref14 : val_main_v14 (F := Ideal) x0 (ix3 0 n a) = (th (X.zu n a) : EReal) := by
  unfold val_main_v14 val_main_v13 val_main_v12 val_main_v11 val_main_v10 val_main_v9 val_main_v5 val_main_v4 val_main_cst_0 val_main_cst_1
  pointwise [ref1 G]
  simp only [const_c0, const_k0, ← EReal.coe_mul, ← EReal.coe_add, Ideal.tanh_coe]
  refine congrArg (fun z : ℝ => (z : EReal)) ?_
  unfold th; ring_nf
theorem ref23 : val_main_v23 (F := Ideal) x0 (ix3 0 n a) = (phi (X.zu n a) : EReal) := by
  unfold val_main_v23 val_main_v22 val_main_v21 val_main_v20 val_main_cst_4 val_main_cst_5
  pointwise [ref14 G]
  simp only [const_half, ← EReal.coe_one, ← EReal.coe_mul, ← EReal.coe_add]
  refine congrArg (fun z : ℝ => (z : EReal)) ?_
  unfold phi; ring
theorem ref24 : val_main_v24 (F := Ideal) x0 (ix3 0 n a) = (gel (X.zu n a) : EReal) := by
  unfold val_main_v24
  pointwise [ref1 G, ref23 G]
  rw [← EReal.coe_mul]; rfl
theorem ref19 : val_main_v19 (F := Ideal) x0 (ix3 0 n a) = ((1 - th (X.zu n a) * th (X.zu n a) : ℝ) : EReal) := by
  unfold val_main_v19 val_main_v18 val_main_v17 val_main_v16 val_main_v15 val_main_cst_2 val_main_cst_3
  pointwise [ref14 G]
  simp only [← EReal.coe_one, ← EReal.coe_mul, ← EReal.coe_add, ← EReal.coe_sub]
  refine congrArg (fun z : ℝ => (z : EReal)) ?_
  ring
theorem ref8 : val_main_v8 (F := Ideal) x0 (ix3 0 n a) = ((3 * (X.zu n a * X.zu n a) : ℝ) : EReal) := by
  unfold val_main_v8 val_main_v7 val_main_v6 val_main_cst
  pointwise [ref1 G]
  simp only [const_three, ← EReal.coe_mul]
theorem ref35 : val_main_v35 (F := Ideal) x0 (ix3 0 n a) = (th (X.zv n a) : EReal) := by
  unfold val_main_v35 val_main_v34 val_main_v33 val_main_v32 val_main_v31 val_main_v30 val_main_v26 val_main_v25 val_main_cst_7 val_main_cst_8
  pointwise [ref2 G]
  simp only [const_c0, const_k0, ← EReal.coe_mul, ← EReal.coe_add, Ideal.tanh_coe]
  refine congrArg (fun z : ℝ => (z : EReal)) ?_
  unfold th; ring_nf
theorem ref44 : val_main_v44 (F := Ideal) x0 (ix3 0 n a) = (phi (X.zv n a) : EReal) := by
  unfold val_main_v44 val_main_v43 val_main_v42 val_main_v41 val_main_cst_11 val_main_cst_12
  pointwise [ref35 G]
  simp only [const_half, ← EReal.coe_one, ← EReal.coe_mul, ← EReal.coe_add]
  refine congrArg (fun z : ℝ => (z : EReal)) ?_
  unfold phi; ring
theorem ref45 : val_main_v45 (F := Ideal) x0 (ix3 0 n a) = (gel (X.zv n a) : EReal) := by
  unfold val_main_v45
  pointwise [ref2 G, ref44 G]
  rw [← EReal.coe_mul]; rfl
theorem ref40 : val_main_v40 (F := Ideal) x0 (ix3 0 n a) = ((1 - th (X.zv n a) * th (X.zv n a) : ℝ) : EReal) := by
  unfold val_main_v40 val_main_v39 val_main_v38 val_main_v37 val_main_v36 val_main_cst_9 val_main_cst_10
  pointwise [ref35 G]
  simp only [← EReal.coe_one, ← EReal.coe_mul, ← EReal.coe_add, ← EReal.coe_sub]
  refine congrArg (fun z : ℝ => (z : EReal)) ?_
  ring
theorem ref29 : val_main_v29 (F := Ideal) x0 (ix3 0 n a) = ((3 * (X.zv n a * X.zv n a) : ℝ) : EReal) := by
  unfold val_main_v29 val_main_v28 val_main_v27 val_main_cst_6
  pointwise [ref2 G]
  simp only [const_three, ← EReal.coe_mul]

theorem ref49 : val_main_v49 (F := Ideal) x0 (ix3 0 n 0) = (mean (X.act n) : EReal) := by
  unfold val_main_v49 val_main_v48 val_main_v47 val_main_v46 val_main_cst_13 val_main_cst_14
  pointwise [ref45 G]
  simp only [const_256, Ideal.div_coe (show (256 : ℝ) ≠ 0 by norm_num), ← EReal.coe_mul, coe_sum]
  rfl
theorem ref51 : val_main_v51 (F := Ideal) x0 (ix3 0 n a) = (cen (X.act n) a : EReal) := by
  unfold val_main_v51 val_main_v50
  pointwise [ref45 G, ref49 G]
  rw [← EReal.coe_sub]; rfl
theorem ref60 : val_main_v60 (F := Ideal) x0 (ix3 0 n a) = (cen (X.act n) a : EReal) := by
  unfold val_main_v60 val_main_v59
  pointwise [ref45 G, ref49 G]
  rw [← EReal.coe_sub]; rfl
theorem ref54 : val_main_v54 (F := Ideal) x0 (ix3 0 n a) = ((2 * cen (X.act n) a : ℝ) : EReal) := by
  unfold val_main_v54 val_main_v53 val_main_cst_15
  pointwise [ref51 G]
  simp only [const_two, ← EReal.coe_mul]
theorem ref62 : val_main_v62 (F := Ideal) x0 (ix3 0 n 0) = (vari (X.act n) : EReal) := by
  unfold val_main_v62 val_main_v61 val_main_v58 val_main_v57 val_main_v56 val_main_v55 val_main_v52 val_main_cst_16 val_main_cst_17 val_main_cst_18
  pointwise [ref51 G]
  simp only [const_256, const_e0, Ideal.div_coe (show (256 : ℝ) ≠ 0 by norm_num), ← EReal.coe_mul, coe_sum, ← EReal.coe_add]
  rfl
theorem ref63 : val_main_v63 (F := Ideal) x0 (ix3 0 n 0) = (inv (X.act n) : EReal) := by
  unfold val_main_v63
  pointwise [ref62 G]
  rw [Ideal.rsqrt_coe, if_neg (vari_pos _).not_gt, if_neg (vari_pos _).ne']
  rfl
theorem ref66 : val_main_v66 (F := Ideal) x0 (ix3 0 n 0) = ((-(1 / 2) * (inv (X.act n) * (inv (X.act n) * inv (X.act n))) : ℝ) : EReal) := by
  unfold val_main_v66 val_main_v65 val_main_v64 val_main_cst_19
  pointwise [ref62 G, ref63 G]
  simp only [const_neg_half, Ideal.div_coe (vari_pos (X.act n)).ne', ← EReal.coe_mul]
  rw [inv_sq]
theorem ref68 : val_main_v68 (F := Ideal) x0 (ix3 0 n a) = (nrm (X.act n) a : EReal) := by
  unfold val_main_v68 val_main_v67
  pointwise [ref60 G, ref63 G]
  rw [← EReal.coe_mul]; rfl
theorem ref93 : val_main_v93 (F := Ideal) x0 (ix3 0 n a) = (sgm (X.zg n a) : EReal) := by
  unfold val_main_v93 val_main_v92 val_main_v91 val_main_v90 val_main_v89 val_main_v88 val_main_cst_21 val_main_cst_22
  pointwise [ref3 G]
  have h : (1 + Real.exp (-X.zg n a)) ≠ 0 := by positivity
  simp only [← EReal.coe_neg, Ideal.exp_coe, ← EReal.coe_one, ← EReal.coe_add, Ideal.div_coe h, ← EReal.coe_mul]
  refine congrArg (fun z : ℝ => (z : EReal)) ?_
  unfold sgm; ring
theorem ref96 : val_main_v96 (F := Ideal) x0 (ix3 0 n a) = ((sgm (X.zg n a) * (1 - sgm (X.zg n a)) : ℝ) : EReal) := by
  unfold val_main_v96 val_main_v95 val_main_v94 val_main_cst_23
  pointwise [ref93 G]
  simp only [← EReal.coe_one, ← EReal.coe_sub, ← EReal.coe_mul]
theorem ref97 : val_main_v97 (F := Ideal) x0 (ix3 0 n a) = ((X.zg n a * sgm (X.zg n a) : ℝ) : EReal) := by
  unfold val_main_v97
  pointwise [ref3 G, ref93 G]
  rw [← EReal.coe_mul]
theorem ref111 : val_main_v111 (F := Ideal) x1 x2 x16 (ix3 0 n a) = (X.dy n a : EReal) := by
  unfold val_main_v111 val_main_v105 val_main_v104 val_main_v100 val_main_v99
  pointwise [G.dx, G.gate, G.out]
  simp only [← EReal.coe_mul, coe_sum]
  refine congrArg (fun z : ℝ => (z : EReal)) (Finset.sum_congr rfl fun k _ => ?_)
  ring

namespace Data
variable (X : Data)
/-- The normalised and scaled activation, and the gradient of the mixed values, at a token. -/
def yAt (n : Fin 16384) (a : Fin 256) : ℝ := nrm (X.act n) a * X.scale a + X.shift a
def dMAt (n : Fin 16384) (a : Fin 256) : ℝ := X.dy n a * gel (X.zu n a) * (X.zg n a * sgm (X.zg n a))
/-- The mixing matrices below the diagonal. -/
def wm (h : Fin 4) (r t : Fin 128) : ℝ := if t.val ≤ r.val then X.w h r t else 0
end Data

/-- The column of head `h` and place `d`. -/
abbrev col (h : Fin 4) (d : Fin 64) : Fin 256 := ⟨h.val * 64 + d.val, by omega⟩

theorem ref74 : val_main_v74 (F := Ideal) x0 x12 x13 (ix3 0 n a) = (X.yAt n a : EReal) := by
  unfold val_main_v74 val_main_v73 val_main_v72 val_main_v71 val_main_v70 val_main_v69
  pointwise [ref68 G, G.scale, G.shift]
  rw [← EReal.coe_mul, ← EReal.coe_add]; rfl

omit G in
theorem tok_eq (j t : Fin 128) (k : ℕ) (hk : k < 16384) (e : k = j.val * 128 + t.val) : (⟨k, hk⟩ : Fin 16384) = Data.tok j.val t :=
  Fin.ext (show k = (128 * j.val + t.val) % 16384 by omega)
omit G in
theorem tok_pos : Data.tok (n.val / 128) (Data.pos n) = n :=
  Fin.ext (show (128 * (n.val / 128) + n.val % 128) % 16384 = n.val by omega)
omit G in
theorem col_eq (h : a.val / 64 < 4) (h' : a.val % 64 < 64) : col ⟨a.val / 64, h⟩ ⟨a.val % 64, h'⟩ = a :=
  Fin.ext (show a.val / 64 * 64 + a.val % 64 = a.val by omega)

theorem ref75 (j t : Fin 128) (h : Fin 4) (d : Fin 64) :
    val_main_v75 (F := Ideal) x0 x12 x13 (ix5 0 j t h d) = (X.yAt (Data.tok j.val t) (col h d) : EReal) := by
  unfold val_main_v75
  pointwise
  rw [ref74 G, tok_eq j t _ _ rfl]

omit G in
theorem below_ref : ∀ r t : Fin 128, (val_main_v77 (F := Ideal) (ix2 r t) : BitVec 1) = if t.val ≤ r.val then 1#1 else 0#1 := by
  intro r t
  have h : (val_main_v77 (F := Ideal) (ix2 r t) : BitVec 1) = Scalar.select (below (ix2 r t)) 1#1 0#1 := rfl
  rw [h, below_at]
  split <;> rfl

theorem ref79 (h : Fin 4) (r t : Fin 128) : val_main_v79_0 (F := Ideal) x14 (ix3 h r t) = (X.wm h r t : EReal) := by
  unfold val_main_v79_0 val_main_v79_1 val_main_call1_v2 val_main_v78 val_main_call1_v0 val_main_c_20
  pointwise [G.w, below_ref]
  unfold Data.wm
  split <;> simp [Scalar.select, FloatOps.sitofp]

theorem ref86 : val_main_v86 (F := Ideal) x0 x12 x13 x14 x15 (ix3 0 n a) = ((X.at' n).mix (Data.pos n) a : EReal) := by
  unfold val_main_v86 val_main_v85 val_main_v84 val_main_v83 val_main_v82 val_main_v81 val_main_v80
  pointwise [ref75 G, ref79 G, G.b]
  simp only [col_eq, ← EReal.coe_mul, coe_sum, ← EReal.coe_add]
  refine congrArg (fun z : ℝ => (z : EReal)) ?_
  unfold Rows.mix
  refine congrArg₂ (· + ·) (Finset.sum_congr rfl fun t _ => mul_comm _ _) rfl

theorem ref116 : val_main_v116 (F := Ideal) x0 x1 x2 x16 (ix3 0 n a) = ((X.dy n a * (X.zg n a * sgm (X.zg n a)) : ℝ) : EReal) := by
  unfold val_main_v116
  pointwise [ref111 G, ref97 G]
  rw [← EReal.coe_mul]
theorem ref121 : val_main_v121 (F := Ideal) x0 x1 x2 x16 (ix3 0 n a) = (X.dMAt n a : EReal) := by
  unfold val_main_v121
  pointwise [ref116 G, ref24 G]
  rw [← EReal.coe_mul]
  refine congrArg (fun z : ℝ => (z : EReal)) ?_
  unfold Data.dMAt; ring
theorem ref123 (j t : Fin 128) (h : Fin 4) (d : Fin 64) :
    val_main_v123 (F := Ideal) x0 x1 x2 x16 (ix5 0 j t h d) = (X.dMAt (Data.tok j.val t) (col h d) : EReal) := by
  unfold val_main_v123
  pointwise
  rw [ref121 G, tok_eq j t _ _ rfl]

theorem ref133 : val_main_v133 (F := Ideal) x0 x1 x2 x14 x16 (ix3 0 n a) = ((X.at' n).dN (Data.pos n) a : EReal) := by
  unfold val_main_v133 val_main_v131 val_main_v130 val_main_v128
  pointwise [ref123 G, ref79 G]
  simp only [col_eq, ← EReal.coe_mul, coe_sum]
  refine congrArg (fun z : ℝ => (z : EReal)) ?_
  unfold Rows.dN
  exact Finset.sum_congr rfl fun t _ => mul_comm _ _

/-! ## The five results -/

omit G in
theorem at_u : (X.at' n).u (Data.pos n) a = X.zu n a := by show X.z (Data.tok _ _) _ = _; rw [tok_pos]
omit G in
theorem at_v : (X.at' n).v (Data.pos n) a = X.zv n a := by show X.z (Data.tok _ _) _ = _; rw [tok_pos]
omit G in
theorem at_g : (X.at' n).g (Data.pos n) a = X.zg n a := by show X.z (Data.tok _ _) _ = _; rw [tok_pos]
omit G in
theorem at_dy : (X.at' n).dy (Data.pos n) a = X.dy n a := by show X.dy (Data.tok _ _) _ = _; rw [tok_pos]
omit G in
theorem at_a : (X.at' n).a (Data.pos n) = X.act n := by funext c; show gel _ = gel _; rw [at_v]

theorem ref122 : val_main_v122 (F := Ideal) x0 x1 x2 x12 x13 x14 x15 x16 (ix3 0 n a)
    = ((X.dy n a * (X.zg n a * sgm (X.zg n a)) * (X.at' n).mix (Data.pos n) a : ℝ) : EReal) := by
  unfold val_main_v122
  pointwise [ref116 G, ref86 G]
  rw [← EReal.coe_mul]

theorem ref192 : val_main_v192 (F := Ideal) x0 x1 x2 x12 x13 x14 x15 x16 (ix3 0 n a) = (X.dU n a : EReal) := by
  unfold val_main_v192 val_main_v191 val_main_v190 val_main_v189 val_main_v188 val_main_v187 val_main_v186 val_main_v185 val_main_v184 val_main_v183
    val_main_v182 val_main_v181 val_main_cst_43 val_main_cst_44 val_main_cst_45
  pointwise [ref122 G, ref1 G, ref8 G, ref19 G, ref23 G]
  simp only [const_c0, const_k0, const_half, ← EReal.coe_mul, ← EReal.coe_add]
  refine congrArg (fun z : ℝ => (z : EReal)) ?_
  unfold Data.dU Rows.dU Rows.gate slope
  rw [at_u, at_g, at_dy]
  ring

theorem ref120 : val_main_v120 (F := Ideal) x0 x1 x2 x12 x13 x14 x15 x16 (ix3 0 n a) = (X.dG n a : EReal) := by
  unfold val_main_v120 val_main_v119 val_main_v118 val_main_v117 val_main_v115 val_main_v87
  pointwise [ref24 G, ref86 G, ref111 G, ref3 G, ref93 G, ref96 G]
  simp only [← EReal.coe_mul, ← EReal.coe_add]
  refine congrArg (fun z : ℝ => (z : EReal)) ?_
  unfold Data.dG Rows.dG Rows.gate
  rw [at_u, at_g, at_dy]
  ring

omit G in
theorem cen_sum (f : Fin 256 → ℝ) : ∑ c, cen f c = 0 := by
  unfold cen mean
  rw [Finset.sum_sub_distrib, Finset.sum_const, Finset.card_univ, Fintype.card_fin]
  simp only [nsmul_eq_mul]
  push_cast
  ring

/-- What reaches the normalised activation at a token. -/
theorem ref141 : val_main_v141 (F := Ideal) x0 x1 x2 x12 x14 x16 (ix3 0 n a) = (((X.at' n).dN (Data.pos n) a * X.scale a : ℝ) : EReal) := by
  unfold val_main_v141 val_main_v140 val_main_v69
  pointwise [ref133 G, G.scale]
  rw [← EReal.coe_mul]

theorem ref147 : val_main_v147 (F := Ideal) x0 x1 x2 x12 x14 x16 (ix3 0 n a)
    = (((X.at' n).dN (Data.pos n) a * X.scale a * inv (X.act n) : ℝ) : EReal) := by
  unfold val_main_v147 val_main_v146
  pointwise [ref141 G, ref63 G]
  rw [← EReal.coe_mul]

theorem ref156 : val_main_v156 (F := Ideal) x0 x1 x2 x12 x14 x16 (ix3 0 n a)
    = (((∑ c, cen (X.act n) c * ((X.at' n).dN (Data.pos n) c * X.scale c)) * (-(1 / 2) * (inv (X.act n) * (inv (X.act n) * inv (X.act n)))) * (1 / 256) : ℝ) : EReal) := by
  unfold val_main_v156 val_main_v155 val_main_v154 val_main_v153 val_main_v152 val_main_v148 val_main_v145 val_main_v144 val_main_v143 val_main_cst_35 val_main_cst_36 val_main_cst_33
  pointwise
  rw [reduce_unit02]
  pointwise [ref141 G, ref60 G, ref66 G]
  simp only [const_256, Ideal.div_coe (show (256 : ℝ) ≠ 0 by norm_num), ← EReal.coe_mul, coe_sum]

theorem ref157 : val_main_v157 (F := Ideal) x0 x1 x2 x12 x14 x16 (ix3 0 n a)
    = (((∑ c, cen (X.act n) c * ((X.at' n).dN (Data.pos n) c * X.scale c)) * (-(1 / 2) * (inv (X.act n) * (inv (X.act n) * inv (X.act n)))) * (1 / 256)
      * (2 * cen (X.act n) a) : ℝ) : EReal) := by
  unfold val_main_v157
  pointwise [ref156 G, ref54 G]
  rw [← EReal.coe_mul]

theorem ref167 : val_main_v167 (F := Ideal) x0 x1 x2 x12 x14 x16 (ix3 0 n a)
    = ((-(inv (X.act n) * mean (fun c => (X.at' n).dN (Data.pos n) c * X.scale c)) : ℝ) : EReal) := by
  unfold val_main_v167 val_main_v166 val_main_v165 val_main_v164 val_main_v163 val_main_v162 val_main_v160 val_main_v159 val_main_v158 val_main_v151 val_main_v150 val_main_v149
    val_main_cst_37 val_main_cst_38 val_main_cst_39 val_main_cst_34
  pointwise
  rw [reduce_unit02]
  pointwise [ref147 G, ref157 G]
  simp only [const_256, Ideal.div_coe (show (256 : ℝ) ≠ 0 by norm_num), ← EReal.coe_neg, ← EReal.coe_mul, coe_sum, ← EReal.coe_add]
  refine congrArg (fun z : ℝ => (z : EReal)) ?_
  rw [Finset.sum_neg_distrib, Finset.sum_neg_distrib, ← Finset.sum_mul, ← Finset.mul_sum, ← Finset.mul_sum, cen_sum]
  unfold mean
  ring

theorem ref168 : val_main_v168 (F := Ideal) x0 x1 x2 x12 x14 x16 (ix3 0 n a)
    = (back (X.act n) (fun c => (X.at' n).dN (Data.pos n) c * X.scale c) a : EReal) := by
  unfold val_main_v168 val_main_v161
  pointwise [ref147 G, ref157 G, ref167 G]
  simp only [← EReal.coe_add]
  refine congrArg (fun z : ℝ => (z : EReal)) ?_
  have h : mean (fun c => (X.at' n).dN (Data.pos n) c * X.scale c * nrm (X.act n) c)
      = (∑ c, cen (X.act n) c * ((X.at' n).dN (Data.pos n) c * X.scale c)) * inv (X.act n) * (1 / 256) := by
    unfold mean
    refine congrArg (fun z : ℝ => z * (1 / 256)) ?_
    rw [Finset.sum_mul]
    refine Finset.sum_congr rfl fun c _ => ?_
    unfold nrm
    ring
  unfold back
  rw [h]
  unfold nrm
  ring

theorem ref180 : val_main_v180 (F := Ideal) x0 x1 x2 x12 x14 x16 (ix3 0 n a) = (X.dV n a : EReal) := by
  unfold val_main_v180 val_main_v179 val_main_v178 val_main_v177 val_main_v176 val_main_v175 val_main_v174 val_main_v173 val_main_v172 val_main_v171
    val_main_v170 val_main_v169 val_main_cst_40 val_main_cst_41 val_main_cst_42
  pointwise [ref168 G, ref2 G, ref29 G, ref40 G, ref44 G]
  simp only [const_c0, const_k0, const_half, ← EReal.coe_mul, ← EReal.coe_add]
  refine congrArg (fun z : ℝ => (z : EReal)) ?_
  unfold Data.dV Rows.dV slope
  rw [at_a, at_v]
  show _ = back (X.act n) (fun c => (X.at' n).dN (Data.pos n) c * X.scale c) a * _
  ring

theorem ref196 (k : Fin 768) : val_main_v196 (F := Ideal) x0 x1 x2 x12 x13 x14 x15 x16 (ix2 n k)
    = if h1 : k.val < 256 then (X.dU n ⟨k.val, h1⟩ : EReal) else if h2 : k.val < 512 then (X.dV n ⟨k.val - 256, by omega⟩ : EReal)
      else (X.dG n ⟨k.val - 512, by omega⟩ : EReal) := by
  unfold val_main_v196 val_main_v195 val_main_v194 val_main_v193
  pointwise [ref192 G, ref180 G, ref120 G]
  have hk := k.isLt
  by_cases h1 : k.val < 256
  · rw [dif_pos h1, dif_pos h1]
  · rw [dif_neg h1, dif_neg h1]
    by_cases h2 : k.val < 512
    · rw [dif_pos h2, dif_pos (show k.val - 256 < 256 by omega)]
    · rw [dif_neg h2, dif_neg (show ¬k.val - 256 < 256 by omega)]
      exact congrArg (fun z => (X.dG n z : EReal)) (Fin.ext (show k.val - 256 - 256 = k.val - 512 by omega))

omit G in
/-- A sum over tokens is a sum over chunks and their rows. -/
theorem sum_tokens (f : ℕ → Fin 128 → ℝ) : ∑ n : Fin 16384, f (n.val / 128) (Data.pos n) = ∑ j ∈ Finset.range 128, ∑ r : Fin 128, f j r := by
  rw [← Fin.sum_mul_add_fin (S := 128) (n := 128) (L := 16384) (f := fun n => f (n.val / 128) (Data.pos n)) (hL := rfl),
    ← Fin.sum_univ_eq_sum_range (fun j => ∑ r : Fin 128, f j r)]
  refine Finset.sum_congr rfl fun j _ => Finset.sum_congr rfl fun r _ => ?_
  have e1 : (j.val * 128 + r.val) / 128 = j.val := by omega
  have e2 : Data.pos ⟨j.val * 128 + r.val, by omega⟩ = r := Fin.ext (show (j.val * 128 + r.val) % 128 = r.val by omega)
  show f ((j.val * 128 + r.val) / 128) (Data.pos ⟨j.val * 128 + r.val, _⟩) = f j r
  rw [e1, e2]

theorem ref142 : val_main_v142 (F := Ideal) x0 x1 x2 x14 x16 (ix1 a) = (X.dScale a : EReal) := by
  unfold val_main_v142 val_main_v139 val_main_v138 val_main_v137 val_main_cst_31 val_main_cst_32
  pointwise
  rw [reduce_unit01]
  pointwise [ref68 G, ref133 G]
  simp only [← EReal.coe_mul, coe_sum]
  refine congrArg (fun z : ℝ => (z : EReal)) (Eq.trans (Finset.sum_congr rfl fun n _ => ?_) (sum_tokens fun j r => (X.rows j).dN r a * (X.rows j).n r a))
  unfold Rows.n
  rw [at_a, mul_comm]

theorem ref136 : val_main_v136 (F := Ideal) x0 x1 x2 x14 x16 (ix1 a) = (X.dShift a : EReal) := by
  unfold val_main_v136 val_main_v135 val_main_v134 val_main_cst_29 val_main_cst_30
  pointwise
  rw [reduce_unit01]
  pointwise [ref133 G]
  simp only [coe_sum]
  exact congrArg (fun z : ℝ => (z : EReal)) (sum_tokens fun j r => (X.rows j).dN r a)

omit G in
/-- The sum over the second and the last of five axes. -/
theorem reduce_14 {n m p q : Nat} (h : (⟨5, ![1, n, m, p, q]⟩ : Shape).ReducesTo [1, 4] ⟨3, ![1, m, p]⟩) (v : (⟨5, ![1, n, m, p, q]⟩ : Shape).Idx → EReal)
    (init : EReal) (r : Fin m) (k : Fin p) : Ideal.hostReduceAdd h v init (ix3 0 r k) = init + ∑ j : Fin n, ∑ d : Fin q, v (ix5 0 j r k d) := by
  unfold Ideal.hostReduceAdd
  refine congrArg (init + ·) ?_
  rw [← Fintype.sum_prod_type']
  refine (Finset.sum_nbij' (fun x : Fin n × Fin q => (ix5 0 x.1 r k x.2 : (⟨5, ![1, n, m, p, q]⟩ : Shape).Idx)) (fun i => (i 1, i 4)) ?_ ?_ ?_ ?_ ?_).symm
  · intro x _
    refine Finset.mem_filter.mpr ⟨Finset.mem_univ _, ?_⟩
    funext b; apply Fin.ext
    match b with
    | ⟨0, _⟩ => rfl
    | ⟨1, _⟩ => rfl
    | ⟨2, _⟩ => rfl
  · intro i _; exact Finset.mem_univ _
  · intro x _; rfl
  · intro i hi
    have e := (Finset.mem_filter.mp hi).2
    have e2 : i 2 = r := Fin.ext (congrArg Fin.val (congrFun e 1))
    have e3 : i 3 = k := Fin.ext (congrArg Fin.val (congrFun e 2))
    funext b; apply Fin.ext
    match b with
    | ⟨0, _⟩ => exact (Nat.lt_one_iff.mp (i 0).isLt).symm
    | ⟨1, _⟩ => rfl
    | ⟨2, _⟩ => exact congrArg Fin.val e2.symm
    | ⟨3, _⟩ => exact congrArg Fin.val e3.symm
    | ⟨4, _⟩ => rfl
  · intro x _; rfl

omit G in
/-- The sum over three axes of extent one out of five. -/
theorem reduce_014 {m p : Nat} (h : (⟨5, ![1, 1, m, p, 1]⟩ : Shape).ReducesTo [0, 1, 4] ⟨2, ![m, p]⟩) (v : (⟨5, ![1, 1, m, p, 1]⟩ : Shape).Idx → EReal)
    (init : EReal) (r : Fin m) (k : Fin p) : Ideal.hostReduceAdd h v init (ix2 r k) = init + v (ix5 0 0 r k 0) := by
  unfold Ideal.hostReduceAdd
  refine congrArg (init + ·) (Finset.sum_eq_single (ix5 0 0 r k 0 : (⟨5, ![1, 1, m, p, 1]⟩ : Shape).Idx) (fun i hi hne => absurd ?_ hne) fun hn => absurd ?_ hn)
  · have e := (Finset.mem_filter.mp hi).2
    have e2 : i 2 = r := Fin.ext (congrArg Fin.val (congrFun e 0))
    have e3 : i 3 = k := Fin.ext (congrArg Fin.val (congrFun e 1))
    funext b; apply Fin.ext
    match b with
    | ⟨0, _⟩ => exact Nat.lt_one_iff.mp (i 0).isLt
    | ⟨1, _⟩ => exact Nat.lt_one_iff.mp (i 1).isLt
    | ⟨2, _⟩ => exact congrArg Fin.val e2
    | ⟨3, _⟩ => exact congrArg Fin.val e3
    | ⟨4, _⟩ => exact Nat.lt_one_iff.mp (i 4).isLt
  · refine Finset.mem_filter.mpr ⟨Finset.mem_univ _, ?_⟩
    funext b; apply Fin.ext
    match b with
    | ⟨0, _⟩ => rfl
    | ⟨1, _⟩ => rfl

theorem ref124 (h : Fin 4) (r : Fin 128) : val_main_v124 (F := Ideal) x0 x1 x2 x16 (ix3 0 r h)
    = ((∑ j : Fin 128, ∑ d : Fin 64, X.dMAt (Data.tok j.val r) (col h d) : ℝ) : EReal) := by
  unfold val_main_v124 val_main_cst_27
  pointwise
  rw [reduce_14]
  pointwise [ref123 G]
  simp only [coe_sum]

theorem ref127 (h : Fin 4) (r : Fin 128) : val_main_v127 (F := Ideal) x0 x1 x2 x16 (ix2 h r) = (X.dB h r : EReal) := by
  unfold val_main_v127 val_main_v126 val_main_v125 val_main_cst_28
  pointwise
  rw [reduce_014]
  pointwise [ref124 G]
  refine congrArg (fun z : ℝ => (z : EReal)) ?_
  rw [Finset.sum_comm]
  unfold Data.dB
  exact Finset.sum_congr rfl fun d _ => Fin.sum_univ_eq_sum_range (fun j => X.dMAt (Data.tok j r) (col h d)) 128

omit G in
/-- A sum over a contraction's three axes, the first of extent one. -/
theorem sum_three {sl sr so : Shape} (D : DotDims sl sr so) (n p : Nat) (hr : D.contr.rank = 3) (h0 : D.contr.size ⟨0, by omega⟩ = 1)
    (h1 : D.contr.size ⟨1, by omega⟩ = n) (h2 : D.contr.size ⟨2, by omega⟩ = p) (f : D.contr.Idx → EReal)
    (g : Fin n → Fin p → D.contr.Idx) (e1 : ∀ a b, (g a b ⟨1, by omega⟩).val = a.val) (e2 : ∀ a b, (g a b ⟨2, by omega⟩).val = b.val) :
    ∑ q, f q = ∑ a : Fin n, ∑ b : Fin p, f (g a b) := by
  rw [← Fintype.sum_prod_type']
  refine (Fintype.sum_bijective (fun x : Fin n × Fin p => g x.1 x.2) ⟨?_, ?_⟩ _ _ fun _ => rfl).symm
  · intro x y h
    refine Prod.ext (Fin.ext ?_) (Fin.ext ?_)
    · rw [← e1 x.1 x.2, ← e1 y.1 y.2]; exact congrArg (fun q : D.contr.Idx => (q ⟨1, by omega⟩).val) h
    · rw [← e2 x.1 x.2, ← e2 y.1 y.2]; exact congrArg (fun q : D.contr.Idx => (q ⟨2, by omega⟩).val) h
  · intro q
    refine ⟨((q ⟨1, by omega⟩).cast h1, (q ⟨2, by omega⟩).cast h2), ?_⟩
    funext a; apply Fin.ext
    have p0 : 0 < D.contr.rank := by omega
    have p1 : 1 < D.contr.rank := by omega
    have p2 : 2 < D.contr.rank := by omega
    have ha : a.val = 0 ∨ a.val = 1 ∨ a.val = 2 := by have := a.isLt; omega
    rcases ha with ha | ha | ha
    · obtain rfl : a = ⟨0, p0⟩ := Fin.ext ha
      have u := lt_of_lt_of_eq (q ⟨0, p0⟩).isLt h0
      have v := lt_of_lt_of_eq (g ((q ⟨1, p1⟩).cast h1) ((q ⟨2, p2⟩).cast h2) ⟨0, p0⟩).isLt h0
      exact (Nat.lt_one_iff.mp v).trans (Nat.lt_one_iff.mp u).symm
    · obtain rfl : a = ⟨1, p1⟩ := Fin.ext ha
      rw [e1]; rfl
    · obtain rfl : a = ⟨2, p2⟩ := Fin.ext ha
      rw [e2]; rfl

theorem ref129 (h : Fin 4) (r t : Fin 128) : val_main_v129 (F := Ideal) x0 x1 x2 x12 x13 x16 (ix3 h r t)
    = ((∑ j : Fin 128, ∑ d : Fin 64, X.dMAt (Data.tok j.val r) (col h d) * X.yAt (Data.tok j.val t) (col h d) : ℝ) : EReal) := by
  unfold val_main_v129
  simp only [Host.dotGeneral]
  rw [Ideal.dotGeneral_apply]
  rw [sum_three dot_S4x1x128x64x128_S1x128x128x4x64_S4x128x128_123_014_4_2_0_3 128 64 rfl rfl rfl rfl _
    (fun a b i => match i with
      | ⟨0, _⟩ => (⟨0, Nat.one_pos⟩ : Fin 1)
      | ⟨1, _⟩ => a
      | ⟨2, _⟩ => b) (fun _ _ => rfl) (fun _ _ => rfl)]
  simp only [← coe_sum]
  refine Finset.sum_congr rfl fun j _ => Finset.sum_congr rfl fun d _ => ?_
  rw [EReal.coe_mul, ← ref123 G, ← ref75 G]
  unfold val_main_v128
  refine congrArg₂ (fun u v : EReal => u * v) ?_ ?_
  · pointwise
  · refine congrArg (val_main_v75 (F := Ideal) x0 x12 x13) ?_
    idx_ext

theorem ref132 (h : Fin 4) (r t : Fin 128) : val_main_v132 (F := Ideal) x0 x1 x2 x12 x13 x16 (ix3 h r t) = (X.dW h r t : EReal) := by
  unfold val_main_v132 val_main_v79_1 val_main_v78 val_main_call2_v0 val_main_call2_cst
  pointwise [ref129 G, below_ref]
  unfold Data.dW
  split
  · refine congrArg (fun z : ℝ => (z : EReal)) ?_
    rw [← Fin.sum_univ_eq_sum_range (fun j => (X.rows j).dW h r t)]
    refine Finset.sum_congr rfl fun j _ => ?_
    unfold Rows.dW
    rw [← Fin.sum_mul_add_fin (S := 4) (n := 64) (L := 256) (hL := rfl)]
    rw [Finset.sum_eq_single h]
    · refine Finset.sum_congr rfl fun d _ => ?_
      rw [if_pos (show head (col h d) = h from Fin.ext (show (h.val * 64 + d.val) / 64 = h.val by omega))]
      rfl
    · intro k _ hk
      refine Finset.sum_eq_zero fun d _ => ?_
      rw [if_neg, zero_mul]
      intro e
      exact hk (Fin.ext (show k.val = h.val by have e := congrArg Fin.val e; change (k.val * 64 + d.val) / 64 = h.val at e; omega))
    · intro hh; exact absurd (Finset.mem_univ _) hh
  · rfl

end Cert.MixBwd
-- ==== Proof.MixBwd.BiasGrad.lean ====
module

public import proofs.«01_k».proof.Proof.MixBwd.Bias
public import proofs.«01_k».proof.Proof.MixBwd.Reference

/-!
# The gradient of the conformer's bias

The running row after the last visit, summed over its eight places, is the sum over the tokens, and so is the
derivative of the plain lines.
-/

@[expose] public section

set_option maxRecDepth 16384

noncomputable section

namespace Cert.MixBwd

open Cert.Kernel2Ideal Cert.Kernel2Ideal.Gen Cert.Common
open Idealize.ShloMosaic Idealize.ShloMosaic.TcCoe Idealize.ShloMosaic.Tactic
open Idealize.SL.Sem

namespace Data

variable (X : Data)

/-- The cotangent of the mixer's output in the third group's columns. -/
def dyC (n : Fin 16384) (a : Fin 256) : ℝ := ∑ k, X.dx n k * X.gate k * X.out ⟨512 + a.val, by omega⟩ k
/-- The conformer's gate before its activation. -/
abbrev zc (n : Fin 16384) (a : Fin 256) : ℝ := X.z n ⟨2048 + a.val, by omega⟩
/-- What a token adds to the gradient of the bias. -/
def biasAt (n : Fin 16384) (a : Fin 256) : ℝ := X.dyC n a * (X.zc n a * sgm (X.zc n a))
/-- The gradient of the bias. -/
def dBias (a : Fin 256) : ℝ := ∑ j ∈ Finset.range 128, ∑ r : Fin 128, X.biasAt (tok j r) a

end Data

theorem ld_third (x : Vec Ideal S512x1024 .f32) (o : ℕ) (ho : o + 128 ≤ 512) (r : Fin 128) (a : Fin 256) :
    View.ld x (thirdBox o ho) (ix2 r a) = x (ix2 ⟨o + r.val, by omega⟩ ⟨512 + a.val, by omega⟩) := by
  pointwise

/-- The running row after a chunk, read at an index. -/
theorem addBias_at (g : Vec Ideal S128x256 .bf16) (dy : Vec Ideal S128x256 .f32) (b : Vec Ideal S1x8x256 .f32) (s : Fin 8) (a : Fin 256)
    (f : Fin 128 → EReal) (hf : ∀ r, k0_pay146 (F := Ideal) (k0_pay141 g) dy (ix2 r a) = f r) :
    addBias g dy b (ix3 0 s a) = b (ix3 0 s a) + ∑ q : Fin 16, f ⟨8 * q.val + s.val, by omega⟩ := by
  unfold addBias
  pointwise [k0_pay147, hf]
  rw [sum_rows]
  simp only [atRow_eq, atRow_first, Finset.sum_range_succ, Finset.sum_range_zero, zero_add, Nat.reduceMul]

theorem gated (g : Vec Ideal S128x256 .bf16) (dy : Vec Ideal S128x256 .f32) (r : Fin 128) (a : Fin 256) (z d : ℝ)
    (hg : g (ix2 r a) = (z : EReal)) (hd : dy (ix2 r a) = (d : EReal)) :
    k0_pay146 (F := Ideal) (k0_pay141 g) dy (ix2 r a) = ((d * (z * sgm z) : ℝ) : EReal) := by
  pointwise [k0_pay146, k0_pay141, k0_pay140, k0_pay139, hg, hd]
  rw [Ideal.logistic_coe, ← EReal.coe_mul, ← EReal.coe_mul]
  rfl

variable {m : (ℓ : Loc nD τ sig) → Buf (Elt Ideal) ℓ} {c : Dev nD} {X : Data} (H : Holds m c X)

/-- A tile's cotangent in the third group's columns. -/
def CotangentC (X : Data) (i : ℕ) (dy : Vec Ideal S512x1024 .f32) : Prop :=
  ∀ (r : Fin 512) (a : Fin 256), dy (ix2 r ⟨512 + a.val, by omega⟩) = (X.dyC (line i r) a : EReal)

include H in
theorem dBias_at (t : Fin cfg0.N) (dy : Vec Ideal S512x1024 .f32) (hdy : CotangentC X (31 - t.val) dy) (q : ℕ) (ho : 128 * q + 128 ≤ 512)
    (b : Vec Ideal S1x8x256 .f32) (s : Fin 8) (a : Fin 256) : dBias (blocks m c t) dy (128 * q) ho b (ix3 0 s a)
      = b (ix3 0 s a) + ∑ p : Fin 16, (X.biasAt (Data.tok (4 * (31 - t.val) + q) ⟨8 * p.val + s.val, by omega⟩) a : EReal) :=
  addBias_at _ _ b s a (fun r => (X.biasAt (Data.tok (4 * (31 - t.val) + q) r) a : EReal)) fun r =>
    gated _ _ r a _ _ ((ld_z _ _ _ ho (by decide) r a).trans (by rw [blk0, entry_z, H.z, line_tok]))
      ((ld_third _ _ ho r a).trans ((hdy _ a).trans (by rw [line_tok])))

include H in
theorem visit_bias (t : Fin cfg0.N) {dy : Vec Ideal S512x1024 .f32} (hdy : CotangentC X (31 - t.val) dy) {acc : Vec Ideal S64x8x256 .f32}
    {s : State Ideal} (L : BiasRow (blocks m c t) dy acc s) (g : Fin 8) (a : Fin 256) :
    View.ld s.acc (row 7 (by decide)) (ix3 0 g a) = View.ld acc (row 7 (by decide)) (ix3 0 g a)
      + (four (fun j => ∑ q : Fin 16, X.biasAt (Data.tok j ⟨8 * q.val + g.val, by omega⟩) a) (31 - t.val) : EReal) := by
  rw [show View.ld s.acc (row 7 (by decide)) = _ from L]
  refine (dBias_at H t dy hdy 0 (by decide) _ g a).trans ?_
  refine (congrArg (· + _) ((dBias_at H t dy hdy 1 (by decide) _ g a).trans (congrArg (· + _)
    ((dBias_at H t dy hdy 2 (by decide) _ g a).trans (congrArg (· + _) (dBias_at H t dy hdy 3 (by decide) _ g a)))))).trans ?_
  simp only [four, EReal.coe_add, add_assoc, coe_sum, add_zero]

theorem dyThird_at (x : Blocks Ideal) (r : Fin 512) (a : Fin 256) :
    dyThird x (ix2 r a) = ∑ k : Fin 1024, x.dxNext (ix2 r k) * x.gate (ix2 0 k) * x.wOut (ix2 ⟨512 + a.val, by omega⟩ k) := by
  pointwise [dyThird, k0_pay547, k0_pay80]

include H in
theorem third_own (t : Fin cfg0.N) : CotangentC X (31 - t.val) (First.dyOwn (blocks m c t)) := fun r a => by
  rw [dyOwn_at]
  refine (Finset.sum_congr rfl fun k _ => congrArg₂ (· * ·) (congrArg₂ (· * ·)
    ((blk3 m c t r k).trans ((entry_dx m c _ k).trans (H.dx _ k)))
    ((blk5 m c t 0 k).trans ((congrFun (V_main_arg2 m c) _).trans (H.gate k))))
    ((blk16 m c t _ k).trans ((entry_out m c _ k).trans (H.out _ k)))).trans ?_
  simp only [← EReal.coe_mul, coe_sum]
  rfl

include H in
theorem third_next (t : Fin cfg0.N) (dy : Vec Ideal S512x1024 .f32) (h : View.ld dy third = dyThird (blocks m c t)) :
    CotangentC X (30 - t.val) dy := fun r a => by
  have e : dy (ix2 r ⟨512 + a.val, by omega⟩) = View.ld dy third (ix2 r a) := by
    symm; pointwise
  rw [e, h, dyThird_at]
  refine (Finset.sum_congr rfl fun k _ => congrArg₂ (· * ·) (congrArg₂ (· * ·)
    ((blk4 m c t r k).trans ((entry_dx m c _ k).trans (H.dx _ k)))
    ((blk5 m c t 0 k).trans ((congrFun (V_main_arg2 m c) _).trans (H.gate k))))
    ((blk16 m c t _ k).trans ((entry_out m c _ k).trans (H.out _ k)))).trans ?_
  simp only [← EReal.coe_mul, coe_sum]
  rfl

/-- The running row and the next cotangent after visit `n`. -/
structure TotalC (X : Data) (n : ℕ) (s : State Ideal) : Prop where
  next : n < 31 → CotangentC X (30 - n) s.dy
  bias : ∀ (g : Fin 8) a, View.ld s.acc (row 7 (by decide)) (ix3 0 g a)
    = (upTo (fun j => ∑ q : Fin 16, X.biasAt (Data.tok j ⟨8 * q.val + g.val, by omega⟩) a) n : EReal)

attribute [local irreducible] runA runB runC

include H in
theorem totalC : ∀ (n : ℕ) (h : n < cfg0.N), TotalC X n (leftAt m c n h) := by
  intro n
  induction n with
  | zero =>
    intro h
    have h0 : first (grid0.coords ⟨0, h⟩) := (first_iff ⟨0, h⟩).mpr rfl
    have h1 : ¬last (grid0.coords ⟨0, h⟩) := fun e => Nat.noConfusion ((last_iff ⟨0, h⟩).mp e)
    have e := leftAt_first m c ⟨0, h⟩ h0 h1
    have L := First.bias c (grid0.coords ⟨0, h⟩) (refs ⟨0, h⟩) (whole ⟨0, h⟩) h0 h1 (blocks m c ⟨0, h⟩)
    have D := First.dyThird_eq c (grid0.coords ⟨0, h⟩) (refs ⟨0, h⟩) (whole ⟨0, h⟩) h0 h1 (blocks m c ⟨0, h⟩)
    rw [show leftAt m c 0 h = _ from e]
    refine ⟨fun _ => third_next H ⟨0, h⟩ _ D, fun g a => ?_⟩
    rw [visit_bias H ⟨0, h⟩ (third_own H ⟨0, h⟩) L, zero_acc _ rfl, zero_add, upTo_zero]
    rfl
  | succ n ih =>
    intro h
    have hN : n + 1 < 32 := lt_of_lt_of_eq h N_0
    have T := ih (by omega)
    have h0 : ¬first (grid0.coords ⟨n + 1, h⟩) := fun e => Nat.succ_ne_zero n ((first_iff ⟨n + 1, h⟩).mp e)
    have K : CotangentC X (31 - (n + 1)) (leftAt m c n (by omega)).dy := by
      have := T.next (by omega)
      rwa [show 31 - (n + 1) = 30 - n by omega]
    by_cases h1 : last (grid0.coords ⟨n + 1, h⟩)
    · have e := leftAt_last m c ⟨n + 1, h⟩ h0 h1
      have L := Last.bias c (grid0.coords ⟨n + 1, h⟩) (refs ⟨n + 1, h⟩) (whole ⟨n + 1, h⟩) h0 h1 (blocks m c ⟨n + 1, h⟩) (leftAt m c n (by omega))
      rw [show leftAt m c (n + 1) h = _ from e]
      refine ⟨fun k => absurd ((last_iff ⟨n + 1, h⟩).mp h1) (by show ¬ n + 1 = 31; omega), fun g a => ?_⟩
      refine (visit_bias H ⟨n + 1, h⟩ K L g a).trans ?_
      rw [T.bias, ← EReal.coe_add, ← upTo_succ]
    · have e := leftAt_middle m c ⟨n + 1, h⟩ h0 h1
      have L := Middle.bias c (grid0.coords ⟨n + 1, h⟩) (refs ⟨n + 1, h⟩) (whole ⟨n + 1, h⟩) h0 h1 (blocks m c ⟨n + 1, h⟩) (leftAt m c n (by omega))
      have D := Middle.dyThird_eq c (grid0.coords ⟨n + 1, h⟩) (refs ⟨n + 1, h⟩) (whole ⟨n + 1, h⟩) h0 h1 (blocks m c ⟨n + 1, h⟩) (leftAt m c n (by omega))
      rw [show leftAt m c (n + 1) h = _ from e]
      refine ⟨fun _ => third_next H ⟨n + 1, h⟩ _ D, fun g a => ?_⟩
      refine (visit_bias H ⟨n + 1, h⟩ K L g a).trans ?_
      rw [T.bias, ← EReal.coe_add, ← upTo_succ]

theorem last_bias : View.ld (lastState m c).sums (Rect.unit (s := S64x256) ![7, 0] S1x256.size (by decide))
    = k0_pay8 (View.ld (lastState m c).acc (row 7 (by decide))) := by
  have hN : 31 < cfg0.N := lt_of_lt_of_eq (by decide) N_0.symm
  have h1 : last (grid0.coords ⟨31, hN⟩) := (last_iff ⟨31, hN⟩).mpr rfl
  have h0 : ¬first (grid0.coords ⟨31, hN⟩) := fun e => absurd ((first_iff ⟨31, hN⟩).mp e) (by decide : ¬ 31 = 0)
  have e := leftAt_last m c ⟨31, hN⟩ h0 h1
  rw [show lastState m c = _ from e]
  exact Last.sums7 c _ _ _ h0 h1 _ _

include H in
theorem sums_bias (a : Fin 256) : (lastState m c).sums (ix2 7 a) = (X.dBias a : EReal) := by
  have T := totalC H 31 (lt_of_lt_of_eq (by decide) N_0.symm)
  refine (ld_sums _ 7 (by decide) a).symm.trans ((congrFun (last_bias (m := m) (c := c)) _).trans ((column_sum _ a).trans ?_))
  simp only [T.bias, coe_sum]
  exact congrArg (fun z : ℝ => (z : EReal)) (upTo_rows fun j r => X.biasAt (Data.tok j r) a)

attribute [local irreducible] dzAt leftAt in
theorem tail187 (a : Fin 256) : (Pipeline.afterTail₀ cfgs (dats m) 0 (V0 m) [hostOps1, hostOps1_1, hostOps1_2] c main_v187 (ix1 a) : EReal)
    = (lastState m c).sums (ix2 7 a) := by
  unfold Pipeline.afterTail₀
  simp only [hostOps1, hostOps1_1, hostOps1_2, List.flatten_cons, List.flatten_nil, List.append_nil, List.cons_append, List.nil_append]
  after_reads_simp
  rw [arr19]
  pointwise

section Reference

open Cert.Reference2Ideal.Gen Cert.Reference2Ideal.Read

variable {x0 : Vec Ideal S1x16384x3072 .f32} {x1 : Vec Ideal S1x16384x1024 .f32} {x2 : Vec Ideal S1x1024 .f32}
    {x12 x13 : Vec Ideal S256 .f32} {x14 : Vec Ideal S4x128x128 .f32} {x15 : Vec Ideal S4x128 .f32} {x16 : Vec Ideal S1024x1024 .f32}
    (G : Given x0 x1 x2 x12 x13 x14 x15 x16 X) (n : Fin 16384) (a : Fin 256)
include G

theorem ref323 : val_main_v323 (F := Ideal) x0 (ix2 n a) = ((X.zc n a * sgm (X.zc n a) : ℝ) : EReal) := by
  unfold val_main_v323 val_main_v322 val_main_v321 val_main_v320 val_main_v319 val_main_v318 val_main_v317 val_main_v316 val_main_v315 val_main_cst_58 val_main_cst_59
  pointwise [G.z]
  have h : (1 + Real.exp (-X.zc n a)) ≠ 0 := by positivity
  simp only [← EReal.coe_neg, Ideal.exp_coe, ← EReal.coe_one, ← EReal.coe_add, Ideal.div_coe h, ← EReal.coe_mul]
  refine congrArg (fun z : ℝ => (z : EReal)) ?_
  unfold sgm; ring

theorem ref327 (k : Fin 1024) : val_main_v327 (F := Ideal) x16 (ix2 a k) = (X.out ⟨512 + a.val, by omega⟩ k : EReal) := by
  unfold val_main_v327
  pointwise [G.out]

theorem ref332 (k : Fin 1024) : val_main_v332 (F := Ideal) x1 x2 (ix3 0 n k) = ((X.gate k * X.dx n k : ℝ) : EReal) := by
  unfold val_main_v332 val_main_v331 val_main_v326
  pointwise [G.dx, G.gate]
  rw [← EReal.coe_mul]

theorem ref333 : val_main_v333 (F := Ideal) x1 x2 x16 (ix3 0 n a) = (X.dyC n a : EReal) := by
  unfold val_main_v333
  pointwise [ref332 G, ref327 G]
  simp only [← EReal.coe_mul, coe_sum]
  refine congrArg (fun z : ℝ => (z : EReal)) (Finset.sum_congr rfl fun k _ => ?_)
  ring

theorem ref334 : val_main_v334 (F := Ideal) x1 x2 x16 (ix2 n a) = (X.dyC n a : EReal) := by
  have e : idx_main_v334 (ix2 n a) 0 = ix3 0 n a := by idx_ext
  have z : val_main_cst_60 (F := Ideal) (Shape.Idx.first Cert.Reference2Ideal.Gen.h_S_) = 0 := by unfold val_main_cst_60; pointwise
  rw [val_main_v334_apply, Fin.sum_univ_one, e, ref333 G, z, zero_add]

theorem ref336 : val_main_v336 (F := Ideal) x0 x1 x2 x16 (ix1 a) = (X.dBias a : EReal) := by
  have e (n : Fin 16384) : idx_main_v336 (ix1 a) n = ix2 n a := by idx_ext
  have z : val_main_cst_61 (F := Ideal) (Shape.Idx.first Cert.Reference2Ideal.Gen.h_S_) = 0 := by unfold val_main_cst_61; pointwise
  have t (n : Fin 16384) : val_main_v335 (F := Ideal) x0 x1 x2 x16 (ix2 n a) = (X.biasAt n a : EReal) := by
    rw [val_main_v335_apply, ref334 G, ref323 G]
    exact (EReal.coe_mul _ _).symm
  rw [val_main_v336_apply, z, zero_add]
  simp only [e, t, coe_sum]
  refine congrArg (fun z : ℝ => (z : EReal)) ((Finset.sum_congr rfl fun n _ => ?_).trans (sum_tokens fun j r => X.biasAt (Data.tok j r) a))
  rw [tok_pos]

theorem ref338 : val_main_v338 (F := Ideal) x0 x1 x2 x16 (ix1 a) = (X.dBias a : EReal) := by
  have e : idx_main_v338 (ix1 a) 0 = ix2 0 a := by idx_ext
  have e' : idx_main_v337 (ix2 0 a) = ix1 a := by idx_ext
  have z : val_main_cst_62 (F := Ideal) (Shape.Idx.first Cert.Reference2Ideal.Gen.h_S_) = 0 := by unfold val_main_cst_62; pointwise
  rw [val_main_v338_apply, Fin.sum_univ_one, e, val_main_v337_apply, e', ref336 G, z, zero_add]

end Reference

end Cert.MixBwd

end
-- ==== Proof.MixBwd.Claim.lean ====
module

public import proofs.«01_k».proof.Defs
public import proofs.«01_k».proof.Proof.Gen.Pre_finite2
public import proofs.«01_k».proof.Proof.MixBwd.BiasGrad
public import Idealize.ShloMosaic.Lib.Claim

/-!
# The value claim of the gating mixer's gradients

From finite arguments the program and the derivative of the plain lines return the same six gradients.
-/

@[expose] public section

set_option maxRecDepth 16384

noncomputable section

namespace Cert.MixBwd

open Cert.Kernel2Ideal Cert.Kernel2Ideal.Gen Cert.Common
open Idealize.ShloMosaic Idealize.ShloMosaic.TcCoe Idealize.ShloMosaic.Tactic
open Idealize.SL.Sem

/-- The six results as arrays. -/
def resZ (X : Data) : Vec Ideal S16384x768 .f32 := fun i =>
  if h1 : (i 1).val < 256 then (X.dU (i 0) ⟨(i 1).val, h1⟩ : EReal)
  else if h2 : (i 1).val < 512 then (X.dV (i 0) ⟨(i 1).val - 256, by omega⟩ : EReal)
  else (X.dG (i 0) ⟨(i 1).val - 512, by have h := (i 1).isLt; change _ < 768 at h; omega⟩ : EReal)
def resScale (X : Data) : Vec Ideal S256 .f32 := fun i => (X.dScale (i 0) : EReal)
def resShift (X : Data) : Vec Ideal S256 .f32 := fun i => (X.dShift (i 0) : EReal)
def resW (X : Data) : Vec Ideal S4x128x128 .f32 := fun i => (X.dW (i 0) (i 1) (i 2) : EReal)
def resB (X : Data) : Vec Ideal S4x128 .f32 := fun i => (X.dB (i 0) (i 1) : EReal)
def resBias (X : Data) : Vec Ideal S256 .f32 := fun i => (X.dBias (i 0) : EReal)

section Kernel

variable {m : (ℓ : Loc nD τ sig) → Buf (Elt Ideal) ℓ} {c : Dev nD} {X : Data} (H : Holds m c X)
include H

attribute [local irreducible] dzAt

theorem kernel172 : Pipeline.afterTail₀ cfgs (dats m) 0 (V0 m) [hostOps1, hostOps1_1, hostOps1_2] c main_v172 = resZ X := by
  funext i
  obtain ⟨n, k, rfl⟩ : ∃ (n : Fin 16384) (k : Fin 768), i = (ix2 n k : S16384x768.Idx) := ⟨i 0, i 1, by idx_ext⟩
  refine (tail172 n k).trans ?_
  have hk := k.isLt
  show _ = if h1 : k.val < 256 then (X.dU n ⟨k.val, h1⟩ : EReal) else if h2 : k.val < 512 then (X.dV n ⟨k.val - 256, by omega⟩ : EReal)
    else (X.dG n ⟨k.val - 512, by omega⟩ : EReal)
  by_cases h1 : k.val < 256
  · rw [dif_pos h1]; exact (dz_at H n ⟨k.val, h1⟩).1
  · rw [dif_neg h1]
    by_cases h2 : k.val < 512
    · rw [dif_pos h2, ← (dz_at H n ⟨k.val - 256, by omega⟩).2.1]
      exact congrArg (dzAt m c n) (Fin.ext (show 2304 + k.val = 2560 + (k.val - 256) by omega))
    · rw [dif_neg h2, ← (dz_at H n ⟨k.val - 512, by omega⟩).2.2]
      exact congrArg (dzAt m c n) (Fin.ext (show 2304 + k.val = 2816 + (k.val - 512) by omega))

theorem kernel174 : Pipeline.afterTail₀ cfgs (dats m) 0 (V0 m) [hostOps1, hostOps1_1, hostOps1_2] c main_v174 = resScale X := by
  funext i
  obtain ⟨a, rfl⟩ : ∃ a : Fin 256, i = (ix1 a : S256.Idx) := ⟨i 0, by idx_ext⟩
  exact (tail174 a).trans (sums_scale H a)

theorem kernel176 : Pipeline.afterTail₀ cfgs (dats m) 0 (V0 m) [hostOps1, hostOps1_1, hostOps1_2] c main_v176 = resShift X := by
  funext i
  obtain ⟨a, rfl⟩ : ∃ a : Fin 256, i = (ix1 a : S256.Idx) := ⟨i 0, by idx_ext⟩
  exact (tail176 a).trans (sums_shift H a)

theorem kernel182 : Pipeline.afterTail₀ cfgs (dats m) 0 (V0 m) [hostOps1, hostOps1_1, hostOps1_2] c main_v182 = resW X := by
  funext i
  obtain ⟨h, a, b, rfl⟩ : ∃ (h : Fin 4) (a b : Fin 128), i = (ix3 h a b : S4x128x128.Idx) := ⟨i 0, i 1, i 2, by idx_ext⟩
  refine (tail182 h a b).trans ?_
  rw [sums_w H, ← EReal.coe_mul]
  refine congrArg (fun z : ℝ => (z : EReal)) ?_
  show _ = X.dW h a b
  unfold Data.dW
  split <;> simp

theorem kernel185 : Pipeline.afterTail₀ cfgs (dats m) 0 (V0 m) [hostOps1, hostOps1_1, hostOps1_2] c main_v185 = resB X := by
  funext i
  obtain ⟨h, r, rfl⟩ : ∃ (h : Fin 4) (r : Fin 128), i = (ix2 h r : S4x128.Idx) := ⟨i 0, i 1, by idx_ext⟩
  refine (tail185 h r).trans ?_
  simp only [sums_b H, coe_sum]
  rfl

theorem kernel187 : Pipeline.afterTail₀ cfgs (dats m) 0 (V0 m) [hostOps1, hostOps1_1, hostOps1_2] c main_v187 = resBias X := by
  funext i
  obtain ⟨a, rfl⟩ : ∃ a : Fin 256, i = (ix1 a : S256.Idx) := ⟨i 0, by idx_ext⟩
  exact (tail187 a).trans (sums_bias H a)

end Kernel

/-- The program runs and returns the six results. -/
theorem run (m : (ℓ : Loc nD τ sig) → Buf (Elt Ideal) ℓ) (ρ : Dev nD → PrngReg) (X : Dev nD → Data) (H : ∀ c, Holds m c (X c)) :
    θ_run defs (onTc (τ := τ) (main (F := Ideal))) ⟨m, fun _ => 0, ρ⟩ (fun r => ∀ c : Dev nD,
      r.2.mem ((c.tc : Thread nD τ).loc main_v172) = resZ (X c)
      ∧ r.2.mem ((c.tc : Thread nD τ).loc main_v174) = resScale (X c)
      ∧ r.2.mem ((c.tc : Thread nD τ).loc main_v176) = resShift (X c)
      ∧ r.2.mem ((c.tc : Thread nD τ).loc main_v182) = resW (X c)
      ∧ r.2.mem ((c.tc : Thread nD τ).loc main_v185) = resB (X c)
      ∧ r.2.mem ((c.tc : Thread nD τ).loc main_v187) = resBias (X c)) :=
  (θ_run defs _ _).mono (fun _ h c => ⟨
    ((h c).2 main_v172 (Pipeline.mem_restRefs_of main_v172 (by decide) (by decide))).trans (kernel172 (H c)),
    ((h c).2 main_v174 (Pipeline.mem_restRefs_of main_v174 (by decide) (by decide))).trans (kernel174 (H c)),
    ((h c).2 main_v176 (Pipeline.mem_restRefs_of main_v176 (by decide) (by decide))).trans (kernel176 (H c)),
    ((h c).2 main_v182 (Pipeline.mem_restRefs_of main_v182 (by decide) (by decide))).trans (kernel182 (H c)),
    ((h c).2 main_v185 (Pipeline.mem_restRefs_of main_v185 (by decide) (by decide))).trans (kernel185 (H c)),
    ((h c).2 main_v187 (Pipeline.mem_restRefs_of main_v187 (by decide) (by decide))).trans (kernel187 (H c))⟩) (run_main (F := Ideal) m ρ)

/-- The precondition: the arguments that are read hold real numbers. -/
theorem data (m : (ℓ : Loc nD τ sig) → Buf (Elt Ideal) ℓ) (h : Cert.Pre_Kernel2Ideal_finite2 m) (c : Dev nD) : ∃ X : Data, Holds m c X := by
  have key : ∀ p q : BitVec 1, IntOp.andi p q = 1#1 → p = 1#1 ∧ q = 1#1 := by decide
  have e := congrFun (h c) (fun b => b.elim0)
  obtain ⟨e, e16⟩ := key _ _ e
  obtain ⟨e, e15⟩ := key _ _ e
  obtain ⟨e, e14⟩ := key _ _ e
  obtain ⟨e, e13⟩ := key _ _ e
  obtain ⟨e, e12⟩ := key _ _ e
  obtain ⟨e, e2⟩ := key _ _ e
  obtain ⟨e0, e1⟩ := key _ _ e
  obtain ⟨X0, h0⟩ := reals_of_pre _ _ _ _ _ _ e0
  obtain ⟨X1, h1⟩ := reals_of_pre _ _ _ _ _ _ e1
  obtain ⟨X2, h2⟩ := reals_of_pre _ _ _ _ _ _ e2
  obtain ⟨X12, h12⟩ := reals_of_pre _ _ _ _ _ _ e12
  obtain ⟨X13, h13⟩ := reals_of_pre _ _ _ _ _ _ e13
  obtain ⟨X14, h14⟩ := reals_of_pre _ _ _ _ _ _ e14
  obtain ⟨X15, h15⟩ := reals_of_pre _ _ _ _ _ _ e15
  obtain ⟨X16, h16⟩ := reals_of_pre _ _ _ _ _ _ e16
  exact ⟨⟨fun n k => X0 (ix3 0 n k), fun n k => X1 (ix3 0 n k), fun k => X2 (ix2 0 k), fun k => X12 (ix1 k), fun k => X13 (ix1 k),
      fun a r t => X14 (ix3 a r t), fun a r => X15 (ix2 a r), fun n k => X16 (ix2 n k)⟩,
    ⟨fun n k => congrFun h0 _, fun n k => congrFun h1 _, fun k => congrFun h2 _, fun k => congrFun h12 _, fun k => congrFun h13 _,
      fun a r t => congrFun h14 _, fun a r => congrFun h15 _, fun n k => congrFun h16 _⟩⟩

theorem frame_reference : Cert.quiescent_Reference2Ideal := fun m ρ _ =>
  (θ_run Cert.Reference2Ideal.defs _ _).mono (fun r h => ⟨fun c => (h c).2.2.2.2.2.2, sem_eq_zero_of_no_sems (by decide) r.2⟩)
    (Cert.Reference2Ideal.Value.run (F := Ideal) m ρ)

theorem frame_reference_finite : Cert.quiescent_Reference2Ideal_pre_finite2 := fun m ρ _ => frame_reference m ρ trivial

section Reference
open Cert.Reference2Ideal.Read

variable {x0 : Vec Ideal S1x16384x3072 .f32} {x1 : Vec Ideal S1x16384x1024 .f32} {x2 : Vec Ideal S1x1024 .f32}
    {x12 x13 : Vec Ideal S256 .f32} {x14 : Vec Ideal S4x128x128 .f32} {x15 : Vec Ideal S4x128 .f32} {x16 : Vec Ideal S1024x1024 .f32}
    {X : Data} (G : Given x0 x1 x2 x12 x13 x14 x15 x16 X)
include G

theorem plain196 : val_main_v196 (F := Ideal) x0 x1 x2 x12 x13 x14 x15 x16 = resZ X := by
  funext i
  obtain ⟨n, k, rfl⟩ : ∃ (n : Fin 16384) (k : Fin 768), i = (ix2 n k : S16384x768.Idx) := ⟨i 0, i 1, by idx_ext⟩
  exact ref196 G n k
theorem plain142 : val_main_v142 (F := Ideal) x0 x1 x2 x14 x16 = resScale X := by
  funext i
  obtain ⟨a, rfl⟩ : ∃ a : Fin 256, i = (ix1 a : S256.Idx) := ⟨i 0, by idx_ext⟩
  exact ref142 G a
theorem plain136 : val_main_v136 (F := Ideal) x0 x1 x2 x14 x16 = resShift X := by
  funext i
  obtain ⟨a, rfl⟩ : ∃ a : Fin 256, i = (ix1 a : S256.Idx) := ⟨i 0, by idx_ext⟩
  exact ref136 G a
theorem plain132 : val_main_v132 (F := Ideal) x0 x1 x2 x12 x13 x16 = resW X := by
  funext i
  obtain ⟨h, a, b, rfl⟩ : ∃ (h : Fin 4) (a b : Fin 128), i = (ix3 h a b : S4x128x128.Idx) := ⟨i 0, i 1, i 2, by idx_ext⟩
  exact ref132 G h a b
theorem plain127 : val_main_v127 (F := Ideal) x0 x1 x2 x16 = resB X := by
  funext i
  obtain ⟨h, r, rfl⟩ : ∃ (h : Fin 4) (r : Fin 128), i = (ix2 h r : S4x128.Idx) := ⟨i 0, i 1, by idx_ext⟩
  exact ref127 G h r
theorem plain338 : val_main_v338 (F := Ideal) x0 x1 x2 x16 = resBias X := by
  funext i
  obtain ⟨a, rfl⟩ : ∃ a : Fin 256, i = (ix1 a : S256.Idx) := ⟨i 0, by idx_ext⟩
  exact ref338 G a
end Reference

open Cert.Reference2Ideal.Read in
theorem value : Cert.algebraic_Kernel2Ideal_Reference2Ideal_pre_finite2 := by
  intro m g m' g' hpre hagree
  choose X HX using data m hpre
  refine ⟨fun c => resZ (X c), fun c => resScale (X c), fun c => resShift (X c), fun c => resW (X c), fun c => resB (X c), fun c => resBias (X c), ?_, ?_⟩
  · refine (θ_run Cert.Kernel2Ideal.defs _ _).mono (fun r h c => ?_) (θ_run_and (run m g X HX) (frame_any (F := Ideal) m g))
    exact ⟨(h.1 c).1, (h.1 c).2.1, (h.1 c).2.2.1, (h.1 c).2.2.2.1, (h.1 c).2.2.2.2.1, (h.1 c).2.2.2.2.2, h.2.1 c⟩
  · refine (θ_run Cert.Reference2Ideal.defs _ _).mono (fun r h c => ?_) (Cert.Reference2Ideal.Value.run (F := Ideal) m' g')
    obtain ⟨g0, g1, g2, _, _, _, _, _, _, _, _, _, g12, g13, g14, g15, g16⟩ := hagree c
    have K := HX c
    have G : Given (m' ((c.tc : Thread nD τ).loc Cert.Reference2Ideal.main_arg0)) (m' ((c.tc : Thread nD τ).loc Cert.Reference2Ideal.main_arg1)) (m' ((c.tc : Thread nD τ).loc Cert.Reference2Ideal.main_arg2))
        (m' ((c.tc : Thread nD τ).loc Cert.Reference2Ideal.main_arg12)) (m' ((c.tc : Thread nD τ).loc Cert.Reference2Ideal.main_arg13))
        (m' ((c.tc : Thread nD τ).loc Cert.Reference2Ideal.main_arg14)) (m' ((c.tc : Thread nD τ).loc Cert.Reference2Ideal.main_arg15))
        (m' ((c.tc : Thread nD τ).loc Cert.Reference2Ideal.main_arg16)) (X c) :=
      ⟨fun n k => (congrFun g0 _).trans (K.z n k), fun n k => (congrFun g1 _).trans (K.dx n k), fun k => (congrFun g2 _).trans (K.gate k),
        fun k => (congrFun g12 _).trans (K.scale k), fun k => (congrFun g13 _).trans (K.shift k),
        fun a r t => (congrFun g14 _).trans (K.w a r t), fun a r => (congrFun g15 _).trans (K.b a r), fun n k => (congrFun g16 _).trans (K.out n k)⟩
    obtain ⟨r0, r1, r2, r3, r4, r5, hrest⟩ := h c
    clear h hagree HX hpre
    refine ⟨r0.trans ?_, r1.trans ?_, r2.trans ?_, r3.trans ?_, r4.trans ?_, r5.trans ?_, hrest⟩
    · exact (val_main_v196_eq ..).trans (plain196 G)
    · exact (val_main_v142_eq ..).trans (plain142 G)
    · exact (val_main_v136_eq ..).trans (plain136 G)
    · exact (val_main_v132_eq ..).trans (plain132 G)
    · exact (val_main_v127_eq ..).trans (plain127 G)
    · exact (val_main_v338_eq ..).trans (plain338 G)

end Cert.MixBwd
-- ==== Proof.OutProj.Kernel.lean ====
module

public import proofs.«01_k».proof.Proof.Gen.Kernel3Ideal.Frame
public import Idealize.ShloMosaic.Lib.Pipeline.Value
public import Idealize.ShloMosaic.Lib.Pipeline.ValueKit
public import Idealize.ShloMosaic.Lib.Pointwise
public import Idealize.ShloMosaic.Lib.Tactic

/-! # What the output projection's weight gradient call returns

The product of the mixers' outputs with the cotangent is accumulated over eight tiles of tokens; the last tile scales its columns by
the gate, and sums its products with the weights over the rows. -/

@[expose] public section

set_option maxRecDepth 16384

noncomputable section

open Idealize.ShloMosaic Idealize.ShloMosaic.TcCoe Idealize.SL.Sem
open Idealize.ShloMosaic.Pipeline (Dat)

namespace Cert.Kernel3Ideal.OutProj

open Cert.Kernel3Ideal Cert.Kernel3Ideal.Gen

/-! ## The stored values at an index -/

theorem pay1_apply (i : S1024x1024.Idx) : k0_pay1 (F := Ideal) i = 0 := by
  pointwise [k0_pay1]

theorem pay2_apply (acc : Vec Ideal S1024x1024 .f32) (y : Vec Ideal S2048x1024 .bf16) (d : Vec Ideal S2048x1024 .f32) (k j : Fin 1024) :
    k0_pay2 (F := Ideal) acc y d (ix2 k j) = acc (ix2 k j) + ∑ r : Fin 2048, y (ix2 r k) * d (ix2 r j) := by
  pointwise [k0_pay2]

theorem pay3_apply (acc : Vec Ideal S1024x1024 .f32) (g : Vec Ideal S1x1024 .f32) (k j : Fin 1024) :
    k0_pay3 (F := Ideal) acc g (ix2 k j) = acc (ix2 k j) * g (ix2 0 j) := by
  pointwise [k0_pay3]

theorem pay4_apply (acc : Vec Ideal S1024x1024 .f32) (w : Vec Ideal S1024x1024 .bf16) (j : Fin 1024) :
    k0_pay4 (F := Ideal) acc w (ix2 0 j) = ∑ k : Fin 1024, acc (ix2 k j) * w (ix2 k j) := by
  pointwise [k0_pay4]

/-! ## The accumulator, tile by tile -/

variable (m : (ℓ : Loc nD τ sig) → Buf (Elt Ideal) ℓ) (ρ : Dev nD → PrngReg)

/-- The blocks of tile `t`: the mixers' outputs, the cotangent, the weights and the gate. -/
abbrev bY (c : Dev nD) (t : Fin cfg0.N) : Vec Ideal S2048x1024 .bf16 := iblk m c 0 t
abbrev bD (c : Dev nD) (t : Fin cfg0.N) : Vec Ideal S2048x1024 .f32 := iblk m c 1 t
abbrev bW (c : Dev nD) (t : Fin cfg0.N) : Vec Ideal S1024x1024 .bf16 := iblk m c 2 t
abbrev bG (c : Dev nD) (t : Fin cfg0.N) : Vec Ideal S1x1024 .f32 := iblk m c 3 t

/-- What tile `t` adds to the accumulator. -/
def part (c : Dev nD) (t : Fin cfg0.N) (k j : Fin 1024) : EReal :=
  ∑ r : Fin 2048, bY m c t (ix2 r k) * bD m c t (ix2 r j)

theorem acc_first (c : Dev nD) (t : Fin cfg0.N) (h : t.val % 8 = 0) (k j : Fin 1024) :
    (outsAt0 m c t.val t.isLt).2.2 (ix2 k j) = 0 + part m c t k j := by
  rw [outsAt0_A m c t h (by omega)]
  frame_out
  rw [pay2_apply, pay1_apply]
  rfl

theorem acc_step (c : Dev nD) (t : Fin cfg0.N) (h : ¬ t.val % 8 = 0) (k j : Fin 1024) :
    (outsAt0 m c t.val t.isLt).2.2 (ix2 k j)
      = (outsAt0 m c (t.val - 1) (Nat.lt_of_le_of_lt (Nat.sub_le _ _) t.isLt)).2.2 (ix2 k j) + part m c t k j := by
  by_cases h1 : t.val % 8 = 7
  · rw [outsAt0_C m c t h h1]
    frame_out
    rw [pay2_apply, (Memref.isWhole_whole _).read_unread]
    rfl
  · rw [outsAt0_B m c t h h1]
    frame_out
    rw [pay2_apply, (Memref.isWhole_whole _).read_unread]
    rfl

/-- The last tile stores the accumulator's columns times the gate, -/
theorem out4_last (c : Dev nD) (t : Fin cfg0.N) (h : t.val % 8 = 7) (k j : Fin 1024) :
    (outsAt0 m c t.val t.isLt).1 (ix2 k j)
      = (outsAt0 m c t.val t.isLt).2.2 (ix2 k j) * bG m c t (ix2 0 j) := by
  rw [outsAt0_C m c t (by omega) h]
  frame_out
  rw [pay3_apply]

/-- and the sums over its rows of the products with the weights. -/
theorem out5_last (c : Dev nD) (t : Fin cfg0.N) (h : t.val % 8 = 7) (j : Fin 1024) :
    (outsAt0 m c t.val t.isLt).2.1 (ix2 0 j)
      = ∑ k : Fin 1024, (outsAt0 m c t.val t.isLt).2.2 (ix2 k j) * bW m c t (ix2 k j) := by
  rw [outsAt0_C m c t (by omega) h]
  frame_out
  rw [pay4_apply]

/-! ## The blocks as parts of the arguments -/

/-- The argument arrays: the mixers' outputs, the weights, the gate and the cotangent. -/
abbrev a0 (c : Dev nD) : Vec Ideal S1x16384x1024 .f32 := m ((c : Thread nD τ).loc main_arg0)
abbrev a1 (c : Dev nD) : Vec Ideal S1024x1024 .f32 := m ((c : Thread nD τ).loc main_arg1)
abbrev a2 (c : Dev nD) : Vec Ideal S1x1024 .f32 := m ((c : Thread nD τ).loc main_arg2)
abbrev a3 (c : Dev nD) : Vec Ideal S1x16384x1024 .f32 := m ((c : Thread nD τ).loc main_arg3)

theorem entry_v1 (c : Dev nD) (n : Fin 16384) (j : Fin 1024) : V m c main_v1 (ix2 n j) = a0 m c (ix3 0 n j) := by
  (unfold V; after_results); pointwise

theorem entry_v2 (c : Dev nD) (n : Fin 16384) (j : Fin 1024) : V m c main_v2 (ix2 n j) = a3 m c (ix3 0 n j) := by
  (unfold V; after_results); pointwise

theorem entry_v3 (c : Dev nD) (k j : Fin 1024) : V m c main_v3 (ix2 k j) = a1 m c (ix2 k j) := by
  (unfold V; after_results); pointwise

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)

/-- Row `r` of tile `t`, as a token. -/
def row (t : Fin cfg0.N) (r : Fin 2048) : Fin 16384 :=
  ⟨t.val * 2048 + r.val, by have := lt_of_lt_of_eq t.isLt N_0; omega⟩

theorem blk0 (c : Dev nD) (t : Fin cfg0.N) (r : Fin 2048) (j : Fin 1024) :
    bY m c t (ix2 r j) = a0 m c (ix3 0 (row t r) j) := by
  rw [← entry_v1 m]
  blk_ext! [iblk, V, idx0 t, row]

theorem blk1 (c : Dev nD) (t : Fin cfg0.N) (r : Fin 2048) (j : Fin 1024) :
    bD m c t (ix2 r j) = a3 m c (ix3 0 (row t r) j) := by
  rw [← entry_v2 m]
  blk_ext! [iblk, V, idx1 t, row]

theorem blk2 (c : Dev nD) (t : Fin cfg0.N) (k j : Fin 1024) :
    bW m c t (ix2 k j) = a1 m c (ix2 k j) := by
  rw [← entry_v3 m]
  blk_ext! [iblk, V, idx2 t]

theorem blk3 (c : Dev nD) (t : Fin cfg0.N) (j : Fin 1024) :
    bG m c t (ix2 0 j) = a2 m c (ix2 0 j) := by
  rw [show a2 m c = V m c main_arg2 from (V_main_arg2 m c).symm]
  blk_ext! [iblk, V, idx3 t]

/-! ## The results -/

/-- The mixers' outputs transposed times the cotangent. -/
def prod (y d : Vec Ideal S1x16384x1024 .f32) (k j : Fin 1024) : EReal := ∑ n : Fin 16384, y (ix3 0 n k) * d (ix3 0 n j)

theorem acc_last (c : Dev nD) (t : Fin cfg0.N) (ht : t.val + 1 = cfg0.N) (k j : Fin 1024) :
    (outsAt0 m c t.val t.isLt).2.2 (ix2 k j) = prod (a0 m c) (a3 m c) k j := by
  rw [Pipeline.eq_sum_fin_of_reset_step_last (fun n h => (outsAt0 m c n h).2.2 (ix2 k j)) 8 0
    (fun t => part m c t k j) (fun t h => acc_first m c t h k j) (fun t h => acc_step m c t h k j) (le_of_eq N_0) t ht, zero_add]
  unfold prod
  refine Eq.trans ?_ (Fin.sum_mul_add_fin (S := cfg0.N) (n := 2048) (f := fun n => a0 m c (ix3 0 n k) * a3 m c (ix3 0 n j))
    (hL := by rw [show cfg0.N = 8 from N_0]))
  refine Finset.sum_congr rfl fun t _ => Finset.sum_congr rfl fun r _ => ?_
  rw [blk0, blk1]
  rfl

/-- The two results: the gradient at the weights and the gradient at the gate. -/
def resW (c : Dev nD) : Vec Ideal S1024x1024 .bf16 := fun i => prod (a0 m c) (a3 m c) (i 0) (i 1) * a2 m c (ix2 0 (i 1))
def resGate (c : Dev nD) : Vec Ideal S1x1024 .f32 :=
  fun i => ∑ k : Fin 1024, prod (a0 m c) (a3 m c) k (i 1) * a1 m c (ix2 k (i 1))

theorem last4 (c : Dev nD) (t : Fin cfg0.N) (h : t.val % 8 = 7) (k j : Fin 1024) :
    (outsAt0 m c t.val t.isLt).1 (ix2 k j) = resW m c (ix2 k j) := by
  have hN : cfg0.N = 8 := N_0
  have hlt := t.isLt
  rw [out4_last m c t h, acc_last m c t (by omega), blk3]
  rfl

theorem last5 (c : Dev nD) (t : Fin cfg0.N) (h : t.val % 8 = 7) (j : Fin 1024) :
    (outsAt0 m c t.val t.isLt).2.1 (ix2 0 j) = resGate m c (ix2 0 j) := by
  have hN : cfg0.N = 8 := N_0
  have hlt := t.isLt
  rw [out5_last m c t h]
  simp only [acc_last m c t (by omega), blk2]
  rfl

theorem final4 (c : Dev nD) : (dats m 0 c).arrAt 4 cfg0.N = resW m c := by
  refine (dats m 0 c).arrAt_eq_of_covers 4 _ (by decide +kernel) fun t hf y => ?_
  have h7 := (flush0_4 t).mp hf
  blk_simp
  rw [after0_4]
  have hy : y = (ix2 (y 0) (y 1) : S1024x1024.Idx) := by idx_ext
  rw [hy]
  refine (last4 m c t h7 (y 0) (y 1)).trans ?_
  have e1 : ∀ z : S1024x1024.Idx, z 0 = y 0 → z 1 = y 1 → resW m c z = resW m c (ix2 (y 0) (y 1)) := fun z h h' => by
    rw [show z = ix2 (z 0) (z 1) from by idx_ext, h, h']; rfl
  exact (e1 _ (by apply Fin.ext; blk_simp [idx4 t]) (by apply Fin.ext; blk_simp [idx4 t])).symm

theorem final5 (c : Dev nD) : (dats m 0 c).arrAt 5 cfg0.N = resGate m c := by
  refine (dats m 0 c).arrAt_eq_of_covers 5 _ (by decide +kernel) fun t hf y => ?_
  have h7 := (flush0_5 t).mp hf
  blk_simp
  rw [after0_5]
  have hy : y = (ix2 0 (y 1) : S1x1024.Idx) := by idx_ext
  rw [hy]
  refine (last5 m c t h7 (y 1)).trans ?_
  have e1 : ∀ z : S1x1024.Idx, z 1 = y 1 → resGate m c z = resGate m c (ix2 0 (y 1)) := fun z h => by
    rw [show z = ix2 0 (z 1) from by idx_ext, h]; rfl
  exact (e1 _ (by apply Fin.ext; blk_simp [idx5 t])).symm

/-- The program runs and returns the two results. -/
theorem run : θ_run defs (onTc (τ := τ) (main (F := Ideal))) ⟨m, fun _ => 0, ρ⟩ (fun r => ∀ c : Dev nD,
    r.2.mem ((c.tc : Thread nD τ).loc main_v4_0) = resW m c
    ∧ r.2.mem ((c.tc : Thread nD τ).loc main_v4_1) = resGate m c) :=
  (θ_run defs _ _).mono (fun _ h c => ⟨((h c).1 4).trans (final4 m c), ((h c).1 5).trans (final5 m c)⟩) (run_main (F := Ideal) m ρ)

end Cert.Kernel3Ideal.OutProj
-- ==== Proof.OutProj.Reference.lean ====
module
public import proofs.«01_k».proof.Proof.Gen.Reference3Ideal.Read
public import proofs.«01_k».proof.Proof.OutProj.Kernel
public import proofs.«01_k».proof.Proof.Common.Finite

/-! # The derivative of the plain lines, and why it is what the call returns

The derivative scales the cotangent by the gate before the product with the mixers' outputs, and sums the cotangent times the projected
outputs over the tokens. The call multiplies first and scales afterwards, and sums over the rows of the weights. On finite arguments
a factor moves across a sum and the two sums trade places. -/

@[expose] public section
set_option maxRecDepth 16384
noncomputable section
open Idealize.ShloMosaic Idealize.ShloMosaic.TcCoe Idealize.SL.Sem
namespace Cert.Reference3Ideal.OutProj
open Cert.Reference3Ideal Cert.Reference3Ideal.Gen Cert.Reference3Ideal.Read Cert.Common
open Cert.Kernel3Ideal.OutProj (prod)

section Reads
variable (x0 : Vec Ideal S1x16384x1024 .f32) (x1 : Vec Ideal S1024x1024 .f32) (x2 : Vec Ideal S1x1024 .f32) (x3 : Vec Ideal S1x16384x1024 .f32)

theorem read5 (n : Fin 16384) (j : Fin 1024) : val_main_v5 (F := Ideal) x2 x3 (ix3 0 n j) = x2 (ix2 0 j) * x3 (ix3 0 n j) := by
  unfold val_main_v5 val_main_v4 val_main_v0
  pointwise

theorem read1 (n : Fin 16384) (j : Fin 1024) :
    val_main_v1 (F := Ideal) x0 x1 (ix3 0 n j) = ∑ k : Fin 1024, x0 (ix3 0 n k) * x1 (ix2 k j) := by
  unfold val_main_v1
  pointwise

theorem read14 (k j : Fin 1024) :
    val_main_v14 (F := Ideal) x0 x2 x3 (ix2 k j) = ∑ n : Fin 16384, x2 (ix2 0 j) * x3 (ix3 0 n j) * x0 (ix3 0 n k) := by
  unfold val_main_v14 val_main_v10 val_main_v9
  pointwise
  rw [Fin.sum_univ_one]
  simp only [read5]

theorem read13 (j : Fin 1024) :
    val_main_v13 (F := Ideal) x0 x1 x3 (ix2 0 j) = ∑ n : Fin 16384, x3 (ix3 0 n j) * ∑ k : Fin 1024, x0 (ix3 0 n k) * x1 (ix2 k j) := by
  unfold val_main_v13 val_main_v12 val_main_v8 val_main_v7 val_main_v6 val_main_cst val_main_cst_0
  pointwise
  rw [reduce_unit01]
  pointwise [read1]

end Reads

variable (X0 : S1x16384x1024.Idx → ℝ) (X1 : S1024x1024.Idx → ℝ) (X2 : S1x1024.Idx → ℝ) (X3 : S1x16384x1024.Idx → ℝ)

theorem prod_coe (k j : Fin 1024) : prod (fun i => ((X0 i : ℝ) : EReal)) (fun i => ((X3 i : ℝ) : EReal)) k j
    = ((∑ n : Fin 16384, X0 (ix3 0 n k) * X3 (ix3 0 n j) : ℝ) : EReal) := by
  unfold prod
  simp only [← EReal.coe_mul, coe_sum]

/-- The gradient at the weights. -/
theorem dw_eq (k j : Fin 1024) :
    prod (fun i => ((X0 i : ℝ) : EReal)) (fun i => ((X3 i : ℝ) : EReal)) k j * ((X2 (ix2 0 j) : ℝ) : EReal)
      = val_main_v14 (F := Ideal) (fun i => ((X0 i : ℝ) : EReal)) (fun i => ((X2 i : ℝ) : EReal)) (fun i => ((X3 i : ℝ) : EReal)) (ix2 k j) := by
  rw [read14, prod_coe]
  simp only [← EReal.coe_mul, coe_sum]
  refine congrArg _ ?_
  rw [Finset.sum_mul]
  exact Finset.sum_congr rfl fun n _ => by ring

/-- The gradient at the gate. -/
theorem dgate_eq (j : Fin 1024) :
    (∑ k : Fin 1024, prod (fun i => ((X0 i : ℝ) : EReal)) (fun i => ((X3 i : ℝ) : EReal)) k j * ((X1 (ix2 k j) : ℝ) : EReal))
      = val_main_v13 (F := Ideal) (fun i => ((X0 i : ℝ) : EReal)) (fun i => ((X1 i : ℝ) : EReal)) (fun i => ((X3 i : ℝ) : EReal)) (ix2 0 j) := by
  rw [read13]
  simp only [prod_coe, ← EReal.coe_mul, coe_sum]
  refine congrArg _ ?_
  simp only [Finset.sum_mul, Finset.mul_sum]
  rw [Finset.sum_comm]
  exact Finset.sum_congr rfl fun n _ => Finset.sum_congr rfl fun k _ => by ring

end Cert.Reference3Ideal.OutProj
-- ==== Proof.OutProj.Claim.lean ====
module
public import proofs.«01_k».proof.Defs
public import proofs.«01_k».proof.Proof.Gen.Kernel3Ideal.Frame
public import proofs.«01_k».proof.Proof.Gen.Reference3Ideal.Run
public import proofs.«01_k».proof.Proof.Gen.Pre_finite3
public import proofs.«01_k».proof.Proof.OutProj.Kernel
public import proofs.«01_k».proof.Proof.OutProj.Reference
public import Idealize.ShloMosaic.Lib.Claim

/-! # The value claim of the output projection's weight gradient call

From finite arguments the program and the derivative of the plain lines return the same two gradients. -/

@[expose] public section
set_option maxRecDepth 16384
noncomputable section
open Idealize.ShloMosaic Idealize.ShloMosaic.TcCoe Idealize.SL.Sem
namespace Cert.Proof.OutProj
open Cert.Common Cert.Kernel3Ideal.OutProj Cert.Reference3Ideal.OutProj

/-- The precondition: the four arguments hold real numbers. -/
theorem reals (m : (ℓ : Loc Cert.Kernel3Ideal.nD Cert.Kernel3Ideal.τ Cert.Kernel3Ideal.sig) → Buf (Elt Ideal) ℓ)
    (h : Cert.Pre_Kernel3Ideal_finite3 m) (c : Dev Cert.Kernel3Ideal.nD) :
    (∃ X : Cert.Kernel3Ideal.S1x16384x1024.Idx → ℝ, a0 m c = fun i => ((X i : ℝ) : EReal))
    ∧ (∃ X : Cert.Kernel3Ideal.S1024x1024.Idx → ℝ, a1 m c = fun i => ((X i : ℝ) : EReal))
    ∧ (∃ X : Cert.Kernel3Ideal.S1x1024.Idx → ℝ, a2 m c = fun i => ((X i : ℝ) : EReal))
    ∧ ∃ X : Cert.Kernel3Ideal.S1x16384x1024.Idx → ℝ, a3 m c = fun i => ((X i : ℝ) : EReal) := by
  have key : ∀ p q : BitVec 1, IntOp.andi p q = 1#1 → p = 1#1 ∧ q = 1#1 := by decide
  have e := congrFun (h c) (fun b => b.elim0)
  obtain ⟨e, e3⟩ := key _ _ e
  obtain ⟨e, e2⟩ := key _ _ e
  obtain ⟨e0, e1⟩ := key _ _ e
  exact ⟨reals_of_pre _ _ _ _ _ _ e0, reals_of_pre _ _ _ _ _ _ e1, reals_of_pre _ _ _ _ _ _ e2, reals_of_pre _ _ _ _ _ _ e3⟩

/-- The reference's run leaves its arguments, and no counter of it moves. -/
theorem frame_reference : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

theorem frame_reference_finite : Cert.quiescent_Reference3Ideal_pre_finite3 := fun m ρ _ => frame_reference m ρ trivial

open Cert.Reference3Ideal.Read Cert.Reference3Ideal in
theorem value : Cert.algebraic_Kernel3Ideal_Reference3Ideal_pre_finite3 := by
  intro m g m' g' hpre hagree
  refine ⟨resW m, resGate m, ?_, ?_⟩
  · refine (θ_run Cert.Kernel3Ideal.defs _ _).mono (fun r h c => ?_)
      (θ_run_and (run m g) (Cert.Kernel3Ideal.Gen.unchanged (F := Ideal) m g))
    exact ⟨(h.1 c).1, (h.1 c).2, h.2 c⟩
  · refine (θ_run Cert.Reference3Ideal.defs _ _).mono (fun r h c => ?_) (Cert.Reference3Ideal.Value.run (F := Ideal) m' g')
    obtain ⟨⟨X0, h0⟩, ⟨X1, h1⟩, ⟨X2, h2⟩, ⟨X3, h3⟩⟩ := reals m hpre c
    obtain ⟨g0, g1, g2, g3⟩ := hagree c
    obtain ⟨r0, r1, hrest⟩ := h c
    refine ⟨r0.trans ?_, r1.trans ?_, hrest⟩
    · rw [val_main_v14_eq, g0, g2, g3]
      funext i
      have hi : i = (ix2 (i 0) (i 1) : S1024x1024.Idx) := by idx_ext
      have key := dw_eq X0 X2 X3 (i 0) (i 1)
      rw [← h0, ← h2, ← h3, ← congrFun h2 (ix2 0 (i 1))] at key
      exact (congrArg _ hi).trans key.symm
    · rw [val_main_v13_eq, g0, g1, g3]
      funext i
      have hi : i = (ix2 0 (i 1) : S1x1024.Idx) := by idx_ext
      have key := dgate_eq X0 X1 X3 (i 1)
      rw [← h0, ← h1, ← h3] at key
      simp only [← congrFun h1 (ix2 _ (i 1))] at key
      exact (congrArg _ hi).trans key.symm

end Cert.Proof.OutProj
-- ==== Proof.InProj.Kernel.lean ====
module

public import proofs.«01_k».proof.Proof.Gen.Kernel4Ideal.Frame
public import Idealize.ShloMosaic.Lib.Pipeline.Value
public import Idealize.ShloMosaic.Lib.Pipeline.ValueKit
public import Idealize.ShloMosaic.Lib.Pointwise
public import Idealize.ShloMosaic.Lib.Tactic

/-! # What the entry call returns

Each tile of tokens is normalised, modulated and multiplied with the entry's weights, a third of the columns at a time. -/

@[expose] public section

set_option maxRecDepth 16384

noncomputable section

open Idealize.ShloMosaic Idealize.ShloMosaic.TcCoe Idealize.SL.Sem
open Idealize.ShloMosaic.Pipeline (Dat)

namespace Cert.Kernel4Ideal.InProj

open Cert.Kernel4Ideal Cert.Kernel4Ideal.Gen

/-! ## A tile -/

/-- The modulated norm of a row: the row over its root mean square, times the gain, plus the shift. -/
theorem pay2_apply (x : Vec Ideal S1024x1024 .f32) (g s : Vec Ideal S1x1024 .f32) (r j : Fin 1024) :
    k0_pay2 (F := Ideal) x g s (ix2 r j) =
      x (ix2 r j) * Ideal.rsqrt (Ideal.div (∑ a : Fin 1024, x (ix2 r a) * x (ix2 r a)) (Ideal.ofBits FTy.f32 1149239296#32)
        + Ideal.ofBits FTy.f32 897988541#32) * g (ix2 0 j) + s (ix2 0 j) := by
  pointwise [k0_pay2]

/-- The product of the modulated rows with the weights, over all columns. -/
def prod (x : Vec Ideal S1024x1024 .f32) (g s : Vec Ideal S1x1024 .f32) (w : Vec Ideal S1024x3072 .bf16) : Vec Ideal S1024x3072 .bf16 :=
  fun i => ∑ a : Fin 1024, k0_pay2 (F := Ideal) x g s (ix2 (i 0) a) * w (ix2 a (i 1))

theorem pay3_apply (x : Vec Ideal S1024x1024 .f32) (g s : Vec Ideal S1x1024 .f32) (w : Vec Ideal S1024x1024 .bf16) (r j : Fin 1024) :
    k0_pay3 (F := Ideal) x g s w (ix2 r j) = ∑ a : Fin 1024, k0_pay2 (F := Ideal) x g s (ix2 r a) * w (ix2 a j) := by
  unfold k0_pay3
  generalize k0_pay2 (F := Ideal) x g s = h
  pointwise

theorem pay4_apply (x : Vec Ideal S1024x1024 .f32) (g s : Vec Ideal S1x1024 .f32) (w : Vec Ideal S1024x1024 .bf16) (r j : Fin 1024) :
    k0_pay4 (F := Ideal) x g s w (ix2 r j) = ∑ a : Fin 1024, k0_pay2 (F := Ideal) x g s (ix2 r a) * w (ix2 a j) :=
  pay3_apply x g s w r j

theorem pay1_apply (x : Vec Ideal S1024x1024 .f32) (g s : Vec Ideal S1x1024 .f32) (w : Vec Ideal S1024x1024 .bf16) (r j : Fin 1024) :
    k0_pay1 (F := Ideal) (k0_pay2 x g s) (k0_pay5 w) (ix2 r j) = ∑ a : Fin 1024, k0_pay2 (F := Ideal) x g s (ix2 r a) * w (ix2 a j) :=
  pay3_apply x g s w r j

/-- A third of the columns, stored where it was loaded from, is that third of the product. -/
theorem third (x : Vec Ideal S1024x1024 .f32) (g s : Vec Ideal S1x1024 .f32) (w : Vec Ideal S1024x3072 .bf16) (o : ℕ)
    (inb : ∀ a, (![0, o] : Fin 2 → ℕ) a + S1024x1024.size a ≤ S1024x3072.size a) (y : S1024x1024.Idx) :
    (∑ a : Fin 1024, k0_pay2 (F := Ideal) x g s (ix2 (y 0) a) * View.ld (Val := Elt Ideal) (e' := .bf16) w (Rect.unit (s := S1024x3072) ![0, o] S1024x1024.size inb) (ix2 a (y 1)))
      = prod x g s w ((Rect.unit (s := S1024x3072) ![0, o] S1024x1024.size inb).emb y) := by
  unfold prod
  have h0 : ((Rect.unit (s := S1024x3072) ![0, o] S1024x1024.size inb).emb y) 0 = y 0 := by
    apply Fin.ext; rw [Rect.emb_apply]; simp [Rect.unit]
  refine Finset.sum_congr rfl fun a _ => ?_
  have h1 : (Rect.unit (s := S1024x3072) ![0, o] S1024x1024.size inb).emb (ix2 a (y 1))
      = (ix2 a (((Rect.unit (s := S1024x3072) ![0, o] S1024x1024.size inb).emb y) 1) : S1024x3072.Idx) := by
    funext b; apply Fin.ext
    rw [Rect.emb_apply]
    fin_cases b
    · simp [Rect.unit, ix2]
    · have e : (((Rect.unit (s := S1024x3072) ![0, o] S1024x1024.size inb).emb y) 1).val = o + 1 * (y 1).val := by
        rw [Rect.emb_apply]; simp [Rect.unit]
      exact e.symm
  rw [h0]
  exact congrArg (fun q => k0_pay2 (F := Ideal) x g s (ix2 (y 0) a) * w q) h1

theorem out5_eq (x : Vec Ideal S1024x1024 .f32) (g s : Vec Ideal S1x1024 .f32) (w : Vec Ideal S1024x3072 .bf16) :
    out0_5 (F := Ideal) x g s w = prod x g s w := by
  funext y
  unfold out0_5
  rw [View.ld_unit_lit _ x (by decide), View.ld_unit_lit _ g (by decide), View.ld_unit_lit _ s (by decide)]
  refine View.canon_apply_of_pieces (prod x g s w) _ ?_ y (cover0_5 _ _ _ y)
  intro p hp q
  simp only [List.mem_cons, List.not_mem_nil, or_false] at hp
  rcases hp with rfl | rfl | rfl
  all_goals have hq : q = (ix2 (q 0) (q 1) : S1024x1024.Idx) := by idx_ext
  · exact ((congrArg _ hq).trans (pay1_apply x g s _ (q 0) (q 1))).trans (third x g s w 2048 (by decide) q)
  · exact ((congrArg _ hq).trans (pay4_apply x g s _ (q 0) (q 1))).trans (third x g s w 1024 (by decide) q)
  · exact ((congrArg _ hq).trans (pay3_apply x g s _ (q 0) (q 1))).trans (third x g s w 0 (by decide) q)

theorem out4_eq (x : Vec Ideal S1024x1024 .f32) (g s : Vec Ideal S1x1024 .f32) (w : Vec Ideal S1024x3072 .bf16) :
    out0_4 (F := Ideal) x g s w = k0_pay2 (F := Ideal) x g s := by
  unfold out0_4
  rw [View.ld_unit_lit _ x (by decide), View.ld_unit_lit _ g (by decide), View.ld_unit_lit _ s (by decide)]
  exact View.canon_cons_unit_lit' _ _ _ (by decide)

/-! ## The blocks as parts of the arguments -/

variable (m : (ℓ : Loc nD τ sig) → Buf (Elt Ideal) ℓ) (ρ : Dev nD → PrngReg)

/-- The argument arrays: the tokens, the gain, the shift, the scale and the weights. -/
abbrev a0 (c : Dev nD) : Vec Ideal S1x16384x1024 .f32 := m ((c : Thread nD τ).loc main_arg0)
abbrev a1 (c : Dev nD) : Vec Ideal S1024 .f32 := m ((c : Thread nD τ).loc main_arg1)
abbrev a2 (c : Dev nD) : Vec Ideal S1x1024 .f32 := m ((c : Thread nD τ).loc main_arg2)
abbrev a3 (c : Dev nD) : Vec Ideal S1x1024 .f32 := m ((c : Thread nD τ).loc main_arg3)
abbrev a4 (c : Dev nD) : Vec Ideal S1024x3072 .f32 := m ((c : Thread nD τ).loc main_arg4)

theorem entry_v4 (c : Dev nD) (n : Fin 16384) (j : Fin 1024) : V m c main_v4 (ix2 n j) = a0 m c (ix3 0 n j) := by
  (unfold V; after_results); pointwise

theorem entry_v3 (c : Dev nD) (j : Fin 1024) :
    V m c main_v3 (ix2 0 j) = a1 m c (ix1 j) * (Ideal.ofBits FTy.f32 1065353216#32 + a3 m c (ix2 0 j)) := by
  (unfold V; after_results); pointwise

theorem entry_v5 (c : Dev nD) (k : Fin 1024) (j : Fin 3072) : V m c main_v5 (ix2 k j) = a4 m c (ix2 k j) := by
  (unfold V; after_results); pointwise

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)

/-- Row `r` of tile `t`, as a token. -/
def row (t : Fin cfg0.N) (r : Fin 1024) : Fin 16384 :=
  ⟨t.val * 1024 + r.val, by have := lt_of_lt_of_eq t.isLt N_0; omega⟩

theorem blk0 (c : Dev nD) (t : Fin cfg0.N) (r : Fin 1024) (j : Fin 1024) :
    (iblk m c 0 t : Vec Ideal S1024x1024 .f32) (ix2 r j) = a0 m c (ix3 0 (row t r) j) := by
  rw [← entry_v4 m]
  blk_ext! [iblk, V, idx0 t, row]

theorem blk1 (c : Dev nD) (t : Fin cfg0.N) (j : Fin 1024) :
    (iblk m c 1 t : Vec Ideal S1x1024 .f32) (ix2 0 j) = a1 m c (ix1 j) * (Ideal.ofBits FTy.f32 1065353216#32 + a3 m c (ix2 0 j)) := by
  rw [← entry_v3 m]
  blk_ext! [iblk, V, idx1 t]

theorem blk2 (c : Dev nD) (t : Fin cfg0.N) (j : Fin 1024) :
    (iblk m c 2 t : Vec Ideal S1x1024 .f32) (ix2 0 j) = a2 m c (ix2 0 j) := by
  rw [show a2 m c = V m c main_arg2 from (V_main_arg2 m c).symm]
  blk_ext! [iblk, V, idx2 t]

theorem blk3 (c : Dev nD) (t : Fin cfg0.N) (k : Fin 1024) (j : Fin 3072) :
    (iblk m c 3 t : Vec Ideal S1024x3072 .bf16) (ix2 k j) = a4 m c (ix2 k j) := by
  rw [← entry_v5 m]
  blk_ext! [iblk, V, idx3 t]

/-! ## The results -/

/-- The modulated norm of a token. -/
def modulated (x : Vec Ideal S1x16384x1024 .f32) (g : Vec Ideal S1024 .f32) (shift scale : Vec Ideal S1x1024 .f32) (n : Fin 16384) (j : Fin 1024) : EReal :=
  x (ix3 0 n j) * Ideal.rsqrt (Ideal.div (∑ a : Fin 1024, x (ix3 0 n a) * x (ix3 0 n a)) (Ideal.ofBits FTy.f32 1149239296#32)
      + Ideal.ofBits FTy.f32 897988541#32) * (g (ix1 j) * (Ideal.ofBits FTy.f32 1065353216#32 + scale (ix2 0 j))) + shift (ix2 0 j)

theorem h_blk (c : Dev nD) (t : Fin cfg0.N) (r j : Fin 1024) :
    k0_pay2 (F := Ideal) (iblk m c 0 t) (iblk m c 1 t) (iblk m c 2 t) (ix2 r j)
      = modulated (a0 m c) (a1 m c) (a2 m c) (a3 m c) (row t r) j := by
  rw [pay2_apply, blk1, blk2]
  simp only [blk0]
  rfl

/-- The two results: the modulated norm and its product with the weights. -/
def resH (c : Dev nD) : Vec Ideal S16384x1024 .bf16 := fun i => modulated (a0 m c) (a1 m c) (a2 m c) (a3 m c) (i 0) (i 1)
def resZ (c : Dev nD) : Vec Ideal S16384x3072 .bf16 :=
  fun i => ∑ a : Fin 1024, modulated (a0 m c) (a1 m c) (a2 m c) (a3 m c) (i 0) a * a4 m c (ix2 a (i 1))

theorem z_blk (c : Dev nD) (t : Fin cfg0.N) (r : Fin 1024) (j : Fin 3072) :
    prod (iblk m c 0 t) (iblk m c 1 t) (iblk m c 2 t) (iblk m c 3 t) (ix2 r j) = resZ m c (ix2 (row t r) j) := by
  refine Finset.sum_congr rfl fun a _ => ?_
  exact congrArg₂ (· * ·) (h_blk m c t r a) (blk3 m c t a j)

theorem final4 (c : Dev nD) : (dats m 0 c).arrAt 4 cfg0.N = resH m c := by
  refine (dats m 0 c).arrAt_eq_of_covers 4 _ (by decide +kernel) fun t hf y => ?_
  blk_simp
  rw [after0_4, out4_eq]
  have hy : y = (ix2 (y 0) (y 1) : S1024x1024.Idx) := by idx_ext
  rw [hy]
  refine (h_blk m c t (y 0) (y 1)).trans ?_
  have e1 : ∀ z : S16384x1024.Idx, z 0 = row t (y 0) → z 1 = y 1 → resH m c z = resH m c (ix2 (row t (y 0)) (y 1)) := fun z h h' => by
    rw [show z = ix2 (z 0) (z 1) from by idx_ext, h, h']; rfl
  exact (e1 _ (by apply Fin.ext; blk_simp [idx4 t, row]) (by apply Fin.ext; blk_simp [idx4 t])).symm

theorem final5 (c : Dev nD) : (dats m 0 c).arrAt 5 cfg0.N = resZ m c := by
  refine (dats m 0 c).arrAt_eq_of_covers 5 _ (by decide +kernel) fun t hf y => ?_
  blk_simp
  rw [after0_5, out5_eq]
  have hy : y = (ix2 (y 0) (y 1) : S1024x3072.Idx) := by idx_ext
  rw [hy]
  refine (z_blk m c t (y 0) (y 1)).trans ?_
  have e1 : ∀ z : S16384x3072.Idx, z 0 = row t (y 0) → z 1 = y 1 → resZ m c z = resZ m c (ix2 (row t (y 0)) (y 1)) := fun z h h' => by
    rw [show z = ix2 (z 0) (z 1) from by idx_ext, h, h']; rfl
  exact (e1 _ (by apply Fin.ext; blk_simp [idx5 t, row]) (by apply Fin.ext; blk_simp [idx5 t])).symm

/-- The program runs and returns the two results. -/
theorem run : θ_run defs (onTc (τ := τ) (main (F := Ideal))) ⟨m, fun _ => 0, ρ⟩ (fun r => ∀ c : Dev nD,
    r.2.mem ((c.tc : Thread nD τ).loc main_v6_0) = resH m c
    ∧ r.2.mem ((c.tc : Thread nD τ).loc main_v6_1) = resZ m c) :=
  (θ_run defs _ _).mono (fun _ h c => ⟨((h c).1 4).trans (final4 m c), ((h c).1 5).trans (final5 m c)⟩) (run_main (F := Ideal) m ρ)

end Cert.Kernel4Ideal.InProj
-- ==== Proof.InProj.Claim.lean ====
module
public import proofs.«01_k».proof.Defs
public import proofs.«01_k».proof.Proof.Gen.Kernel4Ideal.Frame
public import proofs.«01_k».proof.Proof.Gen.Reference4Ideal.Read
public import proofs.«01_k».proof.Proof.Gen.Reference4Ideal.Run
public import proofs.«01_k».proof.Proof.InProj.Kernel
public import Idealize.ShloMosaic.Lib.Claim

/-! # The value claim of the entry call

The plain lines multiply by the gain and by one plus the scale in turn, the call by their product; nothing else differs, and the claim
holds of all arguments. -/

@[expose] public section
set_option maxRecDepth 16384
noncomputable section
open Idealize.ShloMosaic Idealize.ShloMosaic.TcCoe Idealize.SL.Sem

namespace Cert.Reference4Ideal.InProj
open Cert.Reference4Ideal Cert.Reference4Ideal.Gen Cert.Reference4Ideal.Read
open Cert.Kernel4Ideal.InProj (modulated)

variable (x0 : Vec Ideal S1x16384x1024 .f32) (x1 : Vec Ideal S1024 .f32) (x2 x3 : Vec Ideal S1x1024 .f32) (x4 : Vec Ideal S1024x3072 .f32)

theorem read20 (n : Fin 16384) (j : Fin 1024) :
    val_main_v20 (F := Ideal) x0 x1 x2 x3 (ix3 0 n j) = modulated x0 x1 x2 x3 n j := by
  unfold val_main_v20 val_main_v19 val_main_v18 val_main_v17 val_main_v16 val_main_v15 val_main_v14 val_main_v13 val_main_v12 val_main_v11
    val_main_v10 val_main_v9 val_main_v8 val_main_v7 val_main_v6 val_main_v5 val_main_v4 val_main_v3 val_main_v2 val_main_v1 val_main_v0
    val_main_cst val_main_cst_0 val_main_cst_1 val_main_cst_2
  pointwise
  unfold modulated
  rw [Ideal.ofBits_one_f32, ← mul_assoc]

theorem read22 (n : Fin 16384) (j : Fin 1024) :
    val_main_v22 (F := Ideal) x0 x1 x2 x3 (ix2 n j) = modulated x0 x1 x2 x3 n j := by
  unfold val_main_v22 val_main_v21
  pointwise [read20]

theorem read25 (n : Fin 16384) (j : Fin 3072) :
    val_main_v25 (F := Ideal) x0 x1 x2 x3 x4 (ix2 n j) = ∑ a : Fin 1024, modulated x0 x1 x2 x3 n a * x4 (ix2 a j) := by
  unfold val_main_v25 val_main_v24 val_main_v23
  pointwise [read20]

end Cert.Reference4Ideal.InProj

namespace Cert.Proof.InProj
open Cert.Kernel4Ideal.InProj Cert.Reference4Ideal.InProj

/-- The reference's run leaves its arguments, and no counter of it moves. -/
theorem frame_reference : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

open Cert.Reference4Ideal.Read Cert.Reference4Ideal in
theorem value : Cert.algebraic_Kernel4Ideal_Reference4Ideal := by
  intro m g m' g' hpre hagree
  refine ⟨resH m, resZ m, ?_, ?_⟩
  · refine (θ_run Cert.Kernel4Ideal.defs _ _).mono (fun r h c => ?_)
      (θ_run_and (run m g) (Cert.Kernel4Ideal.Gen.unchanged (F := Ideal) m g))
    exact ⟨(h.1 c).1, (h.1 c).2, h.2 c⟩
  · refine (θ_run Cert.Reference4Ideal.defs _ _).mono (fun r h c => ?_) (Cert.Reference4Ideal.Value.run (F := Ideal) m' g')
    obtain ⟨g0, g1, g2, g3, g4⟩ := hagree c
    obtain ⟨r0, r1, hrest⟩ := h c
    refine ⟨r0.trans ?_, r1.trans ?_, hrest⟩
    · rw [val_main_v22_eq, g0, g1, g2, g3]
      funext i
      have hi : i = (ix2 (i 0) (i 1) : S16384x1024.Idx) := by idx_ext
      exact (congrArg _ hi).trans (read22 (a0 m c) (a1 m c) (a2 m c) (a3 m c) (i 0) (i 1))
    · rw [val_main_v25_eq, g0, g1, g2, g3, g4]
      funext i
      have hi : i = (ix2 (i 0) (i 1) : S16384x3072.Idx) := by idx_ext
      exact (congrArg _ hi).trans (read25 (a0 m c) (a1 m c) (a2 m c) (a3 m c) (a4 m c) (i 0) (i 1))

end Cert.Proof.InProj
-- ==== Proof.MixHead.Run.lean ====
module

public import proofs.«01_k».proof.Proof.Gen.Kernel5Ideal.Skeleton
public import proofs.«01_k».proof.Proof.Gen.Kernel5Ideal.Frame

/-!
# One visit of the mixers with the loss head

The body is run once for each of the three kinds of visit.  The first visit clears the running sums and the mixers'
rows it would read from a visit before; every visit reads the rows of the visit before and leaves its own; the last one
also folds the running sums into the loss and the gradient of the final scale.
-/

@[expose] public section

set_option maxRecDepth 16384

noncomputable section

namespace Cert.MixHead

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The buffers of a visit: fourteen inputs, four outputs and five buffers the kernel keeps for itself. -/
structure Refs where
  zm : Memref sig .tc .vmem S512x3072 .bf16
  zh : Memref sig .tc .vmem S32x3072 .bf16
  x : Memref sig .tc .vmem S512x1024 .f32
  gate : Memref sig .tc .vmem S1x1024 .f32
  wConv : Memref sig .tc .vmem S8x256 .f32
  wDw : Memref sig .tc .vmem S32x256 .f32
  vec : Memref sig .tc .vmem S16x256 .f32
  wPool : Memref sig .tc .vmem S256x256 .bf16
  wPw : Memref sig .tc .vmem S256x256 .bf16
  wS : Memref sig .tc .vmem S512x128 .bf16
  bS : Memref sig .tc .vmem S264x256 .f32
  wOut : Memref sig .tc .vmem S1024x1024 .bf16
  scale : Memref sig .tc .vmem S1x1024 .f32
  target : Memref sig .tc .vmem S512x1024 .f32
  dx : Memref sig .tc .vmem S512x1024 .f32
  oc : Memref sig .tc .vmem S512x256 .f32
  loss : Memref sig .tc .vmem S8x128 .f32
  dg : Memref sig .tc .vmem S1x1024 .f32
  past : Memref sig .tc .vmem S544x768 .f32
  ycat : Memref sig .tc .vmem S512x1024 .bf16
  before : Memref sig .tc .vmem S512x1024 .bf16
  xn : Memref sig .tc .vmem S512x1024 .f32
  acc : Memref sig .tc .vmem S2x8x1024 .f32

/-- Each is a whole buffer. -/
structure Refs.Whole (R : Refs) : Prop where
  zm : R.zm.IsWhole
  zh : R.zh.IsWhole
  x : R.x.IsWhole
  gate : R.gate.IsWhole
  wConv : R.wConv.IsWhole
  wDw : R.wDw.IsWhole
  vec : R.vec.IsWhole
  wPool : R.wPool.IsWhole
  wPw : R.wPw.IsWhole
  wS : R.wS.IsWhole
  bS : R.bS.IsWhole
  wOut : R.wOut.IsWhole
  scale : R.scale.IsWhole
  target : R.target.IsWhole
  dx : R.dx.IsWhole
  oc : R.oc.IsWhole
  loss : R.loss.IsWhole
  dg : R.dg.IsWhole
  past : R.past.IsWhole
  ycat : R.ycat.IsWhole
  before : R.before.IsWhole
  xn : R.xn.IsWhole
  acc : R.acc.IsWhole

/-- The contents of the inputs. -/
structure Blocks (F : FTy → Type) [FloatOps F] where
  zm : Vec F S512x3072 .bf16
  zh : Vec F S32x3072 .bf16
  x : Vec F S512x1024 .f32
  gate : Vec F S1x1024 .f32
  wConv : Vec F S8x256 .f32
  wDw : Vec F S32x256 .f32
  vec : Vec F S16x256 .f32
  wPool : Vec F S256x256 .bf16
  wPw : Vec F S256x256 .bf16
  wS : Vec F S512x128 .bf16
  bS : Vec F S264x256 .f32
  wOut : Vec F S1024x1024 .bf16
  scale : Vec F S1x1024 .f32
  target : Vec F S512x1024 .f32

/-- What a visit leaves: its outputs, the mixers' rows for the visit after, and the running sums. -/
structure State (F : FTy → Type) [FloatOps F] where
  dx : Vec F S512x1024 .f32
  oc : Vec F S512x256 .f32
  loss : Vec F S8x128 .f32
  dg : Vec F S1x1024 .f32
  before : Vec F S512x1024 .bf16
  acc : Vec F S2x8x1024 .f32

/-- The stores of a visit into these, the last first. -/
structure Stores (F : FTy → Type) [FloatOps F] where
  dx : List (View.Piece (Elt F) S512x1024 .f32)
  oc : List (View.Piece (Elt F) S512x256 .f32)
  loss : List (View.Piece (Elt F) S8x128 .f32)
  dg : List (View.Piece (Elt F) S1x1024 .f32)
  before : List (View.Piece (Elt F) S512x1024 .bf16)
  acc : List (View.Piece (Elt F) S2x8x1024 .f32)

/-- The body on bundled buffers. -/
abbrev body (F : FTy → Type) [FloatOps F] (i : grid0.Coords) (R : Refs) (W : R.Whole) :
    Prog (TpuEff nD τ sig (Elt F) Λ₀ .tc) PUnit :=
  cc0_mix_out i R.zm W.zm R.zh W.zh R.x W.x R.gate W.gate R.wConv W.wConv R.wDw W.wDw R.vec W.vec R.wPool W.wPool
    R.wPw W.wPw R.wS W.wS R.bS W.bS R.wOut W.wOut R.scale W.scale R.target W.target R.dx W.dx R.oc W.oc
    R.loss W.loss R.dg W.dg R.past W.past R.ycat W.ycat R.before W.before R.xn W.xn R.acc W.acc

/-- The body clears what it carries. -/
abbrev first (i : grid0.Coords) : Prop :=
  (Scalar.cmpi .ne (Scalar.extui (Scalar.cmpi .eq (BitVec.ofNat 32 (i 0).val) 0#32)) 0#32) = 1#1

/-- The body folds the running sums. -/
abbrev last (i : grid0.Coords) : Prop := k0_cond2 i = 1#1

/-- The inputs' buffers hold the blocks. -/
def inputs (c : Dev nD) (R : Refs) (x : Blocks F) : sProp 𝕄 :=
  iprop(owns (c : Thread nD τ) R.zm fullShare x.zm
    ∗ owns (c : Thread nD τ) R.zh fullShare x.zh
    ∗ owns (c : Thread nD τ) R.x fullShare x.x
    ∗ owns (c : Thread nD τ) R.gate fullShare x.gate
    ∗ owns (c : Thread nD τ) R.wConv fullShare x.wConv
    ∗ owns (c : Thread nD τ) R.wDw fullShare x.wDw
    ∗ owns (c : Thread nD τ) R.vec fullShare x.vec
    ∗ owns (c : Thread nD τ) R.wPool fullShare x.wPool
    ∗ owns (c : Thread nD τ) R.wPw fullShare x.wPw
    ∗ owns (c : Thread nD τ) R.wS fullShare x.wS
    ∗ owns (c : Thread nD τ) R.bS fullShare x.bS
    ∗ owns (c : Thread nD τ) R.wOut fullShare x.wOut
    ∗ owns (c : Thread nD τ) R.scale fullShare x.scale
    ∗ owns (c : Thread nD τ) R.target fullShare x.target)

/-- The three buffers nothing is carried in. -/
def scraps (c : Dev nD) (R : Refs) : sProp 𝕄 :=
  iprop((∃ d, owns (c : Thread nD τ) R.past fullShare d) ∗ (∃ d, owns (c : Thread nD τ) R.ycat fullShare d)
    ∗ (∃ d, owns (c : Thread nD τ) R.xn fullShare d))

/-- A buffer after the stores `L`. -/
def stored {S : Shape} {e : EltTy} (c : Dev nD) (M : Memref sig .tc .vmem S e) (L : List (View.Piece (Elt F) S e)) : sProp 𝕄 :=
  iprop(∃ f, M.view.loc (c : Thread nD τ) ↦[M.view.set]{fullShare} M.view.writes (Elt F) f L)

set_option maxHeartbeats 8000000 in
/-- The first visit: it finds anything in its buffers, and leaves the loss and the gradient of the scale untouched. -/
def runA (c : Dev nD) (i : grid0.Coords) (R : Refs) (W : R.Whole) (h0 : first i) (h1 : ¬last i)
    (x : Blocks F) :
    { L : Stores F // ∀ (d : Vec F S8x128 .f32) (d' : Vec F S1x1024 .f32) (E : Set ℕ) (K : PUnit → sProp 𝕄),
        iprop(inputs c R x
          ∗ (∃ d, owns (c : Thread nD τ) R.dx fullShare d)
          ∗ (∃ d, owns (c : Thread nD τ) R.oc fullShare d)
          ∗ owns (c : Thread nD τ) R.loss fullShare d
          ∗ owns (c : Thread nD τ) R.dg fullShare d'
          ∗ scraps c R
          ∗ (∃ d, owns (c : Thread nD τ) R.before fullShare d)
          ∗ (∃ d, owns (c : Thread nD τ) R.acc fullShare d)
          ∗ (iprop(inputs c R x
            ∗ stored c R.dx L.dx
            ∗ stored c R.oc L.oc
            ∗ owns (c : Thread nD τ) R.loss fullShare d
            ∗ owns (c : Thread nD τ) R.dg fullShare d'
            ∗ scraps c R
            ∗ stored c R.before L.before
            ∗ stored c R.acc L.acc) -∗ K ⟨⟩))
        ⊢ wp frame (wpE (defs₀ (F := F)) Variants.none c none) E (body F i R W) K } := by
  refine ⟨⟨?_, ?_, [], [], ?_, ?_⟩, fun d d' E K => ?run⟩
  case run =>
    unfold inputs scraps stored owns
    iintro ⟨⟨⟨%f0, %e0, H0⟩, ⟨%f1, %e1, H1⟩, ⟨%f2, %e2, H2⟩, ⟨%f3, %e3, H3⟩, ⟨%f4, %e4, H4⟩, ⟨%f5, %e5, H5⟩, ⟨%f6,
      %e6, H6⟩, ⟨%f7, %e7, H7⟩, ⟨%f8, %e8, H8⟩, ⟨%f9, %e9, H9⟩, ⟨%f10, %e10, H10⟩, ⟨%f11, %e11, H11⟩, ⟨%f12, %e12,
      H12⟩, ⟨%f13, %e13, H13⟩⟩, ⟨%d14, %f14, -, H14⟩, ⟨%d15, %f15, -, H15⟩, ⟨%f16, %e16, H16⟩, ⟨%f17, %e17, H17⟩,
      ⟨⟨%d18, %f18, -, H18⟩, ⟨%d19, %f19, -, H19⟩, ⟨%d21, %f21, -, H21⟩⟩, ⟨%d20, %f20, -, H20⟩, ⟨%d22, %f22, -, H22⟩,
      Hk⟩
    obtain rfl := W.zm.eq_unread e0; obtain rfl := W.zh.eq_unread e1; obtain rfl := W.x.eq_unread e2
    obtain rfl := W.gate.eq_unread e3; obtain rfl := W.wConv.eq_unread e4; obtain rfl := W.wDw.eq_unread e5
    obtain rfl := W.vec.eq_unread e6; obtain rfl := W.wPool.eq_unread e7; obtain rfl := W.wPw.eq_unread e8
    obtain rfl := W.wS.eq_unread e9; obtain rfl := W.bS.eq_unread e10; obtain rfl := W.wOut.eq_unread e11
    obtain rfl := W.scale.eq_unread e12; obtain rfl := W.target.eq_unread e13; obtain rfl := W.loss.eq_unread e16
    obtain rfl := W.dg.eq_unread e17
    dsimp only [body]
    simp only [cc0_mix_out_eq_skeleton]
    unfold cc0_mix_out_skel
    simp only [
      k0_part1_eq_skeleton, k0_part2_eq_skeleton, k0_part3_eq_skeleton, k0_part4_eq_skeleton, k0_part5_eq_skeleton,
      k0_part6_eq_skeleton, k0_part7_eq_skeleton, k0_part8_eq_skeleton, k0_part9_eq_skeleton, k0_part10_eq_skeleton,
      k0_part11_eq_skeleton, k0_part12_eq_skeleton, k0_part13_eq_skeleton, k0_part14_eq_skeleton,
      k0_part15_eq_skeleton, k0_part16_eq_skeleton, k0_part17_eq_skeleton, k0_part18_eq_skeleton,
      k0_part19_eq_skeleton, k0_part20_eq_skeleton, k0_part21_eq_skeleton, k0_part22_eq_skeleton,
      k0_part23_eq_skeleton, k0_part24_eq_skeleton, k0_part25_eq_skeleton, k0_part26_eq_skeleton,
      k0_part27_eq_skeleton, k0_part28_eq_skeleton, k0_part29_eq_skeleton, k0_part30_eq_skeleton,
      k0_part31_eq_skeleton, k0_part32_eq_skeleton, k0_part33_eq_skeleton, k0_part34_eq_skeleton,
      k0_part35_eq_skeleton, k0_part36_eq_skeleton, k0_part37_eq_skeleton, k0_part38_eq_skeleton,
      k0_part39_eq_skeleton, k0_part40_eq_skeleton, k0_part41_eq_skeleton, k0_part42_eq_skeleton,
      k0_part43_eq_skeleton, k0_part44_eq_skeleton, k0_part45_eq_skeleton, k0_part46_eq_skeleton,
      k0_part47_eq_skeleton, k0_part48_eq_skeleton, k0_part49_eq_skeleton, k0_part50_eq_skeleton,
      k0_part51_eq_skeleton, k0_part52_eq_skeleton]
    sl_exec (disch := first | sl_exact h0 | sl_exact h1)
    sl_unroll (rfl : k0_t1_loop.trips = 4)
    sl_exec (disch := first | sl_exact h0 | sl_exact h1)
    sl_step
    iapply Hk
    isplitl [H0 H1 H2 H3 H4 H5 H6 H7 H8 H9 H10 H11 H12 H13]
    · isplitl [H0]; · (iexists _; isplitr; (· ipureintro; exact W.zm.read_unread _); iexact H0)
      isplitl [H1]; · (iexists _; isplitr; (· ipureintro; exact W.zh.read_unread _); iexact H1)
      isplitl [H2]; · (iexists _; isplitr; (· ipureintro; exact W.x.read_unread _); iexact H2)
      isplitl [H3]; · (iexists _; isplitr; (· ipureintro; exact W.gate.read_unread _); iexact H3)
      isplitl [H4]; · (iexists _; isplitr; (· ipureintro; exact W.wConv.read_unread _); iexact H4)
      isplitl [H5]; · (iexists _; isplitr; (· ipureintro; exact W.wDw.read_unread _); iexact H5)
      isplitl [H6]; · (iexists _; isplitr; (· ipureintro; exact W.vec.read_unread _); iexact H6)
      isplitl [H7]; · (iexists _; isplitr; (· ipureintro; exact W.wPool.read_unread _); iexact H7)
      isplitl [H8]; · (iexists _; isplitr; (· ipureintro; exact W.wPw.read_unread _); iexact H8)
      isplitl [H9]; · (iexists _; isplitr; (· ipureintro; exact W.wS.read_unread _); iexact H9)
      isplitl [H10]; · (iexists _; isplitr; (· ipureintro; exact W.bS.read_unread _); iexact H10)
      isplitl [H11]; · (iexists _; isplitr; (· ipureintro; exact W.wOut.read_unread _); iexact H11)
      isplitl [H12]; · (iexists _; isplitr; (· ipureintro; exact W.scale.read_unread _); iexact H12)
      iexists _; isplitr; (· ipureintro; exact W.target.read_unread _)
      iexact H13
    isplitl [H14]; · iexists _; iexact H14
    isplitl [H15]; · iexists _; iexact H15
    isplitl [H16]; · (iexists _; isplitr; (· ipureintro; exact W.loss.read_unread _); iexact H16)
    isplitl [H17]; · (iexists _; isplitr; (· ipureintro; exact W.dg.read_unread _); iexact H17)
    isplitl [H18 H19 H21]
    · isplitl [H18]; · (iexists _; iexists _; isplitr; swap; (· iexact H18); ipureintro; rfl)
      isplitl [H19]; · (iexists _; iexists _; isplitr; swap; (· iexact H19); ipureintro; rfl)
      iexists _; iexists _; isplitr; swap; (· iexact H21); ipureintro; rfl
    isplitl [H20]; · iexists _; iexact H20
    iexists _; iexact H22

set_option maxHeartbeats 8000000 in
/-- A middle visit: it finds what the visit before left, and leaves the loss and the gradient of the scale untouched. -/
def runB (c : Dev nD) (i : grid0.Coords) (R : Refs) (W : R.Whole) (h0 : ¬first i) (h1 : ¬last i)
    (x : Blocks F) (s : State F) :
    { L : Stores F // ∀ (d : Vec F S8x128 .f32) (d' : Vec F S1x1024 .f32) (E : Set ℕ) (K : PUnit → sProp 𝕄),
        iprop(inputs c R x
          ∗ (∃ d, owns (c : Thread nD τ) R.dx fullShare d)
          ∗ (∃ d, owns (c : Thread nD τ) R.oc fullShare d)
          ∗ owns (c : Thread nD τ) R.loss fullShare d
          ∗ owns (c : Thread nD τ) R.dg fullShare d'
          ∗ scraps c R
          ∗ owns (c : Thread nD τ) R.before fullShare s.before
          ∗ owns (c : Thread nD τ) R.acc fullShare s.acc
          ∗ (iprop(inputs c R x
            ∗ stored c R.dx L.dx
            ∗ stored c R.oc L.oc
            ∗ owns (c : Thread nD τ) R.loss fullShare d
            ∗ owns (c : Thread nD τ) R.dg fullShare d'
            ∗ scraps c R
            ∗ stored c R.before L.before
            ∗ stored c R.acc L.acc) -∗ K ⟨⟩))
        ⊢ wp frame (wpE (defs₀ (F := F)) Variants.none c none) E (body F i R W) K } := by
  refine ⟨⟨?_, ?_, [], [], ?_, ?_⟩, fun d d' E K => ?run⟩
  case run =>
    unfold inputs scraps stored owns
    iintro ⟨⟨⟨%f0, %e0, H0⟩, ⟨%f1, %e1, H1⟩, ⟨%f2, %e2, H2⟩, ⟨%f3, %e3, H3⟩, ⟨%f4, %e4, H4⟩, ⟨%f5, %e5, H5⟩, ⟨%f6,
      %e6, H6⟩, ⟨%f7, %e7, H7⟩, ⟨%f8, %e8, H8⟩, ⟨%f9, %e9, H9⟩, ⟨%f10, %e10, H10⟩, ⟨%f11, %e11, H11⟩, ⟨%f12, %e12,
      H12⟩, ⟨%f13, %e13, H13⟩⟩, ⟨%d14, %f14, -, H14⟩, ⟨%d15, %f15, -, H15⟩, ⟨%f16, %e16, H16⟩, ⟨%f17, %e17, H17⟩,
      ⟨⟨%d18, %f18, -, H18⟩, ⟨%d19, %f19, -, H19⟩, ⟨%d21, %f21, -, H21⟩⟩, ⟨%f20, %e20, H20⟩, ⟨%f22, %e22, H22⟩, Hk⟩
    obtain rfl := W.zm.eq_unread e0; obtain rfl := W.zh.eq_unread e1; obtain rfl := W.x.eq_unread e2
    obtain rfl := W.gate.eq_unread e3; obtain rfl := W.wConv.eq_unread e4; obtain rfl := W.wDw.eq_unread e5
    obtain rfl := W.vec.eq_unread e6; obtain rfl := W.wPool.eq_unread e7; obtain rfl := W.wPw.eq_unread e8
    obtain rfl := W.wS.eq_unread e9; obtain rfl := W.bS.eq_unread e10; obtain rfl := W.wOut.eq_unread e11
    obtain rfl := W.scale.eq_unread e12; obtain rfl := W.target.eq_unread e13; obtain rfl := W.loss.eq_unread e16
    obtain rfl := W.dg.eq_unread e17; obtain rfl := W.before.eq_unread e20; obtain rfl := W.acc.eq_unread e22
    dsimp only [body]
    simp only [cc0_mix_out_eq_skeleton]
    unfold cc0_mix_out_skel
    simp only [
      k0_part1_eq_skeleton, k0_part2_eq_skeleton, k0_part3_eq_skeleton, k0_part4_eq_skeleton, k0_part5_eq_skeleton,
      k0_part6_eq_skeleton, k0_part7_eq_skeleton, k0_part8_eq_skeleton, k0_part9_eq_skeleton, k0_part10_eq_skeleton,
      k0_part11_eq_skeleton, k0_part12_eq_skeleton, k0_part13_eq_skeleton, k0_part14_eq_skeleton,
      k0_part15_eq_skeleton, k0_part16_eq_skeleton, k0_part17_eq_skeleton, k0_part18_eq_skeleton,
      k0_part19_eq_skeleton, k0_part20_eq_skeleton, k0_part21_eq_skeleton, k0_part22_eq_skeleton,
      k0_part23_eq_skeleton, k0_part24_eq_skeleton, k0_part25_eq_skeleton, k0_part26_eq_skeleton,
      k0_part27_eq_skeleton, k0_part28_eq_skeleton, k0_part29_eq_skeleton, k0_part30_eq_skeleton,
      k0_part31_eq_skeleton, k0_part32_eq_skeleton, k0_part33_eq_skeleton, k0_part34_eq_skeleton,
      k0_part35_eq_skeleton, k0_part36_eq_skeleton, k0_part37_eq_skeleton, k0_part38_eq_skeleton,
      k0_part39_eq_skeleton, k0_part40_eq_skeleton, k0_part41_eq_skeleton, k0_part42_eq_skeleton,
      k0_part43_eq_skeleton, k0_part44_eq_skeleton, k0_part45_eq_skeleton, k0_part46_eq_skeleton,
      k0_part47_eq_skeleton, k0_part48_eq_skeleton, k0_part49_eq_skeleton, k0_part50_eq_skeleton,
      k0_part51_eq_skeleton, k0_part52_eq_skeleton]
    sl_exec (disch := first | sl_exact h0 | sl_exact h1)
    sl_unroll (rfl : k0_t1_loop.trips = 4)
    sl_exec (disch := first | sl_exact h0 | sl_exact h1)
    sl_step
    iapply Hk
    isplitl [H0 H1 H2 H3 H4 H5 H6 H7 H8 H9 H10 H11 H12 H13]
    · isplitl [H0]; · (iexists _; isplitr; (· ipureintro; exact W.zm.read_unread _); iexact H0)
      isplitl [H1]; · (iexists _; isplitr; (· ipureintro; exact W.zh.read_unread _); iexact H1)
      isplitl [H2]; · (iexists _; isplitr; (· ipureintro; exact W.x.read_unread _); iexact H2)
      isplitl [H3]; · (iexists _; isplitr; (· ipureintro; exact W.gate.read_unread _); iexact H3)
      isplitl [H4]; · (iexists _; isplitr; (· ipureintro; exact W.wConv.read_unread _); iexact H4)
      isplitl [H5]; · (iexists _; isplitr; (· ipureintro; exact W.wDw.read_unread _); iexact H5)
      isplitl [H6]; · (iexists _; isplitr; (· ipureintro; exact W.vec.read_unread _); iexact H6)
      isplitl [H7]; · (iexists _; isplitr; (· ipureintro; exact W.wPool.read_unread _); iexact H7)
      isplitl [H8]; · (iexists _; isplitr; (· ipureintro; exact W.wPw.read_unread _); iexact H8)
      isplitl [H9]; · (iexists _; isplitr; (· ipureintro; exact W.wS.read_unread _); iexact H9)
      isplitl [H10]; · (iexists _; isplitr; (· ipureintro; exact W.bS.read_unread _); iexact H10)
      isplitl [H11]; · (iexists _; isplitr; (· ipureintro; exact W.wOut.read_unread _); iexact H11)
      isplitl [H12]; · (iexists _; isplitr; (· ipureintro; exact W.scale.read_unread _); iexact H12)
      iexists _; isplitr; (· ipureintro; exact W.target.read_unread _)
      iexact H13
    isplitl [H14]; · iexists _; iexact H14
    isplitl [H15]; · iexists _; iexact H15
    isplitl [H16]; · (iexists _; isplitr; (· ipureintro; exact W.loss.read_unread _); iexact H16)
    isplitl [H17]; · (iexists _; isplitr; (· ipureintro; exact W.dg.read_unread _); iexact H17)
    isplitl [H18 H19 H21]
    · isplitl [H18]; · (iexists _; iexists _; isplitr; swap; (· iexact H18); ipureintro; rfl)
      isplitl [H19]; · (iexists _; iexists _; isplitr; swap; (· iexact H19); ipureintro; rfl)
      iexists _; iexists _; isplitr; swap; (· iexact H21); ipureintro; rfl
    isplitl [H20]; · iexists _; iexact H20
    iexists _; iexact H22

set_option maxHeartbeats 8000000 in
/-- The last visit: it finds what the visit before left, and writes everything. -/
def runC (c : Dev nD) (i : grid0.Coords) (R : Refs) (W : R.Whole) (h0 : ¬first i) (h1 : last i)
    (x : Blocks F) (s : State F) :
    { L : Stores F // ∀ (E : Set ℕ) (K : PUnit → sProp 𝕄),
        iprop(inputs c R x
          ∗ (∃ d, owns (c : Thread nD τ) R.dx fullShare d)
          ∗ (∃ d, owns (c : Thread nD τ) R.oc fullShare d)
          ∗ (∃ d, owns (c : Thread nD τ) R.loss fullShare d)
          ∗ (∃ d, owns (c : Thread nD τ) R.dg fullShare d)
          ∗ scraps c R
          ∗ owns (c : Thread nD τ) R.before fullShare s.before
          ∗ owns (c : Thread nD τ) R.acc fullShare s.acc
          ∗ (iprop(inputs c R x
            ∗ stored c R.dx L.dx
            ∗ stored c R.oc L.oc
            ∗ stored c R.loss L.loss
            ∗ stored c R.dg L.dg
            ∗ scraps c R
            ∗ stored c R.before L.before
            ∗ stored c R.acc L.acc) -∗ K ⟨⟩))
        ⊢ wp frame (wpE (defs₀ (F := F)) Variants.none c none) E (body F i R W) K } := by
  refine ⟨⟨?_, ?_, ?_, ?_, ?_, ?_⟩, fun E K => ?run⟩
  case run =>
    unfold inputs scraps stored owns
    iintro ⟨⟨⟨%f0, %e0, H0⟩, ⟨%f1, %e1, H1⟩, ⟨%f2, %e2, H2⟩, ⟨%f3, %e3, H3⟩, ⟨%f4, %e4, H4⟩, ⟨%f5, %e5, H5⟩, ⟨%f6,
      %e6, H6⟩, ⟨%f7, %e7, H7⟩, ⟨%f8, %e8, H8⟩, ⟨%f9, %e9, H9⟩, ⟨%f10, %e10, H10⟩, ⟨%f11, %e11, H11⟩, ⟨%f12, %e12,
      H12⟩, ⟨%f13, %e13, H13⟩⟩, ⟨%d14, %f14, -, H14⟩, ⟨%d15, %f15, -, H15⟩, ⟨%d16, %f16, -, H16⟩, ⟨%d17, %f17, -,
      H17⟩, ⟨⟨%d18, %f18, -, H18⟩, ⟨%d19, %f19, -, H19⟩, ⟨%d21, %f21, -, H21⟩⟩, ⟨%f20, %e20, H20⟩, ⟨%f22, %e22, H22⟩,
      Hk⟩
    obtain rfl := W.zm.eq_unread e0; obtain rfl := W.zh.eq_unread e1; obtain rfl := W.x.eq_unread e2
    obtain rfl := W.gate.eq_unread e3; obtain rfl := W.wConv.eq_unread e4; obtain rfl := W.wDw.eq_unread e5
    obtain rfl := W.vec.eq_unread e6; obtain rfl := W.wPool.eq_unread e7; obtain rfl := W.wPw.eq_unread e8
    obtain rfl := W.wS.eq_unread e9; obtain rfl := W.bS.eq_unread e10; obtain rfl := W.wOut.eq_unread e11
    obtain rfl := W.scale.eq_unread e12; obtain rfl := W.target.eq_unread e13; obtain rfl := W.before.eq_unread e20
    obtain rfl := W.acc.eq_unread e22
    dsimp only [body]
    simp only [cc0_mix_out_eq_skeleton]
    unfold cc0_mix_out_skel
    simp only [
      k0_part1_eq_skeleton, k0_part2_eq_skeleton, k0_part3_eq_skeleton, k0_part4_eq_skeleton, k0_part5_eq_skeleton,
      k0_part6_eq_skeleton, k0_part7_eq_skeleton, k0_part8_eq_skeleton, k0_part9_eq_skeleton, k0_part10_eq_skeleton,
      k0_part11_eq_skeleton, k0_part12_eq_skeleton, k0_part13_eq_skeleton, k0_part14_eq_skeleton,
      k0_part15_eq_skeleton, k0_part16_eq_skeleton, k0_part17_eq_skeleton, k0_part18_eq_skeleton,
      k0_part19_eq_skeleton, k0_part20_eq_skeleton, k0_part21_eq_skeleton, k0_part22_eq_skeleton,
      k0_part23_eq_skeleton, k0_part24_eq_skeleton, k0_part25_eq_skeleton, k0_part26_eq_skeleton,
      k0_part27_eq_skeleton, k0_part28_eq_skeleton, k0_part29_eq_skeleton, k0_part30_eq_skeleton,
      k0_part31_eq_skeleton, k0_part32_eq_skeleton, k0_part33_eq_skeleton, k0_part34_eq_skeleton,
      k0_part35_eq_skeleton, k0_part36_eq_skeleton, k0_part37_eq_skeleton, k0_part38_eq_skeleton,
      k0_part39_eq_skeleton, k0_part40_eq_skeleton, k0_part41_eq_skeleton, k0_part42_eq_skeleton,
      k0_part43_eq_skeleton, k0_part44_eq_skeleton, k0_part45_eq_skeleton, k0_part46_eq_skeleton,
      k0_part47_eq_skeleton, k0_part48_eq_skeleton, k0_part49_eq_skeleton, k0_part50_eq_skeleton,
      k0_part51_eq_skeleton, k0_part52_eq_skeleton]
    sl_exec (disch := first | sl_exact h0 | sl_exact h1)
    sl_unroll (rfl : k0_t1_loop.trips = 4)
    sl_exec (disch := first | sl_exact h0 | sl_exact h1)
    sl_step
    iapply Hk
    isplitl [H0 H1 H2 H3 H4 H5 H6 H7 H8 H9 H10 H11 H12 H13]
    · isplitl [H0]; · (iexists _; isplitr; (· ipureintro; exact W.zm.read_unread _); iexact H0)
      isplitl [H1]; · (iexists _; isplitr; (· ipureintro; exact W.zh.read_unread _); iexact H1)
      isplitl [H2]; · (iexists _; isplitr; (· ipureintro; exact W.x.read_unread _); iexact H2)
      isplitl [H3]; · (iexists _; isplitr; (· ipureintro; exact W.gate.read_unread _); iexact H3)
      isplitl [H4]; · (iexists _; isplitr; (· ipureintro; exact W.wConv.read_unread _); iexact H4)
      isplitl [H5]; · (iexists _; isplitr; (· ipureintro; exact W.wDw.read_unread _); iexact H5)
      isplitl [H6]; · (iexists _; isplitr; (· ipureintro; exact W.vec.read_unread _); iexact H6)
      isplitl [H7]; · (iexists _; isplitr; (· ipureintro; exact W.wPool.read_unread _); iexact H7)
      isplitl [H8]; · (iexists _; isplitr; (· ipureintro; exact W.wPw.read_unread _); iexact H8)
      isplitl [H9]; · (iexists _; isplitr; (· ipureintro; exact W.wS.read_unread _); iexact H9)
      isplitl [H10]; · (iexists _; isplitr; (· ipureintro; exact W.bS.read_unread _); iexact H10)
      isplitl [H11]; · (iexists _; isplitr; (· ipureintro; exact W.wOut.read_unread _); iexact H11)
      isplitl [H12]; · (iexists _; isplitr; (· ipureintro; exact W.scale.read_unread _); iexact H12)
      iexists _; isplitr; (· ipureintro; exact W.target.read_unread _)
      iexact H13
    isplitl [H14]; · iexists _; iexact H14
    isplitl [H15]; · iexists _; iexact H15
    isplitl [H16]; · iexists _; iexact H16
    isplitl [H17]; · iexists _; iexact H17
    isplitl [H18 H19 H21]
    · isplitl [H18]; · (iexists _; iexists _; isplitr; swap; (· iexact H18); ipureintro; rfl)
      isplitl [H19]; · (iexists _; iexists _; isplitr; swap; (· iexact H19); ipureintro; rfl)
      iexists _; iexists _; isplitr; swap; (· iexact H21); ipureintro; rfl
    isplitl [H20]; · iexists _; iexact H20
    iexists _; iexact H22

end Cert.MixHead
-- ==== Proof.MixHead.Visit.lean ====
module

public import proofs.«01_k».proof.Proof.MixHead.Run

/-!
# What a visit leaves

The stores of a visit cover every buffer that anything is carried in, so what such a buffer holds afterwards is a
function of the visit's inputs and of what the visit before left.
-/

@[expose] public section

set_option maxRecDepth 16384

noncomputable section

namespace Cert.MixHead

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The stores cover every buffer that each visit writes. -/
structure Covers (L : Stores F) : Prop where
  dx : ∀ y, ∃ p ∈ L.dx, y ∈ p.1.set
  oc : ∀ y, ∃ p ∈ L.oc, y ∈ p.1.set
  before : ∀ y, ∃ p ∈ L.before, y ∈ p.1.set
  acc : ∀ y, ∃ p ∈ L.acc, y ∈ p.1.set

/-- The contents after the stores `L`. -/
def after (L : Stores F) : State F where
  dx := View.canon L.dx
  oc := View.canon L.oc
  loss := View.canon L.loss
  dg := View.canon L.dg
  before := View.canon L.before
  acc := View.canon L.acc

theorem coversA (c : Dev nD) (i : grid0.Coords) (R : Refs) (W : R.Whole) (h0 : first i) (h1 : ¬last i) (x : Blocks F) :
    Covers (runA c i R W h0 h1 x).1 where
  dx := View.cover_of_tiledL _ S512x1024.size (by sl_kernel_rfl)
  oc := View.cover_of_tiledL _ S128x256.size (by sl_kernel_rfl)
  before := View.cover_of_tiledL _ S512x1024.size (by sl_kernel_rfl)
  acc := View.cover_of_wholeMem _ (by sl_whole_mem)

/-- What the first visit leaves. -/
def atFirst (c : Dev nD) (i : grid0.Coords) (R : Refs) (W : R.Whole) (h0 : first i) (h1 : ¬last i) (x : Blocks F) : State F :=
  after (runA c i R W h0 h1 x).1

theorem coversB (c : Dev nD) (i : grid0.Coords) (R : Refs) (W : R.Whole) (h0 : ¬first i) (h1 : ¬last i) (x : Blocks F) (s : State F) :
    Covers (runB c i R W h0 h1 x s).1 where
  dx := View.cover_of_tiledL _ S512x1024.size (by sl_kernel_rfl)
  oc := View.cover_of_tiledL _ S128x256.size (by sl_kernel_rfl)
  before := View.cover_of_tiledL _ S512x1024.size (by sl_kernel_rfl)
  acc := View.cover_of_tiledL _ S1x8x1024.size (by sl_kernel_rfl)

/-- What the middle visit leaves. -/
def atMiddle (c : Dev nD) (i : grid0.Coords) (R : Refs) (W : R.Whole) (h0 : ¬first i) (h1 : ¬last i) (x : Blocks F) (s : State F) : State F :=
  after (runB c i R W h0 h1 x s).1

theorem coversC (c : Dev nD) (i : grid0.Coords) (R : Refs) (W : R.Whole) (h0 : ¬first i) (h1 : last i) (x : Blocks F) (s : State F) :
    Covers (runC c i R W h0 h1 x s).1 where
  dx := View.cover_of_tiledL _ S512x1024.size (by sl_kernel_rfl)
  oc := View.cover_of_tiledL _ S128x256.size (by sl_kernel_rfl)
  before := View.cover_of_tiledL _ S512x1024.size (by sl_kernel_rfl)
  acc := View.cover_of_tiledL _ S1x8x1024.size (by sl_kernel_rfl)

theorem coversC_loss (c : Dev nD) (i : grid0.Coords) (R : Refs) (W : R.Whole) (h0 : ¬first i) (h1 : last i) (x : Blocks F) (s : State F)
    (y : S8x128.Idx) : ∃ p ∈ (runC c i R W h0 h1 x s).1.loss, y ∈ p.1.set :=
  View.cover_of_tiledL (runC c i R W h0 h1 x s).1.loss S8x128.size (by sl_kernel_rfl) y

theorem coversC_dg (c : Dev nD) (i : grid0.Coords) (R : Refs) (W : R.Whole) (h0 : ¬first i) (h1 : last i) (x : Blocks F) (s : State F)
    (y : S1x1024.Idx) : ∃ p ∈ (runC c i R W h0 h1 x s).1.dg, y ∈ p.1.set :=
  View.cover_of_tiledL (runC c i R W h0 h1 x s).1.dg S1x1024.size (by sl_kernel_rfl) y

/-- What the last visit leaves. -/
def atLast (c : Dev nD) (i : grid0.Coords) (R : Refs) (W : R.Whole) (h0 : ¬first i) (h1 : last i) (x : Blocks F) (s : State F) : State F :=
  after (runC c i R W h0 h1 x s).1

/-- The two outputs each visit writes afresh, at anything. -/
def loose (c : Dev nD) (R : Refs) : sProp 𝕄 :=
  iprop((∃ d, owns (c : Thread nD τ) R.dx fullShare d) ∗ (∃ d, owns (c : Thread nD τ) R.oc fullShare d))

/-- The kernel's own buffers, the carried two as the state says. -/
def held (c : Dev nD) (R : Refs) (s : State F) : sProp 𝕄 :=
  iprop((∃ d, owns (c : Thread nD τ) R.past fullShare d)
    ∗ (∃ d, owns (c : Thread nD τ) R.ycat fullShare d)
    ∗ owns (c : Thread nD τ) R.before fullShare s.before
    ∗ (∃ d, owns (c : Thread nD τ) R.xn fullShare d)
    ∗ owns (c : Thread nD τ) R.acc fullShare s.acc)

/-- The same buffers at anything. -/
def anyHeld (c : Dev nD) (R : Refs) : sProp 𝕄 :=
  iprop((∃ d, owns (c : Thread nD τ) R.past fullShare d)
    ∗ (∃ d, owns (c : Thread nD τ) R.ycat fullShare d)
    ∗ (∃ d, owns (c : Thread nD τ) R.before fullShare d)
    ∗ (∃ d, owns (c : Thread nD τ) R.xn fullShare d)
    ∗ (∃ d, owns (c : Thread nD τ) R.acc fullShare d))

/-- What a visit writes afresh and what it hands on. -/
def left (c : Dev nD) (R : Refs) (s : State F) : sProp 𝕄 :=
  iprop(owns (c : Thread nD τ) R.dx fullShare s.dx ∗ owns (c : Thread nD τ) R.oc fullShare s.oc ∗ held c R s)

attribute [local irreducible] runA runB runC

/-- A buffer whose stores cover it holds what they say. -/
theorem owns_stored {S : Shape} {e : EltTy} (c : Dev nD) (M : Memref sig .tc .vmem S e) (L : List (View.Piece (Elt F) S e))
    (h : ∀ y, ∃ p ∈ L, y ∈ p.1.set) :
    stored c M L ⊢ (owns (c : Thread nD τ) M fullShare (View.canon L) : sProp 𝕄) := by
  unfold stored
  iintro ⟨%f, H⟩
  unfold owns
  iexists _; isplitr
  swap; · iexact H
  ipureintro; exact View.read_writes_eq_canon _ _ _ h

set_option maxHeartbeats 4000000 in
/-- The first visit, from what it finds to what it leaves. -/
theorem visitFirst (c : Dev nD) (i : grid0.Coords) (R : Refs) (W : R.Whole) (h0 : first i) (h1 : ¬last i) (x : Blocks F)
    (d : Vec F S8x128 .f32) (d' : Vec F S1x1024 .f32) (E : Set ℕ) (K : PUnit → sProp 𝕄) :
    iprop(inputs c R x ∗ loose c R ∗ owns (c : Thread nD τ) R.loss fullShare d ∗ owns (c : Thread nD τ) R.dg fullShare d' ∗ anyHeld c R
        ∗ (iprop(inputs c R x ∗ owns (c : Thread nD τ) R.loss fullShare d ∗ owns (c : Thread nD τ) R.dg fullShare d'
          ∗ left c R (atFirst c i R W h0 h1 x)) -∗ K ⟨⟩))
      ⊢ wp frame (wpE (defs₀ (F := F)) Variants.none c none) E (body F i R W) K := by
  unfold loose anyHeld
  iintro ⟨HI, ⟨H14, H15⟩, H16, H17, ⟨HS0, HS1, HS2, HS3, HS4⟩, Hk⟩
  iapply ((runA c i R W h0 h1 x).2 d d' E K)
  isplitl [HI]; · iexact HI
  isplitl [H14]; · iexact H14
  isplitl [H15]; · iexact H15
  isplitl [H16]; · iexact H16
  isplitl [H17]; · iexact H17
  isplitl [HS0 HS1 HS3]
  · unfold scraps
    isplitl [HS0]; · iexact HS0
    isplitl [HS1]; · iexact HS1
    iexact HS3
  isplitl [HS2]; · iexact HS2
  isplitl [HS4]; · iexact HS4
  unfold scraps
  iintro ⟨HI, H14, H15, H16, H17, ⟨HS0, HS1, HS3⟩, HS2, HS4⟩
  iapply Hk
  isplitl [HI]; · iexact HI
  isplitl [H16]; · iexact H16
  isplitl [H17]; · iexact H17
  unfold left held
  dsimp only [atFirst, after]
  isplitl [H14]; · iapply (owns_stored c R.dx _ (coversA c i R W h0 h1 x).dx); iexact H14
  isplitl [H15]; · iapply (owns_stored c R.oc _ (coversA c i R W h0 h1 x).oc); iexact H15
  isplitl [HS0]; · iexact HS0
  isplitl [HS1]; · iexact HS1
  isplitl [HS2]; · iapply (owns_stored c R.before _ (coversA c i R W h0 h1 x).before); iexact HS2
  isplitl [HS3]; · iexact HS3
  iapply (owns_stored c R.acc _ (coversA c i R W h0 h1 x).acc); iexact HS4

set_option maxHeartbeats 4000000 in
/-- The middle visit, from what it finds to what it leaves. -/
theorem visitMiddle (c : Dev nD) (i : grid0.Coords) (R : Refs) (W : R.Whole) (h0 : ¬first i) (h1 : ¬last i) (x : Blocks F) (s : State F)
    (d : Vec F S8x128 .f32) (d' : Vec F S1x1024 .f32) (E : Set ℕ) (K : PUnit → sProp 𝕄) :
    iprop(inputs c R x ∗ loose c R ∗ owns (c : Thread nD τ) R.loss fullShare d ∗ owns (c : Thread nD τ) R.dg fullShare d' ∗ held c R s
        ∗ (iprop(inputs c R x ∗ owns (c : Thread nD τ) R.loss fullShare d ∗ owns (c : Thread nD τ) R.dg fullShare d'
          ∗ left c R (atMiddle c i R W h0 h1 x s)) -∗ K ⟨⟩))
      ⊢ wp frame (wpE (defs₀ (F := F)) Variants.none c none) E (body F i R W) K := by
  unfold loose held
  iintro ⟨HI, ⟨H14, H15⟩, H16, H17, ⟨HS0, HS1, HS2, HS3, HS4⟩, Hk⟩
  iapply ((runB c i R W h0 h1 x s).2 d d' E K)
  isplitl [HI]; · iexact HI
  isplitl [H14]; · iexact H14
  isplitl [H15]; · iexact H15
  isplitl [H16]; · iexact H16
  isplitl [H17]; · iexact H17
  isplitl [HS0 HS1 HS3]
  · unfold scraps
    isplitl [HS0]; · iexact HS0
    isplitl [HS1]; · iexact HS1
    iexact HS3
  isplitl [HS2]; · iexact HS2
  isplitl [HS4]; · iexact HS4
  unfold scraps
  iintro ⟨HI, H14, H15, H16, H17, ⟨HS0, HS1, HS3⟩, HS2, HS4⟩
  iapply Hk
  isplitl [HI]; · iexact HI
  isplitl [H16]; · iexact H16
  isplitl [H17]; · iexact H17
  unfold left held
  dsimp only [atMiddle, after]
  isplitl [H14]; · iapply (owns_stored c R.dx _ (coversB c i R W h0 h1 x s).dx); iexact H14
  isplitl [H15]; · iapply (owns_stored c R.oc _ (coversB c i R W h0 h1 x s).oc); iexact H15
  isplitl [HS0]; · iexact HS0
  isplitl [HS1]; · iexact HS1
  isplitl [HS2]; · iapply (owns_stored c R.before _ (coversB c i R W h0 h1 x s).before); iexact HS2
  isplitl [HS3]; · iexact HS3
  iapply (owns_stored c R.acc _ (coversB c i R W h0 h1 x s).acc); iexact HS4

set_option maxHeartbeats 4000000 in
/-- The last visit, from what it finds to what it leaves. -/
theorem visitLast (c : Dev nD) (i : grid0.Coords) (R : Refs) (W : R.Whole) (h0 : ¬first i) (h1 : last i) (x : Blocks F) (s : State F)
    (E : Set ℕ) (K : PUnit → sProp 𝕄) :
    iprop(inputs c R x ∗ loose c R ∗ (∃ d, owns (c : Thread nD τ) R.loss fullShare d) ∗ (∃ d, owns (c : Thread nD τ) R.dg fullShare d) ∗ held c R s
        ∗ (iprop(inputs c R x ∗ owns (c : Thread nD τ) R.loss fullShare (atLast c i R W h0 h1 x s).loss ∗ owns (c : Thread nD τ) R.dg fullShare (atLast c i R W h0 h1 x s).dg
          ∗ left c R (atLast c i R W h0 h1 x s)) -∗ K ⟨⟩))
      ⊢ wp frame (wpE (defs₀ (F := F)) Variants.none c none) E (body F i R W) K := by
  unfold loose held
  iintro ⟨HI, ⟨H14, H15⟩, H16, H17, ⟨HS0, HS1, HS2, HS3, HS4⟩, Hk⟩
  iapply ((runC c i R W h0 h1 x s).2 E K)
  isplitl [HI]; · iexact HI
  isplitl [H14]; · iexact H14
  isplitl [H15]; · iexact H15
  isplitl [H16]; · iexact H16
  isplitl [H17]; · iexact H17
  isplitl [HS0 HS1 HS3]
  · unfold scraps
    isplitl [HS0]; · iexact HS0
    isplitl [HS1]; · iexact HS1
    iexact HS3
  isplitl [HS2]; · iexact HS2
  isplitl [HS4]; · iexact HS4
  unfold scraps
  iintro ⟨HI, H14, H15, H16, H17, ⟨HS0, HS1, HS3⟩, HS2, HS4⟩
  iapply Hk
  isplitl [HI]; · iexact HI
  isplitl [H16]; · iapply (owns_stored c R.loss _ (coversC_loss c i R W h0 h1 x s)); iexact H16
  isplitl [H17]; · iapply (owns_stored c R.dg _ (coversC_dg c i R W h0 h1 x s)); iexact H17
  unfold left held
  dsimp only [atLast, after]
  isplitl [H14]; · iapply (owns_stored c R.dx _ (coversC c i R W h0 h1 x s).dx); iexact H14
  isplitl [H15]; · iapply (owns_stored c R.oc _ (coversC c i R W h0 h1 x s).oc); iexact H15
  isplitl [HS0]; · iexact HS0
  isplitl [HS1]; · iexact HS1
  isplitl [HS2]; · iapply (owns_stored c R.before _ (coversC c i R W h0 h1 x s).before); iexact HS2
  isplitl [HS3]; · iexact HS3
  iapply (owns_stored c R.acc _ (coversC c i R W h0 h1 x s).acc); iexact HS4

end Cert.MixHead
-- ==== Proof.MixHead.Frame.lean ====
module

public import proofs.«01_k».proof.Proof.MixHead.Visit
public import Idealize.ShloMosaic.Lib.Claim

/-!
# The frame of the mixers with the loss head

The visits of the grid put together: the buffers of each visit, what each leaves, and the launch around them.
-/

@[expose] public section

set_option maxRecDepth 16384

noncomputable section

namespace Cert.MixHead

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (a : Loc nD τ sig) → Buf (Elt F) a) (ρ : Dev nD → PrngReg)

theorem first_iff : ∀ t : Fin cfg0.N, first (grid0.coords t) ↔ t.val = 0 :=
  (fun t => by
    have ht : t.val < 33 := Nat.lt_of_lt_of_eq t.isLt N_0
    have e0 : (grid0.coords t 0).val = t.val / 1 % 33 := Pipeline.Grid.coords_val t 0 (by decide) rfl
    have e1 : t.val = 0 ↔ t.val % 33 = 0 := by omega
    rw [e1]
    simp only [first, e0]
    word_cmp
   : ∀ t : Fin grid0.N, first (grid0.coords t) ↔ t.val = 0)

theorem last_iff : ∀ t : Fin cfg0.N, last (grid0.coords t) ↔ t.val = 32 :=
  (fun t => by
    have ht : t.val < 33 := Nat.lt_of_lt_of_eq t.isLt N_0
    have e0 : (grid0.coords t 0).val = t.val / 1 % 33 := Pipeline.Grid.coords_val t 0 (by decide) rfl
    have e1 : t.val = 32 ↔ t.val % 33 = 32 := by omega
    rw [e1]
    simp only [last, k0_cond2, e0]
    word_cmp
   : ∀ t : Fin grid0.N, last (grid0.coords t) ↔ t.val = 32)

theorem idle_loss : ∀ t : Fin cfg0.N, ¬last (grid0.coords t) → cfg0.idle 16 (grid0.coords t) = true := by decide +kernel

theorem live_loss : ∀ t : Fin cfg0.N, last (grid0.coords t) → cfg0.idle 16 (grid0.coords t) = false := by decide +kernel

theorem idle_dg : ∀ t : Fin cfg0.N, ¬last (grid0.coords t) → cfg0.idle 17 (grid0.coords t) = true := by decide +kernel

theorem live_dg : ∀ t : Fin cfg0.N, last (grid0.coords t) → cfg0.idle 17 (grid0.coords t) = false := by decide +kernel

/-- The buffers of the visit `t`. -/
abbrev refs (t : Fin cfg0.N) : Refs where
  zm := win0_0.stage (cfg0.slots t 0)
  zh := win0_1.stage (cfg0.slots t 1)
  x := win0_2.stage (cfg0.slots t 2)
  gate := win0_3.stage (cfg0.slots t 3)
  wConv := win0_4.stage (cfg0.slots t 4)
  wDw := win0_5.stage (cfg0.slots t 5)
  vec := win0_6.stage (cfg0.slots t 6)
  wPool := win0_7.stage (cfg0.slots t 7)
  wPw := win0_8.stage (cfg0.slots t 8)
  wS := win0_9.stage (cfg0.slots t 9)
  bS := win0_10.stage (cfg0.slots t 10)
  wOut := win0_11.stage (cfg0.slots t 11)
  scale := win0_12.stage (cfg0.slots t 12)
  target := win0_13.stage (cfg0.slots t 13)
  dx := win0_14.stage (cfg0.slots t 14)
  oc := win0_15.stage (cfg0.slots t 15)
  loss := win0_16.stage (cfg0.slots t 16)
  dg := win0_17.stage (cfg0.slots t 17)
  past := Memref.whole cc0_scratch0
  ycat := Memref.whole cc0_scratch1
  before := Memref.whole cc0_scratch2
  xn := Memref.whole cc0_scratch3
  acc := Memref.whole cc0_scratch4

theorem whole (t : Fin cfg0.N) : (refs t).Whole where
  zm := hstage0_0 ((cfg0.slots t 0).cast nbuf0_0)
  zh := hstage0_1 ((cfg0.slots t 1).cast nbuf0_1)
  x := hstage0_2 ((cfg0.slots t 2).cast nbuf0_2)
  gate := hstage0_3 ((cfg0.slots t 3).cast nbuf0_3)
  wConv := hstage0_4 ((cfg0.slots t 4).cast nbuf0_4)
  wDw := hstage0_5 ((cfg0.slots t 5).cast nbuf0_5)
  vec := hstage0_6 ((cfg0.slots t 6).cast nbuf0_6)
  wPool := hstage0_7 ((cfg0.slots t 7).cast nbuf0_7)
  wPw := hstage0_8 ((cfg0.slots t 8).cast nbuf0_8)
  wS := hstage0_9 ((cfg0.slots t 9).cast nbuf0_9)
  bS := hstage0_10 ((cfg0.slots t 10).cast nbuf0_10)
  wOut := hstage0_11 ((cfg0.slots t 11).cast nbuf0_11)
  scale := hstage0_12 ((cfg0.slots t 12).cast nbuf0_12)
  target := hstage0_13 ((cfg0.slots t 13).cast nbuf0_13)
  dx := hstage0_14 ((cfg0.slots t 14).cast nbuf0_14)
  oc := hstage0_15 ((cfg0.slots t 15).cast nbuf0_15)
  loss := hstage0_16 ((cfg0.slots t 16).cast nbuf0_16)
  dg := hstage0_17 ((cfg0.slots t 17).cast nbuf0_17)
  past := Memref.isWhole_whole _
  ycat := Memref.isWhole_whole _
  before := Memref.isWhole_whole _
  xn := Memref.isWhole_whole _
  acc := Memref.isWhole_whole _

/-- The blocks of the inputs at the visit `t`. -/
abbrev blocks (c : Dev nD) (t : Fin cfg0.N) : Blocks F where
  zm := iblk m c 0 t
  zh := iblk m c 1 t
  x := iblk m c 2 t
  gate := iblk m c 3 t
  wConv := iblk m c 4 t
  wDw := iblk m c 5 t
  vec := iblk m c 6 t
  wPool := iblk m c 7 t
  wPw := iblk m c 8 t
  wS := iblk m c 9 t
  bS := iblk m c 10 t
  wOut := iblk m c 11 t
  scale := iblk m c 12 t
  target := iblk m c 13 t

/-- What the visit `n` leaves. -/
def leftAt (c : Dev nD) : (n : ℕ) → n < cfg0.N → State F
  | 0, h => atFirst c (grid0.coords ⟨0, h⟩) (refs ⟨0, h⟩) (whole ⟨0, h⟩) ((first_iff ⟨0, h⟩).mpr rfl)
      (fun e => Nat.noConfusion ((last_iff ⟨0, h⟩).mp e)) (blocks m c ⟨0, h⟩)
  | n + 1, h =>
    if e : n + 1 = 32 then
      atLast c (grid0.coords ⟨n + 1, h⟩) (refs ⟨n + 1, h⟩) (whole ⟨n + 1, h⟩)
        (fun e => absurd ((first_iff ⟨n + 1, h⟩).mp e) (Nat.succ_ne_zero n)) ((last_iff ⟨n + 1, h⟩).mpr e)
        (blocks m c ⟨n + 1, h⟩) (leftAt c n (Nat.lt_of_succ_lt h))
    else
      atMiddle c (grid0.coords ⟨n + 1, h⟩) (refs ⟨n + 1, h⟩) (whole ⟨n + 1, h⟩)
        (fun e => absurd ((first_iff ⟨n + 1, h⟩).mp e) (Nat.succ_ne_zero n)) (fun e' => e ((last_iff ⟨n + 1, h⟩).mp e'))
        (blocks m c ⟨n + 1, h⟩) (leftAt c n (Nat.lt_of_succ_lt h))

/-- What the visit before `t` leaves. -/
abbrev leftBefore (c : Dev nD) (t : Fin cfg0.N) : State F := leftAt m c (t.val - 1) (Nat.lt_of_le_of_lt (Nat.sub_le _ _) t.isLt)

theorem leftAt_first (c : Dev nD) (t : Fin cfg0.N) (h0 : first (grid0.coords t)) (h1 : ¬last (grid0.coords t)) :
    leftAt m c t.val t.isLt = atFirst c (grid0.coords t) (refs t) (whole t) h0 h1 (blocks m c t) := by
  have h := (first_iff t).mp h0
  obtain ⟨n, hn⟩ := t
  obtain rfl : n = 0 := h
  rfl

theorem leftAt_middle (c : Dev nD) (t : Fin cfg0.N) (h0 : ¬first (grid0.coords t)) (h1 : ¬last (grid0.coords t)) :
    leftAt m c t.val t.isLt = atMiddle c (grid0.coords t) (refs t) (whole t) h0 h1 (blocks m c t) (leftBefore m c t) := by
  have h := (first_iff t).not.mp h0
  have h' := (last_iff t).not.mp h1
  obtain ⟨n, hn⟩ := t
  cases n with
  | zero => exact absurd rfl h
  | succ n => exact dif_neg h'

theorem leftAt_last (c : Dev nD) (t : Fin cfg0.N) (h0 : ¬first (grid0.coords t)) (h1 : last (grid0.coords t)) :
    leftAt m c t.val t.isLt = atLast c (grid0.coords t) (refs t) (whole t) h0 h1 (blocks m c t) (leftBefore m c t) := by
  have h := (first_iff t).not.mp h0
  have h' := (last_iff t).mp h1
  obtain ⟨n, hn⟩ := t
  cases n with
  | zero => exact absurd rfl h
  | succ n => exact dif_pos h'

/-- The kernel's own buffers, as the state says. -/
def kept (c : Dev nD) (s : State F) : sProp 𝕄 :=
  iprop(iprop((∃ d, owns (c : Thread nD τ) (Memref.whole cc0_scratch0) fullShare d)
    ∗ (∃ d, owns (c : Thread nD τ) (Memref.whole cc0_scratch1) fullShare d)
    ∗ owns (c : Thread nD τ) (Memref.whole cc0_scratch2) fullShare s.before
    ∗ (∃ d, owns (c : Thread nD τ) (Memref.whole cc0_scratch3) fullShare d)
    ∗ owns (c : Thread nD τ) (Memref.whole cc0_scratch4) fullShare s.acc)
    ∗ (∃ r, prngReg c r))

/-- What holds between the visits. -/
def between (c : Dev nD) : (n : ℕ) → n ≤ cfg0.N → sProp 𝕄
  | 0, _ => Pipeline.ΦA spec0 c
  | n + 1, h => kept c (leftAt m c n h)

theorem between_first (c : Dev nD) (n : ℕ) (h : n ≤ cfg0.N) (e : n = 0) : between m c n h = Pipeline.ΦA spec0 c := by
  subst e; rfl

theorem between_later (c : Dev nD) (n : ℕ) (h : n ≤ cfg0.N) (e : n ≠ 0) :
    between m c n h = kept c (leftAt m c (n - 1) (by omega)) := by
  cases n with
  | zero => exact absurd rfl e
  | succ n => rfl

theorem scratch_eq (c : Dev nD) : (Pipeline.ΦA spec0 c : sProp 𝕄)
    = iprop(iprop((∃ d, owns (c : Thread nD τ) (Memref.whole cc0_scratch0) fullShare d)
    ∗ (∃ d, owns (c : Thread nD τ) (Memref.whole cc0_scratch1) fullShare d)
    ∗ (∃ d, owns (c : Thread nD τ) (Memref.whole cc0_scratch2) fullShare d)
    ∗ (∃ d, owns (c : Thread nD τ) (Memref.whole cc0_scratch3) fullShare d)
    ∗ (∃ d, owns (c : Thread nD τ) (Memref.whole cc0_scratch4) fullShare d))
    ∗ (∃ r, prngReg c r)) := by
  unfold Pipeline.ΦA; rw [scopedRest0_eq]; simp only [owns_whole]; try rfl

/-- The data of the launch. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => (leftAt m c t.val t.isLt).dx
    | ⟨15, _⟩ => (leftAt m c t.val t.isLt).oc
    | ⟨16, _⟩ => (leftAt m c t.val t.isLt).loss
    | ⟨17, _⟩ => (leftAt m c t.val t.isLt).dg
    | ⟨_ + 18, h⟩ => absurd h (Nat.not_lt.2 (Nat.le_add_left _ _))
  Φ t := between m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem Φ_castSucc (c : Dev nD) (t : Fin cfg0.N) :
    (dats m 0 c).Φ t.castSucc = between m c t.val (Nat.le_of_lt t.isLt) := by
  dsimp only [dats]; exact Pipeline.Dat.Φ_castSucc (between m c) t

theorem leaves_live (c : Dev nD) (w : Fin cfg0.W) (t : Fin cfg0.N) (h : cfg0.idle w (grid0.coords t) = false) :
    (dats m 0 c).leavesExact w t
      = owns (c : Thread nD τ) ((cfg0.win w).stage (cfg0.slots t w)) fullShare ((dats m 0 c).after w t) := by
  unfold Dat.leavesExact; rw [h]

/-- What a visit is given, window by window. -/
def given (c : Dev nD) (t : Fin cfg0.N) : sProp 𝕄 :=
  iprop((dats m 0 c).Φ t.castSucc ∗ (dats m 0 c).owesAt () t.castSucc
    ∗ (∃ d, owns (c : Thread nD τ) (refs t).zm fullShare ((dats m 0 c).before 0 t d))
    ∗ (∃ d, owns (c : Thread nD τ) (refs t).zh fullShare ((dats m 0 c).before 1 t d))
    ∗ (∃ d, owns (c : Thread nD τ) (refs t).x fullShare ((dats m 0 c).before 2 t d))
    ∗ (∃ d, owns (c : Thread nD τ) (refs t).gate fullShare ((dats m 0 c).before 3 t d))
    ∗ (∃ d, owns (c : Thread nD τ) (refs t).wConv fullShare ((dats m 0 c).before 4 t d))
    ∗ (∃ d, owns (c : Thread nD τ) (refs t).wDw fullShare ((dats m 0 c).before 5 t d))
    ∗ (∃ d, owns (c : Thread nD τ) (refs t).vec fullShare ((dats m 0 c).before 6 t d))
    ∗ (∃ d, owns (c : Thread nD τ) (refs t).wPool fullShare ((dats m 0 c).before 7 t d))
    ∗ (∃ d, owns (c : Thread nD τ) (refs t).wPw fullShare ((dats m 0 c).before 8 t d))
    ∗ (∃ d, owns (c : Thread nD τ) (refs t).wS fullShare ((dats m 0 c).before 9 t d))
    ∗ (∃ d, owns (c : Thread nD τ) (refs t).bS fullShare ((dats m 0 c).before 10 t d))
    ∗ (∃ d, owns (c : Thread nD τ) (refs t).wOut fullShare ((dats m 0 c).before 11 t d))
    ∗ (∃ d, owns (c : Thread nD τ) (refs t).scale fullShare ((dats m 0 c).before 12 t d))
    ∗ (∃ d, owns (c : Thread nD τ) (refs t).target fullShare ((dats m 0 c).before 13 t d))
    ∗ (∃ d, owns (c : Thread nD τ) (refs t).dx fullShare ((dats m 0 c).before 14 t d))
    ∗ (∃ d, owns (c : Thread nD τ) (refs t).oc fullShare ((dats m 0 c).before 15 t d))
    ∗ (∃ d, owns (c : Thread nD τ) (refs t).loss fullShare ((dats m 0 c).before 16 t d))
    ∗ (∃ d, owns (c : Thread nD τ) (refs t).dg fullShare ((dats m 0 c).before 17 t d)))

/-- What a visit returns, window by window. -/
def returned (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t ∗ (dats m 0 c).leavesExact 7 t ∗ (dats m 0 c).leavesExact 8 t
    ∗ (dats m 0 c).leavesExact 9 t ∗ (dats m 0 c).leavesExact 10 t ∗ (dats m 0 c).leavesExact 11 t
    ∗ (dats m 0 c).leavesExact 12 t ∗ (dats m 0 c).leavesExact 13 t ∗ (dats m 0 c).leavesExact 14 t
    ∗ (dats m 0 c).leavesExact 15 t ∗ (dats m 0 c).leavesExact 16 t ∗ (dats m 0 c).leavesExact 17 t)

/-- The windows taken apart: the inputs hold their blocks. -/
theorem given_open (c : Dev nD) (t : Fin cfg0.N) :
    given m c t ⊢ iprop(between m c t.val (Nat.le_of_lt t.isLt) ∗ (dats m 0 c).owesAt () t.castSucc
      ∗ inputs c (refs t) (blocks m c t)
      ∗ (∃ d, owns (c : Thread nD τ) (refs t).dx fullShare ((dats m 0 c).before 14 t d))
      ∗ (∃ d, owns (c : Thread nD τ) (refs t).oc fullShare ((dats m 0 c).before 15 t d))
      ∗ (∃ d, owns (c : Thread nD τ) (refs t).loss fullShare ((dats m 0 c).before 16 t d))
      ∗ (∃ d, owns (c : Thread nD τ) (refs t).dg fullShare ((dats m 0 c).before 17 t d))) := by
  unfold given inputs
  rw [Φ_castSucc]
  simp only [before0_0_of m (dats m 0 c) (A_eq m c 0) (fun t => by dsimp only [dats]),
    before0_1_of m (dats m 0 c) (A_eq m c 1) (fun t => by dsimp only [dats]),
    before0_2_of m (dats m 0 c) (A_eq m c 2) (fun t => by dsimp only [dats]),
    before0_3_of m (dats m 0 c) (A_eq m c 3) (fun t => by dsimp only [dats]),
    before0_4_of m (dats m 0 c) (A_eq m c 4) (fun t => by dsimp only [dats]),
    before0_5_of m (dats m 0 c) (A_eq m c 5) (fun t => by dsimp only [dats]),
    before0_6_of m (dats m 0 c) (A_eq m c 6) (fun t => by dsimp only [dats]),
    before0_7_of m (dats m 0 c) (A_eq m c 7) (fun t => by dsimp only [dats]),
    before0_8_of m (dats m 0 c) (A_eq m c 8) (fun t => by dsimp only [dats]),
    before0_9_of m (dats m 0 c) (A_eq m c 9) (fun t => by dsimp only [dats]),
    before0_10_of m (dats m 0 c) (A_eq m c 10) (fun t => by dsimp only [dats]),
    before0_11_of m (dats m 0 c) (A_eq m c 11) (fun t => by dsimp only [dats]),
    before0_12_of m (dats m 0 c) (A_eq m c 12) (fun t => by dsimp only [dats]),
    before0_13_of m (dats m 0 c) (A_eq m c 13) (fun t => by dsimp only [dats])]
  iintro ⟨Hb, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩,
    ⟨%d9, H9⟩, ⟨%d10, H10⟩, ⟨%d11, H11⟩, ⟨%d12, H12⟩, ⟨%d13, H13⟩, Hrest⟩
  isplitl [Hb]; · iexact Hb
  isplitl [Ho]; · iexact Ho
  isplitl [H0 H1 H2 H3 H4 H5 H6 H7 H8 H9 H10 H11 H12 H13]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  iexact Hrest

/-- What a visit leaves, given back window by window. -/
theorem returned_close (c : Dev nD) (t : Fin cfg0.N) :
    iprop((dats m 0 c).owesAt () t.castSucc ∗ inputs c (refs t) (blocks m c t)
      ∗ left c (refs t) (leftAt m c t.val t.isLt) ∗ (dats m 0 c).leavesExact 16 t ∗ (dats m 0 c).leavesExact 17 t
      ∗ (∃ r, prngReg c r)) ⊢ returned m c t := by
  unfold returned inputs left held
  rw [show (dats m 0 c).owesAt () t.succ = (dats m 0 c).owesAt () t.castSucc from rfl, show (dats m 0 c).Φ t.succ =
    kept c (leftAt m c t.val t.isLt) from rfl, leaves_live m c 0 t rfl, leaves_live m c 1 t rfl, leaves_live m c 2 t
    rfl, leaves_live m c 3 t rfl, leaves_live m c 4 t rfl, leaves_live m c 5 t rfl, leaves_live m c 6 t rfl,
    leaves_live m c 7 t rfl, leaves_live m c 8 t rfl, leaves_live m c 9 t rfl, leaves_live m c 10 t rfl, leaves_live m
    c 11 t rfl, leaves_live m c 12 t rfl, leaves_live m c 13 t rfl, leaves_live m c 14 t rfl, leaves_live m c 15 t
    rfl]
  unfold kept
  iintro ⟨Ho, ⟨H0, H1, H2, H3, H4, H5, H6, H7, H8, H9, H10, H11, H12, H13⟩, ⟨H14, H15, HS0, HS1, HS2, HS3, HS4⟩, H16,
    H17, Hg⟩
  isplitl [HS0 HS1 HS2 HS3 HS4 Hg]
  · isplitr [Hg]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

/-- The last two outputs are not written back before the last visit. -/
theorem unflushed (t : Fin cfg0.N) (h1 : ¬last (grid0.coords t)) : ¬t.val % 33 = 32 := fun e =>
  h1 ((last_iff t).mpr (by have hN : t.val < 33 := Nat.lt_of_lt_of_eq t.isLt N_0; omega))

set_option maxHeartbeats 4000000 in
theorem visit_first (c : Dev nD) (t : Fin cfg0.N) (h0 : first (grid0.coords t)) (h1 : ¬last (grid0.coords t)) :
    given m c t ⊢ wp frame (wpE (defs₀ (F := F)) Variants.none c none) Set.univ (bodyAt0 t) (fun _ => returned m c t) := by
  refine (given_open m c t).trans ?_
  rw [between_first m c _ _ ((first_iff t).mp h0), scratch_eq]
  iintro ⟨⟨⟨HS0, HS1, HS2, HS3, HS4⟩, Hg⟩, Ho, HI, ⟨%d14, H14⟩, ⟨%d15, H15⟩, ⟨%d16, H16⟩, ⟨%d17, H17⟩⟩
  iapply (visitFirst c (grid0.coords t) (refs t) (whole t) h0 h1 (blocks m c t) ((dats m 0 c).before 16 t d16)
    ((dats m 0 c).before 17 t d17) Set.univ (fun _ => returned m c t))
  isplitl [HI]; · iexact HI
  isplitl [H14 H15]
  · unfold loose
    isplitl [H14]; · iexists _; iexact H14
    iexists _; iexact H15
  isplitl [H16]; · iexact H16
  isplitl [H17]; · iexact H17
  isplitl [HS0 HS1 HS2 HS3 HS4]
  · unfold anyHeld
    isplitl [HS0]; · iexact HS0
    isplitl [HS1]; · iexact HS1
    isplitl [HS2]; · iexact HS2
    isplitl [HS3]; · iexact HS3
    iexact HS4
  iintro ⟨HI, H16, H17, HL⟩
  iapply (returned_close m c t)
  isplitl [Ho]; · iexact Ho
  isplitl [HI]; · iexact HI
  isplitl [HL]; · rw [leftAt_first m c t h0 h1]; iexact HL
  isplitl [H16]
  · rw [Dat.leavesExact_idle (dats m 0 c) 16 t (idle_loss t h1)
      (Bool.eq_false_iff.mpr fun e => unflushed t h1 ((flush0_16 t).mp e))]
    iexists _; iexact H16
  isplitl [H17]
  · rw [Dat.leavesExact_idle (dats m 0 c) 17 t (idle_dg t h1)
      (Bool.eq_false_iff.mpr fun e => unflushed t h1 ((flush0_17 t).mp e))]
    iexists _; iexact H17
  iexact Hg

set_option maxHeartbeats 4000000 in
theorem visit_middle (c : Dev nD) (t : Fin cfg0.N) (h0 : ¬first (grid0.coords t)) (h1 : ¬last (grid0.coords t)) :
    given m c t ⊢ wp frame (wpE (defs₀ (F := F)) Variants.none c none) Set.univ (bodyAt0 t) (fun _ => returned m c t) := by
  refine (given_open m c t).trans ?_
  rw [between_later m c _ _ ((first_iff t).not.mp h0)]
  unfold kept
  iintro ⟨⟨⟨HS0, HS1, HS2, HS3, HS4⟩, Hg⟩, Ho, HI, ⟨%d14, H14⟩, ⟨%d15, H15⟩, ⟨%d16, H16⟩, ⟨%d17, H17⟩⟩
  iapply (visitMiddle c (grid0.coords t) (refs t) (whole t) h0 h1 (blocks m c t) (leftBefore m c t) ((dats m 0 c).before 16 t d16)
    ((dats m 0 c).before 17 t d17) Set.univ (fun _ => returned m c t))
  isplitl [HI]; · iexact HI
  isplitl [H14 H15]
  · unfold loose
    isplitl [H14]; · iexists _; iexact H14
    iexists _; iexact H15
  isplitl [H16]; · iexact H16
  isplitl [H17]; · iexact H17
  isplitl [HS0 HS1 HS2 HS3 HS4]
  · unfold held
    isplitl [HS0]; · iexact HS0
    isplitl [HS1]; · iexact HS1
    isplitl [HS2]; · iexact HS2
    isplitl [HS3]; · iexact HS3
    iexact HS4
  iintro ⟨HI, H16, H17, HL⟩
  iapply (returned_close m c t)
  isplitl [Ho]; · iexact Ho
  isplitl [HI]; · iexact HI
  isplitl [HL]; · rw [leftAt_middle m c t h0 h1]; iexact HL
  isplitl [H16]
  · rw [Dat.leavesExact_idle (dats m 0 c) 16 t (idle_loss t h1)
      (Bool.eq_false_iff.mpr fun e => unflushed t h1 ((flush0_16 t).mp e))]
    iexists _; iexact H16
  isplitl [H17]
  · rw [Dat.leavesExact_idle (dats m 0 c) 17 t (idle_dg t h1)
      (Bool.eq_false_iff.mpr fun e => unflushed t h1 ((flush0_17 t).mp e))]
    iexists _; iexact H17
  iexact Hg

set_option maxHeartbeats 4000000 in
theorem visit_last (c : Dev nD) (t : Fin cfg0.N) (h0 : ¬first (grid0.coords t)) (h1 : last (grid0.coords t)) :
    given m c t ⊢ wp frame (wpE (defs₀ (F := F)) Variants.none c none) Set.univ (bodyAt0 t) (fun _ => returned m c t) := by
  refine (given_open m c t).trans ?_
  rw [between_later m c _ _ ((first_iff t).not.mp h0)]
  unfold kept
  iintro ⟨⟨⟨HS0, HS1, HS2, HS3, HS4⟩, Hg⟩, Ho, HI, ⟨%d14, H14⟩, ⟨%d15, H15⟩, ⟨%d16, H16⟩, ⟨%d17, H17⟩⟩
  iapply (visitLast c (grid0.coords t) (refs t) (whole t) h0 h1 (blocks m c t) (leftBefore m c t) Set.univ (fun _ => returned m c t))
  isplitl [HI]; · iexact HI
  isplitl [H14 H15]
  · unfold loose
    isplitl [H14]; · iexists _; iexact H14
    iexists _; iexact H15
  isplitl [H16]; · iexists _; iexact H16
  isplitl [H17]; · iexists _; iexact H17
  isplitl [HS0 HS1 HS2 HS3 HS4]
  · unfold held
    isplitl [HS0]; · iexact HS0
    isplitl [HS1]; · iexact HS1
    isplitl [HS2]; · iexact HS2
    isplitl [HS3]; · iexact HS3
    iexact HS4
  iintro ⟨HI, H16, H17, HL⟩
  iapply (returned_close m c t)
  isplitl [Ho]; · iexact Ho
  isplitl [HI]; · iexact HI
  isplitl [HL]; · rw [leftAt_last m c t h0 h1]; iexact HL
  isplitl [H16]
  · rw [leaves_live m c 16 t (live_loss t h1), show (dats m 0 c).after 16 t = (leftAt m c t.val t.isLt).loss from rfl,
      leftAt_last m c t h0 h1]
    iexact H16
  isplitl [H17]
  · rw [leaves_live m c 17 t (live_dg t h1), show (dats m 0 c).after 17 t = (leftAt m c t.val t.isLt).dg from rfl,
      leftAt_last m c t h0 h1]
    iexact H17
  iexact Hg

theorem visit_any (c : Dev nD) (t : Fin cfg0.N) :
    given m c t ⊢ wp frame (wpE (defs₀ (F := F)) Variants.none c none) Set.univ (bodyAt0 t) (fun _ => returned m c t) := by
  by_cases h0 : first (grid0.coords t)
  · exact visit_first m c t h0 fun h1 => by
      have a := (first_iff t).mp h0
      have b := (last_iff t).mp h1
      omega
  · by_cases h1 : last (grid0.coords t)
    · exact visit_last m c t h0 h1
    · exact visit_middle m c t h0 h1

theorem proc_row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, proc_row]
  exact triple_restated (visit_any m c t) rfl .rfl fun _ => .rfl

theorem at_start (c : Dev nD) : Pipeline.ΦA spec0 c ⊢ (dats m 0 c).Φ 0 := by
  rw [show (dats m 0 c).Φ 0 = between m c 0 (Nat.zero_le _) from rfl, between_first m c 0 _ rfl]
  try exact Idealize.SL.BI.Entails.refl _

theorem at_end (c : Dev nD) : (dats m 0 c).Φ (Fin.last cfg0.N) ⊢ Pipeline.ΦA spec0 c := by
  rw [show (dats m 0 c).Φ (Fin.last cfg0.N) = between m c (Fin.last cfg0.N).val (Nat.le_of_lt_succ (Fin.last cfg0.N).isLt) from rfl,
    between_later m c _ _ (by rw [Fin.val_last]; have : cfg0.N = 33 := N_0; omega), scratch_eq]
  unfold kept
  iintro ⟨⟨HS0, HS1, HS2, HS3, HS4⟩, Hg⟩
  isplitl [HS0 HS1 HS2 HS3 HS4]
  · isplitl [HS0]; · iexact HS0
    isplitl [HS1]; · iexact HS1
    isplitl [HS2]; · iexists _; iexact HS2
    isplitl [HS3]; · iexact HS3
    iexists _; iexact HS4
  iexact Hg

set_option backward.isDefEq.respectTransparency.types false in
set_option maxHeartbeats 800000 in
/-- The launch: what the arrays hold at the end, every counter at zero. -/
theorem run_quiescent : θ_run defs (onTc (τ := τ) (main (F := F))) (s₀ m ρ) (fun r =>
    (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m)
    (hmain := hmain m Variants.none) (hA := A_eq m) (hin := at_start m) (hout := at_end m)

/-- What the arrays hold at the end. -/
theorem run_main : θ_run defs (onTc (τ := τ) (main (F := F))) (s₀ m ρ)
    (Pipeline.FramePost cfgs (dats m) 0 (V m)) :=
  (θ_run defs _ _).mono (fun _ h => h.1) (run_quiescent m ρ)

/-- The frame: the arguments end unchanged, every counter at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9) ∧
      r.2.mem ((c.tc : Thread nD τ).loc main_arg10) = m ((c.tc : Thread nD τ).loc main_arg10) ∧
      r.2.mem ((c.tc : Thread nD τ).loc main_arg11) = m ((c.tc : Thread nD τ).loc main_arg11) ∧
      r.2.mem ((c.tc : Thread nD τ).loc main_arg12) = m ((c.tc : Thread nD τ).loc main_arg12) ∧
      r.2.mem ((c.tc : Thread nD τ).loc main_arg13) = m ((c.tc : Thread nD τ).loc main_arg13) ∧
      r.2.mem ((c.tc : Thread nD τ).loc main_arg14) = m ((c.tc : Thread nD τ).loc main_arg14) ∧
      r.2.mem ((c.tc : Thread nD τ).loc main_arg15) = m ((c.tc : Thread nD τ).loc main_arg15) ∧
      r.2.mem ((c.tc : Thread nD τ).loc main_arg16) = m ((c.tc : Thread nD τ).loc main_arg16) ∧
      r.2.mem ((c.tc : Thread nD τ).loc main_arg17) = m ((c.tc : Thread nD τ).loc main_arg17) ∧
      r.2.mem ((c.tc : Thread nD τ).loc main_arg18) = m ((c.tc : Thread nD τ).loc main_arg18)) ∧ r.2.sem = fun _ => 0) :=
  θ_run_and (frame_of m ρ (dats m) (A_eq m) (run_main m ρ)) ((θ_run defs _ _).mono (fun _ h => h.2) (run_quiescent m ρ))

end Cert.MixHead
-- ==== Proof.MixHead.Frames.lean ====
module

public import proofs.«01_k».proof.Proof.MixHead.Frame
public import proofs.«01_k».proof.Proof.Gen.Kernel5.Frame
public import proofs.«01_k».proof.Defs

@[expose] public section

set_option maxRecDepth 16384

noncomputable section

namespace Cert.MixHead
open Idealize.ShloMosaic Idealize.ShloMosaic.Tactic

/-- The printed kernel's frame: its text is the ideal kernel's, read in the machine's numbers. -/
theorem frame_kernel : Cert.quiescent_Kernel5 := fun m ρ _ => by
  refine Eq.mp ?_ (frame_any (F := Bits) m ρ)
  sl_kernel_rfl

theorem frame_ideal : Cert.quiescent_Kernel5Ideal := fun m ρ _ => frame_any m ρ

end Cert.MixHead
-- ==== Proof.MixHead.Plain.lean ====
module

public import proofs.«01_k».proof.Proof.MixBwd.Rows
public import proofs.«01_k».proof.Proof.Common.Finite

/-!
# The gating mixer's output under the loss head, on real numbers

The arguments as real arrays, the mixer's output at a token, the token after the output projection, and the three results.
-/

@[expose] public section

noncomputable section

namespace Cert.MixHead

open Idealize.ShloMosaic
open Cert.MixBwd (gel th phi sgm nrm mean cen vari inv vari_pos head Rows c0 k0 e0)

/-- The arguments as real arrays. -/
structure Data where
  z : Fin 16384 → Fin 3072 → ℝ
  x : Fin 16384 → Fin 1024 → ℝ
  gate : Fin 1024 → ℝ
  scale : Fin 256 → ℝ
  shift : Fin 256 → ℝ
  w : Fin 4 → Fin 128 → Fin 128 → ℝ
  b : Fin 4 → Fin 128 → ℝ
  out : Fin 256 → Fin 1024 → ℝ
  g : Fin 1024 → ℝ
  target : Fin 16384 → Fin 1024 → ℝ

/-- Token `r` of chunk `j`, and a token's place in its chunk. -/
def tok (j : ℕ) (r : Fin 128) : Fin 16384 := ⟨(128 * j + r.val) % 16384, Nat.mod_lt _ (by decide)⟩
def pos (n : Fin 16384) : Fin 128 := ⟨n.val % 128, Nat.mod_lt _ (by decide)⟩

theorem tok_pos (n : Fin 16384) : tok (n.val / 128) (pos n) = n :=
  Fin.ext (show (128 * (n.val / 128) + n.val % 128) % 16384 = n.val by omega)

namespace Data

variable (X : Data)

/-- The rows of chunk `j`. -/
def rows (j : ℕ) : Rows where
  u r c := X.z (tok j r) ⟨2304 + c.val, by omega⟩
  v r c := X.z (tok j r) ⟨2560 + c.val, by omega⟩
  g r c := X.z (tok j r) ⟨2816 + c.val, by omega⟩
  dy _ _ := 0
  scale := X.scale
  shift := X.shift
  w h r t := if t.val ≤ r.val then X.w h r t else 0
  b := X.b

end Data
end Cert.MixHead

namespace Cert.MixBwd.Rows

/-- The mixer's output on a row. -/
def outp (R : Rows) (r : Fin 128) (c : Fin 256) : ℝ := gel (R.u r c) * R.mix r c * R.gate r c

end Cert.MixBwd.Rows

namespace Cert.MixHead
open Cert.MixBwd (gel th phi sgm nrm mean cen vari inv vari_pos head Rows c0 k0 e0)

namespace Data

variable (X : Data) (n : Fin 16384)

/-- The mixer's output at a token. -/
def yd (a : Fin 256) : ℝ := (X.rows (n.val / 128)).outp (pos n) a
/-- The token after the output projection. -/
def xn (k : Fin 1024) : ℝ := X.x n k + X.gate k * ∑ a, X.yd n a * X.out a k

/-- The mean square of a token, and its reciprocal root. -/
def ms (f : Fin 1024 → ℝ) : ℝ := (∑ k, f k * f k) * (1 / 1024) + e0
def rt (f : Fin 1024 → ℝ) : ℝ := (Real.sqrt (ms f))⁻¹

theorem ms_pos (f : Fin 1024 → ℝ) : 0 < ms f := by
  have h : 0 ≤ ∑ k, f k * f k := Finset.sum_nonneg fun k _ => mul_self_nonneg _
  unfold ms e0
  positivity
theorem rt_sq (f : Fin 1024 → ℝ) : rt f * rt f = 1 / ms f := by
  unfold rt
  rw [← mul_inv, Real.mul_self_sqrt (ms_pos f).le, one_div]

def hat (k : Fin 1024) : ℝ := X.xn n k * rt (X.xn n)
def err (k : Fin 1024) : ℝ := X.hat n k * X.g k - X.target n k
def dy (k : Fin 1024) : ℝ := X.err n k * (1 / 1024)

/-- The gradient with respect to the token. -/
def dx (k : Fin 1024) : ℝ := rt (X.xn n) * (X.dy n k * X.g k - X.hat n k * ((∑ j, X.dy n j * X.g j * X.hat n j) * (1 / 1024)))
/-- The loss, and the gradient with respect to the last gain. -/
def loss : ℝ := 1 / 2 * ∑ n, (∑ k, X.err n k * X.err n k) * (1 / 1024)
def dg (k : Fin 1024) : ℝ := ∑ n, X.dy n k * X.hat n k

end Data

end Cert.MixHead
-- ==== Proof.MixHead.Entry.lean ====
module

public import proofs.«01_k».proof.Proof.Gen.Kernel5Ideal.Frame
public import proofs.«01_k».proof.Proof.MixHead.Plain
public import Idealize.ShloMosaic.Lib.Pipeline.Value
public import Idealize.ShloMosaic.Lib.Tactic
public import Idealize.ShloMosaic.Lib.StableHlo.RunRead

/-!
# The arrays that the visits read

What the lines before the call prepare from the arguments, at an index.
-/

@[expose] public section

set_option maxRecDepth 16384

noncomputable section

namespace Cert.MixHead

open Cert.Kernel5Ideal Cert.Kernel5Ideal.Gen
open Cert.MixBwd (head)
open Idealize.ShloMosaic Idealize.ShloMosaic.TcCoe Idealize.ShloMosaic.Tactic
open Idealize.SL.Sem

variable (m : (ℓ : Loc nD τ sig) → Buf (Elt Ideal) ℓ) (c : Dev nD)

theorem entry_z (n : Fin 16384) (k : Fin 3072) :
    V m c main_v88 (ix2 n k) = m ((c : Thread nD τ).loc main_arg0) (ix3 0 n k) := by
  (unfold V; simp only [hostOps0, hostOps0_1, hostOps0_2, hostOps0_3, hostOps0_4, hostOps0_5, hostOps0_6, hostOps0_7, hostOps0_8, List.flatten_cons, List.flatten_nil, List.append_nil, List.cons_append, List.nil_append]; after_reads_simp); pointwise
theorem entry_x (n : Fin 16384) (k : Fin 1024) :
    V m c main_v89 (ix2 n k) = m ((c : Thread nD τ).loc main_arg1) (ix3 0 n k) := by
  (unfold V; simp only [hostOps0, hostOps0_1, hostOps0_2, hostOps0_3, hostOps0_4, hostOps0_5, hostOps0_6, hostOps0_7, hostOps0_8, List.flatten_cons, List.flatten_nil, List.append_nil, List.cons_append, List.nil_append]; after_reads_simp); pointwise
theorem entry_g (k : Fin 1024) :
    V m c main_v90 (ix2 0 k) = m ((c : Thread nD τ).loc main_arg17) (ix1 k) := by
  (unfold V; simp only [hostOps0, hostOps0_1, hostOps0_2, hostOps0_3, hostOps0_4, hostOps0_5, hostOps0_6, hostOps0_7, hostOps0_8, List.flatten_cons, List.flatten_nil, List.append_nil, List.cons_append, List.nil_append]; after_reads_simp); pointwise
theorem entry_target (n : Fin 16384) (k : Fin 1024) :
    V m c main_v91 (ix2 n k) = m ((c : Thread nD τ).loc main_arg18) (ix3 0 n k) := by
  (unfold V; simp only [hostOps0, hostOps0_1, hostOps0_2, hostOps0_3, hostOps0_4, hostOps0_5, hostOps0_6, hostOps0_7, hostOps0_8, List.flatten_cons, List.flatten_nil, List.append_nil, List.cons_append, List.nil_append]; after_reads_simp); pointwise
/-- The rows of the other mixers are zero. -/
theorem entry_other (n : Fin 768) (k : Fin 1024) :
    Eq (α := EReal) (V m c main_v12 (ix2 ⟨n.val, by omega⟩ k)) 0 := by
  (unfold V; simp only [hostOps0, hostOps0_1, hostOps0_2, hostOps0_3, hostOps0_4, hostOps0_5, hostOps0_6, hostOps0_7, hostOps0_8, List.flatten_cons, List.flatten_nil, List.append_nil, List.cons_append, List.nil_append]; after_reads_simp)
  pointwise
  after_reads_simp
  pointwise
theorem entry_out (n : Fin 256) (k : Fin 1024) :
    V m c main_v12 (ix2 ⟨768 + n.val, by omega⟩ k) = m ((c : Thread nD τ).loc main_arg16) (ix2 n k) := by
  (unfold V; simp only [hostOps0, hostOps0_1, hostOps0_2, hostOps0_3, hostOps0_4, hostOps0_5, hostOps0_6, hostOps0_7, hostOps0_8, List.flatten_cons, List.flatten_nil, List.append_nil, List.cons_append, List.nil_append]; after_reads_simp)
  pointwise
  after_reads_simp
theorem entry_scale (k : Fin 256) :
    V m c main_v75 (ix2 5 k) = m ((c : Thread nD τ).loc main_arg12) (ix1 k) := by
  (unfold V; simp only [hostOps0, hostOps0_1, hostOps0_2, hostOps0_3, hostOps0_4, hostOps0_5, hostOps0_6, hostOps0_7, hostOps0_8, List.flatten_cons, List.flatten_nil, List.append_nil, List.cons_append, List.nil_append]; after_reads_simp)
  simp -implicitDefEqProofs only [StableHlo.TRef.toBuf, StableHlo.TRef.ofBuf, cast_cast, cast_eq]
  pointwise
  after_reads_simp
  pointwise
theorem entry_shift (k : Fin 256) :
    V m c main_v75 (ix2 6 k) = m ((c : Thread nD τ).loc main_arg13) (ix1 k) := by
  (unfold V; simp only [hostOps0, hostOps0_1, hostOps0_2, hostOps0_3, hostOps0_4, hostOps0_5, hostOps0_6, hostOps0_7, hostOps0_8, List.flatten_cons, List.flatten_nil, List.append_nil, List.cons_append, List.nil_append]; after_reads_simp)
  simp -implicitDefEqProofs only [StableHlo.TRef.toBuf, StableHlo.TRef.ofBuf, cast_cast, cast_eq]
  pointwise
  after_reads_simp
  pointwise
theorem entry_bias (r : Fin 128) (k : Fin 256) :
    V m c main_v72 (ix2 ⟨r.val, by omega⟩ k) = m ((c : Thread nD τ).loc main_arg15) (ix2 (head k) r) := by
  (unfold V; simp only [hostOps0, hostOps0_1, hostOps0_2, hostOps0_3, hostOps0_4, hostOps0_5, hostOps0_6, hostOps0_7, hostOps0_8, List.flatten_cons, List.flatten_nil, List.append_nil, List.cons_append, List.nil_append]; after_reads_simp); pointwise
  after_reads_simp
  pointwise
  rfl
/-- The entries on and below the diagonal. -/
def below : IVec S128x128 1 :=
  cmpi CmpIPredicate.sge (addi (iotaInDim S128x128 32 0) (broadcastInDim S128x128 ![] bcast_S_S128x128 (constantI S_ 32 0#32)))
    (iotaInDim S128x128 32 1)

theorem below_at : ∀ r t : Fin 128, below (ix2 r t) = if t.val ≤ r.val then 1#1 else 0#1 := by decide +kernel

/-- One on and below the diagonal, zero above it. -/
def ones : FVec Ideal S128x128 .f32 :=
  select below (broadcastInDim S128x128 ![] bcast_S_S128x128 (constant S_ FTy.f32 1065353216#32))
    (broadcastInDim S128x128 ![] bcast_S_S128x128 (constant S_ FTy.f32 0#32))

theorem ones_at (r t : Fin 128) : ones (ix2 r t) = ((if t.val ≤ r.val then 1 else 0 : ℝ) : EReal) := by
  unfold ones
  pointwise [below_at]
  split <;> simp [Scalar.select]

/-- The mixing matrices among the arguments. -/
abbrev mixing (h : Fin 4) (r t : Fin 128) : EReal := m ((c : Thread nD τ).loc main_arg14) (ix3 h r t)

theorem entry_w (h : Fin 4) (r t : Fin 128) :
    (V m c main_v79 (ix2 ⟨128 * h.val + r.val, by omega⟩ t) : EReal) = mixing m c h r t * ((if t.val ≤ r.val then 1 else 0 : ℝ) : EReal) := by
  (unfold V; simp only [hostOps0, hostOps0_1, hostOps0_2, hostOps0_3, hostOps0_4, hostOps0_5, hostOps0_6, hostOps0_7, hostOps0_8, List.flatten_cons, List.flatten_nil, List.append_nil, List.cons_append, List.nil_append]; after_reads_simp)
  pointwise
  rw [← ones_at]
  have e1 : (128 * h.val + r.val) / 128 = h.val := by omega
  have e2 : (128 * h.val + r.val) % 128 = r.val := by omega
  simp only [e1, e2]
  rfl

end Cert.MixHead
-- ==== Proof.MixHead.Tokens.lean ====
module

public import proofs.«01_k».proof.Proof.MixHead.Entry
public import proofs.«01_k».proof.Proof.MixHead.Frame

/-!
# The tiles of the sequence

The arguments as real arrays, and the rows of each array that a visit treats.
-/

@[expose] public section

set_option maxRecDepth 16384

noncomputable section

namespace Cert.MixHead

open Cert.Kernel5Ideal Cert.Kernel5Ideal.Gen
open Idealize.ShloMosaic Idealize.ShloMosaic.TcCoe Idealize.ShloMosaic.Tactic
open Idealize.SL.Sem

/-- The arguments hold the real arrays. -/
structure Holds (m : (ℓ : Loc nD τ sig) → Buf (Elt Ideal) ℓ) (c : Dev nD) (X : Data) : Prop where
  z : ∀ n k, (m ((c : Thread nD τ).loc main_arg0) (ix3 0 n k) : EReal) = (X.z n k : EReal)
  x : ∀ n k, (m ((c : Thread nD τ).loc main_arg1) (ix3 0 n k) : EReal) = (X.x n k : EReal)
  gate : ∀ k, (m ((c : Thread nD τ).loc main_arg2) (ix2 0 k) : EReal) = (X.gate k : EReal)
  scale : ∀ k, (m ((c : Thread nD τ).loc main_arg12) (ix1 k) : EReal) = (X.scale k : EReal)
  shift : ∀ k, (m ((c : Thread nD τ).loc main_arg13) (ix1 k) : EReal) = (X.shift k : EReal)
  w : ∀ h r t, mixing m c h r t = (X.w h r t : EReal)
  b : ∀ h r, (m ((c : Thread nD τ).loc main_arg15) (ix2 h r) : EReal) = (X.b h r : EReal)
  out : ∀ n k, (m ((c : Thread nD τ).loc main_arg16) (ix2 n k) : EReal) = (X.out n k : EReal)
  g : ∀ k, (m ((c : Thread nD τ).loc main_arg17) (ix1 k) : EReal) = (X.g k : EReal)
  target : ∀ n k, (m ((c : Thread nD τ).loc main_arg18) (ix3 0 n k) : EReal) = (X.target n k : EReal)

variable (m : (ℓ : Loc nD τ sig) → Buf (Elt Ideal) ℓ) (c : Dev nD)

/-- Row `r` of tile `i`, as a row of the array. -/
def line (i : ℕ) (r : Fin 512) : Fin 16384 := ⟨(512 * i + r.val) % 16384, Nat.mod_lt _ (by decide)⟩

/-- The tile whose mixers a visit computes. -/
abbrev cur (n : ℕ) : ℕ := min n 31

theorem idx0 : ∀ t : Fin cfg0.N, win0_0.index t = ![cur t.val, 0] := (by decide +kernel : ∀ t : Fin grid0.N, _)
theorem idx2 : ∀ t : Fin cfg0.N, win0_2.index t = ![t.val - 1, 0] := (by decide +kernel : ∀ t : Fin grid0.N, _)
theorem idx13 : ∀ t : Fin cfg0.N, win0_13.index t = ![t.val - 1, 0] := (by decide +kernel : ∀ t : Fin grid0.N, _)
theorem idx3 : ∀ t : Fin cfg0.N, win0_3.index t = ![0, 0] := (by decide +kernel : ∀ t : Fin grid0.N, _)
theorem idx6 : ∀ t : Fin cfg0.N, win0_6.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![0, 0] := (by decide +kernel : ∀ t : Fin grid0.N, _)

section Blocks
theorem read0 (A : Buf (Elt Ideal) ((c : Thread nD τ).loc main_v88)) (t : Fin cfg0.N) (r : Fin 512) (k : Fin 3072) :
    (((cfg0.win 0).blk t).view.read (Elt Ideal) A (ix2 r k) : EReal) = A (ix2 (line (cur t.val) r) k) := by
  have ht := lt_of_lt_of_eq t.isLt N_0
  blk_ext! [idx0 t, line]
  unfold cur
  omega
theorem blk0 (t : Fin cfg0.N) (r : Fin 512) (k : Fin 3072) : ((blocks m c t).zm (ix2 r k) : EReal) = V m c main_v88 (ix2 (line (cur t.val) r) k) :=
  read0 c (V m c main_v88) t r k
theorem read2 (A : Buf (Elt Ideal) ((c : Thread nD τ).loc main_v89)) (t : Fin cfg0.N) (r : Fin 512) (k : Fin 1024) :
    (((cfg0.win 2).blk t).view.read (Elt Ideal) A (ix2 r k) : EReal) = A (ix2 (line (t.val - 1) r) k) := by
  have ht := lt_of_lt_of_eq t.isLt N_0
  blk_ext! [idx2 t, line]
theorem blk2 (t : Fin cfg0.N) (r : Fin 512) (k : Fin 1024) : ((blocks m c t).x (ix2 r k) : EReal) = V m c main_v89 (ix2 (line (t.val - 1) r) k) :=
  read2 c (V m c main_v89) t r k
theorem read13 (A : Buf (Elt Ideal) ((c : Thread nD τ).loc main_v91)) (t : Fin cfg0.N) (r : Fin 512) (k : Fin 1024) :
    (((cfg0.win 13).blk t).view.read (Elt Ideal) A (ix2 r k) : EReal) = A (ix2 (line (t.val - 1) r) k) := by
  have ht := lt_of_lt_of_eq t.isLt N_0
  blk_ext! [idx13 t, line]
theorem blk13 (t : Fin cfg0.N) (r : Fin 512) (k : Fin 1024) : ((blocks m c t).target (ix2 r k) : EReal) = V m c main_v91 (ix2 (line (t.val - 1) r) k) :=
  read13 c (V m c main_v91) t r k
theorem read3 (A : Buf (Elt Ideal) ((c : Thread nD τ).loc main_arg2)) (t : Fin cfg0.N) (r : Fin 1) (k : Fin 1024) :
    (((cfg0.win 3).blk t).view.read (Elt Ideal) A (ix2 r k) : EReal) = A (ix2 r k) := by
  blk_ext! [idx3 t]
theorem blk3 (t : Fin cfg0.N) (r : Fin 1) (k : Fin 1024) : ((blocks m c t).gate (ix2 r k) : EReal) = V m c main_arg2 (ix2 r k) :=
  read3 c (V m c main_arg2) t r k
theorem read6 (A : Buf (Elt Ideal) ((c : Thread nD τ).loc main_v75)) (t : Fin cfg0.N) (r : Fin 16) (k : Fin 256) :
    (((cfg0.win 6).blk t).view.read (Elt Ideal) A (ix2 r k) : EReal) = A (ix2 r k) := by
  blk_ext! [idx6 t]
theorem blk6 (t : Fin cfg0.N) (r : Fin 16) (k : Fin 256) : ((blocks m c t).vec (ix2 r k) : EReal) = V m c main_v75 (ix2 r k) :=
  read6 c (V m c main_v75) t r k
theorem read9 (A : Buf (Elt Ideal) ((c : Thread nD τ).loc main_v79)) (t : Fin cfg0.N) (r : Fin 512) (k : Fin 128) :
    (((cfg0.win 9).blk t).view.read (Elt Ideal) A (ix2 r k) : EReal) = A (ix2 r k) := by
  blk_ext! [idx9 t]
theorem blk9 (t : Fin cfg0.N) (r : Fin 512) (k : Fin 128) : ((blocks m c t).wS (ix2 r k) : EReal) = V m c main_v79 (ix2 r k) :=
  read9 c (V m c main_v79) t r k
theorem read10 (A : Buf (Elt Ideal) ((c : Thread nD τ).loc main_v72)) (t : Fin cfg0.N) (r : Fin 264) (k : Fin 256) :
    (((cfg0.win 10).blk t).view.read (Elt Ideal) A (ix2 r k) : EReal) = A (ix2 r k) := by
  blk_ext! [idx10 t]
theorem blk10 (t : Fin cfg0.N) (r : Fin 264) (k : Fin 256) : ((blocks m c t).bS (ix2 r k) : EReal) = V m c main_v72 (ix2 r k) :=
  read10 c (V m c main_v72) t r k
theorem read11 (A : Buf (Elt Ideal) ((c : Thread nD τ).loc main_v12)) (t : Fin cfg0.N) (r : Fin 1024) (k : Fin 1024) :
    (((cfg0.win 11).blk t).view.read (Elt Ideal) A (ix2 r k) : EReal) = A (ix2 r k) := by
  blk_ext! [idx11 t]
theorem blk11 (t : Fin cfg0.N) (r : Fin 1024) (k : Fin 1024) : ((blocks m c t).wOut (ix2 r k) : EReal) = V m c main_v12 (ix2 r k) :=
  read11 c (V m c main_v12) t r k
theorem read12 (A : Buf (Elt Ideal) ((c : Thread nD τ).loc main_v90)) (t : Fin cfg0.N) (r : Fin 1) (k : Fin 1024) :
    (((cfg0.win 12).blk t).view.read (Elt Ideal) A (ix2 r k) : EReal) = A (ix2 r k) := by
  blk_ext! [idx12 t]
theorem blk12 (t : Fin cfg0.N) (r : Fin 1) (k : Fin 1024) : ((blocks m c t).scale (ix2 r k) : EReal) = V m c main_v90 (ix2 r k) :=
  read12 c (V m c main_v90) t r k
end Blocks

end Cert.MixHead
-- ==== Proof.MixHead.Chunk.lean ====
module

public import proofs.«01_k».proof.Proof.Gen.Kernel5Ideal.Skeleton

/-!
# What a visit computes

The gating mixer's output on a chunk of 128 rows, and the loss head on a tile of 512 rows, as compositions of the body's values.
-/

@[expose] public section

set_option maxRecDepth 16384

noncomputable section

namespace Cert.MixHead

open Cert.Kernel5Ideal Cert.Kernel5Ideal.Gen
open Idealize.ShloMosaic Idealize.ShloMosaic.TcCoe Idealize.ShloMosaic.Tactic
open Idealize.SL.Sem

variable {F : FTy → Type} [FloatOps F]

/-- What the mixer reads on a chunk. -/
structure Part (F : FTy → Type) [FloatOps F] where
  u : Vec F S128x256 .bf16
  v : Vec F S128x256 .bf16
  g : Vec F S128x256 .bf16
  scale : Vec F S1x256 .f32
  shift : Vec F S1x256 .f32
  wS : Vec F S512x128 .bf16
  bS : Vec F S128x256 .f32

/-- The number of each column. -/
abbrev lane : IVec S128x256 32 := iota .tc S128x256 32 [1] iota_S128x256_d1_w32
/-- One half. -/
abbrev half : F .f32 := Scalar.ofBits .f32 0x3F000000#32

/-- The mixer's output on the chunk. -/
abbrev Part.out (P : Part F) : FVec F S128x256 .bf16 :=
  k0_pay42 (k0_pay33 P.g) (k0_pay34 P.u) (k0_pay37 (k0_pay32 P.v) (k0_pay35 P.v) half P.scale P.shift P.wS)
    (k0_pay38 (k0_pay32 P.v) (k0_pay35 P.v) half P.scale P.shift P.wS) (k0_pay39 lane) (k0_pay40 lane)
    (k0_pay41 lane (k0_pay32 P.v) (k0_pay35 P.v) half P.scale P.shift P.wS) P.bS

/-- The rows of a tile after the output projection, their gradient, and the rows of the running sums: the loss and the
gradient of the gain. -/
abbrev headDx (xn : Vec F S512x1024 .f32) (g : Vec F S1x1024 .f32) (y : Vec F S512x1024 .f32) : FVec F S512x1024 .f32 :=
  k0_pay1 (k0_pay127 xn) (k0_pay128 xn) (k0_pay142 (k0_pay126 g) (k0_pay135 (k0_pay129 xn (k0_pay126 g) y)))
    (k0_pay143 (k0_pay126 g) (k0_pay128 xn) (k0_pay135 (k0_pay129 xn (k0_pay126 g) y)))
abbrev headLoss (n : F .f32) (xn : Vec F S512x1024 .f32) (g : Vec F S1x1024 .f32) (y : Vec F S512x1024 .f32) (a : Vec F S1x8x1024 .f32) :
    FVec F S1x8x1024 .f32 :=
  k0_pay134 n (k0_pay130 a) (k0_pay131 xn (k0_pay126 g) y) (k0_pay133 (k0_pay131 xn (k0_pay126 g) y) (k0_pay132 xn (k0_pay126 g) y))
abbrev headDg (n : F .f32) (xn : Vec F S512x1024 .f32) (g : Vec F S1x1024 .f32) (y : Vec F S512x1024 .f32) (a : Vec F S1x8x1024 .f32) :
    FVec F S1x8x1024 .f32 :=
  k0_pay141 (k0_pay140 n (k0_pay136 a) (k0_pay137 (k0_pay128 xn) (k0_pay129 xn (k0_pay126 g) y))
    (k0_pay139 (k0_pay137 (k0_pay128 xn) (k0_pay129 xn (k0_pay126 g) y)) (k0_pay138 (k0_pay128 xn) (k0_pay129 xn (k0_pay126 g) y))))

end Cert.MixHead

end
-- ==== Proof.MixHead.Gated.lean ====
module

public import proofs.«01_k».proof.Proof.MixHead.Chunk
public import proofs.«01_k».proof.Proof.MixHead.Plain
public import Idealize.ShloMosaic.Lib.Pointwise
public import Idealize.ShloMosaic.Lib.Tactic

/-!
# The mixer's output on a chunk, on real numbers
-/

@[expose] public section

set_option maxRecDepth 16384

noncomputable section

namespace Cert.MixHead

open Cert.Kernel5Ideal Cert.Kernel5Ideal.Gen Cert.Common
open Cert.MixBwd (gel th phi sgm nrm mean cen vari inv vari_pos head Rows c0 k0 e0)
open Idealize.ShloMosaic Idealize.ShloMosaic.TcCoe Idealize.ShloMosaic.Tactic
open Idealize.SL.Sem

theorem bits_half : Ideal.ofBits FTy.f32 1056964608#32 = ((1 / 2 : ℝ) : EReal) := by
  simp [Ideal.ofBits, Ideal.ieee, -EReal.coe_mul]; norm_num
theorem bits_c0 : Ideal.ofBits FTy.f32 1061962282#32 = (c0 : EReal) := by
  unfold c0; simp [Ideal.ofBits, Ideal.ieee, -EReal.coe_mul]; norm_num
theorem bits_k0 : Ideal.ofBits FTy.f32 1027024659#32 = (k0 : EReal) := by
  unfold k0; simp [Ideal.ofBits, Ideal.ieee, -EReal.coe_mul]; norm_num
theorem bits_e0 : Ideal.ofBits FTy.f32 897988541#32 = (e0 : EReal) := by
  unfold e0; simp [Ideal.ofBits, Ideal.ieee, -EReal.coe_mul]
theorem bits_256 : Ideal.ofBits FTy.f32 1132462080#32 = ((256 : ℝ) : EReal) := by
  simp [Ideal.ofBits, Ideal.ieee, -EReal.coe_mul]; norm_num

theorem slt64 : ∀ c : Fin 256, IntOp.cmpi .slt (BitVec.ofNat 32 c.val) 64#32 = if c.val < 64 then 1#1 else 0#1 := by decide +kernel
theorem slt128 : ∀ c : Fin 256, IntOp.cmpi .slt (BitVec.ofNat 32 c.val) 128#32 = if c.val < 128 then 1#1 else 0#1 := by decide +kernel
theorem slt192 : ∀ c : Fin 256, IntOp.cmpi .slt (BitVec.ofNat 32 c.val) 192#32 = if c.val < 192 then 1#1 else 0#1 := by decide +kernel

/-- The nested selections take the value of the column's head. -/
theorem pick_head (c : Fin 256) (f : Fin 4 → EReal) :
    Scalar.select (IntOp.cmpi .slt (BitVec.ofNat 32 c.val) 64#32) (f 0) (Scalar.select (IntOp.cmpi .slt (BitVec.ofNat 32 c.val) 128#32) (f 1)
      (Scalar.select (IntOp.cmpi .slt (BitVec.ofNat 32 c.val) 192#32) (f 2) (f 3))) = f (head c) := by
  rw [slt64, slt128, slt192]
  by_cases h1 : c.val < 64
  · rw [if_pos h1, show head c = 0 from Fin.ext (show c.val / 64 = 0 by omega)]; rfl
  by_cases h2 : c.val < 128
  · rw [if_neg h1, if_pos h2, show head c = 1 from Fin.ext (show c.val / 64 = 1 by omega)]; rfl
  by_cases h3 : c.val < 192
  · rw [if_neg h1, if_neg h2, if_pos h3, show head c = 2 from Fin.ext (show c.val / 64 = 2 by omega)]; rfl
  · rw [if_neg h1, if_neg h2, if_neg h3, show head c = 3 from Fin.ext (show c.val / 64 = 3 by omega)]; rfl

/-- A chunk holds the real rows. -/
structure PartIs (P : Part Ideal) (X : Rows) : Prop where
  u : ∀ r c, P.u (ix2 r c) = (X.u r c : EReal)
  v : ∀ r c, P.v (ix2 r c) = (X.v r c : EReal)
  g : ∀ r c, P.g (ix2 r c) = (X.g r c : EReal)
  scale : ∀ c, P.scale (ix2 0 c) = (X.scale c : EReal)
  shift : ∀ c, P.shift (ix2 0 c) = (X.shift c : EReal)
  wS : ∀ (h : Fin 4) (r t : Fin 128), P.wS (ix2 ⟨128 * h.val + r.val, by omega⟩ t) = (X.w h r t : EReal)
  bS : ∀ r c, P.bS (ix2 r c) = (X.b (head c) r : EReal)

variable {P : Part Ideal} {X : Rows} (G : PartIs P X) (r : Fin 128) (c : Fin 256)
include G

theorem av_at : k0_pay32 (F := Ideal) P.v (ix2 r c) = (X.v r c : EReal) := by pointwise [k0_pay32, G.v]
theorem ag_at : k0_pay33 (F := Ideal) P.g (ix2 r c) = (X.g r c : EReal) := by pointwise [k0_pay33, G.g]
theorem au_at : k0_pay34 (F := Ideal) P.u (ix2 r c) = (gel (X.u r c) : EReal) := by
  pointwise [k0_pay34, G.u]
  simp only [bits_half, bits_c0, bits_k0, ← EReal.coe_mul, ← EReal.coe_add, Ideal.tanh_coe]
  rfl
theorem th_at : k0_pay35 (F := Ideal) P.v (ix2 r c) = (th (X.v r c) : EReal) := by
  pointwise [k0_pay35, av_at G]
  simp only [bits_c0, bits_k0, ← EReal.coe_mul, ← EReal.coe_add, Ideal.tanh_coe]
  rfl
omit G in
theorem rsqrt_vari (f : Fin 256 → ℝ) : Ideal.rsqrt ((mean (fun c => cen f c * cen f c) + e0 : ℝ) : EReal) = (inv f : EReal) := by
  refine Eq.trans (b := Ideal.rsqrt (vari f : EReal)) rfl ?_
  rw [Ideal.rsqrt_coe, if_neg (vari_pos f).not_gt, if_neg (vari_pos f).ne']
  rfl
theorem wS_at (k : ℕ) (hk : k < 512) (h : Fin 4) (t : Fin 128) (e : k = 128 * h.val + r.val) : P.wS (ix2 ⟨k, hk⟩ t) = (X.w h r t : EReal) := by
  subst e; exact G.wS h r t
theorem stacked (k : ℕ) (hk : k < 512) (h : Fin 4) (e : k = 128 * h.val + r.val) :
    k0_pay36 (F := Ideal) (k0_pay32 P.v) (k0_pay35 P.v) (Ideal.ofBits FTy.f32 1056964608#32) P.scale P.shift P.wS (ix2 ⟨k, hk⟩ c) = ((∑ t, X.w h r t * X.y t c : ℝ) : EReal) := by
  pointwise [k0_pay36, av_at G, th_at G, G.scale, G.shift, wS_at G r k hk h _ e]
  simp only [bits_half, bits_256, bits_e0, Ideal.div_coe (show (256 : ℝ) ≠ 0 by norm_num), ← EReal.coe_mul, coe_sum, ← EReal.coe_add, ← EReal.coe_sub]
  have hy : ∀ t : Fin 128, (X.y t c : EReal) = ((cen (X.a t) c : ℝ) : EReal) * Ideal.rsqrt ((mean (fun c => cen (X.a t) c * cen (X.a t) c) + e0 : ℝ) : EReal) * (X.scale c : EReal) + (X.shift c : EReal) := fun t => by
    rw [rsqrt_vari]
    simp only [← EReal.coe_mul, ← EReal.coe_add]; rfl
  rw [← coe_sum]
  refine Finset.sum_congr rfl fun t _ => ?_
  rw [EReal.coe_mul, hy]
  rfl

/-- The mixer's output. -/
theorem out_at : P.out (ix2 r c) = (X.outp r c : EReal) := by
  pointwise [Part.out, k0_pay42, k0_pay41, k0_pay40, k0_pay39, k0_pay38, k0_pay37, lane, ag_at G, au_at G, G.bS]
  simp only [fun hk => stacked G r c r.val hk 0 (by simp), fun hk => stacked G r c (128 + r.val) hk 1 rfl,
    fun hk => stacked G r c (256 + r.val) hk 2 rfl, fun hk => stacked G r c (384 + r.val) hk 3 rfl]
  rw [pick_head c (fun h => ((∑ t : Fin 128, X.w h r t * X.y t c : ℝ) : EReal)), Ideal.logistic_coe]
  simp only [← EReal.coe_mul, ← EReal.coe_add]
  rfl

end Cert.MixHead
-- ==== Proof.MixHead.Head.lean ====
module

public import proofs.«01_k».proof.Proof.MixHead.Chunk
public import proofs.«01_k».proof.Proof.MixHead.Plain
public import Idealize.ShloMosaic.Lib.Pointwise
public import Idealize.ShloMosaic.Lib.Tactic
public import Idealize.ShloMosaic.Lib.IdealHost

/-!
# The loss head on a tile, on real numbers
-/

@[expose] public section

set_option maxRecDepth 16384

noncomputable section

namespace Cert.MixHead

open Cert.Kernel5Ideal Cert.Kernel5Ideal.Gen Cert.Common
open Cert.MixBwd (e0)
open Idealize.ShloMosaic Idealize.ShloMosaic.TcCoe Idealize.ShloMosaic.Tactic
open Idealize.SL.Sem

theorem bits_small : Ideal.ofBits FTy.f32 897988541#32 = (e0 : EReal) := by
  unfold e0; simp [Ideal.ofBits, Ideal.ieee, -EReal.coe_mul]
theorem bits_1024 : Ideal.ofBits FTy.f32 1149239296#32 = ((1024 : ℝ) : EReal) := by
  simp [Ideal.ofBits, Ideal.ieee, -EReal.coe_mul]; norm_num
theorem bits_inv : Ideal.ofBits FTy.f32 981467136#32 = ((1 / 1024 : ℝ) : EReal) := by
  simp [Ideal.ofBits, Ideal.ieee, -EReal.coe_mul]; norm_num
theorem bits_half_inv : Ideal.ofBits FTy.f32 973078528#32 = ((1 / 2048 : ℝ) : EReal) := by
  simp [Ideal.ofBits, Ideal.ieee, -EReal.coe_mul]; norm_num

/-- A row's parts of the head: the normalised token, the error, its gradient, and the token's gradient. -/
def hatR (f : Fin 1024 → ℝ) (k : Fin 1024) : ℝ := f k * Data.rt f
def errR (f g y : Fin 1024 → ℝ) (k : Fin 1024) : ℝ := hatR f k * g k - y k
def dxR (f g y : Fin 1024 → ℝ) (k : Fin 1024) : ℝ :=
  Data.rt f * (errR f g y k * (1 / 1024) * g k - hatR f k * ((∑ j, errR f g y j * (1 / 1024) * g j * hatR f j) * (1 / 1024)))

variable {xn : Vec Ideal S512x1024 .f32} {gv : Vec Ideal S1x1024 .f32} {yv : Vec Ideal S512x1024 .f32}
  {f : Fin 512 → Fin 1024 → ℝ} {g : Fin 1024 → ℝ} {y : Fin 512 → Fin 1024 → ℝ}
  (hx : ∀ r k, xn (ix2 r k) = (f r k : EReal)) (hg : ∀ k, gv (ix2 0 k) = (g k : EReal)) (hy : ∀ r k, yv (ix2 r k) = (y r k : EReal))
  (r : Fin 512) (k : Fin 1024)

include hx in
theorem rt_at : k0_pay127 (F := Ideal) xn (ix2 r 0) = (Data.rt (f r) : EReal) := by
  pointwise [k0_pay127, hx]
  simp only [bits_small, bits_1024, Ideal.div_coe (show (1024 : ℝ) ≠ 0 by norm_num), ← EReal.coe_mul, coe_sum, ← EReal.coe_add]
  refine Eq.trans (b := Ideal.rsqrt (Data.ms (f r) : EReal)) rfl ?_
  rw [Ideal.rsqrt_coe, if_neg (Data.ms_pos _).not_gt, if_neg (Data.ms_pos _).ne']
  rfl
include hx in
theorem hat_at : k0_pay128 (F := Ideal) xn (ix2 r k) = (hatR (f r) k : EReal) := by
  pointwise [k0_pay128, hx, rt_at hx]
  rw [← EReal.coe_mul]; rfl
include hg in
theorem gain_at : k0_pay126 (F := Ideal) gv (ix2 0 k) = (g k : EReal) := by pointwise [k0_pay126, hg]
include hx hg hy
theorem err_at : k0_pay129 (F := Ideal) xn (k0_pay126 gv) yv (ix2 r k) = (errR (f r) g (y r) k : EReal) := by
  pointwise [k0_pay129, hat_at hx, gain_at hg, hy]
  rw [← EReal.coe_mul, ← EReal.coe_sub]; rfl
theorem headDx_at : headDx (F := Ideal) xn gv yv (ix2 r k) = (dxR (f r) g (y r) k : EReal) := by
  pointwise [headDx, k0_pay1, k0_pay142, k0_pay143, k0_pay135, rt_at hx, hat_at hx, gain_at hg, err_at hx hg hy]
  simp only [bits_1024, bits_inv, Ideal.div_coe (show (1024 : ℝ) ≠ 0 by norm_num), ← EReal.coe_mul, coe_sum, ← EReal.coe_sub]
  rfl
omit hx hg hy

/-- Row `n` of a family over the tile's rows, zero past the end. -/
def atRow (f : Fin 512 → EReal) (n : ℕ) : EReal := if h : n < 512 then f ⟨n, h⟩ else 0
theorem atRow_eq (f : Fin 512 → EReal) (n : ℕ) (h : n < 512) : f ⟨n, h⟩ = atRow f n := by unfold atRow; rw [dif_pos h]
theorem atRow_first (f : Fin 512 → EReal) (s : Fin 8) (h : s.val < 512) : f ⟨s.val, h⟩ = atRow f (0 + s.val) := by
  rw [← atRow_eq f (0 + s.val) (by omega)]; simp
theorem sum_rows (f : Fin 512 → EReal) (s : Fin 8) :
    (∑ q : Fin 64, f ⟨8 * q.val + s.val, by omega⟩) = ∑ q ∈ Finset.range 64, atRow f (8 * q + s.val) := by
  rw [Finset.sum_range]
  exact Finset.sum_congr rfl fun q _ => atRow_eq f (8 * q.val + s.val) (by omega)

/-- A running row of the loss takes the sum of its rows of the tile. -/
theorem headLoss_sum (n : EReal) (a : Vec Ideal S1x8x1024 .f32) (q : Fin 512 → EReal) (s : Fin 8)
    (hq : ∀ r, k0_pay131 (F := Ideal) xn (k0_pay126 gv) yv (ix2 r k) = q r) :
    headLoss (F := Ideal) n xn gv yv a (ix3 0 s k) = a (ix3 0 s k) + n * ∑ p : Fin 64, q ⟨8 * p.val + s.val, by omega⟩ := by
  pointwise [headLoss, k0_pay134, k0_pay133, k0_pay132, k0_pay130, hq]
  rw [sum_rows]
  simp only [atRow_eq, atRow_first, Finset.sum_range_succ, Finset.sum_range_zero, zero_add, Nat.reduceMul]
/-- The same of the gain's gradient. -/
theorem headDg_sum (n : EReal) (a : Vec Ideal S1x8x1024 .f32) (q : Fin 512 → EReal) (s : Fin 8)
    (hq : ∀ r, k0_pay137 (F := Ideal) (k0_pay128 xn) (k0_pay129 xn (k0_pay126 gv) yv) (ix2 r k) = q r) :
    headDg (F := Ideal) n xn gv yv a (ix3 0 s k) = a (ix3 0 s k) + n * ∑ p : Fin 64, q ⟨8 * p.val + s.val, by omega⟩ := by
  pointwise [headDg, k0_pay141, k0_pay140, k0_pay139, k0_pay138, k0_pay136, hq]
  rw [sum_rows]
  simp only [atRow_eq, atRow_first, Finset.sum_range_succ, Finset.sum_range_zero, zero_add, Nat.reduceMul]

include hx hg hy
theorem headLoss_at (n : ℝ) (a : Vec Ideal S1x8x1024 .f32) (s : Fin 8) :
    headLoss (F := Ideal) (n : EReal) xn gv yv a (ix3 0 s k)
      = a (ix3 0 s k) + ((n * ∑ p : Fin 64, errR (f ⟨8 * p.val + s.val, by omega⟩) g (y ⟨8 * p.val + s.val, by omega⟩) k
          * errR (f ⟨8 * p.val + s.val, by omega⟩) g (y ⟨8 * p.val + s.val, by omega⟩) k : ℝ) : EReal) := by
  rw [headLoss_sum k (n : EReal) a (fun r => ((errR (f r) g (y r) k * errR (f r) g (y r) k : ℝ) : EReal)) s fun r => by
    pointwise [k0_pay131, err_at hx hg hy]
    rw [EReal.coe_mul], coe_sum, ← EReal.coe_mul]
theorem headDg_at (n : ℝ) (a : Vec Ideal S1x8x1024 .f32) (s : Fin 8) :
    headDg (F := Ideal) (n : EReal) xn gv yv a (ix3 0 s k)
      = a (ix3 0 s k) + ((n * ∑ p : Fin 64, errR (f ⟨8 * p.val + s.val, by omega⟩) g (y ⟨8 * p.val + s.val, by omega⟩) k * (1 / 1024)
          * hatR (f ⟨8 * p.val + s.val, by omega⟩) k : ℝ) : EReal) := by
  rw [headDg_sum k (n : EReal) a (fun r => ((errR (f r) g (y r) k * (1 / 1024) * hatR (f r) k : ℝ) : EReal)) s fun r => by
    pointwise [k0_pay137, k0_pay135, hat_at hx, err_at hx hg hy]
    simp only [bits_inv, ← EReal.coe_mul], coe_sum, ← EReal.coe_mul]
omit hx hg hy

/-- What the last visit makes of the running sums. -/
theorem fold_dg (a : Vec Ideal S1x8x1024 .f32) : k0_pay3 (F := Ideal) a (ix2 0 k) = ∑ s : Fin 8, a (ix3 0 s k) := by
  pointwise [k0_pay3]

/-- The token after the output projection, in a block of columns. -/
theorem projected (b : Vec Ideal S512x1024 .bf16) (w : Vec Ideal S1024x256 .bf16) (x : Vec Ideal S512x256 .f32) (t : Vec Ideal S1x256 .f32) (c : Fin 256) :
    k0_pay13 (F := Ideal) b w x t (ix2 r c) = x (ix2 r c) + t (ix2 0 c) * ∑ j : Fin 1024, b (ix2 r j) * w (ix2 j c) := by
  pointwise [k0_pay13]

end Cert.MixHead
-- ==== Proof.MixHead.Stores.lean ====
module

public import proofs.«01_k».proof.Proof.MixHead.Visit
public import proofs.«01_k».proof.Proof.MixHead.Chunk
public import Idealize.ShloMosaic.Lib.Pipeline.ValueKit

/-!
# What a visit leaves of the output projection and the loss head

The stores of a visit read back: the gradient of the tile before, the running rows of the loss and of the gain's
gradient, and the gating mixer's columns that the next visit projects.
-/

@[expose] public section

set_option maxRecDepth 16384

noncomputable section

namespace Cert.MixHead

open Cert.Kernel5Ideal Cert.Kernel5Ideal.Gen
open Idealize.ShloMosaic Idealize.ShloMosaic.TcCoe Idealize.ShloMosaic.Tactic
open Idealize.SL.Sem

variable {F : FTy → Type} [FloatOps F]

section Reads

variable {S : Shape} {e : EltTy}

/-- A load of a box that the last store does not touch reads the earlier stores. -/
theorem ld_skip (r : Rect S) (w : r.shape.Idx → Elt F e) (L : List (View.Piece (Elt F) S e)) (B : Rect S)
    (h : LoadRect.disj r B.toLoadRect = true) :
    View.ld (View.canon (Val := Elt F) (⟨r, w⟩ :: L)) B = View.ld (View.canon L) B :=
  funext fun j => View.canon_cons_of_not_mem ⟨r, w⟩ L (LoadRect.idx_not_mem_of_disj h j)

/-- A load of the last store's box reads what it stored. -/
theorem ld_hit (r : Rect S) (w : r.shape.Idx → Elt F e) (L : List (View.Piece (Elt F) S e)) :
    View.ld (View.canon (Val := Elt F) (⟨r, w⟩ :: L)) r = w :=
  funext fun j => View.canon_cons_emb r w L j

/-- A load through a buffer held at `X` reads `X`. -/
theorem readAt_ld {κ : Kind} {sp : Space} {m : Memref sig κ sp S e} (h : m.IsWhole) (X : S.Idx → Elt F e) (r : Rect S) :
    View.readAt (Elt F) m.view r.toLoadRect (h.unread X) = View.ld X r := by
  rw [View.readAt_eq_ld, Memref.IsWhole.read_unread]

end Reads

theorem fits (o k : ℕ) (ho : o + 128 ≤ 512) (hk : k + 256 ≤ 3072) : ∀ a, ![o, k] a + S128x256.size a ≤ S512x3072.size a :=
  fun a => by
    refine Fin.cases ?_ (fun b => ?_) a
    · exact ho
    · refine Fin.cases ?_ (fun b => b.elim0) b
      exact hk

theorem fitsGroup (o : ℕ) (ho : o + 128 ≤ 512) : ∀ a, ![o, 768] a + S128x256.size a ≤ S512x1024.size a :=
  fun a => by
    refine Fin.cases ?_ (fun b => ?_) a
    · exact ho
    · refine Fin.cases ?_ (fun b => b.elim0) b
      exact (by decide : 768 + 256 ≤ 1024)

theorem fitsCols {n : ℕ} (o : ℕ) (ho : o + 256 ≤ 1024) : ∀ a, ![0, o] a + (⟨2, ![n, 256]⟩ : Shape).size a ≤ (⟨2, ![n, 1024]⟩ : Shape).size a :=
  fun a => by
    refine Fin.cases ?_ (fun b => ?_) a
    · exact (Nat.zero_add n).le
    · refine Fin.cases ?_ (fun b => b.elim0) b
      exact ho

/-- A block of 256 columns. -/
abbrev cols (o : ℕ) (ho : o + 256 ≤ 1024) : Rect S512x1024 := Rect.unit (s := S512x1024) ![0, o] S512x256.size (fitsCols o ho)
abbrev wCols (o : ℕ) (ho : o + 256 ≤ 1024) : Rect S1024x1024 := Rect.unit (s := S1024x1024) ![0, o] S1024x256.size (fitsCols o ho)
abbrev gCols (o : ℕ) (ho : o + 256 ≤ 1024) : Rect S1x1024 := Rect.unit (s := S1x1024) ![0, o] S1x256.size (fitsCols o ho)
/-- The gating mixer's columns of a chunk. -/
abbrev group (o : ℕ) (ho : o + 128 ≤ 512) : Rect S512x1024 := Rect.unit (s := S512x1024) ![o, 768] S128x256.size (fitsGroup o ho)
/-- A whole array. -/
abbrev allX : Rect S512x1024 := Rect.unit (s := S512x1024) ![0, 0] S512x1024.size (by decide)
abbrev allG : Rect S1x1024 := Rect.unit (s := S1x1024) ![0, 0] S1x1024.size (by decide)
abbrev allL : Rect S8x128 := Rect.unit (s := S8x128) ![0, 0] S8x128.size (by decide)
abbrev allAcc : Rect S2x8x1024 := Rect.unit (s := S2x8x1024) ![0, 0, 0] S2x8x1024.size (by decide)
/-- The running rows of the loss and of the gain's gradient. -/
abbrev lossRows : Rect S2x8x1024 := Rect.unit (s := S2x8x1024) ![0, 0, 0] S1x8x1024.size (by decide)
abbrev gainRows : Rect S2x8x1024 := Rect.unit (s := S2x8x1024) ![1, 0, 0] S1x8x1024.size (by decide)

theorem ld_allX {e : EltTy} (X : Vec F S512x1024 e) : View.ld X allX = X := View.ld_unit_lit _ X (by decide)
theorem ld_allG {e : EltTy} (X : Vec F S1x1024 e) : View.ld X allG = X := View.ld_unit_lit _ X (by decide)
theorem ld_allL {e : EltTy} (X : Vec F S8x128 e) : View.ld X allL = X := View.ld_unit_lit _ X (by decide)

/-- The chunk at row `o` of a visit's tile, and the same as the body reads it through the buffers. -/
def part (x : Blocks F) (o : ℕ) (ho : o + 128 ≤ 512) : Part F where
  u := View.ld x.zm (Rect.unit (s := S512x3072) ![o, 2304] S128x256.size (fits o 2304 ho (by decide)))
  v := View.ld x.zm (Rect.unit (s := S512x3072) ![o, 2560] S128x256.size (fits o 2560 ho (by decide)))
  g := View.ld x.zm (Rect.unit (s := S512x3072) ![o, 2816] S128x256.size (fits o 2816 ho (by decide)))
  scale := View.ld x.vec (Rect.unit (s := S16x256) ![5, 0] S1x256.size (by decide))
  shift := View.ld x.vec (Rect.unit (s := S16x256) ![6, 0] S1x256.size (by decide))
  wS := View.ld x.wS (Rect.unit (s := S512x128) ![0, 0] S512x128.size (by decide))
  bS := View.ld x.bS (Rect.unit (s := S264x256) ![0, 0] S128x256.size (by decide))

def rawPart (R : Refs) (W : R.Whole) (x : Blocks F) (o : ℕ) (ho : o + 128 ≤ 512) : Part F where
  u := View.readAt (Elt F) R.zm.view (Rect.unit (s := S512x3072) ![o, 2304] S128x256.size (fits o 2304 ho (by decide))).toLoadRect (W.zm.unread x.zm)
  v := View.readAt (Elt F) R.zm.view (Rect.unit (s := S512x3072) ![o, 2560] S128x256.size (fits o 2560 ho (by decide))).toLoadRect (W.zm.unread x.zm)
  g := View.readAt (Elt F) R.zm.view (Rect.unit (s := S512x3072) ![o, 2816] S128x256.size (fits o 2816 ho (by decide))).toLoadRect (W.zm.unread x.zm)
  scale := View.readAt (Elt F) R.vec.view (Rect.unit (s := S16x256) ![5, 0] S1x256.size (by decide)).toLoadRect (W.vec.unread x.vec)
  shift := View.readAt (Elt F) R.vec.view (Rect.unit (s := S16x256) ![6, 0] S1x256.size (by decide)).toLoadRect (W.vec.unread x.vec)
  wS := View.readAt (Elt F) R.wS.view (Rect.unit (s := S512x128) ![0, 0] S512x128.size (by decide)).toLoadRect (W.wS.unread x.wS)
  bS := View.readAt (Elt F) R.bS.view (Rect.unit (s := S264x256) ![0, 0] S128x256.size (by decide)).toLoadRect (W.bS.unread x.bS)

theorem rawPart_eq (R : Refs) (W : R.Whole) (x : Blocks F) (o : ℕ) (ho : o + 128 ≤ 512) : rawPart R W x o ho = part x o ho := by
  unfold rawPart part
  simp only [View.readAt_eq_ld, Memref.IsWhole.read_unread]

/-- The tile before, projected: its rows `x` and the gated product of the mixers' outputs `b`; and as the body reads it. -/
def mixed (x : Blocks F) (b : Vec F S512x1024 .bf16) (o : ℕ) (ho : o + 256 ≤ 1024) : FVec F S512x256 .f32 :=
  k0_pay13 b (View.ld x.wOut (wCols o ho)) (View.ld x.x (cols o ho)) (View.ld x.gate (gCols o ho))

def rawMixed (R : Refs) (W : R.Whole) (x : Blocks F) (b : Vec F S512x1024 .bf16) (o : ℕ) (ho : o + 256 ≤ 1024) : FVec F S512x256 .f32 :=
  k0_pay13 b (View.readAt (Elt F) R.wOut.view (wCols o ho).toLoadRect (W.wOut.unread x.wOut))
    (View.readAt (Elt F) R.x.view (cols o ho).toLoadRect (W.x.unread x.x)) (View.readAt (Elt F) R.gate.view (gCols o ho).toLoadRect (W.gate.unread x.gate))

theorem rawMixed_eq (R : Refs) (W : R.Whole) (x : Blocks F) (b : Vec F S512x1024 .bf16) (o : ℕ) (ho : o + 256 ≤ 1024) :
    rawMixed R W x b o ho = mixed x b o ho := by
  unfold rawMixed mixed
  rw [readAt_ld, readAt_ld, readAt_ld]

/-- The gain and the target as the body reads them. -/
abbrev rawGain (R : Refs) (W : R.Whole) (x : Blocks F) : Vec F S1x1024 .f32 := View.readAt (Elt F) R.scale.view allG.toLoadRect (W.scale.unread x.scale)
abbrev rawTarget (R : Refs) (W : R.Whole) (x : Blocks F) : Vec F S512x1024 .f32 := View.readAt (Elt F) R.target.view allX.toLoadRect (W.target.unread x.target)

theorem rawGain_eq (R : Refs) (W : R.Whole) (x : Blocks F) : rawGain R W x = x.scale := (readAt_ld W.scale x.scale allG).trans (ld_allG _)
theorem rawTarget_eq (R : Refs) (W : R.Whole) (x : Blocks F) : rawTarget R W x = x.target := (readAt_ld W.target x.target allX).trans (ld_allX _)

/-- Whether a visit counts. -/
abbrev counts (i : grid0.Coords) : F .f32 := k0_pay125 (BitVec.ofNat 32 (i 0).val)

/-- What a visit leaves of the projection, the head and the gating mixer, the mixers' outputs and the running rows it
found given. -/
structure Leaves (i : grid0.Coords) (x : Blocks F) (b : Vec F S512x1024 .bf16) (loss gain : Vec F S1x8x1024 .f32) (xn : Vec F S512x1024 .f32)
    (s : State F) : Prop where
  xn0 : View.ld xn (cols 0 (by decide)) = mixed x b 0 (by decide)
  xn1 : View.ld xn (cols 256 (by decide)) = mixed x b 256 (by decide)
  xn2 : View.ld xn (cols 512 (by decide)) = mixed x b 512 (by decide)
  xn3 : View.ld xn (cols 768 (by decide)) = mixed x b 768 (by decide)
  dx : s.dx = headDx xn x.scale x.target
  loss : View.ld s.acc lossRows = headLoss (counts i) xn x.scale x.target loss
  gain : View.ld s.acc gainRows = headDg (counts i) xn x.scale x.target gain
  out0 : View.ld s.before (group 0 (by decide)) = (part x 0 (by decide)).out
  out1 : View.ld s.before (group 128 (by decide)) = (part x 128 (by decide)).out
  out2 : View.ld s.before (group 256 (by decide)) = (part x 256 (by decide)).out
  out3 : View.ld s.before (group 384 (by decide)) = (part x 384 (by decide)).out

end Cert.MixHead

end
-- ==== Proof.MixHead.First.lean ====
module

public import proofs.«01_k».proof.Proof.MixHead.Stores
public import Idealize.ShloMosaic.Lib.Pipeline.ReadBack

/-!
# What the first visit leaves, read back
-/

@[expose] public section

set_option maxRecDepth 16384

noncomputable section

namespace Cert.MixHead

open Cert.Kernel5Ideal Cert.Kernel5Ideal.Gen
open Idealize.ShloMosaic Idealize.ShloMosaic.TcCoe Idealize.ShloMosaic.Tactic
open Idealize.SL.Sem

variable {F : FTy → Type} [FloatOps F]

namespace First

variable (c : Dev nD) (i : grid0.Coords) (R : Refs) (W : R.Whole) (h0 : first i) (h1 : ¬last i) (x : Blocks F)

/-- The projected tile. -/
abbrev xn : Vec F S512x1024 .f32 := runA.sl.v1877 R W x

theorem xn0 : View.ld (xn R W x) (cols 0 (by decide)) = rawMixed R W x (runA.sl.v39 R) 0 (by decide) := by
  refine (congrArg (fun X => View.ld X (cols 0 (by decide))) ((View.readCov_eq_canon' R.xn.view (runA.sl.H21_4 R W x) allX.toLoadRect).trans (ld_allX _))).trans ?_
  repeat refine (ld_skip _ _ _ _ (by rfl)).trans ?_
  exact (ld_hit _ _ _).trans (by sl_kernel_rfl)

theorem xn1 : View.ld (xn R W x) (cols 256 (by decide)) = rawMixed R W x (runA.sl.v39 R) 256 (by decide) := by
  refine (congrArg (fun X => View.ld X (cols 256 (by decide))) ((View.readCov_eq_canon' R.xn.view (runA.sl.H21_4 R W x) allX.toLoadRect).trans (ld_allX _))).trans ?_
  repeat refine (ld_skip _ _ _ _ (by rfl)).trans ?_
  exact (ld_hit _ _ _).trans (by sl_kernel_rfl)

theorem xn2 : View.ld (xn R W x) (cols 512 (by decide)) = rawMixed R W x (runA.sl.v39 R) 512 (by decide) := by
  refine (congrArg (fun X => View.ld X (cols 512 (by decide))) ((View.readCov_eq_canon' R.xn.view (runA.sl.H21_4 R W x) allX.toLoadRect).trans (ld_allX _))).trans ?_
  repeat refine (ld_skip _ _ _ _ (by rfl)).trans ?_
  exact (ld_hit _ _ _).trans (by sl_kernel_rfl)

theorem xn3 : View.ld (xn R W x) (cols 768 (by decide)) = rawMixed R W x (runA.sl.v39 R) 768 (by decide) := by
  refine (congrArg (fun X => View.ld X (cols 768 (by decide))) ((View.readCov_eq_canon' R.xn.view (runA.sl.H21_4 R W x) allX.toLoadRect).trans (ld_allX _))).trans ?_
  repeat refine (ld_skip _ _ _ _ (by rfl)).trans ?_
  exact (ld_hit _ _ _).trans (by sl_kernel_rfl)

theorem dx : View.canon (runA c i R W h0 h1 x).1.dx = headDx (xn R W x) (rawGain R W x) (rawTarget R W x) :=
  (ld_allX _).symm.trans ((ld_hit allX _ _).trans (by sl_kernel_rfl))

theorem loss : View.ld (View.canon (runA c i R W h0 h1 x).1.acc) lossRows = headLoss (counts i) (xn R W x) (rawGain R W x) (rawTarget R W x) (View.ld k0_pay5 lossRows) := by
  repeat refine (ld_skip _ _ _ _ (by rfl)).trans ?_
  refine (ld_hit _ _ _).trans ?_
  refine Eq.trans (b := headLoss (counts i) (xn R W x) (rawGain R W x) (rawTarget R W x) (R.acc.view.readCov runA.sl.H22_1 lossRows.toLoadRect)) (by sl_kernel_rfl)
    (congrArg (headLoss (counts i) (xn R W x) (rawGain R W x) (rawTarget R W x)) (View.readCov_fill _ _ _ _ lossRows (by decide)))

theorem gain : View.ld (View.canon (runA c i R W h0 h1 x).1.acc) gainRows = headDg (counts i) (xn R W x) (rawGain R W x) (rawTarget R W x) (View.ld k0_pay5 gainRows) := by
  refine (ld_hit _ _ _).trans ?_
  refine Eq.trans (b := headDg (counts i) (xn R W x) (rawGain R W x) (rawTarget R W x) (runA.sl.v2033 i R W x)) (by sl_kernel_rfl)
    (congrArg (headDg (counts i) (xn R W x) (rawGain R W x) (rawTarget R W x)) ?_)
  repeat refine (View.readCov_skip _ _ _ _ _ (by rfl)).trans ?_
  exact View.readCov_fill _ _ _ _ gainRows (by decide)

theorem handed : View.canon (runA c i R W h0 h1 x).1.before = runA.sl.v1871 i R W x := by
  refine (ld_allX _).symm.trans ((ld_hit allX _ _).trans ?_)
  exact Eq.trans (b := k0_pay124 (runA.sl.v1871 i R W x)) (by sl_kernel_rfl) (by unfold k0_pay124; dsimp only; rw [shapeCast_self])

theorem out0 : View.ld (View.canon (runA c i R W h0 h1 x).1.before) (group 0 (by decide)) = (rawPart R W x 0 (by decide)).out := by
  rw [handed]
  unfold runA.sl.v1871
  rw [View.readCov_eq_canon']
  refine (congrArg (fun X => View.ld X (group 0 (by decide))) (ld_allX (F := F) (View.canon (Val := Elt F) (runA.sl.H19_16 i R W x)))).trans ?_
  repeat refine (ld_skip _ _ _ _ (by rfl)).trans ?_
  exact (ld_hit _ _ _).trans (by sl_kernel_rfl)

theorem out1 : View.ld (View.canon (runA c i R W h0 h1 x).1.before) (group 128 (by decide)) = (rawPart R W x 128 (by decide)).out := by
  rw [handed]
  unfold runA.sl.v1871
  rw [View.readCov_eq_canon']
  refine (congrArg (fun X => View.ld X (group 128 (by decide))) (ld_allX (F := F) (View.canon (Val := Elt F) (runA.sl.H19_16 i R W x)))).trans ?_
  repeat refine (ld_skip _ _ _ _ (by rfl)).trans ?_
  exact (ld_hit _ _ _).trans (by sl_kernel_rfl)

theorem out2 : View.ld (View.canon (runA c i R W h0 h1 x).1.before) (group 256 (by decide)) = (rawPart R W x 256 (by decide)).out := by
  rw [handed]
  unfold runA.sl.v1871
  rw [View.readCov_eq_canon']
  refine (congrArg (fun X => View.ld X (group 256 (by decide))) (ld_allX (F := F) (View.canon (Val := Elt F) (runA.sl.H19_16 i R W x)))).trans ?_
  repeat refine (ld_skip _ _ _ _ (by rfl)).trans ?_
  exact (ld_hit _ _ _).trans (by sl_kernel_rfl)

theorem out3 : View.ld (View.canon (runA c i R W h0 h1 x).1.before) (group 384 (by decide)) = (rawPart R W x 384 (by decide)).out := by
  rw [handed]
  unfold runA.sl.v1871
  rw [View.readCov_eq_canon']
  refine (congrArg (fun X => View.ld X (group 384 (by decide))) (ld_allX (F := F) (View.canon (Val := Elt F) (runA.sl.H19_16 i R W x)))).trans ?_
  repeat refine (ld_skip _ _ _ _ (by rfl)).trans ?_
  exact (ld_hit _ _ _).trans (by sl_kernel_rfl)

theorem before : runA.sl.v39 R = k0_pay4 (F := F) := View.readCov_cons_toLoadRect _ allX _ _

attribute [local irreducible] runA

theorem leaves : Leaves i x k0_pay4 (View.ld k0_pay5 lossRows) (View.ld k0_pay5 gainRows) (xn R W x) (atFirst c i R W h0 h1 x) where
  xn0 := by rw [← rawMixed_eq R W]; exact (xn0 R W x).trans (congrArg (fun b => rawMixed R W x b _ _) (before (F := F) R))
  xn1 := by rw [← rawMixed_eq R W]; exact (xn1 R W x).trans (congrArg (fun b => rawMixed R W x b _ _) (before (F := F) R))
  xn2 := by rw [← rawMixed_eq R W]; exact (xn2 R W x).trans (congrArg (fun b => rawMixed R W x b _ _) (before (F := F) R))
  xn3 := by rw [← rawMixed_eq R W]; exact (xn3 R W x).trans (congrArg (fun b => rawMixed R W x b _ _) (before (F := F) R))
  dx := by rw [← rawGain_eq R W x, ← rawTarget_eq R W x]; exact dx c i R W h0 h1 x
  loss := by rw [← rawGain_eq R W x, ← rawTarget_eq R W x]; exact loss c i R W h0 h1 x
  gain := by rw [← rawGain_eq R W x, ← rawTarget_eq R W x]; exact gain c i R W h0 h1 x
  out0 := by rw [← rawPart_eq R W]; exact out0 c i R W h0 h1 x
  out1 := by rw [← rawPart_eq R W]; exact out1 c i R W h0 h1 x
  out2 := by rw [← rawPart_eq R W]; exact out2 c i R W h0 h1 x
  out3 := by rw [← rawPart_eq R W]; exact out3 c i R W h0 h1 x

end First

end Cert.MixHead

end
-- ==== Proof.MixHead.Middle.lean ====
module

public import proofs.«01_k».proof.Proof.MixHead.Stores

/-!
# What a middle visit leaves, read back
-/

@[expose] public section

set_option maxRecDepth 16384

noncomputable section

namespace Cert.MixHead

open Cert.Kernel5Ideal Cert.Kernel5Ideal.Gen
open Idealize.ShloMosaic Idealize.ShloMosaic.TcCoe Idealize.ShloMosaic.Tactic
open Idealize.SL.Sem

variable {F : FTy → Type} [FloatOps F]

namespace Middle

variable (c : Dev nD) (i : grid0.Coords) (R : Refs) (W : R.Whole) (h0 : ¬first i) (h1 : ¬last i) (x : Blocks F) (s : State F)

/-- The projected tile. -/
abbrev xn : Vec F S512x1024 .f32 := runB.sl.v1877 R W x s

theorem xn0 : View.ld (xn R W x s) (cols 0 (by decide)) = rawMixed R W x (View.readAt (Elt F) R.before.view allX.toLoadRect (W.before.unread s.before)) 0 (by decide) := by
  refine (congrArg (fun X => View.ld X (cols 0 (by decide))) ((View.readCov_eq_canon' R.xn.view (runB.sl.H21_4 R W x s) allX.toLoadRect).trans (ld_allX _))).trans ?_
  repeat refine (ld_skip _ _ _ _ (by rfl)).trans ?_
  exact (ld_hit _ _ _).trans (by sl_kernel_rfl)

theorem xn1 : View.ld (xn R W x s) (cols 256 (by decide)) = rawMixed R W x (View.readAt (Elt F) R.before.view allX.toLoadRect (W.before.unread s.before)) 256 (by decide) := by
  refine (congrArg (fun X => View.ld X (cols 256 (by decide))) ((View.readCov_eq_canon' R.xn.view (runB.sl.H21_4 R W x s) allX.toLoadRect).trans (ld_allX _))).trans ?_
  repeat refine (ld_skip _ _ _ _ (by rfl)).trans ?_
  exact (ld_hit _ _ _).trans (by sl_kernel_rfl)

theorem xn2 : View.ld (xn R W x s) (cols 512 (by decide)) = rawMixed R W x (View.readAt (Elt F) R.before.view allX.toLoadRect (W.before.unread s.before)) 512 (by decide) := by
  refine (congrArg (fun X => View.ld X (cols 512 (by decide))) ((View.readCov_eq_canon' R.xn.view (runB.sl.H21_4 R W x s) allX.toLoadRect).trans (ld_allX _))).trans ?_
  repeat refine (ld_skip _ _ _ _ (by rfl)).trans ?_
  exact (ld_hit _ _ _).trans (by sl_kernel_rfl)

theorem xn3 : View.ld (xn R W x s) (cols 768 (by decide)) = rawMixed R W x (View.readAt (Elt F) R.before.view allX.toLoadRect (W.before.unread s.before)) 768 (by decide) := by
  refine (congrArg (fun X => View.ld X (cols 768 (by decide))) ((View.readCov_eq_canon' R.xn.view (runB.sl.H21_4 R W x s) allX.toLoadRect).trans (ld_allX _))).trans ?_
  repeat refine (ld_skip _ _ _ _ (by rfl)).trans ?_
  exact (ld_hit _ _ _).trans (by sl_kernel_rfl)

theorem dx : View.canon (runB c i R W h0 h1 x s).1.dx = headDx (xn R W x s) (rawGain R W x) (rawTarget R W x) :=
  (ld_allX _).symm.trans ((ld_hit allX _ _).trans (by sl_kernel_rfl))

theorem loss : View.ld (View.canon (runB c i R W h0 h1 x s).1.acc) lossRows = headLoss (counts i) (xn R W x s) (rawGain R W x) (rawTarget R W x) (View.ld s.acc lossRows) := by
  repeat refine (ld_skip _ _ _ _ (by rfl)).trans ?_
  refine (ld_hit _ _ _).trans ?_
  rw [← readAt_ld W.acc]
  sl_kernel_rfl

theorem gain : View.ld (View.canon (runB c i R W h0 h1 x s).1.acc) gainRows = headDg (counts i) (xn R W x s) (rawGain R W x) (rawTarget R W x) (View.ld s.acc gainRows) := by
  refine (ld_hit _ _ _).trans ?_
  rw [← readAt_ld W.acc]
  sl_kernel_rfl

theorem handed : View.canon (runB c i R W h0 h1 x s).1.before = runB.sl.v1871 i R W x := by
  refine (ld_allX _).symm.trans ((ld_hit allX _ _).trans ?_)
  exact Eq.trans (b := k0_pay124 (runB.sl.v1871 i R W x)) (by sl_kernel_rfl) (by unfold k0_pay124; dsimp only; rw [shapeCast_self])

theorem out0 : View.ld (View.canon (runB c i R W h0 h1 x s).1.before) (group 0 (by decide)) = (rawPart R W x 0 (by decide)).out := by
  rw [handed]
  unfold runB.sl.v1871
  rw [View.readCov_eq_canon']
  refine (congrArg (fun X => View.ld X (group 0 (by decide))) (ld_allX (F := F) (View.canon (Val := Elt F) (runB.sl.H19_16 i R W x)))).trans ?_
  repeat refine (ld_skip _ _ _ _ (by rfl)).trans ?_
  exact (ld_hit _ _ _).trans (by sl_kernel_rfl)

theorem out1 : View.ld (View.canon (runB c i R W h0 h1 x s).1.before) (group 128 (by decide)) = (rawPart R W x 128 (by decide)).out := by
  rw [handed]
  unfold runB.sl.v1871
  rw [View.readCov_eq_canon']
  refine (congrArg (fun X => View.ld X (group 128 (by decide))) (ld_allX (F := F) (View.canon (Val := Elt F) (runB.sl.H19_16 i R W x)))).trans ?_
  repeat refine (ld_skip _ _ _ _ (by rfl)).trans ?_
  exact (ld_hit _ _ _).trans (by sl_kernel_rfl)

theorem out2 : View.ld (View.canon (runB c i R W h0 h1 x s).1.before) (group 256 (by decide)) = (rawPart R W x 256 (by decide)).out := by
  rw [handed]
  unfold runB.sl.v1871
  rw [View.readCov_eq_canon']
  refine (congrArg (fun X => View.ld X (group 256 (by decide))) (ld_allX (F := F) (View.canon (Val := Elt F) (runB.sl.H19_16 i R W x)))).trans ?_
  repeat refine (ld_skip _ _ _ _ (by rfl)).trans ?_
  exact (ld_hit _ _ _).trans (by sl_kernel_rfl)

theorem out3 : View.ld (View.canon (runB c i R W h0 h1 x s).1.before) (group 384 (by decide)) = (rawPart R W x 384 (by decide)).out := by
  rw [handed]
  unfold runB.sl.v1871
  rw [View.readCov_eq_canon']
  refine (congrArg (fun X => View.ld X (group 384 (by decide))) (ld_allX (F := F) (View.canon (Val := Elt F) (runB.sl.H19_16 i R W x)))).trans ?_
  repeat refine (ld_skip _ _ _ _ (by rfl)).trans ?_
  exact (ld_hit _ _ _).trans (by sl_kernel_rfl)

theorem before : (View.readAt (Elt F) R.before.view allX.toLoadRect (W.before.unread s.before)) = s.before := (readAt_ld W.before s.before allX).trans (ld_allX _)

attribute [local irreducible] runB

theorem leaves : Leaves i x s.before (View.ld s.acc lossRows) (View.ld s.acc gainRows) (xn R W x s) (atMiddle c i R W h0 h1 x s) where
  xn0 := by rw [← rawMixed_eq R W]; exact (xn0 R W x s).trans (congrArg (fun b => rawMixed R W x b _ _) (before R W s))
  xn1 := by rw [← rawMixed_eq R W]; exact (xn1 R W x s).trans (congrArg (fun b => rawMixed R W x b _ _) (before R W s))
  xn2 := by rw [← rawMixed_eq R W]; exact (xn2 R W x s).trans (congrArg (fun b => rawMixed R W x b _ _) (before R W s))
  xn3 := by rw [← rawMixed_eq R W]; exact (xn3 R W x s).trans (congrArg (fun b => rawMixed R W x b _ _) (before R W s))
  dx := by rw [← rawGain_eq R W x, ← rawTarget_eq R W x]; exact dx c i R W h0 h1 x s
  loss := by rw [← rawGain_eq R W x, ← rawTarget_eq R W x]; exact loss c i R W h0 h1 x s
  gain := by rw [← rawGain_eq R W x, ← rawTarget_eq R W x]; exact gain c i R W h0 h1 x s
  out0 := by rw [← rawPart_eq R W]; exact out0 c i R W h0 h1 x s
  out1 := by rw [← rawPart_eq R W]; exact out1 c i R W h0 h1 x s
  out2 := by rw [← rawPart_eq R W]; exact out2 c i R W h0 h1 x s
  out3 := by rw [← rawPart_eq R W]; exact out3 c i R W h0 h1 x s

end Middle

end Cert.MixHead

end
-- ==== Proof.MixHead.Last.lean ====
module

public import proofs.«01_k».proof.Proof.MixHead.Stores

/-!
# What the last visit leaves, read back
-/

@[expose] public section

set_option maxRecDepth 16384

noncomputable section

namespace Cert.MixHead

open Cert.Kernel5Ideal Cert.Kernel5Ideal.Gen
open Idealize.ShloMosaic Idealize.ShloMosaic.TcCoe Idealize.ShloMosaic.Tactic
open Idealize.SL.Sem

variable {F : FTy → Type} [FloatOps F]

namespace Last

variable (c : Dev nD) (i : grid0.Coords) (R : Refs) (W : R.Whole) (h0 : ¬first i) (h1 : last i) (x : Blocks F) (s : State F)

/-- The projected tile. -/
abbrev xn : Vec F S512x1024 .f32 := runC.sl.v1877 R W x s

theorem xn0 : View.ld (xn R W x s) (cols 0 (by decide)) = rawMixed R W x (View.readAt (Elt F) R.before.view allX.toLoadRect (W.before.unread s.before)) 0 (by decide) := by
  refine (congrArg (fun X => View.ld X (cols 0 (by decide))) ((View.readCov_eq_canon' R.xn.view (runC.sl.H21_4 R W x s) allX.toLoadRect).trans (ld_allX _))).trans ?_
  repeat refine (ld_skip _ _ _ _ (by rfl)).trans ?_
  exact (ld_hit _ _ _).trans (by sl_kernel_rfl)

theorem xn1 : View.ld (xn R W x s) (cols 256 (by decide)) = rawMixed R W x (View.readAt (Elt F) R.before.view allX.toLoadRect (W.before.unread s.before)) 256 (by decide) := by
  refine (congrArg (fun X => View.ld X (cols 256 (by decide))) ((View.readCov_eq_canon' R.xn.view (runC.sl.H21_4 R W x s) allX.toLoadRect).trans (ld_allX _))).trans ?_
  repeat refine (ld_skip _ _ _ _ (by rfl)).trans ?_
  exact (ld_hit _ _ _).trans (by sl_kernel_rfl)

theorem xn2 : View.ld (xn R W x s) (cols 512 (by decide)) = rawMixed R W x (View.readAt (Elt F) R.before.view allX.toLoadRect (W.before.unread s.before)) 512 (by decide) := by
  refine (congrArg (fun X => View.ld X (cols 512 (by decide))) ((View.readCov_eq_canon' R.xn.view (runC.sl.H21_4 R W x s) allX.toLoadRect).trans (ld_allX _))).trans ?_
  repeat refine (ld_skip _ _ _ _ (by rfl)).trans ?_
  exact (ld_hit _ _ _).trans (by sl_kernel_rfl)

theorem xn3 : View.ld (xn R W x s) (cols 768 (by decide)) = rawMixed R W x (View.readAt (Elt F) R.before.view allX.toLoadRect (W.before.unread s.before)) 768 (by decide) := by
  refine (congrArg (fun X => View.ld X (cols 768 (by decide))) ((View.readCov_eq_canon' R.xn.view (runC.sl.H21_4 R W x s) allX.toLoadRect).trans (ld_allX _))).trans ?_
  repeat refine (ld_skip _ _ _ _ (by rfl)).trans ?_
  exact (ld_hit _ _ _).trans (by sl_kernel_rfl)

theorem dx : View.canon (runC c i R W h0 h1 x s).1.dx = headDx (xn R W x s) (rawGain R W x) (rawTarget R W x) :=
  (ld_allX _).symm.trans ((ld_hit allX _ _).trans (by sl_kernel_rfl))

theorem loss : View.ld (View.canon (runC c i R W h0 h1 x s).1.acc) lossRows = headLoss (counts i) (xn R W x s) (rawGain R W x) (rawTarget R W x) (View.ld s.acc lossRows) := by
  repeat refine (ld_skip _ _ _ _ (by rfl)).trans ?_
  refine (ld_hit _ _ _).trans ?_
  rw [← readAt_ld W.acc]
  sl_kernel_rfl

theorem gain : View.ld (View.canon (runC c i R W h0 h1 x s).1.acc) gainRows = headDg (counts i) (xn R W x s) (rawGain R W x) (rawTarget R W x) (View.ld s.acc gainRows) := by
  refine (ld_hit _ _ _).trans ?_
  rw [← readAt_ld W.acc]
  sl_kernel_rfl

theorem handed : View.canon (runC c i R W h0 h1 x s).1.before = runC.sl.v1871 i R W x := by
  refine (ld_allX _).symm.trans ((ld_hit allX _ _).trans ?_)
  exact Eq.trans (b := k0_pay124 (runC.sl.v1871 i R W x)) (by sl_kernel_rfl) (by unfold k0_pay124; dsimp only; rw [shapeCast_self])

theorem out0 : View.ld (View.canon (runC c i R W h0 h1 x s).1.before) (group 0 (by decide)) = (rawPart R W x 0 (by decide)).out := by
  rw [handed]
  unfold runC.sl.v1871
  rw [View.readCov_eq_canon']
  refine (congrArg (fun X => View.ld X (group 0 (by decide))) (ld_allX (F := F) (View.canon (Val := Elt F) (runC.sl.H19_16 i R W x)))).trans ?_
  repeat refine (ld_skip _ _ _ _ (by rfl)).trans ?_
  exact (ld_hit _ _ _).trans (by sl_kernel_rfl)

theorem out1 : View.ld (View.canon (runC c i R W h0 h1 x s).1.before) (group 128 (by decide)) = (rawPart R W x 128 (by decide)).out := by
  rw [handed]
  unfold runC.sl.v1871
  rw [View.readCov_eq_canon']
  refine (congrArg (fun X => View.ld X (group 128 (by decide))) (ld_allX (F := F) (View.canon (Val := Elt F) (runC.sl.H19_16 i R W x)))).trans ?_
  repeat refine (ld_skip _ _ _ _ (by rfl)).trans ?_
  exact (ld_hit _ _ _).trans (by sl_kernel_rfl)

theorem out2 : View.ld (View.canon (runC c i R W h0 h1 x s).1.before) (group 256 (by decide)) = (rawPart R W x 256 (by decide)).out := by
  rw [handed]
  unfold runC.sl.v1871
  rw [View.readCov_eq_canon']
  refine (congrArg (fun X => View.ld X (group 256 (by decide))) (ld_allX (F := F) (View.canon (Val := Elt F) (runC.sl.H19_16 i R W x)))).trans ?_
  repeat refine (ld_skip _ _ _ _ (by rfl)).trans ?_
  exact (ld_hit _ _ _).trans (by sl_kernel_rfl)

theorem out3 : View.ld (View.canon (runC c i R W h0 h1 x s).1.before) (group 384 (by decide)) = (rawPart R W x 384 (by decide)).out := by
  rw [handed]
  unfold runC.sl.v1871
  rw [View.readCov_eq_canon']
  refine (congrArg (fun X => View.ld X (group 384 (by decide))) (ld_allX (F := F) (View.canon (Val := Elt F) (runC.sl.H19_16 i R W x)))).trans ?_
  repeat refine (ld_skip _ _ _ _ (by rfl)).trans ?_
  exact (ld_hit _ _ _).trans (by sl_kernel_rfl)

theorem total : View.canon (runC c i R W h0 h1 x s).1.loss = k0_pay2 (View.ld (View.canon (runC c i R W h0 h1 x s).1.acc) lossRows) := by
  refine (ld_allL _).symm.trans ((ld_hit allL _ _).trans ?_)
  refine Eq.trans (b := k0_pay2 (runC.sl.v2186 i R W x s)) (by sl_kernel_rfl) (congrArg k0_pay2 ?_)
  unfold runC.sl.v2186
  exact View.readCov_eq_canon' _ _ _

theorem totalGain : View.canon (runC c i R W h0 h1 x s).1.dg = k0_pay3 (View.ld (View.canon (runC c i R W h0 h1 x s).1.acc) gainRows) := by
  refine (ld_allG _).symm.trans ((ld_hit allG _ _).trans ?_)
  refine Eq.trans (b := k0_pay3 (runC.sl.v2195 i R W x s)) (by sl_kernel_rfl) (congrArg k0_pay3 ?_)
  unfold runC.sl.v2195
  exact View.readCov_eq_canon' _ _ _

theorem before : (View.readAt (Elt F) R.before.view allX.toLoadRect (W.before.unread s.before)) = s.before := (readAt_ld W.before s.before allX).trans (ld_allX _)

attribute [local irreducible] runC

theorem leaves : Leaves i x s.before (View.ld s.acc lossRows) (View.ld s.acc gainRows) (xn R W x s) (atLast c i R W h0 h1 x s) where
  xn0 := by rw [← rawMixed_eq R W]; exact (xn0 R W x s).trans (congrArg (fun b => rawMixed R W x b _ _) (before R W s))
  xn1 := by rw [← rawMixed_eq R W]; exact (xn1 R W x s).trans (congrArg (fun b => rawMixed R W x b _ _) (before R W s))
  xn2 := by rw [← rawMixed_eq R W]; exact (xn2 R W x s).trans (congrArg (fun b => rawMixed R W x b _ _) (before R W s))
  xn3 := by rw [← rawMixed_eq R W]; exact (xn3 R W x s).trans (congrArg (fun b => rawMixed R W x b _ _) (before R W s))
  dx := by rw [← rawGain_eq R W x, ← rawTarget_eq R W x]; exact dx c i R W h0 h1 x s
  loss := by rw [← rawGain_eq R W x, ← rawTarget_eq R W x]; exact loss c i R W h0 h1 x s
  gain := by rw [← rawGain_eq R W x, ← rawTarget_eq R W x]; exact gain c i R W h0 h1 x s
  out0 := by rw [← rawPart_eq R W]; exact out0 c i R W h0 h1 x s
  out1 := by rw [← rawPart_eq R W]; exact out1 c i R W h0 h1 x s
  out2 := by rw [← rawPart_eq R W]; exact out2 c i R W h0 h1 x s
  out3 := by rw [← rawPart_eq R W]; exact out3 c i R W h0 h1 x s

theorem leaves_loss : (atLast c i R W h0 h1 x s).loss = k0_pay2 (View.ld (atLast c i R W h0 h1 x s).acc lossRows) := total c i R W h0 h1 x s
theorem leaves_gain : (atLast c i R W h0 h1 x s).dg = k0_pay3 (View.ld (atLast c i R W h0 h1 x s).acc gainRows) := totalGain c i R W h0 h1 x s

end Last

end Cert.MixHead

end
-- ==== Proof.MixHead.Visits.lean ====
module

public import proofs.«01_k».proof.Proof.MixHead.Tokens
public import proofs.«01_k».proof.Proof.MixHead.Gated
public import proofs.«01_k».proof.Proof.MixHead.Head
public import proofs.«01_k».proof.Proof.MixHead.First
public import proofs.«01_k».proof.Proof.MixHead.Middle
public import proofs.«01_k».proof.Proof.MixHead.Last

/-!
# The visits on real numbers

The gating mixer's outputs that a visit hands on, the projected rows of the tile before, and what the visits have summed.
-/

@[expose] public section

set_option maxRecDepth 16384

noncomputable section

namespace Cert.MixHead

open Cert.Kernel5Ideal Cert.Kernel5Ideal.Gen Cert.Common
open Cert.MixBwd (head Rows)
open Idealize.ShloMosaic Idealize.ShloMosaic.TcCoe Idealize.ShloMosaic.Tactic
open Idealize.SL.Sem

section Loads

theorem ld_z (x : Vec Ideal S512x3072 .bf16) (o k : ℕ) (ho : o + 128 ≤ 512) (hk : k + 256 ≤ 3072) (r : Fin 128) (a : Fin 256) :
    View.ld x (Rect.unit (s := S512x3072) ![o, k] S128x256.size (fits o k ho hk)) (ix2 r a) = x (ix2 ⟨o + r.val, by omega⟩ ⟨k + a.val, by omega⟩) := by
  pointwise
theorem ld_group (x : Vec Ideal S512x1024 .bf16) (o : ℕ) (ho : o + 128 ≤ 512) (r : Fin 128) (a : Fin 256) :
    View.ld x (group o ho) (ix2 r a) = x (ix2 ⟨o + r.val, by omega⟩ ⟨768 + a.val, by omega⟩) := by
  pointwise
theorem ld_cols (x : Vec Ideal S512x1024 .f32) (o : ℕ) (ho : o + 256 ≤ 1024) (r : Fin 512) (a : Fin 256) :
    View.ld x (cols o ho) (ix2 r a) = x (ix2 r ⟨o + a.val, by omega⟩) := by
  pointwise
theorem ld_wCols (x : Vec Ideal S1024x1024 .bf16) (o : ℕ) (ho : o + 256 ≤ 1024) (r : Fin 1024) (a : Fin 256) :
    View.ld x (wCols o ho) (ix2 r a) = x (ix2 r ⟨o + a.val, by omega⟩) := by
  pointwise
theorem ld_gCols (x : Vec Ideal S1x1024 .f32) (o : ℕ) (ho : o + 256 ≤ 1024) (a : Fin 256) :
    View.ld x (gCols o ho) (ix2 0 a) = x (ix2 0 ⟨o + a.val, by omega⟩) := by
  pointwise
theorem ld_vec (x : Vec Ideal S16x256 .f32) (n : ℕ) (hn : ∀ a, ![n, 0] a + S1x256.size a ≤ S16x256.size a) (a : Fin 256) (r : Fin 1) :
    View.ld x (Rect.unit (s := S16x256) ![n, 0] S1x256.size hn) (ix2 r a) = x (ix2 ⟨n, by have := hn 0; change n + 1 ≤ 16 at this; omega⟩ a) := by
  pointwise
theorem ld_bias (x : Vec Ideal S264x256 .f32) (r : Fin 128) (a : Fin 256) :
    View.ld x (Rect.unit (s := S264x256) ![0, 0] S128x256.size (by decide)) (ix2 r a) = x (ix2 ⟨r.val, by omega⟩ a) := by
  pointwise

end Loads

theorem line_tok (i q : ℕ) (r : Fin 128) (h : 128 * q + r.val < 512) : line i ⟨128 * q + r.val, h⟩ = tok (4 * i + q) r :=
  Fin.ext (show (512 * i + (128 * q + r.val)) % 16384 = (128 * (4 * i + q) + r.val) % 16384 by
    rw [show 512 * i + (128 * q + r.val) = 128 * (4 * i + q) + r.val by ring])

theorem coe_mask (x : ℝ) (p : Prop) [Decidable p] : (x : EReal) * ((if p then 1 else 0 : ℝ) : EReal) = ((if p then x else 0 : ℝ) : EReal) := by
  rw [← EReal.coe_mul]
  split <;> simp

variable {m : (ℓ : Loc nD τ sig) → Buf (Elt Ideal) ℓ} {c : Dev nD} {X : Data} (H : Holds m c X)

set_option maxHeartbeats 2000000 in
include H in
theorem part_is (t : Fin cfg0.N) (q : ℕ) (ho : 128 * q + 128 ≤ 512) :
    PartIs (part (blocks m c t) (128 * q) ho) (X.rows (4 * cur t.val + q)) := by
  have hz : ∀ (k : ℕ) (hk : k + 256 ≤ 3072) (r : Fin 128) (a : Fin 256),
      View.ld (blocks m c t).zm (Rect.unit (s := S512x3072) ![128 * q, k] S128x256.size (fits (128 * q) k ho hk)) (ix2 r a)
        = (X.z (tok (4 * cur t.val + q) r) ⟨k + a.val, by omega⟩ : EReal) := fun k hk r a =>
    (ld_z _ _ _ ho hk r a).trans (by rw [blk0, entry_z, H.z, line_tok])
  constructor
  · intro r a; exact hz 2304 (by decide) r a
  · intro r a; exact hz 2560 (by decide) r a
  · intro r a; exact hz 2816 (by decide) r a
  · intro a
    show View.ld (blocks m c t).vec _ _ = _
    exact (ld_vec _ 5 (by decide) a 0).trans ((blk6 m c t 5 a).trans ((entry_scale m c a).trans (H.scale a)))
  · intro a
    show View.ld (blocks m c t).vec _ _ = _
    exact (ld_vec _ 6 (by decide) a 0).trans ((blk6 m c t 6 a).trans ((entry_shift m c a).trans (H.shift a)))
  · intro h r a
    show View.ld (blocks m c t).wS _ _ = _
    refine (congrFun (View.ld_unit_lit _ _ (by decide)) _).trans ((blk9 m c t _ a).trans ((entry_w m c h r a).trans ?_))
    exact (congrArg (· * _) (H.w h r a)).trans (coe_mask _ _)
  · intro r a
    show View.ld (blocks m c t).bS _ _ = _
    exact (ld_bias _ r a).trans ((blk10 m c t _ a).trans ((entry_bias m c r a).trans (H.b _ _)))

/-- The gating mixer's outputs on tile `i`, in the last group's columns. -/
def Outputs (X : Data) (i : ℕ) (b : Vec Ideal S512x1024 .bf16) : Prop :=
  ∀ (r : Fin 512) (a : Fin 256), b (ix2 r ⟨768 + a.val, by omega⟩) = (X.yd (line i r) a : EReal)

/-- The projected rows of tile `i`. -/
def Projected (f : Fin 512 → Fin 1024 → ℝ) (xn : Vec Ideal S512x1024 .f32) : Prop := ∀ r k, xn (ix2 r k) = (f r k : EReal)

theorem yd_tok (i q : ℕ) (hi : i ≤ 31) (hq : q < 4) (r : Fin 128) (a : Fin 256) : X.yd (tok (4 * i + q) r) a = (X.rows (4 * i + q)).outp r a := by
  have h : (128 * (4 * i + q) + r.val) % 16384 = 128 * (4 * i + q) + r.val := Nat.mod_eq_of_lt (by omega)
  have e1 : (tok (4 * i + q) r).val / 128 = 4 * i + q := by
    show (128 * (4 * i + q) + r.val) % 16384 / 128 = _
    omega
  have e2 : pos (tok (4 * i + q) r) = r := Fin.ext (by
    show (128 * (4 * i + q) + r.val) % 16384 % 128 = _
    omega)
  unfold Data.yd
  rw [e1, e2]

section Visit

variable {t : Fin cfg0.N} {b : Vec Ideal S512x1024 .bf16} {loss gain : Vec Ideal S1x8x1024 .f32} {xn : Vec Ideal S512x1024 .f32}
  {s : State Ideal} (L : Leaves (grid0.coords t) (blocks m c t) b loss gain xn s)

include H L in
theorem outputs : Outputs X (cur t.val) s.before := fun r a => by
  have hc : cur t.val ≤ 31 := Nat.min_le_right _ _
  have key : ∀ (q : ℕ) (ho : 128 * q + 128 ≤ 512) (_ : View.ld s.before (group (128 * q) ho) = (part (blocks m c t) (128 * q) ho).out) (r' : Fin 128),
      s.before (ix2 ⟨128 * q + r'.val, by omega⟩ ⟨768 + a.val, by omega⟩) = (X.yd (line (cur t.val) ⟨128 * q + r'.val, by omega⟩) a : EReal) := fun q ho h r' => by
    rw [← ld_group s.before (128 * q) ho, h, out_at (part_is H t q ho), line_tok, yd_tok _ _ hc (by omega)]
  have hr := r.isLt
  have at' : ∀ (q : ℕ) (hq : r.val / 128 = q), r = ⟨128 * q + (⟨r.val % 128, Nat.mod_lt _ (by decide)⟩ : Fin 128).val, by
      show 128 * q + r.val % 128 < 512; omega⟩ := fun q hq => Fin.ext (by show r.val = 128 * q + r.val % 128; omega)
  have hd : r.val / 128 = 0 ∨ r.val / 128 = 1 ∨ r.val / 128 = 2 ∨ r.val / 128 = 3 := by omega
  rcases hd with h | h | h | h
  · rw [at' _ h]; exact key 0 (by decide) L.out0 _
  · rw [at' _ h]; exact key 1 (by decide) L.out1 _
  · rw [at' _ h]; exact key 2 (by decide) L.out2 _
  · rw [at' _ h]; exact key 3 (by decide) L.out3 _

include L in
/-- A column of the projected tile. -/
theorem projected_at (r : Fin 512) (k : Fin 1024) :
    xn (ix2 r k) = (blocks m c t).x (ix2 r k) + (blocks m c t).gate (ix2 0 k) * ∑ j : Fin 1024, b (ix2 r j) * (blocks m c t).wOut (ix2 j k) := by
  have key : ∀ (o : ℕ) (ho : o + 256 ≤ 1024) (_ : View.ld xn (cols o ho) = mixed (blocks m c t) b o ho) (a : Fin 256),
      xn (ix2 r ⟨o + a.val, by omega⟩) = (blocks m c t).x (ix2 r ⟨o + a.val, by omega⟩) + (blocks m c t).gate (ix2 0 ⟨o + a.val, by omega⟩)
        * ∑ j : Fin 1024, b (ix2 r j) * (blocks m c t).wOut (ix2 j ⟨o + a.val, by omega⟩) := fun o ho h a => by
    rw [← ld_cols xn o ho, h, mixed, projected, ld_cols, ld_gCols]
    exact congrArg (fun z => _ + _ * z) (Finset.sum_congr rfl fun j _ => congrArg (b (ix2 r j) * ·) (ld_wCols _ o ho j a))
  have hk := k.isLt
  have at' : ∀ (q : ℕ) (hq : k.val / 256 = q), k = ⟨256 * q + (⟨k.val % 256, Nat.mod_lt _ (by decide)⟩ : Fin 256).val, by
      show 256 * q + k.val % 256 < 1024; omega⟩ := fun q hq => Fin.ext (by show k.val = 256 * q + k.val % 256; omega)
  have hd : k.val / 256 = 0 ∨ k.val / 256 = 1 ∨ k.val / 256 = 2 ∨ k.val / 256 = 3 := by omega
  rcases hd with h | h | h | h
  · rw [at' _ h]; exact key 0 (by decide) L.xn0 _
  · rw [at' _ h]; exact key 256 (by decide) L.xn1 _
  · rw [at' _ h]; exact key 512 (by decide) L.xn2 _
  · rw [at' _ h]; exact key 768 (by decide) L.xn3 _

include H in
theorem x_at (t : Fin cfg0.N) (r : Fin 512) (k : Fin 1024) : (blocks m c t).x (ix2 r k) = (X.x (line (t.val - 1) r) k : EReal) :=
  (blk2 m c t r k).trans ((entry_x m c _ k).trans (H.x _ k))
include H in
theorem gate_at (t : Fin cfg0.N) (k : Fin 1024) : (blocks m c t).gate (ix2 0 k) = (X.gate k : EReal) :=
  (blk3 m c t 0 k).trans ((congrFun (V_main_arg2 m c) _).trans (H.gate k))
include H in
theorem gain_is (t : Fin cfg0.N) (k : Fin 1024) : (blocks m c t).scale (ix2 0 k) = (X.g k : EReal) :=
  (blk12 m c t 0 k).trans ((entry_g m c k).trans (H.g k))
include H in
theorem target_is (t : Fin cfg0.N) (r : Fin 512) (k : Fin 1024) : (blocks m c t).target (ix2 r k) = (X.target (line (t.val - 1) r) k : EReal) :=
  (blk13 m c t r k).trans ((entry_target m c _ k).trans (H.target _ k))

include H L in
theorem projected_later (hb : Outputs X (t.val - 1) b) : Projected (fun r k => X.xn (line (t.val - 1) r) k) xn := fun r k => by
  rw [projected_at L, x_at H, gate_at H, Fin.sum_univ_add (a := 768) (b := 256) (fun j => b (ix2 r j) * (blocks m c t).wOut (ix2 j k))]
  have h0 : ∀ j : Fin 768, b (ix2 r (Fin.castAdd 256 j)) * (blocks m c t).wOut (ix2 (Fin.castAdd 256 j) k) = 0 := fun j =>
    (congrArg (fun z => b (ix2 r (Fin.castAdd 256 j)) * z) ((blk11 m c t _ k).trans (entry_other m c j k))).trans (mul_zero _)
  have h1 : ∀ j : Fin 256, b (ix2 r (Fin.natAdd 768 j)) * (blocks m c t).wOut (ix2 (Fin.natAdd 768 j) k) = ((X.yd (line (t.val - 1) r) j * X.out j k : ℝ) : EReal) := fun j =>
    (congrArg₂ (· * ·) (hb r j) ((blk11 m c t _ k).trans ((entry_out m c j k).trans (H.out j k)))).trans (EReal.coe_mul _ _).symm
  rw [Finset.sum_congr rfl fun j _ => h0 j, Finset.sum_congr rfl fun j _ => h1 j, Finset.sum_const_zero, zero_add, coe_sum, ← EReal.coe_mul, ← EReal.coe_add]
  rfl

include H L in
theorem projected_first (hb : b = k0_pay4 (F := Ideal)) : Projected (fun r k => X.x (line (t.val - 1) r) k) xn := fun r k => by
  rw [projected_at L, x_at H, gate_at H, hb]
  have h0 : ∀ j : Fin 1024, k0_pay4 (F := Ideal) (ix2 r j) = 0 := fun j => by pointwise [k0_pay4]
  simp only [h0, zero_mul, Finset.sum_const_zero, mul_zero, add_zero]

end Visit

theorem counts_first (t : Fin cfg0.N) (h : t.val = 0) : counts (F := Ideal) (grid0.coords t) = ((0 : ℝ) : EReal) := by
  have e : ∀ t : Fin grid0.N, t.val = 0 → Scalar.cmpi .sgt (BitVec.ofNat 32 ((grid0.coords t) 0).val) 0#32 = 0#1 := by decide +kernel
  unfold counts k0_pay125
  dsimp only
  rw [e t h]
  show Ideal.ofBits FTy.f32 0#32 = _
  rw [Ideal.ofBits_zero_f32]; rfl

theorem counts_later (t : Fin cfg0.N) (h : t.val ≠ 0) : counts (F := Ideal) (grid0.coords t) = ((1 : ℝ) : EReal) := by
  have e : ∀ t : Fin grid0.N, t.val ≠ 0 → Scalar.cmpi .sgt (BitVec.ofNat 32 ((grid0.coords t) 0).val) 0#32 = 1#1 := by decide +kernel
  unfold counts k0_pay125
  dsimp only
  rw [e t h]
  show Ideal.ofBits FTy.f32 1065353216#32 = _
  rw [Ideal.ofBits_one_f32]; rfl

end Cert.MixHead
-- ==== Proof.MixHead.Sums.lean ====
module

public import proofs.«01_k».proof.Proof.MixHead.Visits

/-!
# What the visits have summed

By induction over the visits: after visit `n` the running sums are those over the tiles before tile `n`, the gating mixer's
outputs are those of tile `n`, and the tokens' gradient is that of tile `n − 1`.
-/

@[expose] public section

set_option maxRecDepth 16384

noncomputable section

namespace Cert.MixHead

open Cert.Kernel5Ideal Cert.Kernel5Ideal.Gen Cert.Common
open Idealize.ShloMosaic Idealize.ShloMosaic.TcCoe Idealize.ShloMosaic.Tactic
open Idealize.SL.Sem

theorem zero_acc : k0_pay5 (F := Ideal) = fun _ => 0 := by
  funext i
  pointwise [k0_pay5]

/-- What row `s` of the running sums takes from tile `i`. -/
def lossPart (X : Data) (s : Fin 8) (k : Fin 1024) (i : ℕ) : ℝ :=
  ∑ p : Fin 64, X.err (line i ⟨8 * p.val + s.val, by omega⟩) k * X.err (line i ⟨8 * p.val + s.val, by omega⟩) k
def gainPart (X : Data) (s : Fin 8) (k : Fin 1024) (i : ℕ) : ℝ :=
  ∑ p : Fin 64, X.dy (line i ⟨8 * p.val + s.val, by omega⟩) k * X.hat (line i ⟨8 * p.val + s.val, by omega⟩) k

/-- What the state after visit `n` holds. -/
structure Total (X : Data) (n : ℕ) (s : State Ideal) : Prop where
  out : Outputs X (cur n) s.before
  dx : n ≠ 0 → ∀ r k, s.dx (ix2 r k) = (X.dx (line (n - 1) r) k : EReal)
  loss : ∀ (r : Fin 8) k, View.ld s.acc lossRows (ix3 0 r k) = ((∑ i ∈ Finset.range n, lossPart X r k i : ℝ) : EReal)
  gain : ∀ (r : Fin 8) k, View.ld s.acc gainRows (ix3 0 r k) = ((∑ i ∈ Finset.range n, gainPart X r k i : ℝ) : EReal)

variable {m : (ℓ : Loc nD τ sig) → Buf (Elt Ideal) ℓ} {c : Dev nD} {X : Data} (H : Holds m c X)
  {t : Fin cfg0.N} {s : State Ideal} {xn : Vec Ideal S512x1024 .f32}

include H in
theorem total_first (ht : t.val = 0)
    (L : Leaves (grid0.coords t) (blocks m c t) (k0_pay4 (F := Ideal)) (View.ld (k0_pay5 (F := Ideal)) lossRows)
      (View.ld (k0_pay5 (F := Ideal)) gainRows) xn s) : Total X 0 s where
  out := ht ▸ outputs H L
  dx h := absurd rfl h
  loss r k := by
    rw [L.loss, counts_first t ht, headLoss_at (projected_first H L rfl) (gain_is H t) (target_is H t) k 0 _ r, zero_acc, zero_mul]
    exact (zero_add _).trans (by simp)
  gain r k := by
    rw [L.gain, counts_first t ht, headDg_at (projected_first H L rfl) (gain_is H t) (target_is H t) k 0 _ r, zero_acc, zero_mul]
    exact (zero_add _).trans (by simp)

include H in
theorem total_later {n : ℕ} (ht : t.val = n + 1) {p : State Ideal} (T : Total X n p)
    (L : Leaves (grid0.coords t) (blocks m c t) p.before (View.ld p.acc lossRows) (View.ld p.acc gainRows) xn s) : Total X (n + 1) s := by
  have hN : t.val < 33 := lt_of_lt_of_eq t.isLt N_0
  have e1 : t.val - 1 = n := by omega
  have hb : Outputs X (t.val - 1) p.before := by
    have := T.out
    rwa [show cur n = t.val - 1 by unfold cur; omega] at this
  have P := projected_later H L hb
  have G := gain_is H t
  have Y := target_is H t
  refine ⟨ht ▸ outputs H L, fun _ r k => ?_, fun r k => ?_, fun r k => ?_⟩
  · rw [L.dx, headDx_at P G Y r k]
    show (X.dx (line (t.val - 1) r) k : EReal) = _
    rw [e1]; rfl
  · rw [L.loss, counts_later t (by omega), headLoss_at P G Y k 1 _ r, T.loss, one_mul, Finset.sum_range_succ, ← EReal.coe_add]
    show ((_ + lossPart X r k (t.val - 1) : ℝ) : EReal) = _
    rw [e1]
  · rw [L.gain, counts_later t (by omega), headDg_at P G Y k 1 _ r, T.gain, one_mul, Finset.sum_range_succ, ← EReal.coe_add]
    show ((_ + gainPart X r k (t.val - 1) : ℝ) : EReal) = _
    rw [e1]

/-- What the last visit makes of the running loss. -/
theorem fold_loss (a : Vec Ideal S1x8x1024 .f32) (i : Fin 8) (j : Fin 128) :
    k0_pay2 (F := Ideal) a (ix2 i j) = (∑ r : Fin 8, ∑ k : Fin 1024, a (ix3 0 r k)) * ((1 / 2048 : ℝ) : EReal) := by
  pointwise [k0_pay2]
  rw [bits_half_inv, mul_comm]

attribute [local irreducible] runA runB runC

include H in
/-- After every visit. -/
theorem total : ∀ (n : ℕ) (h : n < cfg0.N), Total X n (leftAt m c n h) := by
  intro n
  induction n with
  | zero =>
    intro h
    have h0 : first (grid0.coords ⟨0, h⟩) := (first_iff ⟨0, h⟩).mpr rfl
    have h1 : ¬last (grid0.coords ⟨0, h⟩) := fun e => Nat.noConfusion ((last_iff ⟨0, h⟩).mp e)
    have e := leftAt_first m c ⟨0, h⟩ h0 h1
    rw [show leftAt m c 0 h = _ from e]
    exact total_first H rfl (First.leaves c (grid0.coords ⟨0, h⟩) (refs ⟨0, h⟩) (whole ⟨0, h⟩) h0 h1 (blocks m c ⟨0, h⟩))
  | succ n ih =>
    intro h
    have T := ih (by omega)
    have h0 : ¬first (grid0.coords ⟨n + 1, h⟩) := fun e => Nat.succ_ne_zero n ((first_iff ⟨n + 1, h⟩).mp e)
    by_cases h1 : last (grid0.coords ⟨n + 1, h⟩)
    · have e := leftAt_last m c ⟨n + 1, h⟩ h0 h1
      rw [show leftAt m c (n + 1) h = _ from e]
      exact total_later H rfl T (Last.leaves c (grid0.coords ⟨n + 1, h⟩) (refs ⟨n + 1, h⟩) (whole ⟨n + 1, h⟩) h0 h1 (blocks m c ⟨n + 1, h⟩) (leftAt m c n (by omega)))
    · have e := leftAt_middle m c ⟨n + 1, h⟩ h0 h1
      rw [show leftAt m c (n + 1) h = _ from e]
      exact total_later H rfl T (Middle.leaves c (grid0.coords ⟨n + 1, h⟩) (refs ⟨n + 1, h⟩) (whole ⟨n + 1, h⟩) h0 h1 (blocks m c ⟨n + 1, h⟩) (leftAt m c n (by omega)))

/-- The last visit. -/
abbrev lastState (m : (ℓ : Loc nD τ sig) → Buf (Elt Ideal) ℓ) (c : Dev nD) : State Ideal := leftAt m c 32 (lt_of_lt_of_eq (by decide) N_0.symm)

theorem last_folds :
    (lastState m c).loss = k0_pay2 (View.ld (lastState m c).acc lossRows) ∧ (lastState m c).dg = k0_pay3 (View.ld (lastState m c).acc gainRows) := by
  have h : 32 < cfg0.N := lt_of_lt_of_eq (by decide) N_0.symm
  have h0 : ¬first (grid0.coords ⟨32, h⟩) := fun e => Nat.succ_ne_zero 31 ((first_iff ⟨32, h⟩).mp e)
  have h1 : last (grid0.coords ⟨32, h⟩) := (last_iff ⟨32, h⟩).mpr rfl
  have e := leftAt_last m c ⟨32, h⟩ h0 h1
  rw [show lastState m c = _ from e]
  exact ⟨Last.leaves_loss c (grid0.coords ⟨32, h⟩) (refs ⟨32, h⟩) (whole ⟨32, h⟩) h0 h1 (blocks m c ⟨32, h⟩) _,
    Last.leaves_gain c (grid0.coords ⟨32, h⟩) (refs ⟨32, h⟩) (whole ⟨32, h⟩) h0 h1 (blocks m c ⟨32, h⟩) _⟩

/-- A sum over tiles, sublanes and groups of eight rows is the sum over all tokens. -/
theorem sum_rows_all (f : Fin 16384 → ℝ) :
    (∑ r : Fin 8, ∑ i ∈ Finset.range 32, ∑ p : Fin 64, f (line i ⟨8 * p.val + r.val, by omega⟩)) = ∑ n : Fin 16384, f n := by
  rw [Finset.sum_comm, ← Fin.sum_mul_add_fin (S := 32) (n := 512) (L := 16384) (f := f) (hL := rfl), Finset.sum_range]
  refine Finset.sum_congr rfl fun i _ => ?_
  rw [Finset.sum_comm, ← Fin.sum_mul_add_fin (S := 64) (n := 8) (L := 512) (f := fun r => f ⟨i.val * 512 + r.val, by omega⟩) (hL := rfl)]
  refine Finset.sum_congr rfl fun p _ => Finset.sum_congr rfl fun r _ => ?_
  exact congrArg f (Fin.ext (show (512 * i.val + (8 * p.val + r.val)) % 16384 = i.val * 512 + (p.val * 8 + r.val) by omega))

include H in
theorem last_loss (i : Fin 8) (j : Fin 128) : (lastState m c).loss (ix2 i j) = (X.loss : EReal) := by
  rw [last_folds.1, fold_loss]
  simp only [(total H 32 _).loss, coe_sum, ← EReal.coe_mul]
  refine congrArg (fun z : ℝ => (z : EReal)) ?_
  rw [Finset.sum_comm]
  unfold lossPart Data.loss
  simp only [fun k => sum_rows_all (fun n => X.err n k * X.err n k)]
  rw [← Finset.sum_mul, ← Finset.sum_comm]
  ring

include H in
theorem last_gain (k : Fin 1024) : (lastState m c).dg (ix2 0 k) = (X.dg k : EReal) := by
  rw [last_folds.2, fold_dg]
  simp only [(total H 32 _).gain, coe_sum]
  refine congrArg (fun z : ℝ => (z : EReal)) ?_
  exact sum_rows_all (fun n => X.dy n k * X.hat n k)

end Cert.MixHead
-- ==== Proof.MixHead.Final.lean ====
module

public import proofs.«01_k».proof.Proof.MixHead.Sums

/-!
# The arrays after the last visit
-/

@[expose] public section

set_option maxRecDepth 16384

noncomputable section

namespace Cert.MixHead

open Cert.Kernel5Ideal Cert.Kernel5Ideal.Gen Cert.Common
open Idealize.ShloMosaic Idealize.ShloMosaic.TcCoe Idealize.ShloMosaic.Tactic
open Idealize.SL.Sem
open Idealize.ShloMosaic.Pipeline (Dat)

variable (m : (ℓ : Loc nD τ sig) → Buf (Elt Ideal) ℓ) (c : Dev nD)

theorem idx14 : ∀ t : Fin cfg0.N, win0_14.index t = ![t.val - 1, 0] := (by decide +kernel : ∀ t : Fin grid0.N, _)
theorem idx16 : ∀ t : Fin cfg0.N, win0_16.index t = ![0, 0] := (by decide +kernel : ∀ t : Fin grid0.N, _)
theorem idx17 : ∀ t : Fin cfg0.N, win0_17.index t = ![0, 0] := (by decide +kernel : ∀ t : Fin grid0.N, _)
theorem flush14 : ∀ t : Fin cfg0.N, (cfg0.win 14).flush t = true → t.val ≠ 0 := (by decide +kernel : ∀ t : Fin grid0.N, _)

theorem leftAt_congr (n n' : ℕ) (h : n < cfg0.N) (h' : n' < cfg0.N) (e : n = n') : leftAt m c n h = leftAt m c n' h' := by
  subst e; rfl

attribute [local irreducible] leftAt

theorem final16 : (dats m 0 c).arrAt 16 cfg0.N = fun i : S8x128.Idx => (lastState m c).loss (ix2 (i 0) (i 1)) := by
  refine (dats m 0 c).arrAt_eq_of_covers 16 _ (by decide +kernel) fun t hf y => ?_
  have h32 : t.val = 32 := by
    have := (flush0_16 t).mp hf
    have := lt_of_lt_of_eq t.isLt N_0
    omega
  blk_simp
  have hA : (dats m 0 c).after 16 t = (leftAt m c t.val t.isLt).loss := rfl
  rw [hA, leftAt_congr m c t.val 32 t.isLt (lt_of_lt_of_eq (by decide) N_0.symm) h32]
  have hy : y = (ix2 (y 0) (y 1) : S8x128.Idx) := by idx_ext
  have e1 : ∀ (n : Fin 8) (z : Fin 128), n = y 0 → z = y 1 → (lastState m c).loss (ix2 n z) = (lastState m c).loss (ix2 (y 0) (y 1)) :=
    fun n z h h' => by rw [h, h']
  refine (congrArg (lastState m c).loss hy).trans (e1 _ _ (by apply Fin.ext; blk_simp [idx16 t]) (by apply Fin.ext; blk_simp [idx16 t])).symm

theorem final17 : (dats m 0 c).arrAt 17 cfg0.N = fun i : S1x1024.Idx => (lastState m c).dg (ix2 (i 0) (i 1)) := by
  refine (dats m 0 c).arrAt_eq_of_covers 17 _ (by decide +kernel) fun t hf y => ?_
  have h32 : t.val = 32 := by
    have := (flush0_17 t).mp hf
    have := lt_of_lt_of_eq t.isLt N_0
    omega
  blk_simp
  have hA : (dats m 0 c).after 17 t = (leftAt m c t.val t.isLt).dg := rfl
  rw [hA, leftAt_congr m c t.val 32 t.isLt (lt_of_lt_of_eq (by decide) N_0.symm) h32]
  have hy : y = (ix2 (y 0) (y 1) : S1x1024.Idx) := by idx_ext
  have e1 : ∀ (n : Fin 1) (z : Fin 1024), n = y 0 → z = y 1 → (lastState m c).dg (ix2 n z) = (lastState m c).dg (ix2 (y 0) (y 1)) :=
    fun n z h h' => by rw [h, h']
  refine (congrArg (lastState m c).dg hy).trans (e1 _ _ (by apply Fin.ext; blk_simp [idx17 t]) (by apply Fin.ext; blk_simp [idx17 t])).symm

/-- Row `n` of the tokens' gradient, as the visit after its tile leaves it. -/
def dxAt (n : Fin 16384) (k : Fin 1024) : EReal :=
  (leftAt m c (n.val / 512 + 1) (lt_of_lt_of_eq (show n.val / 512 + 1 < 33 by omega) N_0.symm)).dx (ix2 ⟨n.val % 512, Nat.mod_lt _ (by decide)⟩ k)

theorem final14 : (dats m 0 c).arrAt 14 cfg0.N = fun i : S16384x1024.Idx => dxAt m c (i 0) (i 1) := by
  refine (dats m 0 c).arrAt_eq_of_covers 14 _ (by decide +kernel) fun t hf y => ?_
  have ht := lt_of_lt_of_eq t.isLt N_0
  have h0 := flush14 t hf
  blk_simp
  have hA : (dats m 0 c).after 14 t = (leftAt m c t.val t.isLt).dx := rfl
  rw [hA]
  have hy : y = (ix2 (y 0) (y 1) : S512x1024.Idx) := by idx_ext
  have hy0 : (y 0).val < 512 := (y 0).isLt
  have e1 : ∀ (n : Fin 16384) (z : Fin 1024), n.val = (t.val - 1) * 512 + (y 0).val → z = y 1 → dxAt m c n z = (leftAt m c t.val t.isLt).dx (ix2 (y 0) (y 1)) :=
    fun n z h h' => by
      have hn : n.val / 512 + 1 = t.val := by omega
      have hr : (⟨n.val % 512, Nat.mod_lt _ (by decide)⟩ : Fin 512) = y 0 := Fin.ext (by show n.val % 512 = (y 0).val; omega)
      unfold dxAt
      rw [leftAt_congr m c _ t.val _ t.isLt hn, hr, h']
  refine (congrArg (leftAt m c t.val t.isLt).dx hy).trans (e1 _ _ (by blk_simp [idx14 t]) (by apply Fin.ext; blk_simp [idx14 t])).symm

variable {m c} {X : Data} (H : Holds m c X)

include H in
theorem dx_at (n : Fin 16384) (k : Fin 1024) : dxAt m c n k = (X.dx n k : EReal) := by
  unfold dxAt
  rw [(total H _ _).dx (Nat.succ_ne_zero _)]
  refine congrArg (fun i => (X.dx i k : EReal)) (Fin.ext ?_)
  show (512 * (n.val / 512 + 1 - 1) + n.val % 512) % 16384 = n.val
  omega

end Cert.MixHead
-- ==== Proof.MixHead.Reference.lean ====
module

public import proofs.«01_k».proof.Proof.Gen.Reference5Ideal.Read
public import proofs.«01_k».proof.Proof.MixHead.Plain
public import Idealize.ShloMosaic.Lib.Pointwise
public import Idealize.ShloMosaic.Lib.Tactic

/-!
# The plain loss and its derivative, read at an index

On real arguments each intermediate value of the reference is a real number.
-/

@[expose] public section

set_option maxRecDepth 16384

noncomputable section

namespace Cert.MixHead

open Cert.Reference5Ideal Cert.Reference5Ideal.Gen Cert.Reference5Ideal.Read Cert.Common
open Cert.MixBwd (gel th phi sgm nrm mean cen vari inv vari_pos head Rows c0 k0 e0)
open Idealize.ShloMosaic Idealize.ShloMosaic.TcCoe Idealize.ShloMosaic.Tactic
open Idealize.SL.Sem

theorem const_half : Ideal.ofBits FTy.f32 1056964608#32 = ((1 / 2 : ℝ) : EReal) := by
  simp [Ideal.ofBits, Ideal.ieee, -EReal.coe_mul]; norm_num
theorem const_neg_half : Ideal.ofBits FTy.f32 3204448256#32 = ((-(1 / 2) : ℝ) : EReal) := by
  simp [Ideal.ofBits, Ideal.ieee, -EReal.coe_mul, -EReal.coe_neg]; norm_num
theorem const_two : Ideal.ofBits FTy.f32 1073741824#32 = ((2 : ℝ) : EReal) := by
  simp [Ideal.ofBits, Ideal.ieee, -EReal.coe_mul]; norm_num
theorem const_c0 : Ideal.ofBits FTy.f32 1061962282#32 = (c0 : EReal) := by
  unfold c0; simp [Ideal.ofBits, Ideal.ieee, -EReal.coe_mul]; norm_num
theorem const_k0 : Ideal.ofBits FTy.f32 1027024659#32 = (k0 : EReal) := by
  unfold k0; simp [Ideal.ofBits, Ideal.ieee, -EReal.coe_mul]; norm_num
theorem const_e0 : Ideal.ofBits FTy.f32 897988541#32 = (e0 : EReal) := by
  unfold e0; simp [Ideal.ofBits, Ideal.ieee, -EReal.coe_mul]
theorem const_256 : Ideal.ofBits FTy.f32 1132462080#32 = ((256 : ℝ) : EReal) := by
  simp [Ideal.ofBits, Ideal.ieee, -EReal.coe_mul]; norm_num
theorem const_1024 : Ideal.ofBits FTy.f32 1149239296#32 = ((1024 : ℝ) : EReal) := by
  simp [Ideal.ofBits, Ideal.ieee, -EReal.coe_mul]; norm_num

/-- The reference's arguments hold the real arrays. -/
structure Given (x0 : Vec Ideal S1x16384x3072 .f32) (x1 : Vec Ideal S1x16384x1024 .f32) (x2 : Vec Ideal S1x1024 .f32)
    (x12 x13 : Vec Ideal S256 .f32) (x14 : Vec Ideal S4x128x128 .f32) (x15 : Vec Ideal S4x128 .f32) (x16 : Vec Ideal S256x1024 .f32)
    (x17 : Vec Ideal S1024 .f32) (x18 : Vec Ideal S1x16384x1024 .f32) (X : Data) : Prop where
  z : ∀ n k, x0 (ix3 0 n k) = (X.z n k : EReal)
  x : ∀ n k, x1 (ix3 0 n k) = (X.x n k : EReal)
  gate : ∀ k, x2 (ix2 0 k) = (X.gate k : EReal)
  scale : ∀ k, x12 (ix1 k) = (X.scale k : EReal)
  shift : ∀ k, x13 (ix1 k) = (X.shift k : EReal)
  w : ∀ h r t, x14 (ix3 h r t) = (X.w h r t : EReal)
  b : ∀ h r, x15 (ix2 h r) = (X.b h r : EReal)
  out : ∀ n k, x16 (ix2 n k) = (X.out n k : EReal)
  g : ∀ k, x17 (ix1 k) = (X.g k : EReal)
  target : ∀ n k, x18 (ix3 0 n k) = (X.target n k : EReal)

namespace Data
variable (X : Data) (n : Fin 16384) (a : Fin 256)
/-- The three blocks of the last group's columns. -/
abbrev zu : ℝ := X.z n ⟨2304 + a.val, by omega⟩
abbrev zv : ℝ := X.z n ⟨2560 + a.val, by omega⟩
abbrev zg : ℝ := X.z n ⟨2816 + a.val, by omega⟩
abbrev act : Fin 256 → ℝ := fun a => gel (X.zv n a)
/-- The normalised and scaled activation at a token, and the mixing matrices below the diagonal. -/
def yAt : ℝ := nrm (X.act n) a * X.scale a + X.shift a
def wm (h : Fin 4) (r t : Fin 128) : ℝ := if t.val ≤ r.val then X.w h r t else 0
end Data

variable {x0 : Vec Ideal S1x16384x3072 .f32} {x1 : Vec Ideal S1x16384x1024 .f32} {x2 : Vec Ideal S1x1024 .f32}
    {x12 x13 : Vec Ideal S256 .f32} {x14 : Vec Ideal S4x128x128 .f32} {x15 : Vec Ideal S4x128 .f32} {x16 : Vec Ideal S256x1024 .f32}
    {x17 : Vec Ideal S1024 .f32} {x18 : Vec Ideal S1x16384x1024 .f32}
    {X : Data} (G : Given x0 x1 x2 x12 x13 x14 x15 x16 x17 x18 X)
    (n : Fin 16384) (a : Fin 256) (k : Fin 1024)

include G

theorem ref1 : val_main_v1 (F := Ideal) x0 (ix3 0 n a) = (X.zu n a : EReal) := by
  unfold val_main_v1 val_main_v0
  pointwise [G.z]
theorem ref2 : val_main_v2 (F := Ideal) x0 (ix3 0 n a) = (X.zv n a : EReal) := by
  unfold val_main_v2 val_main_v0
  pointwise [G.z]
  simp only [← Nat.add_assoc]
theorem ref3 : val_main_v3 (F := Ideal) x0 (ix3 0 n a) = (X.zg n a : EReal) := by
  unfold val_main_v3 val_main_v0
  pointwise [G.z]
  simp only [← Nat.add_assoc]
theorem ref16 : val_main_v16 (F := Ideal) x0 (ix3 0 n a) = (gel (X.zu n a) : EReal) := by
  unfold val_main_v16 val_main_v15 val_main_v14 val_main_v13 val_main_v12 val_main_v11 val_main_v10 val_main_v9 val_main_v8 val_main_v7 val_main_v6
    val_main_v5 val_main_v4 val_main_cst val_main_cst_0 val_main_cst_1 val_main_cst_2
  pointwise [ref1 G]
  simp only [const_half, const_c0, const_k0, ← EReal.coe_one, ← EReal.coe_mul, ← EReal.coe_add, Ideal.tanh_coe]
  refine congrArg (fun z : ℝ => (z : EReal)) ?_
  unfold gel phi th; ring_nf
theorem ref29 : val_main_v29 (F := Ideal) x0 (ix3 0 n a) = (gel (X.zv n a) : EReal) := by
  unfold val_main_v29 val_main_v28 val_main_v27 val_main_v26 val_main_v25 val_main_v24 val_main_v23 val_main_v22 val_main_v21 val_main_v20 val_main_v19
    val_main_v18 val_main_v17 val_main_cst_3 val_main_cst_4 val_main_cst_5 val_main_cst_6
  pointwise [ref2 G]
  simp only [const_half, const_c0, const_k0, ← EReal.coe_one, ← EReal.coe_mul, ← EReal.coe_add, Ideal.tanh_coe]
  refine congrArg (fun z : ℝ => (z : EReal)) ?_
  unfold gel phi th; ring_nf
theorem ref33 : val_main_v33 (F := Ideal) x0 (ix3 0 n 0) = (mean (X.act n) : EReal) := by
  unfold val_main_v33 val_main_v32 val_main_v31 val_main_v30 val_main_cst_7 val_main_cst_8
  pointwise [ref29 G]
  simp only [const_256, Ideal.div_coe (show (256 : ℝ) ≠ 0 by norm_num), ← EReal.coe_mul, coe_sum]
  rfl
theorem ref35 : val_main_v35 (F := Ideal) x0 (ix3 0 n a) = (cen (X.act n) a : EReal) := by
  unfold val_main_v35 val_main_v34
  pointwise [ref29 G, ref33 G]
  rw [← EReal.coe_sub]; rfl
theorem ref42 : val_main_v42 (F := Ideal) x0 (ix3 0 n a) = (cen (X.act n) a : EReal) := by
  unfold val_main_v42 val_main_v41
  pointwise [ref29 G, ref33 G]
  rw [← EReal.coe_sub]; rfl
theorem ref45 : val_main_v45 (F := Ideal) x0 (ix3 0 n 0) = (inv (X.act n) : EReal) := by
  unfold val_main_v45 val_main_v44 val_main_v43 val_main_v40 val_main_v39 val_main_v38 val_main_v37 val_main_v36 val_main_cst_9 val_main_cst_10 val_main_cst_11
  pointwise [ref35 G]
  simp only [const_256, const_e0, Ideal.div_coe (show (256 : ℝ) ≠ 0 by norm_num), ← EReal.coe_mul, coe_sum, ← EReal.coe_add]
  refine Eq.trans (b := Ideal.rsqrt (vari (X.act n) : EReal)) rfl ?_
  rw [Ideal.rsqrt_coe, if_neg (vari_pos _).not_gt, if_neg (vari_pos _).ne']
  rfl
theorem ref53 : val_main_v53 (F := Ideal) x0 x12 x13 (ix3 0 n a) = (X.yAt n a : EReal) := by
  unfold val_main_v53 val_main_v52 val_main_v51 val_main_v50 val_main_v49 val_main_v48 val_main_v47 val_main_v46
  pointwise [ref42 G, ref45 G, G.scale, G.shift]
  simp only [← EReal.coe_mul, ← EReal.coe_add]; rfl

/-- The column of head `h` and place `d`. -/
abbrev col (h : Fin 4) (d : Fin 64) : Fin 256 := ⟨h.val * 64 + d.val, by omega⟩

omit G in
theorem tok_eq (j t : Fin 128) (k : ℕ) (hk : k < 16384) (e : k = j.val * 128 + t.val) : (⟨k, hk⟩ : Fin 16384) = tok j.val t :=
  Fin.ext (show k = (128 * j.val + t.val) % 16384 by omega)
omit G in
theorem col_eq (h : a.val / 64 < 4) (h' : a.val % 64 < 64) : col ⟨a.val / 64, h⟩ ⟨a.val % 64, h'⟩ = a :=
  Fin.ext (show a.val / 64 * 64 + a.val % 64 = a.val by omega)

theorem ref54 (j t : Fin 128) (h : Fin 4) (d : Fin 64) :
    val_main_v54 (F := Ideal) x0 x12 x13 (ix5 0 j t h d) = (X.yAt (tok j.val t) (col h d) : EReal) := by
  unfold val_main_v54
  pointwise
  rw [ref53 G, tok_eq j t _ _ rfl]

omit G in
theorem below_ref : ∀ r t : Fin 128, (val_main_v56 (F := Ideal) (ix2 r t) : BitVec 1) = if t.val ≤ r.val then 1#1 else 0#1 := by
  have key : ∀ r t : Fin 128, Scalar.select (IntOp.cmpi .sge (IntOp.addi (BitVec.ofNat 32 r.val) 0#32) (BitVec.ofNat 32 t.val)) 1#1 0#1
      = if t.val ≤ r.val then 1#1 else 0#1 := by decide +kernel
  exact fun r t => key r t

theorem ref58 (h : Fin 4) (r t : Fin 128) : val_main_v58 (F := Ideal) x14 (ix3 h r t) = (X.wm h r t : EReal) := by
  unfold val_main_v58 val_main_call1_v1 val_main_call1_v2 val_main_v57 val_main_call1_v0 val_main_c_12
  pointwise [G.w, below_ref]
  unfold Data.wm
  split <;> simp [Scalar.select, FloatOps.sitofp]

theorem ref65 : val_main_v65 (F := Ideal) x0 x12 x13 x14 x15 (ix3 0 n a) = ((X.rows (n.val / 128)).mix (pos n) a : EReal) := by
  unfold val_main_v65 val_main_v64 val_main_v63 val_main_v62 val_main_v61 val_main_v60 val_main_v59
  pointwise [ref54 G, ref58 G, G.b]
  simp only [col_eq, ← EReal.coe_mul, coe_sum, ← EReal.coe_add]
  refine congrArg (fun z : ℝ => (z : EReal)) ?_
  unfold Rows.mix
  refine congrArg₂ (· + ·) (Finset.sum_congr rfl fun t _ => mul_comm _ _) rfl

theorem ref73 : val_main_v73 (F := Ideal) x0 (ix3 0 n a) = ((X.zg n a * sgm (X.zg n a) : ℝ) : EReal) := by
  unfold val_main_v73 val_main_v72 val_main_v71 val_main_v70 val_main_v69 val_main_v68 val_main_v67 val_main_cst_13 val_main_cst_14
  pointwise [ref3 G]
  have h : (1 + Real.exp (-X.zg n a)) ≠ 0 := by positivity
  simp only [← EReal.coe_neg, Ideal.exp_coe, ← EReal.coe_one, ← EReal.coe_add, Ideal.div_coe h, ← EReal.coe_mul]
  refine congrArg (fun z : ℝ => (z : EReal)) ?_
  unfold sgm; ring

omit G in
theorem at_u : (X.rows (n.val / 128)).u (pos n) a = X.zu n a := by show X.z (tok _ _) _ = _; rw [tok_pos]
omit G in
theorem at_g : (X.rows (n.val / 128)).g (pos n) a = X.zg n a := by show X.z (tok _ _) _ = _; rw [tok_pos]

theorem ref74 : val_main_v74 (F := Ideal) x0 x12 x13 x14 x15 (ix3 0 n a) = (X.yd n a : EReal) := by
  unfold val_main_v74 val_main_v66
  pointwise [ref16 G, ref65 G, ref73 G]
  simp only [← EReal.coe_mul]
  refine congrArg (fun z : ℝ => (z : EReal)) ?_
  unfold Data.yd Rows.outp Rows.gate
  rw [at_u, at_g]

theorem ref79 : val_main_v79 (F := Ideal) x0 x1 x2 x12 x13 x14 x15 x16 (ix3 0 n k) = (X.xn n k : EReal) := by
  unfold val_main_v79 val_main_v78 val_main_v77 val_main_v76 val_main_v75
  pointwise [ref74 G, G.x, G.gate, G.out]
  simp only [← EReal.coe_mul, coe_sum, ← EReal.coe_add]
  rfl
theorem ref86 : val_main_v86 (F := Ideal) x0 x1 x2 x12 x13 x14 x15 x16 (ix3 0 n 0) = (Data.ms (X.xn n) : EReal) := by
  unfold val_main_v86 val_main_v85 val_main_v84 val_main_v83 val_main_v82 val_main_v81 val_main_v80 val_main_cst_15 val_main_cst_16 val_main_cst_17
  pointwise [ref79 G]
  simp only [const_1024, const_e0, Ideal.div_coe (show (1024 : ℝ) ≠ 0 by norm_num), ← EReal.coe_mul, coe_sum, ← EReal.coe_add]
  rfl
theorem ref87 : val_main_v87 (F := Ideal) x0 x1 x2 x12 x13 x14 x15 x16 (ix3 0 n 0) = (Data.rt (X.xn n) : EReal) := by
  unfold val_main_v87
  pointwise [ref86 G]
  rw [Ideal.rsqrt_coe, if_neg (Data.ms_pos _).not_gt, if_neg (Data.ms_pos _).ne']
  rfl
theorem ref90 : val_main_v90 (F := Ideal) x0 x1 x2 x12 x13 x14 x15 x16 (ix3 0 n 0)
    = ((-(1 / 2) * (Data.rt (X.xn n) * (Data.rt (X.xn n) * Data.rt (X.xn n))) : ℝ) : EReal) := by
  unfold val_main_v90 val_main_v89 val_main_v88 val_main_cst_18
  pointwise [ref86 G, ref87 G]
  simp only [const_neg_half, Ideal.div_coe (Data.ms_pos (X.xn n)).ne', ← EReal.coe_mul]
  rw [Data.rt_sq]
theorem ref92 : val_main_v92 (F := Ideal) x0 x1 x2 x12 x13 x14 x15 x16 (ix3 0 n k) = (X.hat n k : EReal) := by
  unfold val_main_v92 val_main_v91
  pointwise [ref79 G, ref87 G]
  rw [← EReal.coe_mul]; rfl
theorem ref96 : val_main_v96 (F := Ideal) x0 x1 x2 x12 x13 x14 x15 x16 x17 x18 (ix3 0 n k) = (X.err n k : EReal) := by
  unfold val_main_v96 val_main_v95 val_main_v94 val_main_v93
  pointwise [ref92 G, G.g, G.target]
  rw [← EReal.coe_mul, ← EReal.coe_sub]; rfl
theorem ref110 : val_main_v110 (F := Ideal) x0 x1 x2 x12 x13 x14 x15 x16 x17 x18 (ix3 0 n k) = (X.dy n k : EReal) := by
  unfold val_main_v110 val_main_v109 val_main_v108 val_main_v107 val_main_v106 val_main_v105 val_main_v99 val_main_v98 val_main_cst_19 val_main_cst_24
    val_main_cst_25 val_main_cst_26
  pointwise [ref96 G]
  simp only [const_half, const_two, const_1024, Ideal.div_coe (show (1024 : ℝ) ≠ 0 by norm_num), ← EReal.coe_one, ← EReal.coe_mul]
  refine congrArg (fun z : ℝ => (z : EReal)) ?_
  unfold Data.dy; ring
theorem ref115 : val_main_v115 (F := Ideal) x0 x1 x2 x12 x13 x14 x15 x16 x17 x18 (ix3 0 n k) = ((X.dy n k * X.g k : ℝ) : EReal) := by
  unfold val_main_v115 val_main_v114 val_main_v93
  pointwise [ref110 G, G.g]
  rw [← EReal.coe_mul]

/-- The loss. -/
theorem ref133 (i : Fin 8) (j : Fin 128) : val_main_v133 (F := Ideal) x0 x1 x2 x12 x13 x14 x15 x16 x17 x18 (ix2 i j) = (X.loss : EReal) := by
  have hs : ∀ n, val_main_v102 (F := Ideal) x0 x1 x2 x12 x13 x14 x15 x16 x17 x18 (ix2 0 n) = (((∑ k, X.err n k * X.err n k) * (1 / 1024) : ℝ) : EReal) := fun n => by
    unfold val_main_v102 val_main_v101 val_main_v100 val_main_v97 val_main_cst_20 val_main_cst_21
    pointwise [ref96 G]
    simp only [const_1024, Ideal.div_coe (show (1024 : ℝ) ≠ 0 by norm_num), ← EReal.coe_mul, coe_sum]
  rw [val_main_v133_apply, val_main_v104_apply, val_main_v103_apply]
  have e : ∑ j : S1x16384.Idx, val_main_v102 (F := Ideal) x0 x1 x2 x12 x13 x14 x15 x16 x17 x18 j
      = ∑ n : Fin 16384, (((∑ k, X.err n k * X.err n k) * (1 / 1024) : ℝ) : EReal) := by
    refine Fintype.sum_equiv ⟨fun i => i 1, fun n => ix2 0 n, fun i => ?_, fun n => rfl⟩ _ _ fun i => ?_
    · idx_ext
    · rw [show i = (ix2 0 (i 1) : S1x16384.Idx) by idx_ext]
      exact hs (i 1)
  rw [e, coe_sum]
  show FloatOps.mulf (Ideal.ofBits FTy.f32 1056964608#32) (Ideal.ofBits FTy.f32 0#32 + _) = _
  rw [const_half, Ideal.ofBits_zero_f32, zero_add]
  exact (EReal.coe_mul _ _).symm

/-- The gradient with respect to the gain. -/
theorem ref134 : val_main_v134 (F := Ideal) x0 x1 x2 x12 x13 x14 x15 x16 x17 x18 (ix2 0 k) = (X.dg k : EReal) := by
  unfold val_main_v134 val_main_v116 val_main_v113 val_main_v112 val_main_v111 val_main_cst_27 val_main_cst_28
  pointwise
  rw [reduce_unit01]
  pointwise [ref92 G, ref110 G]
  simp only [← EReal.coe_mul, coe_sum]
  refine congrArg (fun z : ℝ => (z : EReal)) ?_
  unfold Data.dg
  exact Finset.sum_congr rfl fun n _ => mul_comm _ _

theorem ref127 : val_main_v127 (F := Ideal) x0 x1 x2 x12 x13 x14 x15 x16 x17 x18 (ix3 0 n k)
    = (((∑ j, X.xn n j * (X.dy n j * X.g j)) * (-(1 / 2) * (Data.rt (X.xn n) * (Data.rt (X.xn n) * Data.rt (X.xn n)))) * (1 / 1024) : ℝ) : EReal) := by
  unfold val_main_v127 val_main_v126 val_main_v125 val_main_v124 val_main_v123 val_main_v122 val_main_v119 val_main_v118 val_main_v117
    val_main_cst_29 val_main_cst_30 val_main_cst_31
  pointwise
  rw [reduce_unit02]
  pointwise [ref79 G, ref115 G, ref90 G]
  simp only [const_1024, Ideal.div_coe (show (1024 : ℝ) ≠ 0 by norm_num), ← EReal.coe_mul, coe_sum]

/-- The gradient with respect to the token. -/
theorem ref132 : val_main_v132 (F := Ideal) x0 x1 x2 x12 x13 x14 x15 x16 x17 x18 (ix2 n k) = (X.dx n k : EReal) := by
  unfold val_main_v132 val_main_v131 val_main_v130 val_main_v129 val_main_v128 val_main_v121 val_main_v120
  pointwise [ref79 G, ref115 G, ref87 G, ref127 G]
  simp only [← EReal.coe_mul, ← EReal.coe_add]
  refine congrArg (fun z : ℝ => (z : EReal)) ?_
  unfold Data.dx
  have e : ∑ j, X.dy n j * X.g j * X.hat n j = (∑ j, X.xn n j * (X.dy n j * X.g j)) * Data.rt (X.xn n) := by
    rw [Finset.sum_mul]
    exact Finset.sum_congr rfl fun j _ => by unfold Data.hat; ring
  rw [e]
  unfold Data.hat
  ring

end Cert.MixHead
-- ==== Proof.MixHead.Claim.lean ====
module

public import proofs.«01_k».proof.Defs
public import proofs.«01_k».proof.Proof.Gen.Pre_finite5
public import proofs.«01_k».proof.Proof.MixHead.Final
public import proofs.«01_k».proof.Proof.MixHead.Reference
public import Idealize.ShloMosaic.Lib.Claim

/-!
# The value claim of the loss head behind the gating mixer

From finite arguments the program returns the loss of the plain lines and their derivative in the tokens and in the gain.
-/

@[expose] public section

set_option maxRecDepth 16384

noncomputable section

namespace Cert.MixHead

open Cert.Kernel5Ideal Cert.Kernel5Ideal.Gen Cert.Common
open Idealize.ShloMosaic Idealize.ShloMosaic.TcCoe Idealize.ShloMosaic.Tactic
open Idealize.SL.Sem

/-- The three results as arrays. -/
def resX (X : Data) : Vec Ideal S16384x1024 .f32 := fun i => (X.dx (i 0) (i 1) : EReal)
def resLoss (X : Data) : Vec Ideal S8x128 .f32 := fun _ => (X.loss : EReal)
def resG (X : Data) : Vec Ideal S1x1024 .f32 := fun i => (X.dg (i 1) : EReal)

section Kernel

variable {m : (ℓ : Loc nD τ sig) → Buf (Elt Ideal) ℓ} {c : Dev nD} {X : Data} (H : Holds m c X)
include H

attribute [local irreducible] dxAt leftAt

theorem kernel0 : (dats m 0 c).arrAt 14 cfg0.N = resX X := (final14 m c).trans (funext fun i => dx_at H (i 0) (i 1))
theorem kernel2 : (dats m 0 c).arrAt 16 cfg0.N = resLoss X := (final16 m c).trans (funext fun i => last_loss H (i 0) (i 1))
theorem kernel3 : (dats m 0 c).arrAt 17 cfg0.N = resG X := (final17 m c).trans (funext fun i => by
  obtain ⟨a, k, rfl⟩ : ∃ (a : Fin 1) (k : Fin 1024), i = (ix2 a k : S1x1024.Idx) := ⟨i 0, i 1, by idx_ext⟩
  rw [Subsingleton.elim a 0]
  exact last_gain H k)

end Kernel

/-- The program runs and returns the three results. -/
theorem run (m : (ℓ : Loc nD τ sig) → Buf (Elt Ideal) ℓ) (ρ : Dev nD → PrngReg) (X : Dev nD → Data) (H : ∀ c, Holds m c (X c)) :
    θ_run defs (onTc (τ := τ) (main (F := Ideal))) ⟨m, fun _ => 0, ρ⟩ (fun r => ∀ c : Dev nD,
      r.2.mem ((c.tc : Thread nD τ).loc main_v92_0) = resX (X c)
      ∧ r.2.mem ((c.tc : Thread nD τ).loc main_v92_2) = resLoss (X c)
      ∧ r.2.mem ((c.tc : Thread nD τ).loc main_v92_3) = resG (X c)) :=
  (θ_run defs _ _).mono (fun _ h c => ⟨((h c).1 14).trans (kernel0 (H c)), ((h c).1 16).trans (kernel2 (H c)),
    ((h c).1 17).trans (kernel3 (H c))⟩) (run_main (F := Ideal) m ρ)

/-- The precondition: the arguments that are read hold real numbers. -/
theorem data (m : (ℓ : Loc nD τ sig) → Buf (Elt Ideal) ℓ) (h : Cert.Pre_Kernel5Ideal_finite5 m) (c : Dev nD) : ∃ X : Data, Holds m c X := by
  have key : ∀ p q : BitVec 1, IntOp.andi p q = 1#1 → p = 1#1 ∧ q = 1#1 := by decide
  have e := congrFun (h c) (fun b => b.elim0)
  obtain ⟨e, e18⟩ := key _ _ e
  obtain ⟨e, e17⟩ := key _ _ e
  obtain ⟨e, e16⟩ := key _ _ e
  obtain ⟨e, e15⟩ := key _ _ e
  obtain ⟨e, e14⟩ := key _ _ e
  obtain ⟨e, e13⟩ := key _ _ e
  obtain ⟨e, e12⟩ := key _ _ e
  obtain ⟨e, e2⟩ := key _ _ e
  obtain ⟨e0, e1⟩ := key _ _ e
  obtain ⟨X0, h0⟩ := reals_of_pre _ _ _ _ _ _ e0
  obtain ⟨X1, h1⟩ := reals_of_pre _ _ _ _ _ _ e1
  obtain ⟨X2, h2⟩ := reals_of_pre _ _ _ _ _ _ e2
  obtain ⟨X12, h12⟩ := reals_of_pre _ _ _ _ _ _ e12
  obtain ⟨X13, h13⟩ := reals_of_pre _ _ _ _ _ _ e13
  obtain ⟨X14, h14⟩ := reals_of_pre _ _ _ _ _ _ e14
  obtain ⟨X15, h15⟩ := reals_of_pre _ _ _ _ _ _ e15
  obtain ⟨X16, h16⟩ := reals_of_pre _ _ _ _ _ _ e16
  obtain ⟨X17, h17⟩ := reals_of_pre _ _ _ _ _ _ e17
  obtain ⟨X18, h18⟩ := reals_of_pre _ _ _ _ _ _ e18
  exact ⟨⟨fun n k => X0 (ix3 0 n k), fun n k => X1 (ix3 0 n k), fun k => X2 (ix2 0 k), fun k => X12 (ix1 k), fun k => X13 (ix1 k),
      fun a r t => X14 (ix3 a r t), fun a r => X15 (ix2 a r), fun n k => X16 (ix2 n k), fun k => X17 (ix1 k), fun n k => X18 (ix3 0 n k)⟩,
    ⟨fun n k => congrFun h0 _, fun n k => congrFun h1 _, fun k => congrFun h2 _, fun k => congrFun h12 _, fun k => congrFun h13 _,
      fun a r t => congrFun h14 _, fun a r => congrFun h15 _, fun n k => congrFun h16 _, fun k => congrFun h17 _, fun n k => congrFun h18 _⟩⟩

theorem frame_reference : Cert.quiescent_Reference5Ideal := fun m ρ _ =>
  (θ_run Cert.Reference5Ideal.defs _ _).mono (fun r h => ⟨fun c => (h c).2.2.2, sem_eq_zero_of_no_sems (by decide) r.2⟩)
    (Cert.Reference5Ideal.Value.run (F := Ideal) m ρ)

theorem frame_reference_finite : Cert.quiescent_Reference5Ideal_pre_finite5 := fun m ρ _ => frame_reference m ρ trivial

section Reference
open Cert.Reference5Ideal.Read

variable {x0 : Vec Ideal S1x16384x3072 .f32} {x1 : Vec Ideal S1x16384x1024 .f32} {x2 : Vec Ideal S1x1024 .f32}
    {x12 x13 : Vec Ideal S256 .f32} {x14 : Vec Ideal S4x128x128 .f32} {x15 : Vec Ideal S4x128 .f32} {x16 : Vec Ideal S256x1024 .f32}
    {x17 : Vec Ideal S1024 .f32} {x18 : Vec Ideal S1x16384x1024 .f32} {X : Data} (G : Given x0 x1 x2 x12 x13 x14 x15 x16 x17 x18 X)
include G

theorem plain132 : val_main_v132 (F := Ideal) x0 x1 x2 x12 x13 x14 x15 x16 x17 x18 = resX X := by
  funext i
  obtain ⟨n, k, rfl⟩ : ∃ (n : Fin 16384) (k : Fin 1024), i = (ix2 n k : S16384x1024.Idx) := ⟨i 0, i 1, by idx_ext⟩
  exact ref132 G n k
theorem plain133 : val_main_v133 (F := Ideal) x0 x1 x2 x12 x13 x14 x15 x16 x17 x18 = resLoss X := by
  funext i
  obtain ⟨a, b, rfl⟩ : ∃ (a : Fin 8) (b : Fin 128), i = (ix2 a b : S8x128.Idx) := ⟨i 0, i 1, by idx_ext⟩
  exact ref133 G a b
theorem plain134 : val_main_v134 (F := Ideal) x0 x1 x2 x12 x13 x14 x15 x16 x17 x18 = resG X := by
  funext i
  obtain ⟨a, k, rfl⟩ : ∃ (a : Fin 1) (k : Fin 1024), i = (ix2 a k : S1x1024.Idx) := ⟨i 0, i 1, by idx_ext⟩
  rw [Subsingleton.elim a 0]
  exact ref134 G k
end Reference

open Cert.Reference5Ideal.Read in
theorem value : Cert.algebraic_Kernel5Ideal_Reference5Ideal_pre_finite5 := by
  intro m g m' g' hpre hagree
  choose X HX using data m hpre
  refine ⟨fun c => resX (X c), fun c => resLoss (X c), fun c => resG (X c), ?_, ?_⟩
  · refine (θ_run Cert.Kernel5Ideal.defs _ _).mono (fun r h c => ?_) (θ_run_and (run m g X HX) (frame_any (F := Ideal) m g))
    exact ⟨(h.1 c).1, (h.1 c).2.1, (h.1 c).2.2, h.2.1 c⟩
  · refine (θ_run Cert.Reference5Ideal.defs _ _).mono (fun r h c => ?_) (Cert.Reference5Ideal.Value.run (F := Ideal) m' g')
    obtain ⟨g0, g1, g2, _, _, _, _, _, _, _, _, _, g12, g13, g14, g15, g16, g17, g18⟩ := hagree c
    have K := HX c
    have G : Given (m' ((c.tc : Thread nD τ).loc Cert.Reference5Ideal.main_arg0)) (m' ((c.tc : Thread nD τ).loc Cert.Reference5Ideal.main_arg1)) (m' ((c.tc : Thread nD τ).loc Cert.Reference5Ideal.main_arg2))
        (m' ((c.tc : Thread nD τ).loc Cert.Reference5Ideal.main_arg12)) (m' ((c.tc : Thread nD τ).loc Cert.Reference5Ideal.main_arg13))
        (m' ((c.tc : Thread nD τ).loc Cert.Reference5Ideal.main_arg14)) (m' ((c.tc : Thread nD τ).loc Cert.Reference5Ideal.main_arg15))
        (m' ((c.tc : Thread nD τ).loc Cert.Reference5Ideal.main_arg16)) (m' ((c.tc : Thread nD τ).loc Cert.Reference5Ideal.main_arg17))
        (m' ((c.tc : Thread nD τ).loc Cert.Reference5Ideal.main_arg18)) (X c) :=
      ⟨fun n k => (congrFun g0 _).trans (K.z n k), fun n k => (congrFun g1 _).trans (K.x n k), fun k => (congrFun g2 _).trans (K.gate k),
        fun k => (congrFun g12 _).trans (K.scale k), fun k => (congrFun g13 _).trans (K.shift k),
        fun a r t => (congrFun g14 _).trans (K.w a r t), fun a r => (congrFun g15 _).trans (K.b a r), fun n k => (congrFun g16 _).trans (K.out n k),
        fun k => (congrFun g17 _).trans (K.g k), fun n k => (congrFun g18 _).trans (K.target n k)⟩
    obtain ⟨r0, r1, r2, hrest⟩ := h c
    clear h hagree HX hpre
    refine ⟨r0.trans ?_, r1.trans ?_, r2.trans ?_, hrest⟩
    · exact (val_main_v132_eq ..).trans (plain132 G)
    · exact (val_main_v133_eq ..).trans (plain133 G)
    · exact (val_main_v134_eq ..).trans (plain134 G)

end Cert.MixHead
-- ==== Proof.Modulation.Kernel.lean ====
module

public import proofs.«01_k».proof.Proof.Gen.Kernel6Ideal.Frame
public import Idealize.ShloMosaic.Lib.Pipeline.Value
public import Idealize.ShloMosaic.Lib.Pipeline.ValueKit
public import Idealize.ShloMosaic.Lib.Pointwise
public import Idealize.ShloMosaic.Lib.Tactic

/-! # What the modulation's call returns

The activated conditions of all devices, and per layer their product with one device's columns of the weights, plus the bias. -/

@[expose] public section

set_option maxRecDepth 16384

noncomputable section

open Idealize.ShloMosaic Idealize.ShloMosaic.TcCoe Idealize.SL.Sem
open Idealize.ShloMosaic.Pipeline (Dat)

namespace Cert.Kernel6Ideal.Modulation

open Cert.Kernel6Ideal Cert.Kernel6Ideal.Gen

/-- The activation of the conditions. -/
def act (x : Vec Ideal S8x1024 .f32) : Vec Ideal S8x1024 .f32 := fun i => x i * Ideal.logistic (x i)

/-- Both layers' modulations. -/
def modulation (x : Vec Ideal S8x1024 .f32) (w : Vec Ideal S2x1024x384 .f32) (b : Vec Ideal S2x384 .f32) : Vec Ideal S2x8x384 .f32 :=
  fun i => (∑ k : Fin 1024, act x (ix2 (i 1) k) * w (ix3 (i 0) k (i 2))) + b (ix2 (i 0) (i 2))

theorem pay1_eq (x : Vec Ideal S8x1024 .f32) : k0_pay1 (F := Ideal) x = act x := by
  funext i
  have hi : i = (ix2 (i 0) (i 1) : S8x1024.Idx) := by idx_ext
  rw [hi]
  pointwise [k0_pay1]
  rfl

theorem pay2_apply (x : Vec Ideal S8x1024 .f32) (w : Vec Ideal S1x1024x384 .f32) (b : Vec Ideal S1x384 .f32) (d : Fin 8) (j : Fin 384) :
    k0_pay2 (F := Ideal) x w b (ix3 0 d j) = (∑ k : Fin 1024, act x (ix2 d k) * w (ix3 0 k j)) + b (ix2 0 j) := by
  unfold k0_pay2
  rw [pay1_eq]
  generalize act x = a
  pointwise

theorem pay3_apply (x : Vec Ideal S8x1024 .f32) (w : Vec Ideal S1x1024x384 .f32) (b : Vec Ideal S1x384 .f32) (d : Fin 8) (j : Fin 384) :
    k0_pay3 (F := Ideal) x w b (ix3 0 d j) = (∑ k : Fin 1024, act x (ix2 d k) * w (ix3 0 k j)) + b (ix2 0 j) :=
  pay2_apply x w b d j

/-- One layer's store is that layer of the modulations. -/
theorem layer (x : Vec Ideal S8x1024 .f32) (w : Vec Ideal S2x1024x384 .f32) (b : Vec Ideal S2x384 .f32) (l : Fin 2)
    (iw : ∀ a, (![l.val, 0, 0] : Fin 3 → ℕ) a + S1x1024x384.size a ≤ S2x1024x384.size a)
    (ib : ∀ a, (![l.val, 0] : Fin 2 → ℕ) a + S1x384.size a ≤ S2x384.size a)
    (io : ∀ a, (![l.val, 0, 0] : Fin 3 → ℕ) a + S1x8x384.size a ≤ S2x8x384.size a) (y : S1x8x384.Idx) :
    k0_pay2 (F := Ideal) x (View.ld (Val := Elt Ideal) (e' := .f32) w (Rect.unit (s := S2x1024x384) ![l.val, 0, 0] S1x1024x384.size iw))
        (View.ld (Val := Elt Ideal) (e' := .f32) b (Rect.unit (s := S2x384) ![l.val, 0] S1x384.size ib)) y
      = modulation x w b ((Rect.unit (s := S2x8x384) ![l.val, 0, 0] S1x8x384.size io).emb y) := by
  have hy : y = (ix3 0 (y 1) (y 2) : S1x8x384.Idx) := by idx_ext
  have e : (Rect.unit (s := S2x8x384) ![l.val, 0, 0] S1x8x384.size io).emb y = (ix3 l (y 1) (y 2) : S2x8x384.Idx) := by
    funext a; apply Fin.ext
    rw [Rect.emb_apply]
    have h := (y 0).isLt
    change (y 0).val < 1 at h
    fin_cases a
    · change l.val + 1 * (y 0).val = l.val; omega
    · change 0 + 1 * (y 1).val = (y 1).val; omega
    · change 0 + 1 * (y 2).val = (y 2).val; omega
  have ew : ∀ k : Fin 1024, (Rect.unit (s := S2x1024x384) ![l.val, 0, 0] S1x1024x384.size iw).emb (ix3 0 k (y 2)) = (ix3 l k (y 2) : S2x1024x384.Idx) := by
    intro k
    funext a; apply Fin.ext
    rw [Rect.emb_apply]
    fin_cases a
    · change l.val + 1 * 0 = l.val; omega
    · change 0 + 1 * k.val = k.val; omega
    · change 0 + 1 * (y 2).val = (y 2).val; omega
  have eb : (Rect.unit (s := S2x384) ![l.val, 0] S1x384.size ib).emb (ix2 0 (y 2)) = (ix2 l (y 2) : S2x384.Idx) := by
    funext a; apply Fin.ext
    rw [Rect.emb_apply]
    fin_cases a
    · change l.val + 1 * 0 = l.val; omega
    · change 0 + 1 * (y 2).val = (y 2).val; omega
  rw [e]
  refine ((congrArg _ hy).trans (pay2_apply x _ _ (y 1) (y 2))).trans ?_
  refine congrArg₂ (· + ·) (Finset.sum_congr rfl fun k _ => congrArg (act x (ix2 (y 1) k) * ·) ?_) ?_
  · exact congrArg w (ew k)
  · exact congrArg b eb

theorem out4_eq (x : Vec Ideal S8x1024 .f32) (w : Vec Ideal S2x1024x384 .f32) (b : Vec Ideal S2x384 .f32) :
    out0_4 (F := Ideal) x w b = modulation x w b := by
  funext y
  unfold out0_4
  rw [View.ld_unit_lit _ x (by decide)]
  refine View.canon_apply_of_pieces (modulation x w b) _ ?_ y (cover0_4 _ _ y)
  intro p hp q
  simp only [List.mem_cons, List.not_mem_nil, or_false] at hp
  rcases hp with rfl | rfl
  · exact layer x w b 1 (by decide) (by decide) (by decide) q
  · exact layer x w b 0 (by decide) (by decide) (by decide) q

theorem out3_eq (x : Vec Ideal S8x1024 .f32) (w : Vec Ideal S2x1024x384 .f32) (b : Vec Ideal S2x384 .f32) :
    out0_3 (F := Ideal) x w b = act x := by
  unfold out0_3
  rw [View.ld_unit_lit _ x (by decide), pay1_eq]
  exact View.canon_cons_unit_lit' _ _ _ (by decide)

/-! ## The results -/

variable (m : (ℓ : Loc nD τ sig) → Buf (Elt Ideal) ℓ) (ρ : Dev nD → PrngReg)

/-- The argument arrays: the conditions, the weights' columns and the bias' columns. -/
abbrev a0 (c : Dev nD) : Vec Ideal S8x1024 .f32 := m ((c : Thread nD τ).loc main_arg0)
abbrev a1 (c : Dev nD) : Vec Ideal S2x1024x384 .f32 := m ((c : Thread nD τ).loc main_arg1)
abbrev a2 (c : Dev nD) : Vec Ideal S2x384 .f32 := m ((c : Thread nD τ).loc main_arg2)

theorem idx0 : ∀ t : Fin cfg0.N, win0_0.index t = ![0, 0] := (by decide +kernel : ∀ t : Fin grid0.N, _)
theorem idx1 : ∀ t : Fin cfg0.N, win0_1.index t = ![0, 0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0, 0] := (by decide +kernel : ∀ t : Fin grid0.N, _)

theorem blk0 (c : Dev nD) (t : Fin cfg0.N) : (iblk m c 0 t : Vec Ideal S8x1024 .f32) = a0 m c := by
  funext y
  rw [show a0 m c = V m c main_arg0 from (V_main_arg0 m c).symm]
  blk_ext! [iblk, V, idx0 t]

theorem blk1 (c : Dev nD) (t : Fin cfg0.N) : (iblk m c 1 t : Vec Ideal S2x1024x384 .f32) = a1 m c := by
  funext y
  rw [show a1 m c = V m c main_arg1 from (V_main_arg1 m c).symm]
  blk_ext! [iblk, V, idx1 t]

theorem blk2 (c : Dev nD) (t : Fin cfg0.N) : (iblk m c 2 t : Vec Ideal S2x384 .f32) = a2 m c := by
  funext y
  rw [show a2 m c = V m c main_arg2 from (V_main_arg2 m c).symm]
  blk_ext! [iblk, V, idx2 t]

theorem final3 (c : Dev nD) : (dats m 0 c).arrAt 3 cfg0.N = act (a0 m c) := by
  refine (dats m 0 c).arrAt_eq_of_covers 3 _ (by decide +kernel) fun t hf y => ?_
  blk_simp
  rw [after0_3, out3_eq, blk0]
  refine congrArg (act (a0 m c)) ?_
  funext a; apply Fin.ext
  fin_cases a
  all_goals blk_simp [idx3 t]

theorem final4 (c : Dev nD) : (dats m 0 c).arrAt 4 cfg0.N = modulation (a0 m c) (a1 m c) (a2 m c) := by
  refine (dats m 0 c).arrAt_eq_of_covers 4 _ (by decide +kernel) fun t hf y => ?_
  blk_simp
  rw [after0_4, out4_eq, blk0, blk1, blk2]
  refine congrArg (modulation (a0 m c) (a1 m c) (a2 m c)) ?_
  funext a; apply Fin.ext
  fin_cases a
  all_goals blk_simp [idx4 t]

/-- The program runs and returns the two results. -/
theorem run : θ_run defs (onTc (τ := τ) (main (F := Ideal))) ⟨m, fun _ => 0, ρ⟩ (fun r => ∀ c : Dev nD,
    r.2.mem ((c.tc : Thread nD τ).loc main_v0_0) = act (a0 m c)
    ∧ r.2.mem ((c.tc : Thread nD τ).loc main_v0_1) = modulation (a0 m c) (a1 m c) (a2 m c)) :=
  (θ_run defs _ _).mono (fun _ h c => ⟨((h c).1 3).trans (final3 m c), ((h c).1 4).trans (final4 m c)⟩) (run_main (F := Ideal) m ρ)

end Cert.Kernel6Ideal.Modulation
-- ==== Proof.Modulation.Claim.lean ====
module
public import proofs.«01_k».proof.Defs
public import proofs.«01_k».proof.Proof.Gen.Kernel6Ideal.Frame
public import proofs.«01_k».proof.Proof.Gen.Reference6Ideal.Read
public import proofs.«01_k».proof.Proof.Gen.Reference6Ideal.Run
public import proofs.«01_k».proof.Proof.Modulation.Kernel
public import Idealize.ShloMosaic.Lib.Claim

/-! # The value claim of the modulation's call

The plain lines write the logistic function as a quotient and stack the two layers; the claim holds of all arguments. -/

@[expose] public section
set_option maxRecDepth 16384
noncomputable section
open Idealize.ShloMosaic Idealize.ShloMosaic.TcCoe Idealize.SL.Sem

namespace Cert.Reference6Ideal.Modulation
open Cert.Reference6Ideal Cert.Reference6Ideal.Gen Cert.Reference6Ideal.Read
open Cert.Kernel6Ideal.Modulation (act modulation)

variable (x0 : Vec Ideal S8x1024 .f32) (x1 : Vec Ideal S2x1024x384 .f32) (x2 : Vec Ideal S2x384 .f32)

theorem read6 : val_main_v6 (F := Ideal) x0 = act x0 := by
  funext i
  have hi : i = (ix2 (i 0) (i 1) : S8x1024.Idx) := by idx_ext
  rw [hi]
  unfold val_main_v6 val_main_v5 val_main_v4 val_main_v3 val_main_v2 val_main_v1 val_main_v0 val_main_cst val_main_cst_0
  pointwise
  rfl

theorem read13 : val_main_v13 (F := Ideal) x0 = act x0 := read6 x0
theorem read28 : val_main_v28 (F := Ideal) x0 = act x0 := read6 x0

theorem read37 (d : Fin 8) (j : Fin 384) : val_main_v37 (F := Ideal) x0 x1 x2 (ix3 0 d j) = modulation x0 x1 x2 (ix3 0 d j) := by
  unfold val_main_v37 val_main_v21 val_main_v20 val_main_v19 val_main_v18 val_main_v17 val_main_v16 val_main_v15 val_main_v14
  rw [read13]
  unfold modulation
  generalize act x0 = a
  pointwise

theorem read38 (d : Fin 8) (j : Fin 384) : val_main_v38 (F := Ideal) x0 x1 x2 (ix3 0 d j) = modulation x0 x1 x2 (ix3 1 d j) := by
  unfold val_main_v38 val_main_v36 val_main_v35 val_main_v34 val_main_v33 val_main_v32 val_main_v31 val_main_v30 val_main_v29
  rw [read28]
  unfold modulation
  generalize act x0 = a
  pointwise

theorem read39 : val_main_v39 (F := Ideal) x0 x1 x2 = modulation x0 x1 x2 := by
  funext i
  have hi : i = (ix3 (i 0) (i 1) (i 2) : S2x8x384.Idx) := by idx_ext
  rw [hi]
  unfold val_main_v39
  generalize i 0 = l
  fin_cases l
  · refine Eq.trans ?_ (read37 x0 x1 x2 (i 1) (i 2))
    pointwise
  · refine Eq.trans ?_ (read38 x0 x1 x2 (i 1) (i 2))
    pointwise

end Cert.Reference6Ideal.Modulation

namespace Cert.Proof.Modulation
open Cert.Kernel6Ideal.Modulation Cert.Reference6Ideal.Modulation

/-- The reference's run leaves its arguments, and no counter of it moves. -/
theorem frame_reference : Cert.quiescent_Reference6Ideal := fun m ρ _ =>
  (θ_run Cert.Reference6Ideal.defs _ _).mono (fun r h => ⟨fun c => (h c).2.2, sem_eq_zero_of_no_sems (by decide) r.2⟩)
    (Cert.Reference6Ideal.Value.run (F := Ideal) m ρ)

open Cert.Reference6Ideal.Read Cert.Reference6Ideal in
theorem value : Cert.algebraic_Kernel6Ideal_Reference6Ideal := by
  intro m g m' g' hpre hagree
  refine ⟨fun c => act (a0 m c), fun c => modulation (a0 m c) (a1 m c) (a2 m c), ?_, ?_⟩
  · refine (θ_run Cert.Kernel6Ideal.defs _ _).mono (fun r h c => ?_)
      (θ_run_and (run m g) (Cert.Kernel6Ideal.Gen.unchanged (F := Ideal) m g))
    exact ⟨(h.1 c).1, (h.1 c).2, h.2 c⟩
  · refine (θ_run Cert.Reference6Ideal.defs _ _).mono (fun r h c => ?_) (Cert.Reference6Ideal.Value.run (F := Ideal) m' g')
    obtain ⟨g0, g1, g2⟩ := hagree c
    obtain ⟨r0, r1, hrest⟩ := h c
    refine ⟨r0.trans ?_, r1.trans ?_, hrest⟩
    · rw [val_main_v6_eq, g0]
      exact read6 (a0 m c)
    · rw [val_main_v39_eq, g0, g1, g2]
      exact read39 (a0 m c) (a1 m c) (a2 m c)

end Cert.Proof.Modulation
-- ==== Proof.AdaUpdate.Kernel.lean ====
module

public import proofs.«01_k».proof.Proof.Gen.Kernel7Ideal.Frame
public import proofs.«01_k».proof.Proof.Modulation.Kernel
public import Idealize.ShloMosaic.Lib.Pipeline.Value
public import Idealize.ShloMosaic.Lib.Pipeline.ValueKit
public import Idealize.ShloMosaic.Lib.Pointwise
public import Idealize.ShloMosaic.Lib.Tactic

/-! # What the modulation's update returns

Per layer the weights' gradient, a sum over the eight devices' examples, and one step of the optimiser with it. -/

@[expose] public section

set_option maxRecDepth 16384

noncomputable section

open Idealize.ShloMosaic Idealize.ShloMosaic.TcCoe Idealize.SL.Sem
open Idealize.ShloMosaic.Pipeline (Dat)

namespace Cert.Kernel7Ideal.AdaUpdate

open Cert.Kernel7Ideal Cert.Kernel7Ideal.Gen
open Cert.Kernel6Ideal.Modulation (act)

/-! ## One element's step -/

/-- The new first moment. -/
def moment1 (g m : EReal) : EReal := Ideal.ofBits FTy.f32 0x3F666666#32 * m + Ideal.ofBits FTy.f32 0x3DCCCCCD#32 * g

/-- The new second moment. -/
def moment2 (g v : EReal) : EReal := Ideal.ofBits FTy.f32 0x3F7FBE77#32 * v + Ideal.ofBits FTy.f32 0x3A83126F#32 * (g * g)

/-- The weight's change: the corrected first moment over the root of the corrected second one, and the decay. -/
def change (w g m v : EReal) : EReal :=
  Ideal.ofBits FTy.f32 0xBA83126F#32
    * (Ideal.div (Ideal.div (moment1 g m) (Ideal.ofBits FTy.f32 0x3F26BD02#32))
        (Ideal.sqrt (Ideal.div (moment2 g v) (Ideal.ofBits FTy.f32 0x3C231ACC#32)) + Ideal.ofBits FTy.f32 0x322BCC77#32)
      + Ideal.ofBits FTy.f32 0x3C23D70A#32 * w)

/-! ## One layer -/

/-- A layer's gradient, from the transposed activations and the layer's cotangent. -/
def grad (x : Vec Ideal S1024x8 .f32) (d : Vec Ideal S1x8x384 .f32) (k : Fin 1024) (j : Fin 384) : EReal :=
  ∑ q : Fin 8, x (ix2 k q) * d (ix3 0 q j)

theorem sum_apply (a0 a1 a2 a3 a4 a5 a6 a7 : Vec Ideal S1024x1 .f32) (b0 b1 b2 b3 b4 b5 b6 b7 : Vec Ideal S1x1x384 .f32) (k : Fin 1024) (j : Fin 384) :
    k0_pay3 (F := Ideal) (k0_pay1 a0 b0 a1 b1 a2 b2 a3 b3) (k0_pay2 a4) b4 a5 b5 a6 b6 a7 b7 (ix2 k j)
      = a0 (ix2 k 0) * b0 (ix3 0 0 j) + a1 (ix2 k 0) * b1 (ix3 0 0 j) + a2 (ix2 k 0) * b2 (ix3 0 0 j) + a3 (ix2 k 0) * b3 (ix3 0 0 j)
        + a4 (ix2 k 0) * b4 (ix3 0 0 j) + a5 (ix2 k 0) * b5 (ix3 0 0 j) + a6 (ix2 k 0) * b6 (ix3 0 0 j) + a7 (ix2 k 0) * b7 (ix3 0 0 j) := by
  pointwise [k0_pay3, k0_pay2, k0_pay1]

theorem column (x : Vec Ideal S1024x8 .f32) (q : Fin 8) (inb : ∀ a, (![0, q.val] : Fin 2 → ℕ) a + S1024x1.size a ≤ S1024x8.size a) (k : Fin 1024) :
    View.ld (Val := Elt Ideal) (e' := .f32) x (Rect.unit (s := S1024x8) ![0, q.val] S1024x1.size inb) (ix2 k 0) = x (ix2 k q) := by
  refine congrArg x ?_
  funext a; apply Fin.ext
  fin_cases a
  · change 0 + 1 * k.val = k.val; omega
  · change q.val + 1 * 0 = q.val; omega

theorem line (d : Vec Ideal S1x8x384 .f32) (q : Fin 8) (inb : ∀ a, (![0, q.val, 0] : Fin 3 → ℕ) a + S1x1x384.size a ≤ S1x8x384.size a) (j : Fin 384) :
    View.ld (Val := Elt Ideal) (e' := .f32) d (Rect.unit (s := S1x8x384) ![0, q.val, 0] S1x1x384.size inb) (ix3 0 0 j) = d (ix3 0 q j) := by
  refine congrArg d ?_
  funext a; apply Fin.ext
  fin_cases a
  · change 0 + 1 * 0 = 0; omega
  · change q.val + 1 * 0 = q.val; omega
  · change 0 + 1 * j.val = j.val; omega

variable (x : Vec Ideal S1024x8 .f32) (d : Vec Ideal S1x8x384 .f32) (w m1 m2 : Vec Ideal S1x1024x384 .f32)

theorem pay13_apply (k : Fin 1024) (j : Fin 384) : k0_pay13 (F := Ideal) x d w m1 m2 (ix2 k j) = grad x d k j := by
  unfold k0_pay13 k0_pay11 k0_pay12
  rw [sum_apply, grad, Fin.sum_univ_eight]
  have c := column x
  have l := line d
  exact congrArg₂ (· + ·) (congrArg₂ (· + ·) (congrArg₂ (· + ·) (congrArg₂ (· + ·) (congrArg₂ (· + ·) (congrArg₂ (· + ·) (congrArg₂ (· + ·)
    (congrArg₂ (· * ·) (c 0 _ k) (l 0 _ j)) (congrArg₂ (· * ·) (c 1 _ k) (l 1 _ j))) (congrArg₂ (· * ·) (c 2 _ k) (l 2 _ j)))
    (congrArg₂ (· * ·) (c 3 _ k) (l 3 _ j))) (congrArg₂ (· * ·) (c 4 _ k) (l 4 _ j))) (congrArg₂ (· * ·) (c 5 _ k) (l 5 _ j)))
    (congrArg₂ (· * ·) (c 6 _ k) (l 6 _ j))) (congrArg₂ (· * ·) (c 7 _ k) (l 7 _ j))

theorem out5_apply (k : Fin 1024) (j : Fin 384) : out0_5 (F := Ideal) x d w m1 m2 (ix3 0 k j) = grad x d k j := by
  have e : out0_5 (F := Ideal) x d w m1 m2 = shapeCast S1x1024x384 (k0_pay13 (F := Ideal) x d w m1 m2) shapeCasts_S1024x384_S1x1024x384 := by
    unfold out0_5
    exact View.canon_cons_unit_lit' _ _ _ (by decide)
  rw [e, ← pay13_apply x d w m1 m2]
  generalize k0_pay13 (F := Ideal) x d w m1 m2 = g
  pointwise

theorem out6_apply (k : Fin 1024) (j : Fin 384) :
    out0_6 (F := Ideal) x d w m1 m2 (ix3 0 k j) = change (w (ix3 0 k j)) (grad x d k j) (m1 (ix3 0 k j)) (m2 (ix3 0 k j)) := by
  unfold out0_6
  rw [View.canon_cons_unit_lit' _ _ _ (by decide), View.ld_unit_lit _ w (by decide), View.ld_unit_lit _ m1 (by decide), View.ld_unit_lit _ m2 (by decide)]
  rw [← pay13_apply x d w m1 m2]
  generalize k0_pay13 (F := Ideal) x d w m1 m2 = g
  unfold change moment1 moment2
  pointwise [k0_pay8, k0_pay5, k0_pay6, k0_pay7]

theorem out7_apply (k : Fin 1024) (j : Fin 384) :
    out0_7 (F := Ideal) x d w m1 m2 (ix3 0 k j) = moment1 (grad x d k j) (m1 (ix3 0 k j)) := by
  unfold out0_7
  rw [View.canon_cons_unit_lit' _ _ _ (by decide), View.ld_unit_lit _ m1 (by decide)]
  rw [← pay13_apply x d w m1 m2]
  generalize k0_pay13 (F := Ideal) x d w m1 m2 = g
  unfold moment1
  pointwise [k0_pay9, k0_pay6]

theorem out8_apply (k : Fin 1024) (j : Fin 384) :
    out0_8 (F := Ideal) x d w m1 m2 (ix3 0 k j) = moment2 (grad x d k j) (m2 (ix3 0 k j)) := by
  unfold out0_8
  rw [View.canon_cons_unit_lit' _ _ _ (by decide), View.ld_unit_lit _ m2 (by decide)]
  rw [← pay13_apply x d w m1 m2]
  generalize k0_pay13 (F := Ideal) x d w m1 m2 = g
  unfold moment2
  pointwise [k0_pay10, k0_pay7]

/-! ## The blocks as parts of the arguments -/

variable (m : (ℓ : Loc nD τ sig) → Buf (Elt Ideal) ℓ) (ρ : Dev nD → PrngReg)

/-- The argument arrays: the conditions, the modulation's cotangent, the weights and their two moments. -/
abbrev a0 (c : Dev nD) : Vec Ideal S8x1024 .f32 := m ((c : Thread nD τ).loc main_arg0)
abbrev a1 (c : Dev nD) : Vec Ideal S2x8x384 .f32 := m ((c : Thread nD τ).loc main_arg1)
abbrev a2 (c : Dev nD) : Vec Ideal S2x1024x384 .f32 := m ((c : Thread nD τ).loc main_arg2)
abbrev a3 (c : Dev nD) : Vec Ideal S2x1024x384 .f32 := m ((c : Thread nD τ).loc main_arg3)
abbrev a4 (c : Dev nD) : Vec Ideal S2x1024x384 .f32 := m ((c : Thread nD τ).loc main_arg4)

theorem entry_v7 (c : Dev nD) (k : Fin 1024) (q : Fin 8) : V m c main_v7 (ix2 k q) = act (a0 m c) (ix2 q k) := by
  (unfold V; after_results); pointwise; rfl

theorem idx0 : ∀ t : Fin cfg0.N, win0_0.index t = ![0, 0] := (by decide +kernel : ∀ t : Fin grid0.N, _)
theorem idx1 : ∀ t : Fin cfg0.N, win0_1.index t = ![t.val, 0, 0] := (by decide +kernel : ∀ t : Fin grid0.N, _)
theorem idx2 : ∀ t : Fin cfg0.N, win0_2.index t = ![t.val, 0, 0] := (by decide +kernel : ∀ t : Fin grid0.N, _)
theorem idx3 : ∀ t : Fin cfg0.N, win0_3.index t = ![t.val, 0, 0] := (by decide +kernel : ∀ t : Fin grid0.N, _)
theorem idx4 : ∀ t : Fin cfg0.N, win0_4.index t = ![t.val, 0, 0] := (by decide +kernel : ∀ t : Fin grid0.N, _)
theorem idx5 : ∀ t : Fin cfg0.N, win0_5.index t = ![t.val, 0, 0] := (by decide +kernel : ∀ t : Fin grid0.N, _)
theorem idx6 : ∀ t : Fin cfg0.N, win0_6.index t = ![t.val, 0, 0] := (by decide +kernel : ∀ t : Fin grid0.N, _)
theorem idx7 : ∀ t : Fin cfg0.N, win0_7.index t = ![t.val, 0, 0] := (by decide +kernel : ∀ t : Fin grid0.N, _)
theorem idx8 : ∀ t : Fin cfg0.N, win0_8.index t = ![t.val, 0, 0] := (by decide +kernel : ∀ t : Fin grid0.N, _)

/-- The layer of a visit. -/
def lay (t : Fin cfg0.N) : Fin 2 := ⟨t.val, lt_of_lt_of_eq t.isLt N_0⟩

theorem blk0 (c : Dev nD) (t : Fin cfg0.N) (k : Fin 1024) (q : Fin 8) :
    (iblk m c 0 t : Vec Ideal S1024x8 .f32) (ix2 k q) = act (a0 m c) (ix2 q k) := by
  rw [← entry_v7 m]
  blk_ext! [iblk, V, idx0 t]

theorem blk1 (c : Dev nD) (t : Fin cfg0.N) (q : Fin 8) (j : Fin 384) :
    (iblk m c 1 t : Vec Ideal S1x8x384 .f32) (ix3 0 q j) = a1 m c (ix3 (lay t) q j) := by
  rw [show a1 m c = V m c main_arg1 from (V_main_arg1 m c).symm]
  blk_ext! [iblk, V, idx1 t, lay]

theorem blk2 (c : Dev nD) (t : Fin cfg0.N) (k : Fin 1024) (j : Fin 384) :
    (iblk m c 2 t : Vec Ideal S1x1024x384 .f32) (ix3 0 k j) = a2 m c (ix3 (lay t) k j) := by
  rw [show a2 m c = V m c main_arg2 from (V_main_arg2 m c).symm]
  blk_ext! [iblk, V, idx2 t, lay]

theorem blk3 (c : Dev nD) (t : Fin cfg0.N) (k : Fin 1024) (j : Fin 384) :
    (iblk m c 3 t : Vec Ideal S1x1024x384 .f32) (ix3 0 k j) = a3 m c (ix3 (lay t) k j) := by
  rw [show a3 m c = V m c main_arg3 from (V_main_arg3 m c).symm]
  blk_ext! [iblk, V, idx3 t, lay]

theorem blk4 (c : Dev nD) (t : Fin cfg0.N) (k : Fin 1024) (j : Fin 384) :
    (iblk m c 4 t : Vec Ideal S1x1024x384 .f32) (ix3 0 k j) = a4 m c (ix3 (lay t) k j) := by
  rw [show a4 m c = V m c main_arg4 from (V_main_arg4 m c).symm]
  blk_ext! [iblk, V, idx4 t, lay]

/-! ## The results -/

/-- The gradient, the change and the two moments of both layers. -/
def resG (a : Vec Ideal S8x1024 .f32) (e : Vec Ideal S2x8x384 .f32) : Vec Ideal S2x1024x384 .f32 :=
  fun i => ∑ q : Fin 8, act a (ix2 q (i 1)) * e (ix3 (i 0) q (i 2))
def resD (a : Vec Ideal S8x1024 .f32) (e : Vec Ideal S2x8x384 .f32) (w m1 m2 : Vec Ideal S2x1024x384 .f32) : Vec Ideal S2x1024x384 .f32 :=
  fun i => change (w i) (resG a e i) (m1 i) (m2 i)
def resM (a : Vec Ideal S8x1024 .f32) (e : Vec Ideal S2x8x384 .f32) (m1 : Vec Ideal S2x1024x384 .f32) : Vec Ideal S2x1024x384 .f32 :=
  fun i => moment1 (resG a e i) (m1 i)
def resV (a : Vec Ideal S8x1024 .f32) (e : Vec Ideal S2x8x384 .f32) (m2 : Vec Ideal S2x1024x384 .f32) : Vec Ideal S2x1024x384 .f32 :=
  fun i => moment2 (resG a e i) (m2 i)

theorem grad_blk (c : Dev nD) (t : Fin cfg0.N) (k : Fin 1024) (j : Fin 384) :
    grad (iblk m c 0 t) (iblk m c 1 t) k j = resG (a0 m c) (a1 m c) (ix3 (lay t) k j) := by
  unfold grad
  exact Finset.sum_congr rfl fun q _ => congrArg₂ (· * ·) (blk0 m c t k q) (blk1 m c t q j)

/-- An element of a visit's block. -/
theorem elt (y : S1x1024x384.Idx) : y = (ix3 0 (y 1) (y 2) : S1x1024x384.Idx) := by idx_ext

/-- A result that is read where a visit's block lies. -/
theorem place (r : Vec Ideal S2x1024x384 .f32) (l : Fin 2) (k : Fin 1024) (j : Fin 384) (z : S2x1024x384.Idx) (h0 : z 0 = l) (h1 : z 1 = k) (h2 : z 2 = j) :
    r (ix3 l k j) = r z := by
  subst h0 h1 h2
  refine congrArg r ?_
  idx_ext

theorem final5 (c : Dev nD) : (dats m 0 c).arrAt 5 cfg0.N = resG (a0 m c) (a1 m c) := by
  refine (dats m 0 c).arrAt_eq_of_covers 5 _ (by decide +kernel) fun t hf y => ?_
  blk_simp
  rw [after0_5]
  refine (congrArg _ (elt y)).trans ((out5_apply _ _ _ _ _ (y 1) (y 2)).trans ((grad_blk m c t (y 1) (y 2)).trans ?_))
  exact place _ _ _ _ _ (by apply Fin.ext; blk_simp [idx5 t, lay]) (by apply Fin.ext; blk_simp [idx5 t]) (by apply Fin.ext; blk_simp [idx5 t])

theorem final6 (c : Dev nD) : (dats m 0 c).arrAt 6 cfg0.N = resD (a0 m c) (a1 m c) (a2 m c) (a3 m c) (a4 m c) := by
  refine (dats m 0 c).arrAt_eq_of_covers 6 _ (by decide +kernel) fun t hf y => ?_
  blk_simp
  rw [after0_6]
  refine (congrArg _ (elt y)).trans ((out6_apply _ _ _ _ _ (y 1) (y 2)).trans ((congr (congr (congrArg₂ change (blk2 m c t (y 1) (y 2)) (grad_blk m c t (y 1) (y 2))) (blk3 m c t (y 1) (y 2))) (blk4 m c t (y 1) (y 2))).trans ?_))
  exact place (resD _ _ _ _ _) _ _ _ _ (by apply Fin.ext; blk_simp [idx6 t, lay]) (by apply Fin.ext; blk_simp [idx6 t]) (by apply Fin.ext; blk_simp [idx6 t])

theorem final7 (c : Dev nD) : (dats m 0 c).arrAt 7 cfg0.N = resM (a0 m c) (a1 m c) (a3 m c) := by
  refine (dats m 0 c).arrAt_eq_of_covers 7 _ (by decide +kernel) fun t hf y => ?_
  blk_simp
  rw [after0_7]
  refine (congrArg _ (elt y)).trans ((out7_apply _ _ _ _ _ (y 1) (y 2)).trans ((congrArg₂ moment1 (grad_blk m c t (y 1) (y 2)) (blk3 m c t (y 1) (y 2))).trans ?_))
  exact place (resM _ _ _) _ _ _ _ (by apply Fin.ext; blk_simp [idx7 t, lay]) (by apply Fin.ext; blk_simp [idx7 t]) (by apply Fin.ext; blk_simp [idx7 t])

theorem final8 (c : Dev nD) : (dats m 0 c).arrAt 8 cfg0.N = resV (a0 m c) (a1 m c) (a4 m c) := by
  refine (dats m 0 c).arrAt_eq_of_covers 8 _ (by decide +kernel) fun t hf y => ?_
  blk_simp
  rw [after0_8]
  refine (congrArg _ (elt y)).trans ((out8_apply _ _ _ _ _ (y 1) (y 2)).trans ((congrArg₂ moment2 (grad_blk m c t (y 1) (y 2)) (blk4 m c t (y 1) (y 2))).trans ?_))
  exact place (resV _ _ _) _ _ _ _ (by apply Fin.ext; blk_simp [idx8 t, lay]) (by apply Fin.ext; blk_simp [idx8 t]) (by apply Fin.ext; blk_simp [idx8 t])

/-- The program runs and returns the four results. -/
theorem run : θ_run defs (onTc (τ := τ) (main (F := Ideal))) ⟨m, fun _ => 0, ρ⟩ (fun r => ∀ c : Dev nD,
    r.2.mem ((c.tc : Thread nD τ).loc main_v8_0) = resG (a0 m c) (a1 m c)
    ∧ r.2.mem ((c.tc : Thread nD τ).loc main_v8_1) = resD (a0 m c) (a1 m c) (a2 m c) (a3 m c) (a4 m c)
    ∧ r.2.mem ((c.tc : Thread nD τ).loc main_v8_2) = resM (a0 m c) (a1 m c) (a3 m c)
    ∧ r.2.mem ((c.tc : Thread nD τ).loc main_v8_3) = resV (a0 m c) (a1 m c) (a4 m c)) :=
  (θ_run defs _ _).mono (fun _ h c => ⟨((h c).1 5).trans (final5 m c), ((h c).1 6).trans (final6 m c),
    ((h c).1 7).trans (final7 m c), ((h c).1 8).trans (final8 m c)⟩) (run_main (F := Ideal) m ρ)

end Cert.Kernel7Ideal.AdaUpdate
-- ==== Proof.AdaUpdate.Claim.lean ====
module
public import proofs.«01_k».proof.Defs
public import proofs.«01_k».proof.Proof.Gen.Kernel7Ideal.Frame
public import proofs.«01_k».proof.Proof.Gen.Reference7Ideal.Read
public import proofs.«01_k».proof.Proof.Gen.Reference7Ideal.Run
public import proofs.«01_k».proof.Proof.AdaUpdate.Kernel
public import Idealize.ShloMosaic.Lib.Claim

/-! # The value claim of the modulation's update

The derivative of the plain product sums over the examples, with its factors in the other order; the optimiser's lines are the same. The
claim holds of all arguments. -/

@[expose] public section
set_option maxRecDepth 16384
noncomputable section
open Idealize.ShloMosaic Idealize.ShloMosaic.TcCoe Idealize.SL.Sem

namespace Cert.Reference7Ideal.AdaUpdate
open Cert.Reference7Ideal Cert.Reference7Ideal.Gen Cert.Reference7Ideal.Read
open Cert.Kernel6Ideal.Modulation (act)
open Cert.Kernel7Ideal.AdaUpdate (resG resD resM resV change moment1 moment2)

variable (x0 : Vec Ideal S8x1024 .f32) (x1 : Vec Ideal S2x8x384 .f32) (x2 x3 x4 : Vec Ideal S2x1024x384 .f32)

theorem read8 : val_main_v8 (F := Ideal) x0 = act x0 := by
  funext i
  have hi : i = (ix2 (i 0) (i 1) : S8x1024.Idx) := by idx_ext
  rw [hi]
  unfold val_main_v8 val_main_v7 val_main_v6 val_main_v5 val_main_v4 val_main_v3 val_main_v2 val_main_cst val_main_cst_0
  pointwise
  rfl

theorem read22 : val_main_v22 (F := Ideal) x0 = act x0 := read8 x0

theorem read28 (k : Fin 1024) (j : Fin 384) : val_main_v28 (F := Ideal) x0 x1 (ix3 0 k j) = resG x0 x1 (ix3 0 k j) := by
  unfold val_main_v28 val_main_v13 val_main_v12 val_main_v11 val_main_v10
  rw [read8]
  unfold resG
  generalize act x0 = a
  pointwise
  exact Finset.sum_congr rfl fun q _ => mul_comm _ _

theorem read29 (k : Fin 1024) (j : Fin 384) : val_main_v29 (F := Ideal) x0 x1 (ix3 0 k j) = resG x0 x1 (ix3 1 k j) := by
  unfold val_main_v29 val_main_v27 val_main_v26 val_main_v25 val_main_v24
  rw [read22]
  unfold resG
  generalize act x0 = a
  pointwise
  exact Finset.sum_congr rfl fun q _ => mul_comm _ _

theorem read30 : val_main_v30 (F := Ideal) x0 x1 = resG x0 x1 := by
  funext i
  have hi : i = (ix3 (i 0) (i 1) (i 2) : S2x1024x384.Idx) := by idx_ext
  rw [hi]
  unfold val_main_v30
  generalize i 0 = l
  fin_cases l
  · refine Eq.trans ?_ (read28 x0 x1 (i 1) (i 2))
    pointwise
  · refine Eq.trans ?_ (read29 x0 x1 (i 1) (i 2))
    pointwise

theorem read35 : val_main_v35 (F := Ideal) x0 x1 x3 = resM x0 x1 x3 := by
  funext i
  unfold val_main_v35 val_main_v34 val_main_v33 val_main_v32 val_main_v31 val_main_cst_3 val_main_cst_4
  rw [read30]
  unfold resM moment1
  generalize resG x0 x1 = g
  pointwise

theorem read41 : val_main_v41 (F := Ideal) x0 x1 x4 = resV x0 x1 x4 := by
  funext i
  unfold val_main_v41 val_main_v40 val_main_v39 val_main_v38 val_main_v37 val_main_v36 val_main_cst_5 val_main_cst_6
  rw [read30]
  unfold resV moment2
  generalize resG x0 x1 = g
  pointwise

theorem read54 : val_main_v54 (F := Ideal) x0 x1 x2 x3 x4 = resD x0 x1 x2 x3 x4 := by
  funext i
  unfold val_main_v54 val_main_v53 val_main_v52 val_main_v51 val_main_v50 val_main_v49 val_main_v48 val_main_v47 val_main_v46 val_main_v45
    val_main_v44 val_main_v43 val_main_v42 val_main_cst_7 val_main_cst_8 val_main_cst_9 val_main_cst_10 val_main_cst_11
  rw [read35, read41]
  unfold resD change resM resV
  pointwise

end Cert.Reference7Ideal.AdaUpdate

namespace Cert.Proof.AdaUpdate
open Cert.Kernel7Ideal.AdaUpdate Cert.Reference7Ideal.AdaUpdate

/-- The reference's run leaves its arguments, and no counter of it moves. -/
theorem frame_reference : Cert.quiescent_Reference7Ideal := fun m ρ _ =>
  (θ_run Cert.Reference7Ideal.defs _ _).mono (fun r h => ⟨fun c => (h c).2.2.2.2, sem_eq_zero_of_no_sems (by decide) r.2⟩)
    (Cert.Reference7Ideal.Value.run (F := Ideal) m ρ)

open Cert.Reference7Ideal.Read Cert.Reference7Ideal in
theorem value : Cert.algebraic_Kernel7Ideal_Reference7Ideal := by
  intro m g m' g' hpre hagree
  refine ⟨fun c => resG (a0 m c) (a1 m c), fun c => resD (a0 m c) (a1 m c) (a2 m c) (a3 m c) (a4 m c),
    fun c => resM (a0 m c) (a1 m c) (a3 m c), fun c => resV (a0 m c) (a1 m c) (a4 m c), ?_, ?_⟩
  · refine (θ_run Cert.Kernel7Ideal.defs _ _).mono (fun r h c => ?_)
      (θ_run_and (run m g) (Cert.Kernel7Ideal.Gen.unchanged (F := Ideal) m g))
    exact ⟨(h.1 c).1, (h.1 c).2.1, (h.1 c).2.2.1, (h.1 c).2.2.2, h.2 c⟩
  · refine (θ_run Cert.Reference7Ideal.defs _ _).mono (fun r h c => ?_) (Cert.Reference7Ideal.Value.run (F := Ideal) m' g')
    obtain ⟨g0, g1, g2, g3, g4⟩ := hagree c
    obtain ⟨r0, r1, r2, r3, hrest⟩ := h c
    refine ⟨r0.trans ?_, r1.trans ?_, r2.trans ?_, r3.trans ?_, hrest⟩
    · rw [val_main_v30_eq, g0, g1]
      exact read30 (a0 m c) (a1 m c)
    · rw [val_main_v54_eq, g0, g1, g2, g3, g4]
      exact read54 (a0 m c) (a1 m c) (a2 m c) (a3 m c) (a4 m c)
    · rw [val_main_v35_eq, g0, g1, g3]
      exact read35 (a0 m c) (a1 m c) (a3 m c)
    · rw [val_main_v41_eq, g0, g1, g4]
      exact read41 (a0 m c) (a1 m c) (a4 m c)

end Cert.Proof.AdaUpdate
-- ==== Proof.Update.Kernel.lean ====
module

public import proofs.«01_k».proof.Proof.Gen.Kernel8Ideal.Frame
public import proofs.«01_k».proof.Proof.AdaUpdate.Kernel
public import Idealize.ShloMosaic.Lib.Pipeline.Value
public import Idealize.ShloMosaic.Lib.Pipeline.ValueKit
public import Idealize.ShloMosaic.Lib.Pointwise
public import Idealize.ShloMosaic.Lib.Tactic

/-! # What an update from eight parts returns

A weight's gradient is the sum of the devices' parts; one step of the optimiser follows, as in the modulation's update. -/

@[expose] public section

set_option maxRecDepth 16384

noncomputable section

open Idealize.ShloMosaic Idealize.ShloMosaic.TcCoe Idealize.SL.Sem
open Idealize.ShloMosaic.Pipeline (Dat)

namespace Cert.Kernel8Ideal.Update

open Cert.Kernel8Ideal Cert.Kernel8Ideal.Gen
open Cert.Kernel7Ideal.AdaUpdate (moment1 moment2 change)

/-! ## One block of rows -/

theorem sum_apply (a0 a1 a2 a3 a4 a5 a6 a7 : Vec Ideal S1x64x1024 .bf16) (k : Fin 64) (j : Fin 1024) :
    k0_pay4 (F := Ideal) a0 a1 a2 a3 a4 a5 a6 a7 (ix2 k j)
      = a0 (ix3 0 k j) + a1 (ix3 0 k j) + a2 (ix3 0 k j) + a3 (ix3 0 k j) + a4 (ix3 0 k j) + a5 (ix3 0 k j) + a6 (ix3 0 k j) + a7 (ix3 0 k j) := by
  pointwise [k0_pay4]

theorem part (p : Vec Ideal S8x64x1024 .bf16) (q : Fin 8) (inb : ∀ a, (![q.val, 0, 0] : Fin 3 → ℕ) a + S1x64x1024.size a ≤ S8x64x1024.size a) (k : Fin 64) (j : Fin 1024) :
    View.ld (Val := Elt Ideal) (e' := .bf16) p (Rect.unit (s := S8x64x1024) ![q.val, 0, 0] S1x64x1024.size inb) (ix3 0 k j) = p (ix3 q k j) := by
  refine congrArg p ?_
  funext a; apply Fin.ext
  fin_cases a
  · change q.val + 1 * 0 = q.val; omega
  · change 0 + 1 * k.val = k.val; omega
  · change 0 + 1 * j.val = j.val; omega

variable (w : Vec Ideal S64x1024 .f32) (p : Vec Ideal S8x64x1024 .bf16) (m1 m2 : Vec Ideal S64x1024 .f32)

/-- The gradient of a block of rows: the sum of the eight parts. -/
theorem pay5_apply (k : Fin 64) (j : Fin 1024) : k0_pay5 (F := Ideal) w p m1 m2 (ix2 k j) = (∑ q : Fin 8, p (ix3 q k j) : EReal) := by
  unfold k0_pay5
  rw [sum_apply, Fin.sum_univ_eight]
  have l := part p
  exact congrArg₂ (· + ·) (congrArg₂ (· + ·) (congrArg₂ (· + ·) (congrArg₂ (· + ·) (congrArg₂ (· + ·) (congrArg₂ (· + ·) (congrArg₂ (· + ·)
    (l 0 _ k j) (l 1 _ k j)) (l 2 _ k j)) (l 3 _ k j)) (l 4 _ k j)) (l 5 _ k j)) (l 6 _ k j)) (l 7 _ k j)

theorem out4_apply (k : Fin 64) (j : Fin 1024) : out0_4 (F := Ideal) w p m1 m2 (ix2 k j) = (∑ q : Fin 8, p (ix3 q k j) : EReal) := by
  rw [← pay5_apply w p m1 m2]
  unfold out0_4
  rw [View.canon_cons_unit_lit' _ _ _ (by decide)]
  rfl

theorem out5_apply (k : Fin 64) (j : Fin 1024) :
    out0_5 (F := Ideal) w p m1 m2 (ix2 k j) = change (w (ix2 k j)) (∑ q : Fin 8, p (ix3 q k j) : EReal) (m1 (ix2 k j)) (m2 (ix2 k j)) := by
  unfold out0_5
  rw [View.canon_cons_unit_lit' _ _ _ (by decide), View.ld_unit_lit _ w (by decide), View.ld_unit_lit _ m1 (by decide), View.ld_unit_lit _ m2 (by decide)]
  rw [← pay5_apply w p m1 m2]
  generalize k0_pay5 (F := Ideal) w p m1 m2 = g
  unfold change moment1 moment2
  pointwise [k0_pay3, k0_pay1, k0_pay2]

theorem out6_apply (k : Fin 64) (j : Fin 1024) :
    out0_6 (F := Ideal) w p m1 m2 (ix2 k j) = moment1 (∑ q : Fin 8, p (ix3 q k j) : EReal) (m1 (ix2 k j)) := by
  unfold out0_6
  rw [View.canon_cons_unit_lit' _ _ _ (by decide), View.ld_unit_lit _ m1 (by decide)]
  rw [← pay5_apply w p m1 m2]
  generalize k0_pay5 (F := Ideal) w p m1 m2 = g
  unfold moment1
  pointwise [k0_pay1]

theorem out7_apply (k : Fin 64) (j : Fin 1024) :
    out0_7 (F := Ideal) w p m1 m2 (ix2 k j) = moment2 (∑ q : Fin 8, p (ix3 q k j) : EReal) (m2 (ix2 k j)) := by
  unfold out0_7
  rw [View.canon_cons_unit_lit' _ _ _ (by decide), View.ld_unit_lit _ m2 (by decide)]
  rw [← pay5_apply w p m1 m2]
  generalize k0_pay5 (F := Ideal) w p m1 m2 = g
  unfold moment2
  pointwise [k0_pay2]

/-! ## The blocks as parts of the arguments -/

variable (m : (ℓ : Loc nD τ sig) → Buf (Elt Ideal) ℓ) (ρ : Dev nD → PrngReg)

/-- The argument arrays: the weight's rows, the eight parts of its gradient and the two moments. -/
abbrev a0 (c : Dev nD) : Vec Ideal S128x1024 .f32 := m ((c : Thread nD τ).loc main_arg0)
abbrev a1 (c : Dev nD) : Vec Ideal S8x128x1024 .bf16 := m ((c : Thread nD τ).loc main_arg1)
abbrev a2 (c : Dev nD) : Vec Ideal S128x1024 .f32 := m ((c : Thread nD τ).loc main_arg2)
abbrev a3 (c : Dev nD) : Vec Ideal S128x1024 .f32 := m ((c : Thread nD τ).loc main_arg3)

theorem idx0 : ∀ t : Fin cfg0.N, win0_0.index t = ![t.val, 0] := (by decide +kernel : ∀ t : Fin grid0.N, _)
theorem idx1 : ∀ t : Fin cfg0.N, win0_1.index t = ![0, t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)

/-- A row of a visit's block, counted in the whole weight. -/
def row (t : Fin cfg0.N) (k : Fin 64) : Fin 128 := ⟨t.val * 64 + k.val, by have := lt_of_lt_of_eq t.isLt N_0; omega⟩

theorem blk0 (c : Dev nD) (t : Fin cfg0.N) (k : Fin 64) (j : Fin 1024) :
    (iblk m c 0 t : Vec Ideal S64x1024 .f32) (ix2 k j) = a0 m c (ix2 (row t k) j) := by
  rw [show a0 m c = V m c main_arg0 from (V_main_arg0 m c).symm]
  blk_ext! [iblk, V, idx0 t, row]

theorem blk1 (c : Dev nD) (t : Fin cfg0.N) (q : Fin 8) (k : Fin 64) (j : Fin 1024) :
    (iblk m c 1 t : Vec Ideal S8x64x1024 .bf16) (ix3 q k j) = a1 m c (ix3 q (row t k) j) := by
  rw [show a1 m c = V m c main_arg1 from (V_main_arg1 m c).symm]
  blk_ext! [iblk, V, idx1 t, row]

theorem blk2 (c : Dev nD) (t : Fin cfg0.N) (k : Fin 64) (j : Fin 1024) :
    (iblk m c 2 t : Vec Ideal S64x1024 .f32) (ix2 k j) = a2 m c (ix2 (row t k) j) := by
  rw [show a2 m c = V m c main_arg2 from (V_main_arg2 m c).symm]
  blk_ext! [iblk, V, idx2 t, row]

theorem blk3 (c : Dev nD) (t : Fin cfg0.N) (k : Fin 64) (j : Fin 1024) :
    (iblk m c 3 t : Vec Ideal S64x1024 .f32) (ix2 k j) = a3 m c (ix2 (row t k) j) := by
  rw [show a3 m c = V m c main_arg3 from (V_main_arg3 m c).symm]
  blk_ext! [iblk, V, idx3 t, row]

/-! ## The results -/

/-- The gradient, the change and the two moments of all rows. -/
def resG (p : Vec Ideal S8x128x1024 .bf16) : Vec Ideal S128x1024 .f32 := fun i => (∑ q : Fin 8, p (ix3 q (i 0) (i 1)) : EReal)
def resD (w : Vec Ideal S128x1024 .f32) (p : Vec Ideal S8x128x1024 .bf16) (m1 m2 : Vec Ideal S128x1024 .f32) : Vec Ideal S128x1024 .f32 :=
  fun i => change (w i) (resG p i) (m1 i) (m2 i)
def resM (p : Vec Ideal S8x128x1024 .bf16) (m1 : Vec Ideal S128x1024 .f32) : Vec Ideal S128x1024 .f32 := fun i => moment1 (resG p i) (m1 i)
def resV (p : Vec Ideal S8x128x1024 .bf16) (m2 : Vec Ideal S128x1024 .f32) : Vec Ideal S128x1024 .f32 := fun i => moment2 (resG p i) (m2 i)

theorem sum_blk (c : Dev nD) (t : Fin cfg0.N) (k : Fin 64) (j : Fin 1024) :
    (∑ q : Fin 8, (iblk m c 1 t : Vec Ideal S8x64x1024 .bf16) (ix3 q k j) : EReal) = resG (a1 m c) (ix2 (row t k) j) :=
  Finset.sum_congr rfl fun q _ => blk1 m c t q k j

/-- An element of a visit's block. -/
theorem elt (y : S64x1024.Idx) : y = (ix2 (y 0) (y 1) : S64x1024.Idx) := by idx_ext

/-- A result that is read where a visit's block lies. -/
theorem place (r : Vec Ideal S128x1024 .f32) (k : Fin 128) (j : Fin 1024) (z : S128x1024.Idx) (h0 : z 0 = k) (h1 : z 1 = j) :
    r (ix2 k j) = r z := by
  subst h0 h1
  refine congrArg r ?_
  idx_ext

theorem final4 (c : Dev nD) : (dats m 0 c).arrAt 4 cfg0.N = resG (a1 m c) := by
  refine (dats m 0 c).arrAt_eq_of_covers 4 _ (by decide +kernel) fun t hf y => ?_
  blk_simp
  rw [after0_4]
  refine (congrArg _ (elt y)).trans ((out4_apply _ _ _ _ (y 0) (y 1)).trans ((sum_blk m c t (y 0) (y 1)).trans ?_))
  exact place _ _ _ _ (by apply Fin.ext; blk_simp [idx4 t, row]) (by apply Fin.ext; blk_simp [idx4 t])

theorem final5 (c : Dev nD) : (dats m 0 c).arrAt 5 cfg0.N = resD (a0 m c) (a1 m c) (a2 m c) (a3 m c) := by
  refine (dats m 0 c).arrAt_eq_of_covers 5 _ (by decide +kernel) fun t hf y => ?_
  blk_simp
  rw [after0_5]
  refine (congrArg _ (elt y)).trans ((out5_apply _ _ _ _ (y 0) (y 1)).trans ((congr (congr (congrArg₂ change (blk0 m c t (y 0) (y 1)) (sum_blk m c t (y 0) (y 1))) (blk2 m c t (y 0) (y 1))) (blk3 m c t (y 0) (y 1))).trans ?_))
  exact place (resD _ _ _ _) _ _ _ (by apply Fin.ext; blk_simp [idx5 t, row]) (by apply Fin.ext; blk_simp [idx5 t])

theorem final6 (c : Dev nD) : (dats m 0 c).arrAt 6 cfg0.N = resM (a1 m c) (a2 m c) := by
  refine (dats m 0 c).arrAt_eq_of_covers 6 _ (by decide +kernel) fun t hf y => ?_
  blk_simp
  rw [after0_6]
  refine (congrArg _ (elt y)).trans ((out6_apply _ _ _ _ (y 0) (y 1)).trans ((congrArg₂ moment1 (sum_blk m c t (y 0) (y 1)) (blk2 m c t (y 0) (y 1))).trans ?_))
  exact place (resM _ _) _ _ _ (by apply Fin.ext; blk_simp [idx6 t, row]) (by apply Fin.ext; blk_simp [idx6 t])

theorem final7 (c : Dev nD) : (dats m 0 c).arrAt 7 cfg0.N = resV (a1 m c) (a3 m c) := by
  refine (dats m 0 c).arrAt_eq_of_covers 7 _ (by decide +kernel) fun t hf y => ?_
  blk_simp
  rw [after0_7]
  refine (congrArg _ (elt y)).trans ((out7_apply _ _ _ _ (y 0) (y 1)).trans ((congrArg₂ moment2 (sum_blk m c t (y 0) (y 1)) (blk3 m c t (y 0) (y 1))).trans ?_))
  exact place (resV _ _) _ _ _ (by apply Fin.ext; blk_simp [idx7 t, row]) (by apply Fin.ext; blk_simp [idx7 t])

/-- The program runs and returns the four results. -/
theorem run : θ_run defs (onTc (τ := τ) (main (F := Ideal))) ⟨m, fun _ => 0, ρ⟩ (fun r => ∀ c : Dev nD,
    r.2.mem ((c.tc : Thread nD τ).loc main_v0_0) = resG (a1 m c)
    ∧ r.2.mem ((c.tc : Thread nD τ).loc main_v0_1) = resD (a0 m c) (a1 m c) (a2 m c) (a3 m c)
    ∧ r.2.mem ((c.tc : Thread nD τ).loc main_v0_2) = resM (a1 m c) (a2 m c)
    ∧ r.2.mem ((c.tc : Thread nD τ).loc main_v0_3) = resV (a1 m c) (a3 m c)) :=
  (θ_run defs _ _).mono (fun _ h c => ⟨((h c).1 4).trans (final4 m c), ((h c).1 5).trans (final5 m c),
    ((h c).1 6).trans (final6 m c), ((h c).1 7).trans (final7 m c)⟩) (run_main (F := Ideal) m ρ)

end Cert.Kernel8Ideal.Update
-- ==== Proof.Update.Claim.lean ====
module
public import proofs.«01_k».proof.Defs
public import proofs.«01_k».proof.Proof.Gen.Kernel8Ideal.Frame
public import proofs.«01_k».proof.Proof.Gen.Reference8Ideal.Read
public import proofs.«01_k».proof.Proof.Gen.Reference8Ideal.Run
public import proofs.«01_k».proof.Proof.Update.Kernel
public import Idealize.ShloMosaic.Lib.Claim

/-! # The value claim of an update from eight parts

The plain sum over the devices starts at zero, the kernel's at the first part; the optimiser's lines are the same. The claim holds of all
arguments. -/

@[expose] public section
set_option maxRecDepth 16384
noncomputable section
open Idealize.ShloMosaic Idealize.ShloMosaic.TcCoe Idealize.SL.Sem

namespace Cert.Reference8Ideal.Update
open Cert.Reference8Ideal Cert.Reference8Ideal.Gen Cert.Reference8Ideal.Read
open Cert.Kernel7Ideal.AdaUpdate (change moment1 moment2)
open Cert.Kernel8Ideal.Update (resG resD resM resV)

variable (x0 : Vec Ideal S128x1024 .f32) (x1 : Vec Ideal S8x128x1024 .bf16) (x2 x3 : Vec Ideal S128x1024 .f32)

theorem read1 : val_main_v1 (F := Ideal) x1 = resG x1 := by
  funext i
  rw [val_main_v1_apply, val_main_cst_apply]
  change Ideal.ofBits FTy.f32 0x00000000#32 + _ = _
  rw [Ideal.ofBits_zero, zero_add]
  refine Finset.sum_congr rfl fun k _ => (val_main_v0_apply x1 _).trans ?_
  refine congrArg x1 ?_
  idx_ext

theorem read6 : val_main_v6 (F := Ideal) x1 x2 = resM x1 x2 := by
  funext i
  unfold val_main_v6 val_main_v5 val_main_v4 val_main_v3 val_main_v2 val_main_cst_0 val_main_cst_1
  rw [read1]
  unfold resM moment1
  generalize resG x1 = g
  pointwise

theorem read12 : val_main_v12 (F := Ideal) x1 x3 = resV x1 x3 := by
  funext i
  unfold val_main_v12 val_main_v11 val_main_v10 val_main_v9 val_main_v8 val_main_v7 val_main_cst_2 val_main_cst_3
  rw [read1]
  unfold resV moment2
  generalize resG x1 = g
  pointwise

theorem read25 : val_main_v25 (F := Ideal) x0 x1 x2 x3 = resD x0 x1 x2 x3 := by
  funext i
  unfold val_main_v25 val_main_v24 val_main_v23 val_main_v22 val_main_v21 val_main_v20 val_main_v19 val_main_v18 val_main_v17 val_main_v16
    val_main_v15 val_main_v14 val_main_v13 val_main_cst_4 val_main_cst_5 val_main_cst_6 val_main_cst_7 val_main_cst_8
  rw [read6, read12]
  unfold resD change resM resV
  pointwise

end Cert.Reference8Ideal.Update

namespace Cert.Proof.Update
open Cert.Kernel8Ideal.Update Cert.Reference8Ideal.Update

/-- The reference's run leaves its arguments, and no counter of it moves. -/
theorem frame_reference : Cert.quiescent_Reference8Ideal := fun m ρ _ =>
  (θ_run Cert.Reference8Ideal.defs _ _).mono (fun r h => ⟨fun c => (h c).2.2.2.2, sem_eq_zero_of_no_sems (by decide) r.2⟩)
    (Cert.Reference8Ideal.Value.run (F := Ideal) m ρ)

open Cert.Reference8Ideal.Read Cert.Reference8Ideal in
theorem value : Cert.algebraic_Kernel8Ideal_Reference8Ideal := by
  intro m g m' g' hpre hagree
  refine ⟨fun c => resG (a1 m c), fun c => resD (a0 m c) (a1 m c) (a2 m c) (a3 m c), fun c => resM (a1 m c) (a2 m c),
    fun c => resV (a1 m c) (a3 m c), ?_, ?_⟩
  · refine (θ_run Cert.Kernel8Ideal.defs _ _).mono (fun r h c => ?_)
      (θ_run_and (run m g) (Cert.Kernel8Ideal.Gen.unchanged (F := Ideal) m g))
    exact ⟨(h.1 c).1, (h.1 c).2.1, (h.1 c).2.2.1, (h.1 c).2.2.2, h.2 c⟩
  · refine (θ_run Cert.Reference8Ideal.defs _ _).mono (fun r h c => ?_) (Cert.Reference8Ideal.Value.run (F := Ideal) m' g')
    obtain ⟨g0, g1, g2, g3⟩ := hagree c
    obtain ⟨r0, r1, r2, r3, hrest⟩ := h c
    refine ⟨r0.trans ?_, r1.trans ?_, r2.trans ?_, r3.trans ?_, hrest⟩
    · rw [val_main_v1_eq, g1]
      exact read1 (a1 m c)
    · rw [val_main_v25_eq, g0, g1, g2, g3]
      exact read25 (a0 m c) (a1 m c) (a2 m c) (a3 m c)
    · rw [val_main_v6_eq, g1, g2]
      exact read6 (a1 m c) (a2 m c)
    · rw [val_main_v12_eq, g1, g3]
      exact read12 (a1 m c) (a3 m c)

end Cert.Proof.Update
-- ==== Proof.WeightGrad.Kernel.lean ====
module

public import proofs.«01_k».proof.Proof.Gen.Kernel9Ideal.Frame
public import Idealize.ShloMosaic.Lib.Pipeline.Value
public import Idealize.ShloMosaic.Lib.Pipeline.ValueKit
public import Idealize.ShloMosaic.Lib.Pointwise
public import Idealize.ShloMosaic.Lib.Tactic

/-! # What the entry's weight gradient call returns

The grid visits three blocks of columns of the cotangent; for each, the product of the modulated norm, transposed, with these columns is
accumulated over four tiles of tokens, and stored at the last. -/

@[expose] public section

set_option maxRecDepth 16384

noncomputable section

open Idealize.ShloMosaic Idealize.ShloMosaic.TcCoe Idealize.SL.Sem
open Idealize.ShloMosaic.Pipeline (Dat)

namespace Cert.Kernel9Ideal.WeightGrad

open Cert.Kernel9Ideal Cert.Kernel9Ideal.Gen

/-! ## The stored values at an index -/

theorem pay1_apply (i : S1024x1024.Idx) : k0_pay1 (F := Ideal) i = 0 := by
  pointwise [k0_pay1]

theorem pay2_apply (acc : Vec Ideal S1024x1024 .f32) (h d : Vec Ideal S4096x1024 .bf16) (k j : Fin 1024) :
    k0_pay2 (F := Ideal) acc h d (ix2 k j) = acc (ix2 k j) + ∑ r : Fin 4096, h (ix2 r k) * d (ix2 r j) := by
  pointwise [k0_pay2]

/-! ## The accumulator, visit by visit -/

variable (m : (ℓ : Loc nD τ sig) → Buf (Elt Ideal) ℓ) (ρ : Dev nD → PrngReg)

/-- The blocks of visit `t`: the modulated norm and the cotangent. -/
abbrev bH (c : Dev nD) (t : Fin cfg0.N) : Vec Ideal S4096x1024 .bf16 := iblk m c 0 t
abbrev bD (c : Dev nD) (t : Fin cfg0.N) : Vec Ideal S4096x1024 .bf16 := iblk m c 1 t

/-- What visit `t` adds to the accumulator. -/
def part (c : Dev nD) (t : Fin cfg0.N) (k j : Fin 1024) : EReal :=
  ∑ r : Fin 4096, bH m c t (ix2 r k) * bD m c t (ix2 r j)

theorem acc_first (c : Dev nD) (t : Fin cfg0.N) (h : t.val % 4 = 0) (k j : Fin 1024) :
    (outsAt0 m c t.val t.isLt).2 (ix2 k j) = 0 + part m c t k j := by
  rw [outsAt0_A m c t h (by omega)]
  frame_out
  rw [pay2_apply, pay1_apply]
  rfl

theorem acc_step (c : Dev nD) (t : Fin cfg0.N) (h : ¬ t.val % 4 = 0) (k j : Fin 1024) :
    (outsAt0 m c t.val t.isLt).2 (ix2 k j)
      = (outsAt0 m c (t.val - 1) (Nat.lt_of_le_of_lt (Nat.sub_le _ _) t.isLt)).2 (ix2 k j) + part m c t k j := by
  by_cases h1 : t.val % 4 = 3
  · rw [outsAt0_C m c t h h1]
    frame_out
    rw [pay2_apply, (Memref.isWhole_whole _).read_unread]
    rfl
  · rw [outsAt0_B m c t h h1]
    frame_out
    rw [pay2_apply, (Memref.isWhole_whole _).read_unread]
    rfl

/-- The last visit of a block of columns stores the accumulator. -/
theorem out_last (c : Dev nD) (t : Fin cfg0.N) (h : t.val % 4 = 3) (k j : Fin 1024) :
    (outsAt0 m c t.val t.isLt).1 (ix2 k j) = (outsAt0 m c t.val t.isLt).2 (ix2 k j) := by
  rw [outsAt0_C m c t (by omega) h]
  frame_out
  rfl

/-! ## The blocks as parts of the arguments -/

/-- The argument arrays: the tokens, the gain, the shift, the scale and the cotangent. -/
abbrev a0 (c : Dev nD) : Vec Ideal S1x16384x1024 .f32 := m ((c : Thread nD τ).loc main_arg0)
abbrev a1 (c : Dev nD) : Vec Ideal S1024 .f32 := m ((c : Thread nD τ).loc main_arg1)
abbrev a2 (c : Dev nD) : Vec Ideal S1x1024 .f32 := m ((c : Thread nD τ).loc main_arg2)
abbrev a3 (c : Dev nD) : Vec Ideal S1x1024 .f32 := m ((c : Thread nD τ).loc main_arg3)
abbrev a4 (c : Dev nD) : Vec Ideal S1x16384x3072 .f32 := m ((c : Thread nD τ).loc main_arg4)

/-- The modulated norm of a token. -/
def modulated (x : Vec Ideal S1x16384x1024 .f32) (g : Vec Ideal S1024 .f32) (shift scale : Vec Ideal S1x1024 .f32) (n : Fin 16384) (j : Fin 1024) : EReal :=
  x (ix3 0 n j) * Ideal.rsqrt (Ideal.div (∑ a : Fin 1024, x (ix3 0 n a) * x (ix3 0 n a)) (Ideal.ofBits FTy.f32 1149239296#32)
      + Ideal.ofBits FTy.f32 897988541#32) * g (ix1 j) * (1 + scale (ix2 0 j)) + shift (ix2 0 j)

theorem entry_v22 (c : Dev nD) (n : Fin 16384) (j : Fin 1024) :
    V m c main_v22 (ix2 n j) = modulated (a0 m c) (a1 m c) (a2 m c) (a3 m c) n j := by
  (unfold V; after_results); pointwise
  rfl

theorem entry_v24 (c : Dev nD) (n : Fin 16384) (j : Fin 3072) : V m c main_v24 (ix2 n j) = a4 m c (ix3 0 n j) := by
  (unfold V; after_results); pointwise

theorem idx0 : ∀ t : Fin cfg0.N, win0_0.index t = ![t.val % 4, 0] := (by decide +kernel : ∀ t : Fin grid0.N, _)
theorem idx1 : ∀ t : Fin cfg0.N, win0_1.index t = ![t.val % 4, t.val / 4] := (by decide +kernel : ∀ t : Fin grid0.N, _)
theorem idx2 : ∀ t : Fin cfg0.N, win0_2.index t = ![0, t.val / 4] := (by decide +kernel : ∀ t : Fin grid0.N, _)

/-- Row `r` of visit `t`, as a token, and its column `j`, as a column of the cotangent. -/
def row (t : Fin cfg0.N) (r : Fin 4096) : Fin 16384 := ⟨t.val % 4 * 4096 + r.val, by omega⟩
def col (t : Fin cfg0.N) (j : Fin 1024) : Fin 3072 :=
  ⟨t.val / 4 * 1024 + j.val, by have := lt_of_lt_of_eq t.isLt N_0; omega⟩

theorem blk0 (c : Dev nD) (t : Fin cfg0.N) (r : Fin 4096) (k : Fin 1024) :
    bH m c t (ix2 r k) = modulated (a0 m c) (a1 m c) (a2 m c) (a3 m c) (row t r) k := by
  rw [← entry_v22 m]
  blk_ext! [iblk, V, idx0 t, row]

theorem blk1 (c : Dev nD) (t : Fin cfg0.N) (r : Fin 4096) (j : Fin 1024) :
    bD m c t (ix2 r j) = a4 m c (ix3 0 (row t r) (col t j)) := by
  rw [← entry_v24 m]
  blk_ext! [iblk, V, idx1 t, row, col]

/-! ## The result -/

/-- The modulated norm transposed times the cotangent. -/
def res (c : Dev nD) : Vec Ideal S1024x3072 .bf16 :=
  fun i => ∑ n : Fin 16384, modulated (a0 m c) (a1 m c) (a2 m c) (a3 m c) n (i 0) * a4 m c (ix3 0 n (i 1))

theorem acc_last (c : Dev nD) (t : Fin cfg0.N) (h : t.val % 4 = 3) (k j : Fin 1024) :
    (outsAt0 m c t.val t.isLt).2 (ix2 k j) = res m c (ix2 k (col t j)) := by
  rw [Pipeline.eq_sum_fin_of_reset_step_of_flush (fun n h => (outsAt0 m c n h).2 (ix2 k j)) 4 0
    (fun t => part m c t k j) (fun t h => acc_first m c t h k j) (fun t h => acc_step m c t h k j) t h, zero_add]
  refine Fin.sum_mul_add_congr (S := 4) (n := 4096)
    (f := fun n => modulated (a0 m c) (a1 m c) (a2 m c) (a3 m c) n k * a4 m c (ix3 0 n (col t j))) fun s r hl => ?_
  have e : ∀ (u : Fin cfg0.N), u.val = 4 * (t.val / 4) + s.val → row u r = ⟨s.val * 4096 + r.val, hl⟩ ∧ col u j = col t j := fun u hu =>
    ⟨Fin.ext (by simp only [row]; omega), Fin.ext (by simp only [col]; omega)⟩
  rw [blk0, blk1, (e _ rfl).1, (e _ rfl).2]

theorem final2 (c : Dev nD) : (dats m 0 c).arrAt 2 cfg0.N = res m c := by
  refine (dats m 0 c).arrAt_eq_of_covers 2 _ (by decide +kernel) fun t hf y => ?_
  have h3 := (flush0_2 t).mp hf
  blk_simp
  rw [after0_2]
  have hy : y = (ix2 (y 0) (y 1) : S1024x1024.Idx) := by idx_ext
  rw [hy]
  refine ((out_last m c t h3 (y 0) (y 1)).trans (acc_last m c t h3 (y 0) (y 1))).trans ?_
  have e1 : ∀ z : S1024x3072.Idx, (z 0).val = (y 0).val → z 1 = col t (y 1) → res m c z = res m c (ix2 (y 0) (col t (y 1))) := fun z h h' => by
    rw [show z = ix2 (z 0) (z 1) from by idx_ext, show z 0 = y 0 from Fin.ext h, h']; rfl
  exact (e1 _ (by blk_simp [idx2 t]) (by apply Fin.ext; blk_simp [idx2 t, col])).symm

/-- The program runs and returns the result. -/
theorem run : θ_run defs (onTc (τ := τ) (main (F := Ideal))) ⟨m, fun _ => 0, ρ⟩ (fun r => ∀ c : Dev nD,
    r.2.mem ((c.tc : Thread nD τ).loc main_v25) = res m c) :=
  (θ_run defs _ _).mono (fun _ h c => ((h c).1 2).trans (final2 m c)) (run_main (F := Ideal) m ρ)

end Cert.Kernel9Ideal.WeightGrad
-- ==== Proof.WeightGrad.Claim.lean ====
module
public import proofs.«01_k».proof.Defs
public import proofs.«01_k».proof.Proof.Gen.Kernel9Ideal.Frame
public import proofs.«01_k».proof.Proof.Gen.Reference9Ideal.Read
public import proofs.«01_k».proof.Proof.Gen.Reference9Ideal.Run
public import proofs.«01_k».proof.Proof.WeightGrad.Kernel
public import Idealize.ShloMosaic.Lib.Claim

/-! # The value claim of the entry's weight gradient call

The derivative of the plain product multiplies in the other order and sums over all tokens at once; nothing else differs, and the claim
holds of all arguments. -/

@[expose] public section
set_option maxRecDepth 16384
noncomputable section
open Idealize.ShloMosaic Idealize.ShloMosaic.TcCoe Idealize.SL.Sem

namespace Cert.Reference9Ideal.WeightGrad
open Cert.Reference9Ideal Cert.Reference9Ideal.Gen Cert.Reference9Ideal.Read
open Cert.Kernel9Ideal.WeightGrad (modulated)

variable (x0 : Vec Ideal S1x16384x1024 .f32) (x1 : Vec Ideal S1024 .f32) (x2 x3 : Vec Ideal S1x1024 .f32) (x4 : Vec Ideal S1x16384x3072 .f32)

theorem read20 (n : Fin 16384) (j : Fin 1024) :
    val_main_v20 (F := Ideal) x0 x1 x2 x3 (ix3 0 n j) = modulated x0 x1 x2 x3 n j := by
  unfold val_main_v20 val_main_v19 val_main_v18 val_main_v17 val_main_v16 val_main_v15 val_main_v14 val_main_v13 val_main_v12 val_main_v11
    val_main_v10 val_main_v9 val_main_v8 val_main_v7 val_main_v6 val_main_v5 val_main_v4 val_main_v3 val_main_v2 val_main_v1 val_main_v0
    val_main_cst val_main_cst_0 val_main_cst_1 val_main_cst_2
  pointwise
  rfl

theorem read25 (k : Fin 1024) (j : Fin 3072) :
    val_main_v25 (F := Ideal) x0 x1 x2 x3 x4 (ix2 k j) = ∑ n : Fin 16384, modulated x0 x1 x2 x3 n k * x4 (ix3 0 n j) := by
  unfold val_main_v25 val_main_v24 val_main_v23
  pointwise
  rw [Fin.sum_univ_one]
  simp only [read20, mul_comm]

end Cert.Reference9Ideal.WeightGrad

namespace Cert.Proof.WeightGrad
open Cert.Kernel9Ideal.WeightGrad Cert.Reference9Ideal.WeightGrad

/-- The reference's run leaves its arguments, and no counter of it moves. -/
theorem frame_reference : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

open Cert.Reference9Ideal.Read Cert.Reference9Ideal in
theorem value : Cert.algebraic_Kernel9Ideal_Reference9Ideal := by
  intro m g m' g' hpre hagree
  refine ⟨res m, ?_, ?_⟩
  · exact (θ_run Cert.Kernel9Ideal.defs _ _).mono (fun r h c => ⟨h.1 c, h.2 c⟩)
      (θ_run_and (run m g) (Cert.Kernel9Ideal.Gen.unchanged (F := Ideal) m g))
  · refine (θ_run Cert.Reference9Ideal.defs _ _).mono (fun r h c => ?_) (Cert.Reference9Ideal.Value.run (F := Ideal) m' g')
    obtain ⟨g0, g1, g2, g3, g4⟩ := hagree c
    obtain ⟨r0, hrest⟩ := h c
    refine ⟨r0.trans ?_, hrest⟩
    rw [val_main_v25_eq, g0, g1, g2, g3, g4]
    funext i
    have hi : i = (ix2 (i 0) (i 1) : S1024x3072.Idx) := by idx_ext
    exact (congrArg _ hi).trans (read25 (a0 m c) (a1 m c) (a2 m c) (a3 m c) (a4 m c) (i 0) (i 1))

end Cert.Proof.WeightGrad
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.NormBwd.Claim
public import proofs.«01_k».proof.Proof.Gen.Kernel2
public import proofs.«01_k».proof.Proof.Gen.Kernel2.Skeleton
public import proofs.«01_k».proof.Proof.Gen.Kernel2.Loops
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Loops
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Pre_finite2
public import proofs.«01_k».proof.Proof.MixBwd.Frames
public import proofs.«01_k».proof.Proof.MixBwd.Claim
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Pre_finite3
public import proofs.«01_k».proof.Proof.OutProj.Claim
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.InProj.Claim
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Pre_finite5
public import proofs.«01_k».proof.Proof.MixHead.Frames
public import proofs.«01_k».proof.Proof.MixHead.Claim
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Modulation.Claim
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.AdaUpdate.Claim
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Update.Claim
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9Ideal
public import proofs.«01_k».proof.Proof.WeightGrad.Claim
public import Idealize.ShloMosaic.Adequacy
public import Idealize.ShloMosaic.Init

@[expose] public section

noncomputable section

namespace Cert.Proof

open Idealize.ShloMosaic Idealize.SL.Sem Cert.Kernel

/-- The parts of the claim: for each call the five runs, the idealization's rewrites, and the value claim. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Pre_finite.Gen.facts, Cert.Pre_finite2.Gen.facts, Cert.Pre_finite3.Gen.facts, Cert.Pre_finite5.Gen.facts,
  fun m ρ _ => Cert.Kernel.Gen.frame m ρ,
  fun m ρ _ => Cert.KernelIdeal.Gen.frame m ρ,
  fun m ρ _ => Cert.KernelIdeal.Gen.frame m ρ,
  NormBwd.frame_reference,
  NormBwd.frame_reference_finite,
  MixBwd.frame_kernel,
  MixBwd.frame_ideal,
  fun m ρ _ => MixBwd.frame_any m ρ,
  MixBwd.frame_reference,
  MixBwd.frame_reference_finite,
  fun m ρ _ => Cert.Kernel3.Gen.frame m ρ,
  fun m ρ _ => Cert.Kernel3Ideal.Gen.frame m ρ,
  fun m ρ _ => Cert.Kernel3Ideal.Gen.frame m ρ,
  OutProj.frame_reference,
  OutProj.frame_reference_finite,
  fun m ρ _ => Cert.Kernel4.Gen.frame m ρ,
  fun m ρ _ => Cert.Kernel4Ideal.Gen.frame m ρ,
  InProj.frame_reference,
  MixHead.frame_kernel,
  MixHead.frame_ideal,
  fun m ρ _ => MixHead.frame_any m ρ,
  MixHead.frame_reference,
  MixHead.frame_reference_finite,
  fun m ρ _ => Cert.Kernel6.Gen.frame m ρ,
  fun m ρ _ => Cert.Kernel6Ideal.Gen.frame m ρ,
  Modulation.frame_reference,
  fun m ρ _ => Cert.Kernel7.Gen.frame m ρ,
  fun m ρ _ => Cert.Kernel7Ideal.Gen.frame m ρ,
  AdaUpdate.frame_reference,
  fun m ρ _ => Cert.Kernel8.Gen.frame m ρ,
  fun m ρ _ => Cert.Kernel8Ideal.Gen.frame m ρ,
  Update.frame_reference,
  fun m ρ _ => Cert.Kernel9.Gen.frame m ρ,
  fun m ρ _ => Cert.Kernel9Ideal.Gen.frame m ρ,
  WeightGrad.frame_reference,
  trivial,
  NormBwd.value,
  IdealRules.named_const.statement Cert.Kernel2Ideal.κ "three_c0_c1" .f32 0x3DDB33B6#32 ((241015141496493 / 2251799813685248 : ℝ) : EReal) rfl,
  MixBwd.value,
  trivial,
  OutProj.value,
  trivial,
  InProj.value,
  trivial,
  MixHead.value,
  trivial,
  Modulation.value,
  trivial,
  AdaUpdate.value,
  trivial,
  Update.value,
  trivial,
  WeightGrad.value⟩

end Cert.Proof

end
